-- ==== Defs.lean ====
def Pre_GatherCol (m : (ℓ : Loc Cert.GatherCol.nD Cert.GatherCol.τ Cert.GatherCol.sig) → Buf (Elt Bits) ℓ) : Prop :=
  True

def Pre_GatherColIdeal (m : (ℓ : Loc Cert.GatherColIdeal.nD Cert.GatherColIdeal.τ Cert.GatherColIdeal.sig) → Buf (Elt Ideal) ℓ) : Prop :=
  True

def Pre_ReferenceColIdeal (m : (ℓ : Loc Cert.ReferenceColIdeal.nD Cert.ReferenceColIdeal.τ Cert.ReferenceColIdeal.sig) → Buf (Elt Ideal) ℓ) : Prop :=
  True

def Pre_ReferenceCol (m : (ℓ : Loc Cert.ReferenceCol.nD Cert.ReferenceCol.τ Cert.ReferenceCol.sig) → Buf (Elt Bits) ℓ) : Prop :=
  True

def Pre_GatherRow (m : (ℓ : Loc Cert.GatherRow.nD Cert.GatherRow.τ Cert.GatherRow.sig) → Buf (Elt Bits) ℓ) : Prop :=
  True

def Pre_GatherRowIdeal (m : (ℓ : Loc Cert.GatherRowIdeal.nD Cert.GatherRowIdeal.τ Cert.GatherRowIdeal.sig) → Buf (Elt Ideal) ℓ) : Prop :=
  True

def Pre_ReferenceRowIdeal (m : (ℓ : Loc Cert.ReferenceRowIdeal.nD Cert.ReferenceRowIdeal.τ Cert.ReferenceRowIdeal.sig) → Buf (Elt Ideal) ℓ) : Prop :=
  True

def Pre_ReferenceRow (m : (ℓ : Loc Cert.ReferenceRow.nD Cert.ReferenceRow.τ Cert.ReferenceRow.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ReferenceExchangeIdeal (m : (ℓ : Loc Cert.ReferenceExchangeIdeal.nD Cert.ReferenceExchangeIdeal.τ Cert.ReferenceExchangeIdeal.sig) → Buf (Elt Ideal) ℓ) : Prop :=
  True

def Pre_ReferenceExchange (m : (ℓ : Loc Cert.ReferenceExchange.nD Cert.ReferenceExchange.τ Cert.ReferenceExchange.sig) → Buf (Elt Bits) ℓ) : Prop :=
  True

def Pre_Reduce (m : (ℓ : Loc Cert.Reduce.nD Cert.Reduce.τ Cert.Reduce.sig) → Buf (Elt Bits) ℓ) : Prop :=
  True

def Pre_ReduceIdeal (m : (ℓ : Loc Cert.ReduceIdeal.nD Cert.ReduceIdeal.τ Cert.ReduceIdeal.sig) → Buf (Elt Ideal) ℓ) : Prop :=
  True

def Pre_ReferenceReduce (m : (ℓ : Loc Cert.ReferenceReduce.nD Cert.ReferenceReduce.τ Cert.ReferenceReduce.sig) → Buf (Elt Bits) ℓ) : Prop :=
  True

def Pre_ReferenceReduceIdeal (m : (ℓ : Loc Cert.ReferenceReduceIdeal.nD Cert.ReferenceReduceIdeal.τ Cert.ReferenceReduceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_ReferenceAdamGate (m : (ℓ : Loc Cert.ReferenceAdamGate.nD Cert.ReferenceAdamGate.τ Cert.ReferenceAdamGate.sig) → Buf (Elt Bits) ℓ) : Prop :=
  True

def Pre_ReferenceAdamGateIdeal (m : (ℓ : Loc Cert.ReferenceAdamGateIdeal.nD Cert.ReferenceAdamGateIdeal.τ Cert.ReferenceAdamGateIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_ReferenceAdamIn (m : (ℓ : Loc Cert.ReferenceAdamIn.nD Cert.ReferenceAdamIn.τ Cert.ReferenceAdamIn.sig) → Buf (Elt Bits) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_ReferenceAdamDown (m : (ℓ : Loc Cert.ReferenceAdamDown.nD Cert.ReferenceAdamDown.τ Cert.ReferenceAdamDown.sig) → Buf (Elt Bits) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_ReferenceAdamOut (m : (ℓ : Loc Cert.ReferenceAdamOut.nD Cert.ReferenceAdamOut.τ Cert.ReferenceAdamOut.sig) → Buf (Elt Bits) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_ReferenceAdamGain (m : (ℓ : Loc Cert.ReferenceAdamGain.nD Cert.ReferenceAdamGain.τ Cert.ReferenceAdamGain.sig) → Buf (Elt Bits) ℓ) : Prop :=
  True

def Pre_ReferenceAdamGainIdeal (m : (ℓ : Loc Cert.ReferenceAdamGainIdeal.nD Cert.ReferenceAdamGainIdeal.τ Cert.ReferenceAdamGainIdeal.sig) → Buf (Elt Ideal) ℓ) : Prop :=
  True

def Pre_AdamHalfGain (m : (ℓ : Loc Cert.AdamHalfGain.nD Cert.AdamHalfGain.τ Cert.AdamHalfGain.sig) → Buf (Elt Bits) ℓ) : Prop :=
  True

def Pre_AdamHalfGainIdeal (m : (ℓ : Loc Cert.AdamHalfGainIdeal.nD Cert.AdamHalfGainIdeal.τ Cert.AdamHalfGainIdeal.sig) → Buf (Elt Ideal) ℓ) : Prop :=
  True

def Pre_ReferenceAdamHalfGain (m : (ℓ : Loc Cert.ReferenceAdamHalfGain.nD Cert.ReferenceAdamHalfGain.τ Cert.ReferenceAdamHalfGain.sig) → Buf (Elt Bits) ℓ) : Prop :=
  True

def Pre_ReferenceAdamHalfGainIdeal (m : (ℓ : Loc Cert.ReferenceAdamHalfGainIdeal.nD Cert.ReferenceAdamHalfGainIdeal.τ Cert.ReferenceAdamHalfGainIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_ReferenceNorm (m : (ℓ : Loc Cert.ReferenceNorm.nD Cert.ReferenceNorm.τ Cert.ReferenceNorm.sig) → Buf (Elt Bits) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_ReferenceNormBwd (m : (ℓ : Loc Cert.ReferenceNormBwd.nD Cert.ReferenceNormBwd.τ Cert.ReferenceNormBwd.sig) → Buf (Elt Bits) ℓ) : Prop :=
  True

def Pre_ReferenceNormBwdIdeal (m : (ℓ : Loc Cert.ReferenceNormBwdIdeal.nD Cert.ReferenceNormBwdIdeal.τ Cert.ReferenceNormBwdIdeal.sig) → Buf (Elt Ideal) ℓ) : Prop :=
  True

def Pre_MmGate (m : (ℓ : Loc Cert.MmGate.nD Cert.MmGate.τ Cert.MmGate.sig) → Buf (Elt Bits) ℓ) : Prop :=
  True

def Pre_MmGateIdeal (m : (ℓ : Loc Cert.MmGateIdeal.nD Cert.MmGateIdeal.τ Cert.MmGateIdeal.sig) → Buf (Elt Ideal) ℓ) : Prop :=
  True

def Pre_ReferenceMmGate (m : (ℓ : Loc Cert.ReferenceMmGate.nD Cert.ReferenceMmGate.τ Cert.ReferenceMmGate.sig) → Buf (Elt Bits) ℓ) : Prop :=
  True

def Pre_ReferenceMmGateIdeal (m : (ℓ : Loc Cert.ReferenceMmGateIdeal.nD Cert.ReferenceMmGateIdeal.τ Cert.ReferenceMmGateIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_ReferenceMmUp (m : (ℓ : Loc Cert.ReferenceMmUp.nD Cert.ReferenceMmUp.τ Cert.ReferenceMmUp.sig) → Buf (Elt Bits) ℓ) : Prop :=
  True

def Pre_ReferenceMmUpIdeal (m : (ℓ : Loc Cert.ReferenceMmUpIdeal.nD Cert.ReferenceMmUpIdeal.τ Cert.ReferenceMmUpIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_ReferenceMmDown (m : (ℓ : Loc Cert.ReferenceMmDown.nD Cert.ReferenceMmDown.τ Cert.ReferenceMmDown.sig) → Buf (Elt Bits) ℓ) : Prop :=
  True

def Pre_ReferenceMmDownIdeal (m : (ℓ : Loc Cert.ReferenceMmDownIdeal.nD Cert.ReferenceMmDownIdeal.τ Cert.ReferenceMmDownIdeal.sig) → Buf (Elt Ideal) ℓ) : Prop :=
  True

def Pre_MmBwdAct (m : (ℓ : Loc Cert.MmBwdAct.nD Cert.MmBwdAct.τ Cert.MmBwdAct.sig) → Buf (Elt Bits) ℓ) : Prop :=
  True

def Pre_MmBwdActIdeal (m : (ℓ : Loc Cert.MmBwdActIdeal.nD Cert.MmBwdActIdeal.τ Cert.MmBwdActIdeal.sig) → Buf (Elt Ideal) ℓ) : Prop :=
  True

def Pre_ReferenceMmBwdAct (m : (ℓ : Loc Cert.ReferenceMmBwdAct.nD Cert.ReferenceMmBwdAct.τ Cert.ReferenceMmBwdAct.sig) → Buf (Elt Bits) ℓ) : Prop :=
  True

def Pre_ReferenceMmBwdActIdeal (m : (ℓ : Loc Cert.ReferenceMmBwdActIdeal.nD Cert.ReferenceMmBwdActIdeal.τ Cert.ReferenceMmBwdActIdeal.sig) → Buf (Elt Ideal) ℓ) : Prop :=
  True

def Pre_MmDhGate (m : (ℓ : Loc Cert.MmDhGate.nD Cert.MmDhGate.τ Cert.MmDhGate.sig) → Buf (Elt Bits) ℓ) : Prop :=
  True

def Pre_MmDhGateIdeal (m : (ℓ : Loc Cert.MmDhGateIdeal.nD Cert.MmDhGateIdeal.τ Cert.MmDhGateIdeal.sig) → Buf (Elt Ideal) ℓ) : Prop :=
  True

def Pre_ReferenceMmDhGate (m : (ℓ : Loc Cert.ReferenceMmDhGate.nD Cert.ReferenceMmDhGate.τ Cert.ReferenceMmDhGate.sig) → Buf (Elt Bits) ℓ) : Prop :=
  True

def Pre_ReferenceMmDhGateIdeal (m : (ℓ : Loc Cert.ReferenceMmDhGateIdeal.nD Cert.ReferenceMmDhGateIdeal.τ Cert.ReferenceMmDhGateIdeal.sig) → Buf (Elt Ideal) ℓ) : Prop :=
  True

def Pre_MmDhUp (m : (ℓ : Loc Cert.MmDhUp.nD Cert.MmDhUp.τ Cert.MmDhUp.sig) → Buf (Elt Bits) ℓ) : Prop :=
  True

def Pre_MmDhUpIdeal (m : (ℓ : Loc Cert.MmDhUpIdeal.nD Cert.MmDhUpIdeal.τ Cert.MmDhUpIdeal.sig) → Buf (Elt Ideal) ℓ) : Prop :=
  True

def Pre_ReferenceMmDhUp (m : (ℓ : Loc Cert.ReferenceMmDhUp.nD Cert.ReferenceMmDhUp.τ Cert.ReferenceMmDhUp.sig) → Buf (Elt Bits) ℓ) : Prop :=
  True

def Pre_ReferenceMmDhUpIdeal (m : (ℓ : Loc Cert.ReferenceMmDhUpIdeal.nD Cert.ReferenceMmDhUpIdeal.τ Cert.ReferenceMmDhUpIdeal.sig) → Buf (Elt Ideal) ℓ) : Prop :=
  True

def Pre_MmSb (m : (ℓ : Loc Cert.MmSb.nD Cert.MmSb.τ Cert.MmSb.sig) → Buf (Elt Bits) ℓ) : Prop :=
  True

def Pre_MmSbIdeal (m : (ℓ : Loc Cert.MmSbIdeal.nD Cert.MmSbIdeal.τ Cert.MmSbIdeal.sig) → Buf (Elt Ideal) ℓ) : Prop :=
  True

def Pre_ReferenceMmSb (m : (ℓ : Loc Cert.ReferenceMmSb.nD Cert.ReferenceMmSb.τ Cert.ReferenceMmSb.sig) → Buf (Elt Bits) ℓ) : Prop :=
  True

def Pre_ReferenceMmSbIdeal (m : (ℓ : Loc Cert.ReferenceMmSbIdeal.nD Cert.ReferenceMmSbIdeal.τ Cert.ReferenceMmSbIdeal.sig) → Buf (Elt Ideal) ℓ) : Prop :=
  True

def Pre_MmDl (m : (ℓ : Loc Cert.MmDl.nD Cert.MmDl.τ Cert.MmDl.sig) → Buf (Elt Bits) ℓ) : Prop :=
  True

def Pre_MmDlIdeal (m : (ℓ : Loc Cert.MmDlIdeal.nD Cert.MmDlIdeal.τ Cert.MmDlIdeal.sig) → Buf (Elt Ideal) ℓ) : Prop :=
  True

def Pre_ReferenceMmDl (m : (ℓ : Loc Cert.ReferenceMmDl.nD Cert.ReferenceMmDl.τ Cert.ReferenceMmDl.sig) → Buf (Elt Bits) ℓ) : Prop :=
  True

def Pre_ReferenceMmDlIdeal (m : (ℓ : Loc Cert.ReferenceMmDlIdeal.nD Cert.ReferenceMmDlIdeal.τ Cert.ReferenceMmDlIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_ReferenceMmOut (m : (ℓ : Loc Cert.ReferenceMmOut.nD Cert.ReferenceMmOut.τ Cert.ReferenceMmOut.sig) → Buf (Elt Bits) ℓ) : Prop :=
  True

def Pre_ReferenceMmOutIdeal (m : (ℓ : Loc Cert.ReferenceMmOutIdeal.nD Cert.ReferenceMmOutIdeal.τ Cert.ReferenceMmOutIdeal.sig) → Buf (Elt Ideal) ℓ) : Prop :=
  True

def Pre_MmMerged (m : (ℓ : Loc Cert.MmMerged.nD Cert.MmMerged.τ Cert.MmMerged.sig) → Buf (Elt Bits) ℓ) : Prop :=
  True

def Pre_MmMergedIdeal (m : (ℓ : Loc Cert.MmMergedIdeal.nD Cert.MmMergedIdeal.τ Cert.MmMergedIdeal.sig) → Buf (Elt Ideal) ℓ) : Prop :=
  True

def Pre_ReferenceMmMerged (m : (ℓ : Loc Cert.ReferenceMmMerged.nD Cert.ReferenceMmMerged.τ Cert.ReferenceMmMerged.sig) → Buf (Elt Bits) ℓ) : Prop :=
  True

def Pre_ReferenceMmMergedIdeal (m : (ℓ : Loc Cert.ReferenceMmMergedIdeal.nD Cert.ReferenceMmMergedIdeal.τ Cert.ReferenceMmMergedIdeal.sig) → Buf (Elt Ideal) ℓ) : Prop :=
  True

def Pre_MmDhMix (m : (ℓ : Loc Cert.MmDhMix.nD Cert.MmDhMix.τ Cert.MmDhMix.sig) → Buf (Elt Bits) ℓ) : Prop :=
  True

def Pre_MmDhMixIdeal (m : (ℓ : Loc Cert.MmDhMixIdeal.nD Cert.MmDhMixIdeal.τ Cert.MmDhMixIdeal.sig) → Buf (Elt Ideal) ℓ) : Prop :=
  True

def Pre_ReferenceMmDhMix (m : (ℓ : Loc Cert.ReferenceMmDhMix.nD Cert.ReferenceMmDhMix.τ Cert.ReferenceMmDhMix.sig) → Buf (Elt Bits) ℓ) : Prop :=
  True

def Pre_ReferenceMmDhMixIdeal (m : (ℓ : Loc Cert.ReferenceMmDhMixIdeal.nD Cert.ReferenceMmDhMixIdeal.τ Cert.ReferenceMmDhMixIdeal.sig) → Buf (Elt Ideal) ℓ) : Prop :=
  True

def Pre_MmDwg (m : (ℓ : Loc Cert.MmDwg.nD Cert.MmDwg.τ Cert.MmDwg.sig) → Buf (Elt Bits) ℓ) : Prop :=
  True

def Pre_MmDwgIdeal (m : (ℓ : Loc Cert.MmDwgIdeal.nD Cert.MmDwgIdeal.τ Cert.MmDwgIdeal.sig) → Buf (Elt Ideal) ℓ) : Prop :=
  True

def Pre_ReferenceMmDwg (m : (ℓ : Loc Cert.ReferenceMmDwg.nD Cert.ReferenceMmDwg.τ Cert.ReferenceMmDwg.sig) → Buf (Elt Bits) ℓ) : Prop :=
  True

def Pre_ReferenceMmDwgIdeal (m : (ℓ : Loc Cert.ReferenceMmDwgIdeal.nD Cert.ReferenceMmDwgIdeal.τ Cert.ReferenceMmDwgIdeal.sig) → Buf (Elt Ideal) ℓ) : Prop :=
  True

def Pre_MmDwd (m : (ℓ : Loc Cert.MmDwd.nD Cert.MmDwd.τ Cert.MmDwd.sig) → Buf (Elt Bits) ℓ) : Prop :=
  True

def Pre_MmDwdIdeal (m : (ℓ : Loc Cert.MmDwdIdeal.nD Cert.MmDwdIdeal.τ Cert.MmDwdIdeal.sig) → Buf (Elt Ideal) ℓ) : Prop :=
  True

def Pre_ReferenceMmDwd (m : (ℓ : Loc Cert.ReferenceMmDwd.nD Cert.ReferenceMmDwd.τ Cert.ReferenceMmDwd.sig) → Buf (Elt Bits) ℓ) : Prop :=
  True

def Pre_ReferenceMmDwdIdeal (m : (ℓ : Loc Cert.ReferenceMmDwdIdeal.nD Cert.ReferenceMmDwdIdeal.τ Cert.ReferenceMmDwdIdeal.sig) → Buf (Elt Ideal) ℓ) : Prop :=
  True

def Pre_MmDwOut (m : (ℓ : Loc Cert.MmDwOut.nD Cert.MmDwOut.τ Cert.MmDwOut.sig) → Buf (Elt Bits) ℓ) : Prop :=
  True

def Pre_MmDwOutIdeal (m : (ℓ : Loc Cert.MmDwOutIdeal.nD Cert.MmDwOutIdeal.τ Cert.MmDwOutIdeal.sig) → Buf (Elt Ideal) ℓ) : Prop :=
  True

def Pre_ReferenceMmDwOut (m : (ℓ : Loc Cert.ReferenceMmDwOut.nD Cert.ReferenceMmDwOut.τ Cert.ReferenceMmDwOut.sig) → Buf (Elt Bits) ℓ) : Prop :=
  True

def Pre_ReferenceMmDwOutIdeal (m : (ℓ : Loc Cert.ReferenceMmDwOutIdeal.nD Cert.ReferenceMmDwOutIdeal.τ Cert.ReferenceMmDwOutIdeal.sig) → Buf (Elt Ideal) ℓ) : Prop :=
  True

def Pre_MmDwIn (m : (ℓ : Loc Cert.MmDwIn.nD Cert.MmDwIn.τ Cert.MmDwIn.sig) → Buf (Elt Bits) ℓ) : Prop :=
  True

def Pre_MmDwInIdeal (m : (ℓ : Loc Cert.MmDwInIdeal.nD Cert.MmDwInIdeal.τ Cert.MmDwInIdeal.sig) → Buf (Elt Ideal) ℓ) : Prop :=
  True

def Pre_ReferenceMmDwIn (m : (ℓ : Loc Cert.ReferenceMmDwIn.nD Cert.ReferenceMmDwIn.τ Cert.ReferenceMmDwIn.sig) → Buf (Elt Bits) ℓ) : Prop :=
  True

def Pre_ReferenceMmDwInIdeal (m : (ℓ : Loc Cert.ReferenceMmDwInIdeal.nD Cert.ReferenceMmDwInIdeal.τ Cert.ReferenceMmDwInIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_ReferenceLossHead (m : (ℓ : Loc Cert.ReferenceLossHead.nD Cert.ReferenceLossHead.τ Cert.ReferenceLossHead.sig) → Buf (Elt Bits) ℓ) : Prop :=
  True

def Pre_ReferenceLossHeadIdeal (m : (ℓ : Loc Cert.ReferenceLossHeadIdeal.nD Cert.ReferenceLossHeadIdeal.τ Cert.ReferenceLossHeadIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_ReferenceOutNorm (m : (ℓ : Loc Cert.ReferenceOutNorm.nD Cert.ReferenceOutNorm.τ Cert.ReferenceOutNorm.sig) → Buf (Elt Bits) ℓ) : Prop :=
  True

def Pre_ReferenceOutNormIdeal (m : (ℓ : Loc Cert.ReferenceOutNormIdeal.nD Cert.ReferenceOutNormIdeal.τ Cert.ReferenceOutNormIdeal.sig) → Buf (Elt Ideal) ℓ) : Prop :=
  True

def Pre_OutNormBwd (m : (ℓ : Loc Cert.OutNormBwd.nD Cert.OutNormBwd.τ Cert.OutNormBwd.sig) → Buf (Elt Bits) ℓ) : Prop :=
  True

def Pre_OutNormBwdIdeal (m : (ℓ : Loc Cert.OutNormBwdIdeal.nD Cert.OutNormBwdIdeal.τ Cert.OutNormBwdIdeal.sig) → Buf (Elt Ideal) ℓ) : Prop :=
  True

def Pre_ReferenceOutNormBwd (m : (ℓ : Loc Cert.ReferenceOutNormBwd.nD Cert.ReferenceOutNormBwd.τ Cert.ReferenceOutNormBwd.sig) → Buf (Elt Bits) ℓ) : Prop :=
  True

def Pre_ReferenceOutNormBwdIdeal (m : (ℓ : Loc Cert.ReferenceOutNormBwdIdeal.nD Cert.ReferenceOutNormBwdIdeal.τ Cert.ReferenceOutNormBwdIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_scores [hPre_finite_scores : Cert.Pre_finite_scores.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_scores.fn (F := Ideal) (m ((c.tc : Thread Cert.SbFwdIdeal.nD Cert.SbFwdIdeal.τ).loc Cert.SbFwdIdeal.main_arg0))) = (fun _ => 1#1)

def Pre_ReferenceSbFwd (m : (ℓ : Loc Cert.ReferenceSbFwd.nD Cert.ReferenceSbFwd.τ Cert.ReferenceSbFwd.sig) → Buf (Elt Bits) ℓ) : Prop :=
  True

def Pre_ReferenceSbFwdIdeal (m : (ℓ : Loc Cert.ReferenceSbFwdIdeal.nD Cert.ReferenceSbFwdIdeal.τ Cert.ReferenceSbFwdIdeal.sig) → Buf (Elt Ideal) ℓ) : Prop :=
  True

def Pre_ReferenceSbFwdIdeal_finite_scores [hPre_finite_scores : Cert.Pre_finite_scores.Facts] (m : (ℓ : Loc Cert.ReferenceSbFwdIdeal.nD Cert.ReferenceSbFwdIdeal.τ Cert.ReferenceSbFwdIdeal.sig) → Buf (Elt Ideal) ℓ) : Prop :=
  ∀ c : Dev Cert.ReferenceSbFwdIdeal.nD,
    (Cert.Pre_finite_scores.fn (F := Ideal) (m ((c.tc : Thread Cert.ReferenceSbFwdIdeal.nD Cert.ReferenceSbFwdIdeal.τ).loc Cert.ReferenceSbFwdIdeal.main_arg0))) = (fun _ => 1#1)

def Pre_RopeQ (m : (ℓ : Loc Cert.RopeQ.nD Cert.RopeQ.τ Cert.RopeQ.sig) → Buf (Elt Bits) ℓ) : Prop :=
  True

def Pre_RopeQIdeal (m : (ℓ : Loc Cert.RopeQIdeal.nD Cert.RopeQIdeal.τ Cert.RopeQIdeal.sig) → Buf (Elt Ideal) ℓ) : Prop :=
  True

def Pre_ReferenceRopeQ (m : (ℓ : Loc Cert.ReferenceRopeQ.nD Cert.ReferenceRopeQ.τ Cert.ReferenceRopeQ.sig) → Buf (Elt Bits) ℓ) : Prop :=
  True

def Pre_ReferenceRopeQIdeal (m : (ℓ : Loc Cert.ReferenceRopeQIdeal.nD Cert.ReferenceRopeQIdeal.τ Cert.ReferenceRopeQIdeal.sig) → Buf (Elt Ideal) ℓ) : Prop :=
  True

def Pre_RopeK (m : (ℓ : Loc Cert.RopeK.nD Cert.RopeK.τ Cert.RopeK.sig) → Buf (Elt Bits) ℓ) : Prop :=
  True

def Pre_RopeKIdeal (m : (ℓ : Loc Cert.RopeKIdeal.nD Cert.RopeKIdeal.τ Cert.RopeKIdeal.sig) → Buf (Elt Ideal) ℓ) : Prop :=
  True

def Pre_ReferenceRopeK (m : (ℓ : Loc Cert.ReferenceRopeK.nD Cert.ReferenceRopeK.τ Cert.ReferenceRopeK.sig) → Buf (Elt Bits) ℓ) : Prop :=
  True

def Pre_ReferenceRopeKIdeal (m : (ℓ : Loc Cert.ReferenceRopeKIdeal.nD Cert.ReferenceRopeKIdeal.τ Cert.ReferenceRopeKIdeal.sig) → Buf (Elt Ideal) ℓ) : Prop :=
  True

def Pre_RopeBack (m : (ℓ : Loc Cert.RopeBack.nD Cert.RopeBack.τ Cert.RopeBack.sig) → Buf (Elt Bits) ℓ) : Prop :=
  True

def Pre_RopeBackIdeal (m : (ℓ : Loc Cert.RopeBackIdeal.nD Cert.RopeBackIdeal.τ Cert.RopeBackIdeal.sig) → Buf (Elt Ideal) ℓ) : Prop :=
  True

def Pre_ReferenceRopeBack (m : (ℓ : Loc Cert.ReferenceRopeBack.nD Cert.ReferenceRopeBack.τ Cert.ReferenceRopeBack.sig) → Buf (Elt Bits) ℓ) : Prop :=
  True

def Pre_ReferenceRopeBackIdeal (m : (ℓ : Loc Cert.ReferenceRopeBackIdeal.nD Cert.ReferenceRopeBackIdeal.τ Cert.ReferenceRopeBackIdeal.sig) → Buf (Elt Ideal) ℓ) : Prop :=
  True

def quiescent_GatherCol [hGatherCol : Cert.GatherCol.Facts] : Prop :=
  ∀ (m : (ℓ : Loc Cert.GatherCol.nD Cert.GatherCol.τ Cert.GatherCol.sig) → Buf (Elt Bits) ℓ) (g : Dev Cert.GatherCol.nD → PrngReg), Pre_GatherCol m →
    θ_run (Cert.GatherCol.defs (F := Bits)) (onTc (τ := Cert.GatherCol.τ) (Cert.GatherCol.main (F := Bits))) ⟨m, fun _ => 0, g⟩ (fun r => (∀ c : Dev Cert.GatherCol.nD,
      r.2.mem ((c.tc : Thread Cert.GatherCol.nD Cert.GatherCol.τ).loc Cert.GatherCol.main_arg0) = m ((c.tc : Thread Cert.GatherCol.nD Cert.GatherCol.τ).loc Cert.GatherCol.main_arg0))
      ∧ r.2.sem = fun _ => 0)

def quiescent_GatherColIdeal [hGatherColIdeal : Cert.GatherColIdeal.Facts] : Prop :=
  ∀ (m : (ℓ : Loc Cert.GatherColIdeal.nD Cert.GatherColIdeal.τ Cert.GatherColIdeal.sig) → Buf (Elt Ideal) ℓ) (g : Dev Cert.GatherColIdeal.nD → PrngReg), Pre_GatherColIdeal m →
    θ_run (Cert.GatherColIdeal.defs (F := Ideal)) (onTc (τ := Cert.GatherColIdeal.τ) (Cert.GatherColIdeal.main (F := Ideal))) ⟨m, fun _ => 0, g⟩ (fun r => (∀ c : Dev Cert.GatherColIdeal.nD,
      r.2.mem ((c.tc : Thread Cert.GatherColIdeal.nD Cert.GatherColIdeal.τ).loc Cert.GatherColIdeal.main_arg0) = m ((c.tc : Thread Cert.GatherColIdeal.nD Cert.GatherColIdeal.τ).loc Cert.GatherColIdeal.main_arg0))
      ∧ r.2.sem = fun _ => 0)

def quiescent_ReferenceColIdeal [hReferenceColIdeal : Cert.ReferenceColIdeal.Facts] : Prop :=
  ∀ (m : (ℓ : Loc Cert.ReferenceColIdeal.nD Cert.ReferenceColIdeal.τ Cert.ReferenceColIdeal.sig) → Buf (Elt Ideal) ℓ) (g : Dev Cert.ReferenceColIdeal.nD → PrngReg), Pre_ReferenceColIdeal m →
    θ_run (Cert.ReferenceColIdeal.defs (F := Ideal)) (onTc (τ := Cert.ReferenceColIdeal.τ) (Cert.ReferenceColIdeal.main (F := Ideal))) ⟨m, fun _ => 0, g⟩ (fun r => (∀ c : Dev Cert.ReferenceColIdeal.nD,
      r.2.mem ((c.tc : Thread Cert.ReferenceColIdeal.nD Cert.ReferenceColIdeal.τ).loc Cert.ReferenceColIdeal.main_arg0) = m ((c.tc : Thread Cert.ReferenceColIdeal.nD Cert.ReferenceColIdeal.τ).loc Cert.ReferenceColIdeal.main_arg0))
      ∧ r.2.sem = fun _ => 0)

def quiescent_ReferenceCol [hReferenceCol : Cert.ReferenceCol.Facts] : Prop :=
  ∀ (m : (ℓ : Loc Cert.ReferenceCol.nD Cert.ReferenceCol.τ Cert.ReferenceCol.sig) → Buf (Elt Bits) ℓ) (g : Dev Cert.ReferenceCol.nD → PrngReg), Pre_ReferenceCol m →
    θ_run (Cert.ReferenceCol.defs (F := Bits)) (onTc (τ := Cert.ReferenceCol.τ) (Cert.ReferenceCol.main (F := Bits))) ⟨m, fun _ => 0, g⟩ (fun r => (∀ c : Dev Cert.ReferenceCol.nD,
      r.2.mem ((c.tc : Thread Cert.ReferenceCol.nD Cert.ReferenceCol.τ).loc Cert.ReferenceCol.main_arg0) = m ((c.tc : Thread Cert.ReferenceCol.nD Cert.ReferenceCol.τ).loc Cert.ReferenceCol.main_arg0))
      ∧ r.2.sem = fun _ => 0)

def quiescent_GatherRow [hGatherRow : Cert.GatherRow.Facts] : Prop :=
  ∀ (m : (ℓ : Loc Cert.GatherRow.nD Cert.GatherRow.τ Cert.GatherRow.sig) → Buf (Elt Bits) ℓ) (g : Dev Cert.GatherRow.nD → PrngReg), Pre_GatherRow m →
    θ_run (Cert.GatherRow.defs (F := Bits)) (onTc (τ := Cert.GatherRow.τ) (Cert.GatherRow.main (F := Bits))) ⟨m, fun _ => 0, g⟩ (fun r => (∀ c : Dev Cert.GatherRow.nD,
      r.2.mem ((c.tc : Thread Cert.GatherRow.nD Cert.GatherRow.τ).loc Cert.GatherRow.main_arg0) = m ((c.tc : Thread Cert.GatherRow.nD Cert.GatherRow.τ).loc Cert.GatherRow.main_arg0))
      ∧ r.2.sem = fun _ => 0)

def quiescent_GatherRowIdeal [hGatherRowIdeal : Cert.GatherRowIdeal.Facts] : Prop :=
  ∀ (m : (ℓ : Loc Cert.GatherRowIdeal.nD Cert.GatherRowIdeal.τ Cert.GatherRowIdeal.sig) → Buf (Elt Ideal) ℓ) (g : Dev Cert.GatherRowIdeal.nD → PrngReg), Pre_GatherRowIdeal m →
    θ_run (Cert.GatherRowIdeal.defs (F := Ideal)) (onTc (τ := Cert.GatherRowIdeal.τ) (Cert.GatherRowIdeal.main (F := Ideal))) ⟨m, fun _ => 0, g⟩ (fun r => (∀ c : Dev Cert.GatherRowIdeal.nD,
      r.2.mem ((c.tc : Thread Cert.GatherRowIdeal.nD Cert.GatherRowIdeal.τ).loc Cert.GatherRowIdeal.main_arg0) = m ((c.tc : Thread Cert.GatherRowIdeal.nD Cert.GatherRowIdeal.τ).loc Cert.GatherRowIdeal.main_arg0))
      ∧ r.2.sem = fun _ => 0)

def quiescent_ReferenceRowIdeal [hReferenceRowIdeal : Cert.ReferenceRowIdeal.Facts] : Prop :=
  ∀ (m : (ℓ : Loc Cert.ReferenceRowIdeal.nD Cert.ReferenceRowIdeal.τ Cert.ReferenceRowIdeal.sig) → Buf (Elt Ideal) ℓ) (g : Dev Cert.ReferenceRowIdeal.nD → PrngReg), Pre_ReferenceRowIdeal m →
    θ_run (Cert.ReferenceRowIdeal.defs (F := Ideal)) (onTc (τ := Cert.ReferenceRowIdeal.τ) (Cert.ReferenceRowIdeal.main (F := Ideal))) ⟨m, fun _ => 0, g⟩ (fun r => (∀ c : Dev Cert.ReferenceRowIdeal.nD,
      r.2.mem ((c.tc : Thread Cert.ReferenceRowIdeal.nD Cert.ReferenceRowIdeal.τ).loc Cert.ReferenceRowIdeal.main_arg0) = m ((c.tc : Thread Cert.ReferenceRowIdeal.nD Cert.ReferenceRowIdeal.τ).loc Cert.ReferenceRowIdeal.main_arg0))
      ∧ r.2.sem = fun _ => 0)

def quiescent_ReferenceRow [hReferenceRow : Cert.ReferenceRow.Facts] : Prop :=
  ∀ (m : (ℓ : Loc Cert.ReferenceRow.nD Cert.ReferenceRow.τ Cert.ReferenceRow.sig) → Buf (Elt Bits) ℓ) (g : Dev Cert.ReferenceRow.nD → PrngReg), Pre_ReferenceRow m →
    θ_run (Cert.ReferenceRow.defs (F := Bits)) (onTc (τ := Cert.ReferenceRow.τ) (Cert.ReferenceRow.main (F := Bits))) ⟨m, fun _ => 0, g⟩ (fun r => (∀ c : Dev Cert.ReferenceRow.nD,
      r.2.mem ((c.tc : Thread Cert.ReferenceRow.nD Cert.ReferenceRow.τ).loc Cert.ReferenceRow.main_arg0) = m ((c.tc : Thread Cert.ReferenceRow.nD Cert.ReferenceRow.τ).loc Cert.ReferenceRow.main_arg0))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ r.2.sem = fun _ => 0)

def quiescent_ReferenceExchangeIdeal [hReferenceExchangeIdeal : Cert.ReferenceExchangeIdeal.Facts] : Prop :=
  ∀ (m : (ℓ : Loc Cert.ReferenceExchangeIdeal.nD Cert.ReferenceExchangeIdeal.τ Cert.ReferenceExchangeIdeal.sig) → Buf (Elt Ideal) ℓ) (g : Dev Cert.ReferenceExchangeIdeal.nD → PrngReg), Pre_ReferenceExchangeIdeal m →
    θ_run (Cert.ReferenceExchangeIdeal.defs (F := Ideal)) (onTc (τ := Cert.ReferenceExchangeIdeal.τ) (Cert.ReferenceExchangeIdeal.main (F := Ideal))) ⟨m, fun _ => 0, g⟩ (fun r => (∀ c : Dev Cert.ReferenceExchangeIdeal.nD,
      r.2.mem ((c.tc : Thread Cert.ReferenceExchangeIdeal.nD Cert.ReferenceExchangeIdeal.τ).loc Cert.ReferenceExchangeIdeal.main_arg0) = m ((c.tc : Thread Cert.ReferenceExchangeIdeal.nD Cert.ReferenceExchangeIdeal.τ).loc Cert.ReferenceExchangeIdeal.main_arg0)
      ∧ r.2.mem ((c.tc : Thread Cert.ReferenceExchangeIdeal.nD Cert.ReferenceExchangeIdeal.τ).loc Cert.ReferenceExchangeIdeal.main_arg1) = m ((c.tc : Thread Cert.ReferenceExchangeIdeal.nD Cert.ReferenceExchangeIdeal.τ).loc Cert.ReferenceExchangeIdeal.main_arg1))
      ∧ r.2.sem = fun _ => 0)

def quiescent_ReferenceExchange [hReferenceExchange : Cert.ReferenceExchange.Facts] : Prop :=
  ∀ (m : (ℓ : Loc Cert.ReferenceExchange.nD Cert.ReferenceExchange.τ Cert.ReferenceExchange.sig) → Buf (Elt Bits) ℓ) (g : Dev Cert.ReferenceExchange.nD → PrngReg), Pre_ReferenceExchange m →
    θ_run (Cert.ReferenceExchange.defs (F := Bits)) (onTc (τ := Cert.ReferenceExchange.τ) (Cert.ReferenceExchange.main (F := Bits))) ⟨m, fun _ => 0, g⟩ (fun r => (∀ c : Dev Cert.ReferenceExchange.nD,
      r.2.mem ((c.tc : Thread Cert.ReferenceExchange.nD Cert.ReferenceExchange.τ).loc Cert.ReferenceExchange.main_arg0) = m ((c.tc : Thread Cert.ReferenceExchange.nD Cert.ReferenceExchange.τ).loc Cert.ReferenceExchange.main_arg0)
      ∧ r.2.mem ((c.tc : Thread Cert.ReferenceExchange.nD Cert.ReferenceExchange.τ).loc Cert.ReferenceExchange.main_arg1) = m ((c.tc : Thread Cert.ReferenceExchange.nD Cert.ReferenceExchange.τ).loc Cert.ReferenceExchange.main_arg1))
      ∧ r.2.sem = fun _ => 0)

def quiescent_Reduce [hReduce : Cert.Reduce.Facts] : Prop :=
  ∀ (m : (ℓ : Loc Cert.Reduce.nD Cert.Reduce.τ Cert.Reduce.sig) → Buf (Elt Bits) ℓ) (g : Dev Cert.Reduce.nD → PrngReg), Pre_Reduce m →
    θ_run (Cert.Reduce.defs (F := Bits)) (onTc (τ := Cert.Reduce.τ) (Cert.Reduce.main (F := Bits))) ⟨m, fun _ => 0, g⟩ (fun r => (∀ c : Dev Cert.Reduce.nD,
      r.2.mem ((c.tc : Thread Cert.Reduce.nD Cert.Reduce.τ).loc Cert.Reduce.main_arg0) = m ((c.tc : Thread Cert.Reduce.nD Cert.Reduce.τ).loc Cert.Reduce.main_arg0)
      ∧ r.2.mem ((c.tc : Thread Cert.Reduce.nD Cert.Reduce.τ).loc Cert.Reduce.main_arg1) = m ((c.tc : Thread Cert.Reduce.nD Cert.Reduce.τ).loc Cert.Reduce.main_arg1))
      ∧ r.2.sem = fun _ => 0)

def quiescent_ReduceIdeal [hReduceIdeal : Cert.ReduceIdeal.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
      ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1))
      ∧ r.2.sem = fun _ => 0)

def quiescent_ReferenceReduce [hReferenceReduce : Cert.ReferenceReduce.Facts] : Prop :=
  ∀ (m : (ℓ : Loc Cert.ReferenceReduce.nD Cert.ReferenceReduce.τ Cert.ReferenceReduce.sig) → Buf (Elt Bits) ℓ) (g : Dev Cert.ReferenceReduce.nD → PrngReg), Pre_ReferenceReduce m →
    θ_run (Cert.ReferenceReduce.defs (F := Bits)) (onTc (τ := Cert.ReferenceReduce.τ) (Cert.ReferenceReduce.main (F := Bits))) ⟨m, fun _ => 0, g⟩ (fun r => (∀ c : Dev Cert.ReferenceReduce.nD,
      r.2.mem ((c.tc : Thread Cert.ReferenceReduce.nD Cert.ReferenceReduce.τ).loc Cert.ReferenceReduce.main_arg0) = m ((c.tc : Thread Cert.ReferenceReduce.nD Cert.ReferenceReduce.τ).loc Cert.ReferenceReduce.main_arg0)
      ∧ r.2.mem ((c.tc : Thread Cert.ReferenceReduce.nD Cert.ReferenceReduce.τ).loc Cert.ReferenceReduce.main_arg1) = m ((c.tc : Thread Cert.ReferenceReduce.nD Cert.ReferenceReduce.τ).loc Cert.ReferenceReduce.main_arg1))
      ∧ r.2.sem = fun _ => 0)

def quiescent_ReferenceReduceIdeal [hReferenceReduceIdeal : Cert.ReferenceReduceIdeal.Facts] : Prop :=
  ∀ (m : (ℓ : Loc Cert.ReferenceReduceIdeal.nD Cert.ReferenceReduceIdeal.τ Cert.ReferenceReduceIdeal.sig) → Buf (Elt Ideal) ℓ) (g : Dev Cert.ReferenceReduceIdeal.nD → PrngReg), Pre_ReferenceReduceIdeal m →
    θ_run (Cert.ReferenceReduceIdeal.defs (F := Ideal)) (onTc (τ := Cert.ReferenceReduceIdeal.τ) (Cert.ReferenceReduceIdeal.main (F := Ideal))) ⟨m, fun _ => 0, g⟩ (fun r => (∀ c : Dev Cert.ReferenceReduceIdeal.nD,
      r.2.mem ((c.tc : Thread Cert.ReferenceReduceIdeal.nD Cert.ReferenceReduceIdeal.τ).loc Cert.ReferenceReduceIdeal.main_arg0) = m ((c.tc : Thread Cert.ReferenceReduceIdeal.nD Cert.ReferenceReduceIdeal.τ).loc Cert.ReferenceReduceIdeal.main_arg0)
      ∧ r.2.mem ((c.tc : Thread Cert.ReferenceReduceIdeal.nD Cert.ReferenceReduceIdeal.τ).loc Cert.ReferenceReduceIdeal.main_arg1) = m ((c.tc : Thread Cert.ReferenceReduceIdeal.nD Cert.ReferenceReduceIdeal.τ).loc Cert.ReferenceReduceIdeal.main_arg1))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_ReferenceAdamGate [hReferenceAdamGate : Cert.ReferenceAdamGate.Facts] : Prop :=
  ∀ (m : (ℓ : Loc Cert.ReferenceAdamGate.nD Cert.ReferenceAdamGate.τ Cert.ReferenceAdamGate.sig) → Buf (Elt Bits) ℓ) (g : Dev Cert.ReferenceAdamGate.nD → PrngReg), Pre_ReferenceAdamGate m →
    θ_run (Cert.ReferenceAdamGate.defs (F := Bits)) (onTc (τ := Cert.ReferenceAdamGate.τ) (Cert.ReferenceAdamGate.main (F := Bits))) ⟨m, fun _ => 0, g⟩ (fun r => (∀ c : Dev Cert.ReferenceAdamGate.nD,
      r.2.mem ((c.tc : Thread Cert.ReferenceAdamGate.nD Cert.ReferenceAdamGate.τ).loc Cert.ReferenceAdamGate.main_arg0) = m ((c.tc : Thread Cert.ReferenceAdamGate.nD Cert.ReferenceAdamGate.τ).loc Cert.ReferenceAdamGate.main_arg0)
      ∧ r.2.mem ((c.tc : Thread Cert.ReferenceAdamGate.nD Cert.ReferenceAdamGate.τ).loc Cert.ReferenceAdamGate.main_arg1) = m ((c.tc : Thread Cert.ReferenceAdamGate.nD Cert.ReferenceAdamGate.τ).loc Cert.ReferenceAdamGate.main_arg1)
      ∧ r.2.mem ((c.tc : Thread Cert.ReferenceAdamGate.nD Cert.ReferenceAdamGate.τ).loc Cert.ReferenceAdamGate.main_arg2) = m ((c.tc : Thread Cert.ReferenceAdamGate.nD Cert.ReferenceAdamGate.τ).loc Cert.ReferenceAdamGate.main_arg2)
      ∧ r.2.mem ((c.tc : Thread Cert.ReferenceAdamGate.nD Cert.ReferenceAdamGate.τ).loc Cert.ReferenceAdamGate.main_arg3) = m ((c.tc : Thread Cert.ReferenceAdamGate.nD Cert.ReferenceAdamGate.τ).loc Cert.ReferenceAdamGate.main_arg3))
      ∧ r.2.sem = fun _ => 0)

def quiescent_ReferenceAdamGateIdeal [hReferenceAdamGateIdeal : Cert.ReferenceAdamGateIdeal.Facts] : Prop :=
  ∀ (m : (ℓ : Loc Cert.ReferenceAdamGateIdeal.nD Cert.ReferenceAdamGateIdeal.τ Cert.ReferenceAdamGateIdeal.sig) → Buf (Elt Ideal) ℓ) (g : Dev Cert.ReferenceAdamGateIdeal.nD → PrngReg), Pre_ReferenceAdamGateIdeal m →
    θ_run (Cert.ReferenceAdamGateIdeal.defs (F := Ideal)) (onTc (τ := Cert.ReferenceAdamGateIdeal.τ) (Cert.ReferenceAdamGateIdeal.main (F := Ideal))) ⟨m, fun _ => 0, g⟩ (fun r => (∀ c : Dev Cert.ReferenceAdamGateIdeal.nD,
      r.2.mem ((c.tc : Thread Cert.ReferenceAdamGateIdeal.nD Cert.ReferenceAdamGateIdeal.τ).loc Cert.ReferenceAdamGateIdeal.main_arg0) = m ((c.tc : Thread Cert.ReferenceAdamGateIdeal.nD Cert.ReferenceAdamGateIdeal.τ).loc Cert.ReferenceAdamGateIdeal.main_arg0)
      ∧ r.2.mem ((c.tc : Thread Cert.ReferenceAdamGateIdeal.nD Cert.ReferenceAdamGateIdeal.τ).loc Cert.ReferenceAdamGateIdeal.main_arg1) = m ((c.tc : Thread Cert.ReferenceAdamGateIdeal.nD Cert.ReferenceAdamGateIdeal.τ).loc Cert.ReferenceAdamGateIdeal.main_arg1)
      ∧ r.2.mem ((c.tc : Thread Cert.ReferenceAdamGateIdeal.nD Cert.ReferenceAdamGateIdeal.τ).loc Cert.ReferenceAdamGateIdeal.main_arg2) = m ((c.tc : Thread Cert.ReferenceAdamGateIdeal.nD Cert.ReferenceAdamGateIdeal.τ).loc Cert.ReferenceAdamGateIdeal.main_arg2)
      ∧ r.2.mem ((c.tc : Thread Cert.ReferenceAdamGateIdeal.nD Cert.ReferenceAdamGateIdeal.τ).loc Cert.ReferenceAdamGateIdeal.main_arg3) = m ((c.tc : Thread Cert.ReferenceAdamGateIdeal.nD Cert.ReferenceAdamGateIdeal.τ).loc Cert.ReferenceAdamGateIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_ReferenceAdamIn [hReferenceAdamIn : Cert.ReferenceAdamIn.Facts] : Prop :=
  ∀ (m : (ℓ : Loc Cert.ReferenceAdamIn.nD Cert.ReferenceAdamIn.τ Cert.ReferenceAdamIn.sig) → Buf (Elt Bits) ℓ) (g : Dev Cert.ReferenceAdamIn.nD → PrngReg), Pre_ReferenceAdamIn m →
    θ_run (Cert.ReferenceAdamIn.defs (F := Bits)) (onTc (τ := Cert.ReferenceAdamIn.τ) (Cert.ReferenceAdamIn.main (F := Bits))) ⟨m, fun _ => 0, g⟩ (fun r => (∀ c : Dev Cert.ReferenceAdamIn.nD,
      r.2.mem ((c.tc : Thread Cert.ReferenceAdamIn.nD Cert.ReferenceAdamIn.τ).loc Cert.ReferenceAdamIn.main_arg0) = m ((c.tc : Thread Cert.ReferenceAdamIn.nD Cert.ReferenceAdamIn.τ).loc Cert.ReferenceAdamIn.main_arg0)
      ∧ r.2.mem ((c.tc : Thread Cert.ReferenceAdamIn.nD Cert.ReferenceAdamIn.τ).loc Cert.ReferenceAdamIn.main_arg1) = m ((c.tc : Thread Cert.ReferenceAdamIn.nD Cert.ReferenceAdamIn.τ).loc Cert.ReferenceAdamIn.main_arg1)
      ∧ r.2.mem ((c.tc : Thread Cert.ReferenceAdamIn.nD Cert.ReferenceAdamIn.τ).loc Cert.ReferenceAdamIn.main_arg2) = m ((c.tc : Thread Cert.ReferenceAdamIn.nD Cert.ReferenceAdamIn.τ).loc Cert.ReferenceAdamIn.main_arg2)
      ∧ r.2.mem ((c.tc : Thread Cert.ReferenceAdamIn.nD Cert.ReferenceAdamIn.τ).loc Cert.ReferenceAdamIn.main_arg3) = m ((c.tc : Thread Cert.ReferenceAdamIn.nD Cert.ReferenceAdamIn.τ).loc Cert.ReferenceAdamIn.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_ReferenceAdamDown [hReferenceAdamDown : Cert.ReferenceAdamDown.Facts] : Prop :=
  ∀ (m : (ℓ : Loc Cert.ReferenceAdamDown.nD Cert.ReferenceAdamDown.τ Cert.ReferenceAdamDown.sig) → Buf (Elt Bits) ℓ) (g : Dev Cert.ReferenceAdamDown.nD → PrngReg), Pre_ReferenceAdamDown m →
    θ_run (Cert.ReferenceAdamDown.defs (F := Bits)) (onTc (τ := Cert.ReferenceAdamDown.τ) (Cert.ReferenceAdamDown.main (F := Bits))) ⟨m, fun _ => 0, g⟩ (fun r => (∀ c : Dev Cert.ReferenceAdamDown.nD,
      r.2.mem ((c.tc : Thread Cert.ReferenceAdamDown.nD Cert.ReferenceAdamDown.τ).loc Cert.ReferenceAdamDown.main_arg0) = m ((c.tc : Thread Cert.ReferenceAdamDown.nD Cert.ReferenceAdamDown.τ).loc Cert.ReferenceAdamDown.main_arg0)
      ∧ r.2.mem ((c.tc : Thread Cert.ReferenceAdamDown.nD Cert.ReferenceAdamDown.τ).loc Cert.ReferenceAdamDown.main_arg1) = m ((c.tc : Thread Cert.ReferenceAdamDown.nD Cert.ReferenceAdamDown.τ).loc Cert.ReferenceAdamDown.main_arg1)
      ∧ r.2.mem ((c.tc : Thread Cert.ReferenceAdamDown.nD Cert.ReferenceAdamDown.τ).loc Cert.ReferenceAdamDown.main_arg2) = m ((c.tc : Thread Cert.ReferenceAdamDown.nD Cert.ReferenceAdamDown.τ).loc Cert.ReferenceAdamDown.main_arg2)
      ∧ r.2.mem ((c.tc : Thread Cert.ReferenceAdamDown.nD Cert.ReferenceAdamDown.τ).loc Cert.ReferenceAdamDown.main_arg3) = m ((c.tc : Thread Cert.ReferenceAdamDown.nD Cert.ReferenceAdamDown.τ).loc Cert.ReferenceAdamDown.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_ReferenceAdamOut [hReferenceAdamOut : Cert.ReferenceAdamOut.Facts] : Prop :=
  ∀ (m : (ℓ : Loc Cert.ReferenceAdamOut.nD Cert.ReferenceAdamOut.τ Cert.ReferenceAdamOut.sig) → Buf (Elt Bits) ℓ) (g : Dev Cert.ReferenceAdamOut.nD → PrngReg), Pre_ReferenceAdamOut m →
    θ_run (Cert.ReferenceAdamOut.defs (F := Bits)) (onTc (τ := Cert.ReferenceAdamOut.τ) (Cert.ReferenceAdamOut.main (F := Bits))) ⟨m, fun _ => 0, g⟩ (fun r => (∀ c : Dev Cert.ReferenceAdamOut.nD,
      r.2.mem ((c.tc : Thread Cert.ReferenceAdamOut.nD Cert.ReferenceAdamOut.τ).loc Cert.ReferenceAdamOut.main_arg0) = m ((c.tc : Thread Cert.ReferenceAdamOut.nD Cert.ReferenceAdamOut.τ).loc Cert.ReferenceAdamOut.main_arg0)
      ∧ r.2.mem ((c.tc : Thread Cert.ReferenceAdamOut.nD Cert.ReferenceAdamOut.τ).loc Cert.ReferenceAdamOut.main_arg1) = m ((c.tc : Thread Cert.ReferenceAdamOut.nD Cert.ReferenceAdamOut.τ).loc Cert.ReferenceAdamOut.main_arg1)
      ∧ r.2.mem ((c.tc : Thread Cert.ReferenceAdamOut.nD Cert.ReferenceAdamOut.τ).loc Cert.ReferenceAdamOut.main_arg2) = m ((c.tc : Thread Cert.ReferenceAdamOut.nD Cert.ReferenceAdamOut.τ).loc Cert.ReferenceAdamOut.main_arg2)
      ∧ r.2.mem ((c.tc : Thread Cert.ReferenceAdamOut.nD Cert.ReferenceAdamOut.τ).loc Cert.ReferenceAdamOut.main_arg3) = m ((c.tc : Thread Cert.ReferenceAdamOut.nD Cert.ReferenceAdamOut.τ).loc Cert.ReferenceAdamOut.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_ReferenceAdamGain [hReferenceAdamGain : Cert.ReferenceAdamGain.Facts] : Prop :=
  ∀ (m : (ℓ : Loc Cert.ReferenceAdamGain.nD Cert.ReferenceAdamGain.τ Cert.ReferenceAdamGain.sig) → Buf (Elt Bits) ℓ) (g : Dev Cert.ReferenceAdamGain.nD → PrngReg), Pre_ReferenceAdamGain m →
    θ_run (Cert.ReferenceAdamGain.defs (F := Bits)) (onTc (τ := Cert.ReferenceAdamGain.τ) (Cert.ReferenceAdamGain.main (F := Bits))) ⟨m, fun _ => 0, g⟩ (fun r => (∀ c : Dev Cert.ReferenceAdamGain.nD,
      r.2.mem ((c.tc : Thread Cert.ReferenceAdamGain.nD Cert.ReferenceAdamGain.τ).loc Cert.ReferenceAdamGain.main_arg0) = m ((c.tc : Thread Cert.ReferenceAdamGain.nD Cert.ReferenceAdamGain.τ).loc Cert.ReferenceAdamGain.main_arg0)
      ∧ r.2.mem ((c.tc : Thread Cert.ReferenceAdamGain.nD Cert.ReferenceAdamGain.τ).loc Cert.ReferenceAdamGain.main_arg1) = m ((c.tc : Thread Cert.ReferenceAdamGain.nD Cert.ReferenceAdamGain.τ).loc Cert.ReferenceAdamGain.main_arg1)
      ∧ r.2.mem ((c.tc : Thread Cert.ReferenceAdamGain.nD Cert.ReferenceAdamGain.τ).loc Cert.ReferenceAdamGain.main_arg2) = m ((c.tc : Thread Cert.ReferenceAdamGain.nD Cert.ReferenceAdamGain.τ).loc Cert.ReferenceAdamGain.main_arg2)
      ∧ r.2.mem ((c.tc : Thread Cert.ReferenceAdamGain.nD Cert.ReferenceAdamGain.τ).loc Cert.ReferenceAdamGain.main_arg3) = m ((c.tc : Thread Cert.ReferenceAdamGain.nD Cert.ReferenceAdamGain.τ).loc Cert.ReferenceAdamGain.main_arg3))
      ∧ r.2.sem = fun _ => 0)

def quiescent_ReferenceAdamGainIdeal [hReferenceAdamGainIdeal : Cert.ReferenceAdamGainIdeal.Facts] : Prop :=
  ∀ (m : (ℓ : Loc Cert.ReferenceAdamGainIdeal.nD Cert.ReferenceAdamGainIdeal.τ Cert.ReferenceAdamGainIdeal.sig) → Buf (Elt Ideal) ℓ) (g : Dev Cert.ReferenceAdamGainIdeal.nD → PrngReg), Pre_ReferenceAdamGainIdeal m →
    θ_run (Cert.ReferenceAdamGainIdeal.defs (F := Ideal)) (onTc (τ := Cert.ReferenceAdamGainIdeal.τ) (Cert.ReferenceAdamGainIdeal.main (F := Ideal))) ⟨m, fun _ => 0, g⟩ (fun r => (∀ c : Dev Cert.ReferenceAdamGainIdeal.nD,
      r.2.mem ((c.tc : Thread Cert.ReferenceAdamGainIdeal.nD Cert.ReferenceAdamGainIdeal.τ).loc Cert.ReferenceAdamGainIdeal.main_arg0) = m ((c.tc : Thread Cert.ReferenceAdamGainIdeal.nD Cert.ReferenceAdamGainIdeal.τ).loc Cert.ReferenceAdamGainIdeal.main_arg0)
      ∧ r.2.mem ((c.tc : Thread Cert.ReferenceAdamGainIdeal.nD Cert.ReferenceAdamGainIdeal.τ).loc Cert.ReferenceAdamGainIdeal.main_arg1) = m ((c.tc : Thread Cert.ReferenceAdamGainIdeal.nD Cert.ReferenceAdamGainIdeal.τ).loc Cert.ReferenceAdamGainIdeal.main_arg1)
      ∧ r.2.mem ((c.tc : Thread Cert.ReferenceAdamGainIdeal.nD Cert.ReferenceAdamGainIdeal.τ).loc Cert.ReferenceAdamGainIdeal.main_arg2) = m ((c.tc : Thread Cert.ReferenceAdamGainIdeal.nD Cert.ReferenceAdamGainIdeal.τ).loc Cert.ReferenceAdamGainIdeal.main_arg2)
      ∧ r.2.mem ((c.tc : Thread Cert.ReferenceAdamGainIdeal.nD Cert.ReferenceAdamGainIdeal.τ).loc Cert.ReferenceAdamGainIdeal.main_arg3) = m ((c.tc : Thread Cert.ReferenceAdamGainIdeal.nD Cert.ReferenceAdamGainIdeal.τ).loc Cert.ReferenceAdamGainIdeal.main_arg3))
      ∧ r.2.sem = fun _ => 0)

def quiescent_AdamHalfGain [hAdamHalfGain : Cert.AdamHalfGain.Facts] : Prop :=
  ∀ (m : (ℓ : Loc Cert.AdamHalfGain.nD Cert.AdamHalfGain.τ Cert.AdamHalfGain.sig) → Buf (Elt Bits) ℓ) (g : Dev Cert.AdamHalfGain.nD → PrngReg), Pre_AdamHalfGain m →
    θ_run (Cert.AdamHalfGain.defs (F := Bits)) (onTc (τ := Cert.AdamHalfGain.τ) (Cert.AdamHalfGain.main (F := Bits))) ⟨m, fun _ => 0, g⟩ (fun r => (∀ c : Dev Cert.AdamHalfGain.nD,
      r.2.mem ((c.tc : Thread Cert.AdamHalfGain.nD Cert.AdamHalfGain.τ).loc Cert.AdamHalfGain.main_arg0) = m ((c.tc : Thread Cert.AdamHalfGain.nD Cert.AdamHalfGain.τ).loc Cert.AdamHalfGain.main_arg0)
      ∧ r.2.mem ((c.tc : Thread Cert.AdamHalfGain.nD Cert.AdamHalfGain.τ).loc Cert.AdamHalfGain.main_arg1) = m ((c.tc : Thread Cert.AdamHalfGain.nD Cert.AdamHalfGain.τ).loc Cert.AdamHalfGain.main_arg1)
      ∧ r.2.mem ((c.tc : Thread Cert.AdamHalfGain.nD Cert.AdamHalfGain.τ).loc Cert.AdamHalfGain.main_arg2) = m ((c.tc : Thread Cert.AdamHalfGain.nD Cert.AdamHalfGain.τ).loc Cert.AdamHalfGain.main_arg2)
      ∧ r.2.mem ((c.tc : Thread Cert.AdamHalfGain.nD Cert.AdamHalfGain.τ).loc Cert.AdamHalfGain.main_arg3) = m ((c.tc : Thread Cert.AdamHalfGain.nD Cert.AdamHalfGain.τ).loc Cert.AdamHalfGain.main_arg3))
      ∧ r.2.sem = fun _ => 0)

def quiescent_AdamHalfGainIdeal [hAdamHalfGainIdeal : Cert.AdamHalfGainIdeal.Facts] : Prop :=
  ∀ (m : (ℓ : Loc Cert.AdamHalfGainIdeal.nD Cert.AdamHalfGainIdeal.τ Cert.AdamHalfGainIdeal.sig) → Buf (Elt Ideal) ℓ) (g : Dev Cert.AdamHalfGainIdeal.nD → PrngReg), Pre_AdamHalfGainIdeal m →
    θ_run (Cert.AdamHalfGainIdeal.defs (F := Ideal)) (onTc (τ := Cert.AdamHalfGainIdeal.τ) (Cert.AdamHalfGainIdeal.main (F := Ideal))) ⟨m, fun _ => 0, g⟩ (fun r => (∀ c : Dev Cert.AdamHalfGainIdeal.nD,
      r.2.mem ((c.tc : Thread Cert.AdamHalfGainIdeal.nD Cert.AdamHalfGainIdeal.τ).loc Cert.AdamHalfGainIdeal.main_arg0) = m ((c.tc : Thread Cert.AdamHalfGainIdeal.nD Cert.AdamHalfGainIdeal.τ).loc Cert.AdamHalfGainIdeal.main_arg0)
      ∧ r.2.mem ((c.tc : Thread Cert.AdamHalfGainIdeal.nD Cert.AdamHalfGainIdeal.τ).loc Cert.AdamHalfGainIdeal.main_arg1) = m ((c.tc : Thread Cert.AdamHalfGainIdeal.nD Cert.AdamHalfGainIdeal.τ).loc Cert.AdamHalfGainIdeal.main_arg1)
      ∧ r.2.mem ((c.tc : Thread Cert.AdamHalfGainIdeal.nD Cert.AdamHalfGainIdeal.τ).loc Cert.AdamHalfGainIdeal.main_arg2) = m ((c.tc : Thread Cert.AdamHalfGainIdeal.nD Cert.AdamHalfGainIdeal.τ).loc Cert.AdamHalfGainIdeal.main_arg2)
      ∧ r.2.mem ((c.tc : Thread Cert.AdamHalfGainIdeal.nD Cert.AdamHalfGainIdeal.τ).loc Cert.AdamHalfGainIdeal.main_arg3) = m ((c.tc : Thread Cert.AdamHalfGainIdeal.nD Cert.AdamHalfGainIdeal.τ).loc Cert.AdamHalfGainIdeal.main_arg3))
      ∧ r.2.sem = fun _ => 0)

def quiescent_ReferenceAdamHalfGain [hReferenceAdamHalfGain : Cert.ReferenceAdamHalfGain.Facts] : Prop :=
  ∀ (m : (ℓ : Loc Cert.ReferenceAdamHalfGain.nD Cert.ReferenceAdamHalfGain.τ Cert.ReferenceAdamHalfGain.sig) → Buf (Elt Bits) ℓ) (g : Dev Cert.ReferenceAdamHalfGain.nD → PrngReg), Pre_ReferenceAdamHalfGain m →
    θ_run (Cert.ReferenceAdamHalfGain.defs (F := Bits)) (onTc (τ := Cert.ReferenceAdamHalfGain.τ) (Cert.ReferenceAdamHalfGain.main (F := Bits))) ⟨m, fun _ => 0, g⟩ (fun r => (∀ c : Dev Cert.ReferenceAdamHalfGain.nD,
      r.2.mem ((c.tc : Thread Cert.ReferenceAdamHalfGain.nD Cert.ReferenceAdamHalfGain.τ).loc Cert.ReferenceAdamHalfGain.main_arg0) = m ((c.tc : Thread Cert.ReferenceAdamHalfGain.nD Cert.ReferenceAdamHalfGain.τ).loc Cert.ReferenceAdamHalfGain.main_arg0)
      ∧ r.2.mem ((c.tc : Thread Cert.ReferenceAdamHalfGain.nD Cert.ReferenceAdamHalfGain.τ).loc Cert.ReferenceAdamHalfGain.main_arg1) = m ((c.tc : Thread Cert.ReferenceAdamHalfGain.nD Cert.ReferenceAdamHalfGain.τ).loc Cert.ReferenceAdamHalfGain.main_arg1)
      ∧ r.2.mem ((c.tc : Thread Cert.ReferenceAdamHalfGain.nD Cert.ReferenceAdamHalfGain.τ).loc Cert.ReferenceAdamHalfGain.main_arg2) = m ((c.tc : Thread Cert.ReferenceAdamHalfGain.nD Cert.ReferenceAdamHalfGain.τ).loc Cert.ReferenceAdamHalfGain.main_arg2)
      ∧ r.2.mem ((c.tc : Thread Cert.ReferenceAdamHalfGain.nD Cert.ReferenceAdamHalfGain.τ).loc Cert.ReferenceAdamHalfGain.main_arg3) = m ((c.tc : Thread Cert.ReferenceAdamHalfGain.nD Cert.ReferenceAdamHalfGain.τ).loc Cert.ReferenceAdamHalfGain.main_arg3))
      ∧ r.2.sem = fun _ => 0)

def quiescent_ReferenceAdamHalfGainIdeal [hReferenceAdamHalfGainIdeal : Cert.ReferenceAdamHalfGainIdeal.Facts] : Prop :=
  ∀ (m : (ℓ : Loc Cert.ReferenceAdamHalfGainIdeal.nD Cert.ReferenceAdamHalfGainIdeal.τ Cert.ReferenceAdamHalfGainIdeal.sig) → Buf (Elt Ideal) ℓ) (g : Dev Cert.ReferenceAdamHalfGainIdeal.nD → PrngReg), Pre_ReferenceAdamHalfGainIdeal m →
    θ_run (Cert.ReferenceAdamHalfGainIdeal.defs (F := Ideal)) (onTc (τ := Cert.ReferenceAdamHalfGainIdeal.τ) (Cert.ReferenceAdamHalfGainIdeal.main (F := Ideal))) ⟨m, fun _ => 0, g⟩ (fun r => (∀ c : Dev Cert.ReferenceAdamHalfGainIdeal.nD,
      r.2.mem ((c.tc : Thread Cert.ReferenceAdamHalfGainIdeal.nD Cert.ReferenceAdamHalfGainIdeal.τ).loc Cert.ReferenceAdamHalfGainIdeal.main_arg0) = m ((c.tc : Thread Cert.ReferenceAdamHalfGainIdeal.nD Cert.ReferenceAdamHalfGainIdeal.τ).loc Cert.ReferenceAdamHalfGainIdeal.main_arg0)
      ∧ r.2.mem ((c.tc : Thread Cert.ReferenceAdamHalfGainIdeal.nD Cert.ReferenceAdamHalfGainIdeal.τ).loc Cert.ReferenceAdamHalfGainIdeal.main_arg1) = m ((c.tc : Thread Cert.ReferenceAdamHalfGainIdeal.nD Cert.ReferenceAdamHalfGainIdeal.τ).loc Cert.ReferenceAdamHalfGainIdeal.main_arg1)
      ∧ r.2.mem ((c.tc : Thread Cert.ReferenceAdamHalfGainIdeal.nD Cert.ReferenceAdamHalfGainIdeal.τ).loc Cert.ReferenceAdamHalfGainIdeal.main_arg2) = m ((c.tc : Thread Cert.ReferenceAdamHalfGainIdeal.nD Cert.ReferenceAdamHalfGainIdeal.τ).loc Cert.ReferenceAdamHalfGainIdeal.main_arg2)
      ∧ r.2.mem ((c.tc : Thread Cert.ReferenceAdamHalfGainIdeal.nD Cert.ReferenceAdamHalfGainIdeal.τ).loc Cert.ReferenceAdamHalfGainIdeal.main_arg3) = m ((c.tc : Thread Cert.ReferenceAdamHalfGainIdeal.nD Cert.ReferenceAdamHalfGainIdeal.τ).loc Cert.ReferenceAdamHalfGainIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_ReferenceNorm [hReferenceNorm : Cert.ReferenceNorm.Facts] : Prop :=
  ∀ (m : (ℓ : Loc Cert.ReferenceNorm.nD Cert.ReferenceNorm.τ Cert.ReferenceNorm.sig) → Buf (Elt Bits) ℓ) (g : Dev Cert.ReferenceNorm.nD → PrngReg), Pre_ReferenceNorm m →
    θ_run (Cert.ReferenceNorm.defs (F := Bits)) (onTc (τ := Cert.ReferenceNorm.τ) (Cert.ReferenceNorm.main (F := Bits))) ⟨m, fun _ => 0, g⟩ (fun r => (∀ c : Dev Cert.ReferenceNorm.nD,
      r.2.mem ((c.tc : Thread Cert.ReferenceNorm.nD Cert.ReferenceNorm.τ).loc Cert.ReferenceNorm.main_arg0) = m ((c.tc : Thread Cert.ReferenceNorm.nD Cert.ReferenceNorm.τ).loc Cert.ReferenceNorm.main_arg0)
      ∧ r.2.mem ((c.tc : Thread Cert.ReferenceNorm.nD Cert.ReferenceNorm.τ).loc Cert.ReferenceNorm.main_arg1) = m ((c.tc : Thread Cert.ReferenceNorm.nD Cert.ReferenceNorm.τ).loc Cert.ReferenceNorm.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_ReferenceNormBwd [hReferenceNormBwd : Cert.ReferenceNormBwd.Facts] : Prop :=
  ∀ (m : (ℓ : Loc Cert.ReferenceNormBwd.nD Cert.ReferenceNormBwd.τ Cert.ReferenceNormBwd.sig) → Buf (Elt Bits) ℓ) (g : Dev Cert.ReferenceNormBwd.nD → PrngReg), Pre_ReferenceNormBwd m →
    θ_run (Cert.ReferenceNormBwd.defs (F := Bits)) (onTc (τ := Cert.ReferenceNormBwd.τ) (Cert.ReferenceNormBwd.main (F := Bits))) ⟨m, fun _ => 0, g⟩ (fun r => (∀ c : Dev Cert.ReferenceNormBwd.nD,
      r.2.mem ((c.tc : Thread Cert.ReferenceNormBwd.nD Cert.ReferenceNormBwd.τ).loc Cert.ReferenceNormBwd.main_arg0) = m ((c.tc : Thread Cert.ReferenceNormBwd.nD Cert.ReferenceNormBwd.τ).loc Cert.ReferenceNormBwd.main_arg0)
      ∧ r.2.mem ((c.tc : Thread Cert.ReferenceNormBwd.nD Cert.ReferenceNormBwd.τ).loc Cert.ReferenceNormBwd.main_arg1) = m ((c.tc : Thread Cert.ReferenceNormBwd.nD Cert.ReferenceNormBwd.τ).loc Cert.ReferenceNormBwd.main_arg1)
      ∧ r.2.mem ((c.tc : Thread Cert.ReferenceNormBwd.nD Cert.ReferenceNormBwd.τ).loc Cert.ReferenceNormBwd.main_arg2) = m ((c.tc : Thread Cert.ReferenceNormBwd.nD Cert.ReferenceNormBwd.τ).loc Cert.ReferenceNormBwd.main_arg2)
      ∧ r.2.mem ((c.tc : Thread Cert.ReferenceNormBwd.nD Cert.ReferenceNormBwd.τ).loc Cert.ReferenceNormBwd.main_arg3) = m ((c.tc : Thread Cert.ReferenceNormBwd.nD Cert.ReferenceNormBwd.τ).loc Cert.ReferenceNormBwd.main_arg3))
      ∧ r.2.sem = fun _ => 0)

def quiescent_ReferenceNormBwdIdeal [hReferenceNormBwdIdeal : Cert.ReferenceNormBwdIdeal.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3))
      ∧ r.2.sem = fun _ => 0)

def quiescent_MmGate [hMmGate : Cert.MmGate.Facts] : Prop :=
  ∀ (m : (ℓ : Loc Cert.MmGate.nD Cert.MmGate.τ Cert.MmGate.sig) → Buf (Elt Bits) ℓ) (g : Dev Cert.MmGate.nD → PrngReg), Pre_MmGate m →
    θ_run (Cert.MmGate.defs (F := Bits)) (onTc (τ := Cert.MmGate.τ) (Cert.MmGate.main (F := Bits))) ⟨m, fun _ => 0, g⟩ (fun r => (∀ c : Dev Cert.MmGate.nD,
      r.2.mem ((c.tc : Thread Cert.MmGate.nD Cert.MmGate.τ).loc Cert.MmGate.main_arg0) = m ((c.tc : Thread Cert.MmGate.nD Cert.MmGate.τ).loc Cert.MmGate.main_arg0)
      ∧ r.2.mem ((c.tc : Thread Cert.MmGate.nD Cert.MmGate.τ).loc Cert.MmGate.main_arg1) = m ((c.tc : Thread Cert.MmGate.nD Cert.MmGate.τ).loc Cert.MmGate.main_arg1))
      ∧ r.2.sem = fun _ => 0)

def quiescent_MmGateIdeal [hMmGateIdeal : Cert.MmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg), Pre_MmGateIdeal m →
    θ_run (Cert.MmGateIdeal.defs (F := Ideal)) (onTc (τ := Cert.MmGateIdeal.τ) (Cert.MmGateIdeal.main (F := Ideal))) ⟨m, fun _ => 0, g⟩ (fun r => (∀ c : Dev Cert.MmGateIdeal.nD,
      r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
      ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ r.2.sem = fun _ => 0)

def quiescent_ReferenceMmGate [hReferenceMmGate : Cert.ReferenceMmGate.Facts] : Prop :=
  ∀ (m : (ℓ : Loc Cert.ReferenceMmGate.nD Cert.ReferenceMmGate.τ Cert.ReferenceMmGate.sig) → Buf (Elt Bits) ℓ) (g : Dev Cert.ReferenceMmGate.nD → PrngReg), Pre_ReferenceMmGate m →
    θ_run (Cert.ReferenceMmGate.defs (F := Bits)) (onTc (τ := Cert.ReferenceMmGate.τ) (Cert.ReferenceMmGate.main (F := Bits))) ⟨m, fun _ => 0, g⟩ (fun r => (∀ c : Dev Cert.ReferenceMmGate.nD,
      r.2.mem ((c.tc : Thread Cert.ReferenceMmGate.nD Cert.ReferenceMmGate.τ).loc Cert.ReferenceMmGate.main_arg0) = m ((c.tc : Thread Cert.ReferenceMmGate.nD Cert.ReferenceMmGate.τ).loc Cert.ReferenceMmGate.main_arg0)
      ∧ r.2.mem ((c.tc : Thread Cert.ReferenceMmGate.nD Cert.ReferenceMmGate.τ).loc Cert.ReferenceMmGate.main_arg1) = m ((c.tc : Thread Cert.ReferenceMmGate.nD Cert.ReferenceMmGate.τ).loc Cert.ReferenceMmGate.main_arg1))
      ∧ r.2.sem = fun _ => 0)

def quiescent_ReferenceMmGateIdeal [hReferenceMmGateIdeal : Cert.ReferenceMmGateIdeal.Facts] : Prop :=
  ∀ (m : (ℓ : Loc Cert.ReferenceMmGateIdeal.nD Cert.ReferenceMmGateIdeal.τ Cert.ReferenceMmGateIdeal.sig) → Buf (Elt Ideal) ℓ) (g : Dev Cert.ReferenceMmGateIdeal.nD → PrngReg), Pre_ReferenceMmGateIdeal m →
    θ_run (Cert.ReferenceMmGateIdeal.defs (F := Ideal)) (onTc (τ := Cert.ReferenceMmGateIdeal.τ) (Cert.ReferenceMmGateIdeal.main (F := Ideal))) ⟨m, fun _ => 0, g⟩ (fun r => (∀ c : Dev Cert.ReferenceMmGateIdeal.nD,
      r.2.mem ((c.tc : Thread Cert.ReferenceMmGateIdeal.nD Cert.ReferenceMmGateIdeal.τ).loc Cert.ReferenceMmGateIdeal.main_arg0) = m ((c.tc : Thread Cert.ReferenceMmGateIdeal.nD Cert.ReferenceMmGateIdeal.τ).loc Cert.ReferenceMmGateIdeal.main_arg0)
      ∧ r.2.mem ((c.tc : Thread Cert.ReferenceMmGateIdeal.nD Cert.ReferenceMmGateIdeal.τ).loc Cert.ReferenceMmGateIdeal.main_arg1) = m ((c.tc : Thread Cert.ReferenceMmGateIdeal.nD Cert.ReferenceMmGateIdeal.τ).loc Cert.ReferenceMmGateIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1)
      ∧ r.2.mem ((c.tc : Thread Cert.MmUp.nD Cert.MmUp.τ).loc Cert.MmUp.main_arg2) = m ((c.tc : Thread Cert.MmUp.nD Cert.MmUp.τ).loc Cert.MmUp.main_arg2))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1)
      ∧ r.2.mem ((c.tc : Thread Cert.MmUpIdeal.nD Cert.MmUpIdeal.τ).loc Cert.MmUpIdeal.main_arg2) = m ((c.tc : Thread Cert.MmUpIdeal.nD Cert.MmUpIdeal.τ).loc Cert.MmUpIdeal.main_arg2))
      ∧ r.2.sem = fun _ => 0)

def quiescent_ReferenceMmUp [hReferenceMmUp : Cert.ReferenceMmUp.Facts] : Prop :=
  ∀ (m : (ℓ : Loc Cert.ReferenceMmUp.nD Cert.ReferenceMmUp.τ Cert.ReferenceMmUp.sig) → Buf (Elt Bits) ℓ) (g : Dev Cert.ReferenceMmUp.nD → PrngReg), Pre_ReferenceMmUp m →
    θ_run (Cert.ReferenceMmUp.defs (F := Bits)) (onTc (τ := Cert.ReferenceMmUp.τ) (Cert.ReferenceMmUp.main (F := Bits))) ⟨m, fun _ => 0, g⟩ (fun r => (∀ c : Dev Cert.ReferenceMmUp.nD,
      r.2.mem ((c.tc : Thread Cert.ReferenceMmUp.nD Cert.ReferenceMmUp.τ).loc Cert.ReferenceMmUp.main_arg0) = m ((c.tc : Thread Cert.ReferenceMmUp.nD Cert.ReferenceMmUp.τ).loc Cert.ReferenceMmUp.main_arg0)
      ∧ r.2.mem ((c.tc : Thread Cert.ReferenceMmUp.nD Cert.ReferenceMmUp.τ).loc Cert.ReferenceMmUp.main_arg1) = m ((c.tc : Thread Cert.ReferenceMmUp.nD Cert.ReferenceMmUp.τ).loc Cert.ReferenceMmUp.main_arg1)
      ∧ r.2.mem ((c.tc : Thread Cert.ReferenceMmUp.nD Cert.ReferenceMmUp.τ).loc Cert.ReferenceMmUp.main_arg2) = m ((c.tc : Thread Cert.ReferenceMmUp.nD Cert.ReferenceMmUp.τ).loc Cert.ReferenceMmUp.main_arg2))
      ∧ r.2.sem = fun _ => 0)

def quiescent_ReferenceMmUpIdeal [hReferenceMmUpIdeal : Cert.ReferenceMmUpIdeal.Facts] : Prop :=
  ∀ (m : (ℓ : Loc Cert.ReferenceMmUpIdeal.nD Cert.ReferenceMmUpIdeal.τ Cert.ReferenceMmUpIdeal.sig) → Buf (Elt Ideal) ℓ) (g : Dev Cert.ReferenceMmUpIdeal.nD → PrngReg), Pre_ReferenceMmUpIdeal m →
    θ_run (Cert.ReferenceMmUpIdeal.defs (F := Ideal)) (onTc (τ := Cert.ReferenceMmUpIdeal.τ) (Cert.ReferenceMmUpIdeal.main (F := Ideal))) ⟨m, fun _ => 0, g⟩ (fun r => (∀ c : Dev Cert.ReferenceMmUpIdeal.nD,
      r.2.mem ((c.tc : Thread Cert.ReferenceMmUpIdeal.nD Cert.ReferenceMmUpIdeal.τ).loc Cert.ReferenceMmUpIdeal.main_arg0) = m ((c.tc : Thread Cert.ReferenceMmUpIdeal.nD Cert.ReferenceMmUpIdeal.τ).loc Cert.ReferenceMmUpIdeal.main_arg0)
      ∧ r.2.mem ((c.tc : Thread Cert.ReferenceMmUpIdeal.nD Cert.ReferenceMmUpIdeal.τ).loc Cert.ReferenceMmUpIdeal.main_arg1) = m ((c.tc : Thread Cert.ReferenceMmUpIdeal.nD Cert.ReferenceMmUpIdeal.τ).loc Cert.ReferenceMmUpIdeal.main_arg1)
      ∧ r.2.mem ((c.tc : Thread Cert.ReferenceMmUpIdeal.nD Cert.ReferenceMmUpIdeal.τ).loc Cert.ReferenceMmUpIdeal.main_arg2) = m ((c.tc : Thread Cert.ReferenceMmUpIdeal.nD Cert.ReferenceMmUpIdeal.τ).loc Cert.ReferenceMmUpIdeal.main_arg2))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ r.2.sem = fun _ => 0)

def quiescent_ReferenceMmDown [hReferenceMmDown : Cert.ReferenceMmDown.Facts] : Prop :=
  ∀ (m : (ℓ : Loc Cert.ReferenceMmDown.nD Cert.ReferenceMmDown.τ Cert.ReferenceMmDown.sig) → Buf (Elt Bits) ℓ) (g : Dev Cert.ReferenceMmDown.nD → PrngReg), Pre_ReferenceMmDown m →
    θ_run (Cert.ReferenceMmDown.defs (F := Bits)) (onTc (τ := Cert.ReferenceMmDown.τ) (Cert.ReferenceMmDown.main (F := Bits))) ⟨m, fun _ => 0, g⟩ (fun r => (∀ c : Dev Cert.ReferenceMmDown.nD,
      r.2.mem ((c.tc : Thread Cert.ReferenceMmDown.nD Cert.ReferenceMmDown.τ).loc Cert.ReferenceMmDown.main_arg0) = m ((c.tc : Thread Cert.ReferenceMmDown.nD Cert.ReferenceMmDown.τ).loc Cert.ReferenceMmDown.main_arg0)
      ∧ r.2.mem ((c.tc : Thread Cert.ReferenceMmDown.nD Cert.ReferenceMmDown.τ).loc Cert.ReferenceMmDown.main_arg1) = m ((c.tc : Thread Cert.ReferenceMmDown.nD Cert.ReferenceMmDown.τ).loc Cert.ReferenceMmDown.main_arg1)
      ∧ r.2.mem ((c.tc : Thread Cert.ReferenceMmDown.nD Cert.ReferenceMmDown.τ).loc Cert.ReferenceMmDown.main_arg2) = m ((c.tc : Thread Cert.ReferenceMmDown.nD Cert.ReferenceMmDown.τ).loc Cert.ReferenceMmDown.main_arg2))
      ∧ r.2.sem = fun _ => 0)

def quiescent_ReferenceMmDownIdeal [hReferenceMmDownIdeal : Cert.ReferenceMmDownIdeal.Facts] : Prop :=
  ∀ (m : (ℓ : Loc Cert.ReferenceMmDownIdeal.nD Cert.ReferenceMmDownIdeal.τ Cert.ReferenceMmDownIdeal.sig) → Buf (Elt Ideal) ℓ) (g : Dev Cert.ReferenceMmDownIdeal.nD → PrngReg), Pre_ReferenceMmDownIdeal m →
    θ_run (Cert.ReferenceMmDownIdeal.defs (F := Ideal)) (onTc (τ := Cert.ReferenceMmDownIdeal.τ) (Cert.ReferenceMmDownIdeal.main (F := Ideal))) ⟨m, fun _ => 0, g⟩ (fun r => (∀ c : Dev Cert.ReferenceMmDownIdeal.nD,
      r.2.mem ((c.tc : Thread Cert.ReferenceMmDownIdeal.nD Cert.ReferenceMmDownIdeal.τ).loc Cert.ReferenceMmDownIdeal.main_arg0) = m ((c.tc : Thread Cert.ReferenceMmDownIdeal.nD Cert.ReferenceMmDownIdeal.τ).loc Cert.ReferenceMmDownIdeal.main_arg0)
      ∧ r.2.mem ((c.tc : Thread Cert.ReferenceMmDownIdeal.nD Cert.ReferenceMmDownIdeal.τ).loc Cert.ReferenceMmDownIdeal.main_arg1) = m ((c.tc : Thread Cert.ReferenceMmDownIdeal.nD Cert.ReferenceMmDownIdeal.τ).loc Cert.ReferenceMmDownIdeal.main_arg1)
      ∧ r.2.mem ((c.tc : Thread Cert.ReferenceMmDownIdeal.nD Cert.ReferenceMmDownIdeal.τ).loc Cert.ReferenceMmDownIdeal.main_arg2) = m ((c.tc : Thread Cert.ReferenceMmDownIdeal.nD Cert.ReferenceMmDownIdeal.τ).loc Cert.ReferenceMmDownIdeal.main_arg2))
      ∧ r.2.sem = fun _ => 0)

def quiescent_MmBwdAct [hMmBwdAct : Cert.MmBwdAct.Facts] : Prop :=
  ∀ (m : (ℓ : Loc Cert.MmBwdAct.nD Cert.MmBwdAct.τ Cert.MmBwdAct.sig) → Buf (Elt Bits) ℓ) (g : Dev Cert.MmBwdAct.nD → PrngReg), Pre_MmBwdAct m →
    θ_run (Cert.MmBwdAct.defs (F := Bits)) (onTc (τ := Cert.MmBwdAct.τ) (Cert.MmBwdAct.main (F := Bits))) ⟨m, fun _ => 0, g⟩ (fun r => (∀ c : Dev Cert.MmBwdAct.nD,
      r.2.mem ((c.tc : Thread Cert.MmBwdAct.nD Cert.MmBwdAct.τ).loc Cert.MmBwdAct.main_arg0) = m ((c.tc : Thread Cert.MmBwdAct.nD Cert.MmBwdAct.τ).loc Cert.MmBwdAct.main_arg0)
      ∧ r.2.mem ((c.tc : Thread Cert.MmBwdAct.nD Cert.MmBwdAct.τ).loc Cert.MmBwdAct.main_arg1) = m ((c.tc : Thread Cert.MmBwdAct.nD Cert.MmBwdAct.τ).loc Cert.MmBwdAct.main_arg1)
      ∧ r.2.mem ((c.tc : Thread Cert.MmBwdAct.nD Cert.MmBwdAct.τ).loc Cert.MmBwdAct.main_arg2) = m ((c.tc : Thread Cert.MmBwdAct.nD Cert.MmBwdAct.τ).loc Cert.MmBwdAct.main_arg2)
      ∧ r.2.mem ((c.tc : Thread Cert.MmBwdAct.nD Cert.MmBwdAct.τ).loc Cert.MmBwdAct.main_arg3) = m ((c.tc : Thread Cert.MmBwdAct.nD Cert.MmBwdAct.τ).loc Cert.MmBwdAct.main_arg3))
      ∧ r.2.sem = fun _ => 0)

def quiescent_MmBwdActIdeal [hMmBwdActIdeal : Cert.MmBwdActIdeal.Facts] : Prop :=
  ∀ (m : (ℓ : Loc Cert.MmBwdActIdeal.nD Cert.MmBwdActIdeal.τ Cert.MmBwdActIdeal.sig) → Buf (Elt Ideal) ℓ) (g : Dev Cert.MmBwdActIdeal.nD → PrngReg), Pre_MmBwdActIdeal m →
    θ_run (Cert.MmBwdActIdeal.defs (F := Ideal)) (onTc (τ := Cert.MmBwdActIdeal.τ) (Cert.MmBwdActIdeal.main (F := Ideal))) ⟨m, fun _ => 0, g⟩ (fun r => (∀ c : Dev Cert.MmBwdActIdeal.nD,
      r.2.mem ((c.tc : Thread Cert.MmBwdActIdeal.nD Cert.MmBwdActIdeal.τ).loc Cert.MmBwdActIdeal.main_arg0) = m ((c.tc : Thread Cert.MmBwdActIdeal.nD Cert.MmBwdActIdeal.τ).loc Cert.MmBwdActIdeal.main_arg0)
      ∧ r.2.mem ((c.tc : Thread Cert.MmBwdActIdeal.nD Cert.MmBwdActIdeal.τ).loc Cert.MmBwdActIdeal.main_arg1) = m ((c.tc : Thread Cert.MmBwdActIdeal.nD Cert.MmBwdActIdeal.τ).loc Cert.MmBwdActIdeal.main_arg1)
      ∧ r.2.mem ((c.tc : Thread Cert.MmBwdActIdeal.nD Cert.MmBwdActIdeal.τ).loc Cert.MmBwdActIdeal.main_arg2) = m ((c.tc : Thread Cert.MmBwdActIdeal.nD Cert.MmBwdActIdeal.τ).loc Cert.MmBwdActIdeal.main_arg2)
      ∧ r.2.mem ((c.tc : Thread Cert.MmBwdActIdeal.nD Cert.MmBwdActIdeal.τ).loc Cert.MmBwdActIdeal.main_arg3) = m ((c.tc : Thread Cert.MmBwdActIdeal.nD Cert.MmBwdActIdeal.τ).loc Cert.MmBwdActIdeal.main_arg3))
      ∧ r.2.sem = fun _ => 0)

def quiescent_ReferenceMmBwdAct [hReferenceMmBwdAct : Cert.ReferenceMmBwdAct.Facts] : Prop :=
  ∀ (m : (ℓ : Loc Cert.ReferenceMmBwdAct.nD Cert.ReferenceMmBwdAct.τ Cert.ReferenceMmBwdAct.sig) → Buf (Elt Bits) ℓ) (g : Dev Cert.ReferenceMmBwdAct.nD → PrngReg), Pre_ReferenceMmBwdAct m →
    θ_run (Cert.ReferenceMmBwdAct.defs (F := Bits)) (onTc (τ := Cert.ReferenceMmBwdAct.τ) (Cert.ReferenceMmBwdAct.main (F := Bits))) ⟨m, fun _ => 0, g⟩ (fun r => (∀ c : Dev Cert.ReferenceMmBwdAct.nD,
      r.2.mem ((c.tc : Thread Cert.ReferenceMmBwdAct.nD Cert.ReferenceMmBwdAct.τ).loc Cert.ReferenceMmBwdAct.main_arg0) = m ((c.tc : Thread Cert.ReferenceMmBwdAct.nD Cert.ReferenceMmBwdAct.τ).loc Cert.ReferenceMmBwdAct.main_arg0)
      ∧ r.2.mem ((c.tc : Thread Cert.ReferenceMmBwdAct.nD Cert.ReferenceMmBwdAct.τ).loc Cert.ReferenceMmBwdAct.main_arg1) = m ((c.tc : Thread Cert.ReferenceMmBwdAct.nD Cert.ReferenceMmBwdAct.τ).loc Cert.ReferenceMmBwdAct.main_arg1)
      ∧ r.2.mem ((c.tc : Thread Cert.ReferenceMmBwdAct.nD Cert.ReferenceMmBwdAct.τ).loc Cert.ReferenceMmBwdAct.main_arg2) = m ((c.tc : Thread Cert.ReferenceMmBwdAct.nD Cert.ReferenceMmBwdAct.τ).loc Cert.ReferenceMmBwdAct.main_arg2)
      ∧ r.2.mem ((c.tc : Thread Cert.ReferenceMmBwdAct.nD Cert.ReferenceMmBwdAct.τ).loc Cert.ReferenceMmBwdAct.main_arg3) = m ((c.tc : Thread Cert.ReferenceMmBwdAct.nD Cert.ReferenceMmBwdAct.τ).loc Cert.ReferenceMmBwdAct.main_arg3))
      ∧ r.2.sem = fun _ => 0)

def quiescent_ReferenceMmBwdActIdeal [hReferenceMmBwdActIdeal : Cert.ReferenceMmBwdActIdeal.Facts] : Prop :=
  ∀ (m : (ℓ : Loc Cert.ReferenceMmBwdActIdeal.nD Cert.ReferenceMmBwdActIdeal.τ Cert.ReferenceMmBwdActIdeal.sig) → Buf (Elt Ideal) ℓ) (g : Dev Cert.ReferenceMmBwdActIdeal.nD → PrngReg), Pre_ReferenceMmBwdActIdeal m →
    θ_run (Cert.ReferenceMmBwdActIdeal.defs (F := Ideal)) (onTc (τ := Cert.ReferenceMmBwdActIdeal.τ) (Cert.ReferenceMmBwdActIdeal.main (F := Ideal))) ⟨m, fun _ => 0, g⟩ (fun r => (∀ c : Dev Cert.ReferenceMmBwdActIdeal.nD,
      r.2.mem ((c.tc : Thread Cert.ReferenceMmBwdActIdeal.nD Cert.ReferenceMmBwdActIdeal.τ).loc Cert.ReferenceMmBwdActIdeal.main_arg0) = m ((c.tc : Thread Cert.ReferenceMmBwdActIdeal.nD Cert.ReferenceMmBwdActIdeal.τ).loc Cert.ReferenceMmBwdActIdeal.main_arg0)
      ∧ r.2.mem ((c.tc : Thread Cert.ReferenceMmBwdActIdeal.nD Cert.ReferenceMmBwdActIdeal.τ).loc Cert.ReferenceMmBwdActIdeal.main_arg1) = m ((c.tc : Thread Cert.ReferenceMmBwdActIdeal.nD Cert.ReferenceMmBwdActIdeal.τ).loc Cert.ReferenceMmBwdActIdeal.main_arg1)
      ∧ r.2.mem ((c.tc : Thread Cert.ReferenceMmBwdActIdeal.nD Cert.ReferenceMmBwdActIdeal.τ).loc Cert.ReferenceMmBwdActIdeal.main_arg2) = m ((c.tc : Thread Cert.ReferenceMmBwdActIdeal.nD Cert.ReferenceMmBwdActIdeal.τ).loc Cert.ReferenceMmBwdActIdeal.main_arg2)
      ∧ r.2.mem ((c.tc : Thread Cert.ReferenceMmBwdActIdeal.nD Cert.ReferenceMmBwdActIdeal.τ).loc Cert.ReferenceMmBwdActIdeal.main_arg3) = m ((c.tc : Thread Cert.ReferenceMmBwdActIdeal.nD Cert.ReferenceMmBwdActIdeal.τ).loc Cert.ReferenceMmBwdActIdeal.main_arg3))
      ∧ r.2.sem = fun _ => 0)

def quiescent_MmDhGate [hMmDhGate : Cert.MmDhGate.Facts] : Prop :=
  ∀ (m : (ℓ : Loc Cert.MmDhGate.nD Cert.MmDhGate.τ Cert.MmDhGate.sig) → Buf (Elt Bits) ℓ) (g : Dev Cert.MmDhGate.nD → PrngReg), Pre_MmDhGate m →
    θ_run (Cert.MmDhGate.defs (F := Bits)) (onTc (τ := Cert.MmDhGate.τ) (Cert.MmDhGate.main (F := Bits))) ⟨m, fun _ => 0, g⟩ (fun r => (∀ c : Dev Cert.MmDhGate.nD,
      r.2.mem ((c.tc : Thread Cert.MmDhGate.nD Cert.MmDhGate.τ).loc Cert.MmDhGate.main_arg0) = m ((c.tc : Thread Cert.MmDhGate.nD Cert.MmDhGate.τ).loc Cert.MmDhGate.main_arg0)
      ∧ r.2.mem ((c.tc : Thread Cert.MmDhGate.nD Cert.MmDhGate.τ).loc Cert.MmDhGate.main_arg1) = m ((c.tc : Thread Cert.MmDhGate.nD Cert.MmDhGate.τ).loc Cert.MmDhGate.main_arg1))
      ∧ r.2.sem = fun _ => 0)

def quiescent_MmDhGateIdeal [hMmDhGateIdeal : Cert.MmDhGateIdeal.Facts] : Prop :=
  ∀ (m : (ℓ : Loc Cert.MmDhGateIdeal.nD Cert.MmDhGateIdeal.τ Cert.MmDhGateIdeal.sig) → Buf (Elt Ideal) ℓ) (g : Dev Cert.MmDhGateIdeal.nD → PrngReg), Pre_MmDhGateIdeal m →
    θ_run (Cert.MmDhGateIdeal.defs (F := Ideal)) (onTc (τ := Cert.MmDhGateIdeal.τ) (Cert.MmDhGateIdeal.main (F := Ideal))) ⟨m, fun _ => 0, g⟩ (fun r => (∀ c : Dev Cert.MmDhGateIdeal.nD,
      r.2.mem ((c.tc : Thread Cert.MmDhGateIdeal.nD Cert.MmDhGateIdeal.τ).loc Cert.MmDhGateIdeal.main_arg0) = m ((c.tc : Thread Cert.MmDhGateIdeal.nD Cert.MmDhGateIdeal.τ).loc Cert.MmDhGateIdeal.main_arg0)
      ∧ r.2.mem ((c.tc : Thread Cert.MmDhGateIdeal.nD Cert.MmDhGateIdeal.τ).loc Cert.MmDhGateIdeal.main_arg1) = m ((c.tc : Thread Cert.MmDhGateIdeal.nD Cert.MmDhGateIdeal.τ).loc Cert.MmDhGateIdeal.main_arg1))
      ∧ r.2.sem = fun _ => 0)

def quiescent_ReferenceMmDhGate [hReferenceMmDhGate : Cert.ReferenceMmDhGate.Facts] : Prop :=
  ∀ (m : (ℓ : Loc Cert.ReferenceMmDhGate.nD Cert.ReferenceMmDhGate.τ Cert.ReferenceMmDhGate.sig) → Buf (Elt Bits) ℓ) (g : Dev Cert.ReferenceMmDhGate.nD → PrngReg), Pre_ReferenceMmDhGate m →
    θ_run (Cert.ReferenceMmDhGate.defs (F := Bits)) (onTc (τ := Cert.ReferenceMmDhGate.τ) (Cert.ReferenceMmDhGate.main (F := Bits))) ⟨m, fun _ => 0, g⟩ (fun r => (∀ c : Dev Cert.ReferenceMmDhGate.nD,
      r.2.mem ((c.tc : Thread Cert.ReferenceMmDhGate.nD Cert.ReferenceMmDhGate.τ).loc Cert.ReferenceMmDhGate.main_arg0) = m ((c.tc : Thread Cert.ReferenceMmDhGate.nD Cert.ReferenceMmDhGate.τ).loc Cert.ReferenceMmDhGate.main_arg0)
      ∧ r.2.mem ((c.tc : Thread Cert.ReferenceMmDhGate.nD Cert.ReferenceMmDhGate.τ).loc Cert.ReferenceMmDhGate.main_arg1) = m ((c.tc : Thread Cert.ReferenceMmDhGate.nD Cert.ReferenceMmDhGate.τ).loc Cert.ReferenceMmDhGate.main_arg1))
      ∧ r.2.sem = fun _ => 0)

def quiescent_ReferenceMmDhGateIdeal [hReferenceMmDhGateIdeal : Cert.ReferenceMmDhGateIdeal.Facts] : Prop :=
  ∀ (m : (ℓ : Loc Cert.ReferenceMmDhGateIdeal.nD Cert.ReferenceMmDhGateIdeal.τ Cert.ReferenceMmDhGateIdeal.sig) → Buf (Elt Ideal) ℓ) (g : Dev Cert.ReferenceMmDhGateIdeal.nD → PrngReg), Pre_ReferenceMmDhGateIdeal m →
    θ_run (Cert.ReferenceMmDhGateIdeal.defs (F := Ideal)) (onTc (τ := Cert.ReferenceMmDhGateIdeal.τ) (Cert.ReferenceMmDhGateIdeal.main (F := Ideal))) ⟨m, fun _ => 0, g⟩ (fun r => (∀ c : Dev Cert.ReferenceMmDhGateIdeal.nD,
      r.2.mem ((c.tc : Thread Cert.ReferenceMmDhGateIdeal.nD Cert.ReferenceMmDhGateIdeal.τ).loc Cert.ReferenceMmDhGateIdeal.main_arg0) = m ((c.tc : Thread Cert.ReferenceMmDhGateIdeal.nD Cert.ReferenceMmDhGateIdeal.τ).loc Cert.ReferenceMmDhGateIdeal.main_arg0)
      ∧ r.2.mem ((c.tc : Thread Cert.ReferenceMmDhGateIdeal.nD Cert.ReferenceMmDhGateIdeal.τ).loc Cert.ReferenceMmDhGateIdeal.main_arg1) = m ((c.tc : Thread Cert.ReferenceMmDhGateIdeal.nD Cert.ReferenceMmDhGateIdeal.τ).loc Cert.ReferenceMmDhGateIdeal.main_arg1))
      ∧ r.2.sem = fun _ => 0)

def quiescent_MmDhUp [hMmDhUp : Cert.MmDhUp.Facts] : Prop :=
  ∀ (m : (ℓ : Loc Cert.MmDhUp.nD Cert.MmDhUp.τ Cert.MmDhUp.sig) → Buf (Elt Bits) ℓ) (g : Dev Cert.MmDhUp.nD → PrngReg), Pre_MmDhUp m →
    θ_run (Cert.MmDhUp.defs (F := Bits)) (onTc (τ := Cert.MmDhUp.τ) (Cert.MmDhUp.main (F := Bits))) ⟨m, fun _ => 0, g⟩ (fun r => (∀ c : Dev Cert.MmDhUp.nD,
      r.2.mem ((c.tc : Thread Cert.MmDhUp.nD Cert.MmDhUp.τ).loc Cert.MmDhUp.main_arg0) = m ((c.tc : Thread Cert.MmDhUp.nD Cert.MmDhUp.τ).loc Cert.MmDhUp.main_arg0)
      ∧ r.2.mem ((c.tc : Thread Cert.MmDhUp.nD Cert.MmDhUp.τ).loc Cert.MmDhUp.main_arg1) = m ((c.tc : Thread Cert.MmDhUp.nD Cert.MmDhUp.τ).loc Cert.MmDhUp.main_arg1)
      ∧ r.2.mem ((c.tc : Thread Cert.MmDhUp.nD Cert.MmDhUp.τ).loc Cert.MmDhUp.main_arg2) = m ((c.tc : Thread Cert.MmDhUp.nD Cert.MmDhUp.τ).loc Cert.MmDhUp.main_arg2))
      ∧ r.2.sem = fun _ => 0)

def quiescent_MmDhUpIdeal [hMmDhUpIdeal : Cert.MmDhUpIdeal.Facts] : Prop :=
  ∀ (m : (ℓ : Loc Cert.MmDhUpIdeal.nD Cert.MmDhUpIdeal.τ Cert.MmDhUpIdeal.sig) → Buf (Elt Ideal) ℓ) (g : Dev Cert.MmDhUpIdeal.nD → PrngReg), Pre_MmDhUpIdeal m →
    θ_run (Cert.MmDhUpIdeal.defs (F := Ideal)) (onTc (τ := Cert.MmDhUpIdeal.τ) (Cert.MmDhUpIdeal.main (F := Ideal))) ⟨m, fun _ => 0, g⟩ (fun r => (∀ c : Dev Cert.MmDhUpIdeal.nD,
      r.2.mem ((c.tc : Thread Cert.MmDhUpIdeal.nD Cert.MmDhUpIdeal.τ).loc Cert.MmDhUpIdeal.main_arg0) = m ((c.tc : Thread Cert.MmDhUpIdeal.nD Cert.MmDhUpIdeal.τ).loc Cert.MmDhUpIdeal.main_arg0)
      ∧ r.2.mem ((c.tc : Thread Cert.MmDhUpIdeal.nD Cert.MmDhUpIdeal.τ).loc Cert.MmDhUpIdeal.main_arg1) = m ((c.tc : Thread Cert.MmDhUpIdeal.nD Cert.MmDhUpIdeal.τ).loc Cert.MmDhUpIdeal.main_arg1)
      ∧ r.2.mem ((c.tc : Thread Cert.MmDhUpIdeal.nD Cert.MmDhUpIdeal.τ).loc Cert.MmDhUpIdeal.main_arg2) = m ((c.tc : Thread Cert.MmDhUpIdeal.nD Cert.MmDhUpIdeal.τ).loc Cert.MmDhUpIdeal.main_arg2))
      ∧ r.2.sem = fun _ => 0)

def quiescent_ReferenceMmDhUp [hReferenceMmDhUp : Cert.ReferenceMmDhUp.Facts] : Prop :=
  ∀ (m : (ℓ : Loc Cert.ReferenceMmDhUp.nD Cert.ReferenceMmDhUp.τ Cert.ReferenceMmDhUp.sig) → Buf (Elt Bits) ℓ) (g : Dev Cert.ReferenceMmDhUp.nD → PrngReg), Pre_ReferenceMmDhUp m →
    θ_run (Cert.ReferenceMmDhUp.defs (F := Bits)) (onTc (τ := Cert.ReferenceMmDhUp.τ) (Cert.ReferenceMmDhUp.main (F := Bits))) ⟨m, fun _ => 0, g⟩ (fun r => (∀ c : Dev Cert.ReferenceMmDhUp.nD,
      r.2.mem ((c.tc : Thread Cert.ReferenceMmDhUp.nD Cert.ReferenceMmDhUp.τ).loc Cert.ReferenceMmDhUp.main_arg0) = m ((c.tc : Thread Cert.ReferenceMmDhUp.nD Cert.ReferenceMmDhUp.τ).loc Cert.ReferenceMmDhUp.main_arg0)
      ∧ r.2.mem ((c.tc : Thread Cert.ReferenceMmDhUp.nD Cert.ReferenceMmDhUp.τ).loc Cert.ReferenceMmDhUp.main_arg1) = m ((c.tc : Thread Cert.ReferenceMmDhUp.nD Cert.ReferenceMmDhUp.τ).loc Cert.ReferenceMmDhUp.main_arg1)
      ∧ r.2.mem ((c.tc : Thread Cert.ReferenceMmDhUp.nD Cert.ReferenceMmDhUp.τ).loc Cert.ReferenceMmDhUp.main_arg2) = m ((c.tc : Thread Cert.ReferenceMmDhUp.nD Cert.ReferenceMmDhUp.τ).loc Cert.ReferenceMmDhUp.main_arg2))
      ∧ r.2.sem = fun _ => 0)

def quiescent_ReferenceMmDhUpIdeal [hReferenceMmDhUpIdeal : Cert.ReferenceMmDhUpIdeal.Facts] : Prop :=
  ∀ (m : (ℓ : Loc Cert.ReferenceMmDhUpIdeal.nD Cert.ReferenceMmDhUpIdeal.τ Cert.ReferenceMmDhUpIdeal.sig) → Buf (Elt Ideal) ℓ) (g : Dev Cert.ReferenceMmDhUpIdeal.nD → PrngReg), Pre_ReferenceMmDhUpIdeal m →
    θ_run (Cert.ReferenceMmDhUpIdeal.defs (F := Ideal)) (onTc (τ := Cert.ReferenceMmDhUpIdeal.τ) (Cert.ReferenceMmDhUpIdeal.main (F := Ideal))) ⟨m, fun _ => 0, g⟩ (fun r => (∀ c : Dev Cert.ReferenceMmDhUpIdeal.nD,
      r.2.mem ((c.tc : Thread Cert.ReferenceMmDhUpIdeal.nD Cert.ReferenceMmDhUpIdeal.τ).loc Cert.ReferenceMmDhUpIdeal.main_arg0) = m ((c.tc : Thread Cert.ReferenceMmDhUpIdeal.nD Cert.ReferenceMmDhUpIdeal.τ).loc Cert.ReferenceMmDhUpIdeal.main_arg0)
      ∧ r.2.mem ((c.tc : Thread Cert.ReferenceMmDhUpIdeal.nD Cert.ReferenceMmDhUpIdeal.τ).loc Cert.ReferenceMmDhUpIdeal.main_arg1) = m ((c.tc : Thread Cert.ReferenceMmDhUpIdeal.nD Cert.ReferenceMmDhUpIdeal.τ).loc Cert.ReferenceMmDhUpIdeal.main_arg1)
      ∧ r.2.mem ((c.tc : Thread Cert.ReferenceMmDhUpIdeal.nD Cert.ReferenceMmDhUpIdeal.τ).loc Cert.ReferenceMmDhUpIdeal.main_arg2) = m ((c.tc : Thread Cert.ReferenceMmDhUpIdeal.nD Cert.ReferenceMmDhUpIdeal.τ).loc Cert.ReferenceMmDhUpIdeal.main_arg2))
      ∧ r.2.sem = fun _ => 0)

def quiescent_MmSb [hMmSb : Cert.MmSb.Facts] : Prop :=
  ∀ (m : (ℓ : Loc Cert.MmSb.nD Cert.MmSb.τ Cert.MmSb.sig) → Buf (Elt Bits) ℓ) (g : Dev Cert.MmSb.nD → PrngReg), Pre_MmSb m →
    θ_run (Cert.MmSb.defs (F := Bits)) (onTc (τ := Cert.MmSb.τ) (Cert.MmSb.main (F := Bits))) ⟨m, fun _ => 0, g⟩ (fun r => (∀ c : Dev Cert.MmSb.nD,
      r.2.mem ((c.tc : Thread Cert.MmSb.nD Cert.MmSb.τ).loc Cert.MmSb.main_arg0) = m ((c.tc : Thread Cert.MmSb.nD Cert.MmSb.τ).loc Cert.MmSb.main_arg0)
      ∧ r.2.mem ((c.tc : Thread Cert.MmSb.nD Cert.MmSb.τ).loc Cert.MmSb.main_arg1) = m ((c.tc : Thread Cert.MmSb.nD Cert.MmSb.τ).loc Cert.MmSb.main_arg1))
      ∧ r.2.sem = fun _ => 0)

def quiescent_MmSbIdeal [hMmSbIdeal : Cert.MmSbIdeal.Facts] : Prop :=
  ∀ (m : (ℓ : Loc Cert.MmSbIdeal.nD Cert.MmSbIdeal.τ Cert.MmSbIdeal.sig) → Buf (Elt Ideal) ℓ) (g : Dev Cert.MmSbIdeal.nD → PrngReg), Pre_MmSbIdeal m →
    θ_run (Cert.MmSbIdeal.defs (F := Ideal)) (onTc (τ := Cert.MmSbIdeal.τ) (Cert.MmSbIdeal.main (F := Ideal))) ⟨m, fun _ => 0, g⟩ (fun r => (∀ c : Dev Cert.MmSbIdeal.nD,
      r.2.mem ((c.tc : Thread Cert.MmSbIdeal.nD Cert.MmSbIdeal.τ).loc Cert.MmSbIdeal.main_arg0) = m ((c.tc : Thread Cert.MmSbIdeal.nD Cert.MmSbIdeal.τ).loc Cert.MmSbIdeal.main_arg0)
      ∧ r.2.mem ((c.tc : Thread Cert.MmSbIdeal.nD Cert.MmSbIdeal.τ).loc Cert.MmSbIdeal.main_arg1) = m ((c.tc : Thread Cert.MmSbIdeal.nD Cert.MmSbIdeal.τ).loc Cert.MmSbIdeal.main_arg1))
      ∧ r.2.sem = fun _ => 0)

def quiescent_ReferenceMmSb [hReferenceMmSb : Cert.ReferenceMmSb.Facts] : Prop :=
  ∀ (m : (ℓ : Loc Cert.ReferenceMmSb.nD Cert.ReferenceMmSb.τ Cert.ReferenceMmSb.sig) → Buf (Elt Bits) ℓ) (g : Dev Cert.ReferenceMmSb.nD → PrngReg), Pre_ReferenceMmSb m →
    θ_run (Cert.ReferenceMmSb.defs (F := Bits)) (onTc (τ := Cert.ReferenceMmSb.τ) (Cert.ReferenceMmSb.main (F := Bits))) ⟨m, fun _ => 0, g⟩ (fun r => (∀ c : Dev Cert.ReferenceMmSb.nD,
      r.2.mem ((c.tc : Thread Cert.ReferenceMmSb.nD Cert.ReferenceMmSb.τ).loc Cert.ReferenceMmSb.main_arg0) = m ((c.tc : Thread Cert.ReferenceMmSb.nD Cert.ReferenceMmSb.τ).loc Cert.ReferenceMmSb.main_arg0)
      ∧ r.2.mem ((c.tc : Thread Cert.ReferenceMmSb.nD Cert.ReferenceMmSb.τ).loc Cert.ReferenceMmSb.main_arg1) = m ((c.tc : Thread Cert.ReferenceMmSb.nD Cert.ReferenceMmSb.τ).loc Cert.ReferenceMmSb.main_arg1))
      ∧ r.2.sem = fun _ => 0)

def quiescent_ReferenceMmSbIdeal [hReferenceMmSbIdeal : Cert.ReferenceMmSbIdeal.Facts] : Prop :=
  ∀ (m : (ℓ : Loc Cert.ReferenceMmSbIdeal.nD Cert.ReferenceMmSbIdeal.τ Cert.ReferenceMmSbIdeal.sig) → Buf (Elt Ideal) ℓ) (g : Dev Cert.ReferenceMmSbIdeal.nD → PrngReg), Pre_ReferenceMmSbIdeal m →
    θ_run (Cert.ReferenceMmSbIdeal.defs (F := Ideal)) (onTc (τ := Cert.ReferenceMmSbIdeal.τ) (Cert.ReferenceMmSbIdeal.main (F := Ideal))) ⟨m, fun _ => 0, g⟩ (fun r => (∀ c : Dev Cert.ReferenceMmSbIdeal.nD,
      r.2.mem ((c.tc : Thread Cert.ReferenceMmSbIdeal.nD Cert.ReferenceMmSbIdeal.τ).loc Cert.ReferenceMmSbIdeal.main_arg0) = m ((c.tc : Thread Cert.ReferenceMmSbIdeal.nD Cert.ReferenceMmSbIdeal.τ).loc Cert.ReferenceMmSbIdeal.main_arg0)
      ∧ r.2.mem ((c.tc : Thread Cert.ReferenceMmSbIdeal.nD Cert.ReferenceMmSbIdeal.τ).loc Cert.ReferenceMmSbIdeal.main_arg1) = m ((c.tc : Thread Cert.ReferenceMmSbIdeal.nD Cert.ReferenceMmSbIdeal.τ).loc Cert.ReferenceMmSbIdeal.main_arg1))
      ∧ r.2.sem = fun _ => 0)

def quiescent_MmDl [hMmDl : Cert.MmDl.Facts] : Prop :=
  ∀ (m : (ℓ : Loc Cert.MmDl.nD Cert.MmDl.τ Cert.MmDl.sig) → Buf (Elt Bits) ℓ) (g : Dev Cert.MmDl.nD → PrngReg), Pre_MmDl m →
    θ_run (Cert.MmDl.defs (F := Bits)) (onTc (τ := Cert.MmDl.τ) (Cert.MmDl.main (F := Bits))) ⟨m, fun _ => 0, g⟩ (fun r => (∀ c : Dev Cert.MmDl.nD,
      r.2.mem ((c.tc : Thread Cert.MmDl.nD Cert.MmDl.τ).loc Cert.MmDl.main_arg0) = m ((c.tc : Thread Cert.MmDl.nD Cert.MmDl.τ).loc Cert.MmDl.main_arg0)
      ∧ r.2.mem ((c.tc : Thread Cert.MmDl.nD Cert.MmDl.τ).loc Cert.MmDl.main_arg1) = m ((c.tc : Thread Cert.MmDl.nD Cert.MmDl.τ).loc Cert.MmDl.main_arg1))
      ∧ r.2.sem = fun _ => 0)

def quiescent_MmDlIdeal [hMmDlIdeal : Cert.MmDlIdeal.Facts] : Prop :=
  ∀ (m : (ℓ : Loc Cert.MmDlIdeal.nD Cert.MmDlIdeal.τ Cert.MmDlIdeal.sig) → Buf (Elt Ideal) ℓ) (g : Dev Cert.MmDlIdeal.nD → PrngReg), Pre_MmDlIdeal m →
    θ_run (Cert.MmDlIdeal.defs (F := Ideal)) (onTc (τ := Cert.MmDlIdeal.τ) (Cert.MmDlIdeal.main (F := Ideal))) ⟨m, fun _ => 0, g⟩ (fun r => (∀ c : Dev Cert.MmDlIdeal.nD,
      r.2.mem ((c.tc : Thread Cert.MmDlIdeal.nD Cert.MmDlIdeal.τ).loc Cert.MmDlIdeal.main_arg0) = m ((c.tc : Thread Cert.MmDlIdeal.nD Cert.MmDlIdeal.τ).loc Cert.MmDlIdeal.main_arg0)
      ∧ r.2.mem ((c.tc : Thread Cert.MmDlIdeal.nD Cert.MmDlIdeal.τ).loc Cert.MmDlIdeal.main_arg1) = m ((c.tc : Thread Cert.MmDlIdeal.nD Cert.MmDlIdeal.τ).loc Cert.MmDlIdeal.main_arg1))
      ∧ r.2.sem = fun _ => 0)

def quiescent_ReferenceMmDl [hReferenceMmDl : Cert.ReferenceMmDl.Facts] : Prop :=
  ∀ (m : (ℓ : Loc Cert.ReferenceMmDl.nD Cert.ReferenceMmDl.τ Cert.ReferenceMmDl.sig) → Buf (Elt Bits) ℓ) (g : Dev Cert.ReferenceMmDl.nD → PrngReg), Pre_ReferenceMmDl m →
    θ_run (Cert.ReferenceMmDl.defs (F := Bits)) (onTc (τ := Cert.ReferenceMmDl.τ) (Cert.ReferenceMmDl.main (F := Bits))) ⟨m, fun _ => 0, g⟩ (fun r => (∀ c : Dev Cert.ReferenceMmDl.nD,
      r.2.mem ((c.tc : Thread Cert.ReferenceMmDl.nD Cert.ReferenceMmDl.τ).loc Cert.ReferenceMmDl.main_arg0) = m ((c.tc : Thread Cert.ReferenceMmDl.nD Cert.ReferenceMmDl.τ).loc Cert.ReferenceMmDl.main_arg0)
      ∧ r.2.mem ((c.tc : Thread Cert.ReferenceMmDl.nD Cert.ReferenceMmDl.τ).loc Cert.ReferenceMmDl.main_arg1) = m ((c.tc : Thread Cert.ReferenceMmDl.nD Cert.ReferenceMmDl.τ).loc Cert.ReferenceMmDl.main_arg1))
      ∧ r.2.sem = fun _ => 0)

def quiescent_ReferenceMmDlIdeal [hReferenceMmDlIdeal : Cert.ReferenceMmDlIdeal.Facts] : Prop :=
  ∀ (m : (ℓ : Loc Cert.ReferenceMmDlIdeal.nD Cert.ReferenceMmDlIdeal.τ Cert.ReferenceMmDlIdeal.sig) → Buf (Elt Ideal) ℓ) (g : Dev Cert.ReferenceMmDlIdeal.nD → PrngReg), Pre_ReferenceMmDlIdeal m →
    θ_run (Cert.ReferenceMmDlIdeal.defs (F := Ideal)) (onTc (τ := Cert.ReferenceMmDlIdeal.τ) (Cert.ReferenceMmDlIdeal.main (F := Ideal))) ⟨m, fun _ => 0, g⟩ (fun r => (∀ c : Dev Cert.ReferenceMmDlIdeal.nD,
      r.2.mem ((c.tc : Thread Cert.ReferenceMmDlIdeal.nD Cert.ReferenceMmDlIdeal.τ).loc Cert.ReferenceMmDlIdeal.main_arg0) = m ((c.tc : Thread Cert.ReferenceMmDlIdeal.nD Cert.ReferenceMmDlIdeal.τ).loc Cert.ReferenceMmDlIdeal.main_arg0)
      ∧ r.2.mem ((c.tc : Thread Cert.ReferenceMmDlIdeal.nD Cert.ReferenceMmDlIdeal.τ).loc Cert.ReferenceMmDlIdeal.main_arg1) = m ((c.tc : Thread Cert.ReferenceMmDlIdeal.nD Cert.ReferenceMmDlIdeal.τ).loc Cert.ReferenceMmDlIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ r.2.sem = fun _ => 0)

def quiescent_ReferenceMmOut [hReferenceMmOut : Cert.ReferenceMmOut.Facts] : Prop :=
  ∀ (m : (ℓ : Loc Cert.ReferenceMmOut.nD Cert.ReferenceMmOut.τ Cert.ReferenceMmOut.sig) → Buf (Elt Bits) ℓ) (g : Dev Cert.ReferenceMmOut.nD → PrngReg), Pre_ReferenceMmOut m →
    θ_run (Cert.ReferenceMmOut.defs (F := Bits)) (onTc (τ := Cert.ReferenceMmOut.τ) (Cert.ReferenceMmOut.main (F := Bits))) ⟨m, fun _ => 0, g⟩ (fun r => (∀ c : Dev Cert.ReferenceMmOut.nD,
      r.2.mem ((c.tc : Thread Cert.ReferenceMmOut.nD Cert.ReferenceMmOut.τ).loc Cert.ReferenceMmOut.main_arg0) = m ((c.tc : Thread Cert.ReferenceMmOut.nD Cert.ReferenceMmOut.τ).loc Cert.ReferenceMmOut.main_arg0)
      ∧ r.2.mem ((c.tc : Thread Cert.ReferenceMmOut.nD Cert.ReferenceMmOut.τ).loc Cert.ReferenceMmOut.main_arg1) = m ((c.tc : Thread Cert.ReferenceMmOut.nD Cert.ReferenceMmOut.τ).loc Cert.ReferenceMmOut.main_arg1)
      ∧ r.2.mem ((c.tc : Thread Cert.ReferenceMmOut.nD Cert.ReferenceMmOut.τ).loc Cert.ReferenceMmOut.main_arg2) = m ((c.tc : Thread Cert.ReferenceMmOut.nD Cert.ReferenceMmOut.τ).loc Cert.ReferenceMmOut.main_arg2))
      ∧ r.2.sem = fun _ => 0)

def quiescent_ReferenceMmOutIdeal [hReferenceMmOutIdeal : Cert.ReferenceMmOutIdeal.Facts] : Prop :=
  ∀ (m : (ℓ : Loc Cert.ReferenceMmOutIdeal.nD Cert.ReferenceMmOutIdeal.τ Cert.ReferenceMmOutIdeal.sig) → Buf (Elt Ideal) ℓ) (g : Dev Cert.ReferenceMmOutIdeal.nD → PrngReg), Pre_ReferenceMmOutIdeal m →
    θ_run (Cert.ReferenceMmOutIdeal.defs (F := Ideal)) (onTc (τ := Cert.ReferenceMmOutIdeal.τ) (Cert.ReferenceMmOutIdeal.main (F := Ideal))) ⟨m, fun _ => 0, g⟩ (fun r => (∀ c : Dev Cert.ReferenceMmOutIdeal.nD,
      r.2.mem ((c.tc : Thread Cert.ReferenceMmOutIdeal.nD Cert.ReferenceMmOutIdeal.τ).loc Cert.ReferenceMmOutIdeal.main_arg0) = m ((c.tc : Thread Cert.ReferenceMmOutIdeal.nD Cert.ReferenceMmOutIdeal.τ).loc Cert.ReferenceMmOutIdeal.main_arg0)
      ∧ r.2.mem ((c.tc : Thread Cert.ReferenceMmOutIdeal.nD Cert.ReferenceMmOutIdeal.τ).loc Cert.ReferenceMmOutIdeal.main_arg1) = m ((c.tc : Thread Cert.ReferenceMmOutIdeal.nD Cert.ReferenceMmOutIdeal.τ).loc Cert.ReferenceMmOutIdeal.main_arg1)
      ∧ r.2.mem ((c.tc : Thread Cert.ReferenceMmOutIdeal.nD Cert.ReferenceMmOutIdeal.τ).loc Cert.ReferenceMmOutIdeal.main_arg2) = m ((c.tc : Thread Cert.ReferenceMmOutIdeal.nD Cert.ReferenceMmOutIdeal.τ).loc Cert.ReferenceMmOutIdeal.main_arg2))
      ∧ r.2.sem = fun _ => 0)

def quiescent_MmMerged [hMmMerged : Cert.MmMerged.Facts] : Prop :=
  ∀ (m : (ℓ : Loc Cert.MmMerged.nD Cert.MmMerged.τ Cert.MmMerged.sig) → Buf (Elt Bits) ℓ) (g : Dev Cert.MmMerged.nD → PrngReg), Pre_MmMerged m →
    θ_run (Cert.MmMerged.defs (F := Bits)) (onTc (τ := Cert.MmMerged.τ) (Cert.MmMerged.main (F := Bits))) ⟨m, fun _ => 0, g⟩ (fun r => (∀ c : Dev Cert.MmMerged.nD,
      r.2.mem ((c.tc : Thread Cert.MmMerged.nD Cert.MmMerged.τ).loc Cert.MmMerged.main_arg0) = m ((c.tc : Thread Cert.MmMerged.nD Cert.MmMerged.τ).loc Cert.MmMerged.main_arg0)
      ∧ r.2.mem ((c.tc : Thread Cert.MmMerged.nD Cert.MmMerged.τ).loc Cert.MmMerged.main_arg1) = m ((c.tc : Thread Cert.MmMerged.nD Cert.MmMerged.τ).loc Cert.MmMerged.main_arg1))
      ∧ r.2.sem = fun _ => 0)

def quiescent_MmMergedIdeal [hMmMergedIdeal : Cert.MmMergedIdeal.Facts] : Prop :=
  ∀ (m : (ℓ : Loc Cert.MmMergedIdeal.nD Cert.MmMergedIdeal.τ Cert.MmMergedIdeal.sig) → Buf (Elt Ideal) ℓ) (g : Dev Cert.MmMergedIdeal.nD → PrngReg), Pre_MmMergedIdeal m →
    θ_run (Cert.MmMergedIdeal.defs (F := Ideal)) (onTc (τ := Cert.MmMergedIdeal.τ) (Cert.MmMergedIdeal.main (F := Ideal))) ⟨m, fun _ => 0, g⟩ (fun r => (∀ c : Dev Cert.MmMergedIdeal.nD,
      r.2.mem ((c.tc : Thread Cert.MmMergedIdeal.nD Cert.MmMergedIdeal.τ).loc Cert.MmMergedIdeal.main_arg0) = m ((c.tc : Thread Cert.MmMergedIdeal.nD Cert.MmMergedIdeal.τ).loc Cert.MmMergedIdeal.main_arg0)
      ∧ r.2.mem ((c.tc : Thread Cert.MmMergedIdeal.nD Cert.MmMergedIdeal.τ).loc Cert.MmMergedIdeal.main_arg1) = m ((c.tc : Thread Cert.MmMergedIdeal.nD Cert.MmMergedIdeal.τ).loc Cert.MmMergedIdeal.main_arg1))
      ∧ r.2.sem = fun _ => 0)

def quiescent_ReferenceMmMerged [hReferenceMmMerged : Cert.ReferenceMmMerged.Facts] : Prop :=
  ∀ (m : (ℓ : Loc Cert.ReferenceMmMerged.nD Cert.ReferenceMmMerged.τ Cert.ReferenceMmMerged.sig) → Buf (Elt Bits) ℓ) (g : Dev Cert.ReferenceMmMerged.nD → PrngReg), Pre_ReferenceMmMerged m →
    θ_run (Cert.ReferenceMmMerged.defs (F := Bits)) (onTc (τ := Cert.ReferenceMmMerged.τ) (Cert.ReferenceMmMerged.main (F := Bits))) ⟨m, fun _ => 0, g⟩ (fun r => (∀ c : Dev Cert.ReferenceMmMerged.nD,
      r.2.mem ((c.tc : Thread Cert.ReferenceMmMerged.nD Cert.ReferenceMmMerged.τ).loc Cert.ReferenceMmMerged.main_arg0) = m ((c.tc : Thread Cert.ReferenceMmMerged.nD Cert.ReferenceMmMerged.τ).loc Cert.ReferenceMmMerged.main_arg0)
      ∧ r.2.mem ((c.tc : Thread Cert.ReferenceMmMerged.nD Cert.ReferenceMmMerged.τ).loc Cert.ReferenceMmMerged.main_arg1) = m ((c.tc : Thread Cert.ReferenceMmMerged.nD Cert.ReferenceMmMerged.τ).loc Cert.ReferenceMmMerged.main_arg1))
      ∧ r.2.sem = fun _ => 0)

def quiescent_ReferenceMmMergedIdeal [hReferenceMmMergedIdeal : Cert.ReferenceMmMergedIdeal.Facts] : Prop :=
  ∀ (m : (ℓ : Loc Cert.ReferenceMmMergedIdeal.nD Cert.ReferenceMmMergedIdeal.τ Cert.ReferenceMmMergedIdeal.sig) → Buf (Elt Ideal) ℓ) (g : Dev Cert.ReferenceMmMergedIdeal.nD → PrngReg), Pre_ReferenceMmMergedIdeal m →
    θ_run (Cert.ReferenceMmMergedIdeal.defs (F := Ideal)) (onTc (τ := Cert.ReferenceMmMergedIdeal.τ) (Cert.ReferenceMmMergedIdeal.main (F := Ideal))) ⟨m, fun _ => 0, g⟩ (fun r => (∀ c : Dev Cert.ReferenceMmMergedIdeal.nD,
      r.2.mem ((c.tc : Thread Cert.ReferenceMmMergedIdeal.nD Cert.ReferenceMmMergedIdeal.τ).loc Cert.ReferenceMmMergedIdeal.main_arg0) = m ((c.tc : Thread Cert.ReferenceMmMergedIdeal.nD Cert.ReferenceMmMergedIdeal.τ).loc Cert.ReferenceMmMergedIdeal.main_arg0)
      ∧ r.2.mem ((c.tc : Thread Cert.ReferenceMmMergedIdeal.nD Cert.ReferenceMmMergedIdeal.τ).loc Cert.ReferenceMmMergedIdeal.main_arg1) = m ((c.tc : Thread Cert.ReferenceMmMergedIdeal.nD Cert.ReferenceMmMergedIdeal.τ).loc Cert.ReferenceMmMergedIdeal.main_arg1))
      ∧ r.2.sem = fun _ => 0)

def quiescent_MmDhMix [hMmDhMix : Cert.MmDhMix.Facts] : Prop :=
  ∀ (m : (ℓ : Loc Cert.MmDhMix.nD Cert.MmDhMix.τ Cert.MmDhMix.sig) → Buf (Elt Bits) ℓ) (g : Dev Cert.MmDhMix.nD → PrngReg), Pre_MmDhMix m →
    θ_run (Cert.MmDhMix.defs (F := Bits)) (onTc (τ := Cert.MmDhMix.τ) (Cert.MmDhMix.main (F := Bits))) ⟨m, fun _ => 0, g⟩ (fun r => (∀ c : Dev Cert.MmDhMix.nD,
      r.2.mem ((c.tc : Thread Cert.MmDhMix.nD Cert.MmDhMix.τ).loc Cert.MmDhMix.main_arg0) = m ((c.tc : Thread Cert.MmDhMix.nD Cert.MmDhMix.τ).loc Cert.MmDhMix.main_arg0)
      ∧ r.2.mem ((c.tc : Thread Cert.MmDhMix.nD Cert.MmDhMix.τ).loc Cert.MmDhMix.main_arg1) = m ((c.tc : Thread Cert.MmDhMix.nD Cert.MmDhMix.τ).loc Cert.MmDhMix.main_arg1))
      ∧ r.2.sem = fun _ => 0)

def quiescent_MmDhMixIdeal [hMmDhMixIdeal : Cert.MmDhMixIdeal.Facts] : Prop :=
  ∀ (m : (ℓ : Loc Cert.MmDhMixIdeal.nD Cert.MmDhMixIdeal.τ Cert.MmDhMixIdeal.sig) → Buf (Elt Ideal) ℓ) (g : Dev Cert.MmDhMixIdeal.nD → PrngReg), Pre_MmDhMixIdeal m →
    θ_run (Cert.MmDhMixIdeal.defs (F := Ideal)) (onTc (τ := Cert.MmDhMixIdeal.τ) (Cert.MmDhMixIdeal.main (F := Ideal))) ⟨m, fun _ => 0, g⟩ (fun r => (∀ c : Dev Cert.MmDhMixIdeal.nD,
      r.2.mem ((c.tc : Thread Cert.MmDhMixIdeal.nD Cert.MmDhMixIdeal.τ).loc Cert.MmDhMixIdeal.main_arg0) = m ((c.tc : Thread Cert.MmDhMixIdeal.nD Cert.MmDhMixIdeal.τ).loc Cert.MmDhMixIdeal.main_arg0)
      ∧ r.2.mem ((c.tc : Thread Cert.MmDhMixIdeal.nD Cert.MmDhMixIdeal.τ).loc Cert.MmDhMixIdeal.main_arg1) = m ((c.tc : Thread Cert.MmDhMixIdeal.nD Cert.MmDhMixIdeal.τ).loc Cert.MmDhMixIdeal.main_arg1))
      ∧ r.2.sem = fun _ => 0)

def quiescent_ReferenceMmDhMix [hReferenceMmDhMix : Cert.ReferenceMmDhMix.Facts] : Prop :=
  ∀ (m : (ℓ : Loc Cert.ReferenceMmDhMix.nD Cert.ReferenceMmDhMix.τ Cert.ReferenceMmDhMix.sig) → Buf (Elt Bits) ℓ) (g : Dev Cert.ReferenceMmDhMix.nD → PrngReg), Pre_ReferenceMmDhMix m →
    θ_run (Cert.ReferenceMmDhMix.defs (F := Bits)) (onTc (τ := Cert.ReferenceMmDhMix.τ) (Cert.ReferenceMmDhMix.main (F := Bits))) ⟨m, fun _ => 0, g⟩ (fun r => (∀ c : Dev Cert.ReferenceMmDhMix.nD,
      r.2.mem ((c.tc : Thread Cert.ReferenceMmDhMix.nD Cert.ReferenceMmDhMix.τ).loc Cert.ReferenceMmDhMix.main_arg0) = m ((c.tc : Thread Cert.ReferenceMmDhMix.nD Cert.ReferenceMmDhMix.τ).loc Cert.ReferenceMmDhMix.main_arg0)
      ∧ r.2.mem ((c.tc : Thread Cert.ReferenceMmDhMix.nD Cert.ReferenceMmDhMix.τ).loc Cert.ReferenceMmDhMix.main_arg1) = m ((c.tc : Thread Cert.ReferenceMmDhMix.nD Cert.ReferenceMmDhMix.τ).loc Cert.ReferenceMmDhMix.main_arg1))
      ∧ r.2.sem = fun _ => 0)

def quiescent_ReferenceMmDhMixIdeal [hReferenceMmDhMixIdeal : Cert.ReferenceMmDhMixIdeal.Facts] : Prop :=
  ∀ (m : (ℓ : Loc Cert.ReferenceMmDhMixIdeal.nD Cert.ReferenceMmDhMixIdeal.τ Cert.ReferenceMmDhMixIdeal.sig) → Buf (Elt Ideal) ℓ) (g : Dev Cert.ReferenceMmDhMixIdeal.nD → PrngReg), Pre_ReferenceMmDhMixIdeal m →
    θ_run (Cert.ReferenceMmDhMixIdeal.defs (F := Ideal)) (onTc (τ := Cert.ReferenceMmDhMixIdeal.τ) (Cert.ReferenceMmDhMixIdeal.main (F := Ideal))) ⟨m, fun _ => 0, g⟩ (fun r => (∀ c : Dev Cert.ReferenceMmDhMixIdeal.nD,
      r.2.mem ((c.tc : Thread Cert.ReferenceMmDhMixIdeal.nD Cert.ReferenceMmDhMixIdeal.τ).loc Cert.ReferenceMmDhMixIdeal.main_arg0) = m ((c.tc : Thread Cert.ReferenceMmDhMixIdeal.nD Cert.ReferenceMmDhMixIdeal.τ).loc Cert.ReferenceMmDhMixIdeal.main_arg0)
      ∧ r.2.mem ((c.tc : Thread Cert.ReferenceMmDhMixIdeal.nD Cert.ReferenceMmDhMixIdeal.τ).loc Cert.ReferenceMmDhMixIdeal.main_arg1) = m ((c.tc : Thread Cert.ReferenceMmDhMixIdeal.nD Cert.ReferenceMmDhMixIdeal.τ).loc Cert.ReferenceMmDhMixIdeal.main_arg1))
      ∧ r.2.sem = fun _ => 0)

def quiescent_MmDwg [hMmDwg : Cert.MmDwg.Facts] : Prop :=
  ∀ (m : (ℓ : Loc Cert.MmDwg.nD Cert.MmDwg.τ Cert.MmDwg.sig) → Buf (Elt Bits) ℓ) (g : Dev Cert.MmDwg.nD → PrngReg), Pre_MmDwg m →
    θ_run (Cert.MmDwg.defs (F := Bits)) (onTc (τ := Cert.MmDwg.τ) (Cert.MmDwg.main (F := Bits))) ⟨m, fun _ => 0, g⟩ (fun r => (∀ c : Dev Cert.MmDwg.nD,
      r.2.mem ((c.tc : Thread Cert.MmDwg.nD Cert.MmDwg.τ).loc Cert.MmDwg.main_arg0) = m ((c.tc : Thread Cert.MmDwg.nD Cert.MmDwg.τ).loc Cert.MmDwg.main_arg0)
      ∧ r.2.mem ((c.tc : Thread Cert.MmDwg.nD Cert.MmDwg.τ).loc Cert.MmDwg.main_arg1) = m ((c.tc : Thread Cert.MmDwg.nD Cert.MmDwg.τ).loc Cert.MmDwg.main_arg1))
      ∧ r.2.sem = fun _ => 0)

def quiescent_MmDwgIdeal [hMmDwgIdeal : Cert.MmDwgIdeal.Facts] : Prop :=
  ∀ (m : (ℓ : Loc Cert.MmDwgIdeal.nD Cert.MmDwgIdeal.τ Cert.MmDwgIdeal.sig) → Buf (Elt Ideal) ℓ) (g : Dev Cert.MmDwgIdeal.nD → PrngReg), Pre_MmDwgIdeal m →
    θ_run (Cert.MmDwgIdeal.defs (F := Ideal)) (onTc (τ := Cert.MmDwgIdeal.τ) (Cert.MmDwgIdeal.main (F := Ideal))) ⟨m, fun _ => 0, g⟩ (fun r => (∀ c : Dev Cert.MmDwgIdeal.nD,
      r.2.mem ((c.tc : Thread Cert.MmDwgIdeal.nD Cert.MmDwgIdeal.τ).loc Cert.MmDwgIdeal.main_arg0) = m ((c.tc : Thread Cert.MmDwgIdeal.nD Cert.MmDwgIdeal.τ).loc Cert.MmDwgIdeal.main_arg0)
      ∧ r.2.mem ((c.tc : Thread Cert.MmDwgIdeal.nD Cert.MmDwgIdeal.τ).loc Cert.MmDwgIdeal.main_arg1) = m ((c.tc : Thread Cert.MmDwgIdeal.nD Cert.MmDwgIdeal.τ).loc Cert.MmDwgIdeal.main_arg1))
      ∧ r.2.sem = fun _ => 0)

def quiescent_ReferenceMmDwg [hReferenceMmDwg : Cert.ReferenceMmDwg.Facts] : Prop :=
  ∀ (m : (ℓ : Loc Cert.ReferenceMmDwg.nD Cert.ReferenceMmDwg.τ Cert.ReferenceMmDwg.sig) → Buf (Elt Bits) ℓ) (g : Dev Cert.ReferenceMmDwg.nD → PrngReg), Pre_ReferenceMmDwg m →
    θ_run (Cert.ReferenceMmDwg.defs (F := Bits)) (onTc (τ := Cert.ReferenceMmDwg.τ) (Cert.ReferenceMmDwg.main (F := Bits))) ⟨m, fun _ => 0, g⟩ (fun r => (∀ c : Dev Cert.ReferenceMmDwg.nD,
      r.2.mem ((c.tc : Thread Cert.ReferenceMmDwg.nD Cert.ReferenceMmDwg.τ).loc Cert.ReferenceMmDwg.main_arg0) = m ((c.tc : Thread Cert.ReferenceMmDwg.nD Cert.ReferenceMmDwg.τ).loc Cert.ReferenceMmDwg.main_arg0)
      ∧ r.2.mem ((c.tc : Thread Cert.ReferenceMmDwg.nD Cert.ReferenceMmDwg.τ).loc Cert.ReferenceMmDwg.main_arg1) = m ((c.tc : Thread Cert.ReferenceMmDwg.nD Cert.ReferenceMmDwg.τ).loc Cert.ReferenceMmDwg.main_arg1))
      ∧ r.2.sem = fun _ => 0)

def quiescent_ReferenceMmDwgIdeal [hReferenceMmDwgIdeal : Cert.ReferenceMmDwgIdeal.Facts] : Prop :=
  ∀ (m : (ℓ : Loc Cert.ReferenceMmDwgIdeal.nD Cert.ReferenceMmDwgIdeal.τ Cert.ReferenceMmDwgIdeal.sig) → Buf (Elt Ideal) ℓ) (g : Dev Cert.ReferenceMmDwgIdeal.nD → PrngReg), Pre_ReferenceMmDwgIdeal m →
    θ_run (Cert.ReferenceMmDwgIdeal.defs (F := Ideal)) (onTc (τ := Cert.ReferenceMmDwgIdeal.τ) (Cert.ReferenceMmDwgIdeal.main (F := Ideal))) ⟨m, fun _ => 0, g⟩ (fun r => (∀ c : Dev Cert.ReferenceMmDwgIdeal.nD,
      r.2.mem ((c.tc : Thread Cert.ReferenceMmDwgIdeal.nD Cert.ReferenceMmDwgIdeal.τ).loc Cert.ReferenceMmDwgIdeal.main_arg0) = m ((c.tc : Thread Cert.ReferenceMmDwgIdeal.nD Cert.ReferenceMmDwgIdeal.τ).loc Cert.ReferenceMmDwgIdeal.main_arg0)
      ∧ r.2.mem ((c.tc : Thread Cert.ReferenceMmDwgIdeal.nD Cert.ReferenceMmDwgIdeal.τ).loc Cert.ReferenceMmDwgIdeal.main_arg1) = m ((c.tc : Thread Cert.ReferenceMmDwgIdeal.nD Cert.ReferenceMmDwgIdeal.τ).loc Cert.ReferenceMmDwgIdeal.main_arg1))
      ∧ r.2.sem = fun _ => 0)

def quiescent_MmDwd [hMmDwd : Cert.MmDwd.Facts] : Prop :=
  ∀ (m : (ℓ : Loc Cert.MmDwd.nD Cert.MmDwd.τ Cert.MmDwd.sig) → Buf (Elt Bits) ℓ) (g : Dev Cert.MmDwd.nD → PrngReg), Pre_MmDwd m →
    θ_run (Cert.MmDwd.defs (F := Bits)) (onTc (τ := Cert.MmDwd.τ) (Cert.MmDwd.main (F := Bits))) ⟨m, fun _ => 0, g⟩ (fun r => (∀ c : Dev Cert.MmDwd.nD,
      r.2.mem ((c.tc : Thread Cert.MmDwd.nD Cert.MmDwd.τ).loc Cert.MmDwd.main_arg0) = m ((c.tc : Thread Cert.MmDwd.nD Cert.MmDwd.τ).loc Cert.MmDwd.main_arg0)
      ∧ r.2.mem ((c.tc : Thread Cert.MmDwd.nD Cert.MmDwd.τ).loc Cert.MmDwd.main_arg1) = m ((c.tc : Thread Cert.MmDwd.nD Cert.MmDwd.τ).loc Cert.MmDwd.main_arg1))
      ∧ r.2.sem = fun _ => 0)

def quiescent_MmDwdIdeal [hMmDwdIdeal : Cert.MmDwdIdeal.Facts] : Prop :=
  ∀ (m : (ℓ : Loc Cert.MmDwdIdeal.nD Cert.MmDwdIdeal.τ Cert.MmDwdIdeal.sig) → Buf (Elt Ideal) ℓ) (g : Dev Cert.MmDwdIdeal.nD → PrngReg), Pre_MmDwdIdeal m →
    θ_run (Cert.MmDwdIdeal.defs (F := Ideal)) (onTc (τ := Cert.MmDwdIdeal.τ) (Cert.MmDwdIdeal.main (F := Ideal))) ⟨m, fun _ => 0, g⟩ (fun r => (∀ c : Dev Cert.MmDwdIdeal.nD,
      r.2.mem ((c.tc : Thread Cert.MmDwdIdeal.nD Cert.MmDwdIdeal.τ).loc Cert.MmDwdIdeal.main_arg0) = m ((c.tc : Thread Cert.MmDwdIdeal.nD Cert.MmDwdIdeal.τ).loc Cert.MmDwdIdeal.main_arg0)
      ∧ r.2.mem ((c.tc : Thread Cert.MmDwdIdeal.nD Cert.MmDwdIdeal.τ).loc Cert.MmDwdIdeal.main_arg1) = m ((c.tc : Thread Cert.MmDwdIdeal.nD Cert.MmDwdIdeal.τ).loc Cert.MmDwdIdeal.main_arg1))
      ∧ r.2.sem = fun _ => 0)

def quiescent_ReferenceMmDwd [hReferenceMmDwd : Cert.ReferenceMmDwd.Facts] : Prop :=
  ∀ (m : (ℓ : Loc Cert.ReferenceMmDwd.nD Cert.ReferenceMmDwd.τ Cert.ReferenceMmDwd.sig) → Buf (Elt Bits) ℓ) (g : Dev Cert.ReferenceMmDwd.nD → PrngReg), Pre_ReferenceMmDwd m →
    θ_run (Cert.ReferenceMmDwd.defs (F := Bits)) (onTc (τ := Cert.ReferenceMmDwd.τ) (Cert.ReferenceMmDwd.main (F := Bits))) ⟨m, fun _ => 0, g⟩ (fun r => (∀ c : Dev Cert.ReferenceMmDwd.nD,
      r.2.mem ((c.tc : Thread Cert.ReferenceMmDwd.nD Cert.ReferenceMmDwd.τ).loc Cert.ReferenceMmDwd.main_arg0) = m ((c.tc : Thread Cert.ReferenceMmDwd.nD Cert.ReferenceMmDwd.τ).loc Cert.ReferenceMmDwd.main_arg0)
      ∧ r.2.mem ((c.tc : Thread Cert.ReferenceMmDwd.nD Cert.ReferenceMmDwd.τ).loc Cert.ReferenceMmDwd.main_arg1) = m ((c.tc : Thread Cert.ReferenceMmDwd.nD Cert.ReferenceMmDwd.τ).loc Cert.ReferenceMmDwd.main_arg1))
      ∧ r.2.sem = fun _ => 0)

def quiescent_ReferenceMmDwdIdeal [hReferenceMmDwdIdeal : Cert.ReferenceMmDwdIdeal.Facts] : Prop :=
  ∀ (m : (ℓ : Loc Cert.ReferenceMmDwdIdeal.nD Cert.ReferenceMmDwdIdeal.τ Cert.ReferenceMmDwdIdeal.sig) → Buf (Elt Ideal) ℓ) (g : Dev Cert.ReferenceMmDwdIdeal.nD → PrngReg), Pre_ReferenceMmDwdIdeal m →
    θ_run (Cert.ReferenceMmDwdIdeal.defs (F := Ideal)) (onTc (τ := Cert.ReferenceMmDwdIdeal.τ) (Cert.ReferenceMmDwdIdeal.main (F := Ideal))) ⟨m, fun _ => 0, g⟩ (fun r => (∀ c : Dev Cert.ReferenceMmDwdIdeal.nD,
      r.2.mem ((c.tc : Thread Cert.ReferenceMmDwdIdeal.nD Cert.ReferenceMmDwdIdeal.τ).loc Cert.ReferenceMmDwdIdeal.main_arg0) = m ((c.tc : Thread Cert.ReferenceMmDwdIdeal.nD Cert.ReferenceMmDwdIdeal.τ).loc Cert.ReferenceMmDwdIdeal.main_arg0)
      ∧ r.2.mem ((c.tc : Thread Cert.ReferenceMmDwdIdeal.nD Cert.ReferenceMmDwdIdeal.τ).loc Cert.ReferenceMmDwdIdeal.main_arg1) = m ((c.tc : Thread Cert.ReferenceMmDwdIdeal.nD Cert.ReferenceMmDwdIdeal.τ).loc Cert.ReferenceMmDwdIdeal.main_arg1))
      ∧ r.2.sem = fun _ => 0)

def quiescent_MmDwOut [hMmDwOut : Cert.MmDwOut.Facts] : Prop :=
  ∀ (m : (ℓ : Loc Cert.MmDwOut.nD Cert.MmDwOut.τ Cert.MmDwOut.sig) → Buf (Elt Bits) ℓ) (g : Dev Cert.MmDwOut.nD → PrngReg), Pre_MmDwOut m →
    θ_run (Cert.MmDwOut.defs (F := Bits)) (onTc (τ := Cert.MmDwOut.τ) (Cert.MmDwOut.main (F := Bits))) ⟨m, fun _ => 0, g⟩ (fun r => (∀ c : Dev Cert.MmDwOut.nD,
      r.2.mem ((c.tc : Thread Cert.MmDwOut.nD Cert.MmDwOut.τ).loc Cert.MmDwOut.main_arg0) = m ((c.tc : Thread Cert.MmDwOut.nD Cert.MmDwOut.τ).loc Cert.MmDwOut.main_arg0)
      ∧ r.2.mem ((c.tc : Thread Cert.MmDwOut.nD Cert.MmDwOut.τ).loc Cert.MmDwOut.main_arg1) = m ((c.tc : Thread Cert.MmDwOut.nD Cert.MmDwOut.τ).loc Cert.MmDwOut.main_arg1))
      ∧ r.2.sem = fun _ => 0)

def quiescent_MmDwOutIdeal [hMmDwOutIdeal : Cert.MmDwOutIdeal.Facts] : Prop :=
  ∀ (m : (ℓ : Loc Cert.MmDwOutIdeal.nD Cert.MmDwOutIdeal.τ Cert.MmDwOutIdeal.sig) → Buf (Elt Ideal) ℓ) (g : Dev Cert.MmDwOutIdeal.nD → PrngReg), Pre_MmDwOutIdeal m →
    θ_run (Cert.MmDwOutIdeal.defs (F := Ideal)) (onTc (τ := Cert.MmDwOutIdeal.τ) (Cert.MmDwOutIdeal.main (F := Ideal))) ⟨m, fun _ => 0, g⟩ (fun r => (∀ c : Dev Cert.MmDwOutIdeal.nD,
      r.2.mem ((c.tc : Thread Cert.MmDwOutIdeal.nD Cert.MmDwOutIdeal.τ).loc Cert.MmDwOutIdeal.main_arg0) = m ((c.tc : Thread Cert.MmDwOutIdeal.nD Cert.MmDwOutIdeal.τ).loc Cert.MmDwOutIdeal.main_arg0)
      ∧ r.2.mem ((c.tc : Thread Cert.MmDwOutIdeal.nD Cert.MmDwOutIdeal.τ).loc Cert.MmDwOutIdeal.main_arg1) = m ((c.tc : Thread Cert.MmDwOutIdeal.nD Cert.MmDwOutIdeal.τ).loc Cert.MmDwOutIdeal.main_arg1))
      ∧ r.2.sem = fun _ => 0)

def quiescent_ReferenceMmDwOut [hReferenceMmDwOut : Cert.ReferenceMmDwOut.Facts] : Prop :=
  ∀ (m : (ℓ : Loc Cert.ReferenceMmDwOut.nD Cert.ReferenceMmDwOut.τ Cert.ReferenceMmDwOut.sig) → Buf (Elt Bits) ℓ) (g : Dev Cert.ReferenceMmDwOut.nD → PrngReg), Pre_ReferenceMmDwOut m →
    θ_run (Cert.ReferenceMmDwOut.defs (F := Bits)) (onTc (τ := Cert.ReferenceMmDwOut.τ) (Cert.ReferenceMmDwOut.main (F := Bits))) ⟨m, fun _ => 0, g⟩ (fun r => (∀ c : Dev Cert.ReferenceMmDwOut.nD,
      r.2.mem ((c.tc : Thread Cert.ReferenceMmDwOut.nD Cert.ReferenceMmDwOut.τ).loc Cert.ReferenceMmDwOut.main_arg0) = m ((c.tc : Thread Cert.ReferenceMmDwOut.nD Cert.ReferenceMmDwOut.τ).loc Cert.ReferenceMmDwOut.main_arg0)
      ∧ r.2.mem ((c.tc : Thread Cert.ReferenceMmDwOut.nD Cert.ReferenceMmDwOut.τ).loc Cert.ReferenceMmDwOut.main_arg1) = m ((c.tc : Thread Cert.ReferenceMmDwOut.nD Cert.ReferenceMmDwOut.τ).loc Cert.ReferenceMmDwOut.main_arg1))
      ∧ r.2.sem = fun _ => 0)

def quiescent_ReferenceMmDwOutIdeal [hReferenceMmDwOutIdeal : Cert.ReferenceMmDwOutIdeal.Facts] : Prop :=
  ∀ (m : (ℓ : Loc Cert.ReferenceMmDwOutIdeal.nD Cert.ReferenceMmDwOutIdeal.τ Cert.ReferenceMmDwOutIdeal.sig) → Buf (Elt Ideal) ℓ) (g : Dev Cert.ReferenceMmDwOutIdeal.nD → PrngReg), Pre_ReferenceMmDwOutIdeal m →
    θ_run (Cert.ReferenceMmDwOutIdeal.defs (F := Ideal)) (onTc (τ := Cert.ReferenceMmDwOutIdeal.τ) (Cert.ReferenceMmDwOutIdeal.main (F := Ideal))) ⟨m, fun _ => 0, g⟩ (fun r => (∀ c : Dev Cert.ReferenceMmDwOutIdeal.nD,
      r.2.mem ((c.tc : Thread Cert.ReferenceMmDwOutIdeal.nD Cert.ReferenceMmDwOutIdeal.τ).loc Cert.ReferenceMmDwOutIdeal.main_arg0) = m ((c.tc : Thread Cert.ReferenceMmDwOutIdeal.nD Cert.ReferenceMmDwOutIdeal.τ).loc Cert.ReferenceMmDwOutIdeal.main_arg0)
      ∧ r.2.mem ((c.tc : Thread Cert.ReferenceMmDwOutIdeal.nD Cert.ReferenceMmDwOutIdeal.τ).loc Cert.ReferenceMmDwOutIdeal.main_arg1) = m ((c.tc : Thread Cert.ReferenceMmDwOutIdeal.nD Cert.ReferenceMmDwOutIdeal.τ).loc Cert.ReferenceMmDwOutIdeal.main_arg1))
      ∧ r.2.sem = fun _ => 0)

def quiescent_MmDwIn [hMmDwIn : Cert.MmDwIn.Facts] : Prop :=
  ∀ (m : (ℓ : Loc Cert.MmDwIn.nD Cert.MmDwIn.τ Cert.MmDwIn.sig) → Buf (Elt Bits) ℓ) (g : Dev Cert.MmDwIn.nD → PrngReg), Pre_MmDwIn m →
    θ_run (Cert.MmDwIn.defs (F := Bits)) (onTc (τ := Cert.MmDwIn.τ) (Cert.MmDwIn.main (F := Bits))) ⟨m, fun _ => 0, g⟩ (fun r => (∀ c : Dev Cert.MmDwIn.nD,
      r.2.mem ((c.tc : Thread Cert.MmDwIn.nD Cert.MmDwIn.τ).loc Cert.MmDwIn.main_arg0) = m ((c.tc : Thread Cert.MmDwIn.nD Cert.MmDwIn.τ).loc Cert.MmDwIn.main_arg0)
      ∧ r.2.mem ((c.tc : Thread Cert.MmDwIn.nD Cert.MmDwIn.τ).loc Cert.MmDwIn.main_arg1) = m ((c.tc : Thread Cert.MmDwIn.nD Cert.MmDwIn.τ).loc Cert.MmDwIn.main_arg1))
      ∧ r.2.sem = fun _ => 0)

def quiescent_MmDwInIdeal [hMmDwInIdeal : Cert.MmDwInIdeal.Facts] : Prop :=
  ∀ (m : (ℓ : Loc Cert.MmDwInIdeal.nD Cert.MmDwInIdeal.τ Cert.MmDwInIdeal.sig) → Buf (Elt Ideal) ℓ) (g : Dev Cert.MmDwInIdeal.nD → PrngReg), Pre_MmDwInIdeal m →
    θ_run (Cert.MmDwInIdeal.defs (F := Ideal)) (onTc (τ := Cert.MmDwInIdeal.τ) (Cert.MmDwInIdeal.main (F := Ideal))) ⟨m, fun _ => 0, g⟩ (fun r => (∀ c : Dev Cert.MmDwInIdeal.nD,
      r.2.mem ((c.tc : Thread Cert.MmDwInIdeal.nD Cert.MmDwInIdeal.τ).loc Cert.MmDwInIdeal.main_arg0) = m ((c.tc : Thread Cert.MmDwInIdeal.nD Cert.MmDwInIdeal.τ).loc Cert.MmDwInIdeal.main_arg0)
      ∧ r.2.mem ((c.tc : Thread Cert.MmDwInIdeal.nD Cert.MmDwInIdeal.τ).loc Cert.MmDwInIdeal.main_arg1) = m ((c.tc : Thread Cert.MmDwInIdeal.nD Cert.MmDwInIdeal.τ).loc Cert.MmDwInIdeal.main_arg1))
      ∧ r.2.sem = fun _ => 0)

def quiescent_ReferenceMmDwIn [hReferenceMmDwIn : Cert.ReferenceMmDwIn.Facts] : Prop :=
  ∀ (m : (ℓ : Loc Cert.ReferenceMmDwIn.nD Cert.ReferenceMmDwIn.τ Cert.ReferenceMmDwIn.sig) → Buf (Elt Bits) ℓ) (g : Dev Cert.ReferenceMmDwIn.nD → PrngReg), Pre_ReferenceMmDwIn m →
    θ_run (Cert.ReferenceMmDwIn.defs (F := Bits)) (onTc (τ := Cert.ReferenceMmDwIn.τ) (Cert.ReferenceMmDwIn.main (F := Bits))) ⟨m, fun _ => 0, g⟩ (fun r => (∀ c : Dev Cert.ReferenceMmDwIn.nD,
      r.2.mem ((c.tc : Thread Cert.ReferenceMmDwIn.nD Cert.ReferenceMmDwIn.τ).loc Cert.ReferenceMmDwIn.main_arg0) = m ((c.tc : Thread Cert.ReferenceMmDwIn.nD Cert.ReferenceMmDwIn.τ).loc Cert.ReferenceMmDwIn.main_arg0)
      ∧ r.2.mem ((c.tc : Thread Cert.ReferenceMmDwIn.nD Cert.ReferenceMmDwIn.τ).loc Cert.ReferenceMmDwIn.main_arg1) = m ((c.tc : Thread Cert.ReferenceMmDwIn.nD Cert.ReferenceMmDwIn.τ).loc Cert.ReferenceMmDwIn.main_arg1))
      ∧ r.2.sem = fun _ => 0)

def quiescent_ReferenceMmDwInIdeal [hReferenceMmDwInIdeal : Cert.ReferenceMmDwInIdeal.Facts] : Prop :=
  ∀ (m : (ℓ : Loc Cert.ReferenceMmDwInIdeal.nD Cert.ReferenceMmDwInIdeal.τ Cert.ReferenceMmDwInIdeal.sig) → Buf (Elt Ideal) ℓ) (g : Dev Cert.ReferenceMmDwInIdeal.nD → PrngReg), Pre_ReferenceMmDwInIdeal m →
    θ_run (Cert.ReferenceMmDwInIdeal.defs (F := Ideal)) (onTc (τ := Cert.ReferenceMmDwInIdeal.τ) (Cert.ReferenceMmDwInIdeal.main (F := Ideal))) ⟨m, fun _ => 0, g⟩ (fun r => (∀ c : Dev Cert.ReferenceMmDwInIdeal.nD,
      r.2.mem ((c.tc : Thread Cert.ReferenceMmDwInIdeal.nD Cert.ReferenceMmDwInIdeal.τ).loc Cert.ReferenceMmDwInIdeal.main_arg0) = m ((c.tc : Thread Cert.ReferenceMmDwInIdeal.nD Cert.ReferenceMmDwInIdeal.τ).loc Cert.ReferenceMmDwInIdeal.main_arg0)
      ∧ r.2.mem ((c.tc : Thread Cert.ReferenceMmDwInIdeal.nD Cert.ReferenceMmDwInIdeal.τ).loc Cert.ReferenceMmDwInIdeal.main_arg1) = m ((c.tc : Thread Cert.ReferenceMmDwInIdeal.nD Cert.ReferenceMmDwInIdeal.τ).loc Cert.ReferenceMmDwInIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_ReferenceLossHead [hReferenceLossHead : Cert.ReferenceLossHead.Facts] : Prop :=
  ∀ (m : (ℓ : Loc Cert.ReferenceLossHead.nD Cert.ReferenceLossHead.τ Cert.ReferenceLossHead.sig) → Buf (Elt Bits) ℓ) (g : Dev Cert.ReferenceLossHead.nD → PrngReg), Pre_ReferenceLossHead m →
    θ_run (Cert.ReferenceLossHead.defs (F := Bits)) (onTc (τ := Cert.ReferenceLossHead.τ) (Cert.ReferenceLossHead.main (F := Bits))) ⟨m, fun _ => 0, g⟩ (fun r => (∀ c : Dev Cert.ReferenceLossHead.nD,
      r.2.mem ((c.tc : Thread Cert.ReferenceLossHead.nD Cert.ReferenceLossHead.τ).loc Cert.ReferenceLossHead.main_arg0) = m ((c.tc : Thread Cert.ReferenceLossHead.nD Cert.ReferenceLossHead.τ).loc Cert.ReferenceLossHead.main_arg0)
      ∧ r.2.mem ((c.tc : Thread Cert.ReferenceLossHead.nD Cert.ReferenceLossHead.τ).loc Cert.ReferenceLossHead.main_arg1) = m ((c.tc : Thread Cert.ReferenceLossHead.nD Cert.ReferenceLossHead.τ).loc Cert.ReferenceLossHead.main_arg1)
      ∧ r.2.mem ((c.tc : Thread Cert.ReferenceLossHead.nD Cert.ReferenceLossHead.τ).loc Cert.ReferenceLossHead.main_arg2) = m ((c.tc : Thread Cert.ReferenceLossHead.nD Cert.ReferenceLossHead.τ).loc Cert.ReferenceLossHead.main_arg2))
      ∧ r.2.sem = fun _ => 0)

def quiescent_ReferenceLossHeadIdeal [hReferenceLossHeadIdeal : Cert.ReferenceLossHeadIdeal.Facts] : Prop :=
  ∀ (m : (ℓ : Loc Cert.ReferenceLossHeadIdeal.nD Cert.ReferenceLossHeadIdeal.τ Cert.ReferenceLossHeadIdeal.sig) → Buf (Elt Ideal) ℓ) (g : Dev Cert.ReferenceLossHeadIdeal.nD → PrngReg), Pre_ReferenceLossHeadIdeal m →
    θ_run (Cert.ReferenceLossHeadIdeal.defs (F := Ideal)) (onTc (τ := Cert.ReferenceLossHeadIdeal.τ) (Cert.ReferenceLossHeadIdeal.main (F := Ideal))) ⟨m, fun _ => 0, g⟩ (fun r => (∀ c : Dev Cert.ReferenceLossHeadIdeal.nD,
      r.2.mem ((c.tc : Thread Cert.ReferenceLossHeadIdeal.nD Cert.ReferenceLossHeadIdeal.τ).loc Cert.ReferenceLossHeadIdeal.main_arg0) = m ((c.tc : Thread Cert.ReferenceLossHeadIdeal.nD Cert.ReferenceLossHeadIdeal.τ).loc Cert.ReferenceLossHeadIdeal.main_arg0)
      ∧ r.2.mem ((c.tc : Thread Cert.ReferenceLossHeadIdeal.nD Cert.ReferenceLossHeadIdeal.τ).loc Cert.ReferenceLossHeadIdeal.main_arg1) = m ((c.tc : Thread Cert.ReferenceLossHeadIdeal.nD Cert.ReferenceLossHeadIdeal.τ).loc Cert.ReferenceLossHeadIdeal.main_arg1)
      ∧ r.2.mem ((c.tc : Thread Cert.ReferenceLossHeadIdeal.nD Cert.ReferenceLossHeadIdeal.τ).loc Cert.ReferenceLossHeadIdeal.main_arg2) = m ((c.tc : Thread Cert.ReferenceLossHeadIdeal.nD Cert.ReferenceLossHeadIdeal.τ).loc Cert.ReferenceLossHeadIdeal.main_arg2))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_ReferenceOutNorm [hReferenceOutNorm : Cert.ReferenceOutNorm.Facts] : Prop :=
  ∀ (m : (ℓ : Loc Cert.ReferenceOutNorm.nD Cert.ReferenceOutNorm.τ Cert.ReferenceOutNorm.sig) → Buf (Elt Bits) ℓ) (g : Dev Cert.ReferenceOutNorm.nD → PrngReg), Pre_ReferenceOutNorm m →
    θ_run (Cert.ReferenceOutNorm.defs (F := Bits)) (onTc (τ := Cert.ReferenceOutNorm.τ) (Cert.ReferenceOutNorm.main (F := Bits))) ⟨m, fun _ => 0, g⟩ (fun r => (∀ c : Dev Cert.ReferenceOutNorm.nD,
      r.2.mem ((c.tc : Thread Cert.ReferenceOutNorm.nD Cert.ReferenceOutNorm.τ).loc Cert.ReferenceOutNorm.main_arg0) = m ((c.tc : Thread Cert.ReferenceOutNorm.nD Cert.ReferenceOutNorm.τ).loc Cert.ReferenceOutNorm.main_arg0)
      ∧ r.2.mem ((c.tc : Thread Cert.ReferenceOutNorm.nD Cert.ReferenceOutNorm.τ).loc Cert.ReferenceOutNorm.main_arg1) = m ((c.tc : Thread Cert.ReferenceOutNorm.nD Cert.ReferenceOutNorm.τ).loc Cert.ReferenceOutNorm.main_arg1)
      ∧ r.2.mem ((c.tc : Thread Cert.ReferenceOutNorm.nD Cert.ReferenceOutNorm.τ).loc Cert.ReferenceOutNorm.main_arg2) = m ((c.tc : Thread Cert.ReferenceOutNorm.nD Cert.ReferenceOutNorm.τ).loc Cert.ReferenceOutNorm.main_arg2)
      ∧ r.2.mem ((c.tc : Thread Cert.ReferenceOutNorm.nD Cert.ReferenceOutNorm.τ).loc Cert.ReferenceOutNorm.main_arg3) = m ((c.tc : Thread Cert.ReferenceOutNorm.nD Cert.ReferenceOutNorm.τ).loc Cert.ReferenceOutNorm.main_arg3))
      ∧ r.2.sem = fun _ => 0)

def quiescent_ReferenceOutNormIdeal [hReferenceOutNormIdeal : Cert.ReferenceOutNormIdeal.Facts] : Prop :=
  ∀ (m : (ℓ : Loc Cert.ReferenceOutNormIdeal.nD Cert.ReferenceOutNormIdeal.τ Cert.ReferenceOutNormIdeal.sig) → Buf (Elt Ideal) ℓ) (g : Dev Cert.ReferenceOutNormIdeal.nD → PrngReg), Pre_ReferenceOutNormIdeal m →
    θ_run (Cert.ReferenceOutNormIdeal.defs (F := Ideal)) (onTc (τ := Cert.ReferenceOutNormIdeal.τ) (Cert.ReferenceOutNormIdeal.main (F := Ideal))) ⟨m, fun _ => 0, g⟩ (fun r => (∀ c : Dev Cert.ReferenceOutNormIdeal.nD,
      r.2.mem ((c.tc : Thread Cert.ReferenceOutNormIdeal.nD Cert.ReferenceOutNormIdeal.τ).loc Cert.ReferenceOutNormIdeal.main_arg0) = m ((c.tc : Thread Cert.ReferenceOutNormIdeal.nD Cert.ReferenceOutNormIdeal.τ).loc Cert.ReferenceOutNormIdeal.main_arg0)
      ∧ r.2.mem ((c.tc : Thread Cert.ReferenceOutNormIdeal.nD Cert.ReferenceOutNormIdeal.τ).loc Cert.ReferenceOutNormIdeal.main_arg1) = m ((c.tc : Thread Cert.ReferenceOutNormIdeal.nD Cert.ReferenceOutNormIdeal.τ).loc Cert.ReferenceOutNormIdeal.main_arg1)
      ∧ r.2.mem ((c.tc : Thread Cert.ReferenceOutNormIdeal.nD Cert.ReferenceOutNormIdeal.τ).loc Cert.ReferenceOutNormIdeal.main_arg2) = m ((c.tc : Thread Cert.ReferenceOutNormIdeal.nD Cert.ReferenceOutNormIdeal.τ).loc Cert.ReferenceOutNormIdeal.main_arg2)
      ∧ r.2.mem ((c.tc : Thread Cert.ReferenceOutNormIdeal.nD Cert.ReferenceOutNormIdeal.τ).loc Cert.ReferenceOutNormIdeal.main_arg3) = m ((c.tc : Thread Cert.ReferenceOutNormIdeal.nD Cert.ReferenceOutNormIdeal.τ).loc Cert.ReferenceOutNormIdeal.main_arg3))
      ∧ r.2.sem = fun _ => 0)

def quiescent_OutNormBwd [hOutNormBwd : Cert.OutNormBwd.Facts] : Prop :=
  ∀ (m : (ℓ : Loc Cert.OutNormBwd.nD Cert.OutNormBwd.τ Cert.OutNormBwd.sig) → Buf (Elt Bits) ℓ) (g : Dev Cert.OutNormBwd.nD → PrngReg), Pre_OutNormBwd m →
    θ_run (Cert.OutNormBwd.defs (F := Bits)) (onTc (τ := Cert.OutNormBwd.τ) (Cert.OutNormBwd.main (F := Bits))) ⟨m, fun _ => 0, g⟩ (fun r => (∀ c : Dev Cert.OutNormBwd.nD,
      r.2.mem ((c.tc : Thread Cert.OutNormBwd.nD Cert.OutNormBwd.τ).loc Cert.OutNormBwd.main_arg0) = m ((c.tc : Thread Cert.OutNormBwd.nD Cert.OutNormBwd.τ).loc Cert.OutNormBwd.main_arg0)
      ∧ r.2.mem ((c.tc : Thread Cert.OutNormBwd.nD Cert.OutNormBwd.τ).loc Cert.OutNormBwd.main_arg1) = m ((c.tc : Thread Cert.OutNormBwd.nD Cert.OutNormBwd.τ).loc Cert.OutNormBwd.main_arg1)
      ∧ r.2.mem ((c.tc : Thread Cert.OutNormBwd.nD Cert.OutNormBwd.τ).loc Cert.OutNormBwd.main_arg2) = m ((c.tc : Thread Cert.OutNormBwd.nD Cert.OutNormBwd.τ).loc Cert.OutNormBwd.main_arg2)
      ∧ r.2.mem ((c.tc : Thread Cert.OutNormBwd.nD Cert.OutNormBwd.τ).loc Cert.OutNormBwd.main_arg3) = m ((c.tc : Thread Cert.OutNormBwd.nD Cert.OutNormBwd.τ).loc Cert.OutNormBwd.main_arg3)
      ∧ r.2.mem ((c.tc : Thread Cert.OutNormBwd.nD Cert.OutNormBwd.τ).loc Cert.OutNormBwd.main_arg4) = m ((c.tc : Thread Cert.OutNormBwd.nD Cert.OutNormBwd.τ).loc Cert.OutNormBwd.main_arg4))
      ∧ r.2.sem = fun _ => 0)

def quiescent_OutNormBwdIdeal [hOutNormBwdIdeal : Cert.OutNormBwdIdeal.Facts] : Prop :=
  ∀ (m : (ℓ : Loc Cert.OutNormBwdIdeal.nD Cert.OutNormBwdIdeal.τ Cert.OutNormBwdIdeal.sig) → Buf (Elt Ideal) ℓ) (g : Dev Cert.OutNormBwdIdeal.nD → PrngReg), Pre_OutNormBwdIdeal m →
    θ_run (Cert.OutNormBwdIdeal.defs (F := Ideal)) (onTc (τ := Cert.OutNormBwdIdeal.τ) (Cert.OutNormBwdIdeal.main (F := Ideal))) ⟨m, fun _ => 0, g⟩ (fun r => (∀ c : Dev Cert.OutNormBwdIdeal.nD,
      r.2.mem ((c.tc : Thread Cert.OutNormBwdIdeal.nD Cert.OutNormBwdIdeal.τ).loc Cert.OutNormBwdIdeal.main_arg0) = m ((c.tc : Thread Cert.OutNormBwdIdeal.nD Cert.OutNormBwdIdeal.τ).loc Cert.OutNormBwdIdeal.main_arg0)
      ∧ r.2.mem ((c.tc : Thread Cert.OutNormBwdIdeal.nD Cert.OutNormBwdIdeal.τ).loc Cert.OutNormBwdIdeal.main_arg1) = m ((c.tc : Thread Cert.OutNormBwdIdeal.nD Cert.OutNormBwdIdeal.τ).loc Cert.OutNormBwdIdeal.main_arg1)
      ∧ r.2.mem ((c.tc : Thread Cert.OutNormBwdIdeal.nD Cert.OutNormBwdIdeal.τ).loc Cert.OutNormBwdIdeal.main_arg2) = m ((c.tc : Thread Cert.OutNormBwdIdeal.nD Cert.OutNormBwdIdeal.τ).loc Cert.OutNormBwdIdeal.main_arg2)
      ∧ r.2.mem ((c.tc : Thread Cert.OutNormBwdIdeal.nD Cert.OutNormBwdIdeal.τ).loc Cert.OutNormBwdIdeal.main_arg3) = m ((c.tc : Thread Cert.OutNormBwdIdeal.nD Cert.OutNormBwdIdeal.τ).loc Cert.OutNormBwdIdeal.main_arg3)
      ∧ r.2.mem ((c.tc : Thread Cert.OutNormBwdIdeal.nD Cert.OutNormBwdIdeal.τ).loc Cert.OutNormBwdIdeal.main_arg4) = m ((c.tc : Thread Cert.OutNormBwdIdeal.nD Cert.OutNormBwdIdeal.τ).loc Cert.OutNormBwdIdeal.main_arg4))
      ∧ r.2.sem = fun _ => 0)

def quiescent_ReferenceOutNormBwd [hReferenceOutNormBwd : Cert.ReferenceOutNormBwd.Facts] : Prop :=
  ∀ (m : (ℓ : Loc Cert.ReferenceOutNormBwd.nD Cert.ReferenceOutNormBwd.τ Cert.ReferenceOutNormBwd.sig) → Buf (Elt Bits) ℓ) (g : Dev Cert.ReferenceOutNormBwd.nD → PrngReg), Pre_ReferenceOutNormBwd m →
    θ_run (Cert.ReferenceOutNormBwd.defs (F := Bits)) (onTc (τ := Cert.ReferenceOutNormBwd.τ) (Cert.ReferenceOutNormBwd.main (F := Bits))) ⟨m, fun _ => 0, g⟩ (fun r => (∀ c : Dev Cert.ReferenceOutNormBwd.nD,
      r.2.mem ((c.tc : Thread Cert.ReferenceOutNormBwd.nD Cert.ReferenceOutNormBwd.τ).loc Cert.ReferenceOutNormBwd.main_arg0) = m ((c.tc : Thread Cert.ReferenceOutNormBwd.nD Cert.ReferenceOutNormBwd.τ).loc Cert.ReferenceOutNormBwd.main_arg0)
      ∧ r.2.mem ((c.tc : Thread Cert.ReferenceOutNormBwd.nD Cert.ReferenceOutNormBwd.τ).loc Cert.ReferenceOutNormBwd.main_arg1) = m ((c.tc : Thread Cert.ReferenceOutNormBwd.nD Cert.ReferenceOutNormBwd.τ).loc Cert.ReferenceOutNormBwd.main_arg1)
      ∧ r.2.mem ((c.tc : Thread Cert.ReferenceOutNormBwd.nD Cert.ReferenceOutNormBwd.τ).loc Cert.ReferenceOutNormBwd.main_arg2) = m ((c.tc : Thread Cert.ReferenceOutNormBwd.nD Cert.ReferenceOutNormBwd.τ).loc Cert.ReferenceOutNormBwd.main_arg2)
      ∧ r.2.mem ((c.tc : Thread Cert.ReferenceOutNormBwd.nD Cert.ReferenceOutNormBwd.τ).loc Cert.ReferenceOutNormBwd.main_arg3) = m ((c.tc : Thread Cert.ReferenceOutNormBwd.nD Cert.ReferenceOutNormBwd.τ).loc Cert.ReferenceOutNormBwd.main_arg3)
      ∧ r.2.mem ((c.tc : Thread Cert.ReferenceOutNormBwd.nD Cert.ReferenceOutNormBwd.τ).loc Cert.ReferenceOutNormBwd.main_arg4) = m ((c.tc : Thread Cert.ReferenceOutNormBwd.nD Cert.ReferenceOutNormBwd.τ).loc Cert.ReferenceOutNormBwd.main_arg4))
      ∧ r.2.sem = fun _ => 0)

def quiescent_ReferenceOutNormBwdIdeal [hReferenceOutNormBwdIdeal : Cert.ReferenceOutNormBwdIdeal.Facts] : Prop :=
  ∀ (m : (ℓ : Loc Cert.ReferenceOutNormBwdIdeal.nD Cert.ReferenceOutNormBwdIdeal.τ Cert.ReferenceOutNormBwdIdeal.sig) → Buf (Elt Ideal) ℓ) (g : Dev Cert.ReferenceOutNormBwdIdeal.nD → PrngReg), Pre_ReferenceOutNormBwdIdeal m →
    θ_run (Cert.ReferenceOutNormBwdIdeal.defs (F := Ideal)) (onTc (τ := Cert.ReferenceOutNormBwdIdeal.τ) (Cert.ReferenceOutNormBwdIdeal.main (F := Ideal))) ⟨m, fun _ => 0, g⟩ (fun r => (∀ c : Dev Cert.ReferenceOutNormBwdIdeal.nD,
      r.2.mem ((c.tc : Thread Cert.ReferenceOutNormBwdIdeal.nD Cert.ReferenceOutNormBwdIdeal.τ).loc Cert.ReferenceOutNormBwdIdeal.main_arg0) = m ((c.tc : Thread Cert.ReferenceOutNormBwdIdeal.nD Cert.ReferenceOutNormBwdIdeal.τ).loc Cert.ReferenceOutNormBwdIdeal.main_arg0)
      ∧ r.2.mem ((c.tc : Thread Cert.ReferenceOutNormBwdIdeal.nD Cert.ReferenceOutNormBwdIdeal.τ).loc Cert.ReferenceOutNormBwdIdeal.main_arg1) = m ((c.tc : Thread Cert.ReferenceOutNormBwdIdeal.nD Cert.ReferenceOutNormBwdIdeal.τ).loc Cert.ReferenceOutNormBwdIdeal.main_arg1)
      ∧ r.2.mem ((c.tc : Thread Cert.ReferenceOutNormBwdIdeal.nD Cert.ReferenceOutNormBwdIdeal.τ).loc Cert.ReferenceOutNormBwdIdeal.main_arg2) = m ((c.tc : Thread Cert.ReferenceOutNormBwdIdeal.nD Cert.ReferenceOutNormBwdIdeal.τ).loc Cert.ReferenceOutNormBwdIdeal.main_arg2)
      ∧ r.2.mem ((c.tc : Thread Cert.ReferenceOutNormBwdIdeal.nD Cert.ReferenceOutNormBwdIdeal.τ).loc Cert.ReferenceOutNormBwdIdeal.main_arg3) = m ((c.tc : Thread Cert.ReferenceOutNormBwdIdeal.nD Cert.ReferenceOutNormBwdIdeal.τ).loc Cert.ReferenceOutNormBwdIdeal.main_arg3)
      ∧ r.2.mem ((c.tc : Thread Cert.ReferenceOutNormBwdIdeal.nD Cert.ReferenceOutNormBwdIdeal.τ).loc Cert.ReferenceOutNormBwdIdeal.main_arg4) = m ((c.tc : Thread Cert.ReferenceOutNormBwdIdeal.nD Cert.ReferenceOutNormBwdIdeal.τ).loc Cert.ReferenceOutNormBwdIdeal.main_arg4))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_finite_scores [hSbFwdIdeal : Cert.SbFwdIdeal.Facts] [hPre_finite_scores : Cert.Pre_finite_scores.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_scores m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_ReferenceSbFwd [hReferenceSbFwd : Cert.ReferenceSbFwd.Facts] : Prop :=
  ∀ (m : (ℓ : Loc Cert.ReferenceSbFwd.nD Cert.ReferenceSbFwd.τ Cert.ReferenceSbFwd.sig) → Buf (Elt Bits) ℓ) (g : Dev Cert.ReferenceSbFwd.nD → PrngReg), Pre_ReferenceSbFwd m →
    θ_run (Cert.ReferenceSbFwd.defs (F := Bits)) (onTc (τ := Cert.ReferenceSbFwd.τ) (Cert.ReferenceSbFwd.main (F := Bits))) ⟨m, fun _ => 0, g⟩ (fun r => (∀ c : Dev Cert.ReferenceSbFwd.nD,
      r.2.mem ((c.tc : Thread Cert.ReferenceSbFwd.nD Cert.ReferenceSbFwd.τ).loc Cert.ReferenceSbFwd.main_arg0) = m ((c.tc : Thread Cert.ReferenceSbFwd.nD Cert.ReferenceSbFwd.τ).loc Cert.ReferenceSbFwd.main_arg0))
      ∧ r.2.sem = fun _ => 0)

def quiescent_ReferenceSbFwdIdeal [hReferenceSbFwdIdeal : Cert.ReferenceSbFwdIdeal.Facts] : Prop :=
  ∀ (m : (ℓ : Loc Cert.ReferenceSbFwdIdeal.nD Cert.ReferenceSbFwdIdeal.τ Cert.ReferenceSbFwdIdeal.sig) → Buf (Elt Ideal) ℓ) (g : Dev Cert.ReferenceSbFwdIdeal.nD → PrngReg), Pre_ReferenceSbFwdIdeal m →
    θ_run (Cert.ReferenceSbFwdIdeal.defs (F := Ideal)) (onTc (τ := Cert.ReferenceSbFwdIdeal.τ) (Cert.ReferenceSbFwdIdeal.main (F := Ideal))) ⟨m, fun _ => 0, g⟩ (fun r => (∀ c : Dev Cert.ReferenceSbFwdIdeal.nD,
      r.2.mem ((c.tc : Thread Cert.ReferenceSbFwdIdeal.nD Cert.ReferenceSbFwdIdeal.τ).loc Cert.ReferenceSbFwdIdeal.main_arg0) = m ((c.tc : Thread Cert.ReferenceSbFwdIdeal.nD Cert.ReferenceSbFwdIdeal.τ).loc Cert.ReferenceSbFwdIdeal.main_arg0))
      ∧ r.2.sem = fun _ => 0)

def quiescent_ReferenceSbFwdIdeal_pre_finite_scores [hReferenceSbFwdIdeal : Cert.ReferenceSbFwdIdeal.Facts] [hPre_finite_scores : Cert.Pre_finite_scores.Facts] : Prop :=
  ∀ (m : (ℓ : Loc Cert.ReferenceSbFwdIdeal.nD Cert.ReferenceSbFwdIdeal.τ Cert.ReferenceSbFwdIdeal.sig) → Buf (Elt Ideal) ℓ) (g : Dev Cert.ReferenceSbFwdIdeal.nD → PrngReg), Pre_ReferenceSbFwdIdeal_finite_scores m →
    θ_run (Cert.ReferenceSbFwdIdeal.defs (F := Ideal)) (onTc (τ := Cert.ReferenceSbFwdIdeal.τ) (Cert.ReferenceSbFwdIdeal.main (F := Ideal))) ⟨m, fun _ => 0, g⟩ (fun r => (∀ c : Dev Cert.ReferenceSbFwdIdeal.nD,
      r.2.mem ((c.tc : Thread Cert.ReferenceSbFwdIdeal.nD Cert.ReferenceSbFwdIdeal.τ).loc Cert.ReferenceSbFwdIdeal.main_arg0) = m ((c.tc : Thread Cert.ReferenceSbFwdIdeal.nD Cert.ReferenceSbFwdIdeal.τ).loc Cert.ReferenceSbFwdIdeal.main_arg0))
      ∧ r.2.sem = fun _ => 0)

def quiescent_RopeQ [hRopeQ : Cert.RopeQ.Facts] : Prop :=
  ∀ (m : (ℓ : Loc Cert.RopeQ.nD Cert.RopeQ.τ Cert.RopeQ.sig) → Buf (Elt Bits) ℓ) (g : Dev Cert.RopeQ.nD → PrngReg), Pre_RopeQ m →
    θ_run (Cert.RopeQ.defs (F := Bits)) (onTc (τ := Cert.RopeQ.τ) (Cert.RopeQ.main (F := Bits))) ⟨m, fun _ => 0, g⟩ (fun r => (∀ c : Dev Cert.RopeQ.nD,
      r.2.mem ((c.tc : Thread Cert.RopeQ.nD Cert.RopeQ.τ).loc Cert.RopeQ.main_arg0) = m ((c.tc : Thread Cert.RopeQ.nD Cert.RopeQ.τ).loc Cert.RopeQ.main_arg0))
      ∧ r.2.sem = fun _ => 0)

def quiescent_RopeQIdeal [hRopeQIdeal : Cert.RopeQIdeal.Facts] : Prop :=
  ∀ (m : (ℓ : Loc Cert.RopeQIdeal.nD Cert.RopeQIdeal.τ Cert.RopeQIdeal.sig) → Buf (Elt Ideal) ℓ) (g : Dev Cert.RopeQIdeal.nD → PrngReg), Pre_RopeQIdeal m →
    θ_run (Cert.RopeQIdeal.defs (F := Ideal)) (onTc (τ := Cert.RopeQIdeal.τ) (Cert.RopeQIdeal.main (F := Ideal))) ⟨m, fun _ => 0, g⟩ (fun r => (∀ c : Dev Cert.RopeQIdeal.nD,
      r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0))
      ∧ r.2.sem = fun _ => 0)

def quiescent_ReferenceRopeQ [hReferenceRopeQ : Cert.ReferenceRopeQ.Facts] : Prop :=
  ∀ (m : (ℓ : Loc Cert.ReferenceRopeQ.nD Cert.ReferenceRopeQ.τ Cert.ReferenceRopeQ.sig) → Buf (Elt Bits) ℓ) (g : Dev Cert.ReferenceRopeQ.nD → PrngReg), Pre_ReferenceRopeQ m →
    θ_run (Cert.ReferenceRopeQ.defs (F := Bits)) (onTc (τ := Cert.ReferenceRopeQ.τ) (Cert.ReferenceRopeQ.main (F := Bits))) ⟨m, fun _ => 0, g⟩ (fun r => (∀ c : Dev Cert.ReferenceRopeQ.nD,
      r.2.mem ((c.tc : Thread Cert.ReferenceRopeQ.nD Cert.ReferenceRopeQ.τ).loc Cert.ReferenceRopeQ.main_arg0) = m ((c.tc : Thread Cert.ReferenceRopeQ.nD Cert.ReferenceRopeQ.τ).loc Cert.ReferenceRopeQ.main_arg0))
      ∧ r.2.sem = fun _ => 0)

def quiescent_ReferenceRopeQIdeal [hReferenceRopeQIdeal : Cert.ReferenceRopeQIdeal.Facts] : Prop :=
  ∀ (m : (ℓ : Loc Cert.ReferenceRopeQIdeal.nD Cert.ReferenceRopeQIdeal.τ Cert.ReferenceRopeQIdeal.sig) → Buf (Elt Ideal) ℓ) (g : Dev Cert.ReferenceRopeQIdeal.nD → PrngReg), Pre_ReferenceRopeQIdeal m →
    θ_run (Cert.ReferenceRopeQIdeal.defs (F := Ideal)) (onTc (τ := Cert.ReferenceRopeQIdeal.τ) (Cert.ReferenceRopeQIdeal.main (F := Ideal))) ⟨m, fun _ => 0, g⟩ (fun r => (∀ c : Dev Cert.ReferenceRopeQIdeal.nD,
      r.2.mem ((c.tc : Thread Cert.ReferenceRopeQIdeal.nD Cert.ReferenceRopeQIdeal.τ).loc Cert.ReferenceRopeQIdeal.main_arg0) = m ((c.tc : Thread Cert.ReferenceRopeQIdeal.nD Cert.ReferenceRopeQIdeal.τ).loc Cert.ReferenceRopeQIdeal.main_arg0))
      ∧ r.2.sem = fun _ => 0)

def quiescent_RopeK [hRopeK : Cert.RopeK.Facts] : Prop :=
  ∀ (m : (ℓ : Loc Cert.RopeK.nD Cert.RopeK.τ Cert.RopeK.sig) → Buf (Elt Bits) ℓ) (g : Dev Cert.RopeK.nD → PrngReg), Pre_RopeK m →
    θ_run (Cert.RopeK.defs (F := Bits)) (onTc (τ := Cert.RopeK.τ) (Cert.RopeK.main (F := Bits))) ⟨m, fun _ => 0, g⟩ (fun r => (∀ c : Dev Cert.RopeK.nD,
      r.2.mem ((c.tc : Thread Cert.RopeK.nD Cert.RopeK.τ).loc Cert.RopeK.main_arg0) = m ((c.tc : Thread Cert.RopeK.nD Cert.RopeK.τ).loc Cert.RopeK.main_arg0))
      ∧ r.2.sem = fun _ => 0)

def quiescent_RopeKIdeal [hRopeKIdeal : Cert.RopeKIdeal.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0))
      ∧ r.2.sem = fun _ => 0)

def quiescent_ReferenceRopeK [hReferenceRopeK : Cert.ReferenceRopeK.Facts] : Prop :=
  ∀ (m : (ℓ : Loc Cert.ReferenceRopeK.nD Cert.ReferenceRopeK.τ Cert.ReferenceRopeK.sig) → Buf (Elt Bits) ℓ) (g : Dev Cert.ReferenceRopeK.nD → PrngReg), Pre_ReferenceRopeK m →
    θ_run (Cert.ReferenceRopeK.defs (F := Bits)) (onTc (τ := Cert.ReferenceRopeK.τ) (Cert.ReferenceRopeK.main (F := Bits))) ⟨m, fun _ => 0, g⟩ (fun r => (∀ c : Dev Cert.ReferenceRopeK.nD,
      r.2.mem ((c.tc : Thread Cert.ReferenceRopeK.nD Cert.ReferenceRopeK.τ).loc Cert.ReferenceRopeK.main_arg0) = m ((c.tc : Thread Cert.ReferenceRopeK.nD Cert.ReferenceRopeK.τ).loc Cert.ReferenceRopeK.main_arg0))
      ∧ r.2.sem = fun _ => 0)

def quiescent_ReferenceRopeKIdeal [hReferenceRopeKIdeal : Cert.ReferenceRopeKIdeal.Facts] : Prop :=
  ∀ (m : (ℓ : Loc Cert.ReferenceRopeKIdeal.nD Cert.ReferenceRopeKIdeal.τ Cert.ReferenceRopeKIdeal.sig) → Buf (Elt Ideal) ℓ) (g : Dev Cert.ReferenceRopeKIdeal.nD → PrngReg), Pre_ReferenceRopeKIdeal m →
    θ_run (Cert.ReferenceRopeKIdeal.defs (F := Ideal)) (onTc (τ := Cert.ReferenceRopeKIdeal.τ) (Cert.ReferenceRopeKIdeal.main (F := Ideal))) ⟨m, fun _ => 0, g⟩ (fun r => (∀ c : Dev Cert.ReferenceRopeKIdeal.nD,
      r.2.mem ((c.tc : Thread Cert.ReferenceRopeKIdeal.nD Cert.ReferenceRopeKIdeal.τ).loc Cert.ReferenceRopeKIdeal.main_arg0) = m ((c.tc : Thread Cert.ReferenceRopeKIdeal.nD Cert.ReferenceRopeKIdeal.τ).loc Cert.ReferenceRopeKIdeal.main_arg0))
      ∧ r.2.sem = fun _ => 0)

def quiescent_RopeBack [hRopeBack : Cert.RopeBack.Facts] : Prop :=
  ∀ (m : (ℓ : Loc Cert.RopeBack.nD Cert.RopeBack.τ Cert.RopeBack.sig) → Buf (Elt Bits) ℓ) (g : Dev Cert.RopeBack.nD → PrngReg), Pre_RopeBack m →
    θ_run (Cert.RopeBack.defs (F := Bits)) (onTc (τ := Cert.RopeBack.τ) (Cert.RopeBack.main (F := Bits))) ⟨m, fun _ => 0, g⟩ (fun r => (∀ c : Dev Cert.RopeBack.nD,
      r.2.mem ((c.tc : Thread Cert.RopeBack.nD Cert.RopeBack.τ).loc Cert.RopeBack.main_arg0) = m ((c.tc : Thread Cert.RopeBack.nD Cert.RopeBack.τ).loc Cert.RopeBack.main_arg0))
      ∧ r.2.sem = fun _ => 0)

def quiescent_RopeBackIdeal [hRopeBackIdeal : Cert.RopeBackIdeal.Facts] : Prop :=
  ∀ (m : (ℓ : Loc Cert.RopeBackIdeal.nD Cert.RopeBackIdeal.τ Cert.RopeBackIdeal.sig) → Buf (Elt Ideal) ℓ) (g : Dev Cert.RopeBackIdeal.nD → PrngReg), Pre_RopeBackIdeal m →
    θ_run (Cert.RopeBackIdeal.defs (F := Ideal)) (onTc (τ := Cert.RopeBackIdeal.τ) (Cert.RopeBackIdeal.main (F := Ideal))) ⟨m, fun _ => 0, g⟩ (fun r => (∀ c : Dev Cert.RopeBackIdeal.nD,
      r.2.mem ((c.tc : Thread Cert.RopeBackIdeal.nD Cert.RopeBackIdeal.τ).loc Cert.RopeBackIdeal.main_arg0) = m ((c.tc : Thread Cert.RopeBackIdeal.nD Cert.RopeBackIdeal.τ).loc Cert.RopeBackIdeal.main_arg0))
      ∧ r.2.sem = fun _ => 0)

def quiescent_ReferenceRopeBack [hReferenceRopeBack : Cert.ReferenceRopeBack.Facts] : Prop :=
  ∀ (m : (ℓ : Loc Cert.ReferenceRopeBack.nD Cert.ReferenceRopeBack.τ Cert.ReferenceRopeBack.sig) → Buf (Elt Bits) ℓ) (g : Dev Cert.ReferenceRopeBack.nD → PrngReg), Pre_ReferenceRopeBack m →
    θ_run (Cert.ReferenceRopeBack.defs (F := Bits)) (onTc (τ := Cert.ReferenceRopeBack.τ) (Cert.ReferenceRopeBack.main (F := Bits))) ⟨m, fun _ => 0, g⟩ (fun r => (∀ c : Dev Cert.ReferenceRopeBack.nD,
      r.2.mem ((c.tc : Thread Cert.ReferenceRopeBack.nD Cert.ReferenceRopeBack.τ).loc Cert.ReferenceRopeBack.main_arg0) = m ((c.tc : Thread Cert.ReferenceRopeBack.nD Cert.ReferenceRopeBack.τ).loc Cert.ReferenceRopeBack.main_arg0))
      ∧ r.2.sem = fun _ => 0)

def quiescent_ReferenceRopeBackIdeal [hReferenceRopeBackIdeal : Cert.ReferenceRopeBackIdeal.Facts] : Prop :=
  ∀ (m : (ℓ : Loc Cert.ReferenceRopeBackIdeal.nD Cert.ReferenceRopeBackIdeal.τ Cert.ReferenceRopeBackIdeal.sig) → Buf (Elt Ideal) ℓ) (g : Dev Cert.ReferenceRopeBackIdeal.nD → PrngReg), Pre_ReferenceRopeBackIdeal m →
    θ_run (Cert.ReferenceRopeBackIdeal.defs (F := Ideal)) (onTc (τ := Cert.ReferenceRopeBackIdeal.τ) (Cert.ReferenceRopeBackIdeal.main (F := Ideal))) ⟨m, fun _ => 0, g⟩ (fun r => (∀ c : Dev Cert.ReferenceRopeBackIdeal.nD,
      r.2.mem ((c.tc : Thread Cert.ReferenceRopeBackIdeal.nD Cert.ReferenceRopeBackIdeal.τ).loc Cert.ReferenceRopeBackIdeal.main_arg0) = m ((c.tc : Thread Cert.ReferenceRopeBackIdeal.nD Cert.ReferenceRopeBackIdeal.τ).loc Cert.ReferenceRopeBackIdeal.main_arg0))
      ∧ r.2.sem = fun _ => 0)

def preserves_GatherCol_GatherColIdeal : Prop :=
  True

def bitexact_GatherCol_ReferenceCol [hGatherCol : Cert.GatherCol.Facts] [hReferenceCol : Cert.ReferenceCol.Facts] : Prop :=
  ∀ (m : (ℓ : Loc Cert.GatherCol.nD Cert.GatherCol.τ Cert.GatherCol.sig) → Buf (Elt Bits) ℓ) (g : Dev Cert.GatherCol.nD → PrngReg)
    (m' : (ℓ : Loc Cert.ReferenceCol.nD Cert.ReferenceCol.τ Cert.ReferenceCol.sig) → Buf (Elt Bits) ℓ) (g' : Dev Cert.ReferenceCol.nD → PrngReg), Pre_GatherCol m →
    (∀ c : Dev Cert.GatherCol.nD,
      m ((c.tc : Thread Cert.GatherCol.nD Cert.GatherCol.τ).loc Cert.GatherCol.main_arg0) = Layout.block ⟨2, ![1024, 1792]⟩ ⟨2, ![8192, 1792]⟩ 0 8 c (m' (((0 : Dev Cert.ReferenceCol.nD).tc : Thread Cert.ReferenceCol.nD Cert.ReferenceCol.τ).loc Cert.ReferenceCol.main_arg0))) →
    ∃ (v0 : Buf (Elt Bits) (((0 : Dev Cert.ReferenceCol.nD).tc : Thread Cert.ReferenceCol.nD Cert.ReferenceCol.τ).loc Cert.ReferenceCol.main_v0)),
      θ_run (Cert.GatherCol.defs (F := Bits)) (onTc (τ := Cert.GatherCol.τ) (Cert.GatherCol.main (F := Bits))) ⟨m, fun _ => 0, g⟩ (fun r => ∀ c : Dev Cert.GatherCol.nD,
          r.2.mem ((c.tc : Thread Cert.GatherCol.nD Cert.GatherCol.τ).loc Cert.GatherCol.main_v1) = v0
          ∧ r.2.mem ((c.tc : Thread Cert.GatherCol.nD Cert.GatherCol.τ).loc Cert.GatherCol.main_arg0) = m ((c.tc : Thread Cert.GatherCol.nD Cert.GatherCol.τ).loc Cert.GatherCol.main_arg0))
      ∧ θ_run (Cert.ReferenceCol.defs (F := Bits)) (onTc (τ := Cert.ReferenceCol.τ) (Cert.ReferenceCol.main (F := Bits))) ⟨m', fun _ => 0, g'⟩ (fun r =>
          r.2.mem (((0 : Dev Cert.ReferenceCol.nD).tc : Thread Cert.ReferenceCol.nD Cert.ReferenceCol.τ).loc Cert.ReferenceCol.main_v0) = v0
          ∧ r.2.mem (((0 : Dev Cert.ReferenceCol.nD).tc : Thread Cert.ReferenceCol.nD Cert.ReferenceCol.τ).loc Cert.ReferenceCol.main_arg0) = m' (((0 : Dev Cert.ReferenceCol.nD).tc : Thread Cert.ReferenceCol.nD Cert.ReferenceCol.τ).loc Cert.ReferenceCol.main_arg0))

def algebraic_GatherColIdeal_ReferenceColIdeal [hGatherColIdeal : Cert.GatherColIdeal.Facts] [hReferenceColIdeal : Cert.ReferenceColIdeal.Facts] : Prop :=
  ∀ (m : (ℓ : Loc Cert.GatherColIdeal.nD Cert.GatherColIdeal.τ Cert.GatherColIdeal.sig) → Buf (Elt Ideal) ℓ) (g : Dev Cert.GatherColIdeal.nD → PrngReg)
    (m' : (ℓ : Loc Cert.ReferenceColIdeal.nD Cert.ReferenceColIdeal.τ Cert.ReferenceColIdeal.sig) → Buf (Elt Ideal) ℓ) (g' : Dev Cert.ReferenceColIdeal.nD → PrngReg), Pre_GatherColIdeal m →
    (∀ c : Dev Cert.GatherColIdeal.nD,
      m ((c.tc : Thread Cert.GatherColIdeal.nD Cert.GatherColIdeal.τ).loc Cert.GatherColIdeal.main_arg0) = Layout.block ⟨2, ![1024, 1792]⟩ ⟨2, ![8192, 1792]⟩ 0 8 c (m' (((0 : Dev Cert.ReferenceColIdeal.nD).tc : Thread Cert.ReferenceColIdeal.nD Cert.ReferenceColIdeal.τ).loc Cert.ReferenceColIdeal.main_arg0))) →
    ∃ (v0 : Buf (Elt Ideal) (((0 : Dev Cert.ReferenceColIdeal.nD).tc : Thread Cert.ReferenceColIdeal.nD Cert.ReferenceColIdeal.τ).loc Cert.ReferenceColIdeal.main_v0)),
      θ_run (Cert.GatherColIdeal.defs (F := Ideal)) (onTc (τ := Cert.GatherColIdeal.τ) (Cert.GatherColIdeal.main (F := Ideal))) ⟨m, fun _ => 0, g⟩ (fun r => ∀ c : Dev Cert.GatherColIdeal.nD,
          r.2.mem ((c.tc : Thread Cert.GatherColIdeal.nD Cert.GatherColIdeal.τ).loc Cert.GatherColIdeal.main_v1) = v0
          ∧ r.2.mem ((c.tc : Thread Cert.GatherColIdeal.nD Cert.GatherColIdeal.τ).loc Cert.GatherColIdeal.main_arg0) = m ((c.tc : Thread Cert.GatherColIdeal.nD Cert.GatherColIdeal.τ).loc Cert.GatherColIdeal.main_arg0))
      ∧ θ_run (Cert.ReferenceColIdeal.defs (F := Ideal)) (onTc (τ := Cert.ReferenceColIdeal.τ) (Cert.ReferenceColIdeal.main (F := Ideal))) ⟨m', fun _ => 0, g'⟩ (fun r =>
          r.2.mem (((0 : Dev Cert.ReferenceColIdeal.nD).tc : Thread Cert.ReferenceColIdeal.nD Cert.ReferenceColIdeal.τ).loc Cert.ReferenceColIdeal.main_v0) = v0
          ∧ r.2.mem (((0 : Dev Cert.ReferenceColIdeal.nD).tc : Thread Cert.ReferenceColIdeal.nD Cert.ReferenceColIdeal.τ).loc Cert.ReferenceColIdeal.main_arg0) = m' (((0 : Dev Cert.ReferenceColIdeal.nD).tc : Thread Cert.ReferenceColIdeal.nD Cert.ReferenceColIdeal.τ).loc Cert.ReferenceColIdeal.main_arg0))

def preserves_GatherRow_GatherRowIdeal : Prop :=
  True

def bitexact_GatherRow_ReferenceRow [hGatherRow : Cert.GatherRow.Facts] [hReferenceRow : Cert.ReferenceRow.Facts] : Prop :=
  ∀ (m : (ℓ : Loc Cert.GatherRow.nD Cert.GatherRow.τ Cert.GatherRow.sig) → Buf (Elt Bits) ℓ) (g : Dev Cert.GatherRow.nD → PrngReg)
    (m' : (ℓ : Loc Cert.ReferenceRow.nD Cert.ReferenceRow.τ Cert.ReferenceRow.sig) → Buf (Elt Bits) ℓ) (g' : Dev Cert.ReferenceRow.nD → PrngReg), Pre_GatherRow m →
    (∀ c : Dev Cert.GatherRow.nD,
      m ((c.tc : Thread Cert.GatherRow.nD Cert.GatherRow.τ).loc Cert.GatherRow.main_arg0) = Layout.block ⟨2, ![832, 1024]⟩ ⟨2, ![6656, 1024]⟩ 0 8 c (m' (((0 : Dev Cert.ReferenceRow.nD).tc : Thread Cert.ReferenceRow.nD Cert.ReferenceRow.τ).loc Cert.ReferenceRow.main_arg0))) →
    ∃ (v0 : Buf (Elt Bits) (((0 : Dev Cert.ReferenceRow.nD).tc : Thread Cert.ReferenceRow.nD Cert.ReferenceRow.τ).loc Cert.ReferenceRow.main_v0)),
      θ_run (Cert.GatherRow.defs (F := Bits)) (onTc (τ := Cert.GatherRow.τ) (Cert.GatherRow.main (F := Bits))) ⟨m, fun _ => 0, g⟩ (fun r => ∀ c : Dev Cert.GatherRow.nD,
          r.2.mem ((c.tc : Thread Cert.GatherRow.nD Cert.GatherRow.τ).loc Cert.GatherRow.main_v1) = v0
          ∧ r.2.mem ((c.tc : Thread Cert.GatherRow.nD Cert.GatherRow.τ).loc Cert.GatherRow.main_arg0) = m ((c.tc : Thread Cert.GatherRow.nD Cert.GatherRow.τ).loc Cert.GatherRow.main_arg0))
      ∧ θ_run (Cert.ReferenceRow.defs (F := Bits)) (onTc (τ := Cert.ReferenceRow.τ) (Cert.ReferenceRow.main (F := Bits))) ⟨m', fun _ => 0, g'⟩ (fun r =>
          r.2.mem (((0 : Dev Cert.ReferenceRow.nD).tc : Thread Cert.ReferenceRow.nD Cert.ReferenceRow.τ).loc Cert.ReferenceRow.main_v0) = v0
          ∧ r.2.mem (((0 : Dev Cert.ReferenceRow.nD).tc : Thread Cert.ReferenceRow.nD Cert.ReferenceRow.τ).loc Cert.ReferenceRow.main_arg0) = m' (((0 : Dev Cert.ReferenceRow.nD).tc : Thread Cert.ReferenceRow.nD Cert.ReferenceRow.τ).loc Cert.ReferenceRow.main_arg0))

def algebraic_GatherRowIdeal_ReferenceRowIdeal [hGatherRowIdeal : Cert.GatherRowIdeal.Facts] [hReferenceRowIdeal : Cert.ReferenceRowIdeal.Facts] : Prop :=
  ∀ (m : (ℓ : Loc Cert.GatherRowIdeal.nD Cert.GatherRowIdeal.τ Cert.GatherRowIdeal.sig) → Buf (Elt Ideal) ℓ) (g : Dev Cert.GatherRowIdeal.nD → PrngReg)
    (m' : (ℓ : Loc Cert.ReferenceRowIdeal.nD Cert.ReferenceRowIdeal.τ Cert.ReferenceRowIdeal.sig) → Buf (Elt Ideal) ℓ) (g' : Dev Cert.ReferenceRowIdeal.nD → PrngReg), Pre_GatherRowIdeal m →
    (∀ c : Dev Cert.GatherRowIdeal.nD,
      m ((c.tc : Thread Cert.GatherRowIdeal.nD Cert.GatherRowIdeal.τ).loc Cert.GatherRowIdeal.main_arg0) = Layout.block ⟨2, ![832, 1024]⟩ ⟨2, ![6656, 1024]⟩ 0 8 c (m' (((0 : Dev Cert.ReferenceRowIdeal.nD).tc : Thread Cert.ReferenceRowIdeal.nD Cert.ReferenceRowIdeal.τ).loc Cert.ReferenceRowIdeal.main_arg0))) →
    ∃ (v0 : Buf (Elt Ideal) (((0 : Dev Cert.ReferenceRowIdeal.nD).tc : Thread Cert.ReferenceRowIdeal.nD Cert.ReferenceRowIdeal.τ).loc Cert.ReferenceRowIdeal.main_v0)),
      θ_run (Cert.GatherRowIdeal.defs (F := Ideal)) (onTc (τ := Cert.GatherRowIdeal.τ) (Cert.GatherRowIdeal.main (F := Ideal))) ⟨m, fun _ => 0, g⟩ (fun r => ∀ c : Dev Cert.GatherRowIdeal.nD,
          r.2.mem ((c.tc : Thread Cert.GatherRowIdeal.nD Cert.GatherRowIdeal.τ).loc Cert.GatherRowIdeal.main_v1) = v0
          ∧ r.2.mem ((c.tc : Thread Cert.GatherRowIdeal.nD Cert.GatherRowIdeal.τ).loc Cert.GatherRowIdeal.main_arg0) = m ((c.tc : Thread Cert.GatherRowIdeal.nD Cert.GatherRowIdeal.τ).loc Cert.GatherRowIdeal.main_arg0))
      ∧ θ_run (Cert.ReferenceRowIdeal.defs (F := Ideal)) (onTc (τ := Cert.ReferenceRowIdeal.τ) (Cert.ReferenceRowIdeal.main (F := Ideal))) ⟨m', fun _ => 0, g'⟩ (fun r =>
          r.2.mem (((0 : Dev Cert.ReferenceRowIdeal.nD).tc : Thread Cert.ReferenceRowIdeal.nD Cert.ReferenceRowIdeal.τ).loc Cert.ReferenceRowIdeal.main_v0) = v0
          ∧ r.2.mem (((0 : Dev Cert.ReferenceRowIdeal.nD).tc : Thread Cert.ReferenceRowIdeal.nD Cert.ReferenceRowIdeal.τ).loc Cert.ReferenceRowIdeal.main_arg0) = m' (((0 : Dev Cert.ReferenceRowIdeal.nD).tc : Thread Cert.ReferenceRowIdeal.nD Cert.ReferenceRowIdeal.τ).loc Cert.ReferenceRowIdeal.main_arg0))

def preserves_Exchange_ExchangeIdeal : Prop :=
  True

def bitexact_Exchange_ReferenceExchange [hExchange : Cert.Exchange.Facts] [hReferenceExchange : Cert.ReferenceExchange.Facts] : Prop :=
  ∀ (m : (ℓ : Loc Cert.Exchange.nD Cert.Exchange.τ Cert.Exchange.sig) → Buf (Elt Bits) ℓ) (g : Dev Cert.Exchange.nD → PrngReg)
    (m' : (ℓ : Loc Cert.ReferenceExchange.nD Cert.ReferenceExchange.τ Cert.ReferenceExchange.sig) → Buf (Elt Bits) ℓ) (g' : Dev Cert.ReferenceExchange.nD → PrngReg), Pre_Exchange m →
    (∀ c : Dev Cert.Exchange.nD,
      m ((c.tc : Thread Cert.Exchange.nD Cert.Exchange.τ).loc Cert.Exchange.main_arg0) = Layout.block ⟨3, ![8, 1024, 1792]⟩ ⟨3, ![64, 1024, 1792]⟩ 0 8 c (m' (((0 : Dev Cert.ReferenceExchange.nD).tc : Thread Cert.ReferenceExchange.nD Cert.ReferenceExchange.τ).loc Cert.ReferenceExchange.main_arg0))
      ∧ m ((c.tc : Thread Cert.Exchange.nD Cert.Exchange.τ).loc Cert.Exchange.main_arg1) = Layout.block ⟨3, ![8, 832, 1024]⟩ ⟨3, ![64, 832, 1024]⟩ 0 8 c (m' (((0 : Dev Cert.ReferenceExchange.nD).tc : Thread Cert.ReferenceExchange.nD Cert.ReferenceExchange.τ).loc Cert.ReferenceExchange.main_arg1))) →
    ∃ (v0 : Buf (Elt Bits) (((0 : Dev Cert.ReferenceExchange.nD).tc : Thread Cert.ReferenceExchange.nD Cert.ReferenceExchange.τ).loc Cert.ReferenceExchange.main_v2)) (v1 : Buf (Elt Bits) (((0 : Dev Cert.ReferenceExchange.nD).tc : Thread Cert.ReferenceExchange.nD Cert.ReferenceExchange.τ).loc Cert.ReferenceExchange.main_v5)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨3, ![8, 1024, 1792]⟩ ⟨3, ![64, 1024, 1792]⟩ 0 8 c v0
          ∧ r.2.mem ((c.tc : Thread Cert.Exchange.nD Cert.Exchange.τ).loc Cert.Exchange.main_v1_1) = Layout.block ⟨3, ![8, 832, 1024]⟩ ⟨3, ![64, 832, 1024]⟩ 0 8 c v1
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1))
      ∧ θ_run (Cert.ReferenceExchange.defs (F := Bits)) (onTc (τ := Cert.ReferenceExchange.τ) (Cert.ReferenceExchange.main (F := Bits))) ⟨m', fun _ => 0, g'⟩ (fun r =>
          r.2.mem (((0 : Dev Cert.ReferenceExchange.nD).tc : Thread Cert.ReferenceExchange.nD Cert.ReferenceExchange.τ).loc Cert.ReferenceExchange.main_v2) = v0
          ∧ r.2.mem (((0 : Dev Cert.ReferenceExchange.nD).tc : Thread Cert.ReferenceExchange.nD Cert.ReferenceExchange.τ).loc Cert.ReferenceExchange.main_v5) = v1
          ∧ r.2.mem (((0 : Dev Cert.ReferenceExchange.nD).tc : Thread Cert.ReferenceExchange.nD Cert.ReferenceExchange.τ).loc Cert.ReferenceExchange.main_arg0) = m' (((0 : Dev Cert.ReferenceExchange.nD).tc : Thread Cert.ReferenceExchange.nD Cert.ReferenceExchange.τ).loc Cert.ReferenceExchange.main_arg0)
          ∧ r.2.mem (((0 : Dev Cert.ReferenceExchange.nD).tc : Thread Cert.ReferenceExchange.nD Cert.ReferenceExchange.τ).loc Cert.ReferenceExchange.main_arg1) = m' (((0 : Dev Cert.ReferenceExchange.nD).tc : Thread Cert.ReferenceExchange.nD Cert.ReferenceExchange.τ).loc Cert.ReferenceExchange.main_arg1))

def algebraic_ExchangeIdeal_ReferenceExchangeIdeal [hExchangeIdeal : Cert.ExchangeIdeal.Facts] [hReferenceExchangeIdeal : Cert.ReferenceExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ReferenceExchangeIdeal.nD Cert.ReferenceExchangeIdeal.τ Cert.ReferenceExchangeIdeal.sig) → Buf (Elt Ideal) ℓ) (g' : Dev Cert.ReferenceExchangeIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![8, 1024, 1792]⟩ ⟨3, ![64, 1024, 1792]⟩ 0 8 c (m' (((0 : Dev Cert.ReferenceExchangeIdeal.nD).tc : Thread Cert.ReferenceExchangeIdeal.nD Cert.ReferenceExchangeIdeal.τ).loc Cert.ReferenceExchangeIdeal.main_arg0))
      ∧ m ((c.tc : Thread Cert.ExchangeIdeal.nD Cert.ExchangeIdeal.τ).loc Cert.ExchangeIdeal.main_arg1) = Layout.block ⟨3, ![8, 832, 1024]⟩ ⟨3, ![64, 832, 1024]⟩ 0 8 c (m' (((0 : Dev Cert.ReferenceExchangeIdeal.nD).tc : Thread Cert.ReferenceExchangeIdeal.nD Cert.ReferenceExchangeIdeal.τ).loc Cert.ReferenceExchangeIdeal.main_arg1))) →
    ∃ (v0 : Buf (Elt Ideal) (((0 : Dev Cert.ReferenceExchangeIdeal.nD).tc : Thread Cert.ReferenceExchangeIdeal.nD Cert.ReferenceExchangeIdeal.τ).loc Cert.ReferenceExchangeIdeal.main_v2)) (v1 : Buf (Elt Ideal) (((0 : Dev Cert.ReferenceExchangeIdeal.nD).tc : Thread Cert.ReferenceExchangeIdeal.nD Cert.ReferenceExchangeIdeal.τ).loc Cert.ReferenceExchangeIdeal.main_v5)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![8, 1024, 1792]⟩ ⟨3, ![64, 1024, 1792]⟩ 0 8 c v0
          ∧ r.2.mem ((c.tc : Thread Cert.ExchangeIdeal.nD Cert.ExchangeIdeal.τ).loc Cert.ExchangeIdeal.main_v1_1) = Layout.block ⟨3, ![8, 832, 1024]⟩ ⟨3, ![64, 832, 1024]⟩ 0 8 c v1
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ θ_run (Cert.ReferenceExchangeIdeal.defs (F := Ideal)) (onTc (τ := Cert.ReferenceExchangeIdeal.τ) (Cert.ReferenceExchangeIdeal.main (F := Ideal))) ⟨m', fun _ => 0, g'⟩ (fun r =>
          r.2.mem (((0 : Dev Cert.ReferenceExchangeIdeal.nD).tc : Thread Cert.ReferenceExchangeIdeal.nD Cert.ReferenceExchangeIdeal.τ).loc Cert.ReferenceExchangeIdeal.main_v2) = v0
          ∧ r.2.mem (((0 : Dev Cert.ReferenceExchangeIdeal.nD).tc : Thread Cert.ReferenceExchangeIdeal.nD Cert.ReferenceExchangeIdeal.τ).loc Cert.ReferenceExchangeIdeal.main_v5) = v1
          ∧ r.2.mem (((0 : Dev Cert.ReferenceExchangeIdeal.nD).tc : Thread Cert.ReferenceExchangeIdeal.nD Cert.ReferenceExchangeIdeal.τ).loc Cert.ReferenceExchangeIdeal.main_arg0) = m' (((0 : Dev Cert.ReferenceExchangeIdeal.nD).tc : Thread Cert.ReferenceExchangeIdeal.nD Cert.ReferenceExchangeIdeal.τ).loc Cert.ReferenceExchangeIdeal.main_arg0)
          ∧ r.2.mem (((0 : Dev Cert.ReferenceExchangeIdeal.nD).tc : Thread Cert.ReferenceExchangeIdeal.nD Cert.ReferenceExchangeIdeal.τ).loc Cert.ReferenceExchangeIdeal.main_arg1) = m' (((0 : Dev Cert.ReferenceExchangeIdeal.nD).tc : Thread Cert.ReferenceExchangeIdeal.nD Cert.ReferenceExchangeIdeal.τ).loc Cert.ReferenceExchangeIdeal.main_arg1))

def preserves_Reduce_ReduceIdeal : Prop :=
  True

def algebraic_ReduceIdeal_ReferenceReduceIdeal [hReduceIdeal : Cert.ReduceIdeal.Facts] [hReferenceReduceIdeal : Cert.ReferenceReduceIdeal.Facts] : Prop :=
  ∀ (m : (ℓ : Loc Cert.ReduceIdeal.nD Cert.ReduceIdeal.τ Cert.ReduceIdeal.sig) → Buf (Elt Ideal) ℓ) (g : Dev Cert.ReduceIdeal.nD → PrngReg)
    (m' : (ℓ : Loc Cert.ReferenceReduceIdeal.nD Cert.ReferenceReduceIdeal.τ Cert.ReferenceReduceIdeal.sig) → Buf (Elt Ideal) ℓ) (g' : Dev Cert.ReferenceReduceIdeal.nD → PrngReg), Pre_ReduceIdeal m →
    (∀ c : Dev Cert.ReduceIdeal.nD,
      m ((c.tc : Thread Cert.ReduceIdeal.nD Cert.ReduceIdeal.τ).loc Cert.ReduceIdeal.main_arg0) = Layout.block ⟨3, ![8, 1024, 1792]⟩ ⟨3, ![64, 1024, 1792]⟩ 0 8 c (m' (((0 : Dev Cert.ReferenceReduceIdeal.nD).tc : Thread Cert.ReferenceReduceIdeal.nD Cert.ReferenceReduceIdeal.τ).loc Cert.ReferenceReduceIdeal.main_arg0))
      ∧ m ((c.tc : Thread Cert.ReduceIdeal.nD Cert.ReduceIdeal.τ).loc Cert.ReduceIdeal.main_arg1) = Layout.block ⟨3, ![8, 832, 1024]⟩ ⟨3, ![64, 832, 1024]⟩ 0 8 c (m' (((0 : Dev Cert.ReferenceReduceIdeal.nD).tc : Thread Cert.ReferenceReduceIdeal.nD Cert.ReferenceReduceIdeal.τ).loc Cert.ReferenceReduceIdeal.main_arg1))) →
    ∃ (v0 : Buf (Elt Ideal) (((0 : Dev Cert.ReferenceReduceIdeal.nD).tc : Thread Cert.ReferenceReduceIdeal.nD Cert.ReferenceReduceIdeal.τ).loc Cert.ReferenceReduceIdeal.main_v8)) (v1 : Buf (Elt Ideal) (((0 : Dev Cert.ReferenceReduceIdeal.nD).tc : Thread Cert.ReferenceReduceIdeal.nD Cert.ReferenceReduceIdeal.τ).loc Cert.ReferenceReduceIdeal.main_v11)) (v2 : Buf (Elt Ideal) (((0 : Dev Cert.ReferenceReduceIdeal.nD).tc : Thread Cert.ReferenceReduceIdeal.nD Cert.ReferenceReduceIdeal.τ).loc Cert.ReferenceReduceIdeal.main_v14)) (v3 : Buf (Elt Ideal) (((0 : Dev Cert.ReferenceReduceIdeal.nD).tc : Thread Cert.ReferenceReduceIdeal.nD Cert.ReferenceReduceIdeal.τ).loc Cert.ReferenceReduceIdeal.main_v17)) (v4 : Buf (Elt Ideal) (((0 : Dev Cert.ReferenceReduceIdeal.nD).tc : Thread Cert.ReferenceReduceIdeal.nD Cert.ReferenceReduceIdeal.τ).loc Cert.ReferenceReduceIdeal.main_v20)) (v5 : Buf (Elt Ideal) (((0 : Dev Cert.ReferenceReduceIdeal.nD).tc : Thread Cert.ReferenceReduceIdeal.nD Cert.ReferenceReduceIdeal.τ).loc Cert.ReferenceReduceIdeal.main_v22)) (v6 : Buf (Elt Ideal) (((0 : Dev Cert.ReferenceReduceIdeal.nD).tc : Thread Cert.ReferenceReduceIdeal.nD Cert.ReferenceReduceIdeal.τ).loc Cert.ReferenceReduceIdeal.main_v24)) (v7 : Buf (Elt Ideal) (((0 : Dev Cert.ReferenceReduceIdeal.nD).tc : Thread Cert.ReferenceReduceIdeal.nD Cert.ReferenceReduceIdeal.τ).loc Cert.ReferenceReduceIdeal.main_v26)),
      θ_run (Cert.ReduceIdeal.defs (F := Ideal)) (onTc (τ := Cert.ReduceIdeal.τ) (Cert.ReduceIdeal.main (F := Ideal))) ⟨m, fun _ => 0, g⟩ (fun r => ∀ c : Dev Cert.ReduceIdeal.nD,
          r.2.mem ((c.tc : Thread Cert.ReduceIdeal.nD Cert.ReduceIdeal.τ).loc Cert.ReduceIdeal.main_v4) = Layout.block ⟨2, ![1024, 352]⟩ ⟨2, ![1024, 2816]⟩ 1 8 c v0
          ∧ r.2.mem ((c.tc : Thread Cert.ReduceIdeal.nD Cert.ReduceIdeal.τ).loc Cert.ReduceIdeal.main_v5) = Layout.block ⟨2, ![1024, 352]⟩ ⟨2, ![1024, 2816]⟩ 1 8 c v1
          ∧ r.2.mem ((c.tc : Thread Cert.ReduceIdeal.nD Cert.ReduceIdeal.τ).loc Cert.ReduceIdeal.main_v6) = Layout.block ⟨2, ![1024, 352]⟩ ⟨2, ![1024, 2816]⟩ 1 8 c v2
          ∧ r.2.mem ((c.tc : Thread Cert.ReduceIdeal.nD Cert.ReduceIdeal.τ).loc Cert.ReduceIdeal.main_v7) = Layout.block ⟨2, ![1024, 352]⟩ ⟨2, ![1024, 2816]⟩ 1 8 c v3
          ∧ r.2.mem ((c.tc : Thread Cert.ReduceIdeal.nD Cert.ReduceIdeal.τ).loc Cert.ReduceIdeal.main_v8) = Layout.block ⟨2, ![1024, 384]⟩ ⟨2, ![1024, 3072]⟩ 1 8 c v4
          ∧ r.2.mem ((c.tc : Thread Cert.ReduceIdeal.nD Cert.ReduceIdeal.τ).loc Cert.ReduceIdeal.main_v9) = Layout.block ⟨2, ![352, 1024]⟩ ⟨2, ![2816, 1024]⟩ 0 8 c v5
          ∧ r.2.mem ((c.tc : Thread Cert.ReduceIdeal.nD Cert.ReduceIdeal.τ).loc Cert.ReduceIdeal.main_v10) = Layout.block ⟨2, ![352, 1024]⟩ ⟨2, ![2816, 1024]⟩ 0 8 c v6
          ∧ r.2.mem ((c.tc : Thread Cert.ReduceIdeal.nD Cert.ReduceIdeal.τ).loc Cert.ReduceIdeal.main_v11) = Layout.block ⟨2, ![128, 1024]⟩ ⟨2, ![1024, 1024]⟩ 0 8 c v7
          ∧ r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
          ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1))
      ∧ θ_run (Cert.ReferenceReduceIdeal.defs (F := Ideal)) (onTc (τ := Cert.ReferenceReduceIdeal.τ) (Cert.ReferenceReduceIdeal.main (F := Ideal))) ⟨m', fun _ => 0, g'⟩ (fun r =>
          r.2.mem (((0 : Dev Cert.ReferenceReduceIdeal.nD).tc : Thread Cert.ReferenceReduceIdeal.nD Cert.ReferenceReduceIdeal.τ).loc Cert.ReferenceReduceIdeal.main_v8) = v0
          ∧ r.2.mem (((0 : Dev Cert.ReferenceReduceIdeal.nD).tc : Thread Cert.ReferenceReduceIdeal.nD Cert.ReferenceReduceIdeal.τ).loc Cert.ReferenceReduceIdeal.main_v11) = v1
          ∧ r.2.mem (((0 : Dev Cert.ReferenceReduceIdeal.nD).tc : Thread Cert.ReferenceReduceIdeal.nD Cert.ReferenceReduceIdeal.τ).loc Cert.ReferenceReduceIdeal.main_v14) = v2
          ∧ r.2.mem (((0 : Dev Cert.ReferenceReduceIdeal.nD).tc : Thread Cert.ReferenceReduceIdeal.nD Cert.ReferenceReduceIdeal.τ).loc Cert.ReferenceReduceIdeal.main_v17) = v3
          ∧ r.2.mem (((0 : Dev Cert.ReferenceReduceIdeal.nD).tc : Thread Cert.ReferenceReduceIdeal.nD Cert.ReferenceReduceIdeal.τ).loc Cert.ReferenceReduceIdeal.main_v20) = v4
          ∧ r.2.mem (((0 : Dev Cert.ReferenceReduceIdeal.nD).tc : Thread Cert.ReferenceReduceIdeal.nD Cert.ReferenceReduceIdeal.τ).loc Cert.ReferenceReduceIdeal.main_v22) = v5
          ∧ r.2.mem (((0 : Dev Cert.ReferenceReduceIdeal.nD).tc : Thread Cert.ReferenceReduceIdeal.nD Cert.ReferenceReduceIdeal.τ).loc Cert.ReferenceReduceIdeal.main_v24) = v6
          ∧ r.2.mem (((0 : Dev Cert.ReferenceReduceIdeal.nD).tc : Thread Cert.ReferenceReduceIdeal.nD Cert.ReferenceReduceIdeal.τ).loc Cert.ReferenceReduceIdeal.main_v26) = v7
          ∧ r.2.mem (((0 : Dev Cert.ReferenceReduceIdeal.nD).tc : Thread Cert.ReferenceReduceIdeal.nD Cert.ReferenceReduceIdeal.τ).loc Cert.ReferenceReduceIdeal.main_arg0) = m' (((0 : Dev Cert.ReferenceReduceIdeal.nD).tc : Thread Cert.ReferenceReduceIdeal.nD Cert.ReferenceReduceIdeal.τ).loc Cert.ReferenceReduceIdeal.main_arg0)
          ∧ r.2.mem (((0 : Dev Cert.ReferenceReduceIdeal.nD).tc : Thread Cert.ReferenceReduceIdeal.nD Cert.ReferenceReduceIdeal.τ).loc Cert.ReferenceReduceIdeal.main_arg1) = m' (((0 : Dev Cert.ReferenceReduceIdeal.nD).tc : Thread Cert.ReferenceReduceIdeal.nD Cert.ReferenceReduceIdeal.τ).loc Cert.ReferenceReduceIdeal.main_arg1))

def preserves_AdamGate_AdamGateIdeal : Prop :=
  True

def algebraic_AdamGateIdeal_ReferenceAdamGateIdeal [hAdamGateIdeal : Cert.AdamGateIdeal.Facts] [hReferenceAdamGateIdeal : Cert.ReferenceAdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.ReferenceAdamGateIdeal.nD Cert.ReferenceAdamGateIdeal.τ Cert.ReferenceAdamGateIdeal.sig) → Buf (Elt Ideal) ℓ) (g' : Dev Cert.ReferenceAdamGateIdeal.nD → PrngReg), Pre_AdamGateIdeal m →
    (∀ c : Dev Cert.AdamGateIdeal.nD,
      m' ((c.tc : Thread Cert.ReferenceAdamGateIdeal.nD Cert.ReferenceAdamGateIdeal.τ).loc Cert.ReferenceAdamGateIdeal.main_arg0) = m ((c.tc : Thread Cert.AdamGateIdeal.nD Cert.AdamGateIdeal.τ).loc Cert.AdamGateIdeal.main_arg0)
      ∧ m' ((c.tc : Thread Cert.ReferenceAdamGateIdeal.nD Cert.ReferenceAdamGateIdeal.τ).loc Cert.ReferenceAdamGateIdeal.main_arg1) = m ((c.tc : Thread Cert.AdamGateIdeal.nD Cert.AdamGateIdeal.τ).loc Cert.AdamGateIdeal.main_arg1)
      ∧ m' ((c.tc : Thread Cert.ReferenceAdamGateIdeal.nD Cert.ReferenceAdamGateIdeal.τ).loc Cert.ReferenceAdamGateIdeal.main_arg2) = m ((c.tc : Thread Cert.AdamGateIdeal.nD Cert.AdamGateIdeal.τ).loc Cert.AdamGateIdeal.main_arg2)
      ∧ m' ((c.tc : Thread Cert.ReferenceAdamGateIdeal.nD Cert.ReferenceAdamGateIdeal.τ).loc Cert.ReferenceAdamGateIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.ReferenceAdamGateIdeal.defs (F := Ideal)) (onTc (τ := Cert.ReferenceAdamGateIdeal.τ) (Cert.ReferenceAdamGateIdeal.main (F := Ideal))) ⟨m', fun _ => 0, g'⟩ (fun r => ∀ c : Dev Cert.ReferenceAdamGateIdeal.nD,
          r.2.mem ((c.tc : Thread Cert.ReferenceAdamGateIdeal.nD Cert.ReferenceAdamGateIdeal.τ).loc Cert.ReferenceAdamGateIdeal.main_v23) = v0 c
          ∧ r.2.mem ((c.tc : Thread Cert.ReferenceAdamGateIdeal.nD Cert.ReferenceAdamGateIdeal.τ).loc Cert.ReferenceAdamGateIdeal.main_v4) = v1 c
          ∧ r.2.mem ((c.tc : Thread Cert.ReferenceAdamGateIdeal.nD Cert.ReferenceAdamGateIdeal.τ).loc Cert.ReferenceAdamGateIdeal.main_v10) = v2 c
          ∧ r.2.mem ((c.tc : Thread Cert.ReferenceAdamGateIdeal.nD Cert.ReferenceAdamGateIdeal.τ).loc Cert.ReferenceAdamGateIdeal.main_arg0) = m' ((c.tc : Thread Cert.ReferenceAdamGateIdeal.nD Cert.ReferenceAdamGateIdeal.τ).loc Cert.ReferenceAdamGateIdeal.main_arg0)
          ∧ r.2.mem ((c.tc : Thread Cert.ReferenceAdamGateIdeal.nD Cert.ReferenceAdamGateIdeal.τ).loc Cert.ReferenceAdamGateIdeal.main_arg1) = m' ((c.tc : Thread Cert.ReferenceAdamGateIdeal.nD Cert.ReferenceAdamGateIdeal.τ).loc Cert.ReferenceAdamGateIdeal.main_arg1)
          ∧ r.2.mem ((c.tc : Thread Cert.ReferenceAdamGateIdeal.nD Cert.ReferenceAdamGateIdeal.τ).loc Cert.ReferenceAdamGateIdeal.main_arg2) = m' ((c.tc : Thread Cert.ReferenceAdamGateIdeal.nD Cert.ReferenceAdamGateIdeal.τ).loc Cert.ReferenceAdamGateIdeal.main_arg2)
          ∧ r.2.mem ((c.tc : Thread Cert.ReferenceAdamGateIdeal.nD Cert.ReferenceAdamGateIdeal.τ).loc Cert.ReferenceAdamGateIdeal.main_arg3) = m' ((c.tc : Thread Cert.ReferenceAdamGateIdeal.nD Cert.ReferenceAdamGateIdeal.τ).loc Cert.ReferenceAdamGateIdeal.main_arg3))

def preserves_AdamIn_AdamInIdeal : Prop :=
  True

def algebraic_AdamInIdeal_ReferenceAdamInIdeal [hAdamInIdeal : Cert.AdamInIdeal.Facts] [hReferenceAdamInIdeal : Cert.ReferenceAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_AdamInIdeal m →
    (∀ c : Dev Cert.AdamInIdeal.nD,
      m' ((c.tc : Thread Cert.ReferenceAdamInIdeal.nD Cert.ReferenceAdamInIdeal.τ).loc Cert.ReferenceAdamInIdeal.main_arg0) = m ((c.tc : Thread Cert.AdamInIdeal.nD Cert.AdamInIdeal.τ).loc Cert.AdamInIdeal.main_arg0)
      ∧ m' ((c.tc : Thread Cert.ReferenceAdamInIdeal.nD Cert.ReferenceAdamInIdeal.τ).loc Cert.ReferenceAdamInIdeal.main_arg1) = m ((c.tc : Thread Cert.AdamInIdeal.nD Cert.AdamInIdeal.τ).loc Cert.AdamInIdeal.main_arg1)
      ∧ m' ((c.tc : Thread Cert.ReferenceAdamInIdeal.nD Cert.ReferenceAdamInIdeal.τ).loc Cert.ReferenceAdamInIdeal.main_arg2) = m ((c.tc : Thread Cert.AdamInIdeal.nD Cert.AdamInIdeal.τ).loc Cert.AdamInIdeal.main_arg2)
      ∧ m' ((c.tc : Thread Cert.ReferenceAdamInIdeal.nD Cert.ReferenceAdamInIdeal.τ).loc Cert.ReferenceAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_AdamDown_AdamDownIdeal : Prop :=
  True

def algebraic_AdamDownIdeal_ReferenceAdamDownIdeal [hAdamDownIdeal : Cert.AdamDownIdeal.Facts] [hReferenceAdamDownIdeal : Cert.ReferenceAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_AdamDownIdeal m →
    (∀ c : Dev Cert.AdamDownIdeal.nD,
      m' ((c.tc : Thread Cert.ReferenceAdamDownIdeal.nD Cert.ReferenceAdamDownIdeal.τ).loc Cert.ReferenceAdamDownIdeal.main_arg0) = m ((c.tc : Thread Cert.AdamDownIdeal.nD Cert.AdamDownIdeal.τ).loc Cert.AdamDownIdeal.main_arg0)
      ∧ m' ((c.tc : Thread Cert.ReferenceAdamDownIdeal.nD Cert.ReferenceAdamDownIdeal.τ).loc Cert.ReferenceAdamDownIdeal.main_arg1) = m ((c.tc : Thread Cert.AdamDownIdeal.nD Cert.AdamDownIdeal.τ).loc Cert.AdamDownIdeal.main_arg1)
      ∧ m' ((c.tc : Thread Cert.ReferenceAdamDownIdeal.nD Cert.ReferenceAdamDownIdeal.τ).loc Cert.ReferenceAdamDownIdeal.main_arg2) = m ((c.tc : Thread Cert.AdamDownIdeal.nD Cert.AdamDownIdeal.τ).loc Cert.AdamDownIdeal.main_arg2)
      ∧ m' ((c.tc : Thread Cert.ReferenceAdamDownIdeal.nD Cert.ReferenceAdamDownIdeal.τ).loc Cert.ReferenceAdamDownIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v23) = v0 c
          ∧ r.2.mem ((c.tc : Thread Cert.ReferenceAdamDownIdeal.nD Cert.ReferenceAdamDownIdeal.τ).loc Cert.ReferenceAdamDownIdeal.main_v4) = v1 c
          ∧ r.2.mem ((c.tc : Thread Cert.ReferenceAdamDownIdeal.nD Cert.ReferenceAdamDownIdeal.τ).loc Cert.ReferenceAdamDownIdeal.main_v10) = v2 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_AdamOut_AdamOutIdeal : Prop :=
  True

def algebraic_AdamOutIdeal_ReferenceAdamOutIdeal [hAdamOutIdeal : Cert.AdamOutIdeal.Facts] [hReferenceAdamOutIdeal : Cert.ReferenceAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_AdamOutIdeal m →
    (∀ c : Dev Cert.AdamOutIdeal.nD,
      m' ((c.tc : Thread Cert.ReferenceAdamOutIdeal.nD Cert.ReferenceAdamOutIdeal.τ).loc Cert.ReferenceAdamOutIdeal.main_arg0) = m ((c.tc : Thread Cert.AdamOutIdeal.nD Cert.AdamOutIdeal.τ).loc Cert.AdamOutIdeal.main_arg0)
      ∧ m' ((c.tc : Thread Cert.ReferenceAdamOutIdeal.nD Cert.ReferenceAdamOutIdeal.τ).loc Cert.ReferenceAdamOutIdeal.main_arg1) = m ((c.tc : Thread Cert.AdamOutIdeal.nD Cert.AdamOutIdeal.τ).loc Cert.AdamOutIdeal.main_arg1)
      ∧ m' ((c.tc : Thread Cert.ReferenceAdamOutIdeal.nD Cert.ReferenceAdamOutIdeal.τ).loc Cert.ReferenceAdamOutIdeal.main_arg2) = m ((c.tc : Thread Cert.AdamOutIdeal.nD Cert.AdamOutIdeal.τ).loc Cert.AdamOutIdeal.main_arg2)
      ∧ m' ((c.tc : Thread Cert.ReferenceAdamOutIdeal.nD Cert.ReferenceAdamOutIdeal.τ).loc Cert.ReferenceAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_AdamGain_AdamGainIdeal : Prop :=
  True

def algebraic_AdamGainIdeal_ReferenceAdamGainIdeal [hAdamGainIdeal : Cert.AdamGainIdeal.Facts] [hReferenceAdamGainIdeal : Cert.ReferenceAdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.ReferenceAdamGainIdeal.nD Cert.ReferenceAdamGainIdeal.τ Cert.ReferenceAdamGainIdeal.sig) → Buf (Elt Ideal) ℓ) (g' : Dev Cert.ReferenceAdamGainIdeal.nD → PrngReg), Pre_AdamGainIdeal m →
    (∀ c : Dev Cert.AdamGainIdeal.nD,
      m' ((c.tc : Thread Cert.ReferenceAdamGainIdeal.nD Cert.ReferenceAdamGainIdeal.τ).loc Cert.ReferenceAdamGainIdeal.main_arg0) = m ((c.tc : Thread Cert.AdamGainIdeal.nD Cert.AdamGainIdeal.τ).loc Cert.AdamGainIdeal.main_arg0)
      ∧ m' ((c.tc : Thread Cert.ReferenceAdamGainIdeal.nD Cert.ReferenceAdamGainIdeal.τ).loc Cert.ReferenceAdamGainIdeal.main_arg1) = m ((c.tc : Thread Cert.AdamGainIdeal.nD Cert.AdamGainIdeal.τ).loc Cert.AdamGainIdeal.main_arg1)
      ∧ m' ((c.tc : Thread Cert.ReferenceAdamGainIdeal.nD Cert.ReferenceAdamGainIdeal.τ).loc Cert.ReferenceAdamGainIdeal.main_arg2) = m ((c.tc : Thread Cert.AdamGainIdeal.nD Cert.AdamGainIdeal.τ).loc Cert.AdamGainIdeal.main_arg2)
      ∧ m' ((c.tc : Thread Cert.ReferenceAdamGainIdeal.nD Cert.ReferenceAdamGainIdeal.τ).loc Cert.ReferenceAdamGainIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.ReferenceAdamGainIdeal.defs (F := Ideal)) (onTc (τ := Cert.ReferenceAdamGainIdeal.τ) (Cert.ReferenceAdamGainIdeal.main (F := Ideal))) ⟨m', fun _ => 0, g'⟩ (fun r => ∀ c : Dev Cert.ReferenceAdamGainIdeal.nD,
          r.2.mem ((c.tc : Thread Cert.ReferenceAdamGainIdeal.nD Cert.ReferenceAdamGainIdeal.τ).loc Cert.ReferenceAdamGainIdeal.main_v23) = v0 c
          ∧ r.2.mem ((c.tc : Thread Cert.ReferenceAdamGainIdeal.nD Cert.ReferenceAdamGainIdeal.τ).loc Cert.ReferenceAdamGainIdeal.main_v4) = v1 c
          ∧ r.2.mem ((c.tc : Thread Cert.ReferenceAdamGainIdeal.nD Cert.ReferenceAdamGainIdeal.τ).loc Cert.ReferenceAdamGainIdeal.main_v10) = v2 c
          ∧ r.2.mem ((c.tc : Thread Cert.ReferenceAdamGainIdeal.nD Cert.ReferenceAdamGainIdeal.τ).loc Cert.ReferenceAdamGainIdeal.main_arg0) = m' ((c.tc : Thread Cert.ReferenceAdamGainIdeal.nD Cert.ReferenceAdamGainIdeal.τ).loc Cert.ReferenceAdamGainIdeal.main_arg0)
          ∧ r.2.mem ((c.tc : Thread Cert.ReferenceAdamGainIdeal.nD Cert.ReferenceAdamGainIdeal.τ).loc Cert.ReferenceAdamGainIdeal.main_arg1) = m' ((c.tc : Thread Cert.ReferenceAdamGainIdeal.nD Cert.ReferenceAdamGainIdeal.τ).loc Cert.ReferenceAdamGainIdeal.main_arg1)
          ∧ r.2.mem ((c.tc : Thread Cert.ReferenceAdamGainIdeal.nD Cert.ReferenceAdamGainIdeal.τ).loc Cert.ReferenceAdamGainIdeal.main_arg2) = m' ((c.tc : Thread Cert.ReferenceAdamGainIdeal.nD Cert.ReferenceAdamGainIdeal.τ).loc Cert.ReferenceAdamGainIdeal.main_arg2)
          ∧ r.2.mem ((c.tc : Thread Cert.ReferenceAdamGainIdeal.nD Cert.ReferenceAdamGainIdeal.τ).loc Cert.ReferenceAdamGainIdeal.main_arg3) = m' ((c.tc : Thread Cert.ReferenceAdamGainIdeal.nD Cert.ReferenceAdamGainIdeal.τ).loc Cert.ReferenceAdamGainIdeal.main_arg3))

def preserves_AdamHalfGain_AdamHalfGainIdeal : Prop :=
  True

def algebraic_AdamHalfGainIdeal_ReferenceAdamHalfGainIdeal [hAdamHalfGainIdeal : Cert.AdamHalfGainIdeal.Facts] [hReferenceAdamHalfGainIdeal : Cert.ReferenceAdamHalfGainIdeal.Facts] : Prop :=
  ∀ (m : (ℓ : Loc Cert.AdamHalfGainIdeal.nD Cert.AdamHalfGainIdeal.τ Cert.AdamHalfGainIdeal.sig) → Buf (Elt Ideal) ℓ) (g : Dev Cert.AdamHalfGainIdeal.nD → PrngReg)
    (m' : (ℓ : Loc Cert.ReferenceAdamHalfGainIdeal.nD Cert.ReferenceAdamHalfGainIdeal.τ Cert.ReferenceAdamHalfGainIdeal.sig) → Buf (Elt Ideal) ℓ) (g' : Dev Cert.ReferenceAdamHalfGainIdeal.nD → PrngReg), Pre_AdamHalfGainIdeal m →
    (∀ c : Dev Cert.AdamHalfGainIdeal.nD,
      m' ((c.tc : Thread Cert.ReferenceAdamHalfGainIdeal.nD Cert.ReferenceAdamHalfGainIdeal.τ).loc Cert.ReferenceAdamHalfGainIdeal.main_arg0) = m ((c.tc : Thread Cert.AdamHalfGainIdeal.nD Cert.AdamHalfGainIdeal.τ).loc Cert.AdamHalfGainIdeal.main_arg0)
      ∧ m' ((c.tc : Thread Cert.ReferenceAdamHalfGainIdeal.nD Cert.ReferenceAdamHalfGainIdeal.τ).loc Cert.ReferenceAdamHalfGainIdeal.main_arg1) = m ((c.tc : Thread Cert.AdamHalfGainIdeal.nD Cert.AdamHalfGainIdeal.τ).loc Cert.AdamHalfGainIdeal.main_arg1)
      ∧ m' ((c.tc : Thread Cert.ReferenceAdamHalfGainIdeal.nD Cert.ReferenceAdamHalfGainIdeal.τ).loc Cert.ReferenceAdamHalfGainIdeal.main_arg2) = m ((c.tc : Thread Cert.AdamHalfGainIdeal.nD Cert.AdamHalfGainIdeal.τ).loc Cert.AdamHalfGainIdeal.main_arg2)
      ∧ m' ((c.tc : Thread Cert.ReferenceAdamHalfGainIdeal.nD Cert.ReferenceAdamHalfGainIdeal.τ).loc Cert.ReferenceAdamHalfGainIdeal.main_arg3) = m ((c.tc : Thread Cert.AdamHalfGainIdeal.nD Cert.AdamHalfGainIdeal.τ).loc Cert.AdamHalfGainIdeal.main_arg3)) →
    ∃ (v0 : (c : Dev Cert.AdamHalfGainIdeal.nD) → Buf (Elt Ideal) ((c.tc : Thread Cert.AdamHalfGainIdeal.nD Cert.AdamHalfGainIdeal.τ).loc Cert.AdamHalfGainIdeal.main_v0_0)) (v1 : (c : Dev Cert.AdamHalfGainIdeal.nD) → Buf (Elt Ideal) ((c.tc : Thread Cert.AdamHalfGainIdeal.nD Cert.AdamHalfGainIdeal.τ).loc Cert.AdamHalfGainIdeal.main_v0_1)) (v2 : (c : Dev Cert.AdamHalfGainIdeal.nD) → Buf (Elt Ideal) ((c.tc : Thread Cert.AdamHalfGainIdeal.nD Cert.AdamHalfGainIdeal.τ).loc Cert.AdamHalfGainIdeal.main_v0_2)),
      θ_run (Cert.AdamHalfGainIdeal.defs (F := Ideal)) (onTc (τ := Cert.AdamHalfGainIdeal.τ) (Cert.AdamHalfGainIdeal.main (F := Ideal))) ⟨m, fun _ => 0, g⟩ (fun r => ∀ c : Dev Cert.AdamHalfGainIdeal.nD,
          r.2.mem ((c.tc : Thread Cert.AdamHalfGainIdeal.nD Cert.AdamHalfGainIdeal.τ).loc Cert.AdamHalfGainIdeal.main_v0_0) = v0 c
          ∧ r.2.mem ((c.tc : Thread Cert.AdamHalfGainIdeal.nD Cert.AdamHalfGainIdeal.τ).loc Cert.AdamHalfGainIdeal.main_v0_1) = v1 c
          ∧ r.2.mem ((c.tc : Thread Cert.AdamHalfGainIdeal.nD Cert.AdamHalfGainIdeal.τ).loc Cert.AdamHalfGainIdeal.main_v0_2) = v2 c
          ∧ r.2.mem ((c.tc : Thread Cert.AdamHalfGainIdeal.nD Cert.AdamHalfGainIdeal.τ).loc Cert.AdamHalfGainIdeal.main_arg0) = m ((c.tc : Thread Cert.AdamHalfGainIdeal.nD Cert.AdamHalfGainIdeal.τ).loc Cert.AdamHalfGainIdeal.main_arg0)
          ∧ r.2.mem ((c.tc : Thread Cert.AdamHalfGainIdeal.nD Cert.AdamHalfGainIdeal.τ).loc Cert.AdamHalfGainIdeal.main_arg1) = m ((c.tc : Thread Cert.AdamHalfGainIdeal.nD Cert.AdamHalfGainIdeal.τ).loc Cert.AdamHalfGainIdeal.main_arg1)
          ∧ r.2.mem ((c.tc : Thread Cert.AdamHalfGainIdeal.nD Cert.AdamHalfGainIdeal.τ).loc Cert.AdamHalfGainIdeal.main_arg2) = m ((c.tc : Thread Cert.AdamHalfGainIdeal.nD Cert.AdamHalfGainIdeal.τ).loc Cert.AdamHalfGainIdeal.main_arg2)
          ∧ r.2.mem ((c.tc : Thread Cert.AdamHalfGainIdeal.nD Cert.AdamHalfGainIdeal.τ).loc Cert.AdamHalfGainIdeal.main_arg3) = m ((c.tc : Thread Cert.AdamHalfGainIdeal.nD Cert.AdamHalfGainIdeal.τ).loc Cert.AdamHalfGainIdeal.main_arg3))
      ∧ θ_run (Cert.ReferenceAdamHalfGainIdeal.defs (F := Ideal)) (onTc (τ := Cert.ReferenceAdamHalfGainIdeal.τ) (Cert.ReferenceAdamHalfGainIdeal.main (F := Ideal))) ⟨m', fun _ => 0, g'⟩ (fun r => ∀ c : Dev Cert.ReferenceAdamHalfGainIdeal.nD,
          r.2.mem ((c.tc : Thread Cert.ReferenceAdamHalfGainIdeal.nD Cert.ReferenceAdamHalfGainIdeal.τ).loc Cert.ReferenceAdamHalfGainIdeal.main_v23) = v0 c
          ∧ r.2.mem ((c.tc : Thread Cert.ReferenceAdamHalfGainIdeal.nD Cert.ReferenceAdamHalfGainIdeal.τ).loc Cert.ReferenceAdamHalfGainIdeal.main_v4) = v1 c
          ∧ r.2.mem ((c.tc : Thread Cert.ReferenceAdamHalfGainIdeal.nD Cert.ReferenceAdamHalfGainIdeal.τ).loc Cert.ReferenceAdamHalfGainIdeal.main_v10) = v2 c
          ∧ r.2.mem ((c.tc : Thread Cert.ReferenceAdamHalfGainIdeal.nD Cert.ReferenceAdamHalfGainIdeal.τ).loc Cert.ReferenceAdamHalfGainIdeal.main_arg0) = m' ((c.tc : Thread Cert.ReferenceAdamHalfGainIdeal.nD Cert.ReferenceAdamHalfGainIdeal.τ).loc Cert.ReferenceAdamHalfGainIdeal.main_arg0)
          ∧ r.2.mem ((c.tc : Thread Cert.ReferenceAdamHalfGainIdeal.nD Cert.ReferenceAdamHalfGainIdeal.τ).loc Cert.ReferenceAdamHalfGainIdeal.main_arg1) = m' ((c.tc : Thread Cert.ReferenceAdamHalfGainIdeal.nD Cert.ReferenceAdamHalfGainIdeal.τ).loc Cert.ReferenceAdamHalfGainIdeal.main_arg1)
          ∧ r.2.mem ((c.tc : Thread Cert.ReferenceAdamHalfGainIdeal.nD Cert.ReferenceAdamHalfGainIdeal.τ).loc Cert.ReferenceAdamHalfGainIdeal.main_arg2) = m' ((c.tc : Thread Cert.ReferenceAdamHalfGainIdeal.nD Cert.ReferenceAdamHalfGainIdeal.τ).loc Cert.ReferenceAdamHalfGainIdeal.main_arg2)
          ∧ r.2.mem ((c.tc : Thread Cert.ReferenceAdamHalfGainIdeal.nD Cert.ReferenceAdamHalfGainIdeal.τ).loc Cert.ReferenceAdamHalfGainIdeal.main_arg3) = m' ((c.tc : Thread Cert.ReferenceAdamHalfGainIdeal.nD Cert.ReferenceAdamHalfGainIdeal.τ).loc Cert.ReferenceAdamHalfGainIdeal.main_arg3))

def preserves_Norm_NormIdeal : Prop :=
  True

def algebraic_NormIdeal_ReferenceNormIdeal [hNormIdeal : Cert.NormIdeal.Facts] [hReferenceNormIdeal : Cert.ReferenceNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_NormIdeal m →
    (∀ c : Dev Cert.NormIdeal.nD,
      m' ((c.tc : Thread Cert.ReferenceNormIdeal.nD Cert.ReferenceNormIdeal.τ).loc Cert.ReferenceNormIdeal.main_arg0) = m ((c.tc : Thread Cert.NormIdeal.nD Cert.NormIdeal.τ).loc Cert.NormIdeal.main_arg0)
      ∧ m' ((c.tc : Thread Cert.ReferenceNormIdeal.nD Cert.ReferenceNormIdeal.τ).loc Cert.ReferenceNormIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_NormBwd_NormBwdIdeal : Prop :=
  True

def algebraic_NormBwdIdeal_ReferenceNormBwdIdeal [hNormBwdIdeal : Cert.NormBwdIdeal.Facts] [hReferenceNormBwdIdeal : Cert.ReferenceNormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.ReferenceNormBwdIdeal.nD Cert.ReferenceNormBwdIdeal.τ Cert.ReferenceNormBwdIdeal.sig) → Buf (Elt Ideal) ℓ) (g' : Dev Cert.ReferenceNormBwdIdeal.nD → PrngReg), Pre_NormBwdIdeal m →
    (∀ c : Dev Cert.NormBwdIdeal.nD,
      m' ((c.tc : Thread Cert.ReferenceNormBwdIdeal.nD Cert.ReferenceNormBwdIdeal.τ).loc Cert.ReferenceNormBwdIdeal.main_arg0) = m ((c.tc : Thread Cert.NormBwdIdeal.nD Cert.NormBwdIdeal.τ).loc Cert.NormBwdIdeal.main_arg0)
      ∧ m' ((c.tc : Thread Cert.ReferenceNormBwdIdeal.nD Cert.ReferenceNormBwdIdeal.τ).loc Cert.ReferenceNormBwdIdeal.main_arg1) = m ((c.tc : Thread Cert.NormBwdIdeal.nD Cert.NormBwdIdeal.τ).loc Cert.NormBwdIdeal.main_arg1)
      ∧ m' ((c.tc : Thread Cert.ReferenceNormBwdIdeal.nD Cert.ReferenceNormBwdIdeal.τ).loc Cert.ReferenceNormBwdIdeal.main_arg2) = m ((c.tc : Thread Cert.NormBwdIdeal.nD Cert.NormBwdIdeal.τ).loc Cert.NormBwdIdeal.main_arg2)
      ∧ m' ((c.tc : Thread Cert.ReferenceNormBwdIdeal.nD Cert.ReferenceNormBwdIdeal.τ).loc Cert.ReferenceNormBwdIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.ReferenceNormBwdIdeal.defs (F := Ideal)) (onTc (τ := Cert.ReferenceNormBwdIdeal.τ) (Cert.ReferenceNormBwdIdeal.main (F := Ideal))) ⟨m', fun _ => 0, g'⟩ (fun r => ∀ c : Dev Cert.ReferenceNormBwdIdeal.nD,
          r.2.mem ((c.tc : Thread Cert.ReferenceNormBwdIdeal.nD Cert.ReferenceNormBwdIdeal.τ).loc Cert.ReferenceNormBwdIdeal.main_v22) = v0 c
          ∧ r.2.mem ((c.tc : Thread Cert.ReferenceNormBwdIdeal.nD Cert.ReferenceNormBwdIdeal.τ).loc Cert.ReferenceNormBwdIdeal.main_v25) = v1 c
          ∧ r.2.mem ((c.tc : Thread Cert.ReferenceNormBwdIdeal.nD Cert.ReferenceNormBwdIdeal.τ).loc Cert.ReferenceNormBwdIdeal.main_arg0) = m' ((c.tc : Thread Cert.ReferenceNormBwdIdeal.nD Cert.ReferenceNormBwdIdeal.τ).loc Cert.ReferenceNormBwdIdeal.main_arg0)
          ∧ r.2.mem ((c.tc : Thread Cert.ReferenceNormBwdIdeal.nD Cert.ReferenceNormBwdIdeal.τ).loc Cert.ReferenceNormBwdIdeal.main_arg1) = m' ((c.tc : Thread Cert.ReferenceNormBwdIdeal.nD Cert.ReferenceNormBwdIdeal.τ).loc Cert.ReferenceNormBwdIdeal.main_arg1)
          ∧ r.2.mem ((c.tc : Thread Cert.ReferenceNormBwdIdeal.nD Cert.ReferenceNormBwdIdeal.τ).loc Cert.ReferenceNormBwdIdeal.main_arg2) = m' ((c.tc : Thread Cert.ReferenceNormBwdIdeal.nD Cert.ReferenceNormBwdIdeal.τ).loc Cert.ReferenceNormBwdIdeal.main_arg2)
          ∧ r.2.mem ((c.tc : Thread Cert.ReferenceNormBwdIdeal.nD Cert.ReferenceNormBwdIdeal.τ).loc Cert.ReferenceNormBwdIdeal.main_arg3) = m' ((c.tc : Thread Cert.ReferenceNormBwdIdeal.nD Cert.ReferenceNormBwdIdeal.τ).loc Cert.ReferenceNormBwdIdeal.main_arg3))

def preserves_MmGate_MmGateIdeal : Prop :=
  True

def algebraic_MmGateIdeal_ReferenceMmGateIdeal [hMmGateIdeal : Cert.MmGateIdeal.Facts] [hReferenceMmGateIdeal : Cert.ReferenceMmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg)
    (m' : (ℓ : Loc Cert.ReferenceMmGateIdeal.nD Cert.ReferenceMmGateIdeal.τ Cert.ReferenceMmGateIdeal.sig) → Buf (Elt Ideal) ℓ) (g' : Dev Cert.ReferenceMmGateIdeal.nD → PrngReg), Pre_MmGateIdeal m →
    (∀ c : Dev Cert.MmGateIdeal.nD,
      m' ((c.tc : Thread Cert.ReferenceMmGateIdeal.nD Cert.ReferenceMmGateIdeal.τ).loc Cert.ReferenceMmGateIdeal.main_arg0) = m ((c.tc : Thread Cert.MmGateIdeal.nD Cert.MmGateIdeal.τ).loc Cert.MmGateIdeal.main_arg0)
      ∧ m' ((c.tc : Thread Cert.ReferenceMmGateIdeal.nD Cert.ReferenceMmGateIdeal.τ).loc Cert.ReferenceMmGateIdeal.main_arg1) = m ((c.tc : Thread Cert.MmGateIdeal.nD Cert.MmGateIdeal.τ).loc Cert.MmGateIdeal.main_arg1)) →
    ∃ (v0 : (c : Dev Cert.MmGateIdeal.nD) → Buf (Elt Ideal) ((c.tc : Thread Cert.MmGateIdeal.nD Cert.MmGateIdeal.τ).loc Cert.MmGateIdeal.main_v0)),
      θ_run (Cert.MmGateIdeal.defs (F := Ideal)) (onTc (τ := Cert.MmGateIdeal.τ) (Cert.MmGateIdeal.main (F := Ideal))) ⟨m, fun _ => 0, g⟩ (fun r => ∀ c : Dev Cert.MmGateIdeal.nD,
          r.2.mem ((c.tc : Thread Cert.MmGateIdeal.nD Cert.MmGateIdeal.τ).loc Cert.MmGateIdeal.main_v0) = v0 c
          ∧ r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
          ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ θ_run (Cert.ReferenceMmGateIdeal.defs (F := Ideal)) (onTc (τ := Cert.ReferenceMmGateIdeal.τ) (Cert.ReferenceMmGateIdeal.main (F := Ideal))) ⟨m', fun _ => 0, g'⟩ (fun r => ∀ c : Dev Cert.ReferenceMmGateIdeal.nD,
          r.2.mem ((c.tc : Thread Cert.ReferenceMmGateIdeal.nD Cert.ReferenceMmGateIdeal.τ).loc Cert.ReferenceMmGateIdeal.main_v3) = v0 c
          ∧ r.2.mem ((c.tc : Thread Cert.ReferenceMmGateIdeal.nD Cert.ReferenceMmGateIdeal.τ).loc Cert.ReferenceMmGateIdeal.main_arg0) = m' ((c.tc : Thread Cert.ReferenceMmGateIdeal.nD Cert.ReferenceMmGateIdeal.τ).loc Cert.ReferenceMmGateIdeal.main_arg0)
          ∧ r.2.mem ((c.tc : Thread Cert.ReferenceMmGateIdeal.nD Cert.ReferenceMmGateIdeal.τ).loc Cert.ReferenceMmGateIdeal.main_arg1) = m' ((c.tc : Thread Cert.ReferenceMmGateIdeal.nD Cert.ReferenceMmGateIdeal.τ).loc Cert.ReferenceMmGateIdeal.main_arg1))

def preserves_MmUp_MmUpIdeal : Prop :=
  True

def algebraic_MmUpIdeal_ReferenceMmUpIdeal [hMmUpIdeal : Cert.MmUpIdeal.Facts] [hReferenceMmUpIdeal : Cert.ReferenceMmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.ReferenceMmUpIdeal.nD Cert.ReferenceMmUpIdeal.τ Cert.ReferenceMmUpIdeal.sig) → Buf (Elt Ideal) ℓ) (g' : Dev Cert.ReferenceMmUpIdeal.nD → PrngReg), Pre_MmUpIdeal m →
    (∀ c : Dev Cert.MmUpIdeal.nD,
      m' ((c.tc : Thread Cert.ReferenceMmUpIdeal.nD Cert.ReferenceMmUpIdeal.τ).loc Cert.ReferenceMmUpIdeal.main_arg0) = m ((c.tc : Thread Cert.MmUpIdeal.nD Cert.MmUpIdeal.τ).loc Cert.MmUpIdeal.main_arg0)
      ∧ m' ((c.tc : Thread Cert.ReferenceMmUpIdeal.nD Cert.ReferenceMmUpIdeal.τ).loc Cert.ReferenceMmUpIdeal.main_arg1) = m ((c.tc : Thread Cert.MmUpIdeal.nD Cert.MmUpIdeal.τ).loc Cert.MmUpIdeal.main_arg1)
      ∧ m' ((c.tc : Thread Cert.ReferenceMmUpIdeal.nD Cert.ReferenceMmUpIdeal.τ).loc Cert.ReferenceMmUpIdeal.main_arg2) = m ((c.tc : Thread Cert.MmUpIdeal.nD Cert.MmUpIdeal.τ).loc Cert.MmUpIdeal.main_arg2)) →
    ∃ (v0 : (c : Dev Cert.MmUpIdeal.nD) → Buf (Elt Ideal) ((c.tc : Thread Cert.MmUpIdeal.nD Cert.MmUpIdeal.τ).loc Cert.MmUpIdeal.main_v0_0)) (v1 : (c : Dev Cert.MmUpIdeal.nD) → Buf (Elt Ideal) ((c.tc : Thread Cert.MmUpIdeal.nD Cert.MmUpIdeal.τ).loc Cert.MmUpIdeal.main_v0_1)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0_0) = v0 c
          ∧ r.2.mem ((c.tc : Thread Cert.MmUpIdeal.nD Cert.MmUpIdeal.τ).loc Cert.MmUpIdeal.main_v0_1) = v1 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1)
          ∧ r.2.mem ((c.tc : Thread Cert.MmUpIdeal.nD Cert.MmUpIdeal.τ).loc Cert.MmUpIdeal.main_arg2) = m ((c.tc : Thread Cert.MmUpIdeal.nD Cert.MmUpIdeal.τ).loc Cert.MmUpIdeal.main_arg2))
      ∧ θ_run (Cert.ReferenceMmUpIdeal.defs (F := Ideal)) (onTc (τ := Cert.ReferenceMmUpIdeal.τ) (Cert.ReferenceMmUpIdeal.main (F := Ideal))) ⟨m', fun _ => 0, g'⟩ (fun r => ∀ c : Dev Cert.ReferenceMmUpIdeal.nD,
          r.2.mem ((c.tc : Thread Cert.ReferenceMmUpIdeal.nD Cert.ReferenceMmUpIdeal.τ).loc Cert.ReferenceMmUpIdeal.main_v3) = v0 c
          ∧ r.2.mem ((c.tc : Thread Cert.ReferenceMmUpIdeal.nD Cert.ReferenceMmUpIdeal.τ).loc Cert.ReferenceMmUpIdeal.main_v7) = v1 c
          ∧ r.2.mem ((c.tc : Thread Cert.ReferenceMmUpIdeal.nD Cert.ReferenceMmUpIdeal.τ).loc Cert.ReferenceMmUpIdeal.main_arg0) = m' ((c.tc : Thread Cert.ReferenceMmUpIdeal.nD Cert.ReferenceMmUpIdeal.τ).loc Cert.ReferenceMmUpIdeal.main_arg0)
          ∧ r.2.mem ((c.tc : Thread Cert.ReferenceMmUpIdeal.nD Cert.ReferenceMmUpIdeal.τ).loc Cert.ReferenceMmUpIdeal.main_arg1) = m' ((c.tc : Thread Cert.ReferenceMmUpIdeal.nD Cert.ReferenceMmUpIdeal.τ).loc Cert.ReferenceMmUpIdeal.main_arg1)
          ∧ r.2.mem ((c.tc : Thread Cert.ReferenceMmUpIdeal.nD Cert.ReferenceMmUpIdeal.τ).loc Cert.ReferenceMmUpIdeal.main_arg2) = m' ((c.tc : Thread Cert.ReferenceMmUpIdeal.nD Cert.ReferenceMmUpIdeal.τ).loc Cert.ReferenceMmUpIdeal.main_arg2))

def preserves_MmDown_MmDownIdeal : Prop :=
  True

def algebraic_MmDownIdeal_ReferenceMmDownIdeal [hMmDownIdeal : Cert.MmDownIdeal.Facts] [hReferenceMmDownIdeal : Cert.ReferenceMmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.ReferenceMmDownIdeal.nD Cert.ReferenceMmDownIdeal.τ Cert.ReferenceMmDownIdeal.sig) → Buf (Elt Ideal) ℓ) (g' : Dev Cert.ReferenceMmDownIdeal.nD → PrngReg), Pre_MmDownIdeal m →
    (∀ c : Dev Cert.MmDownIdeal.nD,
      m' ((c.tc : Thread Cert.ReferenceMmDownIdeal.nD Cert.ReferenceMmDownIdeal.τ).loc Cert.ReferenceMmDownIdeal.main_arg0) = m ((c.tc : Thread Cert.MmDownIdeal.nD Cert.MmDownIdeal.τ).loc Cert.MmDownIdeal.main_arg0)
      ∧ m' ((c.tc : Thread Cert.ReferenceMmDownIdeal.nD Cert.ReferenceMmDownIdeal.τ).loc Cert.ReferenceMmDownIdeal.main_arg1) = m ((c.tc : Thread Cert.MmDownIdeal.nD Cert.MmDownIdeal.τ).loc Cert.MmDownIdeal.main_arg1)
      ∧ m' ((c.tc : Thread Cert.ReferenceMmDownIdeal.nD Cert.ReferenceMmDownIdeal.τ).loc Cert.ReferenceMmDownIdeal.main_arg2) = m ((c.tc : Thread Cert.MmDownIdeal.nD Cert.MmDownIdeal.τ).loc Cert.MmDownIdeal.main_arg2)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ θ_run (Cert.ReferenceMmDownIdeal.defs (F := Ideal)) (onTc (τ := Cert.ReferenceMmDownIdeal.τ) (Cert.ReferenceMmDownIdeal.main (F := Ideal))) ⟨m', fun _ => 0, g'⟩ (fun r => ∀ c : Dev Cert.ReferenceMmDownIdeal.nD,
          r.2.mem ((c.tc : Thread Cert.ReferenceMmDownIdeal.nD Cert.ReferenceMmDownIdeal.τ).loc Cert.ReferenceMmDownIdeal.main_v5) = v0 c
          ∧ r.2.mem ((c.tc : Thread Cert.ReferenceMmDownIdeal.nD Cert.ReferenceMmDownIdeal.τ).loc Cert.ReferenceMmDownIdeal.main_arg0) = m' ((c.tc : Thread Cert.ReferenceMmDownIdeal.nD Cert.ReferenceMmDownIdeal.τ).loc Cert.ReferenceMmDownIdeal.main_arg0)
          ∧ r.2.mem ((c.tc : Thread Cert.ReferenceMmDownIdeal.nD Cert.ReferenceMmDownIdeal.τ).loc Cert.ReferenceMmDownIdeal.main_arg1) = m' ((c.tc : Thread Cert.ReferenceMmDownIdeal.nD Cert.ReferenceMmDownIdeal.τ).loc Cert.ReferenceMmDownIdeal.main_arg1)
          ∧ r.2.mem ((c.tc : Thread Cert.ReferenceMmDownIdeal.nD Cert.ReferenceMmDownIdeal.τ).loc Cert.ReferenceMmDownIdeal.main_arg2) = m' ((c.tc : Thread Cert.ReferenceMmDownIdeal.nD Cert.ReferenceMmDownIdeal.τ).loc Cert.ReferenceMmDownIdeal.main_arg2))

def preserves_MmBwdAct_MmBwdActIdeal : Prop :=
  True

def algebraic_MmBwdActIdeal_ReferenceMmBwdActIdeal [hMmBwdActIdeal : Cert.MmBwdActIdeal.Facts] [hReferenceMmBwdActIdeal : Cert.ReferenceMmBwdActIdeal.Facts] : Prop :=
  ∀ (m : (ℓ : Loc Cert.MmBwdActIdeal.nD Cert.MmBwdActIdeal.τ Cert.MmBwdActIdeal.sig) → Buf (Elt Ideal) ℓ) (g : Dev Cert.MmBwdActIdeal.nD → PrngReg)
    (m' : (ℓ : Loc Cert.ReferenceMmBwdActIdeal.nD Cert.ReferenceMmBwdActIdeal.τ Cert.ReferenceMmBwdActIdeal.sig) → Buf (Elt Ideal) ℓ) (g' : Dev Cert.ReferenceMmBwdActIdeal.nD → PrngReg), Pre_MmBwdActIdeal m →
    (∀ c : Dev Cert.MmBwdActIdeal.nD,
      m' ((c.tc : Thread Cert.ReferenceMmBwdActIdeal.nD Cert.ReferenceMmBwdActIdeal.τ).loc Cert.ReferenceMmBwdActIdeal.main_arg0) = m ((c.tc : Thread Cert.MmBwdActIdeal.nD Cert.MmBwdActIdeal.τ).loc Cert.MmBwdActIdeal.main_arg0)
      ∧ m' ((c.tc : Thread Cert.ReferenceMmBwdActIdeal.nD Cert.ReferenceMmBwdActIdeal.τ).loc Cert.ReferenceMmBwdActIdeal.main_arg1) = m ((c.tc : Thread Cert.MmBwdActIdeal.nD Cert.MmBwdActIdeal.τ).loc Cert.MmBwdActIdeal.main_arg1)
      ∧ m' ((c.tc : Thread Cert.ReferenceMmBwdActIdeal.nD Cert.ReferenceMmBwdActIdeal.τ).loc Cert.ReferenceMmBwdActIdeal.main_arg2) = m ((c.tc : Thread Cert.MmBwdActIdeal.nD Cert.MmBwdActIdeal.τ).loc Cert.MmBwdActIdeal.main_arg2)
      ∧ m' ((c.tc : Thread Cert.ReferenceMmBwdActIdeal.nD Cert.ReferenceMmBwdActIdeal.τ).loc Cert.ReferenceMmBwdActIdeal.main_arg3) = m ((c.tc : Thread Cert.MmBwdActIdeal.nD Cert.MmBwdActIdeal.τ).loc Cert.MmBwdActIdeal.main_arg3)) →
    ∃ (v0 : (c : Dev Cert.MmBwdActIdeal.nD) → Buf (Elt Ideal) ((c.tc : Thread Cert.MmBwdActIdeal.nD Cert.MmBwdActIdeal.τ).loc Cert.MmBwdActIdeal.main_v0_0)) (v1 : (c : Dev Cert.MmBwdActIdeal.nD) → Buf (Elt Ideal) ((c.tc : Thread Cert.MmBwdActIdeal.nD Cert.MmBwdActIdeal.τ).loc Cert.MmBwdActIdeal.main_v0_1)),
      θ_run (Cert.MmBwdActIdeal.defs (F := Ideal)) (onTc (τ := Cert.MmBwdActIdeal.τ) (Cert.MmBwdActIdeal.main (F := Ideal))) ⟨m, fun _ => 0, g⟩ (fun r => ∀ c : Dev Cert.MmBwdActIdeal.nD,
          r.2.mem ((c.tc : Thread Cert.MmBwdActIdeal.nD Cert.MmBwdActIdeal.τ).loc Cert.MmBwdActIdeal.main_v0_0) = v0 c
          ∧ r.2.mem ((c.tc : Thread Cert.MmBwdActIdeal.nD Cert.MmBwdActIdeal.τ).loc Cert.MmBwdActIdeal.main_v0_1) = v1 c
          ∧ r.2.mem ((c.tc : Thread Cert.MmBwdActIdeal.nD Cert.MmBwdActIdeal.τ).loc Cert.MmBwdActIdeal.main_arg0) = m ((c.tc : Thread Cert.MmBwdActIdeal.nD Cert.MmBwdActIdeal.τ).loc Cert.MmBwdActIdeal.main_arg0)
          ∧ r.2.mem ((c.tc : Thread Cert.MmBwdActIdeal.nD Cert.MmBwdActIdeal.τ).loc Cert.MmBwdActIdeal.main_arg1) = m ((c.tc : Thread Cert.MmBwdActIdeal.nD Cert.MmBwdActIdeal.τ).loc Cert.MmBwdActIdeal.main_arg1)
          ∧ r.2.mem ((c.tc : Thread Cert.MmBwdActIdeal.nD Cert.MmBwdActIdeal.τ).loc Cert.MmBwdActIdeal.main_arg2) = m ((c.tc : Thread Cert.MmBwdActIdeal.nD Cert.MmBwdActIdeal.τ).loc Cert.MmBwdActIdeal.main_arg2)
          ∧ r.2.mem ((c.tc : Thread Cert.MmBwdActIdeal.nD Cert.MmBwdActIdeal.τ).loc Cert.MmBwdActIdeal.main_arg3) = m ((c.tc : Thread Cert.MmBwdActIdeal.nD Cert.MmBwdActIdeal.τ).loc Cert.MmBwdActIdeal.main_arg3))
      ∧ θ_run (Cert.ReferenceMmBwdActIdeal.defs (F := Ideal)) (onTc (τ := Cert.ReferenceMmBwdActIdeal.τ) (Cert.ReferenceMmBwdActIdeal.main (F := Ideal))) ⟨m', fun _ => 0, g'⟩ (fun r => ∀ c : Dev Cert.ReferenceMmBwdActIdeal.nD,
          r.2.mem ((c.tc : Thread Cert.ReferenceMmBwdActIdeal.nD Cert.ReferenceMmBwdActIdeal.τ).loc Cert.ReferenceMmBwdActIdeal.main_v21) = v0 c
          ∧ r.2.mem ((c.tc : Thread Cert.ReferenceMmBwdActIdeal.nD Cert.ReferenceMmBwdActIdeal.τ).loc Cert.ReferenceMmBwdActIdeal.main_v24) = v1 c
          ∧ r.2.mem ((c.tc : Thread Cert.ReferenceMmBwdActIdeal.nD Cert.ReferenceMmBwdActIdeal.τ).loc Cert.ReferenceMmBwdActIdeal.main_arg0) = m' ((c.tc : Thread Cert.ReferenceMmBwdActIdeal.nD Cert.ReferenceMmBwdActIdeal.τ).loc Cert.ReferenceMmBwdActIdeal.main_arg0)
          ∧ r.2.mem ((c.tc : Thread Cert.ReferenceMmBwdActIdeal.nD Cert.ReferenceMmBwdActIdeal.τ).loc Cert.ReferenceMmBwdActIdeal.main_arg1) = m' ((c.tc : Thread Cert.ReferenceMmBwdActIdeal.nD Cert.ReferenceMmBwdActIdeal.τ).loc Cert.ReferenceMmBwdActIdeal.main_arg1)
          ∧ r.2.mem ((c.tc : Thread Cert.ReferenceMmBwdActIdeal.nD Cert.ReferenceMmBwdActIdeal.τ).loc Cert.ReferenceMmBwdActIdeal.main_arg2) = m' ((c.tc : Thread Cert.ReferenceMmBwdActIdeal.nD Cert.ReferenceMmBwdActIdeal.τ).loc Cert.ReferenceMmBwdActIdeal.main_arg2)
          ∧ r.2.mem ((c.tc : Thread Cert.ReferenceMmBwdActIdeal.nD Cert.ReferenceMmBwdActIdeal.τ).loc Cert.ReferenceMmBwdActIdeal.main_arg3) = m' ((c.tc : Thread Cert.ReferenceMmBwdActIdeal.nD Cert.ReferenceMmBwdActIdeal.τ).loc Cert.ReferenceMmBwdActIdeal.main_arg3))

def preserves_MmDhGate_MmDhGateIdeal : Prop :=
  True

def algebraic_MmDhGateIdeal_ReferenceMmDhGateIdeal [hMmDhGateIdeal : Cert.MmDhGateIdeal.Facts] [hReferenceMmDhGateIdeal : Cert.ReferenceMmDhGateIdeal.Facts] : Prop :=
  ∀ (m : (ℓ : Loc Cert.MmDhGateIdeal.nD Cert.MmDhGateIdeal.τ Cert.MmDhGateIdeal.sig) → Buf (Elt Ideal) ℓ) (g : Dev Cert.MmDhGateIdeal.nD → PrngReg)
    (m' : (ℓ : Loc Cert.ReferenceMmDhGateIdeal.nD Cert.ReferenceMmDhGateIdeal.τ Cert.ReferenceMmDhGateIdeal.sig) → Buf (Elt Ideal) ℓ) (g' : Dev Cert.ReferenceMmDhGateIdeal.nD → PrngReg), Pre_MmDhGateIdeal m →
    (∀ c : Dev Cert.MmDhGateIdeal.nD,
      m' ((c.tc : Thread Cert.ReferenceMmDhGateIdeal.nD Cert.ReferenceMmDhGateIdeal.τ).loc Cert.ReferenceMmDhGateIdeal.main_arg0) = m ((c.tc : Thread Cert.MmDhGateIdeal.nD Cert.MmDhGateIdeal.τ).loc Cert.MmDhGateIdeal.main_arg0)
      ∧ m' ((c.tc : Thread Cert.ReferenceMmDhGateIdeal.nD Cert.ReferenceMmDhGateIdeal.τ).loc Cert.ReferenceMmDhGateIdeal.main_arg1) = m ((c.tc : Thread Cert.MmDhGateIdeal.nD Cert.MmDhGateIdeal.τ).loc Cert.MmDhGateIdeal.main_arg1)) →
    ∃ (v0 : (c : Dev Cert.MmDhGateIdeal.nD) → Buf (Elt Ideal) ((c.tc : Thread Cert.MmDhGateIdeal.nD Cert.MmDhGateIdeal.τ).loc Cert.MmDhGateIdeal.main_v0)),
      θ_run (Cert.MmDhGateIdeal.defs (F := Ideal)) (onTc (τ := Cert.MmDhGateIdeal.τ) (Cert.MmDhGateIdeal.main (F := Ideal))) ⟨m, fun _ => 0, g⟩ (fun r => ∀ c : Dev Cert.MmDhGateIdeal.nD,
          r.2.mem ((c.tc : Thread Cert.MmDhGateIdeal.nD Cert.MmDhGateIdeal.τ).loc Cert.MmDhGateIdeal.main_v0) = v0 c
          ∧ r.2.mem ((c.tc : Thread Cert.MmDhGateIdeal.nD Cert.MmDhGateIdeal.τ).loc Cert.MmDhGateIdeal.main_arg0) = m ((c.tc : Thread Cert.MmDhGateIdeal.nD Cert.MmDhGateIdeal.τ).loc Cert.MmDhGateIdeal.main_arg0)
          ∧ r.2.mem ((c.tc : Thread Cert.MmDhGateIdeal.nD Cert.MmDhGateIdeal.τ).loc Cert.MmDhGateIdeal.main_arg1) = m ((c.tc : Thread Cert.MmDhGateIdeal.nD Cert.MmDhGateIdeal.τ).loc Cert.MmDhGateIdeal.main_arg1))
      ∧ θ_run (Cert.ReferenceMmDhGateIdeal.defs (F := Ideal)) (onTc (τ := Cert.ReferenceMmDhGateIdeal.τ) (Cert.ReferenceMmDhGateIdeal.main (F := Ideal))) ⟨m', fun _ => 0, g'⟩ (fun r => ∀ c : Dev Cert.ReferenceMmDhGateIdeal.nD,
          r.2.mem ((c.tc : Thread Cert.ReferenceMmDhGateIdeal.nD Cert.ReferenceMmDhGateIdeal.τ).loc Cert.ReferenceMmDhGateIdeal.main_v3) = v0 c
          ∧ r.2.mem ((c.tc : Thread Cert.ReferenceMmDhGateIdeal.nD Cert.ReferenceMmDhGateIdeal.τ).loc Cert.ReferenceMmDhGateIdeal.main_arg0) = m' ((c.tc : Thread Cert.ReferenceMmDhGateIdeal.nD Cert.ReferenceMmDhGateIdeal.τ).loc Cert.ReferenceMmDhGateIdeal.main_arg0)
          ∧ r.2.mem ((c.tc : Thread Cert.ReferenceMmDhGateIdeal.nD Cert.ReferenceMmDhGateIdeal.τ).loc Cert.ReferenceMmDhGateIdeal.main_arg1) = m' ((c.tc : Thread Cert.ReferenceMmDhGateIdeal.nD Cert.ReferenceMmDhGateIdeal.τ).loc Cert.ReferenceMmDhGateIdeal.main_arg1))

def preserves_MmDhUp_MmDhUpIdeal : Prop :=
  True

def algebraic_MmDhUpIdeal_ReferenceMmDhUpIdeal [hMmDhUpIdeal : Cert.MmDhUpIdeal.Facts] [hReferenceMmDhUpIdeal : Cert.ReferenceMmDhUpIdeal.Facts] : Prop :=
  ∀ (m : (ℓ : Loc Cert.MmDhUpIdeal.nD Cert.MmDhUpIdeal.τ Cert.MmDhUpIdeal.sig) → Buf (Elt Ideal) ℓ) (g : Dev Cert.MmDhUpIdeal.nD → PrngReg)
    (m' : (ℓ : Loc Cert.ReferenceMmDhUpIdeal.nD Cert.ReferenceMmDhUpIdeal.τ Cert.ReferenceMmDhUpIdeal.sig) → Buf (Elt Ideal) ℓ) (g' : Dev Cert.ReferenceMmDhUpIdeal.nD → PrngReg), Pre_MmDhUpIdeal m →
    (∀ c : Dev Cert.MmDhUpIdeal.nD,
      m' ((c.tc : Thread Cert.ReferenceMmDhUpIdeal.nD Cert.ReferenceMmDhUpIdeal.τ).loc Cert.ReferenceMmDhUpIdeal.main_arg0) = m ((c.tc : Thread Cert.MmDhUpIdeal.nD Cert.MmDhUpIdeal.τ).loc Cert.MmDhUpIdeal.main_arg0)
      ∧ m' ((c.tc : Thread Cert.ReferenceMmDhUpIdeal.nD Cert.ReferenceMmDhUpIdeal.τ).loc Cert.ReferenceMmDhUpIdeal.main_arg1) = m ((c.tc : Thread Cert.MmDhUpIdeal.nD Cert.MmDhUpIdeal.τ).loc Cert.MmDhUpIdeal.main_arg1)
      ∧ m' ((c.tc : Thread Cert.ReferenceMmDhUpIdeal.nD Cert.ReferenceMmDhUpIdeal.τ).loc Cert.ReferenceMmDhUpIdeal.main_arg2) = m ((c.tc : Thread Cert.MmDhUpIdeal.nD Cert.MmDhUpIdeal.τ).loc Cert.MmDhUpIdeal.main_arg2)) →
    ∃ (v0 : (c : Dev Cert.MmDhUpIdeal.nD) → Buf (Elt Ideal) ((c.tc : Thread Cert.MmDhUpIdeal.nD Cert.MmDhUpIdeal.τ).loc Cert.MmDhUpIdeal.main_v0)),
      θ_run (Cert.MmDhUpIdeal.defs (F := Ideal)) (onTc (τ := Cert.MmDhUpIdeal.τ) (Cert.MmDhUpIdeal.main (F := Ideal))) ⟨m, fun _ => 0, g⟩ (fun r => ∀ c : Dev Cert.MmDhUpIdeal.nD,
          r.2.mem ((c.tc : Thread Cert.MmDhUpIdeal.nD Cert.MmDhUpIdeal.τ).loc Cert.MmDhUpIdeal.main_v0) = v0 c
          ∧ r.2.mem ((c.tc : Thread Cert.MmDhUpIdeal.nD Cert.MmDhUpIdeal.τ).loc Cert.MmDhUpIdeal.main_arg0) = m ((c.tc : Thread Cert.MmDhUpIdeal.nD Cert.MmDhUpIdeal.τ).loc Cert.MmDhUpIdeal.main_arg0)
          ∧ r.2.mem ((c.tc : Thread Cert.MmDhUpIdeal.nD Cert.MmDhUpIdeal.τ).loc Cert.MmDhUpIdeal.main_arg1) = m ((c.tc : Thread Cert.MmDhUpIdeal.nD Cert.MmDhUpIdeal.τ).loc Cert.MmDhUpIdeal.main_arg1)
          ∧ r.2.mem ((c.tc : Thread Cert.MmDhUpIdeal.nD Cert.MmDhUpIdeal.τ).loc Cert.MmDhUpIdeal.main_arg2) = m ((c.tc : Thread Cert.MmDhUpIdeal.nD Cert.MmDhUpIdeal.τ).loc Cert.MmDhUpIdeal.main_arg2))
      ∧ θ_run (Cert.ReferenceMmDhUpIdeal.defs (F := Ideal)) (onTc (τ := Cert.ReferenceMmDhUpIdeal.τ) (Cert.ReferenceMmDhUpIdeal.main (F := Ideal))) ⟨m', fun _ => 0, g'⟩ (fun r => ∀ c : Dev Cert.ReferenceMmDhUpIdeal.nD,
          r.2.mem ((c.tc : Thread Cert.ReferenceMmDhUpIdeal.nD Cert.ReferenceMmDhUpIdeal.τ).loc Cert.ReferenceMmDhUpIdeal.main_v4) = v0 c
          ∧ r.2.mem ((c.tc : Thread Cert.ReferenceMmDhUpIdeal.nD Cert.ReferenceMmDhUpIdeal.τ).loc Cert.ReferenceMmDhUpIdeal.main_arg0) = m' ((c.tc : Thread Cert.ReferenceMmDhUpIdeal.nD Cert.ReferenceMmDhUpIdeal.τ).loc Cert.ReferenceMmDhUpIdeal.main_arg0)
          ∧ r.2.mem ((c.tc : Thread Cert.ReferenceMmDhUpIdeal.nD Cert.ReferenceMmDhUpIdeal.τ).loc Cert.ReferenceMmDhUpIdeal.main_arg1) = m' ((c.tc : Thread Cert.ReferenceMmDhUpIdeal.nD Cert.ReferenceMmDhUpIdeal.τ).loc Cert.ReferenceMmDhUpIdeal.main_arg1)
          ∧ r.2.mem ((c.tc : Thread Cert.ReferenceMmDhUpIdeal.nD Cert.ReferenceMmDhUpIdeal.τ).loc Cert.ReferenceMmDhUpIdeal.main_arg2) = m' ((c.tc : Thread Cert.ReferenceMmDhUpIdeal.nD Cert.ReferenceMmDhUpIdeal.τ).loc Cert.ReferenceMmDhUpIdeal.main_arg2))

def preserves_MmSb_MmSbIdeal : Prop :=
  True

def algebraic_MmSbIdeal_ReferenceMmSbIdeal [hMmSbIdeal : Cert.MmSbIdeal.Facts] [hReferenceMmSbIdeal : Cert.ReferenceMmSbIdeal.Facts] : Prop :=
  ∀ (m : (ℓ : Loc Cert.MmSbIdeal.nD Cert.MmSbIdeal.τ Cert.MmSbIdeal.sig) → Buf (Elt Ideal) ℓ) (g : Dev Cert.MmSbIdeal.nD → PrngReg)
    (m' : (ℓ : Loc Cert.ReferenceMmSbIdeal.nD Cert.ReferenceMmSbIdeal.τ Cert.ReferenceMmSbIdeal.sig) → Buf (Elt Ideal) ℓ) (g' : Dev Cert.ReferenceMmSbIdeal.nD → PrngReg), Pre_MmSbIdeal m →
    (∀ c : Dev Cert.MmSbIdeal.nD,
      m' ((c.tc : Thread Cert.ReferenceMmSbIdeal.nD Cert.ReferenceMmSbIdeal.τ).loc Cert.ReferenceMmSbIdeal.main_arg0) = m ((c.tc : Thread Cert.MmSbIdeal.nD Cert.MmSbIdeal.τ).loc Cert.MmSbIdeal.main_arg0)
      ∧ m' ((c.tc : Thread Cert.ReferenceMmSbIdeal.nD Cert.ReferenceMmSbIdeal.τ).loc Cert.ReferenceMmSbIdeal.main_arg1) = m ((c.tc : Thread Cert.MmSbIdeal.nD Cert.MmSbIdeal.τ).loc Cert.MmSbIdeal.main_arg1)) →
    ∃ (v0 : (c : Dev Cert.MmSbIdeal.nD) → Buf (Elt Ideal) ((c.tc : Thread Cert.MmSbIdeal.nD Cert.MmSbIdeal.τ).loc Cert.MmSbIdeal.main_v0)),
      θ_run (Cert.MmSbIdeal.defs (F := Ideal)) (onTc (τ := Cert.MmSbIdeal.τ) (Cert.MmSbIdeal.main (F := Ideal))) ⟨m, fun _ => 0, g⟩ (fun r => ∀ c : Dev Cert.MmSbIdeal.nD,
          r.2.mem ((c.tc : Thread Cert.MmSbIdeal.nD Cert.MmSbIdeal.τ).loc Cert.MmSbIdeal.main_v0) = v0 c
          ∧ r.2.mem ((c.tc : Thread Cert.MmSbIdeal.nD Cert.MmSbIdeal.τ).loc Cert.MmSbIdeal.main_arg0) = m ((c.tc : Thread Cert.MmSbIdeal.nD Cert.MmSbIdeal.τ).loc Cert.MmSbIdeal.main_arg0)
          ∧ r.2.mem ((c.tc : Thread Cert.MmSbIdeal.nD Cert.MmSbIdeal.τ).loc Cert.MmSbIdeal.main_arg1) = m ((c.tc : Thread Cert.MmSbIdeal.nD Cert.MmSbIdeal.τ).loc Cert.MmSbIdeal.main_arg1))
      ∧ θ_run (Cert.ReferenceMmSbIdeal.defs (F := Ideal)) (onTc (τ := Cert.ReferenceMmSbIdeal.τ) (Cert.ReferenceMmSbIdeal.main (F := Ideal))) ⟨m', fun _ => 0, g'⟩ (fun r => ∀ c : Dev Cert.ReferenceMmSbIdeal.nD,
          r.2.mem ((c.tc : Thread Cert.ReferenceMmSbIdeal.nD Cert.ReferenceMmSbIdeal.τ).loc Cert.ReferenceMmSbIdeal.main_v3) = v0 c
          ∧ r.2.mem ((c.tc : Thread Cert.ReferenceMmSbIdeal.nD Cert.ReferenceMmSbIdeal.τ).loc Cert.ReferenceMmSbIdeal.main_arg0) = m' ((c.tc : Thread Cert.ReferenceMmSbIdeal.nD Cert.ReferenceMmSbIdeal.τ).loc Cert.ReferenceMmSbIdeal.main_arg0)
          ∧ r.2.mem ((c.tc : Thread Cert.ReferenceMmSbIdeal.nD Cert.ReferenceMmSbIdeal.τ).loc Cert.ReferenceMmSbIdeal.main_arg1) = m' ((c.tc : Thread Cert.ReferenceMmSbIdeal.nD Cert.ReferenceMmSbIdeal.τ).loc Cert.ReferenceMmSbIdeal.main_arg1))

def preserves_MmDl_MmDlIdeal : Prop :=
  True

def algebraic_MmDlIdeal_ReferenceMmDlIdeal [hMmDlIdeal : Cert.MmDlIdeal.Facts] [hReferenceMmDlIdeal : Cert.ReferenceMmDlIdeal.Facts] : Prop :=
  ∀ (m : (ℓ : Loc Cert.MmDlIdeal.nD Cert.MmDlIdeal.τ Cert.MmDlIdeal.sig) → Buf (Elt Ideal) ℓ) (g : Dev Cert.MmDlIdeal.nD → PrngReg)
    (m' : (ℓ : Loc Cert.ReferenceMmDlIdeal.nD Cert.ReferenceMmDlIdeal.τ Cert.ReferenceMmDlIdeal.sig) → Buf (Elt Ideal) ℓ) (g' : Dev Cert.ReferenceMmDlIdeal.nD → PrngReg), Pre_MmDlIdeal m →
    (∀ c : Dev Cert.MmDlIdeal.nD,
      m' ((c.tc : Thread Cert.ReferenceMmDlIdeal.nD Cert.ReferenceMmDlIdeal.τ).loc Cert.ReferenceMmDlIdeal.main_arg0) = m ((c.tc : Thread Cert.MmDlIdeal.nD Cert.MmDlIdeal.τ).loc Cert.MmDlIdeal.main_arg0)
      ∧ m' ((c.tc : Thread Cert.ReferenceMmDlIdeal.nD Cert.ReferenceMmDlIdeal.τ).loc Cert.ReferenceMmDlIdeal.main_arg1) = m ((c.tc : Thread Cert.MmDlIdeal.nD Cert.MmDlIdeal.τ).loc Cert.MmDlIdeal.main_arg1)) →
    ∃ (v0 : (c : Dev Cert.MmDlIdeal.nD) → Buf (Elt Ideal) ((c.tc : Thread Cert.MmDlIdeal.nD Cert.MmDlIdeal.τ).loc Cert.MmDlIdeal.main_v0)),
      θ_run (Cert.MmDlIdeal.defs (F := Ideal)) (onTc (τ := Cert.MmDlIdeal.τ) (Cert.MmDlIdeal.main (F := Ideal))) ⟨m, fun _ => 0, g⟩ (fun r => ∀ c : Dev Cert.MmDlIdeal.nD,
          r.2.mem ((c.tc : Thread Cert.MmDlIdeal.nD Cert.MmDlIdeal.τ).loc Cert.MmDlIdeal.main_v0) = v0 c
          ∧ r.2.mem ((c.tc : Thread Cert.MmDlIdeal.nD Cert.MmDlIdeal.τ).loc Cert.MmDlIdeal.main_arg0) = m ((c.tc : Thread Cert.MmDlIdeal.nD Cert.MmDlIdeal.τ).loc Cert.MmDlIdeal.main_arg0)
          ∧ r.2.mem ((c.tc : Thread Cert.MmDlIdeal.nD Cert.MmDlIdeal.τ).loc Cert.MmDlIdeal.main_arg1) = m ((c.tc : Thread Cert.MmDlIdeal.nD Cert.MmDlIdeal.τ).loc Cert.MmDlIdeal.main_arg1))
      ∧ θ_run (Cert.ReferenceMmDlIdeal.defs (F := Ideal)) (onTc (τ := Cert.ReferenceMmDlIdeal.τ) (Cert.ReferenceMmDlIdeal.main (F := Ideal))) ⟨m', fun _ => 0, g'⟩ (fun r => ∀ c : Dev Cert.ReferenceMmDlIdeal.nD,
          r.2.mem ((c.tc : Thread Cert.ReferenceMmDlIdeal.nD Cert.ReferenceMmDlIdeal.τ).loc Cert.ReferenceMmDlIdeal.main_v2) = v0 c
          ∧ r.2.mem ((c.tc : Thread Cert.ReferenceMmDlIdeal.nD Cert.ReferenceMmDlIdeal.τ).loc Cert.ReferenceMmDlIdeal.main_arg0) = m' ((c.tc : Thread Cert.ReferenceMmDlIdeal.nD Cert.ReferenceMmDlIdeal.τ).loc Cert.ReferenceMmDlIdeal.main_arg0)
          ∧ r.2.mem ((c.tc : Thread Cert.ReferenceMmDlIdeal.nD Cert.ReferenceMmDlIdeal.τ).loc Cert.ReferenceMmDlIdeal.main_arg1) = m' ((c.tc : Thread Cert.ReferenceMmDlIdeal.nD Cert.ReferenceMmDlIdeal.τ).loc Cert.ReferenceMmDlIdeal.main_arg1))

def preserves_MmOut_MmOutIdeal : Prop :=
  True

def algebraic_MmOutIdeal_ReferenceMmOutIdeal [hMmOutIdeal : Cert.MmOutIdeal.Facts] [hReferenceMmOutIdeal : Cert.ReferenceMmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.ReferenceMmOutIdeal.nD Cert.ReferenceMmOutIdeal.τ Cert.ReferenceMmOutIdeal.sig) → Buf (Elt Ideal) ℓ) (g' : Dev Cert.ReferenceMmOutIdeal.nD → PrngReg), Pre_MmOutIdeal m →
    (∀ c : Dev Cert.MmOutIdeal.nD,
      m' ((c.tc : Thread Cert.ReferenceMmOutIdeal.nD Cert.ReferenceMmOutIdeal.τ).loc Cert.ReferenceMmOutIdeal.main_arg0) = m ((c.tc : Thread Cert.MmOutIdeal.nD Cert.MmOutIdeal.τ).loc Cert.MmOutIdeal.main_arg0)
      ∧ m' ((c.tc : Thread Cert.ReferenceMmOutIdeal.nD Cert.ReferenceMmOutIdeal.τ).loc Cert.ReferenceMmOutIdeal.main_arg1) = m ((c.tc : Thread Cert.MmOutIdeal.nD Cert.MmOutIdeal.τ).loc Cert.MmOutIdeal.main_arg1)
      ∧ m' ((c.tc : Thread Cert.ReferenceMmOutIdeal.nD Cert.ReferenceMmOutIdeal.τ).loc Cert.ReferenceMmOutIdeal.main_arg2) = m ((c.tc : Thread Cert.MmOutIdeal.nD Cert.MmOutIdeal.τ).loc Cert.MmOutIdeal.main_arg2)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ θ_run (Cert.ReferenceMmOutIdeal.defs (F := Ideal)) (onTc (τ := Cert.ReferenceMmOutIdeal.τ) (Cert.ReferenceMmOutIdeal.main (F := Ideal))) ⟨m', fun _ => 0, g'⟩ (fun r => ∀ c : Dev Cert.ReferenceMmOutIdeal.nD,
          r.2.mem ((c.tc : Thread Cert.ReferenceMmOutIdeal.nD Cert.ReferenceMmOutIdeal.τ).loc Cert.ReferenceMmOutIdeal.main_v3) = v0 c
          ∧ r.2.mem ((c.tc : Thread Cert.ReferenceMmOutIdeal.nD Cert.ReferenceMmOutIdeal.τ).loc Cert.ReferenceMmOutIdeal.main_arg0) = m' ((c.tc : Thread Cert.ReferenceMmOutIdeal.nD Cert.ReferenceMmOutIdeal.τ).loc Cert.ReferenceMmOutIdeal.main_arg0)
          ∧ r.2.mem ((c.tc : Thread Cert.ReferenceMmOutIdeal.nD Cert.ReferenceMmOutIdeal.τ).loc Cert.ReferenceMmOutIdeal.main_arg1) = m' ((c.tc : Thread Cert.ReferenceMmOutIdeal.nD Cert.ReferenceMmOutIdeal.τ).loc Cert.ReferenceMmOutIdeal.main_arg1)
          ∧ r.2.mem ((c.tc : Thread Cert.ReferenceMmOutIdeal.nD Cert.ReferenceMmOutIdeal.τ).loc Cert.ReferenceMmOutIdeal.main_arg2) = m' ((c.tc : Thread Cert.ReferenceMmOutIdeal.nD Cert.ReferenceMmOutIdeal.τ).loc Cert.ReferenceMmOutIdeal.main_arg2))

def preserves_MmMerged_MmMergedIdeal : Prop :=
  True

def algebraic_MmMergedIdeal_ReferenceMmMergedIdeal [hMmMergedIdeal : Cert.MmMergedIdeal.Facts] [hReferenceMmMergedIdeal : Cert.ReferenceMmMergedIdeal.Facts] : Prop :=
  ∀ (m : (ℓ : Loc Cert.MmMergedIdeal.nD Cert.MmMergedIdeal.τ Cert.MmMergedIdeal.sig) → Buf (Elt Ideal) ℓ) (g : Dev Cert.MmMergedIdeal.nD → PrngReg)
    (m' : (ℓ : Loc Cert.ReferenceMmMergedIdeal.nD Cert.ReferenceMmMergedIdeal.τ Cert.ReferenceMmMergedIdeal.sig) → Buf (Elt Ideal) ℓ) (g' : Dev Cert.ReferenceMmMergedIdeal.nD → PrngReg), Pre_MmMergedIdeal m →
    (∀ c : Dev Cert.MmMergedIdeal.nD,
      m' ((c.tc : Thread Cert.ReferenceMmMergedIdeal.nD Cert.ReferenceMmMergedIdeal.τ).loc Cert.ReferenceMmMergedIdeal.main_arg0) = m ((c.tc : Thread Cert.MmMergedIdeal.nD Cert.MmMergedIdeal.τ).loc Cert.MmMergedIdeal.main_arg0)
      ∧ m' ((c.tc : Thread Cert.ReferenceMmMergedIdeal.nD Cert.ReferenceMmMergedIdeal.τ).loc Cert.ReferenceMmMergedIdeal.main_arg1) = m ((c.tc : Thread Cert.MmMergedIdeal.nD Cert.MmMergedIdeal.τ).loc Cert.MmMergedIdeal.main_arg1)) →
    ∃ (v0 : (c : Dev Cert.MmMergedIdeal.nD) → Buf (Elt Ideal) ((c.tc : Thread Cert.MmMergedIdeal.nD Cert.MmMergedIdeal.τ).loc Cert.MmMergedIdeal.main_v0)),
      θ_run (Cert.MmMergedIdeal.defs (F := Ideal)) (onTc (τ := Cert.MmMergedIdeal.τ) (Cert.MmMergedIdeal.main (F := Ideal))) ⟨m, fun _ => 0, g⟩ (fun r => ∀ c : Dev Cert.MmMergedIdeal.nD,
          r.2.mem ((c.tc : Thread Cert.MmMergedIdeal.nD Cert.MmMergedIdeal.τ).loc Cert.MmMergedIdeal.main_v0) = v0 c
          ∧ r.2.mem ((c.tc : Thread Cert.MmMergedIdeal.nD Cert.MmMergedIdeal.τ).loc Cert.MmMergedIdeal.main_arg0) = m ((c.tc : Thread Cert.MmMergedIdeal.nD Cert.MmMergedIdeal.τ).loc Cert.MmMergedIdeal.main_arg0)
          ∧ r.2.mem ((c.tc : Thread Cert.MmMergedIdeal.nD Cert.MmMergedIdeal.τ).loc Cert.MmMergedIdeal.main_arg1) = m ((c.tc : Thread Cert.MmMergedIdeal.nD Cert.MmMergedIdeal.τ).loc Cert.MmMergedIdeal.main_arg1))
      ∧ θ_run (Cert.ReferenceMmMergedIdeal.defs (F := Ideal)) (onTc (τ := Cert.ReferenceMmMergedIdeal.τ) (Cert.ReferenceMmMergedIdeal.main (F := Ideal))) ⟨m', fun _ => 0, g'⟩ (fun r => ∀ c : Dev Cert.ReferenceMmMergedIdeal.nD,
          r.2.mem ((c.tc : Thread Cert.ReferenceMmMergedIdeal.nD Cert.ReferenceMmMergedIdeal.τ).loc Cert.ReferenceMmMergedIdeal.main_v2) = v0 c
          ∧ r.2.mem ((c.tc : Thread Cert.ReferenceMmMergedIdeal.nD Cert.ReferenceMmMergedIdeal.τ).loc Cert.ReferenceMmMergedIdeal.main_arg0) = m' ((c.tc : Thread Cert.ReferenceMmMergedIdeal.nD Cert.ReferenceMmMergedIdeal.τ).loc Cert.ReferenceMmMergedIdeal.main_arg0)
          ∧ r.2.mem ((c.tc : Thread Cert.ReferenceMmMergedIdeal.nD Cert.ReferenceMmMergedIdeal.τ).loc Cert.ReferenceMmMergedIdeal.main_arg1) = m' ((c.tc : Thread Cert.ReferenceMmMergedIdeal.nD Cert.ReferenceMmMergedIdeal.τ).loc Cert.ReferenceMmMergedIdeal.main_arg1))

def preserves_MmDhMix_MmDhMixIdeal : Prop :=
  True

def algebraic_MmDhMixIdeal_ReferenceMmDhMixIdeal [hMmDhMixIdeal : Cert.MmDhMixIdeal.Facts] [hReferenceMmDhMixIdeal : Cert.ReferenceMmDhMixIdeal.Facts] : Prop :=
  ∀ (m : (ℓ : Loc Cert.MmDhMixIdeal.nD Cert.MmDhMixIdeal.τ Cert.MmDhMixIdeal.sig) → Buf (Elt Ideal) ℓ) (g : Dev Cert.MmDhMixIdeal.nD → PrngReg)
    (m' : (ℓ : Loc Cert.ReferenceMmDhMixIdeal.nD Cert.ReferenceMmDhMixIdeal.τ Cert.ReferenceMmDhMixIdeal.sig) → Buf (Elt Ideal) ℓ) (g' : Dev Cert.ReferenceMmDhMixIdeal.nD → PrngReg), Pre_MmDhMixIdeal m →
    (∀ c : Dev Cert.MmDhMixIdeal.nD,
      m' ((c.tc : Thread Cert.ReferenceMmDhMixIdeal.nD Cert.ReferenceMmDhMixIdeal.τ).loc Cert.ReferenceMmDhMixIdeal.main_arg0) = m ((c.tc : Thread Cert.MmDhMixIdeal.nD Cert.MmDhMixIdeal.τ).loc Cert.MmDhMixIdeal.main_arg0)
      ∧ m' ((c.tc : Thread Cert.ReferenceMmDhMixIdeal.nD Cert.ReferenceMmDhMixIdeal.τ).loc Cert.ReferenceMmDhMixIdeal.main_arg1) = m ((c.tc : Thread Cert.MmDhMixIdeal.nD Cert.MmDhMixIdeal.τ).loc Cert.MmDhMixIdeal.main_arg1)) →
    ∃ (v0 : (c : Dev Cert.MmDhMixIdeal.nD) → Buf (Elt Ideal) ((c.tc : Thread Cert.MmDhMixIdeal.nD Cert.MmDhMixIdeal.τ).loc Cert.MmDhMixIdeal.main_v0)),
      θ_run (Cert.MmDhMixIdeal.defs (F := Ideal)) (onTc (τ := Cert.MmDhMixIdeal.τ) (Cert.MmDhMixIdeal.main (F := Ideal))) ⟨m, fun _ => 0, g⟩ (fun r => ∀ c : Dev Cert.MmDhMixIdeal.nD,
          r.2.mem ((c.tc : Thread Cert.MmDhMixIdeal.nD Cert.MmDhMixIdeal.τ).loc Cert.MmDhMixIdeal.main_v0) = v0 c
          ∧ r.2.mem ((c.tc : Thread Cert.MmDhMixIdeal.nD Cert.MmDhMixIdeal.τ).loc Cert.MmDhMixIdeal.main_arg0) = m ((c.tc : Thread Cert.MmDhMixIdeal.nD Cert.MmDhMixIdeal.τ).loc Cert.MmDhMixIdeal.main_arg0)
          ∧ r.2.mem ((c.tc : Thread Cert.MmDhMixIdeal.nD Cert.MmDhMixIdeal.τ).loc Cert.MmDhMixIdeal.main_arg1) = m ((c.tc : Thread Cert.MmDhMixIdeal.nD Cert.MmDhMixIdeal.τ).loc Cert.MmDhMixIdeal.main_arg1))
      ∧ θ_run (Cert.ReferenceMmDhMixIdeal.defs (F := Ideal)) (onTc (τ := Cert.ReferenceMmDhMixIdeal.τ) (Cert.ReferenceMmDhMixIdeal.main (F := Ideal))) ⟨m', fun _ => 0, g'⟩ (fun r => ∀ c : Dev Cert.ReferenceMmDhMixIdeal.nD,
          r.2.mem ((c.tc : Thread Cert.ReferenceMmDhMixIdeal.nD Cert.ReferenceMmDhMixIdeal.τ).loc Cert.ReferenceMmDhMixIdeal.main_v3) = v0 c
          ∧ r.2.mem ((c.tc : Thread Cert.ReferenceMmDhMixIdeal.nD Cert.ReferenceMmDhMixIdeal.τ).loc Cert.ReferenceMmDhMixIdeal.main_arg0) = m' ((c.tc : Thread Cert.ReferenceMmDhMixIdeal.nD Cert.ReferenceMmDhMixIdeal.τ).loc Cert.ReferenceMmDhMixIdeal.main_arg0)
          ∧ r.2.mem ((c.tc : Thread Cert.ReferenceMmDhMixIdeal.nD Cert.ReferenceMmDhMixIdeal.τ).loc Cert.ReferenceMmDhMixIdeal.main_arg1) = m' ((c.tc : Thread Cert.ReferenceMmDhMixIdeal.nD Cert.ReferenceMmDhMixIdeal.τ).loc Cert.ReferenceMmDhMixIdeal.main_arg1))

def preserves_MmDwg_MmDwgIdeal : Prop :=
  True

def algebraic_MmDwgIdeal_ReferenceMmDwgIdeal [hMmDwgIdeal : Cert.MmDwgIdeal.Facts] [hReferenceMmDwgIdeal : Cert.ReferenceMmDwgIdeal.Facts] : Prop :=
  ∀ (m : (ℓ : Loc Cert.MmDwgIdeal.nD Cert.MmDwgIdeal.τ Cert.MmDwgIdeal.sig) → Buf (Elt Ideal) ℓ) (g : Dev Cert.MmDwgIdeal.nD → PrngReg)
    (m' : (ℓ : Loc Cert.ReferenceMmDwgIdeal.nD Cert.ReferenceMmDwgIdeal.τ Cert.ReferenceMmDwgIdeal.sig) → Buf (Elt Ideal) ℓ) (g' : Dev Cert.ReferenceMmDwgIdeal.nD → PrngReg), Pre_MmDwgIdeal m →
    (∀ c : Dev Cert.MmDwgIdeal.nD,
      m' ((c.tc : Thread Cert.ReferenceMmDwgIdeal.nD Cert.ReferenceMmDwgIdeal.τ).loc Cert.ReferenceMmDwgIdeal.main_arg0) = m ((c.tc : Thread Cert.MmDwgIdeal.nD Cert.MmDwgIdeal.τ).loc Cert.MmDwgIdeal.main_arg0)
      ∧ m' ((c.tc : Thread Cert.ReferenceMmDwgIdeal.nD Cert.ReferenceMmDwgIdeal.τ).loc Cert.ReferenceMmDwgIdeal.main_arg1) = m ((c.tc : Thread Cert.MmDwgIdeal.nD Cert.MmDwgIdeal.τ).loc Cert.MmDwgIdeal.main_arg1)) →
    ∃ (v0 : (c : Dev Cert.MmDwgIdeal.nD) → Buf (Elt Ideal) ((c.tc : Thread Cert.MmDwgIdeal.nD Cert.MmDwgIdeal.τ).loc Cert.MmDwgIdeal.main_v0)),
      θ_run (Cert.MmDwgIdeal.defs (F := Ideal)) (onTc (τ := Cert.MmDwgIdeal.τ) (Cert.MmDwgIdeal.main (F := Ideal))) ⟨m, fun _ => 0, g⟩ (fun r => ∀ c : Dev Cert.MmDwgIdeal.nD,
          r.2.mem ((c.tc : Thread Cert.MmDwgIdeal.nD Cert.MmDwgIdeal.τ).loc Cert.MmDwgIdeal.main_v0) = v0 c
          ∧ r.2.mem ((c.tc : Thread Cert.MmDwgIdeal.nD Cert.MmDwgIdeal.τ).loc Cert.MmDwgIdeal.main_arg0) = m ((c.tc : Thread Cert.MmDwgIdeal.nD Cert.MmDwgIdeal.τ).loc Cert.MmDwgIdeal.main_arg0)
          ∧ r.2.mem ((c.tc : Thread Cert.MmDwgIdeal.nD Cert.MmDwgIdeal.τ).loc Cert.MmDwgIdeal.main_arg1) = m ((c.tc : Thread Cert.MmDwgIdeal.nD Cert.MmDwgIdeal.τ).loc Cert.MmDwgIdeal.main_arg1))
      ∧ θ_run (Cert.ReferenceMmDwgIdeal.defs (F := Ideal)) (onTc (τ := Cert.ReferenceMmDwgIdeal.τ) (Cert.ReferenceMmDwgIdeal.main (F := Ideal))) ⟨m', fun _ => 0, g'⟩ (fun r => ∀ c : Dev Cert.ReferenceMmDwgIdeal.nD,
          r.2.mem ((c.tc : Thread Cert.ReferenceMmDwgIdeal.nD Cert.ReferenceMmDwgIdeal.τ).loc Cert.ReferenceMmDwgIdeal.main_v3) = v0 c
          ∧ r.2.mem ((c.tc : Thread Cert.ReferenceMmDwgIdeal.nD Cert.ReferenceMmDwgIdeal.τ).loc Cert.ReferenceMmDwgIdeal.main_arg0) = m' ((c.tc : Thread Cert.ReferenceMmDwgIdeal.nD Cert.ReferenceMmDwgIdeal.τ).loc Cert.ReferenceMmDwgIdeal.main_arg0)
          ∧ r.2.mem ((c.tc : Thread Cert.ReferenceMmDwgIdeal.nD Cert.ReferenceMmDwgIdeal.τ).loc Cert.ReferenceMmDwgIdeal.main_arg1) = m' ((c.tc : Thread Cert.ReferenceMmDwgIdeal.nD Cert.ReferenceMmDwgIdeal.τ).loc Cert.ReferenceMmDwgIdeal.main_arg1))

def preserves_MmDwd_MmDwdIdeal : Prop :=
  True

def algebraic_MmDwdIdeal_ReferenceMmDwdIdeal [hMmDwdIdeal : Cert.MmDwdIdeal.Facts] [hReferenceMmDwdIdeal : Cert.ReferenceMmDwdIdeal.Facts] : Prop :=
  ∀ (m : (ℓ : Loc Cert.MmDwdIdeal.nD Cert.MmDwdIdeal.τ Cert.MmDwdIdeal.sig) → Buf (Elt Ideal) ℓ) (g : Dev Cert.MmDwdIdeal.nD → PrngReg)
    (m' : (ℓ : Loc Cert.ReferenceMmDwdIdeal.nD Cert.ReferenceMmDwdIdeal.τ Cert.ReferenceMmDwdIdeal.sig) → Buf (Elt Ideal) ℓ) (g' : Dev Cert.ReferenceMmDwdIdeal.nD → PrngReg), Pre_MmDwdIdeal m →
    (∀ c : Dev Cert.MmDwdIdeal.nD,
      m' ((c.tc : Thread Cert.ReferenceMmDwdIdeal.nD Cert.ReferenceMmDwdIdeal.τ).loc Cert.ReferenceMmDwdIdeal.main_arg0) = m ((c.tc : Thread Cert.MmDwdIdeal.nD Cert.MmDwdIdeal.τ).loc Cert.MmDwdIdeal.main_arg0)
      ∧ m' ((c.tc : Thread Cert.ReferenceMmDwdIdeal.nD Cert.ReferenceMmDwdIdeal.τ).loc Cert.ReferenceMmDwdIdeal.main_arg1) = m ((c.tc : Thread Cert.MmDwdIdeal.nD Cert.MmDwdIdeal.τ).loc Cert.MmDwdIdeal.main_arg1)) →
    ∃ (v0 : (c : Dev Cert.MmDwdIdeal.nD) → Buf (Elt Ideal) ((c.tc : Thread Cert.MmDwdIdeal.nD Cert.MmDwdIdeal.τ).loc Cert.MmDwdIdeal.main_v0)),
      θ_run (Cert.MmDwdIdeal.defs (F := Ideal)) (onTc (τ := Cert.MmDwdIdeal.τ) (Cert.MmDwdIdeal.main (F := Ideal))) ⟨m, fun _ => 0, g⟩ (fun r => ∀ c : Dev Cert.MmDwdIdeal.nD,
          r.2.mem ((c.tc : Thread Cert.MmDwdIdeal.nD Cert.MmDwdIdeal.τ).loc Cert.MmDwdIdeal.main_v0) = v0 c
          ∧ r.2.mem ((c.tc : Thread Cert.MmDwdIdeal.nD Cert.MmDwdIdeal.τ).loc Cert.MmDwdIdeal.main_arg0) = m ((c.tc : Thread Cert.MmDwdIdeal.nD Cert.MmDwdIdeal.τ).loc Cert.MmDwdIdeal.main_arg0)
          ∧ r.2.mem ((c.tc : Thread Cert.MmDwdIdeal.nD Cert.MmDwdIdeal.τ).loc Cert.MmDwdIdeal.main_arg1) = m ((c.tc : Thread Cert.MmDwdIdeal.nD Cert.MmDwdIdeal.τ).loc Cert.MmDwdIdeal.main_arg1))
      ∧ θ_run (Cert.ReferenceMmDwdIdeal.defs (F := Ideal)) (onTc (τ := Cert.ReferenceMmDwdIdeal.τ) (Cert.ReferenceMmDwdIdeal.main (F := Ideal))) ⟨m', fun _ => 0, g'⟩ (fun r => ∀ c : Dev Cert.ReferenceMmDwdIdeal.nD,
          r.2.mem ((c.tc : Thread Cert.ReferenceMmDwdIdeal.nD Cert.ReferenceMmDwdIdeal.τ).loc Cert.ReferenceMmDwdIdeal.main_v4) = v0 c
          ∧ r.2.mem ((c.tc : Thread Cert.ReferenceMmDwdIdeal.nD Cert.ReferenceMmDwdIdeal.τ).loc Cert.ReferenceMmDwdIdeal.main_arg0) = m' ((c.tc : Thread Cert.ReferenceMmDwdIdeal.nD Cert.ReferenceMmDwdIdeal.τ).loc Cert.ReferenceMmDwdIdeal.main_arg0)
          ∧ r.2.mem ((c.tc : Thread Cert.ReferenceMmDwdIdeal.nD Cert.ReferenceMmDwdIdeal.τ).loc Cert.ReferenceMmDwdIdeal.main_arg1) = m' ((c.tc : Thread Cert.ReferenceMmDwdIdeal.nD Cert.ReferenceMmDwdIdeal.τ).loc Cert.ReferenceMmDwdIdeal.main_arg1))

def preserves_MmDwOut_MmDwOutIdeal : Prop :=
  True

def algebraic_MmDwOutIdeal_ReferenceMmDwOutIdeal [hMmDwOutIdeal : Cert.MmDwOutIdeal.Facts] [hReferenceMmDwOutIdeal : Cert.ReferenceMmDwOutIdeal.Facts] : Prop :=
  ∀ (m : (ℓ : Loc Cert.MmDwOutIdeal.nD Cert.MmDwOutIdeal.τ Cert.MmDwOutIdeal.sig) → Buf (Elt Ideal) ℓ) (g : Dev Cert.MmDwOutIdeal.nD → PrngReg)
    (m' : (ℓ : Loc Cert.ReferenceMmDwOutIdeal.nD Cert.ReferenceMmDwOutIdeal.τ Cert.ReferenceMmDwOutIdeal.sig) → Buf (Elt Ideal) ℓ) (g' : Dev Cert.ReferenceMmDwOutIdeal.nD → PrngReg), Pre_MmDwOutIdeal m →
    (∀ c : Dev Cert.MmDwOutIdeal.nD,
      m' ((c.tc : Thread Cert.ReferenceMmDwOutIdeal.nD Cert.ReferenceMmDwOutIdeal.τ).loc Cert.ReferenceMmDwOutIdeal.main_arg0) = m ((c.tc : Thread Cert.MmDwOutIdeal.nD Cert.MmDwOutIdeal.τ).loc Cert.MmDwOutIdeal.main_arg0)
      ∧ m' ((c.tc : Thread Cert.ReferenceMmDwOutIdeal.nD Cert.ReferenceMmDwOutIdeal.τ).loc Cert.ReferenceMmDwOutIdeal.main_arg1) = m ((c.tc : Thread Cert.MmDwOutIdeal.nD Cert.MmDwOutIdeal.τ).loc Cert.MmDwOutIdeal.main_arg1)) →
    ∃ (v0 : (c : Dev Cert.MmDwOutIdeal.nD) → Buf (Elt Ideal) ((c.tc : Thread Cert.MmDwOutIdeal.nD Cert.MmDwOutIdeal.τ).loc Cert.MmDwOutIdeal.main_v0)),
      θ_run (Cert.MmDwOutIdeal.defs (F := Ideal)) (onTc (τ := Cert.MmDwOutIdeal.τ) (Cert.MmDwOutIdeal.main (F := Ideal))) ⟨m, fun _ => 0, g⟩ (fun r => ∀ c : Dev Cert.MmDwOutIdeal.nD,
          r.2.mem ((c.tc : Thread Cert.MmDwOutIdeal.nD Cert.MmDwOutIdeal.τ).loc Cert.MmDwOutIdeal.main_v0) = v0 c
          ∧ r.2.mem ((c.tc : Thread Cert.MmDwOutIdeal.nD Cert.MmDwOutIdeal.τ).loc Cert.MmDwOutIdeal.main_arg0) = m ((c.tc : Thread Cert.MmDwOutIdeal.nD Cert.MmDwOutIdeal.τ).loc Cert.MmDwOutIdeal.main_arg0)
          ∧ r.2.mem ((c.tc : Thread Cert.MmDwOutIdeal.nD Cert.MmDwOutIdeal.τ).loc Cert.MmDwOutIdeal.main_arg1) = m ((c.tc : Thread Cert.MmDwOutIdeal.nD Cert.MmDwOutIdeal.τ).loc Cert.MmDwOutIdeal.main_arg1))
      ∧ θ_run (Cert.ReferenceMmDwOutIdeal.defs (F := Ideal)) (onTc (τ := Cert.ReferenceMmDwOutIdeal.τ) (Cert.ReferenceMmDwOutIdeal.main (F := Ideal))) ⟨m', fun _ => 0, g'⟩ (fun r => ∀ c : Dev Cert.ReferenceMmDwOutIdeal.nD,
          r.2.mem ((c.tc : Thread Cert.ReferenceMmDwOutIdeal.nD Cert.ReferenceMmDwOutIdeal.τ).loc Cert.ReferenceMmDwOutIdeal.main_v2) = v0 c
          ∧ r.2.mem ((c.tc : Thread Cert.ReferenceMmDwOutIdeal.nD Cert.ReferenceMmDwOutIdeal.τ).loc Cert.ReferenceMmDwOutIdeal.main_arg0) = m' ((c.tc : Thread Cert.ReferenceMmDwOutIdeal.nD Cert.ReferenceMmDwOutIdeal.τ).loc Cert.ReferenceMmDwOutIdeal.main_arg0)
          ∧ r.2.mem ((c.tc : Thread Cert.ReferenceMmDwOutIdeal.nD Cert.ReferenceMmDwOutIdeal.τ).loc Cert.ReferenceMmDwOutIdeal.main_arg1) = m' ((c.tc : Thread Cert.ReferenceMmDwOutIdeal.nD Cert.ReferenceMmDwOutIdeal.τ).loc Cert.ReferenceMmDwOutIdeal.main_arg1))

def preserves_MmDwIn_MmDwInIdeal : Prop :=
  True

def algebraic_MmDwInIdeal_ReferenceMmDwInIdeal [hMmDwInIdeal : Cert.MmDwInIdeal.Facts] [hReferenceMmDwInIdeal : Cert.ReferenceMmDwInIdeal.Facts] : Prop :=
  ∀ (m : (ℓ : Loc Cert.MmDwInIdeal.nD Cert.MmDwInIdeal.τ Cert.MmDwInIdeal.sig) → Buf (Elt Ideal) ℓ) (g : Dev Cert.MmDwInIdeal.nD → PrngReg)
    (m' : (ℓ : Loc Cert.ReferenceMmDwInIdeal.nD Cert.ReferenceMmDwInIdeal.τ Cert.ReferenceMmDwInIdeal.sig) → Buf (Elt Ideal) ℓ) (g' : Dev Cert.ReferenceMmDwInIdeal.nD → PrngReg), Pre_MmDwInIdeal m →
    (∀ c : Dev Cert.MmDwInIdeal.nD,
      m' ((c.tc : Thread Cert.ReferenceMmDwInIdeal.nD Cert.ReferenceMmDwInIdeal.τ).loc Cert.ReferenceMmDwInIdeal.main_arg0) = m ((c.tc : Thread Cert.MmDwInIdeal.nD Cert.MmDwInIdeal.τ).loc Cert.MmDwInIdeal.main_arg0)
      ∧ m' ((c.tc : Thread Cert.ReferenceMmDwInIdeal.nD Cert.ReferenceMmDwInIdeal.τ).loc Cert.ReferenceMmDwInIdeal.main_arg1) = m ((c.tc : Thread Cert.MmDwInIdeal.nD Cert.MmDwInIdeal.τ).loc Cert.MmDwInIdeal.main_arg1)) →
    ∃ (v0 : (c : Dev Cert.MmDwInIdeal.nD) → Buf (Elt Ideal) ((c.tc : Thread Cert.MmDwInIdeal.nD Cert.MmDwInIdeal.τ).loc Cert.MmDwInIdeal.main_v0)),
      θ_run (Cert.MmDwInIdeal.defs (F := Ideal)) (onTc (τ := Cert.MmDwInIdeal.τ) (Cert.MmDwInIdeal.main (F := Ideal))) ⟨m, fun _ => 0, g⟩ (fun r => ∀ c : Dev Cert.MmDwInIdeal.nD,
          r.2.mem ((c.tc : Thread Cert.MmDwInIdeal.nD Cert.MmDwInIdeal.τ).loc Cert.MmDwInIdeal.main_v0) = v0 c
          ∧ r.2.mem ((c.tc : Thread Cert.MmDwInIdeal.nD Cert.MmDwInIdeal.τ).loc Cert.MmDwInIdeal.main_arg0) = m ((c.tc : Thread Cert.MmDwInIdeal.nD Cert.MmDwInIdeal.τ).loc Cert.MmDwInIdeal.main_arg0)
          ∧ r.2.mem ((c.tc : Thread Cert.MmDwInIdeal.nD Cert.MmDwInIdeal.τ).loc Cert.MmDwInIdeal.main_arg1) = m ((c.tc : Thread Cert.MmDwInIdeal.nD Cert.MmDwInIdeal.τ).loc Cert.MmDwInIdeal.main_arg1))
      ∧ θ_run (Cert.ReferenceMmDwInIdeal.defs (F := Ideal)) (onTc (τ := Cert.ReferenceMmDwInIdeal.τ) (Cert.ReferenceMmDwInIdeal.main (F := Ideal))) ⟨m', fun _ => 0, g'⟩ (fun r => ∀ c : Dev Cert.ReferenceMmDwInIdeal.nD,
          r.2.mem ((c.tc : Thread Cert.ReferenceMmDwInIdeal.nD Cert.ReferenceMmDwInIdeal.τ).loc Cert.ReferenceMmDwInIdeal.main_v3) = v0 c
          ∧ r.2.mem ((c.tc : Thread Cert.ReferenceMmDwInIdeal.nD Cert.ReferenceMmDwInIdeal.τ).loc Cert.ReferenceMmDwInIdeal.main_arg0) = m' ((c.tc : Thread Cert.ReferenceMmDwInIdeal.nD Cert.ReferenceMmDwInIdeal.τ).loc Cert.ReferenceMmDwInIdeal.main_arg0)
          ∧ r.2.mem ((c.tc : Thread Cert.ReferenceMmDwInIdeal.nD Cert.ReferenceMmDwInIdeal.τ).loc Cert.ReferenceMmDwInIdeal.main_arg1) = m' ((c.tc : Thread Cert.ReferenceMmDwInIdeal.nD Cert.ReferenceMmDwInIdeal.τ).loc Cert.ReferenceMmDwInIdeal.main_arg1))

def preserves_LossHead_LossHeadIdeal : Prop :=
  True

def algebraic_LossHeadIdeal_ReferenceLossHeadIdeal [hLossHeadIdeal : Cert.LossHeadIdeal.Facts] [hReferenceLossHeadIdeal : Cert.ReferenceLossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.ReferenceLossHeadIdeal.nD Cert.ReferenceLossHeadIdeal.τ Cert.ReferenceLossHeadIdeal.sig) → Buf (Elt Ideal) ℓ) (g' : Dev Cert.ReferenceLossHeadIdeal.nD → PrngReg), Pre_LossHeadIdeal m →
    (∀ c : Dev Cert.LossHeadIdeal.nD,
      m' ((c.tc : Thread Cert.ReferenceLossHeadIdeal.nD Cert.ReferenceLossHeadIdeal.τ).loc Cert.ReferenceLossHeadIdeal.main_arg0) = m ((c.tc : Thread Cert.LossHeadIdeal.nD Cert.LossHeadIdeal.τ).loc Cert.LossHeadIdeal.main_arg0)
      ∧ m' ((c.tc : Thread Cert.ReferenceLossHeadIdeal.nD Cert.ReferenceLossHeadIdeal.τ).loc Cert.ReferenceLossHeadIdeal.main_arg1) = m ((c.tc : Thread Cert.LossHeadIdeal.nD Cert.LossHeadIdeal.τ).loc Cert.LossHeadIdeal.main_arg1)
      ∧ m' ((c.tc : Thread Cert.ReferenceLossHeadIdeal.nD Cert.ReferenceLossHeadIdeal.τ).loc Cert.ReferenceLossHeadIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.ReferenceLossHeadIdeal.defs (F := Ideal)) (onTc (τ := Cert.ReferenceLossHeadIdeal.τ) (Cert.ReferenceLossHeadIdeal.main (F := Ideal))) ⟨m', fun _ => 0, g'⟩ (fun r => ∀ c : Dev Cert.ReferenceLossHeadIdeal.nD,
          r.2.mem ((c.tc : Thread Cert.ReferenceLossHeadIdeal.nD Cert.ReferenceLossHeadIdeal.τ).loc Cert.ReferenceLossHeadIdeal.main_v33) = v0 c
          ∧ r.2.mem ((c.tc : Thread Cert.ReferenceLossHeadIdeal.nD Cert.ReferenceLossHeadIdeal.τ).loc Cert.ReferenceLossHeadIdeal.main_v36) = v1 c
          ∧ r.2.mem ((c.tc : Thread Cert.ReferenceLossHeadIdeal.nD Cert.ReferenceLossHeadIdeal.τ).loc Cert.ReferenceLossHeadIdeal.main_v37) = v2 c
          ∧ r.2.mem ((c.tc : Thread Cert.ReferenceLossHeadIdeal.nD Cert.ReferenceLossHeadIdeal.τ).loc Cert.ReferenceLossHeadIdeal.main_arg0) = m' ((c.tc : Thread Cert.ReferenceLossHeadIdeal.nD Cert.ReferenceLossHeadIdeal.τ).loc Cert.ReferenceLossHeadIdeal.main_arg0)
          ∧ r.2.mem ((c.tc : Thread Cert.ReferenceLossHeadIdeal.nD Cert.ReferenceLossHeadIdeal.τ).loc Cert.ReferenceLossHeadIdeal.main_arg1) = m' ((c.tc : Thread Cert.ReferenceLossHeadIdeal.nD Cert.ReferenceLossHeadIdeal.τ).loc Cert.ReferenceLossHeadIdeal.main_arg1)
          ∧ r.2.mem ((c.tc : Thread Cert.ReferenceLossHeadIdeal.nD Cert.ReferenceLossHeadIdeal.τ).loc Cert.ReferenceLossHeadIdeal.main_arg2) = m' ((c.tc : Thread Cert.ReferenceLossHeadIdeal.nD Cert.ReferenceLossHeadIdeal.τ).loc Cert.ReferenceLossHeadIdeal.main_arg2))

def preserves_OutNorm_OutNormIdeal : Prop :=
  True

def algebraic_OutNormIdeal_ReferenceOutNormIdeal [hOutNormIdeal : Cert.OutNormIdeal.Facts] [hReferenceOutNormIdeal : Cert.ReferenceOutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.ReferenceOutNormIdeal.nD Cert.ReferenceOutNormIdeal.τ Cert.ReferenceOutNormIdeal.sig) → Buf (Elt Ideal) ℓ) (g' : Dev Cert.ReferenceOutNormIdeal.nD → PrngReg), Pre_OutNormIdeal m →
    (∀ c : Dev Cert.OutNormIdeal.nD,
      m' ((c.tc : Thread Cert.ReferenceOutNormIdeal.nD Cert.ReferenceOutNormIdeal.τ).loc Cert.ReferenceOutNormIdeal.main_arg0) = m ((c.tc : Thread Cert.OutNormIdeal.nD Cert.OutNormIdeal.τ).loc Cert.OutNormIdeal.main_arg0)
      ∧ m' ((c.tc : Thread Cert.ReferenceOutNormIdeal.nD Cert.ReferenceOutNormIdeal.τ).loc Cert.ReferenceOutNormIdeal.main_arg1) = m ((c.tc : Thread Cert.OutNormIdeal.nD Cert.OutNormIdeal.τ).loc Cert.OutNormIdeal.main_arg1)
      ∧ m' ((c.tc : Thread Cert.ReferenceOutNormIdeal.nD Cert.ReferenceOutNormIdeal.τ).loc Cert.ReferenceOutNormIdeal.main_arg2) = m ((c.tc : Thread Cert.OutNormIdeal.nD Cert.OutNormIdeal.τ).loc Cert.OutNormIdeal.main_arg2)
      ∧ m' ((c.tc : Thread Cert.ReferenceOutNormIdeal.nD Cert.ReferenceOutNormIdeal.τ).loc Cert.ReferenceOutNormIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v0)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0) = v0 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.ReferenceOutNormIdeal.defs (F := Ideal)) (onTc (τ := Cert.ReferenceOutNormIdeal.τ) (Cert.ReferenceOutNormIdeal.main (F := Ideal))) ⟨m', fun _ => 0, g'⟩ (fun r => ∀ c : Dev Cert.ReferenceOutNormIdeal.nD,
          r.2.mem ((c.tc : Thread Cert.ReferenceOutNormIdeal.nD Cert.ReferenceOutNormIdeal.τ).loc Cert.ReferenceOutNormIdeal.main_v26) = v0 c
          ∧ r.2.mem ((c.tc : Thread Cert.ReferenceOutNormIdeal.nD Cert.ReferenceOutNormIdeal.τ).loc Cert.ReferenceOutNormIdeal.main_arg0) = m' ((c.tc : Thread Cert.ReferenceOutNormIdeal.nD Cert.ReferenceOutNormIdeal.τ).loc Cert.ReferenceOutNormIdeal.main_arg0)
          ∧ r.2.mem ((c.tc : Thread Cert.ReferenceOutNormIdeal.nD Cert.ReferenceOutNormIdeal.τ).loc Cert.ReferenceOutNormIdeal.main_arg1) = m' ((c.tc : Thread Cert.ReferenceOutNormIdeal.nD Cert.ReferenceOutNormIdeal.τ).loc Cert.ReferenceOutNormIdeal.main_arg1)
          ∧ r.2.mem ((c.tc : Thread Cert.ReferenceOutNormIdeal.nD Cert.ReferenceOutNormIdeal.τ).loc Cert.ReferenceOutNormIdeal.main_arg2) = m' ((c.tc : Thread Cert.ReferenceOutNormIdeal.nD Cert.ReferenceOutNormIdeal.τ).loc Cert.ReferenceOutNormIdeal.main_arg2)
          ∧ r.2.mem ((c.tc : Thread Cert.ReferenceOutNormIdeal.nD Cert.ReferenceOutNormIdeal.τ).loc Cert.ReferenceOutNormIdeal.main_arg3) = m' ((c.tc : Thread Cert.ReferenceOutNormIdeal.nD Cert.ReferenceOutNormIdeal.τ).loc Cert.ReferenceOutNormIdeal.main_arg3))

def preserves_OutNormBwd_OutNormBwdIdeal : Prop :=
  True

def algebraic_OutNormBwdIdeal_ReferenceOutNormBwdIdeal [hOutNormBwdIdeal : Cert.OutNormBwdIdeal.Facts] [hReferenceOutNormBwdIdeal : Cert.ReferenceOutNormBwdIdeal.Facts] : Prop :=
  ∀ (m : (ℓ : Loc Cert.OutNormBwdIdeal.nD Cert.OutNormBwdIdeal.τ Cert.OutNormBwdIdeal.sig) → Buf (Elt Ideal) ℓ) (g : Dev Cert.OutNormBwdIdeal.nD → PrngReg)
    (m' : (ℓ : Loc Cert.ReferenceOutNormBwdIdeal.nD Cert.ReferenceOutNormBwdIdeal.τ Cert.ReferenceOutNormBwdIdeal.sig) → Buf (Elt Ideal) ℓ) (g' : Dev Cert.ReferenceOutNormBwdIdeal.nD → PrngReg), Pre_OutNormBwdIdeal m →
    (∀ c : Dev Cert.OutNormBwdIdeal.nD,
      m' ((c.tc : Thread Cert.ReferenceOutNormBwdIdeal.nD Cert.ReferenceOutNormBwdIdeal.τ).loc Cert.ReferenceOutNormBwdIdeal.main_arg0) = m ((c.tc : Thread Cert.OutNormBwdIdeal.nD Cert.OutNormBwdIdeal.τ).loc Cert.OutNormBwdIdeal.main_arg0)
      ∧ m' ((c.tc : Thread Cert.ReferenceOutNormBwdIdeal.nD Cert.ReferenceOutNormBwdIdeal.τ).loc Cert.ReferenceOutNormBwdIdeal.main_arg1) = m ((c.tc : Thread Cert.OutNormBwdIdeal.nD Cert.OutNormBwdIdeal.τ).loc Cert.OutNormBwdIdeal.main_arg1)
      ∧ m' ((c.tc : Thread Cert.ReferenceOutNormBwdIdeal.nD Cert.ReferenceOutNormBwdIdeal.τ).loc Cert.ReferenceOutNormBwdIdeal.main_arg2) = m ((c.tc : Thread Cert.OutNormBwdIdeal.nD Cert.OutNormBwdIdeal.τ).loc Cert.OutNormBwdIdeal.main_arg2)
      ∧ m' ((c.tc : Thread Cert.ReferenceOutNormBwdIdeal.nD Cert.ReferenceOutNormBwdIdeal.τ).loc Cert.ReferenceOutNormBwdIdeal.main_arg3) = m ((c.tc : Thread Cert.OutNormBwdIdeal.nD Cert.OutNormBwdIdeal.τ).loc Cert.OutNormBwdIdeal.main_arg3)
      ∧ m' ((c.tc : Thread Cert.ReferenceOutNormBwdIdeal.nD Cert.ReferenceOutNormBwdIdeal.τ).loc Cert.ReferenceOutNormBwdIdeal.main_arg4) = m ((c.tc : Thread Cert.OutNormBwdIdeal.nD Cert.OutNormBwdIdeal.τ).loc Cert.OutNormBwdIdeal.main_arg4)) →
    ∃ (v0 : (c : Dev Cert.OutNormBwdIdeal.nD) → Buf (Elt Ideal) ((c.tc : Thread Cert.OutNormBwdIdeal.nD Cert.OutNormBwdIdeal.τ).loc Cert.OutNormBwdIdeal.main_v0_0)) (v1 : (c : Dev Cert.OutNormBwdIdeal.nD) → Buf (Elt Ideal) ((c.tc : Thread Cert.OutNormBwdIdeal.nD Cert.OutNormBwdIdeal.τ).loc Cert.OutNormBwdIdeal.main_v0_1)) (v2 : (c : Dev Cert.OutNormBwdIdeal.nD) → Buf (Elt Ideal) ((c.tc : Thread Cert.OutNormBwdIdeal.nD Cert.OutNormBwdIdeal.τ).loc Cert.OutNormBwdIdeal.main_v0_2)) (v3 : (c : Dev Cert.OutNormBwdIdeal.nD) → Buf (Elt Ideal) ((c.tc : Thread Cert.OutNormBwdIdeal.nD Cert.OutNormBwdIdeal.τ).loc Cert.OutNormBwdIdeal.main_v0_3)),
      θ_run (Cert.OutNormBwdIdeal.defs (F := Ideal)) (onTc (τ := Cert.OutNormBwdIdeal.τ) (Cert.OutNormBwdIdeal.main (F := Ideal))) ⟨m, fun _ => 0, g⟩ (fun r => ∀ c : Dev Cert.OutNormBwdIdeal.nD,
          r.2.mem ((c.tc : Thread Cert.OutNormBwdIdeal.nD Cert.OutNormBwdIdeal.τ).loc Cert.OutNormBwdIdeal.main_v0_0) = v0 c
          ∧ r.2.mem ((c.tc : Thread Cert.OutNormBwdIdeal.nD Cert.OutNormBwdIdeal.τ).loc Cert.OutNormBwdIdeal.main_v0_1) = v1 c
          ∧ r.2.mem ((c.tc : Thread Cert.OutNormBwdIdeal.nD Cert.OutNormBwdIdeal.τ).loc Cert.OutNormBwdIdeal.main_v0_2) = v2 c
          ∧ r.2.mem ((c.tc : Thread Cert.OutNormBwdIdeal.nD Cert.OutNormBwdIdeal.τ).loc Cert.OutNormBwdIdeal.main_v0_3) = v3 c
          ∧ r.2.mem ((c.tc : Thread Cert.OutNormBwdIdeal.nD Cert.OutNormBwdIdeal.τ).loc Cert.OutNormBwdIdeal.main_arg0) = m ((c.tc : Thread Cert.OutNormBwdIdeal.nD Cert.OutNormBwdIdeal.τ).loc Cert.OutNormBwdIdeal.main_arg0)
          ∧ r.2.mem ((c.tc : Thread Cert.OutNormBwdIdeal.nD Cert.OutNormBwdIdeal.τ).loc Cert.OutNormBwdIdeal.main_arg1) = m ((c.tc : Thread Cert.OutNormBwdIdeal.nD Cert.OutNormBwdIdeal.τ).loc Cert.OutNormBwdIdeal.main_arg1)
          ∧ r.2.mem ((c.tc : Thread Cert.OutNormBwdIdeal.nD Cert.OutNormBwdIdeal.τ).loc Cert.OutNormBwdIdeal.main_arg2) = m ((c.tc : Thread Cert.OutNormBwdIdeal.nD Cert.OutNormBwdIdeal.τ).loc Cert.OutNormBwdIdeal.main_arg2)
          ∧ r.2.mem ((c.tc : Thread Cert.OutNormBwdIdeal.nD Cert.OutNormBwdIdeal.τ).loc Cert.OutNormBwdIdeal.main_arg3) = m ((c.tc : Thread Cert.OutNormBwdIdeal.nD Cert.OutNormBwdIdeal.τ).loc Cert.OutNormBwdIdeal.main_arg3)
          ∧ r.2.mem ((c.tc : Thread Cert.OutNormBwdIdeal.nD Cert.OutNormBwdIdeal.τ).loc Cert.OutNormBwdIdeal.main_arg4) = m ((c.tc : Thread Cert.OutNormBwdIdeal.nD Cert.OutNormBwdIdeal.τ).loc Cert.OutNormBwdIdeal.main_arg4))
      ∧ θ_run (Cert.ReferenceOutNormBwdIdeal.defs (F := Ideal)) (onTc (τ := Cert.ReferenceOutNormBwdIdeal.τ) (Cert.ReferenceOutNormBwdIdeal.main (F := Ideal))) ⟨m', fun _ => 0, g'⟩ (fun r => ∀ c : Dev Cert.ReferenceOutNormBwdIdeal.nD,
          r.2.mem ((c.tc : Thread Cert.ReferenceOutNormBwdIdeal.nD Cert.ReferenceOutNormBwdIdeal.τ).loc Cert.ReferenceOutNormBwdIdeal.main_v22) = v0 c
          ∧ r.2.mem ((c.tc : Thread Cert.ReferenceOutNormBwdIdeal.nD Cert.ReferenceOutNormBwdIdeal.τ).loc Cert.ReferenceOutNormBwdIdeal.main_v48) = v1 c
          ∧ r.2.mem ((c.tc : Thread Cert.ReferenceOutNormBwdIdeal.nD Cert.ReferenceOutNormBwdIdeal.τ).loc Cert.ReferenceOutNormBwdIdeal.main_v25) = v2 c
          ∧ r.2.mem ((c.tc : Thread Cert.ReferenceOutNormBwdIdeal.nD Cert.ReferenceOutNormBwdIdeal.τ).loc Cert.ReferenceOutNormBwdIdeal.main_v51) = v3 c
          ∧ r.2.mem ((c.tc : Thread Cert.ReferenceOutNormBwdIdeal.nD Cert.ReferenceOutNormBwdIdeal.τ).loc Cert.ReferenceOutNormBwdIdeal.main_arg0) = m' ((c.tc : Thread Cert.ReferenceOutNormBwdIdeal.nD Cert.ReferenceOutNormBwdIdeal.τ).loc Cert.ReferenceOutNormBwdIdeal.main_arg0)
          ∧ r.2.mem ((c.tc : Thread Cert.ReferenceOutNormBwdIdeal.nD Cert.ReferenceOutNormBwdIdeal.τ).loc Cert.ReferenceOutNormBwdIdeal.main_arg1) = m' ((c.tc : Thread Cert.ReferenceOutNormBwdIdeal.nD Cert.ReferenceOutNormBwdIdeal.τ).loc Cert.ReferenceOutNormBwdIdeal.main_arg1)
          ∧ r.2.mem ((c.tc : Thread Cert.ReferenceOutNormBwdIdeal.nD Cert.ReferenceOutNormBwdIdeal.τ).loc Cert.ReferenceOutNormBwdIdeal.main_arg2) = m' ((c.tc : Thread Cert.ReferenceOutNormBwdIdeal.nD Cert.ReferenceOutNormBwdIdeal.τ).loc Cert.ReferenceOutNormBwdIdeal.main_arg2)
          ∧ r.2.mem ((c.tc : Thread Cert.ReferenceOutNormBwdIdeal.nD Cert.ReferenceOutNormBwdIdeal.τ).loc Cert.ReferenceOutNormBwdIdeal.main_arg3) = m' ((c.tc : Thread Cert.ReferenceOutNormBwdIdeal.nD Cert.ReferenceOutNormBwdIdeal.τ).loc Cert.ReferenceOutNormBwdIdeal.main_arg3)
          ∧ r.2.mem ((c.tc : Thread Cert.ReferenceOutNormBwdIdeal.nD Cert.ReferenceOutNormBwdIdeal.τ).loc Cert.ReferenceOutNormBwdIdeal.main_arg4) = m' ((c.tc : Thread Cert.ReferenceOutNormBwdIdeal.nD Cert.ReferenceOutNormBwdIdeal.τ).loc Cert.ReferenceOutNormBwdIdeal.main_arg4))

def preserves_SbFwd_SbFwdIdeal : Prop :=
  True

def algebraic_SbFwdIdeal_ReferenceSbFwdIdeal_pre_finite_scores [hSbFwdIdeal : Cert.SbFwdIdeal.Facts] [hReferenceSbFwdIdeal : Cert.ReferenceSbFwdIdeal.Facts] [hPre_finite_scores : Cert.Pre_finite_scores.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.ReferenceSbFwdIdeal.nD Cert.ReferenceSbFwdIdeal.τ Cert.ReferenceSbFwdIdeal.sig) → Buf (Elt Ideal) ℓ) (g' : Dev Cert.ReferenceSbFwdIdeal.nD → PrngReg), Pre_SbFwdIdeal_finite_scores m →
    (∀ c : Dev Cert.SbFwdIdeal.nD,
      m' ((c.tc : Thread Cert.ReferenceSbFwdIdeal.nD Cert.ReferenceSbFwdIdeal.τ).loc Cert.ReferenceSbFwdIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v0_0)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0_0) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.ReferenceSbFwdIdeal.defs (F := Ideal)) (onTc (τ := Cert.ReferenceSbFwdIdeal.τ) (Cert.ReferenceSbFwdIdeal.main (F := Ideal))) ⟨m', fun _ => 0, g'⟩ (fun r => ∀ c : Dev Cert.ReferenceSbFwdIdeal.nD,
          r.2.mem ((c.tc : Thread Cert.ReferenceSbFwdIdeal.nD Cert.ReferenceSbFwdIdeal.τ).loc Cert.ReferenceSbFwdIdeal.main_v35) = v0 c
          ∧ r.2.mem ((c.tc : Thread Cert.ReferenceSbFwdIdeal.nD Cert.ReferenceSbFwdIdeal.τ).loc Cert.ReferenceSbFwdIdeal.main_arg0) = m' ((c.tc : Thread Cert.ReferenceSbFwdIdeal.nD Cert.ReferenceSbFwdIdeal.τ).loc Cert.ReferenceSbFwdIdeal.main_arg0))

def preserves_RopeQ_RopeQIdeal : Prop :=
  True

def algebraic_RopeQIdeal_ReferenceRopeQIdeal [hRopeQIdeal : Cert.RopeQIdeal.Facts] [hReferenceRopeQIdeal : Cert.ReferenceRopeQIdeal.Facts] : Prop :=
  ∀ (m : (ℓ : Loc Cert.RopeQIdeal.nD Cert.RopeQIdeal.τ Cert.RopeQIdeal.sig) → Buf (Elt Ideal) ℓ) (g : Dev Cert.RopeQIdeal.nD → PrngReg)
    (m' : (ℓ : Loc Cert.ReferenceRopeQIdeal.nD Cert.ReferenceRopeQIdeal.τ Cert.ReferenceRopeQIdeal.sig) → Buf (Elt Ideal) ℓ) (g' : Dev Cert.ReferenceRopeQIdeal.nD → PrngReg), Pre_RopeQIdeal m →
    (∀ c : Dev Cert.RopeQIdeal.nD,
      m' ((c.tc : Thread Cert.ReferenceRopeQIdeal.nD Cert.ReferenceRopeQIdeal.τ).loc Cert.ReferenceRopeQIdeal.main_arg0) = m ((c.tc : Thread Cert.RopeQIdeal.nD Cert.RopeQIdeal.τ).loc Cert.RopeQIdeal.main_arg0)) →
    ∃ (v0 : (c : Dev Cert.RopeQIdeal.nD) → Buf (Elt Ideal) ((c.tc : Thread Cert.RopeQIdeal.nD Cert.RopeQIdeal.τ).loc Cert.RopeQIdeal.main_v23)),
      θ_run (Cert.RopeQIdeal.defs (F := Ideal)) (onTc (τ := Cert.RopeQIdeal.τ) (Cert.RopeQIdeal.main (F := Ideal))) ⟨m, fun _ => 0, g⟩ (fun r => ∀ c : Dev Cert.RopeQIdeal.nD,
          r.2.mem ((c.tc : Thread Cert.RopeQIdeal.nD Cert.RopeQIdeal.τ).loc Cert.RopeQIdeal.main_v23) = v0 c
          ∧ r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0))
      ∧ θ_run (Cert.ReferenceRopeQIdeal.defs (F := Ideal)) (onTc (τ := Cert.ReferenceRopeQIdeal.τ) (Cert.ReferenceRopeQIdeal.main (F := Ideal))) ⟨m', fun _ => 0, g'⟩ (fun r => ∀ c : Dev Cert.ReferenceRopeQIdeal.nD,
          r.2.mem ((c.tc : Thread Cert.ReferenceRopeQIdeal.nD Cert.ReferenceRopeQIdeal.τ).loc Cert.ReferenceRopeQIdeal.main_v33) = v0 c
          ∧ r.2.mem ((c.tc : Thread Cert.ReferenceRopeQIdeal.nD Cert.ReferenceRopeQIdeal.τ).loc Cert.ReferenceRopeQIdeal.main_arg0) = m' ((c.tc : Thread Cert.ReferenceRopeQIdeal.nD Cert.ReferenceRopeQIdeal.τ).loc Cert.ReferenceRopeQIdeal.main_arg0))

def preserves_RopeK_RopeKIdeal : Prop :=
  True

def algebraic_RopeKIdeal_ReferenceRopeKIdeal [hRopeKIdeal : Cert.RopeKIdeal.Facts] [hReferenceRopeKIdeal : Cert.ReferenceRopeKIdeal.Facts] : Prop :=
  ∀ (m : (ℓ : Loc Cert.RopeKIdeal.nD Cert.RopeKIdeal.τ Cert.RopeKIdeal.sig) → Buf (Elt Ideal) ℓ) (g : Dev Cert.RopeKIdeal.nD → PrngReg)
    (m' : (ℓ : Loc Cert.ReferenceRopeKIdeal.nD Cert.ReferenceRopeKIdeal.τ Cert.ReferenceRopeKIdeal.sig) → Buf (Elt Ideal) ℓ) (g' : Dev Cert.ReferenceRopeKIdeal.nD → PrngReg), Pre_RopeKIdeal m →
    (∀ c : Dev Cert.RopeKIdeal.nD,
      m' ((c.tc : Thread Cert.ReferenceRopeKIdeal.nD Cert.ReferenceRopeKIdeal.τ).loc Cert.ReferenceRopeKIdeal.main_arg0) = m ((c.tc : Thread Cert.RopeKIdeal.nD Cert.RopeKIdeal.τ).loc Cert.RopeKIdeal.main_arg0)) →
    ∃ (v0 : (c : Dev Cert.RopeKIdeal.nD) → Buf (Elt Ideal) ((c.tc : Thread Cert.RopeKIdeal.nD Cert.RopeKIdeal.τ).loc Cert.RopeKIdeal.main_v23)),
      θ_run (Cert.RopeKIdeal.defs (F := Ideal)) (onTc (τ := Cert.RopeKIdeal.τ) (Cert.RopeKIdeal.main (F := Ideal))) ⟨m, fun _ => 0, g⟩ (fun r => ∀ c : Dev Cert.RopeKIdeal.nD,
          r.2.mem ((c.tc : Thread Cert.RopeKIdeal.nD Cert.RopeKIdeal.τ).loc Cert.RopeKIdeal.main_v23) = v0 c
          ∧ r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0))
      ∧ θ_run (Cert.ReferenceRopeKIdeal.defs (F := Ideal)) (onTc (τ := Cert.ReferenceRopeKIdeal.τ) (Cert.ReferenceRopeKIdeal.main (F := Ideal))) ⟨m', fun _ => 0, g'⟩ (fun r => ∀ c : Dev Cert.ReferenceRopeKIdeal.nD,
          r.2.mem ((c.tc : Thread Cert.ReferenceRopeKIdeal.nD Cert.ReferenceRopeKIdeal.τ).loc Cert.ReferenceRopeKIdeal.main_v33) = v0 c
          ∧ r.2.mem ((c.tc : Thread Cert.ReferenceRopeKIdeal.nD Cert.ReferenceRopeKIdeal.τ).loc Cert.ReferenceRopeKIdeal.main_arg0) = m' ((c.tc : Thread Cert.ReferenceRopeKIdeal.nD Cert.ReferenceRopeKIdeal.τ).loc Cert.ReferenceRopeKIdeal.main_arg0))

def preserves_RopeBack_RopeBackIdeal : Prop :=
  True

def algebraic_RopeBackIdeal_ReferenceRopeBackIdeal [hRopeBackIdeal : Cert.RopeBackIdeal.Facts] [hReferenceRopeBackIdeal : Cert.ReferenceRopeBackIdeal.Facts] : Prop :=
  ∀ (m : (ℓ : Loc Cert.RopeBackIdeal.nD Cert.RopeBackIdeal.τ Cert.RopeBackIdeal.sig) → Buf (Elt Ideal) ℓ) (g : Dev Cert.RopeBackIdeal.nD → PrngReg)
    (m' : (ℓ : Loc Cert.ReferenceRopeBackIdeal.nD Cert.ReferenceRopeBackIdeal.τ Cert.ReferenceRopeBackIdeal.sig) → Buf (Elt Ideal) ℓ) (g' : Dev Cert.ReferenceRopeBackIdeal.nD → PrngReg), Pre_RopeBackIdeal m →
    (∀ c : Dev Cert.RopeBackIdeal.nD,
      m' ((c.tc : Thread Cert.ReferenceRopeBackIdeal.nD Cert.ReferenceRopeBackIdeal.τ).loc Cert.ReferenceRopeBackIdeal.main_arg0) = m ((c.tc : Thread Cert.RopeBackIdeal.nD Cert.RopeBackIdeal.τ).loc Cert.RopeBackIdeal.main_arg0)) →
    ∃ (v0 : (c : Dev Cert.RopeBackIdeal.nD) → Buf (Elt Ideal) ((c.tc : Thread Cert.RopeBackIdeal.nD Cert.RopeBackIdeal.τ).loc Cert.RopeBackIdeal.main_v23)),
      θ_run (Cert.RopeBackIdeal.defs (F := Ideal)) (onTc (τ := Cert.RopeBackIdeal.τ) (Cert.RopeBackIdeal.main (F := Ideal))) ⟨m, fun _ => 0, g⟩ (fun r => ∀ c : Dev Cert.RopeBackIdeal.nD,
          r.2.mem ((c.tc : Thread Cert.RopeBackIdeal.nD Cert.RopeBackIdeal.τ).loc Cert.RopeBackIdeal.main_v23) = v0 c
          ∧ r.2.mem ((c.tc : Thread Cert.RopeBackIdeal.nD Cert.RopeBackIdeal.τ).loc Cert.RopeBackIdeal.main_arg0) = m ((c.tc : Thread Cert.RopeBackIdeal.nD Cert.RopeBackIdeal.τ).loc Cert.RopeBackIdeal.main_arg0))
      ∧ θ_run (Cert.ReferenceRopeBackIdeal.defs (F := Ideal)) (onTc (τ := Cert.ReferenceRopeBackIdeal.τ) (Cert.ReferenceRopeBackIdeal.main (F := Ideal))) ⟨m', fun _ => 0, g'⟩ (fun r => ∀ c : Dev Cert.ReferenceRopeBackIdeal.nD,
          r.2.mem ((c.tc : Thread Cert.ReferenceRopeBackIdeal.nD Cert.ReferenceRopeBackIdeal.τ).loc Cert.ReferenceRopeBackIdeal.main_v32) = v0 c
          ∧ r.2.mem ((c.tc : Thread Cert.ReferenceRopeBackIdeal.nD Cert.ReferenceRopeBackIdeal.τ).loc Cert.ReferenceRopeBackIdeal.main_arg0) = m' ((c.tc : Thread Cert.ReferenceRopeBackIdeal.nD Cert.ReferenceRopeBackIdeal.τ).loc Cert.ReferenceRopeBackIdeal.main_arg0))

def Claim : Prop :=
  ∃ (hGatherCol : Cert.GatherCol.Facts) (hGatherColIdeal : Cert.GatherColIdeal.Facts) (hReferenceColIdeal : Cert.ReferenceColIdeal.Facts) (hReferenceCol : Cert.ReferenceCol.Facts) (hGatherRow : Cert.GatherRow.Facts) (hGatherRowIdeal : Cert.GatherRowIdeal.Facts) (hReferenceRowIdeal : Cert.ReferenceRowIdeal.Facts) (hReferenceRow : Cert.ReferenceRow.Facts) (hExchange : Cert.Exchange.Facts) (hExchangeIdeal : Cert.ExchangeIdeal.Facts) (hReferenceExchangeIdeal : Cert.ReferenceExchangeIdeal.Facts) (hReferenceExchange : Cert.ReferenceExchange.Facts) (hReduce : Cert.Reduce.Facts) (hReduceIdeal : Cert.ReduceIdeal.Facts) (hReferenceReduce : Cert.ReferenceReduce.Facts) (hReferenceReduceIdeal : Cert.ReferenceReduceIdeal.Facts) (hAdamGate : Cert.AdamGate.Facts) (hAdamGateIdeal : Cert.AdamGateIdeal.Facts) (hReferenceAdamGate : Cert.ReferenceAdamGate.Facts) (hReferenceAdamGateIdeal : Cert.ReferenceAdamGateIdeal.Facts) (hAdamIn : Cert.AdamIn.Facts) (hAdamInIdeal : Cert.AdamInIdeal.Facts) (hReferenceAdamIn : Cert.ReferenceAdamIn.Facts) (hReferenceAdamInIdeal : Cert.ReferenceAdamInIdeal.Facts) (hAdamDown : Cert.AdamDown.Facts) (hAdamDownIdeal : Cert.AdamDownIdeal.Facts) (hReferenceAdamDown : Cert.ReferenceAdamDown.Facts) (hReferenceAdamDownIdeal : Cert.ReferenceAdamDownIdeal.Facts) (hAdamOut : Cert.AdamOut.Facts) (hAdamOutIdeal : Cert.AdamOutIdeal.Facts) (hReferenceAdamOut : Cert.ReferenceAdamOut.Facts) (hReferenceAdamOutIdeal : Cert.ReferenceAdamOutIdeal.Facts) (hAdamGain : Cert.AdamGain.Facts) (hAdamGainIdeal : Cert.AdamGainIdeal.Facts) (hReferenceAdamGain : Cert.ReferenceAdamGain.Facts) (hReferenceAdamGainIdeal : Cert.ReferenceAdamGainIdeal.Facts) (hAdamHalfGain : Cert.AdamHalfGain.Facts) (hAdamHalfGainIdeal : Cert.AdamHalfGainIdeal.Facts) (hReferenceAdamHalfGain : Cert.ReferenceAdamHalfGain.Facts) (hReferenceAdamHalfGainIdeal : Cert.ReferenceAdamHalfGainIdeal.Facts) (hNorm : Cert.Norm.Facts) (hNormIdeal : Cert.NormIdeal.Facts) (hReferenceNorm : Cert.ReferenceNorm.Facts) (hReferenceNormIdeal : Cert.ReferenceNormIdeal.Facts) (hNormBwd : Cert.NormBwd.Facts) (hNormBwdIdeal : Cert.NormBwdIdeal.Facts) (hReferenceNormBwd : Cert.ReferenceNormBwd.Facts) (hReferenceNormBwdIdeal : Cert.ReferenceNormBwdIdeal.Facts) (hMmGate : Cert.MmGate.Facts) (hMmGateIdeal : Cert.MmGateIdeal.Facts) (hReferenceMmGate : Cert.ReferenceMmGate.Facts) (hReferenceMmGateIdeal : Cert.ReferenceMmGateIdeal.Facts) (hMmUp : Cert.MmUp.Facts) (hMmUpIdeal : Cert.MmUpIdeal.Facts) (hReferenceMmUp : Cert.ReferenceMmUp.Facts) (hReferenceMmUpIdeal : Cert.ReferenceMmUpIdeal.Facts) (hMmDown : Cert.MmDown.Facts) (hMmDownIdeal : Cert.MmDownIdeal.Facts) (hReferenceMmDown : Cert.ReferenceMmDown.Facts) (hReferenceMmDownIdeal : Cert.ReferenceMmDownIdeal.Facts) (hMmBwdAct : Cert.MmBwdAct.Facts) (hMmBwdActIdeal : Cert.MmBwdActIdeal.Facts) (hReferenceMmBwdAct : Cert.ReferenceMmBwdAct.Facts) (hReferenceMmBwdActIdeal : Cert.ReferenceMmBwdActIdeal.Facts) (hMmDhGate : Cert.MmDhGate.Facts) (hMmDhGateIdeal : Cert.MmDhGateIdeal.Facts) (hReferenceMmDhGate : Cert.ReferenceMmDhGate.Facts) (hReferenceMmDhGateIdeal : Cert.ReferenceMmDhGateIdeal.Facts) (hMmDhUp : Cert.MmDhUp.Facts) (hMmDhUpIdeal : Cert.MmDhUpIdeal.Facts) (hReferenceMmDhUp : Cert.ReferenceMmDhUp.Facts) (hReferenceMmDhUpIdeal : Cert.ReferenceMmDhUpIdeal.Facts) (hMmSb : Cert.MmSb.Facts) (hMmSbIdeal : Cert.MmSbIdeal.Facts) (hReferenceMmSb : Cert.ReferenceMmSb.Facts) (hReferenceMmSbIdeal : Cert.ReferenceMmSbIdeal.Facts) (hMmDl : Cert.MmDl.Facts) (hMmDlIdeal : Cert.MmDlIdeal.Facts) (hReferenceMmDl : Cert.ReferenceMmDl.Facts) (hReferenceMmDlIdeal : Cert.ReferenceMmDlIdeal.Facts) (hMmOut : Cert.MmOut.Facts) (hMmOutIdeal : Cert.MmOutIdeal.Facts) (hReferenceMmOut : Cert.ReferenceMmOut.Facts) (hReferenceMmOutIdeal : Cert.ReferenceMmOutIdeal.Facts) (hMmMerged : Cert.MmMerged.Facts) (hMmMergedIdeal : Cert.MmMergedIdeal.Facts) (hReferenceMmMerged : Cert.ReferenceMmMerged.Facts) (hReferenceMmMergedIdeal : Cert.ReferenceMmMergedIdeal.Facts) (hMmDhMix : Cert.MmDhMix.Facts) (hMmDhMixIdeal : Cert.MmDhMixIdeal.Facts) (hReferenceMmDhMix : Cert.ReferenceMmDhMix.Facts) (hReferenceMmDhMixIdeal : Cert.ReferenceMmDhMixIdeal.Facts) (hMmDwg : Cert.MmDwg.Facts) (hMmDwgIdeal : Cert.MmDwgIdeal.Facts) (hReferenceMmDwg : Cert.ReferenceMmDwg.Facts) (hReferenceMmDwgIdeal : Cert.ReferenceMmDwgIdeal.Facts) (hMmDwd : Cert.MmDwd.Facts) (hMmDwdIdeal : Cert.MmDwdIdeal.Facts) (hReferenceMmDwd : Cert.ReferenceMmDwd.Facts) (hReferenceMmDwdIdeal : Cert.ReferenceMmDwdIdeal.Facts) (hMmDwOut : Cert.MmDwOut.Facts) (hMmDwOutIdeal : Cert.MmDwOutIdeal.Facts) (hReferenceMmDwOut : Cert.ReferenceMmDwOut.Facts) (hReferenceMmDwOutIdeal : Cert.ReferenceMmDwOutIdeal.Facts) (hMmDwIn : Cert.MmDwIn.Facts) (hMmDwInIdeal : Cert.MmDwInIdeal.Facts) (hReferenceMmDwIn : Cert.ReferenceMmDwIn.Facts) (hReferenceMmDwInIdeal : Cert.ReferenceMmDwInIdeal.Facts) (hLossHead : Cert.LossHead.Facts) (hLossHeadIdeal : Cert.LossHeadIdeal.Facts) (hReferenceLossHead : Cert.ReferenceLossHead.Facts) (hReferenceLossHeadIdeal : Cert.ReferenceLossHeadIdeal.Facts) (hOutNorm : Cert.OutNorm.Facts) (hOutNormIdeal : Cert.OutNormIdeal.Facts) (hReferenceOutNorm : Cert.ReferenceOutNorm.Facts) (hReferenceOutNormIdeal : Cert.ReferenceOutNormIdeal.Facts) (hOutNormBwd : Cert.OutNormBwd.Facts) (hOutNormBwdIdeal : Cert.OutNormBwdIdeal.Facts) (hReferenceOutNormBwd : Cert.ReferenceOutNormBwd.Facts) (hReferenceOutNormBwdIdeal : Cert.ReferenceOutNormBwdIdeal.Facts) (hSbFwd : Cert.SbFwd.Facts) (hSbFwdIdeal : Cert.SbFwdIdeal.Facts) (hReferenceSbFwd : Cert.ReferenceSbFwd.Facts) (hReferenceSbFwdIdeal : Cert.ReferenceSbFwdIdeal.Facts) (hRopeQ : Cert.RopeQ.Facts) (hRopeQIdeal : Cert.RopeQIdeal.Facts) (hReferenceRopeQ : Cert.ReferenceRopeQ.Facts) (hReferenceRopeQIdeal : Cert.ReferenceRopeQIdeal.Facts) (hRopeK : Cert.RopeK.Facts) (hRopeKIdeal : Cert.RopeKIdeal.Facts) (hReferenceRopeK : Cert.ReferenceRopeK.Facts) (hReferenceRopeKIdeal : Cert.ReferenceRopeKIdeal.Facts) (hRopeBack : Cert.RopeBack.Facts) (hRopeBackIdeal : Cert.RopeBackIdeal.Facts) (hReferenceRopeBack : Cert.ReferenceRopeBack.Facts) (hReferenceRopeBackIdeal : Cert.ReferenceRopeBackIdeal.Facts) (hPre_finite_scores : Cert.Pre_finite_scores.Facts),
    quiescent_GatherCol (hGatherCol := hGatherCol)
    ∧ quiescent_GatherColIdeal (hGatherColIdeal := hGatherColIdeal)
    ∧ quiescent_ReferenceColIdeal (hReferenceColIdeal := hReferenceColIdeal)
    ∧ quiescent_ReferenceCol (hReferenceCol := hReferenceCol)
    ∧ quiescent_GatherRow (hGatherRow := hGatherRow)
    ∧ quiescent_GatherRowIdeal (hGatherRowIdeal := hGatherRowIdeal)
    ∧ quiescent_ReferenceRowIdeal (hReferenceRowIdeal := hReferenceRowIdeal)
    ∧ quiescent_ReferenceRow (hReferenceRow := hReferenceRow)
    ∧ quiescent_Exchange (hExchange := hExchange)
    ∧ quiescent_ExchangeIdeal (hExchangeIdeal := hExchangeIdeal)
    ∧ quiescent_ReferenceExchangeIdeal (hReferenceExchangeIdeal := hReferenceExchangeIdeal)
    ∧ quiescent_ReferenceExchange (hReferenceExchange := hReferenceExchange)
    ∧ quiescent_Reduce (hReduce := hReduce)
    ∧ quiescent_ReduceIdeal (hReduceIdeal := hReduceIdeal)
    ∧ quiescent_ReferenceReduce (hReferenceReduce := hReferenceReduce)
    ∧ quiescent_ReferenceReduceIdeal (hReferenceReduceIdeal := hReferenceReduceIdeal)
    ∧ quiescent_AdamGate (hAdamGate := hAdamGate)
    ∧ quiescent_AdamGateIdeal (hAdamGateIdeal := hAdamGateIdeal)
    ∧ quiescent_ReferenceAdamGate (hReferenceAdamGate := hReferenceAdamGate)
    ∧ quiescent_ReferenceAdamGateIdeal (hReferenceAdamGateIdeal := hReferenceAdamGateIdeal)
    ∧ quiescent_AdamIn (hAdamIn := hAdamIn)
    ∧ quiescent_AdamInIdeal (hAdamInIdeal := hAdamInIdeal)
    ∧ quiescent_ReferenceAdamIn (hReferenceAdamIn := hReferenceAdamIn)
    ∧ quiescent_ReferenceAdamInIdeal (hReferenceAdamInIdeal := hReferenceAdamInIdeal)
    ∧ quiescent_AdamDown (hAdamDown := hAdamDown)
    ∧ quiescent_AdamDownIdeal (hAdamDownIdeal := hAdamDownIdeal)
    ∧ quiescent_ReferenceAdamDown (hReferenceAdamDown := hReferenceAdamDown)
    ∧ quiescent_ReferenceAdamDownIdeal (hReferenceAdamDownIdeal := hReferenceAdamDownIdeal)
    ∧ quiescent_AdamOut (hAdamOut := hAdamOut)
    ∧ quiescent_AdamOutIdeal (hAdamOutIdeal := hAdamOutIdeal)
    ∧ quiescent_ReferenceAdamOut (hReferenceAdamOut := hReferenceAdamOut)
    ∧ quiescent_ReferenceAdamOutIdeal (hReferenceAdamOutIdeal := hReferenceAdamOutIdeal)
    ∧ quiescent_AdamGain (hAdamGain := hAdamGain)
    ∧ quiescent_AdamGainIdeal (hAdamGainIdeal := hAdamGainIdeal)
    ∧ quiescent_ReferenceAdamGain (hReferenceAdamGain := hReferenceAdamGain)
    ∧ quiescent_ReferenceAdamGainIdeal (hReferenceAdamGainIdeal := hReferenceAdamGainIdeal)
    ∧ quiescent_AdamHalfGain (hAdamHalfGain := hAdamHalfGain)
    ∧ quiescent_AdamHalfGainIdeal (hAdamHalfGainIdeal := hAdamHalfGainIdeal)
    ∧ quiescent_ReferenceAdamHalfGain (hReferenceAdamHalfGain := hReferenceAdamHalfGain)
    ∧ quiescent_ReferenceAdamHalfGainIdeal (hReferenceAdamHalfGainIdeal := hReferenceAdamHalfGainIdeal)
    ∧ quiescent_Norm (hNorm := hNorm)
    ∧ quiescent_NormIdeal (hNormIdeal := hNormIdeal)
    ∧ quiescent_ReferenceNorm (hReferenceNorm := hReferenceNorm)
    ∧ quiescent_ReferenceNormIdeal (hReferenceNormIdeal := hReferenceNormIdeal)
    ∧ quiescent_NormBwd (hNormBwd := hNormBwd)
    ∧ quiescent_NormBwdIdeal (hNormBwdIdeal := hNormBwdIdeal)
    ∧ quiescent_ReferenceNormBwd (hReferenceNormBwd := hReferenceNormBwd)
    ∧ quiescent_ReferenceNormBwdIdeal (hReferenceNormBwdIdeal := hReferenceNormBwdIdeal)
    ∧ quiescent_MmGate (hMmGate := hMmGate)
    ∧ quiescent_MmGateIdeal (hMmGateIdeal := hMmGateIdeal)
    ∧ quiescent_ReferenceMmGate (hReferenceMmGate := hReferenceMmGate)
    ∧ quiescent_ReferenceMmGateIdeal (hReferenceMmGateIdeal := hReferenceMmGateIdeal)
    ∧ quiescent_MmUp (hMmUp := hMmUp)
    ∧ quiescent_MmUpIdeal (hMmUpIdeal := hMmUpIdeal)
    ∧ quiescent_ReferenceMmUp (hReferenceMmUp := hReferenceMmUp)
    ∧ quiescent_ReferenceMmUpIdeal (hReferenceMmUpIdeal := hReferenceMmUpIdeal)
    ∧ quiescent_MmDown (hMmDown := hMmDown)
    ∧ quiescent_MmDownIdeal (hMmDownIdeal := hMmDownIdeal)
    ∧ quiescent_ReferenceMmDown (hReferenceMmDown := hReferenceMmDown)
    ∧ quiescent_ReferenceMmDownIdeal (hReferenceMmDownIdeal := hReferenceMmDownIdeal)
    ∧ quiescent_MmBwdAct (hMmBwdAct := hMmBwdAct)
    ∧ quiescent_MmBwdActIdeal (hMmBwdActIdeal := hMmBwdActIdeal)
    ∧ quiescent_ReferenceMmBwdAct (hReferenceMmBwdAct := hReferenceMmBwdAct)
    ∧ quiescent_ReferenceMmBwdActIdeal (hReferenceMmBwdActIdeal := hReferenceMmBwdActIdeal)
    ∧ quiescent_MmDhGate (hMmDhGate := hMmDhGate)
    ∧ quiescent_MmDhGateIdeal (hMmDhGateIdeal := hMmDhGateIdeal)
    ∧ quiescent_ReferenceMmDhGate (hReferenceMmDhGate := hReferenceMmDhGate)
    ∧ quiescent_ReferenceMmDhGateIdeal (hReferenceMmDhGateIdeal := hReferenceMmDhGateIdeal)
    ∧ quiescent_MmDhUp (hMmDhUp := hMmDhUp)
    ∧ quiescent_MmDhUpIdeal (hMmDhUpIdeal := hMmDhUpIdeal)
    ∧ quiescent_ReferenceMmDhUp (hReferenceMmDhUp := hReferenceMmDhUp)
    ∧ quiescent_ReferenceMmDhUpIdeal (hReferenceMmDhUpIdeal := hReferenceMmDhUpIdeal)
    ∧ quiescent_MmSb (hMmSb := hMmSb)
    ∧ quiescent_MmSbIdeal (hMmSbIdeal := hMmSbIdeal)
    ∧ quiescent_ReferenceMmSb (hReferenceMmSb := hReferenceMmSb)
    ∧ quiescent_ReferenceMmSbIdeal (hReferenceMmSbIdeal := hReferenceMmSbIdeal)
    ∧ quiescent_MmDl (hMmDl := hMmDl)
    ∧ quiescent_MmDlIdeal (hMmDlIdeal := hMmDlIdeal)
    ∧ quiescent_ReferenceMmDl (hReferenceMmDl := hReferenceMmDl)
    ∧ quiescent_ReferenceMmDlIdeal (hReferenceMmDlIdeal := hReferenceMmDlIdeal)
    ∧ quiescent_MmOut (hMmOut := hMmOut)
    ∧ quiescent_MmOutIdeal (hMmOutIdeal := hMmOutIdeal)
    ∧ quiescent_ReferenceMmOut (hReferenceMmOut := hReferenceMmOut)
    ∧ quiescent_ReferenceMmOutIdeal (hReferenceMmOutIdeal := hReferenceMmOutIdeal)
    ∧ quiescent_MmMerged (hMmMerged := hMmMerged)
    ∧ quiescent_MmMergedIdeal (hMmMergedIdeal := hMmMergedIdeal)
    ∧ quiescent_ReferenceMmMerged (hReferenceMmMerged := hReferenceMmMerged)
    ∧ quiescent_ReferenceMmMergedIdeal (hReferenceMmMergedIdeal := hReferenceMmMergedIdeal)
    ∧ quiescent_MmDhMix (hMmDhMix := hMmDhMix)
    ∧ quiescent_MmDhMixIdeal (hMmDhMixIdeal := hMmDhMixIdeal)
    ∧ quiescent_ReferenceMmDhMix (hReferenceMmDhMix := hReferenceMmDhMix)
    ∧ quiescent_ReferenceMmDhMixIdeal (hReferenceMmDhMixIdeal := hReferenceMmDhMixIdeal)
    ∧ quiescent_MmDwg (hMmDwg := hMmDwg)
    ∧ quiescent_MmDwgIdeal (hMmDwgIdeal := hMmDwgIdeal)
    ∧ quiescent_ReferenceMmDwg (hReferenceMmDwg := hReferenceMmDwg)
    ∧ quiescent_ReferenceMmDwgIdeal (hReferenceMmDwgIdeal := hReferenceMmDwgIdeal)
    ∧ quiescent_MmDwd (hMmDwd := hMmDwd)
    ∧ quiescent_MmDwdIdeal (hMmDwdIdeal := hMmDwdIdeal)
    ∧ quiescent_ReferenceMmDwd (hReferenceMmDwd := hReferenceMmDwd)
    ∧ quiescent_ReferenceMmDwdIdeal (hReferenceMmDwdIdeal := hReferenceMmDwdIdeal)
    ∧ quiescent_MmDwOut (hMmDwOut := hMmDwOut)
    ∧ quiescent_MmDwOutIdeal (hMmDwOutIdeal := hMmDwOutIdeal)
    ∧ quiescent_ReferenceMmDwOut (hReferenceMmDwOut := hReferenceMmDwOut)
    ∧ quiescent_ReferenceMmDwOutIdeal (hReferenceMmDwOutIdeal := hReferenceMmDwOutIdeal)
    ∧ quiescent_MmDwIn (hMmDwIn := hMmDwIn)
    ∧ quiescent_MmDwInIdeal (hMmDwInIdeal := hMmDwInIdeal)
    ∧ quiescent_ReferenceMmDwIn (hReferenceMmDwIn := hReferenceMmDwIn)
    ∧ quiescent_ReferenceMmDwInIdeal (hReferenceMmDwInIdeal := hReferenceMmDwInIdeal)
    ∧ quiescent_LossHead (hLossHead := hLossHead)
    ∧ quiescent_LossHeadIdeal (hLossHeadIdeal := hLossHeadIdeal)
    ∧ quiescent_ReferenceLossHead (hReferenceLossHead := hReferenceLossHead)
    ∧ quiescent_ReferenceLossHeadIdeal (hReferenceLossHeadIdeal := hReferenceLossHeadIdeal)
    ∧ quiescent_OutNorm (hOutNorm := hOutNorm)
    ∧ quiescent_OutNormIdeal (hOutNormIdeal := hOutNormIdeal)
    ∧ quiescent_ReferenceOutNorm (hReferenceOutNorm := hReferenceOutNorm)
    ∧ quiescent_ReferenceOutNormIdeal (hReferenceOutNormIdeal := hReferenceOutNormIdeal)
    ∧ quiescent_OutNormBwd (hOutNormBwd := hOutNormBwd)
    ∧ quiescent_OutNormBwdIdeal (hOutNormBwdIdeal := hOutNormBwdIdeal)
    ∧ quiescent_ReferenceOutNormBwd (hReferenceOutNormBwd := hReferenceOutNormBwd)
    ∧ quiescent_ReferenceOutNormBwdIdeal (hReferenceOutNormBwdIdeal := hReferenceOutNormBwdIdeal)
    ∧ quiescent_SbFwd (hSbFwd := hSbFwd)
    ∧ quiescent_SbFwdIdeal (hSbFwdIdeal := hSbFwdIdeal)
    ∧ quiescent_SbFwdIdeal_pre_finite_scores (hSbFwdIdeal := hSbFwdIdeal) (hPre_finite_scores := hPre_finite_scores)
    ∧ quiescent_ReferenceSbFwd (hReferenceSbFwd := hReferenceSbFwd)
    ∧ quiescent_ReferenceSbFwdIdeal (hReferenceSbFwdIdeal := hReferenceSbFwdIdeal)
    ∧ quiescent_ReferenceSbFwdIdeal_pre_finite_scores (hReferenceSbFwdIdeal := hReferenceSbFwdIdeal) (hPre_finite_scores := hPre_finite_scores)
    ∧ quiescent_RopeQ (hRopeQ := hRopeQ)
    ∧ quiescent_RopeQIdeal (hRopeQIdeal := hRopeQIdeal)
    ∧ quiescent_ReferenceRopeQ (hReferenceRopeQ := hReferenceRopeQ)
    ∧ quiescent_ReferenceRopeQIdeal (hReferenceRopeQIdeal := hReferenceRopeQIdeal)
    ∧ quiescent_RopeK (hRopeK := hRopeK)
    ∧ quiescent_RopeKIdeal (hRopeKIdeal := hRopeKIdeal)
    ∧ quiescent_ReferenceRopeK (hReferenceRopeK := hReferenceRopeK)
    ∧ quiescent_ReferenceRopeKIdeal (hReferenceRopeKIdeal := hReferenceRopeKIdeal)
    ∧ quiescent_RopeBack (hRopeBack := hRopeBack)
    ∧ quiescent_RopeBackIdeal (hRopeBackIdeal := hRopeBackIdeal)
    ∧ quiescent_ReferenceRopeBack (hReferenceRopeBack := hReferenceRopeBack)
    ∧ quiescent_ReferenceRopeBackIdeal (hReferenceRopeBackIdeal := hReferenceRopeBackIdeal)
    ∧ preserves_GatherCol_GatherColIdeal
    ∧ bitexact_GatherCol_ReferenceCol (hGatherCol := hGatherCol) (hReferenceCol := hReferenceCol)
    ∧ algebraic_GatherColIdeal_ReferenceColIdeal (hGatherColIdeal := hGatherColIdeal) (hReferenceColIdeal := hReferenceColIdeal)
    ∧ preserves_GatherRow_GatherRowIdeal
    ∧ bitexact_GatherRow_ReferenceRow (hGatherRow := hGatherRow) (hReferenceRow := hReferenceRow)
    ∧ algebraic_GatherRowIdeal_ReferenceRowIdeal (hGatherRowIdeal := hGatherRowIdeal) (hReferenceRowIdeal := hReferenceRowIdeal)
    ∧ preserves_Exchange_ExchangeIdeal
    ∧ bitexact_Exchange_ReferenceExchange (hExchange := hExchange) (hReferenceExchange := hReferenceExchange)
    ∧ algebraic_ExchangeIdeal_ReferenceExchangeIdeal (hExchangeIdeal := hExchangeIdeal) (hReferenceExchangeIdeal := hReferenceExchangeIdeal)
    ∧ preserves_Reduce_ReduceIdeal
    ∧ algebraic_ReduceIdeal_ReferenceReduceIdeal (hReduceIdeal := hReduceIdeal) (hReferenceReduceIdeal := hReferenceReduceIdeal)
    ∧ preserves_AdamGate_AdamGateIdeal
    ∧ algebraic_AdamGateIdeal_ReferenceAdamGateIdeal (hAdamGateIdeal := hAdamGateIdeal) (hReferenceAdamGateIdeal := hReferenceAdamGateIdeal)
    ∧ preserves_AdamIn_AdamInIdeal
    ∧ algebraic_AdamInIdeal_ReferenceAdamInIdeal (hAdamInIdeal := hAdamInIdeal) (hReferenceAdamInIdeal := hReferenceAdamInIdeal)
    ∧ preserves_AdamDown_AdamDownIdeal
    ∧ algebraic_AdamDownIdeal_ReferenceAdamDownIdeal (hAdamDownIdeal := hAdamDownIdeal) (hReferenceAdamDownIdeal := hReferenceAdamDownIdeal)
    ∧ preserves_AdamOut_AdamOutIdeal
    ∧ algebraic_AdamOutIdeal_ReferenceAdamOutIdeal (hAdamOutIdeal := hAdamOutIdeal) (hReferenceAdamOutIdeal := hReferenceAdamOutIdeal)
    ∧ preserves_AdamGain_AdamGainIdeal
    ∧ algebraic_AdamGainIdeal_ReferenceAdamGainIdeal (hAdamGainIdeal := hAdamGainIdeal) (hReferenceAdamGainIdeal := hReferenceAdamGainIdeal)
    ∧ preserves_AdamHalfGain_AdamHalfGainIdeal
    ∧ algebraic_AdamHalfGainIdeal_ReferenceAdamHalfGainIdeal (hAdamHalfGainIdeal := hAdamHalfGainIdeal) (hReferenceAdamHalfGainIdeal := hReferenceAdamHalfGainIdeal)
    ∧ preserves_Norm_NormIdeal
    ∧ algebraic_NormIdeal_ReferenceNormIdeal (hNormIdeal := hNormIdeal) (hReferenceNormIdeal := hReferenceNormIdeal)
    ∧ preserves_NormBwd_NormBwdIdeal
    ∧ algebraic_NormBwdIdeal_ReferenceNormBwdIdeal (hNormBwdIdeal := hNormBwdIdeal) (hReferenceNormBwdIdeal := hReferenceNormBwdIdeal)
    ∧ preserves_MmGate_MmGateIdeal
    ∧ algebraic_MmGateIdeal_ReferenceMmGateIdeal (hMmGateIdeal := hMmGateIdeal) (hReferenceMmGateIdeal := hReferenceMmGateIdeal)
    ∧ preserves_MmUp_MmUpIdeal
    ∧ algebraic_MmUpIdeal_ReferenceMmUpIdeal (hMmUpIdeal := hMmUpIdeal) (hReferenceMmUpIdeal := hReferenceMmUpIdeal)
    ∧ preserves_MmDown_MmDownIdeal
    ∧ algebraic_MmDownIdeal_ReferenceMmDownIdeal (hMmDownIdeal := hMmDownIdeal) (hReferenceMmDownIdeal := hReferenceMmDownIdeal)
    ∧ preserves_MmBwdAct_MmBwdActIdeal
    ∧ algebraic_MmBwdActIdeal_ReferenceMmBwdActIdeal (hMmBwdActIdeal := hMmBwdActIdeal) (hReferenceMmBwdActIdeal := hReferenceMmBwdActIdeal)
    ∧ preserves_MmDhGate_MmDhGateIdeal
    ∧ algebraic_MmDhGateIdeal_ReferenceMmDhGateIdeal (hMmDhGateIdeal := hMmDhGateIdeal) (hReferenceMmDhGateIdeal := hReferenceMmDhGateIdeal)
    ∧ preserves_MmDhUp_MmDhUpIdeal
    ∧ algebraic_MmDhUpIdeal_ReferenceMmDhUpIdeal (hMmDhUpIdeal := hMmDhUpIdeal) (hReferenceMmDhUpIdeal := hReferenceMmDhUpIdeal)
    ∧ preserves_MmSb_MmSbIdeal
    ∧ algebraic_MmSbIdeal_ReferenceMmSbIdeal (hMmSbIdeal := hMmSbIdeal) (hReferenceMmSbIdeal := hReferenceMmSbIdeal)
    ∧ preserves_MmDl_MmDlIdeal
    ∧ algebraic_MmDlIdeal_ReferenceMmDlIdeal (hMmDlIdeal := hMmDlIdeal) (hReferenceMmDlIdeal := hReferenceMmDlIdeal)
    ∧ preserves_MmOut_MmOutIdeal
    ∧ algebraic_MmOutIdeal_ReferenceMmOutIdeal (hMmOutIdeal := hMmOutIdeal) (hReferenceMmOutIdeal := hReferenceMmOutIdeal)
    ∧ preserves_MmMerged_MmMergedIdeal
    ∧ algebraic_MmMergedIdeal_ReferenceMmMergedIdeal (hMmMergedIdeal := hMmMergedIdeal) (hReferenceMmMergedIdeal := hReferenceMmMergedIdeal)
    ∧ preserves_MmDhMix_MmDhMixIdeal
    ∧ algebraic_MmDhMixIdeal_ReferenceMmDhMixIdeal (hMmDhMixIdeal := hMmDhMixIdeal) (hReferenceMmDhMixIdeal := hReferenceMmDhMixIdeal)
    ∧ preserves_MmDwg_MmDwgIdeal
    ∧ algebraic_MmDwgIdeal_ReferenceMmDwgIdeal (hMmDwgIdeal := hMmDwgIdeal) (hReferenceMmDwgIdeal := hReferenceMmDwgIdeal)
    ∧ preserves_MmDwd_MmDwdIdeal
    ∧ algebraic_MmDwdIdeal_ReferenceMmDwdIdeal (hMmDwdIdeal := hMmDwdIdeal) (hReferenceMmDwdIdeal := hReferenceMmDwdIdeal)
    ∧ preserves_MmDwOut_MmDwOutIdeal
    ∧ algebraic_MmDwOutIdeal_ReferenceMmDwOutIdeal (hMmDwOutIdeal := hMmDwOutIdeal) (hReferenceMmDwOutIdeal := hReferenceMmDwOutIdeal)
    ∧ preserves_MmDwIn_MmDwInIdeal
    ∧ algebraic_MmDwInIdeal_ReferenceMmDwInIdeal (hMmDwInIdeal := hMmDwInIdeal) (hReferenceMmDwInIdeal := hReferenceMmDwInIdeal)
    ∧ preserves_LossHead_LossHeadIdeal
    ∧ algebraic_LossHeadIdeal_ReferenceLossHeadIdeal (hLossHeadIdeal := hLossHeadIdeal) (hReferenceLossHeadIdeal := hReferenceLossHeadIdeal)
    ∧ preserves_OutNorm_OutNormIdeal
    ∧ algebraic_OutNormIdeal_ReferenceOutNormIdeal (hOutNormIdeal := hOutNormIdeal) (hReferenceOutNormIdeal := hReferenceOutNormIdeal)
    ∧ preserves_OutNormBwd_OutNormBwdIdeal
    ∧ algebraic_OutNormBwdIdeal_ReferenceOutNormBwdIdeal (hOutNormBwdIdeal := hOutNormBwdIdeal) (hReferenceOutNormBwdIdeal := hReferenceOutNormBwdIdeal)
    ∧ preserves_SbFwd_SbFwdIdeal
    ∧ algebraic_SbFwdIdeal_ReferenceSbFwdIdeal_pre_finite_scores (hSbFwdIdeal := hSbFwdIdeal) (hReferenceSbFwdIdeal := hReferenceSbFwdIdeal) (hPre_finite_scores := hPre_finite_scores)
    ∧ preserves_RopeQ_RopeQIdeal
    ∧ algebraic_RopeQIdeal_ReferenceRopeQIdeal (hRopeQIdeal := hRopeQIdeal) (hReferenceRopeQIdeal := hReferenceRopeQIdeal)
    ∧ preserves_RopeK_RopeKIdeal
    ∧ algebraic_RopeKIdeal_ReferenceRopeKIdeal (hRopeKIdeal := hRopeKIdeal) (hReferenceRopeKIdeal := hReferenceRopeKIdeal)
    ∧ preserves_RopeBack_RopeBackIdeal
    ∧ algebraic_RopeBackIdeal_ReferenceRopeBackIdeal (hRopeBackIdeal := hRopeBackIdeal) (hReferenceRopeBackIdeal := hReferenceRopeBackIdeal)
-- ==== Pre_finite_scores.lean ====
abbrev S8192x1536 : Shape := ⟨2, ![8192, 1536]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)

variable [Facts]

def fn {F : FTy → Type} [FloatOps F] (main_arg0 : FVec F S8192x1536 .bf16) : IVec S8192x1536 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  main_v3
-- ==== GatherCol.lean ====
abbrev S1024x1792 : Shape := ⟨2, ![1024, 1792]⟩
abbrev S8x1024x1792 : Shape := ⟨3, ![8, 1024, 1792]⟩
abbrev S7 : Shape := ⟨1, ![7]⟩
abbrev S_ : Shape := ⟨0, ![]⟩
abbrev S1x1024x1792 : Shape := ⟨3, ![1, 1024, 1792]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1024x1792, .bf16⟩
  | .hbm, ⟨1, _⟩ => ⟨S8x1024x1792, .bf16⟩
  | _, _ => ⟨S1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== ReferenceColIdeal.lean ====
abbrev S8192x1792 : Shape := ⟨2, ![8192, 1792]⟩
abbrev S8x1024x1792 : Shape := ⟨3, ![8, 1024, 1792]⟩

abbrev nBuf : Space → Nat
  | .hbm => 2
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8x1024x1792, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ReferenceCol.lean ====
abbrev S8192x1792 : Shape := ⟨2, ![8192, 1792]⟩
abbrev S8x1024x1792 : Shape := ⟨3, ![8, 1024, 1792]⟩

abbrev nBuf : Space → Nat
  | .hbm => 2
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8x1024x1792, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherRow.lean ====
abbrev S832x1024 : Shape := ⟨2, ![832, 1024]⟩
abbrev S8x832x1024 : Shape := ⟨3, ![8, 832, 1024]⟩
abbrev S7 : Shape := ⟨1, ![7]⟩
abbrev S_ : Shape := ⟨0, ![]⟩
abbrev S1x832x1024 : Shape := ⟨3, ![1, 832, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S832x1024, .bf16⟩
  | .hbm, ⟨1, _⟩ => ⟨S8x832x1024, .bf16⟩
  | _, _ => ⟨S832x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== ReferenceRow.lean ====
abbrev S6656x1024 : Shape := ⟨2, ![6656, 1024]⟩
abbrev S8x832x1024 : Shape := ⟨3, ![8, 832, 1024]⟩

abbrev nBuf : Space → Nat
  | .hbm => 2
  | .vmem => 0
  | .smem => 0
  | _ => 0

abbrev bufTy : (tb : Table) → Fin (tcTables nBuf tb) → BufTy
  | .hbm, ⟨0, _⟩ => ⟨S6656x1024, .bf16⟩
  | .hbm, ⟨1, _⟩ => ⟨S8x832x1024, .bf16⟩
  | _, _ => ⟨S6656x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Exchange.lean ====
abbrev S8x1024x1792 : Shape := ⟨3, ![8, 1024, 1792]⟩
abbrev S8x832x1024 : Shape := ⟨3, ![8, 832, 1024]⟩
abbrev S2x7 : Shape := ⟨2, ![2, 7]⟩
abbrev S2 : Shape := ⟨1, ![2]⟩
abbrev S1 : Shape := ⟨1, ![1]⟩
abbrev S_ : Shape := ⟨0, ![]⟩
abbrev S1x1024x1792 : Shape := ⟨3, ![1, 1024, 1792]⟩
abbrev S1024x1792 : Shape := ⟨2, ![1024, 1792]⟩
abbrev S1x832x1024 : Shape := ⟨3, ![1, 832, 1024]⟩
abbrev S832x1024 : Shape := ⟨2, ![832, 1024]⟩
abbrev S1x1 : Shape := ⟨2, ![1, 1]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x1792, .bf16⟩
  | .hbm, ⟨1, _⟩ => ⟨S8x832x1024, .bf16⟩
  | .hbm, ⟨2, _⟩ => ⟨S8x1024x1792, .bf16⟩
  | .hbm, ⟨3, _⟩ => ⟨S8x832x1024, .bf16⟩
  | _, _ => ⟨S8x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_16 v5
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v29 : BitVec 32 := Scalar.addi v28 v25
  let c0_i32_27 : BitVec 32 := 0#32
  let c0_i32_28 : BitVec 32 := 0#32
  ![v29.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v30 : BitVec 32 := Scalar.muli v2 c4_i32_21
  let v31 : BitVec 32 := Scalar.addi c0_i32_22 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v32 : BitVec 32 := Scalar.muli v5 c2_i32_23
  let v33 : BitVec 32 := Scalar.addi v31 v32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c1_i32_24 : BitVec 32 := 1#32
  let v34 : BitVec 32 := Scalar.muli v25 c1_i32_24
  let v35 : BitVec 32 := Scalar.addi v33 v34
  v35.toNat
def k0_off4 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_16 v5
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v29 : BitVec 32 := Scalar.addi v28 v25
  let c0_i32_39 : BitVec 32 := 0#32
  let c0_i32_40 : BitVec 32 := 0#32
  ![v29.toNat, 0, 0]
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v44 : BitVec 32 := Scalar.muli v2 c4_i32_33
  let v45 : BitVec 32 := Scalar.addi c0_i32_34 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v46 : BitVec 32 := Scalar.muli v5 c2_i32_35
  let v47 : BitVec 32 := Scalar.addi v45 v46
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c1_i32_36 : BitVec 32 := 1#32
  let v48 : BitVec 32 := Scalar.muli v25 c1_i32_36
  let v49 : BitVec 32 := Scalar.addi v47 v48
  v49.toNat
def k0_off5 (d0 : Dev nD) : Fin 3 → Nat :=
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_41 v5
  let v60 : BitVec 32 := Scalar.muli c2_i32_43 v58
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.addi v61 v8
  let c0_i32_54 : BitVec 32 := 0#32
  let c0_i32_55 : BitVec 32 := 0#32
  ![v62.toNat, 0, 0]
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v63 : BitVec 32 := Scalar.muli v2 c4_i32_48
  let v64 : BitVec 32 := Scalar.addi c0_i32_49 v63
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_41 v5
  let c2_i32_50 : BitVec 32 := 2#32
  let v65 : BitVec 32 := Scalar.muli v58 c2_i32_50
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v67 : BitVec 32 := Scalar.muli v8 c1_i32_51
  let v68 : BitVec 32 := Scalar.addi v66 v67
  v68.toNat
def k0_off6 (d0 : Dev nD) : Fin 3 → Nat :=
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_41 v5
  let v60 : BitVec 32 := Scalar.muli c2_i32_43 v58
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.addi v61 v8
  let c0_i32_66 : BitVec 32 := 0#32
  let c0_i32_67 : BitVec 32 := 0#32
  ![v62.toNat, 0, 0]
def k0_dev4 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v77 : BitVec 32 := Scalar.muli v2 c4_i32_60
  let v78 : BitVec 32 := Scalar.addi c0_i32_61 v77
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_41 v5
  let c2_i32_62 : BitVec 32 := 2#32
  let v79 : BitVec 32 := Scalar.muli v58 c2_i32_62
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v81 : BitVec 32 := Scalar.muli v8 c1_i32_63
  let v82 : BitVec 32 := Scalar.addi v80 v81
  v82.toNat
def k0_off7 (d0 : Dev nD) : Fin 3 → Nat :=
  let c4_i32_70 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v93 : BitVec 32 := Scalar.muli c4_i32_70 v2
  let c2_i32_71 : BitVec 32 := 2#32
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_68 v5
  let v94 : BitVec 32 := Scalar.muli c2_i32_71 v91
  let v95 : BitVec 32 := Scalar.addi v93 v94
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_69 v8
  let v96 : BitVec 32 := Scalar.addi v95 v92
  let c0_i32_82 : BitVec 32 := 0#32
  let c0_i32_83 : BitVec 32 := 0#32
  ![v96.toNat, 0, 0]
def k0_dev5 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v97 : BitVec 32 := Scalar.muli v2 c4_i32_76
  let v98 : BitVec 32 := Scalar.addi c0_i32_77 v97
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_68 v5
  let c2_i32_78 : BitVec 32 := 2#32
  let v99 : BitVec 32 := Scalar.muli v91 c2_i32_78
  let v100 : BitVec 32 := Scalar.addi v98 v99
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_69 v8
  let c1_i32_79 : BitVec 32 := 1#32
  let v101 : BitVec 32 := Scalar.muli v92 c1_i32_79
  let v102 : BitVec 32 := Scalar.addi v100 v101
  v102.toNat
def k0_off8 (d0 : Dev nD) : Fin 3 → Nat :=
  let c4_i32_70 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v93 : BitVec 32 := Scalar.muli c4_i32_70 v2
  let c2_i32_71 : BitVec 32 := 2#32
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_68 v5
  let v94 : BitVec 32 := Scalar.muli c2_i32_71 v91
  let v95 : BitVec 32 := Scalar.addi v93 v94
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_69 v8
  let v96 : BitVec 32 := Scalar.addi v95 v92
  let c0_i32_94 : BitVec 32 := 0#32
  let c0_i32_95 : BitVec 32 := 0#32
  ![v96.toNat, 0, 0]
def k0_dev6 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v111 : BitVec 32 := Scalar.muli v2 c4_i32_88
  let v112 : BitVec 32 := Scalar.addi c0_i32_89 v111
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_68 v5
  let c2_i32_90 : BitVec 32 := 2#32
  let v113 : BitVec 32 := Scalar.muli v91 c2_i32_90
  let v114 : BitVec 32 := Scalar.addi v112 v113
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_69 v8
  let c1_i32_91 : BitVec 32 := 1#32
  let v115 : BitVec 32 := Scalar.muli v92 c1_i32_91
  let v116 : BitVec 32 := Scalar.addi v114 v115
  v116.toNat
def k0_off9 (d0 : Dev nD) : Fin 3 → Nat :=
  let c4_i32_97 : BitVec 32 := 4#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_96 v2
  let v126 : BitVec 32 := Scalar.muli c4_i32_97 v125
  let c2_i32_98 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.muli c2_i32_98 v5
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.addi v128 v8
  let c0_i32_108 : BitVec 32 := 0#32
  let c0_i32_109 : BitVec 32 := 0#32
  ![v129.toNat, 0, 0]
def k0_dev7 (d0 : Dev nD) : Nat :=
  let c0_i32_103 : BitVec 32 := 0#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_96 v2
  let c4_i32_102 : BitVec 32 := 4#32
  let v130 : BitVec 32 := Scalar.muli v125 c4_i32_102
  let v131 : BitVec 32 := Scalar.addi c0_i32_103 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v132 : BitVec 32 := Scalar.muli v5 c2_i32_104
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v134 : BitVec 32 := Scalar.muli v8 c1_i32_105
  let v135 : BitVec 32 := Scalar.addi v133 v134
  v135.toNat
def k0_off10 (d0 : Dev nD) : Fin 3 → Nat :=
  let c4_i32_97 : BitVec 32 := 4#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_96 v2
  let v126 : BitVec 32 := Scalar.muli c4_i32_97 v125
  let c2_i32_98 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.muli c2_i32_98 v5
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.addi v128 v8
  let c0_i32_120 : BitVec 32 := 0#32
  let c0_i32_121 : BitVec 32 := 0#32
  ![v129.toNat, 0, 0]
def k0_dev8 (d0 : Dev nD) : Nat :=
  let c0_i32_115 : BitVec 32 := 0#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_96 v2
  let c4_i32_114 : BitVec 32 := 4#32
  let v144 : BitVec 32 := Scalar.muli v125 c4_i32_114
  let v145 : BitVec 32 := Scalar.addi c0_i32_115 v144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v146 : BitVec 32 := Scalar.muli v5 c2_i32_116
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v148 : BitVec 32 := Scalar.muli v8 c1_i32_117
  let v149 : BitVec 32 := Scalar.addi v147 v148
  v149.toNat
def k0_off11 (d0 : Dev nD) : Fin 3 → Nat :=
  let c4_i32_124 : BitVec 32 := 4#32
  let c1_i32_122 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_122 v2
  let v160 : BitVec 32 := Scalar.muli c4_i32_124 v158
  let c2_i32_125 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.muli c2_i32_125 v5
  let v162 : BitVec 32 := Scalar.addi v160 v161
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_123 v8
  let v163 : BitVec 32 := Scalar.addi v162 v159
  let c0_i32_136 : BitVec 32 := 0#32
  let c0_i32_137 : BitVec 32 := 0#32
  ![v163.toNat, 0, 0]
def k0_dev9 (d0 : Dev nD) : Nat :=
  let c0_i32_131 : BitVec 32 := 0#32
  let c1_i32_122 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_122 v2
  let c4_i32_130 : BitVec 32 := 4#32
  let v164 : BitVec 32 := Scalar.muli v158 c4_i32_130
  let v165 : BitVec 32 := Scalar.addi c0_i32_131 v164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v166 : BitVec 32 := Scalar.muli v5 c2_i32_132
  let v167 : BitVec 32 := Scalar.addi v165 v166
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_123 v8
  let c1_i32_133 : BitVec 32 := 1#32
  let v168 : BitVec 32 := Scalar.muli v159 c1_i32_133
  let v169 : BitVec 32 := Scalar.addi v167 v168
  v169.toNat
def k0_off12 (d0 : Dev nD) : Fin 3 → Nat :=
  let c4_i32_124 : BitVec 32 := 4#32
  let c1_i32_122 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_122 v2
  let v160 : BitVec 32 := Scalar.muli c4_i32_124 v158
  let c2_i32_125 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.muli c2_i32_125 v5
  let v162 : BitVec 32 := Scalar.addi v160 v161
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_123 v8
  let v163 : BitVec 32 := Scalar.addi v162 v159
  let c0_i32_148 : BitVec 32 := 0#32
  let c0_i32_149 : BitVec 32 := 0#32
  ![v163.toNat, 0, 0]
def k0_dev10 (d0 : Dev nD) : Nat :=
  let c0_i32_143 : BitVec 32 := 0#32
  let c1_i32_122 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_122 v2
  let c4_i32_142 : BitVec 32 := 4#32
  let v178 : BitVec 32 := Scalar.muli v158 c4_i32_142
  let v179 : BitVec 32 := Scalar.addi c0_i32_143 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v180 : BitVec 32 := Scalar.muli v5 c2_i32_144
  let v181 : BitVec 32 := Scalar.addi v179 v180
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_123 v8
  let c1_i32_145 : BitVec 32 := 1#32
  let v182 : BitVec 32 := Scalar.muli v159 c1_i32_145
  let v183 : BitVec 32 := Scalar.addi v181 v182
  v183.toNat
def k0_off13 (d0 : Dev nD) : Fin 3 → Nat :=
  let c4_i32_152 : BitVec 32 := 4#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.subi c1_i32_150 v2
  let v194 : BitVec 32 := Scalar.muli c4_i32_152 v192
  let c2_i32_153 : BitVec 32 := 2#32
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v193 : BitVec 32 := Scalar.subi c1_i32_151 v5
  let v195 : BitVec 32 := Scalar.muli c2_i32_153 v193
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.addi v196 v8
  let c0_i32_163 : BitVec 32 := 0#32
  let c0_i32_164 : BitVec 32 := 0#32
  ![v197.toNat, 0, 0]
def k0_dev11 (d0 : Dev nD) : Nat :=
  let c0_i32_158 : BitVec 32 := 0#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.subi c1_i32_150 v2
  let c4_i32_157 : BitVec 32 := 4#32
  let v198 : BitVec 32 := Scalar.muli v192 c4_i32_157
  let v199 : BitVec 32 := Scalar.addi c0_i32_158 v198
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v193 : BitVec 32 := Scalar.subi c1_i32_151 v5
  let c2_i32_159 : BitVec 32 := 2#32
  let v200 : BitVec 32 := Scalar.muli v193 c2_i32_159
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v202 : BitVec 32 := Scalar.muli v8 c1_i32_160
  let v203 : BitVec 32 := Scalar.addi v201 v202
  v203.toNat
def k0_off14 (d0 : Dev nD) : Fin 3 → Nat :=
  let c4_i32_152 : BitVec 32 := 4#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.subi c1_i32_150 v2
  let v194 : BitVec 32 := Scalar.muli c4_i32_152 v192
  let c2_i32_153 : BitVec 32 := 2#32
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v193 : BitVec 32 := Scalar.subi c1_i32_151 v5
  let v195 : BitVec 32 := Scalar.muli c2_i32_153 v193
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.addi v196 v8
  let c0_i32_175 : BitVec 32 := 0#32
  let c0_i32_176 : BitVec 32 := 0#32
  ![v197.toNat, 0, 0]
def k0_dev12 (d0 : Dev nD) : Nat :=
  let c0_i32_170 : BitVec 32 := 0#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.subi c1_i32_150 v2
  let c4_i32_169 : BitVec 32 := 4#32
  let v212 : BitVec 32 := Scalar.muli v192 c4_i32_169
  let v213 : BitVec 32 := Scalar.addi c0_i32_170 v212
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v193 : BitVec 32 := Scalar.subi c1_i32_151 v5
  let c2_i32_171 : BitVec 32 := 2#32
  let v214 : BitVec 32 := Scalar.muli v193 c2_i32_171
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v216 : BitVec 32 := Scalar.muli v8 c1_i32_172
  let v217 : BitVec 32 := Scalar.addi v215 v216
  v217.toNat
def k0_off15 (d0 : Dev nD) : Fin 3 → Nat :=
  let c4_i32_180 : BitVec 32 := 4#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v226 : BitVec 32 := Scalar.subi c1_i32_177 v2
  let v229 : BitVec 32 := Scalar.muli c4_i32_180 v226
  let c2_i32_181 : BitVec 32 := 2#32
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_178 v5
  let v230 : BitVec 32 := Scalar.muli c2_i32_181 v227
  let v231 : BitVec 32 := Scalar.addi v229 v230
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_179 v8
  let v232 : BitVec 32 := Scalar.addi v231 v228
  let c0_i32_191 : BitVec 32 := 0#32
  let c0_i32_192 : BitVec 32 := 0#32
  ![v232.toNat, 0, 0]
def k0_dev13 (d0 : Dev nD) : Nat :=
  let c0_i32_186 : BitVec 32 := 0#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v226 : BitVec 32 := Scalar.subi c1_i32_177 v2
  let c4_i32_185 : BitVec 32 := 4#32
  let v233 : BitVec 32 := Scalar.muli v226 c4_i32_185
  let v234 : BitVec 32 := Scalar.addi c0_i32_186 v233
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_178 v5
  let c2_i32_187 : BitVec 32 := 2#32
  let v235 : BitVec 32 := Scalar.muli v227 c2_i32_187
  let v236 : BitVec 32 := Scalar.addi v234 v235
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_179 v8
  let c1_i32_188 : BitVec 32 := 1#32
  let v237 : BitVec 32 := Scalar.muli v228 c1_i32_188
  let v238 : BitVec 32 := Scalar.addi v236 v237
  v238.toNat
def k0_off16 (d0 : Dev nD) : Fin 3 → Nat :=
  let c4_i32_180 : BitVec 32 := 4#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v226 : BitVec 32 := Scalar.subi c1_i32_177 v2
  let v229 : BitVec 32 := Scalar.muli c4_i32_180 v226
  let c2_i32_181 : BitVec 32 := 2#32
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_178 v5
  let v230 : BitVec 32 := Scalar.muli c2_i32_181 v227
  let v231 : BitVec 32 := Scalar.addi v229 v230
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_179 v8
  let v232 : BitVec 32 := Scalar.addi v231 v228
  let c0_i32_203 : BitVec 32 := 0#32
  let c0_i32_204 : BitVec 32 := 0#32
  ![v232.toNat, 0, 0]
def k0_dev14 (d0 : Dev nD) : Nat :=
  let c0_i32_198 : BitVec 32 := 0#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v226 : BitVec 32 := Scalar.subi c1_i32_177 v2
  let c4_i32_197 : BitVec 32 := 4#32
  let v247 : BitVec 32 := Scalar.muli v226 c4_i32_197
  let v248 : BitVec 32 := Scalar.addi c0_i32_198 v247
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_178 v5
  let c2_i32_199 : BitVec 32 := 2#32
  let v249 : BitVec 32 := Scalar.muli v227 c2_i32_199
  let v250 : BitVec 32 := Scalar.addi v248 v249
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_179 v8
  let c1_i32_200 : BitVec 32 := 1#32
  let v251 : BitVec 32 := Scalar.muli v228 c1_i32_200
  let v252 : BitVec 32 := Scalar.addi v250 v251
  v252.toNat
-- ==== ReferenceExchange.lean ====
abbrev S64x1024x1792 : Shape := ⟨3, ![64, 1024, 1792]⟩
abbrev S64x832x1024 : Shape := ⟨3, ![64, 832, 1024]⟩
abbrev S8x8x1024x1792 : Shape := ⟨4, ![8, 8, 1024, 1792]⟩
abbrev S8x8x832x1024 : Shape := ⟨4, ![8, 8, 832, 1024]⟩

abbrev nBuf : Space → Nat
  | .hbm => 8
  | .vmem => 0
  | .smem => 0
  | _ => 0

abbrev bufTy : (tb : Table) → Fin (tcTables nBuf tb) → BufTy
  | .hbm, ⟨0, _⟩ => ⟨S64x1024x1792, .bf16⟩
  | .hbm, ⟨1, _⟩ => ⟨S64x832x1024, .bf16⟩
  | .hbm, ⟨2, _⟩ => ⟨S8x8x1024x1792, .bf16⟩
  | .hbm, ⟨3, _⟩ => ⟨S8x8x1024x1792, .bf16⟩
  | .hbm, ⟨4, _⟩ => ⟨S64x1024x1792, .bf16⟩
  | .hbm, ⟨5, _⟩ => ⟨S8x8x832x1024, .bf16⟩
  | .hbm, ⟨6, _⟩ => ⟨S8x8x832x1024, .bf16⟩
  | .hbm, ⟨7, _⟩ => ⟨S64x832x1024, .bf16⟩
  | _, _ => ⟨S64x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Reduce.lean ====
abbrev S8x1024x1792 : Shape := ⟨3, ![8, 1024, 1792]⟩
abbrev S8x832x1024 : Shape := ⟨3, ![8, 832, 1024]⟩
abbrev S2x7 : Shape := ⟨2, ![2, 7]⟩
abbrev S2 : Shape := ⟨1, ![2]⟩
abbrev S1 : Shape := ⟨1, ![1]⟩
abbrev S_ : Shape := ⟨0, ![]⟩
abbrev S1x1024x1792 : Shape := ⟨3, ![1, 1024, 1792]⟩
abbrev S1024x1792 : Shape := ⟨2, ![1024, 1792]⟩
abbrev S1x832x1024 : Shape := ⟨3, ![1, 832, 1024]⟩
abbrev S832x1024 : Shape := ⟨2, ![832, 1024]⟩
abbrev S1x1 : Shape := ⟨2, ![1, 1]⟩
abbrev S8x256x1792 : Shape := ⟨3, ![8, 256, 1792]⟩
abbrev S256x1792 : Shape := ⟨2, ![256, 1792]⟩
abbrev S1x256x1792 : Shape := ⟨3, ![1, 256, 1792]⟩
abbrev S8x208x1024 : Shape := ⟨3, ![8, 208, 1024]⟩
abbrev S208x1024 : Shape := ⟨2, ![208, 1024]⟩
abbrev S1x208x1024 : Shape := ⟨3, ![1, 208, 1024]⟩
abbrev S1024x352 : Shape := ⟨2, ![1024, 352]⟩
abbrev S1024x384 : Shape := ⟨2, ![1024, 384]⟩
abbrev S352x1024 : Shape := ⟨2, ![352, 1024]⟩
abbrev S128x1024 : Shape := ⟨2, ![128, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8x1024x1792, .bf16⟩
  | .hbm, ⟨1, _⟩ => ⟨S8x832x1024, .bf16⟩
  | .hbm, ⟨2, _⟩ => ⟨S8x1024x1792, .bf16⟩
  | .hbm, ⟨3, _⟩ => ⟨S8x832x1024, .bf16⟩
  | .hbm, ⟨4, _⟩ => ⟨S1024x1792, .f32⟩
  | .hbm, ⟨5, _⟩ => ⟨S832x1024, .f32⟩
  | .hbm, ⟨6, _⟩ => ⟨S1024x352, .f32⟩
  | .hbm, ⟨7, _⟩ => ⟨S1024x352, .f32⟩
  | .hbm, ⟨8, _⟩ => ⟨S1024x352, .f32⟩
  | .hbm, ⟨9, _⟩ => ⟨S1024x352, .f32⟩
  | .hbm, ⟨10, _⟩ => ⟨S1024x384, .f32⟩
  | .hbm, ⟨11, _⟩ => ⟨S352x1024, .f32⟩
  | .hbm, ⟨12, _⟩ => ⟨S352x1024, .f32⟩
  | .hbm, ⟨13, _⟩ => ⟨S128x1024, .f32⟩
  | .local _ .vmem, ⟨0, _⟩ => ⟨S8x256x1792, .bf16⟩
  | .local _ .vmem, ⟨1, _⟩ => ⟨S8x256x1792, .bf16⟩
  | .local _ .vmem, ⟨2, _⟩ => ⟨S256x1792, .f32⟩
  | .local _ .vmem, ⟨3, _⟩ => ⟨S256x1792, .f32⟩
  | .local _ .vmem, ⟨4, _⟩ => ⟨S8x208x1024, .bf16⟩
  | .local _ .vmem, ⟨5, _⟩ => ⟨S8x208x1024, .bf16⟩
  | .local _ .vmem, ⟨6, _⟩ => ⟨S208x1024, .f32⟩
  | .local _ .vmem, ⟨7, _⟩ => ⟨S208x1024, .f32⟩
  | _, _ => ⟨S8x1024x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc1_sem0_0 : DmaSem sig := 30
abbrev cc1_sem0_1 : DmaSem sig := 31
abbrev cc1_sem1_0 : DmaSem sig := 32
abbrev cc1_sem1_1 : DmaSem sig := 33
abbrev cc2_sem0_0 : DmaSem sig := 34
abbrev cc2_sem0_1 : DmaSem sig := 35
abbrev cc2_sem1_0 : DmaSem sig := 36
abbrev cc2_sem1_1 : DmaSem sig := 37

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_16 v5
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v29 : BitVec 32 := Scalar.addi v28 v25
  let c0_i32_27 : BitVec 32 := 0#32
  let c0_i32_28 : BitVec 32 := 0#32
  ![v29.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v30 : BitVec 32 := Scalar.muli v2 c4_i32_21
  let v31 : BitVec 32 := Scalar.addi c0_i32_22 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v32 : BitVec 32 := Scalar.muli v5 c2_i32_23
  let v33 : BitVec 32 := Scalar.addi v31 v32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c1_i32_24 : BitVec 32 := 1#32
  let v34 : BitVec 32 := Scalar.muli v25 c1_i32_24
  let v35 : BitVec 32 := Scalar.addi v33 v34
  v35.toNat
def k0_off4 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_16 v5
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v29 : BitVec 32 := Scalar.addi v28 v25
  let c0_i32_39 : BitVec 32 := 0#32
  let c0_i32_40 : BitVec 32 := 0#32
  ![v29.toNat, 0, 0]
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v44 : BitVec 32 := Scalar.muli v2 c4_i32_33
  let v45 : BitVec 32 := Scalar.addi c0_i32_34 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v46 : BitVec 32 := Scalar.muli v5 c2_i32_35
  let v47 : BitVec 32 := Scalar.addi v45 v46
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c1_i32_36 : BitVec 32 := 1#32
  let v48 : BitVec 32 := Scalar.muli v25 c1_i32_36
  let v49 : BitVec 32 := Scalar.addi v47 v48
  v49.toNat
def k0_off5 (d0 : Dev nD) : Fin 3 → Nat :=
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_41 v5
  let v60 : BitVec 32 := Scalar.muli c2_i32_43 v58
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.addi v61 v8
  let c0_i32_54 : BitVec 32 := 0#32
  let c0_i32_55 : BitVec 32 := 0#32
  ![v62.toNat, 0, 0]
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v63 : BitVec 32 := Scalar.muli v2 c4_i32_48
  let v64 : BitVec 32 := Scalar.addi c0_i32_49 v63
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_41 v5
  let c2_i32_50 : BitVec 32 := 2#32
  let v65 : BitVec 32 := Scalar.muli v58 c2_i32_50
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v67 : BitVec 32 := Scalar.muli v8 c1_i32_51
  let v68 : BitVec 32 := Scalar.addi v66 v67
  v68.toNat
def k0_off6 (d0 : Dev nD) : Fin 3 → Nat :=
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_41 v5
  let v60 : BitVec 32 := Scalar.muli c2_i32_43 v58
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.addi v61 v8
  let c0_i32_66 : BitVec 32 := 0#32
  let c0_i32_67 : BitVec 32 := 0#32
  ![v62.toNat, 0, 0]
def k0_dev4 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v77 : BitVec 32 := Scalar.muli v2 c4_i32_60
  let v78 : BitVec 32 := Scalar.addi c0_i32_61 v77
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_41 v5
  let c2_i32_62 : BitVec 32 := 2#32
  let v79 : BitVec 32 := Scalar.muli v58 c2_i32_62
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v81 : BitVec 32 := Scalar.muli v8 c1_i32_63
  let v82 : BitVec 32 := Scalar.addi v80 v81
  v82.toNat
def k0_off7 (d0 : Dev nD) : Fin 3 → Nat :=
  let c4_i32_70 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v93 : BitVec 32 := Scalar.muli c4_i32_70 v2
  let c2_i32_71 : BitVec 32 := 2#32
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_68 v5
  let v94 : BitVec 32 := Scalar.muli c2_i32_71 v91
  let v95 : BitVec 32 := Scalar.addi v93 v94
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_69 v8
  let v96 : BitVec 32 := Scalar.addi v95 v92
  let c0_i32_82 : BitVec 32 := 0#32
  let c0_i32_83 : BitVec 32 := 0#32
  ![v96.toNat, 0, 0]
def k0_dev5 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v97 : BitVec 32 := Scalar.muli v2 c4_i32_76
  let v98 : BitVec 32 := Scalar.addi c0_i32_77 v97
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_68 v5
  let c2_i32_78 : BitVec 32 := 2#32
  let v99 : BitVec 32 := Scalar.muli v91 c2_i32_78
  let v100 : BitVec 32 := Scalar.addi v98 v99
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_69 v8
  let c1_i32_79 : BitVec 32 := 1#32
  let v101 : BitVec 32 := Scalar.muli v92 c1_i32_79
  let v102 : BitVec 32 := Scalar.addi v100 v101
  v102.toNat
def k0_off8 (d0 : Dev nD) : Fin 3 → Nat :=
  let c4_i32_70 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v93 : BitVec 32 := Scalar.muli c4_i32_70 v2
  let c2_i32_71 : BitVec 32 := 2#32
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_68 v5
  let v94 : BitVec 32 := Scalar.muli c2_i32_71 v91
  let v95 : BitVec 32 := Scalar.addi v93 v94
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_69 v8
  let v96 : BitVec 32 := Scalar.addi v95 v92
  let c0_i32_94 : BitVec 32 := 0#32
  let c0_i32_95 : BitVec 32 := 0#32
  ![v96.toNat, 0, 0]
def k0_dev6 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v111 : BitVec 32 := Scalar.muli v2 c4_i32_88
  let v112 : BitVec 32 := Scalar.addi c0_i32_89 v111
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_68 v5
  let c2_i32_90 : BitVec 32 := 2#32
  let v113 : BitVec 32 := Scalar.muli v91 c2_i32_90
  let v114 : BitVec 32 := Scalar.addi v112 v113
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_69 v8
  let c1_i32_91 : BitVec 32 := 1#32
  let v115 : BitVec 32 := Scalar.muli v92 c1_i32_91
  let v116 : BitVec 32 := Scalar.addi v114 v115
  v116.toNat
def k0_off9 (d0 : Dev nD) : Fin 3 → Nat :=
  let c4_i32_97 : BitVec 32 := 4#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_96 v2
  let v126 : BitVec 32 := Scalar.muli c4_i32_97 v125
  let c2_i32_98 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.muli c2_i32_98 v5
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.addi v128 v8
  let c0_i32_108 : BitVec 32 := 0#32
  let c0_i32_109 : BitVec 32 := 0#32
  ![v129.toNat, 0, 0]
def k0_dev7 (d0 : Dev nD) : Nat :=
  let c0_i32_103 : BitVec 32 := 0#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_96 v2
  let c4_i32_102 : BitVec 32 := 4#32
  let v130 : BitVec 32 := Scalar.muli v125 c4_i32_102
  let v131 : BitVec 32 := Scalar.addi c0_i32_103 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v132 : BitVec 32 := Scalar.muli v5 c2_i32_104
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v134 : BitVec 32 := Scalar.muli v8 c1_i32_105
  let v135 : BitVec 32 := Scalar.addi v133 v134
  v135.toNat
def k0_off10 (d0 : Dev nD) : Fin 3 → Nat :=
  let c4_i32_97 : BitVec 32 := 4#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_96 v2
  let v126 : BitVec 32 := Scalar.muli c4_i32_97 v125
  let c2_i32_98 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.muli c2_i32_98 v5
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.addi v128 v8
  let c0_i32_120 : BitVec 32 := 0#32
  let c0_i32_121 : BitVec 32 := 0#32
  ![v129.toNat, 0, 0]
def k0_dev8 (d0 : Dev nD) : Nat :=
  let c0_i32_115 : BitVec 32 := 0#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_96 v2
  let c4_i32_114 : BitVec 32 := 4#32
  let v144 : BitVec 32 := Scalar.muli v125 c4_i32_114
  let v145 : BitVec 32 := Scalar.addi c0_i32_115 v144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v146 : BitVec 32 := Scalar.muli v5 c2_i32_116
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v148 : BitVec 32 := Scalar.muli v8 c1_i32_117
  let v149 : BitVec 32 := Scalar.addi v147 v148
  v149.toNat
def k0_off11 (d0 : Dev nD) : Fin 3 → Nat :=
  let c4_i32_124 : BitVec 32 := 4#32
  let c1_i32_122 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_122 v2
  let v160 : BitVec 32 := Scalar.muli c4_i32_124 v158
  let c2_i32_125 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.muli c2_i32_125 v5
  let v162 : BitVec 32 := Scalar.addi v160 v161
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_123 v8
  let v163 : BitVec 32 := Scalar.addi v162 v159
  let c0_i32_136 : BitVec 32 := 0#32
  let c0_i32_137 : BitVec 32 := 0#32
  ![v163.toNat, 0, 0]
def k0_dev9 (d0 : Dev nD) : Nat :=
  let c0_i32_131 : BitVec 32 := 0#32
  let c1_i32_122 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_122 v2
  let c4_i32_130 : BitVec 32 := 4#32
  let v164 : BitVec 32 := Scalar.muli v158 c4_i32_130
  let v165 : BitVec 32 := Scalar.addi c0_i32_131 v164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v166 : BitVec 32 := Scalar.muli v5 c2_i32_132
  let v167 : BitVec 32 := Scalar.addi v165 v166
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_123 v8
  let c1_i32_133 : BitVec 32 := 1#32
  let v168 : BitVec 32 := Scalar.muli v159 c1_i32_133
  let v169 : BitVec 32 := Scalar.addi v167 v168
  v169.toNat
def k0_off12 (d0 : Dev nD) : Fin 3 → Nat :=
  let c4_i32_124 : BitVec 32 := 4#32
  let c1_i32_122 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_122 v2
  let v160 : BitVec 32 := Scalar.muli c4_i32_124 v158
  let c2_i32_125 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.muli c2_i32_125 v5
  let v162 : BitVec 32 := Scalar.addi v160 v161
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_123 v8
  let v163 : BitVec 32 := Scalar.addi v162 v159
  let c0_i32_148 : BitVec 32 := 0#32
  let c0_i32_149 : BitVec 32 := 0#32
  ![v163.toNat, 0, 0]
def k0_dev10 (d0 : Dev nD) : Nat :=
  let c0_i32_143 : BitVec 32 := 0#32
  let c1_i32_122 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_122 v2
  let c4_i32_142 : BitVec 32 := 4#32
  let v178 : BitVec 32 := Scalar.muli v158 c4_i32_142
  let v179 : BitVec 32 := Scalar.addi c0_i32_143 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v180 : BitVec 32 := Scalar.muli v5 c2_i32_144
  let v181 : BitVec 32 := Scalar.addi v179 v180
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_123 v8
  let c1_i32_145 : BitVec 32 := 1#32
  let v182 : BitVec 32 := Scalar.muli v159 c1_i32_145
  let v183 : BitVec 32 := Scalar.addi v181 v182
  v183.toNat
def k0_off13 (d0 : Dev nD) : Fin 3 → Nat :=
  let c4_i32_152 : BitVec 32 := 4#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.subi c1_i32_150 v2
  let v194 : BitVec 32 := Scalar.muli c4_i32_152 v192
  let c2_i32_153 : BitVec 32 := 2#32
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v193 : BitVec 32 := Scalar.subi c1_i32_151 v5
  let v195 : BitVec 32 := Scalar.muli c2_i32_153 v193
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.addi v196 v8
  let c0_i32_163 : BitVec 32 := 0#32
  let c0_i32_164 : BitVec 32 := 0#32
  ![v197.toNat, 0, 0]
def k0_dev11 (d0 : Dev nD) : Nat :=
  let c0_i32_158 : BitVec 32 := 0#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.subi c1_i32_150 v2
  let c4_i32_157 : BitVec 32 := 4#32
  let v198 : BitVec 32 := Scalar.muli v192 c4_i32_157
  let v199 : BitVec 32 := Scalar.addi c0_i32_158 v198
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v193 : BitVec 32 := Scalar.subi c1_i32_151 v5
  let c2_i32_159 : BitVec 32 := 2#32
  let v200 : BitVec 32 := Scalar.muli v193 c2_i32_159
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v202 : BitVec 32 := Scalar.muli v8 c1_i32_160
  let v203 : BitVec 32 := Scalar.addi v201 v202
  v203.toNat
def k0_off14 (d0 : Dev nD) : Fin 3 → Nat :=
  let c4_i32_152 : BitVec 32 := 4#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.subi c1_i32_150 v2
  let v194 : BitVec 32 := Scalar.muli c4_i32_152 v192
  let c2_i32_153 : BitVec 32 := 2#32
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v193 : BitVec 32 := Scalar.subi c1_i32_151 v5
  let v195 : BitVec 32 := Scalar.muli c2_i32_153 v193
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.addi v196 v8
  let c0_i32_175 : BitVec 32 := 0#32
  let c0_i32_176 : BitVec 32 := 0#32
  ![v197.toNat, 0, 0]
def k0_dev12 (d0 : Dev nD) : Nat :=
  let c0_i32_170 : BitVec 32 := 0#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.subi c1_i32_150 v2
  let c4_i32_169 : BitVec 32 := 4#32
  let v212 : BitVec 32 := Scalar.muli v192 c4_i32_169
  let v213 : BitVec 32 := Scalar.addi c0_i32_170 v212
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v193 : BitVec 32 := Scalar.subi c1_i32_151 v5
  let c2_i32_171 : BitVec 32 := 2#32
  let v214 : BitVec 32 := Scalar.muli v193 c2_i32_171
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v216 : BitVec 32 := Scalar.muli v8 c1_i32_172
  let v217 : BitVec 32 := Scalar.addi v215 v216
  v217.toNat
def k0_off15 (d0 : Dev nD) : Fin 3 → Nat :=
  let c4_i32_180 : BitVec 32 := 4#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v226 : BitVec 32 := Scalar.subi c1_i32_177 v2
  let v229 : BitVec 32 := Scalar.muli c4_i32_180 v226
  let c2_i32_181 : BitVec 32 := 2#32
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_178 v5
  let v230 : BitVec 32 := Scalar.muli c2_i32_181 v227
  let v231 : BitVec 32 := Scalar.addi v229 v230
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_179 v8
  let v232 : BitVec 32 := Scalar.addi v231 v228
  let c0_i32_191 : BitVec 32 := 0#32
  let c0_i32_192 : BitVec 32 := 0#32
  ![v232.toNat, 0, 0]
def k0_dev13 (d0 : Dev nD) : Nat :=
  let c0_i32_186 : BitVec 32 := 0#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v226 : BitVec 32 := Scalar.subi c1_i32_177 v2
  let c4_i32_185 : BitVec 32 := 4#32
  let v233 : BitVec 32 := Scalar.muli v226 c4_i32_185
  let v234 : BitVec 32 := Scalar.addi c0_i32_186 v233
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_178 v5
  let c2_i32_187 : BitVec 32 := 2#32
  let v235 : BitVec 32 := Scalar.muli v227 c2_i32_187
  let v236 : BitVec 32 := Scalar.addi v234 v235
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_179 v8
  let c1_i32_188 : BitVec 32 := 1#32
  let v237 : BitVec 32 := Scalar.muli v228 c1_i32_188
  let v238 : BitVec 32 := Scalar.addi v236 v237
  v238.toNat
def k0_off16 (d0 : Dev nD) : Fin 3 → Nat :=
  let c4_i32_180 : BitVec 32 := 4#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v226 : BitVec 32 := Scalar.subi c1_i32_177 v2
  let v229 : BitVec 32 := Scalar.muli c4_i32_180 v226
  let c2_i32_181 : BitVec 32 := 2#32
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_178 v5
  let v230 : BitVec 32 := Scalar.muli c2_i32_181 v227
  let v231 : BitVec 32 := Scalar.addi v229 v230
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_179 v8
  let v232 : BitVec 32 := Scalar.addi v231 v228
  let c0_i32_203 : BitVec 32 := 0#32
  let c0_i32_204 : BitVec 32 := 0#32
  ![v232.toNat, 0, 0]
def k0_dev14 (d0 : Dev nD) : Nat :=
  let c0_i32_198 : BitVec 32 := 0#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v226 : BitVec 32 := Scalar.subi c1_i32_177 v2
  let c4_i32_197 : BitVec 32 := 4#32
  let v247 : BitVec 32 := Scalar.muli v226 c4_i32_197
  let v248 : BitVec 32 := Scalar.addi c0_i32_198 v247
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_178 v5
  let c2_i32_199 : BitVec 32 := 2#32
  let v249 : BitVec 32 := Scalar.muli v227 c2_i32_199
  let v250 : BitVec 32 := Scalar.addi v248 v249
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_179 v8
  let c1_i32_200 : BitVec 32 := 1#32
  let v251 : BitVec 32 := Scalar.muli v228 c1_i32_200
  let v252 : BitVec 32 := Scalar.addi v250 v251
  v252.toNat
abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x256x1792 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1792 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x208x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S208x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceReduce.lean ====
abbrev S64x1024x1792 : Shape := ⟨3, ![64, 1024, 1792]⟩
abbrev S64x832x1024 : Shape := ⟨3, ![64, 832, 1024]⟩
abbrev S8x8x1024x1792 : Shape := ⟨4, ![8, 8, 1024, 1792]⟩
abbrev S_ : Shape := ⟨0, ![]⟩
abbrev S8x1024x1792 : Shape := ⟨3, ![8, 1024, 1792]⟩
abbrev S8x8x832x1024 : Shape := ⟨4, ![8, 8, 832, 1024]⟩
abbrev S8x832x1024 : Shape := ⟨3, ![8, 832, 1024]⟩
abbrev S8x1024x352 : Shape := ⟨3, ![8, 1024, 352]⟩
abbrev S1024x8x352 : Shape := ⟨3, ![1024, 8, 352]⟩
abbrev S1024x2816 : Shape := ⟨2, ![1024, 2816]⟩
abbrev S8x1024x384 : Shape := ⟨3, ![8, 1024, 384]⟩
abbrev S1024x8x384 : Shape := ⟨3, ![1024, 8, 384]⟩
abbrev S1024x3072 : Shape := ⟨2, ![1024, 3072]⟩
abbrev S8x352x1024 : Shape := ⟨3, ![8, 352, 1024]⟩
abbrev S2816x1024 : Shape := ⟨2, ![2816, 1024]⟩
abbrev S8x128x1024 : Shape := ⟨3, ![8, 128, 1024]⟩
abbrev S1024x1024 : Shape := ⟨2, ![1024, 1024]⟩

abbrev nBuf : Space → Nat
  | .hbm => 31
  | .vmem => 0
  | .smem => 0
  | _ => 0

abbrev bufTy : (tb : Table) → Fin (tcTables nBuf tb) → BufTy
  | .hbm, ⟨0, _⟩ => ⟨S64x1024x1792, .bf16⟩
  | .hbm, ⟨1, _⟩ => ⟨S64x832x1024, .bf16⟩
  | .hbm, ⟨2, _⟩ => ⟨S8x8x1024x1792, .bf16⟩
  | .hbm, ⟨3, _⟩ => ⟨S8x8x1024x1792, .f32⟩
  | .hbm, ⟨4, _⟩ => ⟨S_, .f32⟩
  | .hbm, ⟨5, _⟩ => ⟨S8x1024x1792, .f32⟩
  | .hbm, ⟨6, _⟩ => ⟨S8x8x832x1024, .bf16⟩
  | .hbm, ⟨7, _⟩ => ⟨S8x8x832x1024, .f32⟩
  | .hbm, ⟨8, _⟩ => ⟨S_, .f32⟩
  | .hbm, ⟨9, _⟩ => ⟨S8x832x1024, .f32⟩
  | .hbm, ⟨10, _⟩ => ⟨S8x1024x352, .f32⟩
  | .hbm, ⟨11, _⟩ => ⟨S1024x8x352, .f32⟩
  | .hbm, ⟨12, _⟩ => ⟨S1024x2816, .f32⟩
  | .hbm, ⟨13, _⟩ => ⟨S8x1024x352, .f32⟩
  | .hbm, ⟨14, _⟩ => ⟨S1024x8x352, .f32⟩
  | .hbm, ⟨15, _⟩ => ⟨S1024x2816, .f32⟩
  | .hbm, ⟨16, _⟩ => ⟨S8x1024x352, .f32⟩
  | .hbm, ⟨17, _⟩ => ⟨S1024x8x352, .f32⟩
  | .hbm, ⟨18, _⟩ => ⟨S1024x2816, .f32⟩
  | .hbm, ⟨19, _⟩ => ⟨S8x1024x352, .f32⟩
  | .hbm, ⟨20, _⟩ => ⟨S1024x8x352, .f32⟩
  | .hbm, ⟨21, _⟩ => ⟨S1024x2816, .f32⟩
  | .hbm, ⟨22, _⟩ => ⟨S8x1024x384, .f32⟩
  | .hbm, ⟨23, _⟩ => ⟨S1024x8x384, .f32⟩
  | .hbm, ⟨24, _⟩ => ⟨S1024x3072, .f32⟩
  | .hbm, ⟨25, _⟩ => ⟨S8x352x1024, .f32⟩
  | .hbm, ⟨26, _⟩ => ⟨S2816x1024, .f32⟩
  | .hbm, ⟨27, _⟩ => ⟨S8x352x1024, .f32⟩
  | .hbm, ⟨28, _⟩ => ⟨S2816x1024, .f32⟩
  | .hbm, ⟨29, _⟩ => ⟨S8x128x1024, .f32⟩
  | .hbm, ⟨30, _⟩ => ⟨S1024x1024, .f32⟩
  | _, _ => ⟨S64x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== AdamGate.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamGate.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ReferenceAdamGateIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x384 : Shape := ⟨2, ![1024, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x384 : Shape := ⟨2, ![1024, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamIn.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ReferenceAdamInIdeal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S352x1024 : Shape := ⟨2, ![352, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S352x1024 : Shape := ⟨2, ![352, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamDown.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ReferenceAdamDownIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamOut.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ReferenceAdamOutIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGain.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamGain.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ReferenceAdamGainIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHalfGain.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamHalfGain.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNorm.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormBwd.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== MmGate.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmGate.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | .hbm, ⟨5, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ReferenceMmGateIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | .hbm, ⟨5, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmUp.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceMmUp.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x2816, .bf16⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== MmDown.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMmDown.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MmBwdAct.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceMmBwdAct.lean ====
abbrev S8192x1024 : Shape := ⟨2, ![8192, 1024]⟩
abbrev S2816x1024 : Shape := ⟨2, ![2816, 1024]⟩
abbrev S8192x2816 : Shape := ⟨2, ![8192, 2816]⟩
abbrev S1024x2816 : Shape := ⟨2, ![1024, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .f32⟩
  | .hbm, ⟨32, _⟩ => ⟨S8192x2816, .f32⟩
  | .hbm, ⟨33, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== MmDhGate.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmDhGate.lean ====
abbrev S8192x2816 : Shape := ⟨2, ![8192, 2816]⟩
abbrev S1024x2816 : Shape := ⟨2, ![1024, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .f32⟩
  | .hbm, ⟨3, _⟩ => ⟨S1024x2816, .f32⟩
  | .hbm, ⟨4, _⟩ => ⟨S2816x1024, .f32⟩
  | .hbm, ⟨5, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ReferenceMmDhGateIdeal.lean ====
abbrev S8192x2816 : Shape := ⟨2, ![8192, 2816]⟩
abbrev S1024x2816 : Shape := ⟨2, ![1024, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .f32⟩
  | .hbm, ⟨3, _⟩ => ⟨S1024x2816, .f32⟩
  | .hbm, ⟨4, _⟩ => ⟨S2816x1024, .f32⟩
  | .hbm, ⟨5, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDhUp.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMmDhUp.lean ====
abbrev S8192x2816 : Shape := ⟨2, ![8192, 2816]⟩
abbrev S1024x2816 : Shape := ⟨2, ![1024, 2816]⟩
abbrev S8192x1024 : Shape := ⟨2, ![8192, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmSb.lean ====
abbrev S8192x1024 : Shape := ⟨2, ![8192, 1024]⟩
abbrev S1024x1536 : Shape := ⟨2, ![1024, 1536]⟩
abbrev S8192x1536 : Shape := ⟨2, ![8192, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmSb.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDl.lean ====
abbrev S8192x1024 : Shape := ⟨2, ![8192, 1024]⟩
abbrev S1024x1536 : Shape := ⟨2, ![1024, 1536]⟩
abbrev S8192x1536 : Shape := ⟨2, ![8192, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .f32⟩
  | .local _ .vmem, ⟨4, _⟩ => ⟨S512x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmDl.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMmOut.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmMerged.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmMerged.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ReferenceMmMergedIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmDhMix.lean ====
abbrev S8192x3072 : Shape := ⟨2, ![8192, 3072]⟩
abbrev S1024x3072 : Shape := ⟨2, ![1024, 3072]⟩
abbrev S8192x1024 : Shape := ⟨2, ![8192, 1024]⟩
abbrev S512x3072 : Shape := ⟨2, ![512, 3072]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmDhMix.lean ====
abbrev S8192x3072 : Shape := ⟨2, ![8192, 3072]⟩
abbrev S1024x3072 : Shape := ⟨2, ![1024, 3072]⟩
abbrev S3072x1024 : Shape := ⟨2, ![3072, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x3072, .f32⟩
  | .hbm, ⟨3, _⟩ => ⟨S1024x3072, .f32⟩
  | .hbm, ⟨4, _⟩ => ⟨S3072x1024, .f32⟩
  | .hbm, ⟨5, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDwg.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmDwg.lean ====
abbrev S8192x1024 : Shape := ⟨2, ![8192, 1024]⟩
abbrev S8192x2816 : Shape := ⟨2, ![8192, 2816]⟩
abbrev S1024x8192 : Shape := ⟨2, ![1024, 8192]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S1024x8192, .f32⟩
  | .hbm, ⟨4, _⟩ => ⟨S8192x2816, .f32⟩
  | .hbm, ⟨5, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ReferenceMmDwgIdeal.lean ====
abbrev S8192x1024 : Shape := ⟨2, ![8192, 1024]⟩
abbrev S8192x2816 : Shape := ⟨2, ![8192, 2816]⟩
abbrev S1024x8192 : Shape := ⟨2, ![1024, 8192]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S1024x8192, .f32⟩
  | .hbm, ⟨4, _⟩ => ⟨S8192x2816, .f32⟩
  | .hbm, ⟨5, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDwd.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmDwd.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S2816x8192, .f32⟩
  | .hbm, ⟨4, _⟩ => ⟨S2816x1024, .f32⟩
  | .hbm, ⟨5, _⟩ => ⟨S_, .f32⟩
  | .hbm, ⟨6, _⟩ => ⟨S2816x1024, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmDwOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceMmDwOut.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ReferenceMmDwOutIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmDwIn.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmDwIn.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S1024x8192, .f32⟩
  | .hbm, ⟨4, _⟩ => ⟨S8192x3072, .f32⟩
  | .hbm, ⟨5, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_18 : BitVec 32 := 0#32
  let v48 : BitVec 1 := Scalar.cmpi .ne v47 c0_i32_18
  v48

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v49 : BitVec 1 := Scalar.xori v0 v_true
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossHead.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== OutNorm.lean ====
abbrev S8192x512 : Shape := ⟨2, ![8192, 512]⟩
abbrev S1x512 : Shape := ⟨2, ![1, 512]⟩
abbrev S8192x1024 : Shape := ⟨2, ![8192, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOutNorm.lean ====
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .bf16⟩
  | .hbm, ⟨20, _⟩ => ⟨S8192x512, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .bf16⟩
  | .hbm, ⟨36, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== OutNormBwd.lean ====
abbrev S8192x1024 : Shape := ⟨2, ![8192, 1024]⟩
abbrev S8192x512 : Shape := ⟨2, ![8192, 512]⟩
abbrev S1x512 : Shape := ⟨2, ![1, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S1x512, .f32⟩
  | .hbm, ⟨8, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v30 : BitVec 32 := Scalar.extui v0
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v32 : BitVec 1 := Scalar.xori v0 v_true
  let v33 : BitVec 32 := Scalar.extui v32
  let c0_i32_13 : BitVec 32 := 0#32
  let v34 : BitVec 1 := Scalar.cmpi .ne v33 c0_i32_13
  v34

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v64 : BitVec 32 := Scalar.extui v0
  let c0_i32_27 : BitVec 32 := 0#32
  let v65 : BitVec 1 := Scalar.cmpi .ne v64 c0_i32_27
  v65

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_28 : BitVec 1 := 1#1
  let v66 : BitVec 1 := Scalar.xori v0 true_28
  let v67 : BitVec 32 := Scalar.extui v66
  let c0_i32_29 : BitVec 32 := 0#32
  let v68 : BitVec 1 := Scalar.cmpi .ne v67 c0_i32_29
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceOutNormBwd.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S_, .f32⟩
  | .hbm, ⟨67, _⟩ => ⟨S512, .f32⟩
  | .hbm, ⟨68, _⟩ => ⟨S1x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== SbFwd.lean ====
abbrev S8192x1536 : Shape := ⟨2, ![8192, 1536]⟩
abbrev S8192x512 : Shape := ⟨2, ![8192, 512]⟩
abbrev S256x128 : Shape := ⟨2, ![256, 128]⟩
abbrev S8192x128 : Shape := ⟨2, ![8192, 128]⟩
abbrev S512x256 : Shape := ⟨2, ![512, 256]⟩
abbrev S256x256 : Shape := ⟨2, ![256, 256]⟩
abbrev S512x128 : Shape := ⟨2, ![512, 128]⟩
abbrev S512x1 : Shape := ⟨2, ![512, 1]⟩
abbrev S512 : Shape := ⟨1, ![512]⟩
abbrev S256x1 : Shape := ⟨2, ![256, 1]⟩

abbrev nBuf : Space → Nat
  | .hbm => 3
  | .vmem => 10
  | .smem => 0
  | _ => 0

abbrev bufTy : (tb : Table) → Fin (tcTables nBuf tb) → BufTy
  | .hbm, ⟨0, _⟩ => ⟨S8192x1536, .bf16⟩
  | .hbm, ⟨1, _⟩ => ⟨S8192x512, .f32⟩
  | .hbm, ⟨2, _⟩ => ⟨S8192x512, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32_8 : BitVec 32 := 256#32
  let v39 : BitVec 32 := Scalar.muli arg1 c256_i32_8
  v39
def k0_off1 (i : grid0.Coords) : Fin 2 → Nat :=
  let arg1 : BitVec 32 := BitVec.ofNat 32 (i 1).val
  let c256_i32_8 : BitVec 32 := 256#32
  let v39 : BitVec 32 := Scalar.muli arg1 c256_i32_8
  let v40 : BitVec 32 := v39
  let v41 : Index := Scalar.indexCast v40
  let c0_9 : Index := 0#32
  ![v41.toNat, 0]
@[reducible] def k0_t1_loop (i : grid0.Coords) : Scf.Loop 32 :=
  let c0_i32_26 : BitVec 32 := 0#32
  let arg1 : BitVec 32 := BitVec.ofNat 32 (i 1).val
  let c0_i32_21 : BitVec 32 := 0#32
  let v87 : BitVec 1 := Scalar.cmpi .sgt arg1 c0_i32_21
  let v88 : BitVec 32 := Scalar.extui v87
  let c0_i32_22 : BitVec 32 := 0#32
  let v89 : BitVec 1 := Scalar.cmpi .slt arg1 c0_i32_22
  let v90 : BitVec 32 := Scalar.extui v89
  let v91 : BitVec 32 := Scalar.subi v88 v90
  let c2_i32 : BitVec 32 := 2#32
  let c0_i32_23 : BitVec 32 := 0#32
  let v92 : BitVec 1 := Scalar.cmpi .sgt c2_i32 c0_i32_23
  let v93 : BitVec 32 := Scalar.extui v92
  let c0_i32_24 : BitVec 32 := 0#32
  let v94 : BitVec 1 := Scalar.cmpi .slt c2_i32 c0_i32_24
  let v95 : BitVec 32 := Scalar.extui v94
  let v96 : BitVec 32 := Scalar.subi v93 v95
  let v97 : BitVec 1 := Scalar.cmpi .ne v91 v96
  let v98 : BitVec 32 := Scalar.remsi arg1 c2_i32
  let c0_i32_25 : BitVec 32 := 0#32
  let v99 : BitVec 1 := Scalar.cmpi .ne v98 c0_i32_25
  let v100 : BitVec 1 := Scalar.andi v97 v99
  let v86 : BitVec 32 := Scalar.divsi arg1 c2_i32
  let c1_i32 : BitVec 32 := 1#32
  let v101 : BitVec 32 := Scalar.subi v86 c1_i32
  let v102 : BitVec 32 := Scalar.select v100 v101 v86
  let v103 : BitVec 32 := Scalar.subi v102 c0_i32_26
  let c1_i32_27 : BitVec 32 := 1#32
  let v105 : BitVec 32 := Scalar.divsi v103 c1_i32_27
  let v106 : BitVec 32 := Scalar.muli v105 c1_i32_27
  let v107 : BitVec 32 := Scalar.addi c0_i32_26 v106
  let c1_i32_28 : BitVec 32 := 1#32
  ⟨c0_i32_26, v107, c1_i32_28⟩
def k0_mult2 (i : grid0.Coords) (k0_t1 : Fin (k0_t1_loop i).trips) : BitVec 32 :=
  let arg1 : BitVec 32 := BitVec.ofNat 32 (i 1).val
  let c1_i32_44 : BitVec 32 := 1#32
  let v135 : BitVec 32 := Scalar.subi arg1 c1_i32_44
  let c2_i32_45 : BitVec 32 := 2#32
  let c0_i32_26 : BitVec 32 := 0#32
  let c1_i32_28 : BitVec 32 := 1#32
  let arg7 : BitVec 32 := Scf.iv c0_i32_26 c1_i32_28 k0_t1
  let v136 : BitVec 32 := Scalar.muli c2_i32_45 arg7
  let v137 : BitVec 32 := Scalar.subi v135 v136
  let c256_i32_46 : BitVec 32 := 256#32
  let v138 : BitVec 32 := Scalar.muli v137 c256_i32_46
  v138
def k0_off2 (i : grid0.Coords) (k0_t1 : Fin (k0_t1_loop i).trips) : Fin 2 → Nat :=
  let arg1 : BitVec 32 := BitVec.ofNat 32 (i 1).val
  let c1_i32_44 : BitVec 32 := 1#32
  let v135 : BitVec 32 := Scalar.subi arg1 c1_i32_44
  let c2_i32_45 : BitVec 32 := 2#32
  let c0_i32_26 : BitVec 32 := 0#32
  let c1_i32_28 : BitVec 32 := 1#32
  let arg7 : BitVec 32 := Scf.iv c0_i32_26 c1_i32_28 k0_t1
  let v136 : BitVec 32 := Scalar.muli c2_i32_45 arg7
  let v137 : BitVec 32 := Scalar.subi v135 v136
  let c256_i32_46 : BitVec 32 := 256#32
  let v138 : BitVec 32 := Scalar.muli v137 c256_i32_46
  let v139 : BitVec 32 := v138
  let v140 : Index := Scalar.indexCast v139
  let c0_47 : Index := 0#32
  ![v140.toNat, 0]
def k0_mult3 (i : grid0.Coords) (k0_t1 : Fin (k0_t1_loop i).trips) : BitVec 32 :=
  let arg1 : BitVec 32 := BitVec.ofNat 32 (i 1).val
  let c1_i32_44 : BitVec 32 := 1#32
  let v135 : BitVec 32 := Scalar.subi arg1 c1_i32_44
  let c2_i32_45 : BitVec 32 := 2#32
  let c0_i32_26 : BitVec 32 := 0#32
  let c1_i32_28 : BitVec 32 := 1#32
  let arg7 : BitVec 32 := Scf.iv c0_i32_26 c1_i32_28 k0_t1
  let v136 : BitVec 32 := Scalar.muli c2_i32_45 arg7
  let v137 : BitVec 32 := Scalar.subi v135 v136
  let c1_i32_55 : BitVec 32 := 1#32
  let v160 : BitVec 32 := Scalar.subi v137 c1_i32_55
  let c256_i32_56 : BitVec 32 := 256#32
  let v161 : BitVec 32 := Scalar.muli v160 c256_i32_56
  v161
def k0_off3 (i : grid0.Coords) (k0_t1 : Fin (k0_t1_loop i).trips) : Fin 2 → Nat :=
  let arg1 : BitVec 32 := BitVec.ofNat 32 (i 1).val
  let c1_i32_44 : BitVec 32 := 1#32
  let v135 : BitVec 32 := Scalar.subi arg1 c1_i32_44
  let c2_i32_45 : BitVec 32 := 2#32
  let c0_i32_26 : BitVec 32 := 0#32
  let c1_i32_28 : BitVec 32 := 1#32
  let arg7 : BitVec 32 := Scf.iv c0_i32_26 c1_i32_28 k0_t1
  let v136 : BitVec 32 := Scalar.muli c2_i32_45 arg7
  let v137 : BitVec 32 := Scalar.subi v135 v136
  let c1_i32_55 : BitVec 32 := 1#32
  let v160 : BitVec 32 := Scalar.subi v137 c1_i32_55
  let c256_i32_56 : BitVec 32 := 256#32
  let v161 : BitVec 32 := Scalar.muli v160 c256_i32_56
  let v162 : BitVec 32 := v161
  let v163 : Index := Scalar.indexCast v162
  let c0_57 : Index := 0#32
  ![v163.toNat, 0]
@[reducible] def k0_t2_loop (i : grid0.Coords) : Scf.Loop 32 :=
  let c0_i32_26 : BitVec 32 := 0#32
  let arg1 : BitVec 32 := BitVec.ofNat 32 (i 1).val
  let c0_i32_21 : BitVec 32 := 0#32
  let v87 : BitVec 1 := Scalar.cmpi .sgt arg1 c0_i32_21
  let v88 : BitVec 32 := Scalar.extui v87
  let c0_i32_22 : BitVec 32 := 0#32
  let v89 : BitVec 1 := Scalar.cmpi .slt arg1 c0_i32_22
  let v90 : BitVec 32 := Scalar.extui v89
  let v91 : BitVec 32 := Scalar.subi v88 v90
  let c2_i32 : BitVec 32 := 2#32
  let c0_i32_23 : BitVec 32 := 0#32
  let v92 : BitVec 1 := Scalar.cmpi .sgt c2_i32 c0_i32_23
  let v93 : BitVec 32 := Scalar.extui v92
  let c0_i32_24 : BitVec 32 := 0#32
  let v94 : BitVec 1 := Scalar.cmpi .slt c2_i32 c0_i32_24
  let v95 : BitVec 32 := Scalar.extui v94
  let v96 : BitVec 32 := Scalar.subi v93 v95
  let v97 : BitVec 1 := Scalar.cmpi .ne v91 v96
  let v98 : BitVec 32 := Scalar.remsi arg1 c2_i32
  let c0_i32_25 : BitVec 32 := 0#32
  let v99 : BitVec 1 := Scalar.cmpi .ne v98 c0_i32_25
  let v100 : BitVec 1 := Scalar.andi v97 v99
  let v86 : BitVec 32 := Scalar.divsi arg1 c2_i32
  let c1_i32 : BitVec 32 := 1#32
  let v101 : BitVec 32 := Scalar.subi v86 c1_i32
  let v102 : BitVec 32 := Scalar.select v100 v101 v86
  let v103 : BitVec 32 := Scalar.subi v102 c0_i32_26
  let c1_i32_27 : BitVec 32 := 1#32
  let v105 : BitVec 32 := Scalar.divsi v103 c1_i32_27
  let v106 : BitVec 32 := Scalar.muli v105 c1_i32_27
  let v107 : BitVec 32 := Scalar.addi c0_i32_26 v106
  let v104 : BitVec 32 := Scalar.addi c0_i32_26 v103
  let c1_i32_29 : BitVec 32 := 1#32
  ⟨v107, v104, c1_i32_29⟩
def k0_mult4 (i : grid0.Coords) (k0_t2 : Fin (k0_t2_loop i).trips) : BitVec 32 :=
  let arg1 : BitVec 32 := BitVec.ofNat 32 (i 1).val
  let c1_i32_44 : BitVec 32 := 1#32
  let v135 : BitVec 32 := Scalar.subi arg1 c1_i32_44
  let c2_i32_45 : BitVec 32 := 2#32
  let c0_i32_26 : BitVec 32 := 0#32
  let c0_i32_21 : BitVec 32 := 0#32
  let v87 : BitVec 1 := Scalar.cmpi .sgt arg1 c0_i32_21
  let v88 : BitVec 32 := Scalar.extui v87
  let c0_i32_22 : BitVec 32 := 0#32
  let v89 : BitVec 1 := Scalar.cmpi .slt arg1 c0_i32_22
  let v90 : BitVec 32 := Scalar.extui v89
  let v91 : BitVec 32 := Scalar.subi v88 v90
  let c2_i32 : BitVec 32 := 2#32
  let c0_i32_23 : BitVec 32 := 0#32
  let v92 : BitVec 1 := Scalar.cmpi .sgt c2_i32 c0_i32_23
  let v93 : BitVec 32 := Scalar.extui v92
  let c0_i32_24 : BitVec 32 := 0#32
  let v94 : BitVec 1 := Scalar.cmpi .slt c2_i32 c0_i32_24
  let v95 : BitVec 32 := Scalar.extui v94
  let v96 : BitVec 32 := Scalar.subi v93 v95
  let v97 : BitVec 1 := Scalar.cmpi .ne v91 v96
  let v98 : BitVec 32 := Scalar.remsi arg1 c2_i32
  let c0_i32_25 : BitVec 32 := 0#32
  let v99 : BitVec 1 := Scalar.cmpi .ne v98 c0_i32_25
  let v100 : BitVec 1 := Scalar.andi v97 v99
  let v86 : BitVec 32 := Scalar.divsi arg1 c2_i32
  let c1_i32 : BitVec 32 := 1#32
  let v101 : BitVec 32 := Scalar.subi v86 c1_i32
  let v102 : BitVec 32 := Scalar.select v100 v101 v86
  let v103 : BitVec 32 := Scalar.subi v102 c0_i32_26
  let c1_i32_27 : BitVec 32 := 1#32
  let v105 : BitVec 32 := Scalar.divsi v103 c1_i32_27
  let v106 : BitVec 32 := Scalar.muli v105 c1_i32_27
  let v107 : BitVec 32 := Scalar.addi c0_i32_26 v106
  let c1_i32_29 : BitVec 32 := 1#32
  let arg7 : BitVec 32 := Scf.iv v107 c1_i32_29 k0_t2
  let v136 : BitVec 32 := Scalar.muli c2_i32_45 arg7
  let v137 : BitVec 32 := Scalar.subi v135 v136
  let c256_i32_46 : BitVec 32 := 256#32
  let v138 : BitVec 32 := Scalar.muli v137 c256_i32_46
  v138
def k0_off4 (i : grid0.Coords) (k0_t2 : Fin (k0_t2_loop i).trips) : Fin 2 → Nat :=
  let arg1 : BitVec 32 := BitVec.ofNat 32 (i 1).val
  let c1_i32_44 : BitVec 32 := 1#32
  let v135 : BitVec 32 := Scalar.subi arg1 c1_i32_44
  let c2_i32_45 : BitVec 32 := 2#32
  let c0_i32_26 : BitVec 32 := 0#32
  let c0_i32_21 : BitVec 32 := 0#32
  let v87 : BitVec 1 := Scalar.cmpi .sgt arg1 c0_i32_21
  let v88 : BitVec 32 := Scalar.extui v87
  let c0_i32_22 : BitVec 32 := 0#32
  let v89 : BitVec 1 := Scalar.cmpi .slt arg1 c0_i32_22
  let v90 : BitVec 32 := Scalar.extui v89
  let v91 : BitVec 32 := Scalar.subi v88 v90
  let c2_i32 : BitVec 32 := 2#32
  let c0_i32_23 : BitVec 32 := 0#32
  let v92 : BitVec 1 := Scalar.cmpi .sgt c2_i32 c0_i32_23
  let v93 : BitVec 32 := Scalar.extui v92
  let c0_i32_24 : BitVec 32 := 0#32
  let v94 : BitVec 1 := Scalar.cmpi .slt c2_i32 c0_i32_24
  let v95 : BitVec 32 := Scalar.extui v94
  let v96 : BitVec 32 := Scalar.subi v93 v95
  let v97 : BitVec 1 := Scalar.cmpi .ne v91 v96
  let v98 : BitVec 32 := Scalar.remsi arg1 c2_i32
  let c0_i32_25 : BitVec 32 := 0#32
  let v99 : BitVec 1 := Scalar.cmpi .ne v98 c0_i32_25
  let v100 : BitVec 1 := Scalar.andi v97 v99
  let v86 : BitVec 32 := Scalar.divsi arg1 c2_i32
  let c1_i32 : BitVec 32 := 1#32
  let v101 : BitVec 32 := Scalar.subi v86 c1_i32
  let v102 : BitVec 32 := Scalar.select v100 v101 v86
  let v103 : BitVec 32 := Scalar.subi v102 c0_i32_26
  let c1_i32_27 : BitVec 32 := 1#32
  let v105 : BitVec 32 := Scalar.divsi v103 c1_i32_27
  let v106 : BitVec 32 := Scalar.muli v105 c1_i32_27
  let v107 : BitVec 32 := Scalar.addi c0_i32_26 v106
  let c1_i32_29 : BitVec 32 := 1#32
  let arg7 : BitVec 32 := Scf.iv v107 c1_i32_29 k0_t2
  let v136 : BitVec 32 := Scalar.muli c2_i32_45 arg7
  let v137 : BitVec 32 := Scalar.subi v135 v136
  let c256_i32_46 : BitVec 32 := 256#32
  let v138 : BitVec 32 := Scalar.muli v137 c256_i32_46
  let v139 : BitVec 32 := v138
  let v140 : Index := Scalar.indexCast v139
  let c0_47 : Index := 0#32
  ![v140.toNat, 0]
def k0_mult5 (i : grid0.Coords) (k0_t2 : Fin (k0_t2_loop i).trips) : BitVec 32 :=
  let arg1 : BitVec 32 := BitVec.ofNat 32 (i 1).val
  let c1_i32_44 : BitVec 32 := 1#32
  let v135 : BitVec 32 := Scalar.subi arg1 c1_i32_44
  let c2_i32_45 : BitVec 32 := 2#32
  let c0_i32_26 : BitVec 32 := 0#32
  let c0_i32_21 : BitVec 32 := 0#32
  let v87 : BitVec 1 := Scalar.cmpi .sgt arg1 c0_i32_21
  let v88 : BitVec 32 := Scalar.extui v87
  let c0_i32_22 : BitVec 32 := 0#32
  let v89 : BitVec 1 := Scalar.cmpi .slt arg1 c0_i32_22
  let v90 : BitVec 32 := Scalar.extui v89
  let v91 : BitVec 32 := Scalar.subi v88 v90
  let c2_i32 : BitVec 32 := 2#32
  let c0_i32_23 : BitVec 32 := 0#32
  let v92 : BitVec 1 := Scalar.cmpi .sgt c2_i32 c0_i32_23
  let v93 : BitVec 32 := Scalar.extui v92
  let c0_i32_24 : BitVec 32 := 0#32
  let v94 : BitVec 1 := Scalar.cmpi .slt c2_i32 c0_i32_24
  let v95 : BitVec 32 := Scalar.extui v94
  let v96 : BitVec 32 := Scalar.subi v93 v95
  let v97 : BitVec 1 := Scalar.cmpi .ne v91 v96
  let v98 : BitVec 32 := Scalar.remsi arg1 c2_i32
  let c0_i32_25 : BitVec 32 := 0#32
  let v99 : BitVec 1 := Scalar.cmpi .ne v98 c0_i32_25
  let v100 : BitVec 1 := Scalar.andi v97 v99
  let v86 : BitVec 32 := Scalar.divsi arg1 c2_i32
  let c1_i32 : BitVec 32 := 1#32
  let v101 : BitVec 32 := Scalar.subi v86 c1_i32
  let v102 : BitVec 32 := Scalar.select v100 v101 v86
  let v103 : BitVec 32 := Scalar.subi v102 c0_i32_26
  let c1_i32_27 : BitVec 32 := 1#32
  let v105 : BitVec 32 := Scalar.divsi v103 c1_i32_27
  let v106 : BitVec 32 := Scalar.muli v105 c1_i32_27
  let v107 : BitVec 32 := Scalar.addi c0_i32_26 v106
  let c1_i32_29 : BitVec 32 := 1#32
  let arg7 : BitVec 32 := Scf.iv v107 c1_i32_29 k0_t2
  let v136 : BitVec 32 := Scalar.muli c2_i32_45 arg7
  let v137 : BitVec 32 := Scalar.subi v135 v136
  let c1_i32_55 : BitVec 32 := 1#32
  let v160 : BitVec 32 := Scalar.subi v137 c1_i32_55
  let c256_i32_56 : BitVec 32 := 256#32
  let v161 : BitVec 32 := Scalar.muli v160 c256_i32_56
  v161
def k0_off5 (i : grid0.Coords) (k0_t2 : Fin (k0_t2_loop i).trips) : Fin 2 → Nat :=
  let arg1 : BitVec 32 := BitVec.ofNat 32 (i 1).val
  let c1_i32_44 : BitVec 32 := 1#32
  let v135 : BitVec 32 := Scalar.subi arg1 c1_i32_44
  let c2_i32_45 : BitVec 32 := 2#32
  let c0_i32_26 : BitVec 32 := 0#32
  let c0_i32_21 : BitVec 32 := 0#32
  let v87 : BitVec 1 := Scalar.cmpi .sgt arg1 c0_i32_21
  let v88 : BitVec 32 := Scalar.extui v87
  let c0_i32_22 : BitVec 32 := 0#32
  let v89 : BitVec 1 := Scalar.cmpi .slt arg1 c0_i32_22
  let v90 : BitVec 32 := Scalar.extui v89
  let v91 : BitVec 32 := Scalar.subi v88 v90
  let c2_i32 : BitVec 32 := 2#32
  let c0_i32_23 : BitVec 32 := 0#32
  let v92 : BitVec 1 := Scalar.cmpi .sgt c2_i32 c0_i32_23
  let v93 : BitVec 32 := Scalar.extui v92
  let c0_i32_24 : BitVec 32 := 0#32
  let v94 : BitVec 1 := Scalar.cmpi .slt c2_i32 c0_i32_24
  let v95 : BitVec 32 := Scalar.extui v94
  let v96 : BitVec 32 := Scalar.subi v93 v95
  let v97 : BitVec 1 := Scalar.cmpi .ne v91 v96
  let v98 : BitVec 32 := Scalar.remsi arg1 c2_i32
  let c0_i32_25 : BitVec 32 := 0#32
  let v99 : BitVec 1 := Scalar.cmpi .ne v98 c0_i32_25
  let v100 : BitVec 1 := Scalar.andi v97 v99
  let v86 : BitVec 32 := Scalar.divsi arg1 c2_i32
  let c1_i32 : BitVec 32 := 1#32
  let v101 : BitVec 32 := Scalar.subi v86 c1_i32
  let v102 : BitVec 32 := Scalar.select v100 v101 v86
  let v103 : BitVec 32 := Scalar.subi v102 c0_i32_26
  let c1_i32_27 : BitVec 32 := 1#32
  let v105 : BitVec 32 := Scalar.divsi v103 c1_i32_27
  let v106 : BitVec 32 := Scalar.muli v105 c1_i32_27
  let v107 : BitVec 32 := Scalar.addi c0_i32_26 v106
  let c1_i32_29 : BitVec 32 := 1#32
  let arg7 : BitVec 32 := Scf.iv v107 c1_i32_29 k0_t2
  let v136 : BitVec 32 := Scalar.muli c2_i32_45 arg7
  let v137 : BitVec 32 := Scalar.subi v135 v136
  let c1_i32_55 : BitVec 32 := 1#32
  let v160 : BitVec 32 := Scalar.subi v137 c1_i32_55
  let c256_i32_56 : BitVec 32 := 256#32
  let v161 : BitVec 32 := Scalar.muli v160 c256_i32_56
  let v162 : BitVec 32 := v161
  let v163 : Index := Scalar.indexCast v162
  let c0_57 : Index := 0#32
  ![v163.toNat, 0]
def k0_cond1 (i : grid0.Coords) : BitVec 1 :=
  let arg1 : BitVec 32 := BitVec.ofNat 32 (i 1).val
  let c2_i32_30 : BitVec 32 := 2#32
  let c0_i32_31 : BitVec 32 := 0#32
  let v110 : BitVec 1 := Scalar.cmpi .eq c2_i32_30 c0_i32_31
  let c1_i32_32 : BitVec 32 := 1#32
  let v111 : BitVec 32 := Scalar.select v110 c1_i32_32 c2_i32_30
  let v112 : BitVec 32 := Scalar.remsi arg1 v111
  let c0_i32_34 : BitVec 32 := 0#32
  let v114 : BitVec 1 := Scalar.cmpi .slt v112 c0_i32_34
  let c0_i32_35 : BitVec 32 := 0#32
  let v115 : BitVec 1 := Scalar.cmpi .slt v111 c0_i32_35
  let v116 : BitVec 1 := Scalar.xori v114 v115
  let c0_i32_33 : BitVec 32 := 0#32
  let v113 : BitVec 1 := Scalar.cmpi .ne v112 c0_i32_33
  let v117 : BitVec 1 := Scalar.andi v116 v113
  let v118 : BitVec 32 := Scalar.addi v112 v111
  let v119 : BitVec 32 := Scalar.select v117 v118 v112
  let c1_i32_36 : BitVec 32 := 1#32
  let v120 : BitVec 1 := Scalar.cmpi .eq v119 c1_i32_36
  let v121 : BitVec 32 := Scalar.extui v120
  let c0_i32_37 : BitVec 32 := 0#32
  let v122 : BitVec 1 := Scalar.cmpi .ne v121 c0_i32_37
  v122

def k0_mult6 : BitVec 32 :=
  let c0_i32_44 : BitVec 32 := 0#32
  c0_i32_44
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSbFwd.lean ====
abbrev S8192x1536 : Shape := ⟨2, ![8192, 1536]⟩
abbrev S8192x512 : Shape := ⟨2, ![8192, 512]⟩
abbrev S8192x8x64 : Shape := ⟨3, ![8192, 8, 64]⟩
abbrev S8x8192x64 : Shape := ⟨3, ![8, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S_ : Shape := ⟨0, ![]⟩
abbrev S1x8192x8192 : Shape := ⟨3, ![1, 8192, 8192]⟩
abbrev S1x1x8192x8192 : Shape := ⟨4, ![1, 1, 8192, 8192]⟩
abbrev S8x8192x1x8192 : Shape := ⟨4, ![8, 8192, 1, 8192]⟩
abbrev S8x8192x8192x8192 : Shape := ⟨4, ![8, 8192, 8192, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x8x64, .f32⟩
  | .hbm, ⟨6, _⟩ => ⟨S8x8192x64, .f32⟩
  | .hbm, ⟨7, _⟩ => ⟨S8192x8x64, .f32⟩
  | .hbm, ⟨8, _⟩ => ⟨S8x8192x64, .f32⟩
  | .hbm, ⟨9, _⟩ => ⟨S8192x8x64, .f32⟩
  | .hbm, ⟨10, _⟩ => ⟨S8x8192x64, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8x8192x8192, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S1x8192x8192, .i1⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S8x8192x8192, .i1⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S_, .f32⟩
  | .hbm, ⟨57, _⟩ => ⟨S8x8192x8192, .i1⟩
  | .hbm, ⟨58, _⟩ => ⟨S8x8192x8192, .f32⟩
  | .hbm, ⟨59, _⟩ => ⟨S8x8192x8192, .f32⟩
  | .hbm, ⟨60, _⟩ => ⟨S8192x8192, .i1⟩
  | .hbm, ⟨61, _⟩ => ⟨S1x1x8192x8192, .i1⟩
  | .hbm, ⟨62, _⟩ => ⟨S8x8192x1x8192, .f32⟩
  | .hbm, ⟨63, _⟩ => ⟨S_, .f32⟩
  | .hbm, ⟨64, _⟩ => ⟨S_, .f32⟩
  | .hbm, ⟨65, _⟩ => ⟨S8x8192x8192x8192, .i1⟩
  | .hbm, ⟨66, _⟩ => ⟨S8x8192x8192x8192, .f32⟩
  | .hbm, ⟨67, _⟩ => ⟨S8x8192x8192x8192, .f32⟩
  | .hbm, ⟨68, _⟩ => ⟨S8x8192x8192x8192, .f32⟩
  | .hbm, ⟨69, _⟩ => ⟨S_, .f32⟩
  | .hbm, ⟨70, _⟩ => ⟨S8x8192x8192, .f32⟩
  | .hbm, ⟨71, _⟩ => ⟨S1x8192x8192, .i1⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S_, .f32⟩
  | .hbm, ⟨76, _⟩ => ⟨S8x8192x8192, .i1⟩
  | .hbm, ⟨77, _⟩ => ⟨S8x8192x8192, .f32⟩
  | .hbm, ⟨78, _⟩ => ⟨S8x8192x8192, .f32⟩
  | .hbm, ⟨79, _⟩ => ⟨S8x8192x64, .f32⟩
  | .hbm, ⟨80, _⟩ => ⟨S8192x8x64, .f32⟩
  | .hbm, ⟨81, _⟩ => ⟨S8192x512, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v22 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_1 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_v27 : Ref sig .tc := ⟨.hbm, 68, rfl⟩
abbrev main_cst_2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_3 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩

abbrev nD : Nat := 1
abbrev τ : Topo := Topo.v7x

variable {F : FTy → Type} [FloatOps F]
-- ==== RopeQ.lean ====
abbrev S8192x1536 : Shape := ⟨2, ![8192, 1536]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x512 : Shape := ⟨2, ![8192, 512]⟩
abbrev S512x128 : Shape := ⟨2, ![512, 128]⟩

abbrev nBuf : Space → Nat
  | .hbm => 27
  | .vmem => 8
  | .smem => 0
  | _ => 0

abbrev bufTy : (tb : Table) → Fin (tcTables nBuf tb) → BufTy
  | .hbm, ⟨0, _⟩ => ⟨S8192x1536, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8192, .f32⟩
  | .hbm, ⟨10, _⟩ => ⟨S8192x1, .f32⟩
  | .hbm, ⟨11, _⟩ => ⟨S1x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x64, .f32⟩
  | .hbm, ⟨18, _⟩ => ⟨S1x8192x1x64, .f32⟩
  | .hbm, ⟨19, _⟩ => ⟨S1x8192x2x64, .f32⟩
  | .hbm, ⟨20, _⟩ => ⟨S8192x128, .f32⟩
  | .hbm, ⟨21, _⟩ => ⟨S8192x32, .f32⟩
  | .hbm, ⟨22, _⟩ => ⟨S8192x64, .f32⟩
  | .hbm, ⟨23, _⟩ => ⟨S1x8192x1x64, .f32⟩
  | .hbm, ⟨24, _⟩ => ⟨S1x8192x2x64, .f32⟩
  | .hbm, ⟨25, _⟩ => ⟨S8192x128, .f32⟩
  | .hbm, ⟨26, _⟩ => ⟨S8192x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceRopeQ.lean ====
abbrev S8192x1536 : Shape := ⟨2, ![8192, 1536]⟩
abbrev S8192x512 : Shape := ⟨2, ![8192, 512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x64 : Shape := ⟨3, ![8192, 8, 64]⟩
abbrev S8192x8x32 : Shape := ⟨3, ![8192, 8, 32]⟩

abbrev nBuf : Space → Nat
  | .hbm => 38
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S8192, .f32⟩
  | .hbm, ⟨11, _⟩ => ⟨S8192x1, .f32⟩
  | .hbm, ⟨12, _⟩ => ⟨S1x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x1x32, .f32⟩
  | .hbm, ⟨18, _⟩ => ⟨S8192x32, .f32⟩
  | .hbm, ⟨19, _⟩ => ⟨S8192x1x32, .f32⟩
  | .hbm, ⟨20, _⟩ => ⟨S_, .f32⟩
  | .hbm, ⟨21, _⟩ => ⟨S8192x1x32, .f32⟩
  | .hbm, ⟨22, _⟩ => ⟨S8192x1x32, .f32⟩
  | .hbm, ⟨23, _⟩ => ⟨S8192x8x64, .f32⟩
  | .hbm, ⟨24, _⟩ => ⟨S8192x8x32, .f32⟩
  | .hbm, ⟨25, _⟩ => ⟨S8192x8x32, .f32⟩
  | .hbm, ⟨26, _⟩ => ⟨S8192x8x32, .f32⟩
  | .hbm, ⟨27, _⟩ => ⟨S8192x8x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x64, .f32⟩
  | .hbm, ⟨37, _⟩ => ⟨S8192x512, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== RopeK.lean ====
abbrev S8192x1536 : Shape := ⟨2, ![8192, 1536]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x512 : Shape := ⟨2, ![8192, 512]⟩
abbrev S512x128 : Shape := ⟨2, ![512, 128]⟩

abbrev nBuf : Space → Nat
  | .hbm => 27
  | .vmem => 8
  | .smem => 0
  | _ => 0

abbrev bufTy : (tb : Table) → Fin (tcTables nBuf tb) → BufTy
  | .hbm, ⟨0, _⟩ => ⟨S8192x1536, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8192, .f32⟩
  | .hbm, ⟨10, _⟩ => ⟨S8192x1, .f32⟩
  | .hbm, ⟨11, _⟩ => ⟨S1x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x64, .f32⟩
  | .hbm, ⟨18, _⟩ => ⟨S1x8192x1x64, .f32⟩
  | .hbm, ⟨19, _⟩ => ⟨S1x8192x2x64, .f32⟩
  | .hbm, ⟨20, _⟩ => ⟨S8192x128, .f32⟩
  | .hbm, ⟨21, _⟩ => ⟨S8192x32, .f32⟩
  | .hbm, ⟨22, _⟩ => ⟨S8192x64, .f32⟩
  | .hbm, ⟨23, _⟩ => ⟨S1x8192x1x64, .f32⟩
  | .hbm, ⟨24, _⟩ => ⟨S1x8192x2x64, .f32⟩
  | .hbm, ⟨25, _⟩ => ⟨S8192x128, .f32⟩
  | .hbm, ⟨26, _⟩ => ⟨S8192x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceRopeK.lean ====
abbrev S8192x1536 : Shape := ⟨2, ![8192, 1536]⟩
abbrev S8192x512 : Shape := ⟨2, ![8192, 512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x64 : Shape := ⟨3, ![8192, 8, 64]⟩
abbrev S8192x8x32 : Shape := ⟨3, ![8192, 8, 32]⟩

abbrev nBuf : Space → Nat
  | .hbm => 38
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S8192, .f32⟩
  | .hbm, ⟨11, _⟩ => ⟨S8192x1, .f32⟩
  | .hbm, ⟨12, _⟩ => ⟨S1x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x1x32, .f32⟩
  | .hbm, ⟨18, _⟩ => ⟨S8192x32, .f32⟩
  | .hbm, ⟨19, _⟩ => ⟨S8192x1x32, .f32⟩
  | .hbm, ⟨20, _⟩ => ⟨S_, .f32⟩
  | .hbm, ⟨21, _⟩ => ⟨S8192x1x32, .f32⟩
  | .hbm, ⟨22, _⟩ => ⟨S8192x1x32, .f32⟩
  | .hbm, ⟨23, _⟩ => ⟨S8192x8x64, .f32⟩
  | .hbm, ⟨24, _⟩ => ⟨S8192x8x32, .f32⟩
  | .hbm, ⟨25, _⟩ => ⟨S8192x8x32, .f32⟩
  | .hbm, ⟨26, _⟩ => ⟨S8192x8x32, .f32⟩
  | .hbm, ⟨27, _⟩ => ⟨S8192x8x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x64, .f32⟩
  | .hbm, ⟨37, _⟩ => ⟨S8192x512, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== RopeBack.lean ====
abbrev S8192x512 : Shape := ⟨2, ![8192, 512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S512x128 : Shape := ⟨2, ![512, 128]⟩

abbrev nBuf : Space → Nat
  | .hbm => 27
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8192, .f32⟩
  | .hbm, ⟨10, _⟩ => ⟨S8192x1, .f32⟩
  | .hbm, ⟨11, _⟩ => ⟨S1x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x64, .f32⟩
  | .hbm, ⟨18, _⟩ => ⟨S1x8192x1x64, .f32⟩
  | .hbm, ⟨19, _⟩ => ⟨S1x8192x2x64, .f32⟩
  | .hbm, ⟨20, _⟩ => ⟨S8192x128, .f32⟩
  | .hbm, ⟨21, _⟩ => ⟨S8192x32, .f32⟩
  | .hbm, ⟨22, _⟩ => ⟨S8192x64, .f32⟩
  | .hbm, ⟨23, _⟩ => ⟨S1x8192x1x64, .f32⟩
  | .hbm, ⟨24, _⟩ => ⟨S1x8192x2x64, .f32⟩
  | .hbm, ⟨25, _⟩ => ⟨S8192x128, .f32⟩
  | .hbm, ⟨26, _⟩ => ⟨S8192x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceRopeBack.lean ====
abbrev S8192x512 : Shape := ⟨2, ![8192, 512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x64 : Shape := ⟨3, ![8192, 8, 64]⟩
abbrev S8192x8x32 : Shape := ⟨3, ![8192, 8, 32]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8192, .f32⟩
  | .hbm, ⟨10, _⟩ => ⟨S8192x1, .f32⟩
  | .hbm, ⟨11, _⟩ => ⟨S1x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x1x32, .f32⟩
  | .hbm, ⟨17, _⟩ => ⟨S8192x32, .f32⟩
  | .hbm, ⟨18, _⟩ => ⟨S8192x1x32, .f32⟩
  | .hbm, ⟨19, _⟩ => ⟨S_, .f32⟩
  | .hbm, ⟨20, _⟩ => ⟨S8192x1x32, .f32⟩
  | .hbm, ⟨21, _⟩ => ⟨S8192x1x32, .f32⟩
  | .hbm, ⟨22, _⟩ => ⟨S8192x8x64, .f32⟩
  | .hbm, ⟨23, _⟩ => ⟨S8192x8x32, .f32⟩
  | .hbm, ⟨24, _⟩ => ⟨S8192x8x32, .f32⟩
  | .hbm, ⟨25, _⟩ => ⟨S8192x8x32, .f32⟩
  | .hbm, ⟨26, _⟩ => ⟨S8192x8x32, .f32⟩
  | .hbm, ⟨27, _⟩ => ⟨S8192x8x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x64, .f32⟩
  | .hbm, ⟨36, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Proof.Launch.lean ====
/-
A launch for programs whose cores write into one another's arrays.

The kernels of this proof send into the peers' result arrays without waiting for the peers to enter the kernel.
The pieces of every result array must therefore be dealt to the cores that write them before any core runs, and
the completion counters must be under their protocol from the start. The theorem `run` below hands all cores'
launch holdings together to one dealing step (`hdeal`) and takes each core's run of @main from what that step
gives it (`hcore`). `wp_region` is the entry of a kernel region without windows from inside such a run.
-/
module

public import Idealize.ShloMosaic.Lib.Pipeline.Launch
public import Idealize.ShloMosaic.Lib.Pipeline.Kit
public import Idealize.ShloMosaic.Lib.Tactic

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type}

/-- The ghost state: one copy of the rounds library for the pipelines' cells, one for the kernel's own. -/
abbrev UU (nD : ℕ) (τ : Topo) (sig : RefSig) : Type := UR sig nD τ × UR sig nD τ

local notation "𝕄" => MT nD τ sig Unit Val ℕ (UU nD τ sig) ℕ

/-! ## The launch -/

section Run

variable {Λ : Labels} (𝔻 : Defs nD τ sig Val Λ) (𝕍 : Variants)

/-- What a core is dealt before it runs. -/
def dealt (m : (ℓ : Loc nD τ sig) → Buf Val ℓ) (g : Dev nD → PrngReg) (O₀ : Dev nD → CellTallies nD τ sig Unit)
    (c : Dev nD) : sProp 𝕄 :=
  iprop(boundary (c.tc : Thread nD τ) ∗ unscopedBufs c (fun b => m ((c.tc : Thread nD τ).loc b))
    ∗ unscopedSems0 c ∗ owes (c.tc : Thread nD τ) (O₀ c) ∅ ∗ prngReg c (g c) ∗ launchCred O₀ c)

/-- The level facts of all cells, assigned once by the cores together. -/
theorem levels_assign (L : GSem nD τ sig → Finset Unit) (lv : GSem nD τ sig → Unit → ℕ)
    (hL : ∀ g : GSem nD τ sig, g.1.2 ≠ .tc → L g = ∅) :
    (bigSep Finset.univ fun c : Dev nD => (levels0 c : sProp 𝕄)) ⊢ (|==> levAts L lv : sProp 𝕄) := by
  refine (bigSep_mono fun c _ => lev_assign_cells (c.tc : Thread nD τ) L lv).trans <|
    (BI.bigSep_bupd _ _).trans <| BI.bupd_mono ?_
  have hoff : (bigSep Finset.univ fun d : Dev nD => bigSep (Finset.univ.erase Proc.tc) fun p =>
      (coreLevAts ((d, p) : Thread nD τ) L lv : sProp 𝕄)) = BI.emp := by
    have h (d : Dev nD) : (bigSep (Finset.univ.erase Proc.tc) fun p =>
        (coreLevAts ((d, p) : Thread nD τ) L lv : sProp 𝕄)) = BI.emp := by
      refine (bigSep_congr (Ψ := fun _ => (BI.emp : sProp 𝕄)) fun p hp => ?_).trans (BI.bigSep_emp_const _)
      unfold coreLevAts
      refine (bigSep_congr (Ψ := fun _ => (BI.emp : sProp 𝕄)) fun sm _ => ?_).trans (BI.bigSep_emp_const _)
      rw [hL ((d, p), sm) (Finset.ne_of_mem_erase hp), BI.bigSep_empty]
    rw [bigSep_congr fun d _ => h d, BI.bigSep_emp_const]
  rw [show (levAts L lv : sProp 𝕄) = bigSep Finset.univ fun c : Thread nD τ => coreLevAts c L lv
      from bigSep_univ_prod fun g : GSem nD τ sig => bigSep (L g) fun ι => levAt g ι (lv g ι),
    bigSep_threads (fun c : Thread nD τ => coreLevAts c L lv), hoff, bigSep_sep']
  exact show iprop((bigSep Finset.univ fun c : Dev nD =>
        bigSep Finset.univ fun sm : SemLoc sig => levels ((c.tc : Thread nD τ), sm) (L ((c.tc : Thread nD τ), sm)))
      ∗ bigSep Finset.univ fun c : Dev nD => (coreLevAts (c.tc : Thread nD τ) L lv : sProp 𝕄))
    ⊢ iprop((bigSep Finset.univ fun c : Dev nD => coreLevAts (c.tc : Thread nD τ) L lv) ∗ BI.emp) from by
      iintro ⟨-, H⟩
      isplitl [H]
      · iexact H
      iempintro

/-- A run of @main on every core from zero counters: what the launch deals is rearranged by `hdeal`, each core runs from
    its part, and `hread` reads the final memory. All counters of the final memory are zero. -/
theorem run (main : Dev nD → Prog (TpuEff nD τ sig Val Λ .tc) PUnit)
    (m : (ℓ : Loc nD τ sig) → Buf Val ℓ) (g : Dev nD → PrngReg)
    (hscoped : ∀ sm : SemLoc sig, sm.isScoped .tc = true)
    (O₀ : Dev nD → CellTallies nD τ sig Unit)
    (L : GSem nD τ sig → Finset Unit) (lv : GSem nD τ sig → Unit → ℕ)
    (hL : ∀ g : GSem nD τ sig, g.1.2 ≠ .tc → L g = ∅) (u₀ : UU nD τ sig)
    (pre fin : Dev nD → sProp 𝕄)
    (hdeal : iprop(bigSep Finset.univ (dealt m g O₀) ∗ levAts L lv ∗ ownU u₀)
      ⊢ iprop(|={Set.univ}=> bigSep Finset.univ pre))
    (hcore : ∀ c, pre c ⊢ wp frame (wpE 𝔻 𝕍 (c.tc : Thread nD τ) none) Set.univ (main c)
      (fun _ => iprop(fin c ∗ scopedSems0 (c.tc : Thread nD τ) ∗ ∃ W, owes (c.tc : Thread nD τ) 0 W)))
    (QY : Dev nD → MemSt nD τ sig Val → Prop)
    (hread : ∀ c (s' : Phys nD τ sig Val), iprop(fin c ∗ SI s') ⊢ |={Set.univ}=> iprop(⌜QY c s'.mem⌝ ∗ SI s')) :
    θ_run 𝔻 (onTc main) ⟨m, fun _ => 0, g⟩ (fun r => (∀ c, QY c r.2) ∧ r.2.sem = fun _ => 0) := by
  classical
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped hscoped (sems_of_reads (fun c => (hr.1 c).2) hr.2)⟩)
    (adequate_tpu 𝔻 _ _ _
    (reflect_intro_fupd_tc_sems (X := Unit) 𝕍 (owing O₀) 0 (noBookings fun _ => le_rfl) (owing_of_ne O₀) u₀ (fun _ => pre)
      (fun _ => fun c => iprop(fin c ∗ scopedSems0 (c.tc : Thread nD τ)))
      (fun _ => iprop(emp)) Set.univ ?_ (fun _ c => ?_) fun _ => ?_))
  · have h1 (c : Dev nD) : coreInit (Ix := Unit) (Name := ℕ) (U := UU nD τ sig) (Lvl := ℕ) (owing O₀) 0
          (⟨m, fun _ => 0, g⟩ : MemSt nD τ sig Val) (c.tc : Thread nD τ)
        ⊢ iprop(dealt m g O₀ c ∗ levels0 c) := by
      refine (coreInit_boundary_owing O₀ m g c).trans ?_
      unfold dealt
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hpr] <;> iassumption
      · iexact Hlv
    have h2 : (bigSep Finset.univ fun d : Dev nD => coreInit (Ix := Unit) (Name := ℕ) (U := UU nD τ sig) (Lvl := ℕ) (owing O₀) 0
          (⟨m, fun _ => 0, g⟩ : MemSt nD τ sig Val) (d.tc : Thread nD τ))
        ⊢ iprop((bigSep Finset.univ (dealt m g O₀)) ∗ bigSep Finset.univ fun c => levels0 c) := (bigSep_mono (s := Finset.univ) fun c _ => h1 c).trans (Entails.of_eq (bigSep_sep' _ _ _))
    iintro ⟨Hcores, Hu⟩
    ihave Hc := h2 $$ Hcores
    icases Hc with ⟨Hd, Hlv⟩
    imod (levels_assign L lv hL) $$ Hlv with Hla
    imod hdeal $$ [Hd Hla Hu] with Hpre
    · isplitl [Hd]; · iexact Hd
      isplitl [Hla] <;> iassumption
    imodintro
    iexists ()
    isplitl [Hpre]
    · iexact Hpre
    · iempintro
  · refine (hcore c).trans (wp_mono _ _ _ fun _ => ?_)
    unfold post; simp only [liftTc_tc]
    iintro ⟨Hf, Hs, HW⟩
    isplitl [Hf Hs]
    · isplitl [Hf] <;> iassumption
    · iexact HW
  · have hc (c : Dev nD) (s' : Phys nD τ sig Val) :
        iprop(iprop(fin c ∗ scopedSems0 (c.tc : Thread nD τ)) ∗ SI s') ⊢ |={Set.univ}=>
          iprop(⌜QY c s'.mem ∧ ∀ sm : SemLoc sig, sm.isScoped .tc = true → s'.mem.sem ((c.tc : Thread nD τ), sm) = 0⌝ ∗ SI s') := by
      iintro ⟨⟨Hf, Hss⟩, HSI⟩
      ihave %hz := (tcScoped_read_pers c s') $$ [Hss HSI]
      · isplitl [Hss] <;> iassumption
      imod (hread c s') $$ [Hf HSI] with ⟨%hy, HSI⟩
      · isplitl [Hf] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hc s') $$ [H HSI] with %h
    · isplitl [H] <;> iassumption
    imodintro
    ipureintro
    exact ⟨fun c => h c (Finset.mem_univ c), hsc⟩

end Run

/-! ## A kernel region without windows -/

section Region

variable {Λ₀ : Labels} {P : Type} [Fintype P] [DecidableEq P]
variable (pcs : P → PCfg sig Λ₀ Val) (a : (p : P) → (pcs p).Adm) (p : P)
  (defs₀ : Defs nD τ sig Val Λ₀) (𝒱₀ : Variants)

/-- The proof data of a region that runs once on nothing but its invariant. -/
def once [∀ e, Nonempty (Val e)] (X Y : Dev nD → sProp 𝕄) (O : Dev nD → CellTallies nD τ sig Unit) (q : P) (c : Dev nD) :
    RDat τ Val Unit ℕ (UU nD τ sig) ℕ (pin pcs a q) c where
  A _ := fun _ => Classical.arbitrary _
  after _ _ _ _ := True
  Φ t := if t.val = 0 then X c else Y c
  q _ := fullShare
  owed t := if t.val = 0 then O c else 0

variable [∀ e, Nonempty (Val e)]

theorem wp_region [IsEmpty (Fin (pin pcs a p).W)] [IsEmpty (Fin (pcs p).pre.K)] (hN : (pin pcs a p).N = 1)
    (phinj : Function.Injective (cellOf (nD := nD) (τ := τ) (pin pcs a)))
    (X Y : Dev nD → sProp 𝕄) (O : Dev nD → CellTallies nD τ sig Unit)
    (hbody : ∀ (c : Dev nD) (t : Fin (pin pcs a p).N),
      iprop(X c ∗ ∃ W, owes (c.tc : Thread nD τ) (O c) W)
        ⊢ wp frame (wpE defs₀ 𝒱₀ (c.tc : Thread nD τ) none) Set.univ
            (defs₀ .tc (pin pcs a p).body ((pin pcs a p).bodyArgs t ((pin pcs a p).slots t)))
            fun _ => iprop(Y c ∗ scopedSems0 (c.tc : Thread nD τ) ∗ ∃ W, owes (c.tc : Thread nD τ) 0 W))
    (c : Dev nD) {α : Type} (k : PUnit → Prog (TpuEff nD τ sig Val (Sig Λ₀ P fun p => (pcs p).Adm) Proc.tc) α)
    (Q : α → sProp 𝕄) :
    iprop((X c ∗ scopedBufs (c.tc : Thread nD τ) ∗ ∃ W, owes (c.tc : Thread nD τ) (O c) W)
        ∗ ((Y c ∗ scopedSems0 (c.tc : Thread nD τ) ∗ scopedBufs (c.tc : Thread nD τ) ∗ ∃ W, owes (c.tc : Thread nD τ) 0 W)
            -∗ wp frame (wpE (Pipeline.defs pcs defs₀) (Variants.lift 𝒱₀) (c.tc : Thread nD τ) none) Set.univ (k ⟨⟩) Q))
      ⊢ wp frame (wpE (Pipeline.defs pcs defs₀) (Variants.lift 𝒱₀) (c.tc : Thread nD τ) none) Set.univ
          (.op (.customCall (entry p) ()) k) Q := by
  classical
  set X' : Dev nD → sProp 𝕄 := fun c => iprop(X c ∗ scopedBufs (c.tc : Thread nD τ)) with hX'
  set Y' : Dev nD → sProp 𝕄 := fun c => iprop(Y c ∗ scopedSems0 (c.tc : Thread nD τ) ∗ scopedBufs (c.tc : Thread nD τ)) with hY'
  have hlast : (Fin.last (pin pcs a p).N).val = 1 := hN
  have hb : (once pcs a X' Y' O p c).BodyObligation defs₀ 𝒱₀ () Set.univ := by
    intro t Z _
    have ht : t.val = 0 := by have := t.isLt; omega
    have h0 : (t.castSucc).val = 0 := ht
    have h1 : (t.succ).val ≠ 0 := Nat.succ_ne_zero _
    simp only [Finset.univ_eq_empty, BI.bigSep_empty, once, RDat.owesAt, owesWithin, h0, h1, if_true, if_false, hX', hY']
    refine (show _ ⊢ iprop(iprop(X c ∗ ∃ W, owes (c.tc : Thread nD τ) (O c) W) ∗ scopedBufs (c.tc : Thread nD τ)) from by
      iintro ⟨⟨HX, Hsb⟩, ⟨%W, -, HW⟩, -⟩
      isplitr [Hsb]
      · isplitl [HX]; · iexact HX
        iexists W; iexact HW
      · iexact Hsb).trans <| (sep_mono (hbody c t) .rfl).trans <| (wp_frame_r _ _ _).trans <| wp_mono _ _ _ fun _ => ?_
    iintro ⟨⟨HY, Hs, %W, HW⟩, Hsb⟩
    isplitl [HY Hs Hsb]
    · isplitl [HY]; · iexact HY
      isplitl [Hs] <;> iassumption
    isplitl [HW]
    · iexists W; isplitr; · ipureintro; exact fun x _ => Or.inl trivial
      iexact HW
    · iempintro
  have hin : iprop(X c ∗ prefHeld (pcs p).pre c (fun _ => fullShare) (a p).1 ∗ scopedBufs (c.tc : Thread nD τ)) ⊢ (once pcs a X' Y' O p c).Φ 0 := by
    simp only [once, Fin.val_zero, if_true, hX']
    iintro ⟨HX, -, Hsb⟩
    isplitl [HX] <;> iassumption
  have hout : iprop((once pcs a X' Y' O p c).Φ (Fin.last (pin pcs a p).N) ∗ cellsSems0 (pin pcs a) p c ∗ Dat.staging (pin pcs a p) c ∗ emp)
      ⊢ iprop(Y c ∗ scopedSems0 (c.tc : Thread nD τ) ∗ scopedBufs (c.tc : Thread nD τ)) := by
    simp only [once, hlast, one_ne_zero, if_false, hY']
    iintro ⟨H, -⟩
    iexact H
  have hb0 : (scopedBufs (c.tc : Thread nD τ) : sProp 𝕄) ⊢ iprop(Dat.staging (pin pcs a p) c ∗ scopedBufs (c.tc : Thread nD τ)) := by
    simp only [Dat.staging, Finset.univ_eq_empty, BI.bigSep_empty]
    iintro H
    isplitr; · iempintro
    iexact H
  have H := RDat.wp_customCall_entry_frame pcs a (once pcs a X' Y' O) () embL (fun _ => 0) phinj p defs₀ 𝒱₀ (fun _ => fullShare) c Set.univ
    (fun _ _ => Set.mem_univ _) hb (fun w => isEmptyElim w) none (fun u h => nomatch h)
    (X := X c) (Y := iprop(Y c)) (R := scopedBufs (c.tc : Thread nD τ)) (I := iprop(emp)) hb0 hin hout (k := k) (Q := Q)
  iintro ⟨⟨HX, Hsb, %W, HW⟩, Hk⟩
  iapply H $$ [HX Hsb HW]
  · isplitl [HW]
    · unfold RDat.EntryPre PerCore.RDat.EntryPre
      simp only [RDat.arrays, PerCore.RDat.cellsWaits, PerCore.RDat.cellsInit, PerCore.toksInit, Finset.univ_eq_empty, BI.bigSep_empty,
        RDat.owesAt, owesWithin, once, Fin.val_zero, if_true]
      isplitr; · iempintro
      isplitl [HW]
      · iexists W; isplitr; · ipureintro; exact fun x _ => Or.inl trivial
        iexact HW
      isplitr; · iempintro
      isplitr; · iempintro
      iempintro
    isplitr
    · simp only [prefHeld, Finset.univ_eq_empty, BI.bigSep_empty]; iempintro
    isplitl [HX]; · iexact HX
    isplitr; · iempintro
    iexact Hsb
  unfold RDat.EntryPost PerCore.RDat.EntryPost
  simp only [RDat.owesAt, owesWithin, once, hlast, one_ne_zero, if_false]
  iintro ⟨⟨-, %W', -, HW⟩, HY, Hs, Hsb⟩
  iapply Hk
  isplitl [HY]; · iexact HY
  isplitl [Hs]; · iexact Hs
  isplitl [Hsb]; · iexact Hsb
  iexists W'; iexact HW

end Region

end Cert.Talk

end
-- ==== Proof.Net.lean ====
/-
The protocol of a kernel whose transfers are each counted once.

Every completion counter of such a kernel is raised by one transfer — one of the core's own for a local copy or for
the sending side, a peer's for the receiving side — and waited for once. A `Net` lists the counters and says, for
each, how much its transfer credits and which device's counter the transfers of device `c` credit. From that this
module makes the schedule of the counters (one round, one contribution), the ghost state of the launch, what a core
still owes, and the rules for a local copy, a transfer to a peer and a wait.
-/
module

public import Idealize.ShloMosaic.Lib.Pipeline.BigSepL
public import Idealize.ShloMosaic.Lib.Rounds
public import proofs.«01_k».proof.Proof.Launch
public import Idealize.ShloMosaic.Lib.Pipeline.Regions

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type}

local notation "𝕄" => MT nD τ sig Unit Val ℕ (UU nD τ sig) ℕ

/-- The counters of a kernel: `sem k` is credited `N k` units, once, by device `c`'s transfer on device `tgt k c`;
    `far` lists the counters credited by a peer, in the order in which a core issues those transfers; `lvl` orders
    the waits that are made while transfers are still to be issued. -/
structure Net (nD : ℕ) (sig : RefSig) where
  K : Type
  [fin : Fintype K]
  [dec : DecidableEq K]
  sem : K → DmaSem sig
  inj : Function.Injective sem
  N : K → ℕ
  pos : ∀ k, 0 < N k
  tgt : K → Equiv.Perm (Dev nD)
  far : List K
  nodup : far.Nodup
  lvl : K → ℕ

namespace Net

variable (n : Net nD sig)

instance : Fintype n.K := n.fin
instance : DecidableEq n.K := n.dec

/-- Counter `k` of device `c`. -/
def cell (c : Dev nD) (k : n.K) : GSem nD τ sig := ((c.tc : Thread nD τ), .dma (n.sem k))

theorem cell_inj {c c' : Dev nD} {k k' : n.K} (h : (n.cell c k : GSem nD τ sig) = n.cell c' k') : c = c' ∧ k = k' := by
  unfold cell at h
  injection h with h1 h2
  injection h1 with h3
  injection h2 with h4
  exact ⟨h3, n.inj h4⟩

/-- The cell is a counter of the kernel, on a TensorCore. -/
def Own (g : GSem nD τ sig) : Prop := g.1.2 = .tc ∧ ∃ k, g.2 = .dma (n.sem k)

theorem own_cell (c : Dev nD) (k : n.K) : n.Own (n.cell c k : GSem nD τ sig) := ⟨rfl, k, rfl⟩

open Classical in
/-- A value at a counter of the kernel, and `z` at any other cell. -/
def at_ {α : Type*} (z : α) (f : Dev nD → n.K → α) (g : GSem nD τ sig) : α :=
  if h : ∃ k, g.2 = .dma (n.sem k) then f g.1.1 h.choose else z

theorem at_cell {α : Type*} (z : α) (f : Dev nD → n.K → α) (c : Dev nD) (k : n.K) :
    n.at_ z f (n.cell c k : GSem nD τ sig) = f c k := by
  have h : ∃ k', (n.cell c k : GSem nD τ sig).2 = .dma (n.sem k') := ⟨k, rfl⟩
  unfold at_
  rw [dif_pos h]
  have h' : SemLoc.dma (n.sem k) = SemLoc.dma (n.sem h.choose) := h.choose_spec
  injection h' with h''
  rw [← n.inj h'']; rfl

variable (pay : Dev nD → n.K → sProp (MT nD τ sig Unit Val ℕ (UU nD τ sig) ℕ))

open Classical in
/-- The schedule: one round, one contribution, what it brings being `pay`. -/
def sched : Rounds.Schedule (GSem nD τ sig) Unit 𝕄 where
  duties g r := if r = 0 ∧ n.Own g then {()} else ∅
  amount g _ _ := n.at_ 1 (fun _ k => n.N k) g
  payload g _ _ := n.at_ iprop(emp) pay g
  amount_pos g r d hd := by
    unfold at_
    split
    · exact n.pos _
    · exact Nat.one_pos

instance [∀ c k, Storable (upEmb : UEmb _ 𝕄) (pay c k)] (g : GSem nD τ sig) (r : ℕ) (d : Unit) :
    Storable (upEmb : UEmb _ 𝕄) ((n.sched pay).payload g r d) := by
  show Storable _ (n.at_ iprop(emp) pay g)
  unfold at_
  split <;> infer_instance

theorem duties_cell (c : Dev nD) (k : n.K) : (n.sched pay).duties (n.cell c k) 0 = {()} :=
  if_pos ⟨rfl, n.own_cell c k⟩

theorem mem_duties (c : Dev nD) (k : n.K) : () ∈ (n.sched pay).duties (n.cell c k) 0 := by
  rw [duties_cell]; exact Finset.mem_singleton_self _

theorem duties_later (g : GSem nD τ sig) (r : ℕ) (h : 0 + 1 ≤ r) : (n.sched pay).duties g r = ∅ :=
  if_neg fun h' => by omega

theorem amount_cell (c : Dev nD) (k : n.K) (r : ℕ) : (n.sched pay).amount (n.cell c k) r () = n.N k :=
  n.at_cell 1 (fun _ k => n.N k) c k

theorem payload_cell (c : Dev nD) (k : n.K) (r : ℕ) : (n.sched pay).payload (n.cell c k) r () = pay c k :=
  n.at_cell iprop(emp) pay c k

theorem expect_cell (c : Dev nD) (k : n.K) : (n.sched pay).expect (n.cell c k) 0 = n.N k := by
  unfold Schedule.expect Schedule.amountOf
  rw [duties_cell, Finset.sum_singleton, amount_cell]

/-! ### What a core owes, and the order of the waits -/

/-- What device `c` owes while the transfers of `l` are still to be issued. -/
def due (c : Dev nD) : List n.K → CellTallies nD τ sig Unit
  | [] => 0
  | k :: l => due c l + tallyAt (n.cell (n.tgt k c) k) () (n.N k)

theorem due_pos {c : Dev nD} {l : List n.K} {g : GSem nD τ sig} {u : Unit} (h : 0 < n.due c l g u) :
    ∃ k ∈ l, g = n.cell (n.tgt k c) k := by
  induction l with
  | nil => exact absurd h (Nat.lt_irrefl 0)
  | cons k l ih =>
    unfold due at h
    rw [Pi.add_apply, Finsupp.add_apply, tallyAt_apply] at h
    by_cases hg : g = n.cell (n.tgt k c) k ∧ u = ()
    · exact ⟨k, List.mem_cons_self, hg.1⟩
    · rw [if_neg hg, Nat.add_zero] at h
      obtain ⟨k', hk', e⟩ := ih h
      exact ⟨k', List.mem_cons_of_mem _ hk', e⟩

theorem due_cell (d c : Dev nD) (k : n.K) {l : List n.K} (hl : l.Nodup) :
    n.due d l (n.cell c k : GSem nD τ sig) () = if k ∈ l ∧ n.tgt k d = c then n.N k else 0 := by
  induction l with
  | nil => simp [due]
  | cons k' l ih =>
    unfold due
    rw [Pi.add_apply, Finsupp.add_apply, ih (List.nodup_cons.mp hl).2, tallyAt_apply]
    by_cases hk : k = k'
    · subst hk
      have h1 : ¬(k ∈ l ∧ n.tgt k d = c) := fun h => (List.nodup_cons.mp hl).1 h.1
      rw [if_neg h1, Nat.zero_add]
      by_cases hc : n.tgt k d = c
      · rw [if_pos ⟨by rw [hc], rfl⟩, if_pos ⟨List.mem_cons_self, hc⟩]
      · rw [if_neg (fun h => hc (n.cell_inj h.1).1.symm), if_neg fun h => hc h.2]
    · rw [if_neg (c := n.cell c k = n.cell (n.tgt k' d) k' ∧ () = ()) fun h => hk (n.cell_inj h.1).2, Nat.add_zero]
      simp only [List.mem_cons, hk, false_or]

/-- What device `c` owes at launch. -/
def owed (c : Dev nD) : CellTallies nD τ sig Unit := n.due c n.far

/-- The indices of a cell: one on a TensorCore. -/
def idx (g : GSem nD τ sig) : Finset Unit := if g.1.2 = .tc then {()} else ∅

/-- The level of a cell. -/
def lev (g : GSem nD τ sig) (_ : Unit) : ℕ := n.at_ 0 (fun _ k => n.lvl k) g

theorem idx_cell (c : Dev nD) (k : n.K) : () ∈ idx (n.cell c k : GSem nD τ sig) := by
  show () ∈ if (n.cell c k).1.2 = Proc.tc then ({()} : Finset Unit) else ∅
  rw [if_pos (by rfl)]; exact Finset.mem_singleton_self _

theorem idx_off (g : GSem nD τ sig) (h : g.1.2 ≠ .tc) : idx g = ∅ := if_neg h

theorem lev_cell (c : Dev nD) (k : n.K) : n.lev (n.cell c k : GSem nD τ sig) () = n.lvl k :=
  n.at_cell 0 (fun _ k => n.lvl k) c k

/-- A core may wait for counter `k` when every transfer still to be issued is at a higher level. -/
theorem mayWait (c : Dev nD) (k : n.K) {l : List n.K} (h : ∀ k' ∈ l, n.lvl k < n.lvl k') :
    (levAts idx n.lev : sProp 𝕄) ⊢ MayWait (c.tc : Thread nD τ) (.dma (n.sem k)) () (n.due c l) :=
  MayOwe.of_cut (L := idx) (lev := n.lev) (n.lvl k)
    (fun p hp => by rw [Finset.mem_singleton.mp hp]; exact n.idx_cell c k)
    (fun g u hg => by obtain ⟨k', -, rfl⟩ := n.due_pos hg; exact n.idx_cell _ _)
    (fun p hp => by rw [Finset.mem_singleton.mp hp]; exact le_of_eq (n.lev_cell c k))
    (fun g u hg => by obtain ⟨k', hk', rfl⟩ := n.due_pos hg; exact lt_of_lt_of_eq (h k' hk') (n.lev_cell _ _).symm)

/-- The credit tokens of the launch: device `c` holds those of its own counters that peers credit. -/
theorem credits (c : Dev nD) : (launchCred (fun d => n.owed d) c : sProp 𝕄)
    ⊢ bigSepL n.far fun k => cred (tallyAt (n.cell c k) () (n.N k)) := by
  classical
  have hc (k : n.K) (hk : k ∈ n.far) : (cred (tallyOn (n.cell c k : GSem nD τ sig) (launchCredit (owing fun d => n.owed d) 0 (n.cell c k : GSem nD τ sig))) : sProp 𝕄)
      = cred (tallyAt (n.cell c k) () (n.N k)) := by
    unfold tallyAt
    congr 2
    refine Finsupp.ext fun u => ?_
    cases u
    rw [launchCredit_owing, Finsupp.single_eq_same]
    unfold owed
    rw [Finset.sum_congr rfl fun d _ => n.due_cell d c k n.nodup, Fintype.sum_eq_single ((n.tgt k).symm c)]
    · rw [if_pos ⟨hk, Equiv.apply_symm_apply _ _⟩]
    · intro d hd
      exact if_neg fun h => hd (by rw [← h.2, Equiv.symm_apply_apply])
  have hinj : Set.InjOn (fun k : n.K => SemLoc.dma (n.sem k)) (n.far.toFinset : Set n.K) :=
    fun a _ b _ h => by injection h with h'; exact n.inj h'
  unfold launchCred
  refine (BI.bigSep_subset (Finset.subset_univ (n.far.toFinset.map ⟨fun k : n.K => SemLoc.dma (n.sem k), fun a b h => by injection h with h'; exact n.inj h'⟩))).trans ?_
  rw [BI.bigSep_map, BI.bigSep_eq_bigSepL_of_eq n.far rfl n.nodup]
  exact BI.bigSepL_mono fun k hk => Entails.of_eq (hc k hk)

/-! ### The ghost state -/

/-- What every core knows: the invariant of every counter, that every counter's round is open, and the levels. -/
def known (κ : Dev nD × n.K → ℕ) : sProp (MT nD τ sig Unit Val ℕ (UU nD τ sig) ℕ) :=
  iprop((bigSep Finset.univ fun x : Dev nD × n.K => cellInv embR (n.sched pay) (κ x) (n.cell x.1 x.2))
    ∗ (bigSep Finset.univ fun x : Dev nD × n.K => reached embR (n.cell x.1 x.2 : GSem nD τ sig) 0)
    ∗ levAts idx n.lev)

instance (κ : Dev nD × n.K → ℕ) : BI.Persistent (n.known pay κ) := by unfold known; infer_instance

theorem known_inv (κ : Dev nD × n.K → ℕ) (c : Dev nD) (k : n.K) :
    n.known pay κ ⊢ cellInv embR (n.sched pay) (κ (c, k)) (n.cell c k) := by
  unfold known
  iintro ⟨H, -, -⟩
  iapply (show (bigSep Finset.univ fun x : Dev nD × n.K => cellInv embR (n.sched pay) (κ x) (n.cell x.1 x.2))
    ⊢ cellInv embR (n.sched pay) (κ (c, k)) (n.cell c k) from bigSep_elim (Finset.mem_univ (c, k)))
  iexact H

theorem known_reached (κ : Dev nD × n.K → ℕ) (c : Dev nD) (k : n.K) :
    n.known pay κ ⊢ reached embR (n.cell c k : GSem nD τ sig) 0 := by
  unfold known
  iintro ⟨-, H, -⟩
  iapply (show (bigSep Finset.univ fun x : Dev nD × n.K => (reached embR (n.cell x.1 x.2 : GSem nD τ sig) 0 : sProp 𝕄))
    ⊢ reached embR (n.cell c k : GSem nD τ sig) 0 from bigSep_elim (Finset.mem_univ (c, k)))
  iexact H

theorem known_lev (κ : Dev nD × n.K → ℕ) : n.known pay κ ⊢ levAts idx n.lev := by
  unfold known
  iintro ⟨-, -, H⟩
  iexact H

/-- The right to issue device `c`'s transfer towards counter `k`. -/
def tok (c : Dev nD) (k : n.K) : sProp (MT nD τ sig Unit Val ℕ (UU nD τ sig) ℕ) :=
  dutyTok embR (n.cell (n.tgt k c) k : GSem nD τ sig) 0 ()

/-- The right to wait for counter `k` of device `c`. -/
def turn (c : Dev nD) (k : n.K) : sProp (MT nD τ sig Unit Val ℕ (UU nD τ sig) ℕ) :=
  atPos embR (n.cell c k : GSem nD τ sig) 0 ∅ 0

/-- The credit a wait for counter `k` of device `c` spends. -/
def due1 (c : Dev nD) (k : n.K) : sProp (MT nD τ sig Unit Val ℕ (UU nD τ sig) ℕ) :=
  cred (tallyAt (n.cell c k : GSem nD τ sig) () (n.N k))

/-- Counter `k` of device `c`, back at zero after its wait. -/
def shut (c : Dev nD) (k : n.K) : sProp (MT nD τ sig Unit Val ℕ (UU nD τ sig) ℕ) :=
  semVal (n.cell c k : GSem nD τ sig) 0

/-- What device `c` still owes. -/
def owes' (c : Dev nD) (l : List n.K) : sProp (MT nD τ sig Unit Val ℕ (UU nD τ sig) ℕ) :=
  iprop(∃ W, owes (c.tc : Thread nD τ) (n.due c l) W)

/-! ### The rules -/

section Rules

variable {Λ : Labels} {𝔻 : Defs nD τ sig Val Λ} (𝕍 : Variants) (κ : Dev nD × n.K → ℕ)
variable {sp sp' : Space} {s : Shape} {e : EltTy} {α : Type} {Q : α → sProp (MT nD τ sig Unit Val ℕ (UU nD τ sig) ℕ)}

/-- A local copy. -/
theorem copy (c : Dev nD) (j : n.K) (hj : n.tgt j c = c)
    {src : Memref sig (Proc.tc : Proc τ).kind sp s e} {dst : Memref sig (Proc.tc : Proc τ).kind sp' s e}
    {hsrc : src.view.WordExact} {hdst : dst.view.WordExact}
    {hsem : DmaTarget.Typed (nD := nD) (τ := τ) sp (.dma (n.sem j)) (.here dst)}
    {k : PUnit → Prog (TpuEff nD τ sig Val Λ .tc) α} {q : PosShare TreeShare}
    {fs : Buf Val (src.view.loc (c.tc : Thread nD τ))} {fd : Buf Val (dst.view.loc (c.tc : Thread nD τ))}
    (hN : dst.view.amount (.dma (n.sem j)) = n.N j)
    (hpay : iprop((dst.view.loc (c.tc : Thread nD τ) ↦[dst.view.set]{fullShare} (dst.view.write Val fd (src.view.read Val fs) Finset.univ))
              ∗ (src.view.loc (c.tc : Thread nD τ) ↦[src.view.set]{q} fs)) ⊢ pay c j) :
    iprop(n.known pay κ ∗ (src.view.loc (c.tc : Thread nD τ) ↦[src.view.set]{q} fs)
        ∗ (dst.view.loc (c.tc : Thread nD τ) ↦[dst.view.set]{fullShare} fd) ∗ n.tok c j)
      ⊢ iprop((n.due1 c j -∗ wp frame (wpE 𝔻 𝕍 (c.tc : Thread nD τ) none) Set.univ (k ⟨⟩) Q)
          -∗ wp frame (wpE 𝔻 𝕍 (c.tc : Thread nD τ) none) Set.univ
            (.op (.enqueueDma src (.here dst) (.dma (n.sem j)) hsrc hdst hsem) k) Q) := by
  iintro ⟨#HK, Hs, Hd, Ht⟩ Hk
  unfold tok
  rw [hj]
  iapply (Rounds.wp_copy_pointsTo 𝕍 embR (n.sched pay) (c.tc : Thread nD τ) none (κ := κ (c, j)) (r := 0) (d := ())
    (n.mem_duties pay c j) () (n.N j) hN (n.amount_cell pay c j 0)
    (hpay.trans (Entails.of_eq (n.payload_cell pay c j 0).symm))) $$ [Hs Hd Ht]
  · isplitr; · iapply (n.known_inv pay κ c j); iexact HK
    isplitl [Hs]; · iexact Hs
    isplitl [Hd]; · iexact Hd
    isplitl [Ht]; · iexact Ht
    iapply (n.known_reached pay κ c j); iexact HK
  iexact Hk

/-- A transfer to the peer `tgt j c`, whose counter `j` it credits; `i` is the sending side's counter. -/
theorem send (c : Dev nD) (i j : n.K) (hi : n.tgt i c = c) (l : List n.K)
    {src : Memref sig (Proc.tc : Proc τ).kind sp s e} {dst : Memref sig (Proc.tc : Proc τ).kind sp' s e} {hsc : dst.view.ref.isScScratch = false}
    {hsrc : src.view.WordExact} {hdst : dst.view.WordExact}
    {hsem : DmaTarget.Typed sp (.dma (n.sem j)) (.remote ((n.tgt j c).tc : Thread nD τ) dst (.dma (n.sem i)) hsc)}
    {k : PUnit → Prog (TpuEff nD τ sig Val Λ .tc) α} {q : PosShare TreeShare}
    {fs : Buf Val (src.view.loc (c.tc : Thread nD τ))} {fd : Buf Val (dst.view.loc ((n.tgt j c).tc : Thread nD τ))}
    (hN : dst.view.amount (.dma (n.sem j)) = n.N j) (hij : n.N i = n.N j)
    (hpay₁ : (src.view.loc (c.tc : Thread nD τ) ↦[src.view.set]{q} fs) ⊢ pay c i)
    (hpay₂ : (dst.view.loc ((n.tgt j c).tc : Thread nD τ) ↦[dst.view.set]{fullShare} (dst.view.write Val fd (src.view.read Val fs) Finset.univ))
      ⊢ pay (n.tgt j c) j) :
    iprop(n.known pay κ ∗ (src.view.loc (c.tc : Thread nD τ) ↦[src.view.set]{q} fs)
        ∗ (dst.view.loc ((n.tgt j c).tc : Thread nD τ) ↦[dst.view.set]{fullShare} fd)
        ∗ n.owes' c (j :: l) ∗ n.tok c i ∗ n.tok c j)
      ⊢ iprop(((n.due1 c i ∗ n.owes' c l) -∗ wp frame (wpE 𝔻 𝕍 (c.tc : Thread nD τ) none) Set.univ (k ⟨⟩) Q)
          -∗ wp frame (wpE 𝔻 𝕍 (c.tc : Thread nD τ) none) Set.univ
            (.op (.enqueueDma src (.remote ((n.tgt j c).tc : Thread nD τ) dst (.dma (n.sem i)) hsc) (.dma (n.sem j)) hsrc hdst hsem) k) Q) := by
  unfold tok owes'
  iintro ⟨#HK, Hs, Hd, ⟨%W, HO⟩, Hti, Htj⟩ Hk
  rw [hi]
  iapply (Rounds.wp_send_pointsTo 𝕍 embR (n.sched pay) (c.tc : Thread nD τ) none (κ₁ := κ (c, i)) (κ₂ := κ (n.tgt j c, j))
    (r₁ := 0) (r₂ := 0) (d₁ := ()) (d₂ := ()) (fd := fd)
    (n.mem_duties pay c i) (n.mem_duties pay (n.tgt j c) j) () () (n.N j) hN
    ((n.amount_cell pay c i 0).trans hij) (n.amount_cell pay _ j 0) (n.due c l) rfl (W := W)
    (hpay₁.trans (Entails.of_eq (n.payload_cell pay c i 0).symm))
    (hpay₂.trans (Entails.of_eq (n.payload_cell pay _ j 0).symm))) $$ [Hs Hd HO Hti Htj]
  · isplitr; · iapply (n.known_inv pay κ c i); iexact HK
    isplitr; · iapply (n.known_inv pay κ (n.tgt j c) j); iexact HK
    isplitl [Hs]; · iexact Hs
    isplitl [Hd]; · iexact Hd
    isplitl [HO]; · iexact HO
    isplitl [Hti]; · iexact Hti
    isplitr; · iapply (n.known_reached pay κ c i); iexact HK
    isplitl [Htj]; · iexact Htj
    iapply (n.known_reached pay κ (n.tgt j c) j); iexact HK
  iintro ⟨Hc, HO⟩
  iapply Hk
  isplitl [Hc]
  · unfold due1; rw [hij]; iexact Hc
  · iexists W; iexact HO

/-- A wait for counter `j`: it brings what the counter's transfer delivered, and the counter back at zero. -/
theorem wait (c : Dev nD) (j : n.K) (l : List n.K) (hl : ∀ k' ∈ l, n.lvl j < n.lvl k')
    {src : Memref sig (Proc.tc : Proc τ).kind sp s e} {dst : Memref sig (Proc.tc : Proc τ).kind sp' s e}
    {hsrc : src.view.WordExact} {hdst : dst.view.WordExact}
    {k : PUnit → Prog (TpuEff nD τ sig Val Λ .tc) α}
    (hN : dst.view.dmaCredit = n.N j) :
    iprop(n.known pay κ ∗ n.due1 c j ∗ n.owes' c l ∗ n.turn c j)
      ⊢ iprop(((n.owes' c l ∗ n.shut c j ∗ pay c j) -∗ wp frame (wpE 𝔻 𝕍 (c.tc : Thread nD τ) none) Set.univ (k ⟨⟩) Q)
          -∗ wp frame (wpE 𝔻 𝕍 (c.tc : Thread nD τ) none) Set.univ
            (.op (.waitDma2 (n.sem j) src dst hsrc hdst) k) Q) := by
  unfold turn due1 owes'
  iintro ⟨#HK, Hc, ⟨%W, HO⟩, Ht⟩ Hk
  iapply (Rounds.wp_wait_rest_token 𝕍 embR (n.sched pay) (c.tc : Thread nD τ) none (κ := κ (c, j))
    (wpE_waitDma2_eq 𝕍 (c.tc : Thread nD τ) none Set.univ) (Set.mem_univ _) () (O := n.due c l) (W := W) (R := 0) (m := 0) (T := ∅)
    (show 0 + dst.view.dmaCredit = (n.sched pay).expect (n.cell c j) 0 by rw [Nat.zero_add, n.expect_cell, hN])) $$ [Hc HO Ht]
  · isplitr; · iapply (n.known_inv pay κ c j); iexact HK
    isplitl [Hc]; · rw [hN]; iexact Hc
    isplitl [HO]; · iexact HO
    isplitr; · iapply (n.mayWait c j hl); iapply (n.known_lev pay κ); iexact HK
    iexact Ht
  iintro ⟨HO, Hat, -, Hpay⟩
  imod (Rounds.cell_close embR (n.sched pay) (Set.mem_univ (κ (c, j))) (fun h => h) (R := 0 + 1) (n.duties_later pay (n.cell c j))) $$ [Hat] with Hz
  · isplitr; · iapply (n.known_inv pay κ c j); iexact HK
    iexact Hat
  iapply Hk
  isplitl [HO]; · iexists _; iexact HO
  isplitl [Hz]; · unfold shut; iexact Hz
  ihave Hp := (Entails.of_eq (show (bigSep ((n.sched pay).duties ((c.tc : Thread nD τ), .dma (n.sem j)) 0 \ ∅)
      fun d => (n.sched pay).payload ((c.tc : Thread nD τ), .dma (n.sem j)) 0 d) = pay c j by
    show (bigSep ((n.sched pay).duties (n.cell c j) 0 \ ∅) fun d => (n.sched pay).payload (n.cell c j) 0 d) = pay c j
    rw [Finset.sdiff_empty, n.duties_cell, BI.bigSep_singleton, n.payload_cell])) $$ Hpay
  iexact Hp

end Rules

/-! ### The launch -/

/-- The counters of a core, as semaphore cells. -/
def own : Finset (SemLoc sig) := Finset.univ.map ⟨fun k : n.K => SemLoc.dma (n.sem k), fun a b h => by injection h with h'; exact n.inj h'⟩

/-- The scoped semaphore cells of a core the kernel does not use. -/
def idle (c : Dev nD) : sProp (MT nD τ sig Unit Val ℕ (UU nD τ sig) ℕ) :=
  bigSep ((Finset.univ.filter fun sm : SemLoc sig => sm.isScoped .tc) \ n.own) fun sm => semVal ((c.tc : Thread nD τ), sm) 0

variable (hs : ∀ k, (SemLoc.dma (n.sem k) : SemLoc sig).isScoped .tc = true)
include hs

theorem own_scoped : n.own ⊆ Finset.univ.filter fun sm : SemLoc sig => sm.isScoped .tc := fun sm h => by
  obtain ⟨k, -, rfl⟩ := Finset.mem_map.mp h
  exact Finset.mem_filter.mpr ⟨Finset.mem_univ _, hs k⟩

/-- A core's scoped cells at zero are the kernel's counters and the idle cells. -/
theorem scoped_eq (c : Dev nD) : (scopedSems0 (c.tc : Thread nD τ) : sProp 𝕄)
    = iprop((bigSep Finset.univ (n.shut c)) ∗ n.idle c) := by
  have h := bigSep_sdiff_split (Φ := fun sm : SemLoc sig => (semVal ((c.tc : Thread nD τ), sm) 0 : sProp 𝕄)) (n.own_scoped hs)
  rw [show (scopedSems0 (c.tc : Thread nD τ) : sProp 𝕄) = _ from scopedSems0_tc c, h]
  unfold own
  rw [BI.bigSep_map]
  rfl

omit hs

/-- The cells of the protocol. -/
def cells : Finset (GSem nD τ sig) :=
  Finset.univ.map ⟨fun x : Dev nD × n.K => n.cell x.1 x.2, fun x y h => Prod.ext (n.cell_inj h).1 (n.cell_inj h).2⟩

/-- The contributions of the protocol. -/
def gifts : Finset (GSem nD τ sig × ℕ × Unit) :=
  Finset.univ.map ⟨fun x : Dev nD × n.K => (n.cell (n.tgt x.2 x.1) x.2, 0, ()), fun x y h => by
    obtain ⟨h1, h2⟩ := n.cell_inj (Prod.ext_iff.mp h).1
    rcases x with ⟨x1, x2⟩
    rcases y with ⟨y1, y2⟩
    dsimp only at h1 h2
    subst h2
    rw [(n.tgt x2).injective h1]⟩

/-- The ghost state at launch, beside the pipelines'. -/
def seed (e : UR sig nD τ) : UU nD τ sig := (e, initOf n.cells n.gifts)

/-- What a core holds of the protocol when it starts. -/
def role (c : Dev nD) : sProp (MT nD τ sig Unit Val ℕ (UU nD τ sig) ℕ) :=
  iprop((∃ κ, n.known pay κ) ∗ bigSep Finset.univ (n.turn c) ∗ bigSep Finset.univ (n.tok c))

theorem role_lev (c : Dev nD) : (n.role pay c : sProp 𝕄) ⊢ levAts idx n.lev := by
  unfold role
  iintro ⟨⟨%κ, HK⟩, -, -⟩
  iapply (n.known_lev pay κ)
  iexact HK

theorem fund [∀ c k, Storable (upEmb : UEmb _ 𝕄) (pay c k)] (e : UR sig nD τ) :
    iprop((bigSep Finset.univ fun c : Dev nD => bigSep Finset.univ (n.shut c)) ∗ levAts idx n.lev ∗ ownU (n.seed e : UU nD τ sig))
      ⊢ iprop(|={Set.univ}=> (BI.own (embL e) ∗ bigSep Finset.univ fun c : Dev nD => n.role pay c)) := by
  have hX (Φ : GSem nD τ sig → sProp (MT nD τ sig Unit Val ℕ (UU nD τ sig) ℕ)) :
      bigSep n.cells Φ = bigSep Finset.univ fun x : Dev nD × n.K => Φ (n.cell x.1 x.2) := by
    unfold cells; rw [BI.bigSep_map]; rfl
  have hT : bigSep n.gifts (fun x => (dutyTok embR x.1 x.2.1 x.2.2 : sProp 𝕄))
      = bigSep Finset.univ fun c : Dev nD => bigSep Finset.univ fun k => n.tok c k := by
    unfold gifts; rw [BI.bigSep_map, BI.bigSep_univ_prod]; rfl
  have hZ : (bigSep Finset.univ fun c : Dev nD => bigSep Finset.univ fun k => (n.shut c k : sProp 𝕄))
      = bigSep Finset.univ fun x : Dev nD × n.K => semVal (n.cell x.1 x.2) 0 := by
    rw [BI.bigSep_univ_prod]; rfl
  unfold seed
  iintro ⟨Hz, Hlev, Hu⟩
  ihave Hu' := (ownU_pair e (initOf n.cells n.gifts : UR sig nD τ)) $$ Hu
  icases Hu' with ⟨He, Hu⟩
  imod (Rounds.fund embR (n.sched pay) n.cells n.gifts) $$ Hu with ⟨Hst, Hr, Hat, Htok⟩
  ihave Hst' := (Entails.of_eq (hX fun g => roundState embR (n.sched pay) g 0)) $$ Hst
  ihave Hr' := (Entails.of_eq (hX fun g => reached embR g 0)) $$ Hr
  ihave Hat' := (Entails.of_eq ((hX fun g => atPos embR g 0 ∅ 0).trans (BI.bigSep_univ_prod _))) $$ Hat
  ihave Htok' := (Entails.of_eq hT) $$ Htok
  ihave Hz' := (Entails.of_eq hZ) $$ Hz
  imod (show iprop((bigSep Finset.univ fun x : Dev nD × n.K => (semVal (n.cell x.1 x.2) 0 : sProp 𝕄))
        ∗ bigSep Finset.univ fun x : Dev nD × n.K => roundState embR (n.sched pay) (n.cell x.1 x.2) 0)
      ⊢ (|={Set.univ}=> bigSep Finset.univ fun x : Dev nD × n.K => iprop(∃ ι : ℕ, cellInv embR (n.sched pay) ι (n.cell x.1 x.2)) : sProp 𝕄) from by
        rw [← bigSep_sep']
        exact (bigSep_mono fun x _ => (Rounds.body_intro embR (n.sched pay) (n.cell x.1 x.2)).trans inv_alloc).trans
          (BI.bigSep_fupd _ _)) $$ [Hz' Hst'] with HI
  · isplitl [Hz'] <;> iassumption
  ihave HI := (show (bigSep Finset.univ fun x : Dev nD × n.K => iprop(∃ ι : ℕ, cellInv embR (n.sched pay) ι (n.cell x.1 x.2)))
      ⊢ iprop(∃ κ : Dev nD × n.K → ℕ, bigSep Finset.univ fun x : Dev nD × n.K => cellInv embR (n.sched pay) (κ x) (n.cell x.1 x.2))
    from BI.bigSep_exists_pi Finset.univ fun (x : Dev nD × n.K) (ι : ℕ) => cellInv embR (n.sched pay) ι (n.cell x.1 x.2)) $$ HI
  icases HI with ⟨%κ, #HI⟩
  imodintro
  ihave #HK := (show iprop((bigSep Finset.univ fun x : Dev nD × n.K => cellInv embR (n.sched pay) (κ x) (n.cell x.1 x.2))
      ∗ (bigSep Finset.univ fun x : Dev nD × n.K => (reached embR (n.cell x.1 x.2 : GSem nD τ sig) 0 : sProp 𝕄)) ∗ levAts idx n.lev)
      ⊢ n.known pay κ from .rfl) $$ [HI Hr' Hlev]
  · isplitr; · iexact HI
    isplitl [Hr'] <;> iassumption
  isplitl [He]; · iexact He
  unfold role
  simp only [bigSep_sep']
  isplitr
  · iapply (bigSep_of_persistent (Finset.univ : Finset (Dev nD)) iprop(∃ κ, n.known pay κ))
    iexists κ; iexact HK
  isplitl [Hat']
  · iexact Hat'
  · iexact Htok'

include hs

/-- The whole run of @main with the kernel first: `mem` is what the cores' arrays are dealt as, `fin` what the
    kernel leaves, `fin'` what @main leaves. -/
theorem run {Λ₀ : Labels} {P : Type} [Fintype P] [DecidableEq P] [∀ e, Nonempty (Val e)]
    [∀ c k, Storable (upEmb : UEmb _ 𝕄) (pay c k)]
    (pcs : P → PCfg sig Λ₀ Val) (a : (p : P) → (pcs p).Adm) (p : P) (defs₀ : Defs nD τ sig Val Λ₀) (𝒱₀ : Variants)
    [IsEmpty (Fin (pin pcs a p).W)] [IsEmpty (Fin (pcs p).pre.K)] (hN : (pin pcs a p).N = 1)
    (phinj : Function.Injective (cellOf (nD := nD) (τ := τ) (pin pcs a)))
    (rest : Dev nD → Prog (TpuEff nD τ sig Val (Sig Λ₀ P fun p => (pcs p).Adm) Proc.tc) PUnit)
    (m : (ℓ : Loc nD τ sig) → Buf Val ℓ) (g : Dev nD → PrngReg)
    (hscoped : ∀ sm : SemLoc sig, sm.isScoped .tc = true)
    (mem fin fin' : Dev nD → sProp 𝕄)
    (hmem : (bigSep Finset.univ fun c : Dev nD => unscopedBufs c (fun b => m ((c.tc : Thread nD τ).loc b)))
      ⊢ bigSep Finset.univ mem)
    (hbody : ∀ (c : Dev nD) (t : Fin (pin pcs a p).N) (κ : Dev nD × n.K → ℕ),
      iprop(n.known pay κ ∗ bigSep Finset.univ (n.turn c) ∗ bigSep Finset.univ (n.tok c) ∗ bigSepL n.far (n.due1 c)
          ∗ n.owes' c n.far ∗ mem c)
        ⊢ wp frame (wpE defs₀ 𝒱₀ (c.tc : Thread nD τ) none) Set.univ
            (defs₀ .tc (pin pcs a p).body ((pin pcs a p).bodyArgs t ((pin pcs a p).slots t)))
            fun _ => iprop(fin c ∗ bigSep Finset.univ (n.shut c) ∗ n.owes' c []))
    (hrest : ∀ c, iprop(fin c ∗ boundary (c.tc : Thread nD τ) ∗ (levAts idx n.lev ∗ ghostOn pcs a embL Finset.univ c)
        ∗ ∃ W, owes (c.tc : Thread nD τ) 0 W)
      ⊢ wp frame (wpE (Pipeline.defs pcs defs₀) (Variants.lift 𝒱₀) (c.tc : Thread nD τ) none) Set.univ (rest c)
          fun _ => iprop(fin' c ∗ scopedSems0 (c.tc : Thread nD τ) ∗ ∃ W, owes (c.tc : Thread nD τ) 0 W))
    (QY : Dev nD → MemSt nD τ sig Val → Prop)
    (hread : ∀ c (s' : Phys nD τ sig Val), iprop(fin' c ∗ SI s') ⊢ |={Set.univ}=> iprop(⌜QY c s'.mem⌝ ∗ SI s')) :
    θ_run (Pipeline.defs pcs defs₀) (onTc fun c => .op (.customCall (entry p) ()) fun _ => rest c) ⟨m, fun _ => 0, g⟩
      (fun r => (∀ c, QY c r.2) ∧ r.2.sem = fun _ => 0) := by
  refine Talk.run (Pipeline.defs pcs defs₀) (Variants.lift 𝒱₀) _ m g hscoped (fun c => n.owed c) idx n.lev idx_off
    (n.seed (initOf (Pipeline.cells (pin pcs a) phinj) (launchToks (pin pcs a) phinj)))
    (fun c => iprop(n.role pay c ∗ bigSepL n.far (n.due1 c) ∗ n.owes' c n.far ∗ n.idle c
      ∗ scopedBufs (c.tc : Thread nD τ) ∗ (opIdle (c.tc : Thread nD τ) ∗ ghostOn pcs a embL Finset.univ c) ∗ mem c)) fin' ?_ (fun c => ?_) QY hread
  · have hd (c : Dev nD) : dealt m g (fun c => n.owed c) c
        ⊢ iprop(bigSep Finset.univ (n.shut c) ∗ unscopedBufs c (fun b => m ((c.tc : Thread nD τ).loc b))
          ∗ bigSepL n.far (n.due1 c) ∗ n.owes' c n.far ∗ n.idle c ∗ scopedBufs (c.tc : Thread nD τ) ∗ opIdle (c.tc : Thread nD τ)) := by
      unfold dealt boundary
      rw [n.scoped_eq hs c]
      iintro ⟨⟨Hsb, ⟨Hz, Hi⟩, Hop⟩, Hub, -, HO, -, Hcr⟩
      isplitl [Hz]; · iexact Hz
      isplitl [Hub]; · iexact Hub
      isplitl [Hcr]; · iapply (n.credits c); iexact Hcr
      isplitl [HO]; · unfold owes' owed; iexists _; iexact HO
      isplitl [Hi]; · iexact Hi
      isplitl [Hsb] <;> iassumption
    have hd' : (bigSep Finset.univ (dealt m g fun c => n.owed c))
        ⊢ iprop((bigSep Finset.univ fun c : Dev nD => bigSep Finset.univ (n.shut c))
          ∗ (bigSep Finset.univ fun c : Dev nD => unscopedBufs c (fun b => m ((c.tc : Thread nD τ).loc b)))
          ∗ (bigSep Finset.univ fun c : Dev nD => bigSepL n.far (n.due1 c))
          ∗ (bigSep Finset.univ fun c : Dev nD => n.owes' c n.far)
          ∗ (bigSep Finset.univ fun c : Dev nD => n.idle c)
          ∗ (bigSep Finset.univ fun c : Dev nD => scopedBufs (c.tc : Thread nD τ))
          ∗ (bigSep Finset.univ fun c : Dev nD => opIdle (c.tc : Thread nD τ))) := by
      simp only [← bigSep_sep']
      exact bigSep_mono fun c _ => hd c
    iintro ⟨Hd, Hlev, Hu⟩
    ihave Hd := hd' $$ Hd
    icases Hd with ⟨Hz, Hub, Hcr, HO, Hi, Hsb, Hop⟩
    imod (n.fund pay _) $$ [Hz Hlev Hu] with ⟨He, HR⟩
    · isplitl [Hz]; · iexact Hz
      isplitl [Hlev] <;> iassumption
    imod (fund_ghost (pin pcs a) embL phinj) $$ He with ⟨Hg, Hg'⟩
    imodintro
    ihave Hg := (show iprop((bigSep Finset.univ fun c : Dev nD => bigSep Finset.univ fun p' => (cellsGhost (pin pcs a) embL p' c : sProp 𝕄))
        ∗ bigSep Finset.univ fun c : Dev nD => bigSep Finset.univ fun p' => (toksInit (pin pcs a) embL p' c : sProp 𝕄))
        ⊢ bigSep Finset.univ fun c : Dev nD => ghostOn pcs a embL Finset.univ c from Entails.of_eq (by
      rw [← bigSep_sep']
      refine bigSep_congr fun c _ => ?_
      rw [← bigSep_sep']
      rfl)) $$ [Hg Hg']
    · isplitl [Hg] <;> iassumption
    simp only [bigSep_sep']
    isplitl [HR]; · iexact HR
    isplitl [Hcr]; · iexact Hcr
    isplitl [HO]; · iexact HO
    isplitl [Hi]; · iexact Hi
    isplitl [Hsb]; · iexact Hsb
    isplitl [Hop Hg]
    · isplitl [Hop]; · iexact Hop
      iexact Hg
    iapply hmem; iexact Hub
  · refine (show _ ⊢ _ from ?_).trans (wp_region pcs a p defs₀ 𝒱₀ hN phinj
      (fun c => iprop(n.role pay c ∗ bigSepL n.far (n.due1 c) ∗ n.idle c ∗ mem c)) fin (fun c => n.owed c) (fun c t => ?_) c (fun _ => rest c) _)
    · iintro ⟨HR, Hcr, HO, Hi, Hsb, ⟨Hop, Hg⟩, Hm⟩
      ihave #Hlev := (n.role_lev pay c) $$ HR
      isplitr [Hop Hg]
      · isplitl [HR Hcr Hi Hm]
        · isplitl [HR]; · iexact HR
          isplitl [Hcr]; · iexact Hcr
          isplitl [Hi] <;> iassumption
        isplitl [Hsb]; · iexact Hsb
        unfold owes' owed; iexact HO
      · iintro ⟨Hf, Hss, Hsb, HO⟩
        iapply (hrest c)
        unfold boundary
        isplitl [Hf]; · iexact Hf
        isplitl [Hsb Hss Hop]
        · isplitl [Hsb]; · iexact Hsb
          isplitl [Hss] <;> iassumption
        isplitl [Hg]
        · isplitr; · iexact Hlev
          iexact Hg
        iexact HO
    · have hb (κ : Dev nD × n.K → ℕ) := (sep_mono_left (Q := n.idle c) (hbody c t κ)).trans ((wp_frame_r _ _ _).trans (wp_mono _ _ _ fun _ => (show
          iprop((fin c ∗ bigSep Finset.univ (n.shut c) ∗ n.owes' c []) ∗ n.idle c)
            ⊢ iprop(fin c ∗ scopedSems0 (c.tc : Thread nD τ) ∗ ∃ W, owes (c.tc : Thread nD τ) 0 W) from by
        rw [n.scoped_eq hs c]
        iintro ⟨⟨Hf, Hz, HO⟩, Hi⟩
        isplitl [Hf]; · iexact Hf
        isplitl [Hz Hi]; · isplitl [Hz] <;> iassumption
        unfold owes'; iexact HO)))
      unfold role
      iintro ⟨⟨⟨⟨%κ, HK⟩, Ht, Htk⟩, Hcr, Hi, Hm⟩, HO⟩
      iapply (hb κ)
      isplitr [Hi]
      · isplitl [HK]; · iexact HK
        isplitl [Ht]; · iexact Ht
        isplitl [Htk]; · iexact Htk
        isplitl [Hcr]; · iexact Hcr
        isplitl [HO]; · unfold owes' owed; iexact HO
        iexact Hm
      · iexact Hi

end Net
end Cert.Talk
end
-- ==== Proof.Slots.lean ====
/-
Buffers of eight slots, and the transfers between slots.

A buffer of shape `[8, R, C]` is eight slots of shape `[R, C]`; a kernel names slot `i` by slicing at the offsets
`![i, 0, 0]` and dropping the leading axis. Owning the buffer is owning its eight slots. The rules for a local copy
and for a transfer to a peer are restated with what is owned named by the values the views read, and with the device
that a transfer reaches given up to an equality.
-/
module

public import Idealize.ShloMosaic.Lib.Memref
public import proofs.«01_k».proof.Proof.Net

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

/-! ## Slots -/

abbrev Big (R C : ℕ) : Shape := ⟨3, ![8, R, C]⟩
abbrev One (R C : ℕ) : Shape := ⟨3, ![1, R, C]⟩
abbrev Flat (R C : ℕ) : Shape := ⟨2, ![R, C]⟩

/-- The index of the buffer at row `j 0` and column `j 1` of slot `i`. -/
def at3 {R C : ℕ} (i : Fin 8) (j : (Flat R C).Idx) : (Big R C).Idx :=
  fun a => match a with
    | 0 => i
    | 1 => j 0
    | 2 => j 1

variable {nD : ℕ} {τ : Topo} {sig : RefSig} {Val : EltTy → Type}

local notation "𝕄" => MT nD τ sig Unit Val ℕ (UU nD τ sig) ℕ

/-- The place of an index of the buffer within its slot. -/
def tail {R C : ℕ} (x : (Big R C).Idx) : (Flat R C).Idx := fun b => x b.succ

theorem tail_at3 {R C : ℕ} (i : Fin 8) (j : (Flat R C).Idx) : tail (at3 i j) = j := by
  funext b; fin_cases b <;> rfl

theorem slot_inb (R C : ℕ) (i : Fin 8) : ∀ a, (![i.val, 0, 0] : Fin 3 → ℕ) a + (One R C).size a ≤ (Big R C).size a := by
  intro a; fin_cases a <;> simp <;> omega

/-- The slot of `M` at the offsets `off`. -/
abbrev slotAt {κ : Kind} {sp : Space} {e : EltTy} {R C : ℕ} (M : Memref sig κ sp (Big R C) e) (off : Fin 3 → ℕ)
    (hi : ∀ a, off a + (One R C).size a ≤ (Big R C).size a) (hq : (One R C).Squeezes (Flat R C)) :
    Memref sig κ sp (Flat R C) e :=
  (M.slice (Rect.unit (s := Big R C) off (One R C).size hi) (fun _ => rfl)).squeeze (Flat R C) hq

theorem slot_emb {R C : ℕ} (i : Fin 8) (hq : (One R C).Squeezes (Flat R C)) (j : (Flat R C).Idx) :
    (Rect.unit (s := Big R C) ![i.val, 0, 0] (One R C).size (slot_inb R C i)).emb (Shape.reshapeEquiv hq.numel_eq j)
      = at3 i j := by
  have h : Shape.reshapeEquiv hq.numel_eq j = Fin.cons ⟨0, Nat.one_pos⟩ j := Shape.reshapeEquiv_cons_one (d := ![R, C]) _ j
  rw [h]
  funext a
  apply Fin.ext
  rw [Rect.emb_apply]
  fin_cases a
  · exact (show i.val + 1 * 0 = i.val by omega)
  · exact (show 0 + 1 * (j 0).val = (j 0).val by omega)
  · exact (show 0 + 1 * (j 1).val = (j 1).val by omega)

section Own

variable (c : Thread nD τ) {sp : Space} {e : EltTy} {R C : ℕ} (M : Memref sig c.2.kind sp (Big R C) e) (q : PosShare TreeShare)
  (hq : (One R C).Squeezes (Flat R C))

/-- Core `c` owns slot `i` of `M` at share `q` and reads `X` there. -/
def ownsSlot (i : Fin 8) (X : (Flat R C).Idx → Val e) : sProp 𝕄 :=
  owns c (slotAt M ![i.val, 0, 0] (slot_inb R C i) hq) q X

instance (i : Fin 8) (X : (Flat R C).Idx → Val e) : Storable (upEmb : UEmb _ 𝕄) (ownsSlot c M q hq i X) := by
  unfold ownsSlot; infer_instance

/-- The slot at offsets that are those of slot `i`. -/
theorem owns_slotAt {off : Fin 3 → ℕ} {i : Fin 8} (ho : off = ![i.val, 0, 0]) (hi) (X : (Flat R C).Idx → Val e) :
    (owns c (slotAt M off hi hq) q X : sProp 𝕄) = ownsSlot c M q hq i X := by
  subst ho; rfl

theorem owns_squeeze {s s' : Shape} (m : Memref sig c.2.kind sp s e) (h : s.Squeezes s') (X : s.Idx → Val e) :
    (owns c (m.squeeze s' h) q (fun j => X (Shape.reshapeEquiv h.numel_eq j)) : sProp 𝕄) = owns c m q X := by
  unfold owns
  rw [Memref.set_view_squeeze]
  have hr (f : m.view.ty.Contents Val) :
      ((m.squeeze s' h).view.read Val f = fun j => X (Shape.reshapeEquiv h.numel_eq j)) ↔ m.view.read Val f = X := by
    constructor
    · intro hf
      funext j
      have := congrFun hf ((Shape.reshapeEquiv h.numel_eq).symm j)
      simp only [Equiv.apply_symm_apply] at this
      rw [← this]
      show _ = m.view.read Val f (Shape.reshapeEquiv h.numel_eq ((Shape.reshapeEquiv h.numel_eq).symm j))
      rw [Equiv.apply_symm_apply]
    · rintro rfl; rfl
  simp only [hr]

theorem slots_disjoint (R C : ℕ) (i i' : Fin 8) (h : i ≠ i') :
    Disjoint (Rect.unit (s := Big R C) ![i.val, 0, 0] (One R C).size (slot_inb R C i)).set
      (Rect.unit (s := Big R C) ![i'.val, 0, 0] (One R C).size (slot_inb R C i')).set := by
  have hq : ∀ i : Fin 8, ∀ x ∈ (Rect.unit (s := Big R C) ![i.val, 0, 0] (One R C).size (slot_inb R C i)).set, (x 0).val = i.val := by
    intro i x hx
    rw [← Rect.map_emb_univ, Finset.mem_map] at hx
    obtain ⟨y, -, rfl⟩ := hx
    rw [Rect.emb_apply]
    have : (y 0).val < 1 := (y 0).isLt
    simp only [Rect.unit, Matrix.cons_val_zero]
    omega
  refine Finset.disjoint_left.2 fun x hx hx' => h (Fin.ext ((hq i x hx).symm.trans (hq i' x hx')))

theorem slots_cover (R C : ℕ) (hq : (One R C).Squeezes (Flat R C)) :
    (Finset.univ : Finset (Fin 8)).biUnion (fun i => (Rect.unit (s := Big R C) ![i.val, 0, 0] (One R C).size (slot_inb R C i)).set)
      = Finset.univ := by
  refine Finset.eq_univ_of_forall fun x => Finset.mem_biUnion.2 ⟨x 0, Finset.mem_univ _, ?_⟩
  rw [← Rect.map_emb_univ, Finset.mem_map]
  refine ⟨Shape.reshapeEquiv hq.numel_eq (fun b => x b.succ), Finset.mem_univ _, ?_⟩
  refine (slot_emb (x 0) hq (fun b => x b.succ)).trans ?_
  funext a
  fin_cases a <;> rfl

/-- Owning the buffer is owning its slots. -/
theorem owns_slots [∀ e, Nonempty (Val e)] (X : (Big R C).Idx → Val e) :
    (owns c M q X : sProp 𝕄) = bigSep Finset.univ fun i : Fin 8 => ownsSlot c M q hq i (fun j => X (at3 i j)) := by
  have h (i : Fin 8) : (ownsSlot c M q hq i (fun j => X (at3 i j)) : sProp 𝕄)
      = owns c (M.slice (Rect.unit (s := Big R C) ![i.val, 0, 0] (One R C).size (slot_inb R C i)) (fun _ => rfl)) q
          (fun j => X ((Rect.unit (s := Big R C) ![i.val, 0, 0] (One R C).size (slot_inb R C i)).emb j)) := by
    rw [← owns_squeeze c q _ hq]
    unfold ownsSlot
    congr 1
    funext j
    rw [slot_emb i hq j]
  rw [bigSep_congr (fun i _ => h i)]
  exact BI.equiv_iff.mp ⟨owns_rects c M q _ (fun _ _ => rfl) (fun i i' h => slots_disjoint R C i i' h) (slots_cover R C hq) X,
    owns_of_rects c M q _ (fun _ _ => rfl) (fun i i' h => slots_disjoint R C i i' h) (slots_cover R C hq) X⟩

end Own

/-! ## Whole buffers -/

theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1), bigSep_univ_equiv (Equiv.prodComm B A)]
  rfl

section Whole

variable (c : Dev nD) (b : Ref sig .tc) (X : b.ty.Contents Val)

/-- The buffer `b` of device `c`, whole, at contents `X`. -/
def pts : sProp 𝕄 := iprop((c.tc : Thread nD τ).loc b ↦{fullShare} (X : Buf Val ((c.tc : Thread nD τ).loc b)))

theorem owns_pts : (owns (c.tc : Thread nD τ) (Memref.whole b) fullShare X : sProp 𝕄) = pts c b X := by
  rw [owns_whole_eq]
  have h₁ : (iprop(∃ f : Buf Val ((c.tc : Thread nD τ).loc b), ⌜f = X⌝ ∗ ((c.tc : Thread nD τ).loc b ↦{fullShare} f)) : sProp 𝕄) ⊢ pts c b X := by
    unfold pts
    iintro ⟨%f, %hf, H⟩
    subst hf
    iexact H
  have h₂ : (pts c b X : sProp 𝕄) ⊢ iprop(∃ f : Buf Val ((c.tc : Thread nD τ).loc b), ⌜f = X⌝ ∗ ((c.tc : Thread nD τ).loc b ↦{fullShare} f)) := by
    unfold pts
    iintro H
    iexists X
    isplitr; · ipureintro; rfl
    iexact H
  exact BI.equiv_iff.mp ⟨h₁, h₂⟩

theorem pts_read (s : Phys nD τ sig Val) :
    iprop(pts c b X ∗ SI s) ⊢ (iprop(⌜s.mem.mem ((c.tc : Thread nD τ).loc b) = X⌝ ∗ SI s) : sProp 𝕄) := by
  unfold pts
  iintro ⟨H, HS⟩
  icombine HS H gives %h
  isplitr; swap; · iexact HS
  ipureintro
  exact funext fun i => h i (Finset.mem_univ i)

end Whole

/-! ## The transfers, on owned views -/

namespace Net

variable (n : Net nD sig) (pay : Dev nD → n.K → sProp (MT nD τ sig Unit Val ℕ (UU nD τ sig) ℕ))
  {Λ : Labels} {𝔻 : Defs nD τ sig Val Λ} (𝕍 : Variants) {α : Type} {Q : α → sProp (MT nD τ sig Unit Val ℕ (UU nD τ sig) ℕ)}
  (κ : Dev nD × n.K → ℕ) {sp sp' : Space} {s : Shape} {e : EltTy}

/-- A local copy. -/
theorem copy_owns (c : Dev nD) (j : n.K) (hj : n.tgt j c = c)
    {src : Memref sig (Proc.tc : Proc τ).kind sp s e} {dst : Memref sig (Proc.tc : Proc τ).kind sp' s e}
    {hsrc : src.view.WordExact} {hdst : dst.view.WordExact}
    {hsem : DmaTarget.Typed (nD := nD) (τ := τ) sp (.dma (n.sem j)) (.here dst)}
    {k : PUnit → Prog (TpuEff nD τ sig Val Λ .tc) α} {q : PosShare TreeShare} {X Y : s.Idx → Val e}
    (hN : dst.view.dmaCredit = n.N j)
    (hpay : iprop(owns (c.tc : Thread nD τ) dst fullShare X ∗ owns (c.tc : Thread nD τ) src q X) ⊢ pay c j) :
    iprop(n.known pay κ ∗ owns (c.tc : Thread nD τ) src q X ∗ owns (c.tc : Thread nD τ) dst fullShare Y ∗ n.tok c j)
      ⊢ iprop((n.due1 c j -∗ wp frame (wpE 𝔻 𝕍 (c.tc : Thread nD τ) none) Set.univ (k ⟨⟩) Q)
          -∗ wp frame (wpE 𝔻 𝕍 (c.tc : Thread nD τ) none) Set.univ
            (.op (.enqueueDma src (.here dst) (.dma (n.sem j)) hsrc hdst hsem) k) Q) := by
  unfold owns
  iintro ⟨#HK, ⟨%fs, %hs, Hs⟩, ⟨%fd, %hd, Hd⟩, Ht⟩
  iapply (n.copy pay 𝕍 κ c j hj (fs := fs) (fd := fd) (q := q) hN ?_)
  · refine BIBase.Entails.trans ?_ hpay
    unfold owns
    iintro ⟨Hd, Hs⟩
    isplitl [Hd]
    · iexists _
      isplitr; swap; · iexact Hd
      ipureintro; rw [View.read_write_univ, hs]
    · iexists fs
      isplitr; · ipureintro; exact hs
      iexact Hs
  · isplitl []; · iexact HK
    isplitl [Hs]; · iexact Hs
    isplitl [Hd]; · iexact Hd
    iexact Ht

/-- A transfer to the device `d'`. -/
theorem send_owns (c : Dev nD) (i j : n.K) (hi : n.tgt i c = c) (l : List n.K) {d' : Dev nD} (hd' : d' = n.tgt j c)
    {src : Memref sig (Proc.tc : Proc τ).kind sp s e} {dst : Memref sig (Proc.tc : Proc τ).kind sp' s e} {hsc : dst.view.ref.isScScratch = false}
    {hsrc : src.view.WordExact} {hdst : dst.view.WordExact}
    {hsem : DmaTarget.Typed sp (.dma (n.sem j)) (.remote (d'.tc : Thread nD τ) dst (.dma (n.sem i)) hsc)}
    {k : PUnit → Prog (TpuEff nD τ sig Val Λ .tc) α} {q : PosShare TreeShare} {X Y : s.Idx → Val e}
    (hN : dst.view.dmaCredit = n.N j) (hij : n.N i = n.N j)
    (hpay₁ : owns (c.tc : Thread nD τ) src q X ⊢ pay c i)
    (hpay₂ : owns ((n.tgt j c).tc : Thread nD τ) dst fullShare X ⊢ pay (n.tgt j c) j) :
    iprop(n.known pay κ ∗ owns (c.tc : Thread nD τ) src q X ∗ owns (d'.tc : Thread nD τ) dst fullShare Y
        ∗ n.owes' c (j :: l) ∗ n.tok c i ∗ n.tok c j)
      ⊢ iprop(((n.due1 c i ∗ n.owes' c l) -∗ wp frame (wpE 𝔻 𝕍 (c.tc : Thread nD τ) none) Set.univ (k ⟨⟩) Q)
          -∗ wp frame (wpE 𝔻 𝕍 (c.tc : Thread nD τ) none) Set.univ
            (.op (.enqueueDma src (.remote (d'.tc : Thread nD τ) dst (.dma (n.sem i)) hsc) (.dma (n.sem j)) hsrc hdst hsem) k) Q) := by
  subst hd'
  unfold owns
  iintro ⟨#HK, ⟨%fs, %hs, Hs⟩, ⟨%fd, %hd, Hd⟩, Ho, Hi, Hj⟩
  iapply (n.send pay 𝕍 κ c i j hi l (fs := fs) (fd := fd) (q := q) hN hij ?_ ?_)
  · refine BIBase.Entails.trans ?_ hpay₁
    unfold owns
    iintro Hs
    iexists fs
    isplitr; · ipureintro; exact hs
    iexact Hs
  · refine BIBase.Entails.trans ?_ hpay₂
    unfold owns
    iintro Hd
    iexists _
    isplitr; swap; · iexact Hd
    ipureintro; rw [View.read_write_univ, hs]
  · isplitl []; · iexact HK
    isplitl [Hs]; · iexact Hs
    isplitl [Hd]; · iexact Hd
    isplitl [Ho]; · iexact Ho
    isplitl [Hi]; · iexact Hi
    iexact Hj

end Net

/-! ## Runs of operations -/

section Ops

variable {Λ : Labels} {𝔻 : Defs nD τ sig Val Λ} (𝕍 : Variants) {α : Type} {Q : α → sProp (MT nD τ sig Unit Val ℕ (UU nD τ sig) ℕ)}
  (c : Dev nD) {ι : Type}

/-- The operations `op x` for the members `x` of a list, in order, and then `k`. -/
def runOps (op : ι → TpuEff nD τ sig Val Λ .tc PUnit) (l : List ι) (k : Prog (TpuEff nD τ sig Val Λ .tc) α) :
    Prog (TpuEff nD τ sig Val Λ .tc) α :=
  l.foldr (fun x p => .op (op x) fun _ => p) k

/-- Each operation turns its own part `A x` into `B x`, and a part `O` that all share from the operations ahead of
    it to those after it. -/
theorem wp_runOps (op : ι → TpuEff nD τ sig Val Λ .tc PUnit)
    (K : sProp (MT nD τ sig Unit Val ℕ (UU nD τ sig) ℕ)) [BI.Persistent K]
    (A B : ι → sProp (MT nD τ sig Unit Val ℕ (UU nD τ sig) ℕ)) (O : List ι → sProp (MT nD τ sig Unit Val ℕ (UU nD τ sig) ℕ))
    (hstep : ∀ x l (k : PUnit → Prog (TpuEff nD τ sig Val Λ .tc) α), iprop(K ∗ A x ∗ O (x :: l))
      ⊢ iprop(((B x ∗ O l) -∗ wp frame (wpE 𝔻 𝕍 (c.tc : Thread nD τ) none) Set.univ (k ⟨⟩) Q)
          -∗ wp frame (wpE 𝔻 𝕍 (c.tc : Thread nD τ) none) Set.univ (.op (op x) k) Q))
    (l : List ι) (k : Prog (TpuEff nD τ sig Val Λ .tc) α) :
    iprop(K ∗ bigSepL l A ∗ O l)
      ⊢ iprop(((bigSepL l B ∗ O []) -∗ wp frame (wpE 𝔻 𝕍 (c.tc : Thread nD τ) none) Set.univ k Q)
          -∗ wp frame (wpE 𝔻 𝕍 (c.tc : Thread nD τ) none) Set.univ (runOps op l k) Q) := by
  induction l with
  | nil =>
    iintro ⟨#HK, HA, HO⟩ Hk
    iapply Hk
    isplitl [HA]; · iexact HA
    iexact HO
  | cons x l ih =>
    rw [bigSepL_cons', bigSepL_cons', show runOps op (x :: l) k = .op (op x) fun _ => runOps op l k from rfl]
    iintro ⟨#HK, ⟨Hx, HA⟩, HO⟩ Hk
    iapply (hstep x l (fun _ => runOps op l k)) $$ [Hx HO]
    · isplitl []; · iexact HK
      isplitl [Hx]; · iexact Hx
      iexact HO
    iintro ⟨Hb, HO⟩
    iapply ih $$ [HA HO]
    · isplitl []; · iexact HK
      isplitl [HA]; · iexact HA
      iexact HO
    iintro ⟨HB, HO⟩
    iapply Hk
    isplitl [Hb HB]
    · isplitl [Hb]; · iexact Hb
      iexact HB
    iexact HO

end Ops

end Cert.Talk

end
-- ==== Proof.Peers.lean ====
/-
The partners of a device among eight: device `c` at distance `k` from it is `c` with the bits of `k` flipped.
-/
module

public import proofs.«01_k».proof.Proof.Slots

@[expose] public section

set_option Elab.async false

namespace Cert.Talk

/-- The device at distance `k`. -/
def flip (k c : Fin 8) : Fin 8 := ⟨(c.val ^^^ k.val) % 8, Nat.mod_lt _ (by omega)⟩

theorem flip_flip : ∀ k c : Fin 8, flip k (flip k c) = c := by decide
theorem flip_zero : ∀ c : Fin 8, flip 0 c = c := by decide
theorem flip_dist : ∀ c i : Fin 8, flip (flip c i) c = i := by decide
theorem flip_comm : ∀ k c : Fin 8, flip k c = flip c k := by decide

/-- Flipping the bits of `k`, as a permutation of the devices. -/
def flipP (k : Fin 8) : Equiv.Perm (Fin 8) := ⟨flip k, flip k, flip_flip k, flip_flip k⟩

/-- The distances from `c`, as a renaming of the devices. -/
def distP (c : Fin 8) : Equiv.Perm (Fin 8) := ⟨fun k => flip k c, fun i => flip c i,
  fun k => by revert c k; decide, fun i => by revert c i; decide⟩

end Cert.Talk
-- ==== Proof.Gather.lean ====
/-
The gathering kernel, for any shape of a part.

Eight devices each hold a part of shape `[R, C]` and end with the eight parts in the slots of a buffer of shape
`[8, R, C]`. A device copies its part into its own slot and sends it to four peers; three of the parts that arrive
it sends on to the peer at distance 1. `Plan` names what the two instances of the kernel differ in, `Plan.ops` is the
kernel's operations, and `Plan.run` is its run.
-/
module

public import Idealize.ShloMosaic.Lib.MemrefSat
public import proofs.«01_k».proof.Proof.Peers

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

namespace Gather

/-- A counter for each part sent, for each part sent on, and for each arrival (0: the copy that stays). -/
abbrev K : Type := Fin 4 ⊕ Fin 3 ⊕ Fin 8

abbrev call (r : Fin 4) : K := .inl r
abbrev relay (r : Fin 3) : K := .inr (.inl r)
abbrev arr (k : Fin 8) : K := .inr (.inr k)

/-- The arrival that part sent `r` makes at the peer. -/
def ofCall (r : Fin 4) : Fin 8 := (r.castLE (by omega : 4 ≤ 7)).succ
/-- The arrival that part sent on `r` makes at the peer. -/
def ofRelay (r : Fin 3) : Fin 8 := (r.natAdd 4 : Fin 7).succ
/-- The arrival that is sent on as `r`. -/
def from_ (r : Fin 3) : Fin 8 := ((r.natAdd 1).castLE (by omega : 4 ≤ 7)).succ

/-- How far arrival `k` comes in one transfer. -/
def hop : Fin 8 → Fin 8 := ![0, 1, 4, 2, 6, 1, 1, 1]
/-- The distance, from the device it arrives at, of the device whose part arrival `k` is. -/
def dist : Fin 8 → Fin 8 := ![0, 1, 4, 2, 6, 5, 3, 7]
/-- The distance of that device from the one that sends. -/
def via : Fin 8 → Fin 8 := ![0, 0, 0, 0, 0, 4, 2, 6]

theorem flip_via : ∀ k c : Fin 8, flip (dist k) (flip (hop k) c) = flip (via k) c := by decide
theorem flip_ofCall : ∀ (r : Fin 4) (c : Fin 8), flip (dist (ofCall r)) (flip (hop (ofCall r)) c) = c := by decide
theorem via_ofCall : ∀ (r : Fin 4) (c : Fin 8), flip (via (ofCall r)) c = c := by decide
theorem via_ofRelay : ∀ (r : Fin 3), via (ofRelay r) = dist (from_ r) := by decide

/-- The slots in the order of the arrivals, as a renaming of the devices. -/
def slotP (c : Fin 8) : Equiv.Perm (Fin 8) := Equiv.ofBijective (fun k => flip (dist k) c) (by revert c; decide)

/-- The parts to be sent on are waited for while parts are still to be sent. -/
def lvl : K → ℕ
  | .inl _ => 0
  | .inr (.inl _) => 0
  | .inr (.inr k) => if k.val < 5 then 1 else 2

/-- What is left of the transfers that reach peers, after those of the device's own part. -/
abbrev later : List K := [arr (ofRelay 0), arr (ofRelay 1), arr (ofRelay 2)]

theorem lvl_later : ∀ r : Fin 3, ∀ k' ∈ later, lvl (arr (from_ r)) < lvl k' := by decide

def far : List K := [arr 1, arr 2, arr 3, arr 4, arr 5, arr 6, arr 7]

/-- The counters in the order in which the last of them are waited for. -/
def lasts : List K := [arr 1, arr 5, arr 6, arr 7, call 0, call 1, call 2, call 3, relay 0, relay 1, relay 2, arr 0]

end Gather

open Gather

/-- What the instances of the kernel differ in. -/
structure Plan (sig : RefSig) (R C : ℕ) where
  inM : Memref sig .tc .hbm (Flat R C) .bf16
  outM : Memref sig .tc .hbm (Big R C) .bf16
  hq : (One R C).Squeezes (Flat R C)
  sem : K → DmaSem sig
  inj : Function.Injective sem
  own : ∀ k, (SemLoc.dma (sem k)).isScoped .tc = true
  inExact : inM.view.WordExact
  outExact : ∀ (i : Fin 8) {o : Fin 3 → ℕ} (ho : o = ![i.val, 0, 0]) (h), (slotAt outM o h hq).view.WordExact
  scratch : ∀ {o : Fin 3 → ℕ} (h), (slotAt outM o h hq).view.ref.isScScratch = false
  pos : 0 < (slotAt outM ![0, 0, 0] (slot_inb R C 0) hq).view.dmaCredit
  credit : inM.view.dmaCredit = (slotAt outM ![0, 0, 0] (slot_inb R C 0) hq).view.dmaCredit
  off : Fin 8 → Fin 8 → Fin 3 → ℕ
  off_eq : ∀ k c, off k c = ![(flip (dist k) c).val, 0, 0]
  devC : Fin 4 → Fin 8 → ℕ
  devC_eq : ∀ r c, devC r c = (flip (hop (ofCall r)) c).val
  devR : Fin 3 → Fin 8 → ℕ
  devR_eq : ∀ r c, devR r c = (flip (hop (ofRelay r)) c).val

namespace Plan

variable {sig : RefSig} {R C : ℕ} (P : Plan sig R C)

theorem off_at (k : Fin 8) (c i : Fin 8) (hi : i = flip (dist k) c) : P.off k c = ![i.val, 0, 0] := by
  subst hi; exact P.off_eq k c
theorem off_inb (k c : Fin 8) : ∀ a, P.off k c a + (One R C).size a ≤ (Big R C).size a := by
  rw [P.off_eq]; exact slot_inb _ _ _
theorem devC_lt (r : Fin 4) (c : Fin 8) : P.devC r c < 8 := by rw [P.devC_eq]; exact Fin.isLt _
theorem devR_lt (r : Fin 3) (c : Fin 8) : P.devR r c < 8 := by rw [P.devR_eq]; exact Fin.isLt _

abbrev toC (r : Fin 4) (c : Fin 8) : Dev 8 := ⟨P.devC r c, P.devC_lt r c⟩
abbrev toR (r : Fin 3) (c : Fin 8) : Dev 8 := ⟨P.devR r c, P.devR_lt r c⟩

/-- The slot that arrival `k` fills on device `c`. -/
abbrev slot (k c : Fin 8) : Memref sig .tc .hbm (Flat R C) .bf16 := slotAt P.outM (P.off k c) (P.off_inb k c) P.hq

theorem slot_exact (k c : Fin 8) : (P.slot k c).view.WordExact := P.outExact _ (P.off_eq k c) _

abbrev net : Net 8 sig where
  K := K
  sem := P.sem
  inj := P.inj
  N _ := (slotAt P.outM ![0, 0, 0] (slot_inb R C 0) P.hq).view.dmaCredit
  pos _ := P.pos
  tgt
    | .inl _ => Equiv.refl _
    | .inr (.inl _) => Equiv.refl _
    | .inr (.inr k) => flipP (hop k)
  far := far
  nodup := by decide
  lvl := lvl

/-! ## The operations -/

section Ops

variable {τ : Topo} {Val : EltTy → Type} {Λ : Labels} (c : Dev 8)

/-- The copy that stays. -/
def keepOp : TpuEff 8 τ sig Val Λ .tc PUnit :=
  .enqueueDma P.inM (.here (P.slot 0 c)) (.dma (P.net.sem (arr 0))) P.inExact (P.slot_exact 0 c) ⟨Or.inl rfl, trivial⟩
/-- The device's part, to a peer. -/
def callOp (r : Fin 4) : TpuEff 8 τ sig Val Λ .tc PUnit :=
  .enqueueDma P.inM (.remote (Dev.tc (P.toC r c)) (P.slot 0 c) (.dma (P.net.sem (call r))) (P.scratch _))
    (.dma (P.net.sem (arr (ofCall r)))) P.inExact (P.slot_exact 0 c) ⟨⟨rfl, Or.inl rfl⟩, trivial⟩
/-- A part that has arrived, to a peer. -/
def relayOp (r : Fin 3) : TpuEff 8 τ sig Val Λ .tc PUnit :=
  .enqueueDma (P.slot (from_ r) c) (.remote (Dev.tc (P.toR r c)) (P.slot (from_ r) c) (.dma (P.net.sem (relay r))) (P.scratch _))
    (.dma (P.net.sem (arr (ofRelay r)))) (P.slot_exact _ c) (P.slot_exact _ c) ⟨⟨rfl, Or.inl rfl⟩, trivial⟩
/-- The waits. -/
def waitOp : K → TpuEff 8 τ sig Val Λ .tc PUnit
  | .inl r => .waitDma2 (P.net.sem (call r)) (P.slot 0 c) P.inM (P.slot_exact 0 c) P.inExact
  | .inr (.inl r) => .waitDma2 (P.net.sem (relay r)) (P.slot (from_ r) c) (P.slot (from_ r) c) (P.slot_exact _ c) (P.slot_exact _ c)
  | .inr (.inr k) => Fin.cases (.waitDma2 (P.net.sem (arr 0)) P.inM (P.slot 0 c) P.inExact (P.slot_exact 0 c))
      (fun r => .waitDma2 (P.net.sem (arr r.succ)) (P.slot r.succ c) (P.slot r.succ c) (P.slot_exact _ c) (P.slot_exact _ c)) k

/-- The kernel's operations. -/
def ops : Prog (TpuEff 8 τ sig Val Λ .tc) PUnit :=
  .op (P.keepOp c) fun _ => runOps (P.callOp c) [0, 1, 2, 3]
    (.op (P.waitOp c (arr (from_ 0))) fun _ => .op (P.relayOp c 0) fun _ =>
      .op (P.waitOp c (arr (from_ 1))) fun _ => .op (P.relayOp c 1) fun _ =>
      .op (P.waitOp c (arr (from_ 2))) fun _ => .op (P.relayOp c 2) fun _ =>
      runOps (P.waitOp c) lasts (.ret ⟨⟩))

end Ops

/-! ## What is owned -/

variable {τ : Topo} {Val : EltTy → Type}

local notation "𝕄" => MT 8 τ sig Unit Val ℕ (UU 8 τ sig) ℕ

variable (X : Dev 8 → (Flat R C).Idx → Val .bf16) (O : Dev 8 → (Big R C).Idx → Val .bf16)

/-- The shares in which the device's part is lent: to the four transfers, and to the copy that stays. -/
def share : Fin 5 → PosShare TreeShare :=
  ![fullShare.left, fullShare.right.left, fullShare.right.right.left, fullShare.right.right.right.left,
    fullShare.right.right.right.right]

/-- A share of device `c`'s part. -/
def lent (c : Dev 8) (r : Fin 5) : sProp 𝕄 := owns (c.tc : Thread 8 τ) P.inM (share r) (X c)
/-- The slot that arrival `k` has filled on device `c`. -/
def full (c : Dev 8) (k : Fin 8) : sProp 𝕄 :=
  ownsSlot (c.tc : Thread 8 τ) P.outM fullShare P.hq (flip (dist k) c) (X (flip (dist k) c))
/-- The slot that device `c` fills as arrival `k` of a peer. -/
def dst (c : Dev 8) (k : Fin 8) : sProp 𝕄 :=
  ownsSlot (Dev.tc (flip (hop k) c : Dev 8) : Thread 8 τ) P.outM fullShare P.hq (flip (via k) c)
    (fun j => O (flip (hop k) c) (at3 (flip (via k) c) j))

theorem full_at (c : Dev 8) (k i : Fin 8) (hi : i = flip (dist k) c) :
    (ownsSlot (c.tc : Thread 8 τ) P.outM fullShare P.hq i (X i) : sProp 𝕄) = P.full X c k := by
  subst hi; rfl
theorem dst_at (c : Dev 8) (k : Fin 8) (d : Dev 8) (i : Fin 8) (hd : d = flip (hop k) c) (hi : i = flip (via k) c) :
    (ownsSlot (d.tc : Thread 8 τ) P.outM fullShare P.hq i (fun j => O d (at3 i j)) : sProp 𝕄) = P.dst O c k := by
  subst hd hi; rfl

/-- What a counter stands for once credited. -/
def pay (c : Dev 8) : K → sProp 𝕄
  | .inl r => P.lent X c r.castSucc
  | .inr (.inl r) => P.full X c (from_ r)
  | .inr (.inr k) => Fin.cases iprop(P.full X c 0 ∗ P.lent X c 4) (fun r => P.full X c r.succ) k

instance (c : Dev 8) (k : K) : Storable (upEmb : UEmb _ 𝕄) (P.pay X c k) := by
  rcases k with r | r | k
  · unfold pay lent; infer_instance
  · unfold pay full; infer_instance
  · unfold pay full lent
    induction k using Fin.cases <;> simp only [Fin.cases_zero, Fin.cases_succ] <;> infer_instance

theorem pay_from (c : Dev 8) (r : Fin 3) : (P.pay X c (arr (from_ r)) : sProp 𝕄) = P.full X c (from_ r) := rfl

section Steps

variable {Λ : Labels} {𝔻 : Defs 8 τ sig Val Λ} (𝕍 : Variants) {α : Type} {Q : α → sProp (MT 8 τ sig Unit Val ℕ (UU 8 τ sig) ℕ)}
  (κ : Dev 8 × K → ℕ) (c : Dev 8) (k : PUnit → Prog (TpuEff 8 τ sig Val Λ .tc) α)

theorem step_keep :
    iprop(P.net.known (P.pay X) κ ∗ P.lent X c 4 ∗ P.dst O c 0 ∗ P.net.tok c (arr 0))
      ⊢ iprop((P.net.due1 c (arr 0) -∗ wp frame (wpE 𝔻 𝕍 (c.tc : Thread 8 τ) none) Set.univ (k ⟨⟩) Q)
        -∗ wp frame (wpE 𝔻 𝕍 (c.tc : Thread 8 τ) none) Set.univ (.op (P.keepOp c) k) Q) := by
  have h0 : (c : Fin 8) = flip (dist 0) c := (flip_zero c).symm
  have h := P.net.copy_owns (Q := Q) (𝔻 := 𝔻) (P.pay X) 𝕍 κ c (arr 0) (flip_zero c) (k := k)
    (src := P.inM) (dst := P.slot 0 c) (q := share 4) (hsrc := P.inExact) (hdst := P.slot_exact 0 c) (hsem := ⟨Or.inl rfl, trivial⟩)
    (X := X c) (Y := fun j => O c (at3 c j)) rfl
    (by
      rw [owns_slotAt _ _ _ _ (P.off_at 0 c c h0), P.full_at X c 0 c h0]
      exact .rfl)
  rw [owns_slotAt _ _ _ _ (P.off_at 0 c c h0), P.dst_at O c 0 c c (flip_zero c).symm (flip_zero c).symm] at h
  exact h

theorem step_call (r : Fin 4) (l : List K) :
    iprop(P.net.known (P.pay X) κ ∗ (P.lent X c r.castSucc ∗ P.dst O c (ofCall r) ∗ P.net.tok c (call r) ∗ P.net.tok c (arr (ofCall r)))
        ∗ P.net.owes' c (arr (ofCall r) :: l))
      ⊢ iprop(((P.net.due1 c (call r) ∗ P.net.owes' c l) -∗ wp frame (wpE 𝔻 𝕍 (c.tc : Thread 8 τ) none) Set.univ (k ⟨⟩) Q)
        -∗ wp frame (wpE 𝔻 𝕍 (c.tc : Thread 8 τ) none) Set.univ (.op (P.callOp c r) k) Q) := by
  have h0 : (c : Fin 8) = flip (dist 0) c := (flip_zero c).symm
  have hd : P.toC r c = flip (hop (ofCall r)) c := Fin.ext (P.devC_eq r c)
  have h := P.net.send_owns (Q := Q) (𝔻 := 𝔻) (P.pay X) 𝕍 κ c (call r) (arr (ofCall r)) rfl l (d' := P.toC r c) hd (k := k)
    (src := P.inM) (dst := P.slot 0 c) (q := share r.castSucc) (hsc := P.scratch _)
    (hsrc := P.inExact) (hdst := P.slot_exact 0 c) (hsem := ⟨⟨rfl, Or.inl rfl⟩, trivial⟩)
    (X := X c) (Y := fun j => O (P.toC r c) (at3 c j)) rfl rfl .rfl
    (by
      rw [owns_slotAt _ _ _ _ (P.off_at 0 c c h0)]
      exact Entails.of_eq (P.full_at X (flip (hop (ofCall r)) c) (ofCall r) c (flip_ofCall r c).symm))
  rw [owns_slotAt _ _ _ _ (P.off_at 0 c c h0), P.dst_at O c (ofCall r) _ c hd (via_ofCall r c).symm] at h
  unfold lent
  iintro ⟨HK, ⟨Hs, Hd, Hi, Ht⟩, Ho⟩ Hk
  iapply h $$ [HK Hs Hd Ht Hi Ho]
  · isplitl [HK]; · iexact HK
    isplitl [Hs]; · iexact Hs
    isplitl [Hd]; · iexact Hd
    isplitl [Ho]; · iexact Ho
    isplitl [Hi]; · iexact Hi
    iexact Ht
  iexact Hk

theorem step_relay (r : Fin 3) (l : List K) :
    iprop(P.net.known (P.pay X) κ ∗ (P.full X c (from_ r) ∗ P.dst O c (ofRelay r) ∗ P.net.tok c (relay r) ∗ P.net.tok c (arr (ofRelay r)))
        ∗ P.net.owes' c (arr (ofRelay r) :: l))
      ⊢ iprop(((P.net.due1 c (relay r) ∗ P.net.owes' c l) -∗ wp frame (wpE 𝔻 𝕍 (c.tc : Thread 8 τ) none) Set.univ (k ⟨⟩) Q)
        -∗ wp frame (wpE 𝔻 𝕍 (c.tc : Thread 8 τ) none) Set.univ (.op (P.relayOp c r) k) Q) := by
  have hd : P.toR r c = flip (hop (ofRelay r)) c := Fin.ext (P.devR_eq r c)
  have hv : flip (dist (from_ r)) c = flip (via (ofRelay r)) c := by rw [via_ofRelay]
  have h := P.net.send_owns (Q := Q) (𝔻 := 𝔻) (P.pay X) 𝕍 κ c (relay r) (arr (ofRelay r)) rfl l (d' := P.toR r c) hd (k := k)
    (src := P.slot (from_ r) c) (dst := P.slot (from_ r) c) (q := fullShare) (hsc := P.scratch _)
    (hsrc := P.slot_exact _ c) (hdst := P.slot_exact _ c) (hsem := ⟨⟨rfl, Or.inl rfl⟩, trivial⟩)
    (X := X (flip (dist (from_ r)) c)) (Y := fun j => O (P.toR r c) (at3 (flip (dist (from_ r)) c) j)) rfl rfl
    (by
      rw [owns_slotAt _ _ _ _ (P.off_eq _ c)]
      exact .rfl)
    (by
      rw [owns_slotAt _ _ _ _ (P.off_eq _ c)]
      exact Entails.of_eq (P.full_at X (flip (hop (ofRelay r)) c) (ofRelay r) _ (hv.trans (flip_via _ c).symm)))
  rw [owns_slotAt _ _ _ _ (P.off_eq _ c), owns_slotAt _ _ _ _ (P.off_eq _ c), P.dst_at O c (ofRelay r) _ _ hd hv] at h
  unfold full
  iintro ⟨HK, ⟨Hs, Hd, Hi, Ht⟩, Ho⟩ Hk
  iapply h $$ [HK Hs Hd Ht Hi Ho]
  · isplitl [HK]; · iexact HK
    isplitl [Hs]; · iexact Hs
    isplitl [Hd]; · iexact Hd
    isplitl [Ho]; · iexact Ho
    isplitl [Hi]; · iexact Hi
    iexact Ht
  iexact Hk

theorem step_wait (j : K) (l : List K) (hl : ∀ k' ∈ l, P.net.lvl j < P.net.lvl k') :
    iprop(P.net.known (P.pay X) κ ∗ (P.net.due1 c j ∗ P.net.turn c j) ∗ P.net.owes' c l)
      ⊢ iprop((((P.net.shut c j ∗ P.pay X c j) ∗ P.net.owes' c l) -∗ wp frame (wpE 𝔻 𝕍 (c.tc : Thread 8 τ) none) Set.univ (k ⟨⟩) Q)
        -∗ wp frame (wpE 𝔻 𝕍 (c.tc : Thread 8 τ) none) Set.univ (.op (P.waitOp c j) k) Q) := by
  suffices h : iprop(P.net.known (P.pay X) κ ∗ P.net.due1 c j ∗ P.net.owes' c l ∗ P.net.turn c j)
      ⊢ iprop(((P.net.owes' c l ∗ P.net.shut c j ∗ P.pay X c j) -∗ wp frame (wpE 𝔻 𝕍 (c.tc : Thread 8 τ) none) Set.univ (k ⟨⟩) Q)
        -∗ wp frame (wpE 𝔻 𝕍 (c.tc : Thread 8 τ) none) Set.univ (.op (P.waitOp c j) k) Q) by
    iintro ⟨HK, ⟨Hd, Ht⟩, Ho⟩ Hk
    iapply h $$ [HK Hd Ht Ho]
    · isplitl [HK]; · iexact HK
      isplitl [Hd]; · iexact Hd
      isplitl [Ho]; · iexact Ho
      iexact Ht
    iintro ⟨Ho, Hs, Hp⟩
    iapply Hk
    isplitl [Hs Hp]
    · isplitl [Hs]; · iexact Hs
      iexact Hp
    iexact Ho
  rcases j with r | r | j
  · exact P.net.wait (Q := Q) (𝔻 := 𝔻) (P.pay X) 𝕍 κ c (call r) l hl (src := P.slot 0 c) (dst := P.inM)
      (hsrc := P.slot_exact 0 c) (hdst := P.inExact) P.credit
  · exact P.net.wait (Q := Q) (𝔻 := 𝔻) (P.pay X) 𝕍 κ c (relay r) l hl (src := P.slot (from_ r) c) (dst := P.slot (from_ r) c)
      (hsrc := P.slot_exact _ c) (hdst := P.slot_exact _ c) rfl
  · induction j using Fin.cases with
    | zero =>
      exact P.net.wait (Q := Q) (𝔻 := 𝔻) (P.pay X) 𝕍 κ c (arr 0) l hl (src := P.inM) (dst := P.slot 0 c)
        (hsrc := P.inExact) (hdst := P.slot_exact 0 c) rfl
    | succ r =>
      exact P.net.wait (Q := Q) (𝔻 := 𝔻) (P.pay X) 𝕍 κ c (arr r.succ) l hl (src := P.slot r.succ c) (dst := P.slot r.succ c)
        (hsrc := P.slot_exact _ c) (hdst := P.slot_exact _ c) rfl

end Steps

/-! ## The body -/

theorem splitK (Φ : K → sProp 𝕄) : bigSep Finset.univ Φ = iprop(bigSepL [0, 1, 2, 3] (fun r => Φ (call r))
    ∗ (Φ (relay 0) ∗ Φ (relay 1) ∗ Φ (relay 2)) ∗ Φ (arr 0) ∗ bigSepL [0, 1, 2, 3] (fun r => Φ (arr (ofCall r)))
    ∗ Φ (arr (ofRelay 0)) ∗ Φ (arr (ofRelay 1)) ∗ Φ (arr (ofRelay 2))) := by
  rw [bigSep_univ_eq_bigSepL ([call 0, call 1, call 2, call 3] ++ ([relay 0, relay 1, relay 2] ++ arr 0 ::
    ([arr 1, arr 2, arr 3, arr 4] ++ [arr 5, arr 6, arr 7]))) (by decide) (by decide), bigSepL_append, bigSepL_append,
    bigSepL_cons' (arr 0), bigSepL_append]
  rfl

theorem splitW (Φ : K → sProp 𝕄) : bigSep Finset.univ Φ
    = iprop(Φ (arr (from_ 0)) ∗ Φ (arr (from_ 1)) ∗ Φ (arr (from_ 2)) ∗ bigSepL lasts Φ) :=
  bigSep_univ_eq_bigSepL (arr (from_ 0) :: arr (from_ 1) :: arr (from_ 2) :: lasts) (by decide) (by decide) Φ

theorem splitF (Φ : K → sProp 𝕄) : bigSepL far Φ = iprop(Φ (arr (ofCall 0)) ∗ Φ (arr (from_ 0)) ∗ Φ (arr (from_ 1)) ∗ Φ (arr (from_ 2))
    ∗ Φ (arr (ofRelay 0)) ∗ Φ (arr (ofRelay 1)) ∗ Φ (arr (ofRelay 2))) := rfl

theorem splitL (Φ : K → sProp 𝕄) : bigSepL lasts Φ = iprop(Φ (arr (ofCall 0)) ∗ Φ (arr (ofRelay 0)) ∗ Φ (arr (ofRelay 1)) ∗ Φ (arr (ofRelay 2))
    ∗ bigSepL [0, 1, 2, 3] (fun r => Φ (call r)) ∗ Φ (relay 0) ∗ Φ (relay 1) ∗ Φ (relay 2) ∗ Φ (arr 0)) :=
  congrArg (fun Z => iprop(Φ (arr 1) ∗ Φ (arr 5) ∗ Φ (arr 6) ∗ Φ (arr 7) ∗ Z))
    (bigSepL_append [call 0, call 1, call 2, call 3] [relay 0, relay 1, relay 2, arr 0] Φ)

theorem sepL (Φ Ψ : K → sProp 𝕄) : bigSepL lasts (fun k => iprop(Φ k ∗ Ψ k)) = iprop(bigSepL lasts Φ ∗ bigSepL lasts Ψ) := by
  have h (Φ : K → sProp 𝕄) : bigSep lasts.toFinset Φ = bigSepL lasts Φ := bigSep_eq_bigSepL_of_eq lasts rfl (by decide) Φ
  rw [← h, ← h, ← h, bigSep_sep']

theorem split8 (Φ : Fin 8 → sProp 𝕄) : bigSep Finset.univ Φ = iprop(Φ 0 ∗ bigSepL [0, 1, 2, 3] (fun r => Φ (ofCall r))
    ∗ Φ (ofRelay 0) ∗ Φ (ofRelay 1) ∗ Φ (ofRelay 2)) := by
  rw [bigSep_univ_eq_bigSepL (0 :: ([1, 2, 3, 4] ++ [5, 6, 7])) (by decide) (by decide), bigSepL_cons', bigSepL_append]
  rfl

theorem zip4 (A B C D : Fin 4 → sProp 𝕄) : iprop(bigSepL [0, 1, 2, 3] A ∗ bigSepL [0, 1, 2, 3] B ∗ bigSepL [0, 1, 2, 3] C ∗ bigSepL [0, 1, 2, 3] D)
    ⊢ bigSepL [0, 1, 2, 3] fun r => iprop(A r ∗ B r ∗ C r ∗ D r) := by
  have h (Φ : Fin 4 → sProp 𝕄) : bigSepL [0, 1, 2, 3] Φ = bigSep Finset.univ Φ :=
    (bigSep_univ_eq_bigSepL [0, 1, 2, 3] (by decide) (by decide) Φ).symm
  rw [h, h, h, h, h, bigSep_sep', bigSep_sep', bigSep_sep']

/-- What device `c` starts with. -/
def start (c : Dev 8) : sProp 𝕄 :=
  iprop((bigSepL [0, 1, 2, 3] fun r : Fin 4 => P.lent X c r.castSucc) ∗ P.lent X c 4 ∗ bigSep Finset.univ fun k => P.dst O c k)

section Body

variable {Λ : Labels} {𝔻 : Defs 8 τ sig Val Λ} (𝕍 : Variants) (κ : Dev 8 × K → ℕ) (c : Dev 8)

theorem body :
    iprop(P.net.known (P.pay X) κ ∗ bigSep (Finset.univ : Finset K) (fun k => P.net.turn c k) ∗ bigSep (Finset.univ : Finset K) (fun k => P.net.tok c k)
        ∗ bigSepL far (fun k => P.net.due1 c k) ∗ P.net.owes' c far ∗ P.start X O c)
      ⊢ wp frame (wpE 𝔻 𝕍 (c.tc : Thread 8 τ) none) Set.univ (P.ops c)
          fun _ => iprop(bigSepL lasts (P.pay X c) ∗ bigSep (Finset.univ : Finset K) (fun k => P.net.shut c k) ∗ P.net.owes' c []) := by
  rw [splitK (fun k => P.net.tok c k), splitW (fun k => P.net.turn c k), splitW (fun k => P.net.shut c k), splitF]
  unfold start
  rw [split8]
  iintro ⟨#HK, ⟨Hw0, Hw1, Hw2, Hw⟩, ⟨Htc, ⟨Htr0, Htr1, Htr2⟩, Ht0, Hta, Hta0, Hta1, Hta2⟩, ⟨Hd1, Hd2, Hd3, Hd4, Hd5, Hd6, Hd7⟩, Ho,
    ⟨Hl, Hl4, Hs0, Hs, Hs5, Hs6, Hs7⟩⟩
  unfold ops
  iapply (P.step_keep X O 𝕍 κ c _) $$ [Hl4 Hs0 Ht0]
  · isplitl []; · iexact HK
    isplitl [Hl4]; · iexact Hl4
    isplitl [Hs0] <;> iassumption
  iintro Hd0
  ihave Hz := zip4 $$ [Hl Hs Htc Hta]
  · isplitl [Hl]; · iexact Hl
    isplitl [Hs]; · iexact Hs
    isplitl [Htc] <;> iassumption
  iapply (wp_runOps 𝕍 c (P.callOp c) (P.net.known (P.pay X) κ) _ (fun r => P.net.due1 c (call r))
    (fun l => P.net.owes' c (l.map (fun r => arr (ofCall r)) ++ later))
    (fun r l k => P.step_call X O 𝕍 κ c k r (l.map (fun r => arr (ofCall r)) ++ later)) [0, 1, 2, 3] _) $$ [Hz Ho]
  · isplitl []; · iexact HK
    isplitl [Hz]; · iexact Hz
    iexact Ho
  iintro ⟨Hdc, Ho⟩
  iapply (P.step_wait X 𝕍 κ c _ (arr (from_ 0)) later (fun k' h => lvl_later 0 k' h)) $$ [Hd2 Hw0 Ho]
  · isplitl []; · iexact HK
    isplitl [Hd2 Hw0]
    · isplitl [Hd2] <;> iassumption
    iexact Ho
  rw [P.pay_from X c 0]
  iintro ⟨⟨Hz2, Hp⟩, Ho⟩
  iapply (P.step_relay X O 𝕍 κ c _ 0 [arr (ofRelay 1), arr (ofRelay 2)]) $$ [Hp Hs5 Htr0 Hta0 Ho]
  · isplitl []; · iexact HK
    isplitl [Hp Hs5 Htr0 Hta0]
    · isplitl [Hp]; · iexact Hp
      isplitl [Hs5]; · iexact Hs5
      isplitl [Htr0] <;> iassumption
    iexact Ho
  iintro ⟨Hr0, Ho⟩
  iapply (P.step_wait X 𝕍 κ c _ (arr (from_ 1)) [arr (ofRelay 1), arr (ofRelay 2)] (fun k' h => lvl_later 1 k' (.tail _ h))) $$ [Hd3 Hw1 Ho]
  · isplitl []; · iexact HK
    isplitl [Hd3 Hw1]
    · isplitl [Hd3] <;> iassumption
    iexact Ho
  rw [P.pay_from X c 1]
  iintro ⟨⟨Hz3, Hp⟩, Ho⟩
  iapply (P.step_relay X O 𝕍 κ c _ 1 [arr (ofRelay 2)]) $$ [Hp Hs6 Htr1 Hta1 Ho]
  · isplitl []; · iexact HK
    isplitl [Hp Hs6 Htr1 Hta1]
    · isplitl [Hp]; · iexact Hp
      isplitl [Hs6]; · iexact Hs6
      isplitl [Htr1] <;> iassumption
    iexact Ho
  iintro ⟨Hr1, Ho⟩
  iapply (P.step_wait X 𝕍 κ c _ (arr (from_ 2)) [arr (ofRelay 2)] (fun k' h => lvl_later 2 k' (.tail _ (.tail _ h)))) $$ [Hd4 Hw2 Ho]
  · isplitl []; · iexact HK
    isplitl [Hd4 Hw2]
    · isplitl [Hd4] <;> iassumption
    iexact Ho
  rw [P.pay_from X c 2]
  iintro ⟨⟨Hz4, Hp⟩, Ho⟩
  iapply (P.step_relay X O 𝕍 κ c _ 2 []) $$ [Hp Hs7 Htr2 Hta2 Ho]
  · isplitl []; · iexact HK
    isplitl [Hp Hs7 Htr2 Hta2]
    · isplitl [Hp]; · iexact Hp
      isplitl [Hs7]; · iexact Hs7
      isplitl [Htr2] <;> iassumption
    iexact Ho
  iintro ⟨Hr2, Ho⟩
  iapply (wp_runOps 𝕍 c (P.waitOp c) (P.net.known (P.pay X) κ) (fun k => iprop(P.net.due1 c k ∗ P.net.turn c k))
    (fun k => iprop(P.net.shut c k ∗ P.pay X c k)) (fun _ => P.net.owes' c [])
    (fun j l k => P.step_wait X 𝕍 κ c k j [] (fun _ h => absurd h (List.not_mem_nil))) lasts _) $$ [Hw Hd0 Hd1 Hd5 Hd6 Hd7 Hdc Hr0 Hr1 Hr2 Ho]
  · isplitl []; · iexact HK
    isplitr [Ho]; swap; · iexact Ho
    rw [sepL (fun k => P.net.due1 c k) (fun k => P.net.turn c k), splitL (fun k => P.net.due1 c k)]
    isplitr [Hw]; swap; · iexact Hw
    isplitl [Hd1]; · iexact Hd1
    isplitl [Hd5]; · iexact Hd5
    isplitl [Hd6]; · iexact Hd6
    isplitl [Hd7]; · iexact Hd7
    isplitl [Hdc]; · iexact Hdc
    isplitl [Hr0]; · iexact Hr0
    isplitl [Hr1]; · iexact Hr1
    isplitl [Hr2] <;> iassumption
  iintro H
  rw [sepL (fun k => P.net.shut c k) (fun k => P.pay X c k), wp_ret]
  icases H with ⟨⟨Hz, Hp⟩, Ho⟩
  imodintro
  isplitl [Hp]; · iexact Hp
  isplitr [Ho]; swap; · iexact Ho
  isplitl [Hz2]; · iexact Hz2
  isplitl [Hz3]; · iexact Hz3
  isplitl [Hz4] <;> iassumption

end Body

/-! ## Dealing the arrays out, and gathering them in -/

theorem lent_all (c : Dev 8) : (owns (c.tc : Thread 8 τ) P.inM fullShare (X c) : sProp 𝕄)
    = iprop(bigSepL [0, 1, 2, 3] (fun r : Fin 4 => P.lent X c r.castSucc) ∗ P.lent X c 4) := by
  have h (q : PosShare TreeShare) : (owns (c.tc : Thread 8 τ) P.inM q (X c) : sProp 𝕄)
      = iprop(owns (c.tc : Thread 8 τ) P.inM q.left (X c) ∗ owns (c.tc : Thread 8 τ) P.inM q.right (X c)) :=
    BI.equiv_iff.mp ⟨(owns_halves (c.tc : Thread 8 τ) P.inM q (X c)).1, (owns_halves (c.tc : Thread 8 τ) P.inM q (X c)).2⟩
  rw [h fullShare, h fullShare.right, h fullShare.right.right, h fullShare.right.right.right]
  exact bigSepL_append [0, 1, 2, 3] [4] (fun r : Fin 5 => P.lent X c r)

variable [∀ e, Nonempty (Val e)]

theorem slots_all (c : Dev 8) (Y : (Big R C).Idx → Val .bf16) : (owns (c.tc : Thread 8 τ) P.outM fullShare Y : sProp 𝕄)
    = bigSep Finset.univ fun k : Fin 8 => ownsSlot (c.tc : Thread 8 τ) P.outM fullShare P.hq (flip (dist k) c)
        (fun j => Y (at3 (flip (dist k) c) j)) :=
  (owns_slots (c.tc : Thread 8 τ) P.outM fullShare P.hq Y).trans (bigSep_univ_equiv (slotP c) _)

/-- The gathered parts: slot `i` holds the part of device `i`. -/
def done : (Big R C).Idx → Val .bf16 := fun x => X (x 0) (tail x)

theorem full_all (c : Dev 8) : (bigSep Finset.univ fun k => P.full X c k) = (owns (c.tc : Thread 8 τ) P.outM fullShare (done X) : sProp 𝕄) := by
  rw [P.slots_all]
  refine bigSep_congr fun k _ => ?_
  exact congrArg (ownsSlot (c.tc : Thread 8 τ) P.outM fullShare P.hq (flip (dist k) c))
    (funext fun j => (congrArg (X (flip (dist k) c)) (tail_at3 (flip (dist k) c) j)).symm)

theorem dst_all : (bigSep Finset.univ fun c : Dev 8 => bigSep Finset.univ fun k : Fin 8 => P.dst O c k)
    = bigSep Finset.univ fun c : Dev 8 => (owns (c.tc : Thread 8 τ) P.outM fullShare (O c) : sProp 𝕄) := by
  have h (k : Fin 8) : (bigSep Finset.univ fun c : Dev 8 => P.dst O c k)
      = bigSep Finset.univ fun c : Dev 8 => (ownsSlot (c.tc : Thread 8 τ) P.outM fullShare P.hq (flip (dist k) c)
          (fun j => O c (at3 (flip (dist k) c) j)) : sProp 𝕄) := by
    rw [bigSep_univ_equiv (flipP (hop k))]
    refine bigSep_congr fun c _ => ?_
    refine (P.dst_at O (flip (hop k) c) k c (flip (dist k) c) (Talk.flip_flip _ c).symm ?_).symm
    rw [← flip_via, Talk.flip_flip]
  rw [bigSep_swap, bigSep_congr (fun k _ => h k), bigSep_swap]
  exact bigSep_congr fun c _ => (P.slots_all c (O c)).symm

theorem deal : (bigSep Finset.univ fun c : Dev 8 => iprop(owns (c.tc : Thread 8 τ) P.inM fullShare (X c)
      ∗ (owns (c.tc : Thread 8 τ) P.outM fullShare (O c) : sProp 𝕄)))
    ⊢ bigSep Finset.univ fun c : Dev 8 => P.start X O c := by
  unfold start
  simp only [P.lent_all X, bigSep_sep']
  rw [P.dst_all O]
  iintro ⟨⟨H0, H1⟩, H2⟩
  isplitl [H0]; · iexact H0
  isplitl [H1] <;> iassumption

theorem collect (c : Dev 8) : bigSepL lasts (P.pay X c)
    ⊢ iprop(owns (c.tc : Thread 8 τ) P.inM fullShare (X c) ∗ (owns (c.tc : Thread 8 τ) P.outM fullShare (done X) : sProp 𝕄)) := by
  rw [splitL, P.lent_all X, ← P.full_all X, bigSep_univ_eq_bigSepL [ofCall 0, ofRelay 0, ofRelay 1, ofRelay 2, from_ 0, from_ 1, from_ 2, 0]
    (by decide) (by decide),
    show ∀ Φ : Fin 8 → sProp 𝕄, bigSepL [ofCall 0, ofRelay 0, ofRelay 1, ofRelay 2, from_ 0, from_ 1, from_ 2, 0] Φ
      = iprop(Φ (ofCall 0) ∗ Φ (ofRelay 0) ∗ Φ (ofRelay 1) ∗ Φ (ofRelay 2) ∗ Φ (from_ 0) ∗ Φ (from_ 1) ∗ Φ (from_ 2) ∗ Φ 0) from fun _ => rfl,
    show P.pay X c (arr 0) = iprop(P.full X c 0 ∗ (P.lent X c 4 : sProp 𝕄)) from rfl,
    show P.pay X c (arr (ofCall 0)) = (P.full X c (ofCall 0) : sProp 𝕄) from rfl]
  simp only [show ∀ r : Fin 3, P.pay X c (arr (ofRelay r)) = (P.full X c (ofRelay r) : sProp 𝕄) from by intro r; fin_cases r <;> rfl,
    show ∀ r : Fin 3, P.pay X c (relay r) = (P.full X c (from_ r) : sProp 𝕄) from fun _ => rfl]
  iintro ⟨H1, H5, H6, H7, Hl, H2, H3, H4, H0, Hl4⟩
  isplitl [Hl Hl4]
  · isplitl [Hl]; · iexact Hl
    iexact Hl4
  isplitl [H1]; · iexact H1
  isplitl [H5]; · iexact H5
  isplitl [H6]; · iexact H6
  isplitl [H7]; · iexact H7
  isplitl [H2]; · iexact H2
  isplitl [H3]; · iexact H3
  isplitl [H4]; · iexact H4
  iexact H0

/-! ## The run -/

/-- The run of a @main that is the kernel: `hmem` reads the two arrays off the launch, `hread` off the end. -/
theorem run {Λ₀ : Labels} {I : Type} [Fintype I] [DecidableEq I]
    (pcs : I → PCfg sig Λ₀ Val) (a : (p : I) → (pcs p).Adm) (p : I) (defs₀ : Defs 8 τ sig Val Λ₀)
    [IsEmpty (Fin (pin pcs a p).W)] [IsEmpty (Fin (pcs p).pre.K)] (hN : (pin pcs a p).N = 1)
    (phinj : Function.Injective (cellOf (nD := 8) (τ := τ) (pin pcs a)))
    (m : (ℓ : Loc 8 τ sig) → Buf Val ℓ) (g : Dev 8 → PrngReg) (hscoped : ∀ sm : SemLoc sig, sm.isScoped .tc = true)
    (hbody : ∀ (c : Dev 8) (t : Fin (pin pcs a p).N) (Q : sProp (MT 8 τ sig Unit Val ℕ (UU 8 τ sig) ℕ)),
      wp frame (wpE defs₀ Variants.none (c.tc : Thread 8 τ) none) Set.univ (P.ops c) (fun _ => Q)
        ⊢ wp frame (wpE defs₀ Variants.none (c.tc : Thread 8 τ) none) Set.univ
          (defs₀ .tc (pin pcs a p).body ((pin pcs a p).bodyArgs t ((pin pcs a p).slots t))) fun _ => Q)
    (hmem : ∀ c : Dev 8, unscopedBufs c (fun b => m ((c.tc : Thread 8 τ).loc b))
      ⊢ iprop(owns (c.tc : Thread 8 τ) P.inM fullShare (X c) ∗ (owns (c.tc : Thread 8 τ) P.outM fullShare (O c) : sProp 𝕄)))
    (QY : Dev 8 → MemSt 8 τ sig Val → Prop)
    (hread : ∀ (c : Dev 8) (s : Phys 8 τ sig Val), iprop((owns (c.tc : Thread 8 τ) P.inM fullShare (X c)
      ∗ (owns (c.tc : Thread 8 τ) P.outM fullShare (done X) : sProp 𝕄)) ∗ SI s) ⊢ iprop(⌜QY c s.mem⌝ ∗ SI s)) :
    θ_run (Pipeline.defs pcs defs₀) (onTc fun c => .op (.customCall (entry p) ()) fun _ => .ret ⟨⟩) ⟨m, fun _ => 0, g⟩
      (fun r => (∀ c, QY c r.2) ∧ r.2.sem = fun _ => 0) := by
  refine Net.run P.net (P.pay X) P.own pcs a p defs₀ Variants.none hN phinj
    (fun _ => .ret ⟨⟩) m g hscoped (P.start X O) (fun c => bigSepL lasts (P.pay X c))
    (fun c => iprop(owns (c.tc : Thread 8 τ) P.inM fullShare (X c) ∗ (owns (c.tc : Thread 8 τ) P.outM fullShare (done X) : sProp 𝕄)))
    ?_ (fun c t κ => ?_) (fun c => ?_) QY (fun c s => (hread c s).trans ?_)
  · exact (bigSep_mono fun c _ => hmem c).trans (P.deal X O)
  · exact (P.body X O Variants.none κ c).trans (hbody c t _)
  · rw [wp_ret]
    iintro ⟨Hp, Hb, -, Ho⟩
    imodintro
    isplitl [Hp]
    · iapply (P.collect X c)
      iexact Hp
    isplitl [Hb]
    · unfold boundary
      icases Hb with ⟨-, Hb, -⟩
      iexact Hb
    iexact Ho
  · iintro H
    imodintro
    iexact H

end Plan

end Cert.Talk

end
-- ==== Proof.Col.lean ====
module

public import proofs.«01_k».proof.Proof.Gather
public import proofs.«01_k».proof.Proof.Gen.GatherColIdeal.Frame
public import proofs.«01_k».proof.Proof.Gen.GatherColIdeal.Skeleton

@[expose] public section

set_option Elab.async false

noncomputable section

namespace Cert.GatherColIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Talk Cert.Talk.Gather Cert.GatherColIdeal.Gen

variable {F : FTy → Type} [FloatOps F]

local notation "𝕄" => MT nD τ sig Unit (Elt F) ℕ (UU nD τ sig) ℕ

/-! ## The gather of the column-wise weights -/

def offOf : Fin 8 → Dev nD → Fin 3 → ℕ :=
  ![k0_off1, k0_off5, k0_off2, k0_off3, k0_off4, k0_off6, k0_off7, k0_off8]
def callee : Fin 4 → Dev nD → ℕ := ![k0_dev1, k0_dev2, k0_dev3, k0_dev4]
def relayee : Fin 3 → Dev nD → ℕ := ![k0_dev5, k0_dev6, k0_dev7]

def semOf : K → Fin 15
  | .inl r => ⟨r.val, by omega⟩
  | .inr (.inl r) => ⟨4 + r.val, by omega⟩
  | .inr (.inr 0) => 14
  | .inr (.inr k) => ⟨6 + k.val, by omega⟩

theorem words : ∀ i : Fin 8,
    (Rect.unit (s := Big 1024 1792) ![i.val, 0, 0] (One 1024 1792).size (slot_inb _ _ i)).WholeWords (EltTy.packing .bf16) := by
  decide +kernel

abbrev plan : Plan sig 1024 1792 where
  inM := Memref.whole main_arg0
  outM := Memref.whole main_v1
  hq := squeezes_S1x1024x1792_S1024x1792
  sem := semOf
  inj := by decide
  own := by decide
  inExact := (Memref.isWhole_whole main_arg0).wordExact
  outExact i o ho h := by
    subst ho
    exact ((Memref.isWhole_whole main_v1).wordExact_slice rfl _ (words i)).reshape _ _
  scratch _ := rfl
  pos := View.dmaCredit_pos _ (by decide)
  credit := rfl
  off := offOf
  off_eq := by decide +kernel
  devC := callee
  devC_eq := by decide +kernel
  devR := relayee
  devR_eq := by decide +kernel

set_option maxRecDepth 65536 in
theorem body_eq (t : Fin cfg0.N) : bodyAt0 (F := F) t = .op .deviceId fun c => plan.ops c := by
  rfl

/-! ## The run -/

variable (m : (ℓ : Loc nD τ sig) → Buf (Elt F) ℓ)

def inOf (c : Dev nD) : (Flat 1024 1792).Idx → Elt F .bf16 := m ((c.tc : Thread nD τ).loc main_arg0)
def outOf (c : Dev nD) : (Big 1024 1792).Idx → Elt F .bf16 := m ((c.tc : Thread nD τ).loc main_v1)

/-- What the gather leaves on device `c`. -/
def After (c : Dev nD) (s : MemSt nD τ sig (Elt F)) : Prop :=
  s.mem ((c.tc : Thread nD τ).loc main_arg0) = inOf m c ∧ s.mem ((c.tc : Thread nD τ).loc main_v1) = Plan.done (inOf m)

theorem bufs_eq (c : Dev nD) : (unscopedBufs c (fun b => m ((c.tc : Thread nD τ).loc b)) : sProp 𝕄)
    ⊢ iprop(owns (c.tc : Thread nD τ) plan.inM fullShare (inOf m c) ∗ owns (c.tc : Thread nD τ) plan.outM fullShare (outOf m c)) := by
  have h : (unscopedBufs c (fun b => m ((c.tc : Thread nD τ).loc b)) : sProp 𝕄)
      = bigSepL [main_arg0, main_v1] fun b => pts c b (m ((c.tc : Thread nD τ).loc b)) :=
    bigSep_eq_bigSepL_of_eq _ (by decide) (by decide) _
  rw [h, owns_pts c main_arg0 (inOf m c), owns_pts c main_v1 (outOf m c)]
  exact Entails.of_eq rfl

theorem read (c : Dev nD) (s : Phys nD τ sig (Elt F)) :
    iprop((owns (c.tc : Thread nD τ) plan.inM fullShare (inOf m c) ∗ (owns (c.tc : Thread nD τ) plan.outM fullShare (Plan.done (inOf m)) : sProp 𝕄))
      ∗ SI s) ⊢ iprop(⌜After m c s.mem⌝ ∗ SI s) := by
  rw [owns_pts c main_arg0 (inOf m c), owns_pts c main_v1 (Plan.done (inOf m))]
  iintro ⟨⟨H0, H1⟩, HS⟩
  icases pts_read (Val := Elt F) c main_arg0 (inOf m c) s $$ [H0 HS] with ⟨%h0, HS⟩
  · isplitl [H0] <;> iassumption
  icases pts_read (Val := Elt F) c main_v1 (Plan.done (inOf m)) s $$ [H1 HS] with ⟨%h1, HS⟩
  · isplitl [H1] <;> iassumption
  isplitr; swap; · iexact HS
  ipureintro
  exact ⟨h0, h1⟩

theorem run (g : Dev nD → PrngReg) :
    θ_run (defs (F := F)) (onTc main) ⟨m, fun _ => 0, g⟩ (fun r => (∀ c, After m c r.2) ∧ r.2.sem = fun _ => 0) := by
  refine plan.run (inOf m) (outOf m) pcfgs (fun p => (cfgs p).toPCfg_adm) 0 defs₀ rfl cellOf_inj m g (by decide)
    (fun c t Q => ?_) (bufs_eq m) (After m) (read m)
  have h : defs₀ (F := F) .tc (pin pcfgs (fun p => (cfgs p).toPCfg_adm) 0).body
      ((pin pcfgs (fun p => (cfgs p).toPCfg_adm) 0).bodyArgs t ((pin pcfgs (fun p => (cfgs p).toPCfg_adm) 0).slots t))
      = .op .deviceId fun c => plan.ops c := body_eq t
  rw [h, wp_deviceId]

end Cert.GatherColIdeal

end
-- ==== Proof.Row.lean ====
module

public import proofs.«01_k».proof.Proof.Gather
public import proofs.«01_k».proof.Proof.Gen.GatherRowIdeal.Frame
public import proofs.«01_k».proof.Proof.Gen.GatherRowIdeal.Skeleton

@[expose] public section

set_option Elab.async false

noncomputable section

namespace Cert.GatherRowIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Talk Cert.Talk.Gather Cert.GatherRowIdeal.Gen

variable {F : FTy → Type} [FloatOps F]

local notation "𝕄" => MT nD τ sig Unit (Elt F) ℕ (UU nD τ sig) ℕ

/-! ## The gather of the row-wise weights -/

def offOf : Fin 8 → Dev nD → Fin 3 → ℕ :=
  ![k0_off1, k0_off5, k0_off2, k0_off3, k0_off4, k0_off6, k0_off7, k0_off8]
def callee : Fin 4 → Dev nD → ℕ := ![k0_dev1, k0_dev2, k0_dev3, k0_dev4]
def relayee : Fin 3 → Dev nD → ℕ := ![k0_dev5, k0_dev6, k0_dev7]

def semOf : K → Fin 15
  | .inl r => ⟨r.val, by omega⟩
  | .inr (.inl r) => ⟨4 + r.val, by omega⟩
  | .inr (.inr 0) => 14
  | .inr (.inr k) => ⟨6 + k.val, by omega⟩

theorem words : ∀ i : Fin 8,
    (Rect.unit (s := Big 832 1024) ![i.val, 0, 0] (One 832 1024).size (slot_inb _ _ i)).WholeWords (EltTy.packing .bf16) := by
  decide +kernel

abbrev plan : Plan sig 832 1024 where
  inM := Memref.whole main_arg0
  outM := Memref.whole main_v1
  hq := squeezes_S1x832x1024_S832x1024
  sem := semOf
  inj := by decide
  own := by decide
  inExact := (Memref.isWhole_whole main_arg0).wordExact
  outExact i o ho h := by
    subst ho
    exact ((Memref.isWhole_whole main_v1).wordExact_slice rfl _ (words i)).reshape _ _
  scratch _ := rfl
  pos := View.dmaCredit_pos _ (by decide)
  credit := rfl
  off := offOf
  off_eq := by decide +kernel
  devC := callee
  devC_eq := by decide +kernel
  devR := relayee
  devR_eq := by decide +kernel

set_option maxRecDepth 65536 in
theorem body_eq (t : Fin cfg0.N) : bodyAt0 (F := F) t = .op .deviceId fun c => plan.ops c := by
  rfl

/-! ## The run -/

variable (m : (ℓ : Loc nD τ sig) → Buf (Elt F) ℓ)

def inOf (c : Dev nD) : (Flat 832 1024).Idx → Elt F .bf16 := m ((c.tc : Thread nD τ).loc main_arg0)
def outOf (c : Dev nD) : (Big 832 1024).Idx → Elt F .bf16 := m ((c.tc : Thread nD τ).loc main_v1)

/-- What the gather leaves on device `c`. -/
def After (c : Dev nD) (s : MemSt nD τ sig (Elt F)) : Prop :=
  s.mem ((c.tc : Thread nD τ).loc main_arg0) = inOf m c ∧ s.mem ((c.tc : Thread nD τ).loc main_v1) = Plan.done (inOf m)

theorem bufs_eq (c : Dev nD) : (unscopedBufs c (fun b => m ((c.tc : Thread nD τ).loc b)) : sProp 𝕄)
    ⊢ iprop(owns (c.tc : Thread nD τ) plan.inM fullShare (inOf m c) ∗ owns (c.tc : Thread nD τ) plan.outM fullShare (outOf m c)) := by
  have h : (unscopedBufs c (fun b => m ((c.tc : Thread nD τ).loc b)) : sProp 𝕄)
      = bigSepL [main_arg0, main_v1] fun b => pts c b (m ((c.tc : Thread nD τ).loc b)) :=
    bigSep_eq_bigSepL_of_eq _ (by decide) (by decide) _
  rw [h, owns_pts c main_arg0 (inOf m c), owns_pts c main_v1 (outOf m c)]
  exact Entails.of_eq rfl

theorem read (c : Dev nD) (s : Phys nD τ sig (Elt F)) :
    iprop((owns (c.tc : Thread nD τ) plan.inM fullShare (inOf m c) ∗ (owns (c.tc : Thread nD τ) plan.outM fullShare (Plan.done (inOf m)) : sProp 𝕄))
      ∗ SI s) ⊢ iprop(⌜After m c s.mem⌝ ∗ SI s) := by
  rw [owns_pts c main_arg0 (inOf m c), owns_pts c main_v1 (Plan.done (inOf m))]
  iintro ⟨⟨H0, H1⟩, HS⟩
  icases pts_read (Val := Elt F) c main_arg0 (inOf m c) s $$ [H0 HS] with ⟨%h0, HS⟩
  · isplitl [H0] <;> iassumption
  icases pts_read (Val := Elt F) c main_v1 (Plan.done (inOf m)) s $$ [H1 HS] with ⟨%h1, HS⟩
  · isplitl [H1] <;> iassumption
  isplitr; swap; · iexact HS
  ipureintro
  exact ⟨h0, h1⟩

theorem run (g : Dev nD → PrngReg) :
    θ_run (defs (F := F)) (onTc main) ⟨m, fun _ => 0, g⟩ (fun r => (∀ c, After m c r.2) ∧ r.2.sem = fun _ => 0) := by
  refine plan.run (inOf m) (outOf m) pcfgs (fun p => (cfgs p).toPCfg_adm) 0 defs₀ rfl cellOf_inj m g (by decide)
    (fun c t Q => ?_) (bufs_eq m) (After m) (read m)
  have h : defs₀ (F := F) .tc (pin pcfgs (fun p => (cfgs p).toPCfg_adm) 0).body
      ((pin pcfgs (fun p => (cfgs p).toPCfg_adm) 0).bodyArgs t ((pin pcfgs (fun p => (cfgs p).toPCfg_adm) 0).slots t))
      = .op .deviceId fun c => plan.ops c := body_eq t
  rw [h, wp_deviceId]

end Cert.GatherRowIdeal

end
-- ==== Proof.Swap.lean ====
/-
The exchange of the gradient chunks, for every program that makes it: each of eight devices holds, in each of two
buffers, a slot for every device, and sends each slot to the device it is for.
-/
module

public import proofs.«01_k».proof.Proof.Peers

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

namespace Swap

/-! ## The two buffers and their counters -/

def rows : Fin 2 → ℕ := ![1024, 832]
def cols : Fin 2 → ℕ := ![1792, 1024]

abbrev SB (t : Fin 2) : Shape := Big (rows t) (cols t)
abbrev SF (t : Fin 2) : Shape := Flat (rows t) (cols t)

theorem sq : ∀ t : Fin 2, (One (rows t) (cols t)).Squeezes (SF t) := by decide

/-- Where a slot of a buffer lies within it. -/
abbrev Fits (t : Fin 2) (o : Fin 3 → ℕ) : Prop := ∀ a, o a + (One (rows t) (cols t)).size a ≤ (SB t).size a

/-- A counter for each transfer sent, and one for the arrival from each distance (0: the copy that stays). -/
abbrev K : Type := (Fin 2 × Fin 7) ⊕ (Fin 2 × Fin 8)

def semOf : K → Fin 30
  | .inl (t, r) => ⟨7 * t.val + r.val, by omega⟩
  | .inr (t, 0) => ⟨28 + t.val, by omega⟩
  | .inr (t, k) => ⟨14 + 7 * t.val + (k.val - 1), by omega⟩

theorem semOf_inj : Function.Injective semOf := by decide

def tOf : K → Fin 2
  | .inl x => x.1
  | .inr x => x.1

/-- The transfers to peers, in order. -/
def sends : List (Fin 2 × Fin 7) :=
  [(0, 0), (1, 0), (0, 1), (1, 1), (0, 2), (1, 2), (0, 3), (1, 3), (0, 4), (1, 4), (0, 5), (1, 5), (0, 6), (1, 6)]

def arr (x : Fin 2 × Fin 7) : K := .inr (x.1, x.2.succ)

theorem words : ∀ (t : Fin 2) (i : Fin 8),
    (Rect.unit (s := SB t) ![i.val, 0, 0] (One (rows t) (cols t)).size (slot_inb _ _ i)).WholeWords (EltTy.packing .bf16) := by
  decide +kernel

/-- A slot of a whole buffer lies on whole words. -/
theorem exact_of_whole {sig : RefSig} (t : Fin 2) {M : Memref sig .tc .hbm (SB t) .bf16} (hM : M.IsWhole) (i : Fin 8)
    {o : Fin 3 → ℕ} (ho : o = ![i.val, 0, 0]) (h : Fits t o) : (slotAt M o h (sq t)).view.WordExact := by
  subst ho
  exact (hM.wordExact_slice rfl _ (words t i)).reshape _ _

end Swap

open Swap

/-- What the programs that make the exchange differ in. -/
structure Swap (sig : RefSig) where
  inM : (t : Fin 2) → Memref sig .tc .hbm (SB t) .bf16
  outM : (t : Fin 2) → Memref sig .tc .hbm (SB t) .bf16
  sem : K → DmaSem sig
  inj : Function.Injective sem
  own : ∀ k, (SemLoc.dma (sem k)).isScoped .tc = true
  inExact : ∀ (t : Fin 2) (i : Fin 8) {o : Fin 3 → ℕ} (ho : o = ![i.val, 0, 0]) (h : Fits t o), (slotAt (inM t) o h (sq t)).view.WordExact
  outExact : ∀ (t : Fin 2) (i : Fin 8) {o : Fin 3 → ℕ} (ho : o = ![i.val, 0, 0]) (h : Fits t o), (slotAt (outM t) o h (sq t)).view.WordExact
  scratch : ∀ (t : Fin 2) {o : Fin 3 → ℕ} (h : Fits t o), (slotAt (outM t) o h (sq t)).view.ref.isScScratch = false
  amount : Fin 2 → ℕ
  pos : ∀ t, 0 < amount t
  inAmount : ∀ (t : Fin 2) {o : Fin 3 → ℕ} (h : Fits t o), (slotAt (inM t) o h (sq t)).view.dmaCredit = amount t
  outAmount : ∀ (t : Fin 2) {o : Fin 3 → ℕ} (h : Fits t o), (slotAt (outM t) o h (sq t)).view.dmaCredit = amount t
  offMe : Fin 2 → Fin 8 → Fin 3 → ℕ
  offMe_eq : ∀ t c, offMe t c = ![c.val, 0, 0]
  offTo : Fin 2 × Fin 7 → Fin 8 → Fin 3 → ℕ
  offTo_eq : ∀ x c, offTo x c = ![(flip x.2.succ c).val, 0, 0]
  devTo : Fin 2 × Fin 7 → Fin 8 → ℕ
  devTo_eq : ∀ x c, devTo x c = (flip x.2.succ c).val

namespace Swap

variable {sig : RefSig} (S : Swap sig)

abbrev inS (t : Fin 2) (o : Fin 3 → ℕ) (h : Fits t o) : Memref sig .tc .hbm (SF t) .bf16 := slotAt (S.inM t) o h (sq t)
abbrev outS (t : Fin 2) (o : Fin 3 → ℕ) (h : Fits t o) : Memref sig .tc .hbm (SF t) .bf16 := slotAt (S.outM t) o h (sq t)

theorem offMe_inb (t : Fin 2) (c : Fin 8) : Fits t (S.offMe t c) := by
  unfold Fits; rw [S.offMe_eq]; exact slot_inb _ _ c
theorem offTo_inb (x : Fin 2 × Fin 7) (c : Fin 8) : Fits x.1 (S.offTo x c) := by
  unfold Fits; rw [S.offTo_eq]; exact slot_inb _ _ _
theorem devTo_lt (x : Fin 2 × Fin 7) (c : Fin 8) : S.devTo x c < 8 := by
  rw [S.devTo_eq]; exact (flip x.2.succ c).isLt

abbrev net : Net 8 sig where
  K := K
  sem := S.sem
  inj := S.inj
  N k := S.amount (tOf k)
  pos k := S.pos _
  tgt
    | .inl _ => Equiv.refl _
    | .inr x => flipP x.2
  far := sends.map arr
  nodup := by decide
  lvl _ := 0

/-! ## The kernel's operations -/

section Ops

variable {τ : Topo} {Val : EltTy → Type} {Λ : Labels}

/-- The copy that stays. -/
def keepOp (c : Dev 8) (t : Fin 2) : TpuEff 8 τ sig Val Λ .tc PUnit :=
  .enqueueDma (S.inS t (S.offMe t c) (S.offMe_inb t c)) (.here (S.outS t (S.offMe t c) (S.offMe_inb t c))) (.dma (S.net.sem (.inr (t, 0))))
    (S.inExact t c (S.offMe_eq t c) _) (S.outExact t c (S.offMe_eq t c) _) ⟨Or.inl rfl, trivial⟩

/-- A transfer to a peer: the slot meant for it, into this device's slot there. -/
def sendOp (c : Dev 8) (x : Fin 2 × Fin 7) : TpuEff 8 τ sig Val Λ .tc PUnit :=
  .enqueueDma (S.inS x.1 (S.offTo x c) (S.offTo_inb x c))
    (.remote (Dev.tc (⟨S.devTo x c, S.devTo_lt x c⟩ : Dev 8)) (S.outS x.1 (S.offMe x.1 c) (S.offMe_inb x.1 c)) (.dma (S.net.sem (.inl x)))
      (S.scratch _ _))
    (.dma (S.net.sem (arr x))) (S.inExact x.1 _ (S.offTo_eq x c) _) (S.outExact x.1 c (S.offMe_eq x.1 c) _) ⟨⟨rfl, Or.inl rfl⟩, trivial⟩

def keptOp (c : Dev 8) (t : Fin 2) : TpuEff 8 τ sig Val Λ .tc PUnit :=
  .waitDma2 (S.net.sem (.inr (t, 0))) (S.inS t (S.offMe t c) (S.offMe_inb t c)) (S.outS t (S.offMe t c) (S.offMe_inb t c))
    (S.inExact t c (S.offMe_eq t c) _) (S.outExact t c (S.offMe_eq t c) _)
def sentOp (c : Dev 8) (x : Fin 2 × Fin 7) : TpuEff 8 τ sig Val Λ .tc PUnit :=
  .waitDma2 (S.net.sem (.inl x)) (S.outS x.1 (S.offMe x.1 c) (S.offMe_inb x.1 c)) (S.inS x.1 (S.offTo x c) (S.offTo_inb x c))
    (S.outExact x.1 c (S.offMe_eq x.1 c) _) (S.inExact x.1 _ (S.offTo_eq x c) _)
def cameOp (c : Dev 8) (x : Fin 2 × Fin 7) : TpuEff 8 τ sig Val Λ .tc PUnit :=
  .waitDma2 (S.net.sem (arr x)) (S.inS x.1 (S.offTo x c) (S.offTo_inb x c)) (S.outS x.1 (S.offMe x.1 c) (S.offMe_inb x.1 c))
    (S.inExact x.1 _ (S.offTo_eq x c) _) (S.outExact x.1 c (S.offMe_eq x.1 c) _)

/-- The waits. -/
def waitOp (c : Dev 8) : K → TpuEff 8 τ sig Val Λ .tc PUnit
  | .inl x => S.sentOp c x
  | .inr (t, k) => Fin.cases (S.keptOp c t) (fun r => S.cameOp c (t, r)) k

/-- The counters in the order in which they are waited for. -/
def waits : List K :=
  .inr (0, 0) :: .inr (1, 0) :: sends.flatMap fun x => [.inl x, arr x]

/-- The kernel's operations. -/
def ops (c : Dev 8) : Prog (TpuEff 8 τ sig Val Λ .tc) PUnit :=
  runOps (S.keepOp c) [0, 1] (runOps (S.sendOp c) sends (runOps (S.waitOp c) waits (.ret ⟨⟩)))

end Ops

/-! ## What is owned -/

variable {τ : Topo} {Val : EltTy → Type}

local notation "𝕄" => MT 8 τ sig Unit Val ℕ (UU 8 τ sig) ℕ

variable (I O : (t : Fin 2) → Dev 8 → (SB t).Idx → Val .bf16)

/-- Slot `i` of the contents of a buffer. -/
def part {t : Fin 2} (i : Fin 8) (X : (SB t).Idx → Val .bf16) : (SF t).Idx → Val .bf16 := fun j => X (at3 i j)

/-- The slot of device `c`'s input meant for the device at distance `k`. -/
def src (c : Dev 8) (x : Fin 2 × Fin 8) : sProp 𝕄 :=
  ownsSlot (c.tc : Thread 8 τ) (S.inM x.1) fullShare (sq x.1) (flip x.2 c) (part (flip x.2 c) (I x.1 c))
/-- The slot that device `c` fills on the device at distance `k`. -/
def dst (c : Dev 8) (x : Fin 2 × Fin 8) : sProp 𝕄 :=
  ownsSlot (Dev.tc (flip x.2 c : Dev 8) : Thread 8 τ) (S.outM x.1) fullShare (sq x.1) c (part c (O x.1 (flip x.2 c)))
/-- The slot of device `c`'s output that the device at distance `k` has filled. -/
def got (c : Dev 8) (x : Fin 2 × Fin 8) : sProp 𝕄 :=
  ownsSlot (c.tc : Thread 8 τ) (S.outM x.1) fullShare (sq x.1) (flip x.2 c) (part c (I x.1 (flip x.2 c)))

/-- What a counter stands for once credited. -/
def pay (c : Dev 8) : K → sProp 𝕄
  | .inl x => S.src I c (x.1, x.2.succ)
  | .inr (t, k) => Fin.cases iprop(S.got I c (t, 0) ∗ S.src I c (t, 0)) (fun r => S.got I c (t, r.succ)) k

instance (c : Dev 8) (k : K) : Storable (upEmb : UEmb _ 𝕄) (S.pay I c k) := by
  rcases k with x | ⟨t, k⟩
  · unfold pay src; infer_instance
  · unfold pay got src
    induction k using Fin.cases <;> simp only [Fin.cases_zero, Fin.cases_succ] <;> infer_instance

theorem dst_zero (c : Dev 8) (t : Fin 2) :
    (S.dst O c (t, 0) : sProp 𝕄) = ownsSlot (c.tc : Thread 8 τ) (S.outM t) fullShare (sq t) c (part c (O t c)) := by
  have h : ∀ d : Dev 8, d = c → (ownsSlot (d.tc : Thread 8 τ) (S.outM t) fullShare (sq t) c (part c (O t d)) : sProp 𝕄)
      = ownsSlot (c.tc : Thread 8 τ) (S.outM t) fullShare (sq t) c (part c (O t c)) := by rintro _ rfl; rfl
  exact h _ (flip_zero c)

theorem dst_at (c : Dev 8) (x : Fin 2 × Fin 8) (d : Dev 8) (hd : d = flip x.2 c) :
    (ownsSlot (d.tc : Thread 8 τ) (S.outM x.1) fullShare (sq x.1) c (part c (O x.1 d)) : sProp 𝕄) = S.dst O c x := by
  subst hd; rfl

section Steps

variable {Λ : Labels} {𝔻 : Defs 8 τ sig Val Λ} {α : Type} {Q : α → sProp (MT 8 τ sig Unit Val ℕ (UU 8 τ sig) ℕ)} (κ : Dev 8 × K → ℕ) (c : Dev 8) (𝕍 : Variants)

theorem step_keep (t : Fin 2) (k : PUnit → Prog (TpuEff 8 τ sig Val Λ .tc) α) :
    iprop(S.net.known (S.pay I) κ ∗ (S.src I c (t, 0) ∗ S.dst O c (t, 0) ∗ S.net.tok c (.inr (t, 0))) ∗ emp)
      ⊢ iprop(((S.net.due1 c (.inr (t, 0)) ∗ emp) -∗ wp frame (wpE 𝔻 𝕍 (c.tc : Thread 8 τ) none) Set.univ (k ⟨⟩) Q)
        -∗ wp frame (wpE 𝔻 𝕍 (c.tc : Thread 8 τ) none) Set.univ (.op (S.keepOp c t) k) Q) := by
  have h := S.net.copy_owns (Q := Q) (𝔻 := 𝔻) (S.pay I) 𝕍 κ c (.inr (t, 0)) (flip_zero c) (k := k)
    (src := S.inS t (S.offMe t c) (S.offMe_inb t c)) (dst := S.outS t (S.offMe t c) (S.offMe_inb t c)) (q := fullShare)
    (hsrc := S.inExact t c (S.offMe_eq t c) _) (hdst := S.outExact t c (S.offMe_eq t c) _) (hsem := ⟨Or.inl rfl, trivial⟩)
    (X := part c (I t c)) (Y := part c (O t c)) (S.outAmount _ _)
    (by
      rw [owns_slotAt _ _ _ _ (S.offMe_eq t c), owns_slotAt _ _ _ _ (S.offMe_eq t c)]
      show _ ⊢ iprop(S.got I c (t, 0) ∗ S.src I c (t, 0))
      unfold got src
      simp only [flip_zero]
      exact .rfl)
  rw [owns_slotAt _ _ _ _ (S.offMe_eq t c), owns_slotAt _ _ _ _ (S.offMe_eq t c)] at h
  rw [S.dst_zero]
  unfold src
  simp only [flip_zero]
  unfold keepOp
  iintro ⟨HK, ⟨Hs, Hd, Ht⟩, -⟩ Hk
  iapply h $$ [HK Hs Hd Ht]
  · isplitl [HK]; · iexact HK
    isplitl [Hs]; · iexact Hs
    isplitl [Hd]; · iexact Hd
    iexact Ht
  iintro H
  iapply Hk
  isplitl [H]; · iexact H
  iempintro

theorem step_send (x : Fin 2 × Fin 7) (l : List (Fin 2 × Fin 7)) (k : PUnit → Prog (TpuEff 8 τ sig Val Λ .tc) α) :
    iprop(S.net.known (S.pay I) κ ∗ ((S.src I c (x.1, x.2.succ) ∗ S.dst O c (x.1, x.2.succ) ∗ S.net.tok c (arr x)) ∗ S.net.tok c (.inl x))
        ∗ S.net.owes' c ((x :: l).map arr))
      ⊢ iprop(((S.net.due1 c (.inl x) ∗ S.net.owes' c (l.map arr)) -∗ wp frame (wpE 𝔻 𝕍 (c.tc : Thread 8 τ) none) Set.univ (k ⟨⟩) Q)
        -∗ wp frame (wpE 𝔻 𝕍 (c.tc : Thread 8 τ) none) Set.univ (.op (S.sendOp c x) k) Q) := by
  have hd : (⟨S.devTo x c, S.devTo_lt x c⟩ : Dev 8) = flip x.2.succ c := Fin.ext (S.devTo_eq x c)
  have h := S.net.send_owns (Q := Q) (𝔻 := 𝔻) (S.pay I) 𝕍 κ c (.inl x) (arr x) rfl (l.map arr) (d' := ⟨S.devTo x c, S.devTo_lt x c⟩) hd (k := k)
    (src := S.inS x.1 (S.offTo x c) (S.offTo_inb x c)) (dst := S.outS x.1 (S.offMe x.1 c) (S.offMe_inb x.1 c)) (q := fullShare)
    (hsc := S.scratch _ _)
    (hsrc := S.inExact x.1 _ (S.offTo_eq x c) _) (hdst := S.outExact x.1 c (S.offMe_eq x.1 c) _) (hsem := ⟨⟨rfl, Or.inl rfl⟩, trivial⟩)
    (X := part (flip x.2.succ c) (I x.1 c)) (Y := part c (O x.1 ⟨S.devTo x c, S.devTo_lt x c⟩)) (S.outAmount _ _) rfl
    (by
      rw [owns_slotAt _ _ _ _ (S.offTo_eq x c)]
      exact .rfl)
    (by
      rw [owns_slotAt _ _ _ _ (S.offMe_eq x.1 c)]
      show _ ⊢ S.got I (flip x.2.succ c) (x.1, x.2.succ)
      unfold got
      simp only [Talk.flip_flip]
      exact .rfl)
  rw [owns_slotAt _ _ _ _ (S.offTo_eq x c), owns_slotAt _ _ _ _ (S.offMe_eq x.1 c), S.dst_at O c (x.1, x.2.succ) _ hd] at h
  unfold src sendOp
  iintro ⟨HK, ⟨⟨Hs, Hd, Ht⟩, Hi⟩, Ho⟩ Hk
  iapply h $$ [HK Hs Hd Ht Hi Ho]
  · isplitl [HK]; · iexact HK
    isplitl [Hs]; · iexact Hs
    isplitl [Hd]; · iexact Hd
    isplitl [Ho]; · iexact Ho
    isplitl [Hi]; · iexact Hi
    iexact Ht
  iexact Hk

theorem step_wait (j : K) (l : List K) (k : PUnit → Prog (TpuEff 8 τ sig Val Λ .tc) α) :
    iprop(S.net.known (S.pay I) κ ∗ (S.net.due1 c j ∗ S.net.turn c j) ∗ S.net.owes' c [])
      ⊢ iprop((((S.net.shut c j ∗ S.pay I c j) ∗ S.net.owes' c []) -∗ wp frame (wpE 𝔻 𝕍 (c.tc : Thread 8 τ) none) Set.univ (k ⟨⟩) Q)
        -∗ wp frame (wpE 𝔻 𝕍 (c.tc : Thread 8 τ) none) Set.univ (.op (S.waitOp c j) k) Q) := by
  suffices h : iprop(S.net.known (S.pay I) κ ∗ S.net.due1 c j ∗ S.net.owes' c [] ∗ S.net.turn c j)
      ⊢ iprop(((S.net.owes' c [] ∗ S.net.shut c j ∗ S.pay I c j) -∗ wp frame (wpE 𝔻 𝕍 (c.tc : Thread 8 τ) none) Set.univ (k ⟨⟩) Q)
        -∗ wp frame (wpE 𝔻 𝕍 (c.tc : Thread 8 τ) none) Set.univ (.op (S.waitOp c j) k) Q) by
    iintro ⟨HK, ⟨Hd, Ht⟩, Ho⟩ Hk
    iapply h $$ [HK Hd Ht Ho]
    · isplitl [HK]; · iexact HK
      isplitl [Hd]; · iexact Hd
      isplitl [Ho]; · iexact Ho
      iexact Ht
    iintro ⟨Ho, Hs, Hp⟩
    iapply Hk
    isplitl [Hs Hp]
    · isplitl [Hs]; · iexact Hs
      iexact Hp
    iexact Ho
  rcases j with x | ⟨t, r⟩
  · rw [show S.waitOp c (.inl x) = S.sentOp c x from rfl]
    unfold sentOp
    refine S.net.wait (Q := Q) (𝔻 := 𝔻) (S.pay I) 𝕍 κ c (.inl x) [] (fun _ h => absurd h (List.not_mem_nil)) (S.inAmount _ _)
  · induction r using Fin.cases with
    | zero =>
      rw [show S.waitOp c (.inr (t, 0)) = S.keptOp c t from rfl]
      unfold keptOp
      exact S.net.wait (Q := Q) (𝔻 := 𝔻) (S.pay I) 𝕍 κ c (.inr (t, 0)) [] (fun _ h => absurd h (List.not_mem_nil)) (S.outAmount _ _)
    | succ r =>
      rw [show S.waitOp c (.inr (t, r.succ)) = S.cameOp c (t, r) from rfl]
      unfold cameOp
      exact S.net.wait (Q := Q) (𝔻 := 𝔻) (S.pay I) 𝕍 κ c (arr (t, r)) [] (fun _ h => absurd h (List.not_mem_nil)) (S.outAmount _ _)

end Steps

/-! ## The body -/

theorem split8 (Φ : Fin 2 × Fin 8 → sProp 𝕄) : bigSep Finset.univ Φ
    = iprop(bigSepL [0, 1] (fun t => Φ (t, 0)) ∗ bigSepL sends (fun x => Φ (x.1, x.2.succ))) := by
  rw [bigSep_univ_eq_bigSepL ([0, 1].map (fun t : Fin 2 => (t, (0 : Fin 8))) ++ sends.map fun x => (x.1, x.2.succ)) (by decide) (by decide),
    bigSepL_append, bigSepL_map, bigSepL_map]

theorem split7 (Φ : Fin 2 × Fin 7 → sProp 𝕄) : bigSep Finset.univ Φ = bigSepL sends Φ :=
  bigSep_univ_eq_bigSepL sends (by decide) (by decide) Φ

theorem splitS {A B : Type} [Fintype A] [Fintype B] (Φ : A ⊕ B → sProp 𝕄) : bigSep Finset.univ Φ
    = iprop(bigSep Finset.univ (fun a => Φ (.inl a)) ∗ bigSep Finset.univ (fun b => Φ (.inr b))) := bigSep_univ_sum Φ

theorem splitK (Φ : K → sProp 𝕄) : bigSep Finset.univ Φ
    = iprop(bigSepL sends (fun x => Φ (.inl x)) ∗ bigSepL [0, 1] (fun t => Φ (.inr (t, 0))) ∗ bigSepL sends (fun x => Φ (arr x))) := by
  rw [splitS, split7, split8]
  rfl

theorem splitW (Φ : K → sProp 𝕄) : bigSep Finset.univ Φ = bigSepL waits Φ :=
  bigSep_univ_eq_bigSepL waits (by decide) (by decide) Φ

/-- What device `c` starts with. -/
def start (c : Dev 8) : sProp 𝕄 := bigSep Finset.univ fun x : Fin 2 × Fin 8 => iprop(S.src I c x ∗ S.dst O c x)

theorem body {Λ : Labels} {𝔻 : Defs 8 τ sig Val Λ} (𝕍 : Variants) (c : Dev 8) (κ : Dev 8 × K → ℕ) :
    iprop(S.net.known (S.pay I) κ ∗ bigSep (Finset.univ : Finset K) (fun k => S.net.turn c k) ∗ bigSep (Finset.univ : Finset K) (fun k => S.net.tok c k)
        ∗ bigSepL (sends.map arr) (fun k => S.net.due1 c k) ∗ S.net.owes' c (sends.map arr) ∗ S.start I O c)
      ⊢ wp frame (wpE 𝔻 𝕍 (c.tc : Thread 8 τ) none) Set.univ (S.ops c)
          fun _ => iprop(bigSep (Finset.univ : Finset K) (S.pay I c) ∗ bigSep (Finset.univ : Finset K) (fun k => S.net.shut c k) ∗ S.net.owes' c []) := by
  have hin : iprop((S.start I O c : sProp 𝕄) ∗ bigSep (Finset.univ : Finset K) (fun k => S.net.tok c k))
      ⊢ iprop(bigSepL [0, 1] (fun t => iprop(S.src I c (t, 0) ∗ S.dst O c (t, 0) ∗ S.net.tok c (.inr (t, 0))))
        ∗ bigSepL sends (fun x => iprop((S.src I c (x.1, x.2.succ) ∗ S.dst O c (x.1, x.2.succ) ∗ S.net.tok c (arr x)) ∗ S.net.tok c (.inl x)))) := by
    rw [← split7 (fun x => iprop((S.src I c (x.1, x.2.succ) ∗ S.dst O c (x.1, x.2.succ) ∗ S.net.tok c (arr x)) ∗ S.net.tok c (.inl x))), bigSep_sep', split7 (fun x => iprop(S.src I c (x.1, x.2.succ) ∗ _))]
    have h := split8 (fun x => iprop((S.src I c x : sProp 𝕄) ∗ S.dst O c x ∗ S.net.tok c (.inr x)))
    rw [bigSep_sep', bigSep_sep'] at h
    unfold start
    rw [bigSep_sep', splitS]
    iintro ⟨⟨Hs, Hd⟩, Hi, Hr⟩
    ihave H := (Entails.of_eq h) $$ [Hs Hd Hr]
    · isplitl [Hs]; · iexact Hs
      isplitl [Hd]; · iexact Hd
      iexact Hr
    icases H with ⟨H0, H1⟩
    isplitl [H0]; · iexact H0
    isplitl [H1]; · iexact H1
    iexact Hi
  have hdue : iprop((bigSepL [0, 1] fun t => (S.net.due1 c (.inr (t, 0)) : sProp 𝕄)) ∗ (bigSepL sends fun x => (S.net.due1 c (.inl x) : sProp 𝕄))
        ∗ (bigSepL (sends.map arr) fun k => (S.net.due1 c k : sProp 𝕄)) ∗ bigSep (Finset.univ : Finset K) fun k => (S.net.turn c k : sProp 𝕄))
      ⊢ bigSepL waits fun k => iprop((S.net.due1 c k : sProp 𝕄) ∗ (S.net.turn c k : sProp 𝕄)) := by
    rw [← splitW, bigSep_sep' (I := K) Finset.univ (fun k => S.net.due1 c k) (fun k => S.net.turn c k), splitK (fun k => S.net.due1 c k), bigSepL_map]
    iintro ⟨H0, H1, H2, H3⟩
    isplitr [H3]; swap; · iexact H3
    isplitl [H1]; · iexact H1
    isplitl [H0]; · iexact H0
    iexact H2
  have hout : iprop(bigSepL waits (fun k => iprop((S.net.shut c k : sProp 𝕄) ∗ S.pay I c k)) ∗ S.net.owes' c [])
      ⊢ iprop(bigSep (Finset.univ : Finset K) (S.pay I c) ∗ bigSep (Finset.univ : Finset K) (fun k => S.net.shut c k) ∗ S.net.owes' c []) := by
    rw [← splitW, bigSep_sep' (I := K) Finset.univ (fun k => S.net.shut c k) (fun k => S.pay I c k)]
    iintro ⟨⟨H0, H1⟩, H2⟩
    isplitl [H1]; · iexact H1
    isplitl [H0]; · iexact H0
    iexact H2
  iintro ⟨#HK, Hturn, Htok, Hdue, Ho, Hst⟩
  ihave Hin := hin $$ [Hst Htok]
  · isplitl [Hst]; · iexact Hst
    iexact Htok
  icases Hin with ⟨Hkeep, Hsend⟩
  unfold ops
  iapply (wp_runOps 𝕍 c (S.keepOp c) (S.net.known (S.pay I) κ) _ (fun t => S.net.due1 c (.inr (t, 0))) (fun _ => iprop(emp))
    (fun t _ k => S.step_keep I O κ c 𝕍 t k) [0, 1] _) $$ [Hkeep]
  · isplitl []; · iexact HK
    isplitl [Hkeep]; · iexact Hkeep
    iempintro
  iintro ⟨Hd0, -⟩
  iapply (wp_runOps 𝕍 c (S.sendOp c) (S.net.known (S.pay I) κ) _ (fun x => S.net.due1 c (.inl x)) (fun l => S.net.owes' c (l.map arr))
    (fun x l k => S.step_send I O κ c 𝕍 x l k) sends _) $$ [Hsend Ho]
  · isplitl []; · iexact HK
    isplitl [Hsend]; · iexact Hsend
    iexact Ho
  iintro ⟨Hd1, Ho⟩
  ihave Hall := hdue $$ [Hd0 Hd1 Hdue Hturn]
  · isplitl [Hd0]; · iexact Hd0
    isplitl [Hd1]; · iexact Hd1
    isplitl [Hdue]; · iexact Hdue
    iexact Hturn
  iapply (wp_runOps 𝕍 c (S.waitOp c) (S.net.known (S.pay I) κ) _ (fun k => iprop(S.net.shut c k ∗ S.pay I c k)) (fun _ => S.net.owes' c [])
    (fun j l k => S.step_wait I κ c 𝕍 j l k) waits _) $$ [Hall Ho]
  · isplitl []; · iexact HK
    isplitl [Hall]; · iexact Hall
    iexact Ho
  iintro H
  rw [wp_ret]
  imodintro
  iapply hout
  iexact H

/-! ## Dealing the arrays out, and gathering them in -/

variable [∀ e, Nonempty (Val e)]

theorem whole_slots (c : Dev 8) (t : Fin 2) (M : Memref sig .tc .hbm (SB t) .bf16) (X : (SB t).Idx → Val .bf16) :
    (owns (c.tc : Thread 8 τ) M fullShare X : sProp 𝕄)
      = bigSep Finset.univ fun k : Fin 8 => ownsSlot (c.tc : Thread 8 τ) M fullShare (sq t) (flip k c) (part (flip k c) X) :=
  (owns_slots (c.tc : Thread 8 τ) M fullShare (sq t) X).trans (bigSep_univ_equiv (distP c) _)

theorem src_whole (c : Dev 8) (t : Fin 2) : (bigSep Finset.univ fun k : Fin 8 => S.src I c (t, k))
    = owns (c.tc : Thread 8 τ) (S.inM t) fullShare (I t c) := (whole_slots c t (S.inM t) (I t c)).symm

/-- The output of device `c`: slot `i` holds the slot that device `i` had for it. -/
def done (t : Fin 2) (c : Dev 8) : (SB t).Idx → Val .bf16 := fun x => I t (x 0) (at3 c (tail x))

theorem got_whole (c : Dev 8) (t : Fin 2) : (bigSep Finset.univ fun k : Fin 8 => S.got I c (t, k))
    = owns (c.tc : Thread 8 τ) (S.outM t) fullShare (done I t c) := by
  rw [whole_slots]
  refine bigSep_congr fun k _ => ?_
  unfold got
  congr 1

theorem dst_whole (t : Fin 2) : (bigSep Finset.univ fun c : Dev 8 => bigSep Finset.univ fun k : Fin 8 => S.dst O c (t, k))
    = bigSep Finset.univ fun c : Dev 8 => owns (c.tc : Thread 8 τ) (S.outM t) fullShare (O t c) := by
  have h (k : Fin 8) : (bigSep Finset.univ fun c : Dev 8 => S.dst O c (t, k))
      = bigSep Finset.univ fun c : Dev 8 => ownsSlot (c.tc : Thread 8 τ) (S.outM t) fullShare (sq t) (flip k c) (part (flip k c) (O t c)) := by
    rw [bigSep_univ_equiv (flipP k)]
    refine bigSep_congr fun c _ => ?_
    exact (S.dst_at O (flip k c) (t, k) c (Talk.flip_flip k c).symm).symm
  rw [bigSep_swap, bigSep_congr (fun k _ => h k), bigSep_swap]
  exact bigSep_congr fun c _ => (whole_slots c t (S.outM t) (O t c)).symm

theorem two (Φ : Fin 2 → sProp 𝕄) : bigSep Finset.univ Φ = iprop(Φ 0 ∗ Φ 1) :=
  bigSep_univ_eq_bigSepL [0, 1] (by decide) (by decide) Φ

/-- The arrays of device `c`, whole. -/
def wholes (A B : (t : Fin 2) → Dev 8 → (SB t).Idx → Val .bf16) (c : Dev 8) : sProp 𝕄 :=
  iprop((bigSep Finset.univ fun t => owns (c.tc : Thread 8 τ) (S.inM t) fullShare (A t c))
    ∗ bigSep Finset.univ fun t => owns (c.tc : Thread 8 τ) (S.outM t) fullShare (B t c))

theorem deal : (bigSep Finset.univ fun c : Dev 8 => (S.wholes I O c : sProp 𝕄)) ⊢ bigSep Finset.univ fun c : Dev 8 => S.start I O c := by
  refine Entails.of_eq ?_
  unfold wholes start
  simp only [bigSep_sep', bigSep_univ_prod, S.src_whole]
  congr 1
  rw [bigSep_swap, bigSep_congr (fun t _ => (S.dst_whole O t).symm)]
  exact bigSep_swap _

theorem collect (c : Dev 8) : bigSep (Finset.univ : Finset K) (S.pay I c) ⊢ (S.wholes I (done I) c : sProp 𝕄) := by
  have h : bigSep (Finset.univ : Finset K) (S.pay I c)
      ⊢ iprop((bigSep Finset.univ fun x => (S.src I c x : sProp 𝕄)) ∗ bigSep Finset.univ fun x => S.got I c x) := by
    rw [splitK, split8, split8]
    show iprop(bigSepL sends (fun x => (S.src I c (x.1, x.2.succ) : sProp 𝕄))
      ∗ ((S.got I c (0, 0) ∗ S.src I c (0, 0)) ∗ (S.got I c (1, 0) ∗ S.src I c (1, 0)))
      ∗ bigSepL sends (fun x => S.got I c (x.1, x.2.succ)))
      ⊢ iprop(((S.src I c (0, 0) ∗ S.src I c (1, 0)) ∗ bigSepL sends (fun x => S.src I c (x.1, x.2.succ)))
        ∗ ((S.got I c (0, 0) ∗ S.got I c (1, 0)) ∗ bigSepL sends (fun x => S.got I c (x.1, x.2.succ))))
    iintro ⟨Hs, ⟨⟨Hg0, Hs0⟩, ⟨Hg1, Hs1⟩⟩, Hg⟩
    isplitl [Hs Hs0 Hs1]
    · isplitr [Hs]; swap; · iexact Hs
      isplitl [Hs0] <;> iassumption
    · isplitr [Hg]; swap; · iexact Hg
      isplitl [Hg0] <;> iassumption
  refine h.trans (Entails.of_eq ?_)
  unfold wholes
  simp only [bigSep_univ_prod, S.src_whole, S.got_whole]

/-! ## The run -/

/-- A run of @main with the exchange first: `rest` is what follows it, `fin'` what the whole leaves. -/
theorem run {Λ₀ : Labels} {P : Type} [Fintype P] [DecidableEq P]
    (pcs : P → PCfg sig Λ₀ Val) (a : (p : P) → (pcs p).Adm) (p : P) (defs₀ : Defs 8 τ sig Val Λ₀)
    [IsEmpty (Fin (pin pcs a p).W)] [IsEmpty (Fin (pcs p).pre.K)] (hN : (pin pcs a p).N = 1)
    (phinj : Function.Injective (cellOf (nD := 8) (τ := τ) (pin pcs a)))
    (rest : Dev 8 → Prog (TpuEff 8 τ sig Val (Sig Λ₀ P fun p => (pcs p).Adm) Proc.tc) PUnit)
    (m : (ℓ : Loc 8 τ sig) → Buf Val ℓ) (g : Dev 8 → PrngReg) (hscoped : ∀ sm : SemLoc sig, sm.isScoped .tc = true)
    (hbody : ∀ (c : Dev 8) (t : Fin (pin pcs a p).N) (Q : sProp (MT 8 τ sig Unit Val ℕ (UU 8 τ sig) ℕ)),
      wp frame (wpE defs₀ Variants.none (c.tc : Thread 8 τ) none) Set.univ (S.ops c) (fun _ => Q)
        ⊢ wp frame (wpE defs₀ Variants.none (c.tc : Thread 8 τ) none) Set.univ
          (defs₀ .tc (pin pcs a p).body ((pin pcs a p).bodyArgs t ((pin pcs a p).slots t))) fun _ => Q)
    (others fin' : Dev 8 → sProp (MT 8 τ sig Unit Val ℕ (UU 8 τ sig) ℕ))
    (hmem : ∀ c : Dev 8, unscopedBufs c (fun b => m ((c.tc : Thread 8 τ).loc b)) ⊢ iprop(S.wholes I O c ∗ others c))
    (hrest : ∀ c, iprop((S.wholes I (done I) c ∗ others c) ∗ boundary (c.tc : Thread 8 τ)
        ∗ (levAts Net.idx S.net.lev ∗ ghostOn pcs a embL Finset.univ c) ∗ ∃ W, owes (c.tc : Thread 8 τ) 0 W)
      ⊢ wp frame (wpE (Pipeline.defs pcs defs₀) (Variants.lift Variants.none) (c.tc : Thread 8 τ) none) Set.univ (rest c)
          fun _ => iprop(fin' c ∗ scopedSems0 (c.tc : Thread 8 τ) ∗ ∃ W, owes (c.tc : Thread 8 τ) 0 W))
    (QY : Dev 8 → MemSt 8 τ sig Val → Prop)
    (hread : ∀ c (s' : Phys 8 τ sig Val), iprop(fin' c ∗ SI s') ⊢ |={Set.univ}=> iprop(⌜QY c s'.mem⌝ ∗ SI s')) :
    θ_run (Pipeline.defs pcs defs₀) (onTc fun c => .op (.customCall (entry p) ()) fun _ => rest c) ⟨m, fun _ => 0, g⟩
      (fun r => (∀ c, QY c r.2) ∧ r.2.sem = fun _ => 0) := by
  refine Net.run S.net (S.pay I) S.own pcs a p defs₀ Variants.none hN phinj
    rest m g hscoped (fun c => iprop(S.start I O c ∗ others c))
    (fun c => iprop(bigSep (Finset.univ : Finset K) (S.pay I c) ∗ others c)) fin' ?_ (fun c t κ => ?_) (fun c => ?_) QY hread
  · refine (bigSep_mono fun c _ => hmem c).trans ?_
    rw [bigSep_sep', bigSep_sep']
    exact sep_mono_left (S.deal I O)
  · have h := (sep_mono_left (Q := others c) (S.body I O (𝔻 := defs₀) Variants.none c κ)).trans ((wp_frame_r _ _ _).trans (wp_mono _ _ _ fun _ => (show
        iprop((bigSep (Finset.univ : Finset K) (S.pay I c) ∗ bigSep (Finset.univ : Finset K) (fun k => S.net.shut c k) ∗ S.net.owes' c []) ∗ others c)
          ⊢ iprop((bigSep (Finset.univ : Finset K) (S.pay I c) ∗ others c) ∗ bigSep (Finset.univ : Finset K) (fun k => S.net.shut c k) ∗ S.net.owes' c []) from by
      iintro ⟨⟨Hp, Hz, Ho⟩, Hr⟩
      isplitl [Hp Hr]; · isplitl [Hp] <;> iassumption
      isplitl [Hz] <;> iassumption)))
    refine (show _ ⊢ _ from ?_).trans (h.trans (hbody c t _))
    iintro ⟨HK, Ht, Htk, Hd, Ho, Hs, Hr⟩
    isplitr [Hr]; swap; · iexact Hr
    isplitl [HK]; · iexact HK
    isplitl [Ht]; · iexact Ht
    isplitl [Htk]; · iexact Htk
    isplitl [Hd]; · iexact Hd
    isplitl [Ho] <;> iassumption
  · exact (sep_mono_left (sep_mono_left (S.collect I c))).trans (hrest c)

end Swap

end Cert.Talk

end
-- ==== Proof.Exchange.lean ====
module

public import proofs.«01_k».proof.Proof.Swap
public import proofs.«01_k».proof.Proof.Gen.ExchangeIdeal.Frame
public import proofs.«01_k».proof.Proof.Gen.ExchangeIdeal.Skeleton

@[expose] public section

set_option Elab.async false

noncomputable section

namespace Cert.ExchangeIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Talk Cert.Talk.Swap Cert.ExchangeIdeal.Gen

variable {F : FTy → Type} [FloatOps F]

local notation "𝕄" => MT nD τ sig Unit (Elt F) ℕ (UU nD τ sig) ℕ

/-! ## The exchange alone -/

def offMe : Fin 2 → Dev nD → Fin 3 → ℕ := ![k0_off1, k0_off2]
def offTo (x : Fin 2 × Fin 7) : Dev nD → Fin 3 → ℕ :=
  ![![k0_off3, k0_off5, k0_off7, k0_off9, k0_off11, k0_off13, k0_off15],
    ![k0_off4, k0_off6, k0_off8, k0_off10, k0_off12, k0_off14, k0_off16]] x.1 x.2
def devTo (x : Fin 2 × Fin 7) : Dev nD → ℕ :=
  ![![k0_dev1, k0_dev3, k0_dev5, k0_dev7, k0_dev9, k0_dev11, k0_dev13],
    ![k0_dev2, k0_dev4, k0_dev6, k0_dev8, k0_dev10, k0_dev12, k0_dev14]] x.1 x.2

/-- What is sent, and where it arrives. -/
def inM : (t : Fin 2) → Memref sig .tc .hbm (SB t) .bf16
  | 0 => Memref.whole main_arg0
  | 1 => Memref.whole main_arg1
def outM : (t : Fin 2) → Memref sig .tc .hbm (SB t) .bf16
  | 0 => Memref.whole main_v1_0
  | 1 => Memref.whole main_v1_1

theorem inWhole : ∀ t, (inM t).IsWhole := fun | 0 => Memref.isWhole_whole _ | 1 => Memref.isWhole_whole _
theorem outWhole : ∀ t, (outM t).IsWhole := fun | 0 => Memref.isWhole_whole _ | 1 => Memref.isWhole_whole _

abbrev swap : Swap sig where
  inM := inM
  outM := outM
  sem := semOf
  inj := semOf_inj
  own := by decide
  inExact t i _ ho h := exact_of_whole t (inWhole t) i ho h
  outExact t i _ ho h := exact_of_whole t (outWhole t) i ho h
  scratch t _ h := match t with | 0 => rfl | 1 => rfl
  amount t := (slotAt (outM t) ![0, 0, 0] (slot_inb _ _ 0) (sq t)).view.dmaCredit
  pos t := View.dmaCredit_pos _ (by revert t; decide)
  inAmount t _ h := match t with | 0 => rfl | 1 => rfl
  outAmount t _ h := match t with | 0 => rfl | 1 => rfl
  offMe := offMe
  offMe_eq := by decide +kernel
  offTo := offTo
  offTo_eq := by decide +kernel
  devTo := devTo
  devTo_eq := by decide +kernel

set_option maxRecDepth 65536 in
theorem body_eq (t : Fin cfg0.N) : bodyAt0 (F := F) t = .op .deviceId fun c => swap.ops c := by
  rfl

/-! ## The run -/

section Run

variable (m : (ℓ : Loc nD τ sig) → Buf (Elt F) ℓ)

/-- The contents of the inputs and of the outputs in a memory. -/
def inOf : (t : Fin 2) → Dev nD → (SB t).Idx → Elt F .bf16
  | 0, c => m ((c.tc : Thread nD τ).loc main_arg0)
  | 1, c => m ((c.tc : Thread nD τ).loc main_arg1)
def outOf : (t : Fin 2) → Dev nD → (SB t).Idx → Elt F .bf16
  | 0, c => m ((c.tc : Thread nD τ).loc main_v1_0)
  | 1, c => m ((c.tc : Thread nD τ).loc main_v1_1)

theorem wholes_eq (A B : (t : Fin 2) → Dev nD → (SB t).Idx → Elt F .bf16) (c : Dev nD) : (swap.wholes A B c : sProp 𝕄)
    = iprop((pts c main_arg0 (A 0 c) ∗ pts c main_arg1 (A 1 c)) ∗ pts c main_v1_0 (B 0 c) ∗ pts c main_v1_1 (B 1 c)) := by
  have h (P P' Q Q' : sProp 𝕄) (hP : P = P') (hQ : Q = Q') : iprop(P ∗ Q) = iprop(P' ∗ Q') := by rw [hP, hQ]
  unfold Swap.wholes
  rw [two, two]
  exact h _ _ _ _ (h _ _ _ _ (owns_pts c main_arg0 (A 0 c)) (owns_pts c main_arg1 (A 1 c)))
    (h _ _ _ _ (owns_pts c main_v1_0 (B 0 c)) (owns_pts c main_v1_1 (B 1 c)))

theorem bufs_eq (c : Dev nD) : (unscopedBufs c (fun b => m ((c.tc : Thread nD τ).loc b)) : sProp 𝕄) ⊢ swap.wholes (inOf m) (outOf m) c := by
  have h : (unscopedBufs c (fun b => m ((c.tc : Thread nD τ).loc b)) : sProp 𝕄)
      = bigSepL [main_arg0, main_arg1, main_v1_0, main_v1_1] fun b => pts c b (m ((c.tc : Thread nD τ).loc b)) :=
    bigSep_eq_bigSepL_of_eq _ (by decide) (by decide) _
  rw [wholes_eq, h]
  show iprop(pts c main_arg0 (inOf m 0 c) ∗ pts c main_arg1 (inOf m 1 c) ∗ pts c main_v1_0 (outOf m 0 c) ∗ pts c main_v1_1 (outOf m 1 c)) ⊢ _
  iintro ⟨H0, H1, H2, H3⟩
  isplitl [H0 H1]
  · isplitl [H0] <;> iassumption
  · isplitl [H2] <;> iassumption

/-- What the exchange leaves on device `c`. -/
def After (c : Dev nD) (s : MemSt nD τ sig (Elt F)) : Prop :=
  (s.mem ((c.tc : Thread nD τ).loc main_arg0) = inOf m 0 c ∧ s.mem ((c.tc : Thread nD τ).loc main_arg1) = inOf m 1 c)
    ∧ s.mem ((c.tc : Thread nD τ).loc main_v1_0) = done (inOf m) 0 c ∧ s.mem ((c.tc : Thread nD τ).loc main_v1_1) = done (inOf m) 1 c

theorem read (c : Dev nD) (s' : Phys nD τ sig (Elt F)) :
    iprop(swap.wholes (inOf m) (done (inOf m)) c ∗ SI s') ⊢ |={Set.univ}=> iprop(⌜After m c s'.mem⌝ ∗ SI s') := by
  rw [wholes_eq]
  iintro ⟨⟨⟨H0, H1⟩, H2, H3⟩, HS⟩
  icases pts_read (Val := Elt F) c main_arg0 (inOf m 0 c) s' $$ [H0 HS] with ⟨%h0, HS⟩
  · isplitl [H0] <;> iassumption
  icases pts_read (Val := Elt F) c main_arg1 (inOf m 1 c) s' $$ [H1 HS] with ⟨%h1, HS⟩
  · isplitl [H1] <;> iassumption
  icases pts_read (Val := Elt F) c main_v1_0 (done (inOf m) 0 c) s' $$ [H2 HS] with ⟨%h2, HS⟩
  · isplitl [H2] <;> iassumption
  icases pts_read (Val := Elt F) c main_v1_1 (done (inOf m) 1 c) s' $$ [H3 HS] with ⟨%h3, HS⟩
  · isplitl [H3] <;> iassumption
  imodintro
  isplitr; swap; · iexact HS
  ipureintro
  exact ⟨⟨h0, h1⟩, h2, h3⟩

theorem run (g : Dev nD → PrngReg) :
    θ_run (defs (F := F)) (onTc main) ⟨m, fun _ => 0, g⟩ (fun r => (∀ c, After m c r.2) ∧ r.2.sem = fun _ => 0) := by
  refine swap.run (inOf m) (outOf m) pcfgs (fun p => (cfgs p).toPCfg_adm) 0 defs₀ rfl cellOf_inj (fun _ => .ret ⟨⟩) m g (by decide)
    (fun c t Q => ?_) (fun _ => iprop(emp)) (swap.wholes (inOf m) (done (inOf m))) (fun c => ?_) (fun c => ?_) (After m) (read m)
  · have h : defs₀ (F := F) .tc (pin pcfgs (fun p => (cfgs p).toPCfg_adm) 0).body
        ((pin pcfgs (fun p => (cfgs p).toPCfg_adm) 0).bodyArgs t ((pin pcfgs (fun p => (cfgs p).toPCfg_adm) 0).slots t))
        = .op .deviceId fun c => swap.ops c := body_eq t
    rw [h, wp_deviceId]
  · iintro H
    isplitl [H]; · iapply (bufs_eq m c); iexact H
    iempintro
  · rw [wp_ret]
    iintro ⟨⟨Hp, -⟩, Hb, -, Ho⟩
    imodintro
    isplitl [Hp]; · iexact Hp
    isplitl [Hb]
    · unfold boundary
      icases Hb with ⟨-, Hb, -⟩
      iexact Hb
    iexact Ho

end Run

end Cert.ExchangeIdeal

end
-- ==== Proof.Values.lean ====
/-
The values: what the gathers and the exchange leave is what the references compute.

For each of the three programs the run over any float values is joined with the run of its reference; the claims about
the program and about its idealization are this at the two kinds of values.
-/
module

public import proofs.«01_k».proof.Proof.Col
public import proofs.«01_k».proof.Proof.Row
public import proofs.«01_k».proof.Proof.Exchange
public import proofs.«01_k».proof.Proof.Gen.ReferenceColIdeal.Run
public import proofs.«01_k».proof.Proof.Gen.ReferenceRowIdeal.Run
public import proofs.«01_k».proof.Proof.Gen.ReferenceExchangeIdeal.Run
public import Idealize.ShloMosaic.Lib.Layout
public import Idealize.ShloMosaic.Lib.ValueIdxCore
public import Idealize.ShloMosaic.Lib.Pipeline.Value

@[expose] public section

set_option Elab.async false

noncomputable section

namespace Cert.Talk

open Idealize.ShloMosaic Idealize.ShloMosaic.TcCoe Idealize.SL.Sem Idealize.ShloMosaic.ValueIdx

/-! ## Layouts -/

section Layouts

variable {α : Type} {R C N : ℕ}

/-- Rows cut into eight parts: part `x 0` at row `x 1`. -/
theorem cast_rows (v : (⟨2, ![N, C]⟩ : Shape).Idx → α) (h : Layout.Tiles ⟨2, ![R, C]⟩ ⟨2, ![N, C]⟩ 0 8)
    (hs : (⟨2, ![N, C]⟩ : Shape).ShapeCasts (Big R C)) (x : (Big R C).Idx) :
    shapeCast (Big R C) v hs x = Layout.block ⟨2, ![R, C]⟩ ⟨2, ![N, C]⟩ 0 8 (x 0) v h (tail x) := by
  refine shapeCast_apply v hs x (h.idx (x 0) (tail x)) ?_
  rw [Shape.rowMajor_val_two, Shape.rowMajor_val_three]
  rfl

/-- Eight by eight parts transposed: part `i` of the parts of `c` is part `c` of the parts of `i`. -/
theorem cast_swap (v : (⟨3, ![N, R, C]⟩ : Shape).Idx → α) (h : Layout.Tiles (Big R C) ⟨3, ![N, R, C]⟩ 0 8)
    (h₁ : (⟨3, ![N, R, C]⟩ : Shape).ShapeCasts ⟨4, ![8, 8, R, C]⟩)
    (h₂ : (⟨4, ![8, 8, R, C]⟩ : Shape).Transposes [1, 0, 2, 3] ⟨4, ![8, 8, R, C]⟩)
    (h₃ : (⟨4, ![8, 8, R, C]⟩ : Shape).ShapeCasts ⟨3, ![N, R, C]⟩) (c : Fin 8) (x : (Big R C).Idx) :
    Layout.block (Big R C) ⟨3, ![N, R, C]⟩ 0 8 c
        (shapeCast ⟨3, ![N, R, C]⟩ (transpose ⟨4, ![8, 8, R, C]⟩ [1, 0, 2, 3] (shapeCast ⟨4, ![8, 8, R, C]⟩ v h₁) h₂) h₃) h x
      = Layout.block (Big R C) ⟨3, ![N, R, C]⟩ 0 8 (x 0) v h (at3 c (tail x)) := by
  refine (shapeCast_apply _ h₃ (h.idx c x) (ix4 c (x 0) (x 1) (x 2)) ?_).trans ?_
  · rw [Shape.rowMajor_val_four, Shape.rowMajor_val_three]
    rfl
  refine (transpose_apply _ _ h₂ _ (ix4 (x 0) c (x 1) (x 2)) fun b => ?_).trans ?_
  · match b with
    | 0 => rfl
    | 1 => rfl
    | 2 => rfl
    | 3 => rfl
  refine shapeCast_apply v h₁ _ (h.idx (x 0) (at3 c (tail x))) ?_
  rw [Shape.rowMajor_val_four, Shape.rowMajor_val_three]
  rfl

end Layouts

end Cert.Talk

variable {F : Idealize.ShloMosaic.FTy → Type} [Idealize.ShloMosaic.FloatOps F]

namespace Cert.GatherColIdeal

open Idealize.ShloMosaic Idealize.ShloMosaic.TcCoe Idealize.SL.Sem Cert.Talk

theorem value (m : (ℓ : Loc nD τ sig) → Buf (Elt F) ℓ) (g : Dev nD → PrngReg)
    (m' : (ℓ : Loc ReferenceColIdeal.nD ReferenceColIdeal.τ ReferenceColIdeal.sig) → Buf (Elt F) ℓ)
    (g' : Dev ReferenceColIdeal.nD → PrngReg)
    (hm : ∀ c : Dev nD, m ((c.tc : Thread nD τ).loc main_arg0) = Layout.block ⟨2, ![1024, 1792]⟩ ⟨2, ![8192, 1792]⟩ 0 8 c
      (m' (((0 : Dev ReferenceColIdeal.nD).tc : Thread ReferenceColIdeal.nD ReferenceColIdeal.τ).loc ReferenceColIdeal.main_arg0))) :
    ∃ v : Buf (Elt F) (((0 : Dev ReferenceColIdeal.nD).tc : Thread ReferenceColIdeal.nD ReferenceColIdeal.τ).loc ReferenceColIdeal.main_v0),
      θ_run (defs (F := F)) (onTc main) ⟨m, fun _ => 0, g⟩ (fun r => ∀ c : Dev nD,
        r.2.mem ((c.tc : Thread nD τ).loc main_v1) = v
        ∧ r.2.mem ((c.tc : Thread nD τ).loc main_arg0) = m ((c.tc : Thread nD τ).loc main_arg0))
      ∧ θ_run (ReferenceColIdeal.defs (F := F)) (onTc ReferenceColIdeal.main) ⟨m', fun _ => 0, g'⟩ (fun r =>
        r.2.mem (((0 : Dev ReferenceColIdeal.nD).tc : Thread ReferenceColIdeal.nD ReferenceColIdeal.τ).loc ReferenceColIdeal.main_v0) = v
        ∧ r.2.mem (((0 : Dev ReferenceColIdeal.nD).tc : Thread ReferenceColIdeal.nD ReferenceColIdeal.τ).loc ReferenceColIdeal.main_arg0)
          = m' (((0 : Dev ReferenceColIdeal.nD).tc : Thread ReferenceColIdeal.nD ReferenceColIdeal.τ).loc ReferenceColIdeal.main_arg0)) :=
  ⟨_, (θ_run _ _ _).mono (fun r h c => ⟨(h.1 c).2.trans (funext fun x =>
      (congrFun (hm (x 0)) (tail x)).trans (cast_rows _ _ ReferenceColIdeal.Facts₀.shapeCasts_S8192x1792_S8x1024x1792 x).symm), (h.1 c).1⟩) (run m g),
    (θ_run _ _ _).mono (fun r h => h 0) (ReferenceColIdeal.Value.run m' g')⟩

end Cert.GatherColIdeal

namespace Cert.GatherRowIdeal

open Idealize.ShloMosaic Idealize.ShloMosaic.TcCoe Idealize.SL.Sem Cert.Talk

theorem value (m : (ℓ : Loc nD τ sig) → Buf (Elt F) ℓ) (g : Dev nD → PrngReg)
    (m' : (ℓ : Loc ReferenceRowIdeal.nD ReferenceRowIdeal.τ ReferenceRowIdeal.sig) → Buf (Elt F) ℓ)
    (g' : Dev ReferenceRowIdeal.nD → PrngReg)
    (hm : ∀ c : Dev nD, m ((c.tc : Thread nD τ).loc main_arg0) = Layout.block ⟨2, ![832, 1024]⟩ ⟨2, ![6656, 1024]⟩ 0 8 c
      (m' (((0 : Dev ReferenceRowIdeal.nD).tc : Thread ReferenceRowIdeal.nD ReferenceRowIdeal.τ).loc ReferenceRowIdeal.main_arg0))) :
    ∃ v : Buf (Elt F) (((0 : Dev ReferenceRowIdeal.nD).tc : Thread ReferenceRowIdeal.nD ReferenceRowIdeal.τ).loc ReferenceRowIdeal.main_v0),
      θ_run (defs (F := F)) (onTc main) ⟨m, fun _ => 0, g⟩ (fun r => ∀ c : Dev nD,
        r.2.mem ((c.tc : Thread nD τ).loc main_v1) = v
        ∧ r.2.mem ((c.tc : Thread nD τ).loc main_arg0) = m ((c.tc : Thread nD τ).loc main_arg0))
      ∧ θ_run (ReferenceRowIdeal.defs (F := F)) (onTc ReferenceRowIdeal.main) ⟨m', fun _ => 0, g'⟩ (fun r =>
        r.2.mem (((0 : Dev ReferenceRowIdeal.nD).tc : Thread ReferenceRowIdeal.nD ReferenceRowIdeal.τ).loc ReferenceRowIdeal.main_v0) = v
        ∧ r.2.mem (((0 : Dev ReferenceRowIdeal.nD).tc : Thread ReferenceRowIdeal.nD ReferenceRowIdeal.τ).loc ReferenceRowIdeal.main_arg0)
          = m' (((0 : Dev ReferenceRowIdeal.nD).tc : Thread ReferenceRowIdeal.nD ReferenceRowIdeal.τ).loc ReferenceRowIdeal.main_arg0)) :=
  ⟨_, (θ_run _ _ _).mono (fun r h c => ⟨(h.1 c).2.trans (funext fun x =>
      (congrFun (hm (x 0)) (tail x)).trans (cast_rows _ _ ReferenceRowIdeal.Facts₀.shapeCasts_S6656x1024_S8x832x1024 x).symm), (h.1 c).1⟩) (run m g),
    (θ_run _ _ _).mono (fun r h => h 0) (ReferenceRowIdeal.Value.run m' g')⟩

end Cert.GatherRowIdeal

namespace Cert.ExchangeIdeal

open Idealize.ShloMosaic Idealize.ShloMosaic.TcCoe Idealize.SL.Sem Cert.Talk

abbrev host : Thread ReferenceExchangeIdeal.nD ReferenceExchangeIdeal.τ := (0 : Dev ReferenceExchangeIdeal.nD).tc

theorem value (m : (ℓ : Loc nD τ sig) → Buf (Elt F) ℓ) (g : Dev nD → PrngReg)
    (m' : (ℓ : Loc ReferenceExchangeIdeal.nD ReferenceExchangeIdeal.τ ReferenceExchangeIdeal.sig) → Buf (Elt F) ℓ)
    (g' : Dev ReferenceExchangeIdeal.nD → PrngReg)
    (hm : ∀ c : Dev nD,
      m ((c.tc : Thread nD τ).loc main_arg0) = Layout.block ⟨3, ![8, 1024, 1792]⟩ ⟨3, ![64, 1024, 1792]⟩ 0 8 c
        (m' (host.loc ReferenceExchangeIdeal.main_arg0))
      ∧ m ((c.tc : Thread nD τ).loc main_arg1) = Layout.block ⟨3, ![8, 832, 1024]⟩ ⟨3, ![64, 832, 1024]⟩ 0 8 c
        (m' (host.loc ReferenceExchangeIdeal.main_arg1))) :
    ∃ (v : Buf (Elt F) (host.loc ReferenceExchangeIdeal.main_v2)) (w : Buf (Elt F) (host.loc ReferenceExchangeIdeal.main_v5)),
      θ_run (defs (F := F)) (onTc main) ⟨m, fun _ => 0, g⟩ (fun r => ∀ c : Dev nD,
        r.2.mem ((c.tc : Thread nD τ).loc main_v1_0) = Layout.block ⟨3, ![8, 1024, 1792]⟩ ⟨3, ![64, 1024, 1792]⟩ 0 8 c v
        ∧ r.2.mem ((c.tc : Thread nD τ).loc main_v1_1) = Layout.block ⟨3, ![8, 832, 1024]⟩ ⟨3, ![64, 832, 1024]⟩ 0 8 c w
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ θ_run (ReferenceExchangeIdeal.defs (F := F)) (onTc ReferenceExchangeIdeal.main) ⟨m', fun _ => 0, g'⟩ (fun r =>
        r.2.mem (host.loc ReferenceExchangeIdeal.main_v2) = v
        ∧ r.2.mem (host.loc ReferenceExchangeIdeal.main_v5) = w
        ∧ r.2.mem (host.loc ReferenceExchangeIdeal.main_arg0) = m' (host.loc ReferenceExchangeIdeal.main_arg0)
        ∧ r.2.mem (host.loc ReferenceExchangeIdeal.main_arg1) = m' (host.loc ReferenceExchangeIdeal.main_arg1)) := by
  refine ⟨_, _, ?_, (θ_run _ _ _).mono (fun r h => h 0) (ReferenceExchangeIdeal.Value.run m' g')⟩
  refine (θ_run _ _ _).mono (fun r h c => ⟨(h.1 c).2.1.trans (funext fun x => ?_), (h.1 c).2.2.trans (funext fun x => ?_),
    (h.1 c).1.1, (h.1 c).1.2⟩) (run m g)
  · exact (congrFun (hm (x 0)).1 (at3 c (tail x))).trans
      (cast_swap (R := 1024) (C := 1792) (N := 64) (m' (host.loc ReferenceExchangeIdeal.main_arg0)) _ _ _ _ c x).symm
  · exact (congrFun (hm (x 0)).2 (at3 c (tail x))).trans
      (cast_swap (R := 832) (C := 1024) (N := 64) (m' (host.loc ReferenceExchangeIdeal.main_arg1)) _ _ _ _ c x).symm

end Cert.ExchangeIdeal

end
-- ==== Proof.Fold.lean ====
/-
The sum over eight slots, as the two summing kernels form it: the slots are loaded one after another, widened and added
to what has been summed so far.
-/
module

public import proofs.«01_k».proof.Proof.Slots
public import Idealize.ShloMosaic.Lib.Pipeline.FrameBody

@[expose] public section

set_option Elab.async false

noncomputable section

namespace Cert.Talk

open Idealize.ShloMosaic

variable {F : FTy → Type} [FloatOps F] {R C : ℕ}

/-- Slot `i`, widened. -/
def wide (X : (Big R C).Idx → Elt F .bf16) (i : Fin 8) : FVec F (Flat R C) .f32 := extf .f32 (fun j => X (at3 i j)) (by decide)

/-- The sum of the eight slots, from the first to the last. -/
def slotSum (X : (Big R C).Idx → Elt F .bf16) : FVec F (Flat R C) .f32 :=
  addf (addf (addf (addf (addf (addf (addf (wide X 0) (wide X 1)) (wide X 2)) (wide X 3)) (wide X 4)) (wide X 5)) (wide X 6)) (wide X 7)

theorem slotSum_congr {R' C' : ℕ} {X : (Big R C).Idx → Elt F .bf16} {Y : (Big R' C').Idx → Elt F .bf16} {j k}
    (h : ∀ i, X (at3 i j) = Y (at3 i k)) : slotSum X j = slotSum Y k := by
  have e (i : Fin 8) : wide X i j = wide Y i k := congrArg (FloatOps.extf (F := F) .f32 (by decide)) (h i)
  simp only [slotSum, addf, e]

/-- Loading a slot and dropping its leading axis. -/
theorem load_slot {Val : EltTy → Type} {e : EltTy} (X : (Big R C).Idx → Val e) (i : Fin 8) (hq : (One R C).Squeezes (Flat R C))
    (hi : ∀ a, (![i.val, 0, 0] : Fin 3 → ℕ) a + (One R C).size a ≤ (Big R C).size a) (h : (One R C).ShapeCasts (Flat R C)) :
    shapeCast (Flat R C) (View.ld X (Rect.unit (s := Big R C) ![i.val, 0, 0] (One R C).size hi)) h = fun j => X (at3 i j) :=
  funext fun j => congrArg X (slot_emb i hq j)

/-- What the summing kernels compute from the eight loaded slots. -/
theorem sum_loads (X : (Big R C).Idx → Elt F .bf16) (hq : (One R C).Squeezes (Flat R C))
    (hi : ∀ (i : Fin 8) a, (![i.val, 0, 0] : Fin 3 → ℕ) a + (One R C).size a ≤ (Big R C).size a) (h : (One R C).ShapeCasts (Flat R C))
    (hb : FTy.bf16.bits < FTy.f32.bits) :
    let part (i : Fin 8) : FVec F (Flat R C) .f32 :=
      extf .f32 (shapeCast (Flat R C) (View.ld X (Rect.unit (s := Big R C) ![i.val, 0, 0] (One R C).size (hi i))) h) hb
    addf (addf (addf (addf (addf (addf (addf (part 0) (part 1)) (part 2)) (part 3)) (part 4)) (part 5)) (part 6)) (part 7)
      = slotSum X := by
  intro part
  have e : part = wide X := funext fun i => congrArg (extf .f32 · hb) (load_slot X i hq (hi i) h)
  rw [e]
  rfl

end Cert.Talk

end
-- ==== Proof.SumCol.lean ====
/-
The first summing call: eight slots of columns, block by block. What a point of the grid writes, and what the whole call leaves.
-/
module

public import proofs.«01_k».proof.Proof.Fold
public import proofs.«01_k».proof.Proof.Gen.ReduceIdeal.Launch
public import proofs.«01_k».proof.Proof.Gen.ReduceIdeal.Skeleton
public import proofs.«01_k».proof.Proof.Gen.ReduceIdeal.Points
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit

@[expose] public section

set_option Elab.async false
set_option maxRecDepth 16384

noncomputable section

namespace Cert.ReduceIdeal.SumCol

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Talk Cert.ReduceIdeal.Gen

variable {F : FTy → Type} [FloatOps F]

local notation "𝕄" => MT nD τ sig Unit (Elt F) ℕ (UU nD τ sig) ℕ

/-! ## One point -/

abbrev whole : Rect S256x1792 := Rect.unit (s := S256x1792) ![0, 0] S256x1792.size inb_S256x1792_S256x1792_0_0

theorem stored (p : Vec F S256x1792 .f32) (y : S256x1792.Idx) :
    ∃ pc ∈ ([⟨whole, p⟩] : List (View.Piece (Elt F) S256x1792 .f32)), y ∈ pc.1.set :=
  View.cover_of_tiled [⟨whole, p⟩] S256x1792.size (by rfl) y

set_option maxHeartbeats 1000000 in
/-- The kernel on a block of the slots and a block to write: the sum is written, the slots stay. -/
theorem kernel (c : Dev nD) (E : Set ℕ) (i : grid1.Coords) (a₁ : Memref sig .tc .vmem S8x256x1792 .bf16) (h₁ : a₁.IsWhole)
    (a₂ : Memref sig .tc .vmem S256x1792 .f32) (h₂ : a₂.IsWhole) (x : Vec F S8x256x1792 .bf16) (Q : PUnit → sProp 𝕄) :
    iprop(owns (c : Thread nD τ) a₁ fullShare x ∗ (∃ d, owns (c : Thread nD τ) a₂ fullShare d)
        ∗ (iprop(owns (c : Thread nD τ) a₁ fullShare x ∗ owns (c : Thread nD τ) a₂ fullShare (slotSum (R := 256) (C := 1792) x)) -∗ Q ⟨⟩))
      ⊢ wp frame (wpE (defs₀ (F := F)) Variants.none c none) E (cc1_sum_col_grads i a₁ h₁ a₂ h₂) Q := by
  simp only [cc1_sum_col_grads_eq_skeleton, k1_part1_eq_skeleton]
  unfold cc1_sum_col_grads_skel
  simp only [k1_part1_eq_skeleton]
  unfold k1_part1_skel
  unfold owns
  iintro ⟨⟨%f, %hf, H₁⟩, ⟨%d, %f', -, H₂⟩, Hk⟩
  subst hf
  sl_exec
  sl_step
  iapply Hk
  isplitl [H₁]
  · iexists f; isplitr; · ipureintro; rfl
    iexact H₁
  iexists _; isplitr
  swap; · iexact H₂
  ipureintro
  refine (View.read_writes_eq_canon _ _ _ (stored _)).trans ?_
  refine (View.canon_cons_unit_lit _ _ [] (by decide)).trans ?_
  exact sum_loads _ (by decide) (slot_inb 256 1792) shapeCasts_S1x256x1792_S256x1792 bitsLt_bf16_f32

/-! ## Every point -/

variable (V : Dev nD → Valuation τ sig (Elt F))

/-- The block of window `w` at point `t`, in what the region finds. -/
def found (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

def dat (c : Dev nD) : Dat τ (Elt F) Unit ℕ (UU nD τ sig) ℕ cfg1 c where
  A w := V c (Proc.devRef .tc (Pipeline.arrRef spec1 w))
  after w t := match w with
    | ⟨0, _⟩ => found V c 0 t
    | ⟨1, _⟩ => slotSum (R := 256) (C := 1792) (found V c 0 t)
  Φ _ := Pipeline.scopedRest spec1 c
  q _ := fullShare
  owed _ := 0

theorem dat_A (c : Dev nD) (w : Fin cfg1.W) : (dat V c).A w = V c (Proc.devRef .tc (Pipeline.arrRef spec1 w)) := by dsimp only [dat]
theorem after_in (c : Dev nD) (t : Fin cfg1.N) : (dat V c).after 0 t = found V c 0 t := by dsimp only [dat]
theorem after_out (c : Dev nD) (t : Fin cfg1.N) : (dat V c).after 1 t = slotSum (R := 256) (C := 1792) (found V c 0 t) := by dsimp only [dat]

theorem before_in (c : Dev nD) (t : Fin cfg1.N) (d) : (dat V c).before 0 t d = found V c 0 t :=
  ((dat V c).before_in_eq_fetched 0 rfl (fun _ => rfl) (fun _ _ _ => rfl)
    (fun t => by rw [after_in]; unfold Dat.blockOf found; rw [dat_A]) t d).trans
    (by unfold Dat.fetched Dat.blockOf found; rw [dat_A]; rfl)

theorem point (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d)))
    ⊢ wp frame (wpE (defs₀ (F := F)) Variants.none c none) Set.univ (bodyAt1 t) fun _ =>
      iprop((dat V c).Φ t.succ ∗ (dat V c).owesAt () t.succ
        ∗ owns (c : Thread nD τ) (st1_0 t) fullShare ((dat V c).after 0 t)
        ∗ owns (c : Thread nD τ) (st1_1 t) fullShare ((dat V c).after 1 t)) := by
  unfold bodyAt1
  simp only [before_in]
  rw [show (dat V c).Φ t.succ = (dat V c).Φ t.castSucc from rfl,
    show (dat V c).owesAt () t.succ = (dat V c).owesAt () t.castSucc from rfl, after_in, after_out]
  iintro ⟨HΦ, Ho, ⟨%d₁, H₁⟩, ⟨%d₂, H₂⟩⟩
  iapply (kernel c Set.univ (grid1.coords t) _ _ _ _ (found V c 0 t) _)
  isplitl [H₁]; · iexact H₁
  isplitl [H₂]; · iexists _; iexact H₂
  iintro ⟨H₁, H₂⟩
  isplitl [HΦ]; · iexact HΦ
  isplitl [Ho]; · iexact Ho
  isplitl [H₁]; · iexact H₁
  iexact H₂

theorem row (t : Fin cfg1.N) : defs₀ (F := F) .tc cfg1.body (cfg1.bodyArgs t (cfg1.slots t)) = bodyAt1 t := by
  unfold defs₀; rw [Defs.onTc_tc]

theorem obligation (c : Dev nD) : BodyObligation (dat V c) (defs₀ (F := F)) Variants.none () Set.univ := fun t => by
  rw [bigSep_W1, bigSep_W1, row]
  exact triple_restated (point V c t) rfl .rfl fun _ => .rfl

/-! ## The whole call -/

/-- The two windows move together, along the rows. -/
theorem blocks : ∀ t : Fin grid1.N, win1_0.index t 0 = 0 ∧ win1_0.index t 1 = win1_1.index t 0 ∧ win1_0.index t 2 = 0
    ∧ win1_1.index t 1 = 0 := by decide +kernel

theorem result (c : Dev nD) : (dat V c).arrAt 1 cfg1.N = slotSum (R := 1024) (C := 1792) (V c (Proc.devRef .tc main_v1_0)) := by
  refine (dat V c).arrAt_eq_of_covers 1 _ (by decide +kernel) fun t hf y => ?_
  blk_simp
  rw [after_out]
  refine slotSum_congr fun i => ?_
  unfold found
  refine congrArg (V c (Proc.devRef .tc main_v1_0)) (funext fun a => Fin.ext ?_)
  obtain ⟨e₀, e₁, e₂, e₃⟩ := blocks t
  fin_cases a
  · blk_simp
    rw [e₀]
    exact Nat.zero_add _
  · blk_simp
    rw [e₁]
    show win1_1.index t 0 * 256 + (y 0).val = ((win1_1.blk t).view.emb y 0).val
    blk_simp
  · blk_simp
    rw [e₂]
    show 0 * 1792 + (y 1).val = ((win1_1.blk t).view.emb y 1).val
    blk_simp
    rw [e₃]
    exact (Nat.zero_add _).symm

end Cert.ReduceIdeal.SumCol

end
-- ==== Proof.SumRow.lean ====
/-
The second summing call, over the eight slots of rows: as the first.
-/
module

public import proofs.«01_k».proof.Proof.Fold
public import proofs.«01_k».proof.Proof.Gen.ReduceIdeal.Launch
public import proofs.«01_k».proof.Proof.Gen.ReduceIdeal.Skeleton
public import proofs.«01_k».proof.Proof.Gen.ReduceIdeal.Points
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit

@[expose] public section

set_option Elab.async false
set_option maxRecDepth 16384

noncomputable section

namespace Cert.ReduceIdeal.SumRow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Talk Cert.ReduceIdeal.Gen

variable {F : FTy → Type} [FloatOps F]

local notation "𝕄" => MT nD τ sig Unit (Elt F) ℕ (UU nD τ sig) ℕ

/-! ## One point -/

abbrev whole : Rect S208x1024 := Rect.unit (s := S208x1024) ![0, 0] S208x1024.size inb_S208x1024_S208x1024_0_0

theorem stored (p : Vec F S208x1024 .f32) (y : S208x1024.Idx) :
    ∃ pc ∈ ([⟨whole, p⟩] : List (View.Piece (Elt F) S208x1024 .f32)), y ∈ pc.1.set :=
  View.cover_of_tiled [⟨whole, p⟩] S208x1024.size (by rfl) y

set_option maxHeartbeats 1000000 in
/-- The kernel on a block of the slots and a block to write: the sum is written, the slots stay. -/
theorem kernel (c : Dev nD) (E : Set ℕ) (i : grid2.Coords) (a₁ : Memref sig .tc .vmem S8x208x1024 .bf16) (h₁ : a₁.IsWhole)
    (a₂ : Memref sig .tc .vmem S208x1024 .f32) (h₂ : a₂.IsWhole) (x : Vec F S8x208x1024 .bf16) (Q : PUnit → sProp 𝕄) :
    iprop(owns (c : Thread nD τ) a₁ fullShare x ∗ (∃ d, owns (c : Thread nD τ) a₂ fullShare d)
        ∗ (iprop(owns (c : Thread nD τ) a₁ fullShare x ∗ owns (c : Thread nD τ) a₂ fullShare (slotSum (R := 208) (C := 1024) x)) -∗ Q ⟨⟩))
      ⊢ wp frame (wpE (defs₀ (F := F)) Variants.none c none) E (cc2_sum_row_grads i a₁ h₁ a₂ h₂) Q := by
  simp only [cc2_sum_row_grads_eq_skeleton, k2_part1_eq_skeleton]
  unfold cc2_sum_row_grads_skel
  simp only [k2_part1_eq_skeleton]
  unfold k2_part1_skel
  unfold owns
  iintro ⟨⟨%f, %hf, H₁⟩, ⟨%d, %f', -, H₂⟩, Hk⟩
  subst hf
  sl_exec
  sl_step
  iapply Hk
  isplitl [H₁]
  · iexists f; isplitr; · ipureintro; rfl
    iexact H₁
  iexists _; isplitr
  swap; · iexact H₂
  ipureintro
  refine (View.read_writes_eq_canon _ _ _ (stored _)).trans ?_
  refine (View.canon_cons_unit_lit _ _ [] (by decide)).trans ?_
  exact sum_loads _ (by decide) (slot_inb 208 1024) shapeCasts_S1x208x1024_S208x1024 bitsLt_bf16_f32

/-! ## Every point -/

variable (V : Dev nD → Valuation τ sig (Elt F))

/-- The block of window `w` at point `t`, in what the region finds. -/
def found (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

def dat (c : Dev nD) : Dat τ (Elt F) Unit ℕ (UU nD τ sig) ℕ cfg2 c where
  A w := V c (Proc.devRef .tc (Pipeline.arrRef spec2 w))
  after w t := match w with
    | ⟨0, _⟩ => found V c 0 t
    | ⟨1, _⟩ => slotSum (R := 208) (C := 1024) (found V c 0 t)
  Φ _ := Pipeline.scopedRest spec2 c
  q _ := fullShare
  owed _ := 0

theorem dat_A (c : Dev nD) (w : Fin cfg2.W) : (dat V c).A w = V c (Proc.devRef .tc (Pipeline.arrRef spec2 w)) := by dsimp only [dat]
theorem after_in (c : Dev nD) (t : Fin cfg2.N) : (dat V c).after 0 t = found V c 0 t := by dsimp only [dat]
theorem after_out (c : Dev nD) (t : Fin cfg2.N) : (dat V c).after 1 t = slotSum (R := 208) (C := 1024) (found V c 0 t) := by dsimp only [dat]

theorem before_in (c : Dev nD) (t : Fin cfg2.N) (d) : (dat V c).before 0 t d = found V c 0 t :=
  ((dat V c).before_in_eq_fetched 0 rfl (fun _ => rfl) (fun _ _ _ => rfl)
    (fun t => by rw [after_in]; unfold Dat.blockOf found; rw [dat_A]) t d).trans
    (by unfold Dat.fetched Dat.blockOf found; rw [dat_A]; rfl)

theorem point (c : Dev nD) (t : Fin cfg2.N) :
    iprop((dat V c).Φ t.castSucc ∗ (dat V c).owesAt () t.castSucc
      ∗ (∃ d, owns (c : Thread nD τ) (st2_0 t) fullShare ((dat V c).before 0 t d))
      ∗ (∃ d, owns (c : Thread nD τ) (st2_1 t) fullShare ((dat V c).before 1 t d)))
    ⊢ wp frame (wpE (defs₀ (F := F)) Variants.none c none) Set.univ (bodyAt2 t) fun _ =>
      iprop((dat V c).Φ t.succ ∗ (dat V c).owesAt () t.succ
        ∗ owns (c : Thread nD τ) (st2_0 t) fullShare ((dat V c).after 0 t)
        ∗ owns (c : Thread nD τ) (st2_1 t) fullShare ((dat V c).after 1 t)) := by
  unfold bodyAt2
  simp only [before_in]
  rw [show (dat V c).Φ t.succ = (dat V c).Φ t.castSucc from rfl,
    show (dat V c).owesAt () t.succ = (dat V c).owesAt () t.castSucc from rfl, after_in, after_out]
  iintro ⟨HΦ, Ho, ⟨%d₁, H₁⟩, ⟨%d₂, H₂⟩⟩
  iapply (kernel c Set.univ (grid2.coords t) _ _ _ _ (found V c 0 t) _)
  isplitl [H₁]; · iexact H₁
  isplitl [H₂]; · iexists _; iexact H₂
  iintro ⟨H₁, H₂⟩
  isplitl [HΦ]; · iexact HΦ
  isplitl [Ho]; · iexact Ho
  isplitl [H₁]; · iexact H₁
  iexact H₂

theorem row (t : Fin cfg2.N) : defs₀ (F := F) .tc cfg2.body (cfg2.bodyArgs t (cfg2.slots t)) = bodyAt2 t := by
  unfold defs₀; rw [Defs.onTc_tc]

theorem obligation (c : Dev nD) : BodyObligation (dat V c) (defs₀ (F := F)) Variants.none () Set.univ := fun t => by
  rw [bigSep_W2, bigSep_W2, row]
  exact triple_restated (point V c t) rfl .rfl fun _ => .rfl

/-! ## The whole call -/

/-- The two windows move together, along the rows. -/
theorem blocks : ∀ t : Fin grid2.N, win2_0.index t 0 = 0 ∧ win2_0.index t 1 = win2_1.index t 0 ∧ win2_0.index t 2 = 0
    ∧ win2_1.index t 1 = 0 := by decide +kernel

theorem result (c : Dev nD) : (dat V c).arrAt 1 cfg2.N = slotSum (R := 832) (C := 1024) (V c (Proc.devRef .tc main_v1_1)) := by
  refine (dat V c).arrAt_eq_of_covers 1 _ (by decide +kernel) fun t hf y => ?_
  blk_simp
  rw [after_out]
  refine slotSum_congr fun i => ?_
  unfold found
  refine congrArg (V c (Proc.devRef .tc main_v1_1)) (funext fun a => Fin.ext ?_)
  obtain ⟨e₀, e₁, e₂, e₃⟩ := blocks t
  fin_cases a
  · blk_simp
    rw [e₀]
    exact Nat.zero_add _
  · blk_simp
    rw [e₁]
    show win2_1.index t 0 * 208 + (y 0).val = ((win2_1.blk t).view.emb y 0).val
    blk_simp
  · blk_simp
    rw [e₂]
    show 0 * 1024 + (y 1).val = ((win2_1.blk t).view.emb y 1).val
    blk_simp
    rw [e₃]
    exact (Nat.zero_add _).symm

end Cert.ReduceIdeal.SumRow

end
-- ==== Proof.Reduce.lean ====
/-
The reduction of the gradients: the exchange, then the sum over the received slots, for the columns and for the rows, then the
slices of the sums. The exchange runs as in `Exchange`; what it leaves is what the two summing calls find.
-/
module

public import proofs.«01_k».proof.Proof.Swap
public import proofs.«01_k».proof.Proof.SumCol
public import proofs.«01_k».proof.Proof.SumRow
public import proofs.«01_k».proof.Proof.Gen.ReduceIdeal.Regions
public import Idealize.ShloMosaic.Lib.Pipeline.RegionArraysS

@[expose] public section

set_option Elab.async false

noncomputable section

namespace Cert.ReduceIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Talk Cert.Talk.Swap Cert.ReduceIdeal.Gen

variable {F : FTy → Type} [FloatOps F]

local notation "𝕄" => MT nD τ sig Unit (Elt F) ℕ (UU nD τ sig) ℕ

/-! ## The exchange -/

def offMe : Fin 2 → Dev nD → Fin 3 → ℕ := ![k0_off1, k0_off2]
def offTo (x : Fin 2 × Fin 7) : Dev nD → Fin 3 → ℕ :=
  ![![k0_off3, k0_off5, k0_off7, k0_off9, k0_off11, k0_off13, k0_off15],
    ![k0_off4, k0_off6, k0_off8, k0_off10, k0_off12, k0_off14, k0_off16]] x.1 x.2
def devTo (x : Fin 2 × Fin 7) : Dev nD → ℕ :=
  ![![k0_dev1, k0_dev3, k0_dev5, k0_dev7, k0_dev9, k0_dev11, k0_dev13],
    ![k0_dev2, k0_dev4, k0_dev6, k0_dev8, k0_dev10, k0_dev12, k0_dev14]] x.1 x.2

def inM : (t : Fin 2) → Memref sig .tc .hbm (SB t) .bf16
  | 0 => Memref.whole main_arg0
  | 1 => Memref.whole main_arg1
def outM : (t : Fin 2) → Memref sig .tc .hbm (SB t) .bf16
  | 0 => Memref.whole main_v1_0
  | 1 => Memref.whole main_v1_1

theorem inWhole : ∀ t, (inM t).IsWhole := fun | 0 => Memref.isWhole_whole _ | 1 => Memref.isWhole_whole _
theorem outWhole : ∀ t, (outM t).IsWhole := fun | 0 => Memref.isWhole_whole _ | 1 => Memref.isWhole_whole _

/-- The exchange's counters are the first of the program's. -/
def semAt (k : K) : Fin 38 := (semOf k).castLE (by decide)

abbrev swap : Swap sig where
  inM := inM
  outM := outM
  sem := semAt
  inj := by decide
  own := by decide
  inExact t i _ ho h := exact_of_whole t (inWhole t) i ho h
  outExact t i _ ho h := exact_of_whole t (outWhole t) i ho h
  scratch t _ h := match t with | 0 => rfl | 1 => rfl
  amount t := (slotAt (outM t) ![0, 0, 0] (slot_inb _ _ 0) (sq t)).view.dmaCredit
  pos t := View.dmaCredit_pos _ (by revert t; decide)
  inAmount t _ h := match t with | 0 => rfl | 1 => rfl
  outAmount t _ h := match t with | 0 => rfl | 1 => rfl
  offMe := offMe
  offMe_eq := by decide +kernel
  offTo := offTo
  offTo_eq := by decide +kernel
  devTo := devTo
  devTo_eq := by decide +kernel

set_option maxRecDepth 65536 in
theorem body_eq (t : Fin cfg0.N) : bodyAt0 (F := F) t = .op .deviceId fun c => swap.ops c := by
  rfl

section Run

variable (m : (ℓ : Loc nD τ sig) → Buf (Elt F) ℓ)

def inOf : (t : Fin 2) → Dev nD → (SB t).Idx → Elt F .bf16
  | 0, c => m ((c.tc : Thread nD τ).loc main_arg0)
  | 1, c => m ((c.tc : Thread nD τ).loc main_arg1)
def outOf : (t : Fin 2) → Dev nD → (SB t).Idx → Elt F .bf16
  | 0, c => m ((c.tc : Thread nD τ).loc main_v1_0)
  | 1, c => m ((c.tc : Thread nD τ).loc main_v1_1)

/-- The buffers that the exchange leaves alone. -/
def kept : List (Ref sig .tc) := [main_v2, main_v3, main_v4, main_v5, main_v6, main_v7, main_v8, main_v9, main_v10, main_v11]

theorem bufs_eq (c : Dev nD) (f : (b : Ref sig .tc) → Buf (Elt F) ((c.tc : Thread nD τ).loc b)) : (unscopedBufs c f : sProp 𝕄)
    = iprop(pts c main_arg0 (f main_arg0) ∗ pts c main_arg1 (f main_arg1) ∗ pts c main_v1_0 (f main_v1_0) ∗ pts c main_v1_1 (f main_v1_1)
      ∗ bigSepL kept fun b => pts c b (f b)) :=
  bigSep_eq_bigSepL_of_eq [main_arg0, main_arg1, main_v1_0, main_v1_1, main_v2, main_v3, main_v4, main_v5, main_v6, main_v7, main_v8,
    main_v9, main_v10, main_v11] (by decide) (by decide) _

theorem wholes_eq (A B : (t : Fin 2) → Dev nD → (SB t).Idx → Elt F .bf16) (c : Dev nD) : (swap.wholes A B c : sProp 𝕄)
    = iprop((pts c main_arg0 (A 0 c) ∗ pts c main_arg1 (A 1 c)) ∗ pts c main_v1_0 (B 0 c) ∗ pts c main_v1_1 (B 1 c)) := by
  have h (P P' Q Q' : sProp 𝕄) (hP : P = P') (hQ : Q = Q') : iprop(P ∗ Q) = iprop(P' ∗ Q') := by rw [hP, hQ]
  unfold Swap.wholes
  rw [two, two]
  exact h _ _ _ _ (h _ _ _ _ (owns_pts c main_arg0 (A 0 c)) (owns_pts c main_arg1 (A 1 c)))
    (h _ _ _ _ (owns_pts c main_v1_0 (B 0 c)) (owns_pts c main_v1_1 (B 1 c)))

/-- What every buffer holds after the exchange, after each sum, and at the end. -/
abbrev W1 (c : Dev nD) : Valuation τ sig (Elt F) :=
  Function.update (Function.update (fun b => m (c, b)) main_v1_0 (done (inOf m) 0 c)) main_v1_1 (done (inOf m) 1 c)
abbrev W2 (c : Dev nD) : Valuation τ sig (Elt F) := afterRegion (SumCol.dat (W1 m) c) (W1 m c)
abbrev W3 (c : Dev nD) : Valuation τ sig (Elt F) := afterRegion (SumRow.dat (W2 m) c) (W2 m c)
abbrev W4 (c : Dev nD) : Valuation τ sig (Elt F) := StableHlo.after hostOps3 (W3 m c)

def others (c : Dev nD) : sProp 𝕄 := bigSepL kept fun b => pts c b (m ((c.tc : Thread nD τ).loc b))

theorem split (c : Dev nD) : (unscopedBufs c (fun b => m ((c.tc : Thread nD τ).loc b)) : sProp 𝕄)
    ⊢ iprop(swap.wholes (inOf m) (outOf m) c ∗ others m c) := by
  rw [wholes_eq, bufs_eq]
  show iprop(pts c main_arg0 (inOf m 0 c) ∗ pts c main_arg1 (inOf m 1 c) ∗ pts c main_v1_0 (outOf m 0 c) ∗ pts c main_v1_1 (outOf m 1 c)
    ∗ others m c) ⊢ _
  iintro ⟨H0, H1, H2, H3, H⟩
  isplitr [H]; swap; · iexact H
  isplitl [H0 H1]
  · isplitl [H0] <;> iassumption
  · isplitl [H2] <;> iassumption

theorem W1_of (c : Dev nD) (r : Ref sig .tc) (h₀ : r ≠ main_v1_0) (h₁ : r ≠ main_v1_1) : W1 m c r = m ((c.tc : Thread nD τ).loc r) :=
  (Function.update_of_ne (StableHlo.devRef_ne_of_ne h₁) _ _).trans ((Function.update_of_ne (StableHlo.devRef_ne_of_ne h₀) _ _).trans rfl)

theorem W1_col (c : Dev nD) : W1 m c main_v1_0 = done (inOf m) 0 c :=
  (Function.update_of_ne (StableHlo.devRef_ne_of_ne (by decide)) _ _).trans (Function.update_self _ _ _)

theorem W1_row (c : Dev nD) : W1 m c main_v1_1 = done (inOf m) 1 c :=
  Function.update_self _ _ _

theorem join (c : Dev nD) : iprop(swap.wholes (inOf m) (done (inOf m)) c ∗ others m c)
    ⊢ (StableHlo.held (c.tc : Thread nD τ) (ucRefs τ sig) (W1 m c) : sProp 𝕄) := by
  rw [wholes_eq, ← unscopedBufs_held, bufs_eq, W1_of m c main_arg0 (by decide) (by decide), W1_of m c main_arg1 (by decide) (by decide),
    W1_col, W1_row]
  have h : (others m c : sProp 𝕄) ⊢ bigSepL kept fun b => pts c b (W1 m c b) :=
    bigSepL_mono fun b hb => Entails.of_eq (by
      have e : ∀ b ∈ kept, b ≠ main_v1_0 ∧ b ≠ main_v1_1 := by decide
      rw [W1_of m c b (e b hb).1 (e b hb).2])
  iintro ⟨⟨⟨H0, H1⟩, H2, H3⟩, H⟩
  isplitl [H0]; · iexact H0
  isplitl [H1]; · iexact H1
  isplitl [H2]; · iexact H2
  isplitl [H3]; · iexact H3
  iapply h; iexact H

/-! ## The sums -/

/-- The proof data of the exchange's call, of which the sums' rules ask nothing. -/
def dat0 (c : Dev nD) : Dat τ (Elt F) Unit ℕ (UU nD τ sig) ℕ cfg0 c where
  A _ := fun _ => Classical.arbitrary _
  after _ _ := fun _ => Classical.arbitrary _
  Φ _ := iprop(emp)
  q _ := fullShare
  owed _ := 0

def dats : (p : Fin 3) → (c : Dev nD) → Dat τ (Elt F) Unit ℕ (UU nD τ sig) ℕ (pin (pcfgs (F := F)) adm p) c
  | 0 => dat0
  | 1 => SumCol.dat (W1 m)
  | 2 => SumRow.dat (W2 m)

/-- A bound on the levels of a call's own counters. -/
def top (p : Fin 3) (c : Dev nD) : ℕ :=
  Finset.univ.sup fun w => Finset.univ.sup fun s => swap.net.lev ((c.tc : Thread nD τ), .dma (((pin (pcfgs (F := F)) adm p).win w).sem s)) ()

theorem cut (p : Fin 3) : LevelCut (nD := nD) (τ := τ) (pcfgs (F := F)) adm () Net.idx swap.net.lev p (fun _ => 0) (top (F := F) p) where
  hι c w s := by simp [Net.idx]
  hιb c w s := (Finset.le_sup (f := fun s => swap.net.lev ((c.tc : Thread nD τ), .dma (((pin (pcfgs (F := F)) adm p).win w).sem s)) ()) (Finset.mem_univ s)).trans
    (Finset.le_sup (f := fun w => Finset.univ.sup fun s => swap.net.lev ((c.tc : Thread nD τ), .dma (((pin (pcfgs (F := F)) adm p).win w).sem s)) ()) (Finset.mem_univ w))
  hD c g i h := absurd h (lt_irrefl _)

theorem drop (P : sProp 𝕄) : iprop(P ∗ emp) ⊢ P := by
  iintro ⟨H, -⟩
  iexact H

theorem add (P : sProp 𝕄) : P ⊢ iprop(P ∗ emp) := by
  iintro H
  isplitl [H]; · iexact H
  iempintro

def col : RegionSeg (pcfgs (F := F)) adm (dats m) () defs₀ Variants.none Net.idx swap.net.lev 1 :=
  RegionSeg.ofHeldIn (pcfgs (F := F)) adm (dats m) () defs₀ Variants.none Net.idx swap.net.lev 1 (fun _ => 0) (ucRefs τ sig)
    (fun _ => iprop(emp)) (fun _ => iprop(emp)) launch1.toP rfl (fun c => (SumCol.obligation (W1 m) c).loose) (fun _ _ => rfl) (fun _ => rfl)
    (fun c => (SumCol.dat (W1 m) c).share_full fun _ => rfl)
    (fun c => drop (scopedRest spec1 c)) (fun c => add (scopedRest spec1 c)) (top (F := F) 1) (cut 1) (fun _ => iprop(emp)) (W1 m) (fun c w => rfl)

def row : RegionSeg (pcfgs (F := F)) adm (dats m) () defs₀ Variants.none Net.idx swap.net.lev 2 :=
  RegionSeg.ofHeldIn (pcfgs (F := F)) adm (dats m) () defs₀ Variants.none Net.idx swap.net.lev 2 (fun _ => 0) (ucRefs τ sig)
    (fun _ => iprop(emp)) (fun _ => iprop(emp)) launch2.toP rfl (fun c => (SumRow.obligation (W2 m) c).loose) (fun _ _ => rfl) (fun _ => rfl)
    (fun c => (SumRow.dat (W2 m) c).share_full fun _ => rfl)
    (fun c => drop (scopedRest spec2 c)) (fun c => add (scopedRest spec2 c)) (top (F := F) 2) (cut 2) (fun _ => iprop(emp)) (W2 m) (fun c w => rfl)

/-- What a core has beside its buffers between the calls. -/
abbrev rest (c : Dev nD) : sProp 𝕄 := iprop((∃ W, owes (c.tc : Thread nD τ) (0 : CellTallies nD τ sig Unit) W) ∗ emp ∗ emp)

def slices : HostSeg (Ix := Unit) (Name := ℕ) (U := UU nD τ sig) (Lvl := ℕ) (pcfgs (F := F)) defs₀ Variants.none Net.idx swap.net.lev :=
  HostSeg.ofOps _ _ _ _ _ (ucRefs τ sig) hostOps3 (fun op h => sub_ucRefs op ((List.forall_iff_forall_mem.mp hostOps3_sub) op h))
    (fun op h => (List.forall_iff_forall_mem.mp hostOps3_fresh) op h) (W3 m) rest

abbrev parts : List (Seg (pcfgs (F := F)) adm (dats m) () defs₀ Variants.none Net.idx swap.net.lev) :=
  [.region (col m), .region (row m), .host (slices m)]

abbrev at_ (W : Dev nD → Valuation τ sig (Elt F)) (c : Dev nD) : sProp 𝕄 :=
  iprop(StableHlo.held (c.tc : Thread nD τ) (ucRefs τ sig) (W c) ∗ rest c)

theorem arrays₁ : arrRefs (τ := τ) (pcfgs (F := F) 1).spec ⊆ ucRefs τ sig := arrRefs_sub_ucRefs spec1 (by decide)
theorem arrays₂ : arrRefs (τ := τ) (pcfgs (F := F) 2).spec ⊆ ucRefs τ sig := arrRefs_sub_ucRefs spec2 (by decide)

theorem col_pre (c : Dev nD) : at_ (W1 m) c ⊢ (col m).pre c := by
  unfold col
  refine BIBase.Entails.trans ?_ (RegionSeg.ofHeldIn_pre (arrays₁ (F := F)) c)
  exact .rfl
theorem col_post (c : Dev nD) : (col m).post c ⊢ at_ (W2 m) c := RegionSeg.ofHeldIn_post (p := 1) (arrays₁ (F := F)) c
theorem row_pre (c : Dev nD) : at_ (W2 m) c ⊢ (row m).pre c := by
  unfold row
  refine BIBase.Entails.trans ?_ (RegionSeg.ofHeldIn_pre (arrays₂ (F := F)) c)
  exact .rfl
theorem row_post (c : Dev nD) : (row m).post c ⊢ at_ (W3 m) c := RegionSeg.ofHeldIn_post (p := 2) (arrays₂ (F := F)) c

theorem chains : Seg.Chains (at_ (W1 m)) (parts m) (at_ (W4 m)) :=
  ⟨col_pre m, fun c => (col_post m c).trans (row_pre m c), row_post m, fun c => .rfl⟩

/-! ## The run -/

theorem after_exchange (c : Dev nD) :
    iprop(at_ (W1 m) c ∗ boundary (c.tc : Thread nD τ) ∗ (levAts Net.idx swap.net.lev ∗ ghostOn (pcfgs (F := F)) adm embL Finset.univ c))
      ⊢ (wp frame (wpE (Pipeline.defs (pcfgs (F := F)) defs₀) (Variants.lift Variants.none) (c.tc : Thread nD τ) none) Set.univ (Seg.run (parts m))
        fun _ => iprop(StableHlo.held (c.tc : Thread nD τ) (ucRefs τ sig) (W4 m c) ∗ scopedSems0 (c.tc : Thread nD τ)
          ∗ ∃ W, owes (c.tc : Thread nD τ) (0 : CellTallies nD τ sig Unit) W) : sProp 𝕄) := by
  iintro ⟨Ht, Hb, Hl, Hg⟩
  iapply (wp_segs (pcfgs (F := F)) adm (dats m) () cellOf_inj embL defs₀ Variants.none Net.idx swap.net.lev c (parts m) Finset.univ
    (at_ (W1 m)) (at_ (W4 m)) (by simp only [Seg.pipes_host, Seg.pipes_region, Seg.pipes_nil]; decide) (fun p _ => Finset.mem_univ p) (chains m))
  isplitr [Ht Hb Hl Hg]
  · iintro ⟨Hb, Hh, Ho, -⟩
    isplitl [Hh]; · iexact Hh
    isplitl [Hb]
    · unfold boundary
      icases Hb with ⟨-, Hb, -⟩
      iexact Hb
    iexact Ho
  isplitl [Hb]; · iexact Hb
  isplitl [Ht]; · iexact Ht
  isplitl [Hl] <;> iassumption

theorem read (c : Dev nD) (s' : Phys nD τ sig (Elt F)) :
    iprop(StableHlo.held (c.tc : Thread nD τ) (ucRefs τ sig) (W4 m c) ∗ SI s')
      ⊢ (|={Set.univ}=> iprop(⌜∀ b ∈ ucRefs τ sig, s'.mem.mem (c, b) = W4 m c b⌝ ∗ SI s') : sProp 𝕄) := by
  unfold StableHlo.held
  iintro ⟨Hh, HS⟩
  icases (pointsTo_read_all (ucRefs τ sig) (fun b => ((c.tc : Thread nD τ).1, b)) (W4 m c) s') $$ [Hh HS] with ⟨%h, HS⟩
  · isplitl [Hh] <;> iassumption
  imodintro
  isplitr; swap; · iexact HS
  ipureintro
  exact h

theorem run (g : Dev nD → PrngReg) : θ_run (defs (F := F)) (onTc main) ⟨m, fun _ => 0, g⟩
    (fun r => (∀ c, ∀ b ∈ ucRefs τ sig, r.2.mem (c, b) = W4 m c b) ∧ r.2.sem = fun _ => 0) := by
  haveI : IsEmpty (Fin (pin (pcfgs (F := F)) adm 0).W) := inferInstanceAs (IsEmpty (Fin 0))
  haveI : IsEmpty (Fin (pcfgs (F := F) 0).pre.K) := inferInstanceAs (IsEmpty (Fin 0))
  have h := swap.run (inOf m) (outOf m) (pcfgs (F := F)) adm 0 defs₀ rfl cellOf_inj (fun _ => Seg.run (parts m)) m g (by decide)
    (fun c t Q => by
      have h : defs₀ (F := F) .tc (pin pcfgs adm 0).body ((pin pcfgs adm 0).bodyArgs t ((pin pcfgs adm 0).slots t))
          = .op .deviceId fun c => swap.ops c := body_eq t
      rw [h, wp_deviceId])
    (others m) (fun c => StableHlo.held (c.tc : Thread nD τ) (ucRefs τ sig) (W4 m c)) (split m)
    (fun c => by
      iintro ⟨Hp, Hb, Hg, Ho⟩
      iapply (after_exchange m c)
      isplitl [Hp Ho]
      · isplitl [Hp]
        · iapply (join m c); iexact Hp
        isplitl [Ho]; · iexact Ho
        isplitl <;> iempintro
      isplitl [Hb] <;> iassumption)
    (fun c s => ∀ b ∈ ucRefs τ sig, s.mem (c, b) = W4 m c b) (read m)
  have e : (fun c : Dev nD => (.op (.customCall (entry 0) ()) fun _ => Seg.run (parts m) : Prog (TpuEff nD τ sig (Elt F) _ .tc) PUnit)) = main :=
    funext fun c => by
      rw [main_chain c, Seg.run_eq_chain]
      rfl
  rw [← e]
  exact h

end Run

end Cert.ReduceIdeal

end
-- ==== Proof.ReduceValue.lean ====
/-
The value of the reduction of the gradients, over the extended reals: on each device the slices of the two sums are the
device's blocks of the reference's results, which sum over the sending devices on the host.
-/
module

public import proofs.«01_k».proof.Proof.Reduce
public import proofs.«01_k».proof.Proof.Gen.ReferenceReduceIdeal.Run
public import Idealize.ShloMosaic.Lib.Layout
public import Idealize.ShloMosaic.Lib.ValueIdxCore
public import Idealize.ShloMosaic.Lib.IdealHost
public import Idealize.ShloMosaic.Lib.Pointwise.Reduce
public import Idealize.ShloMosaic.Lib.Pipeline.Value

@[expose] public section

set_option Elab.async false

noncomputable section

namespace Cert.Talk

open Idealize.ShloMosaic Idealize.ShloMosaic.ValueIdx

/-! ## Sums -/

section Sums

variable {R C N : ℕ}

theorem slotSum_eq (X : (Big R C).Idx → Elt Ideal .bf16) (j : (Flat R C).Idx) :
    (slotSum X j : EReal) = ∑ k : Fin 8, (X (at3 k j) : EReal) :=
  (Fin.sum_univ_eight fun k : Fin 8 => (X (at3 k j) : EReal)).symm

/-- The host's sum over the senders, of what they hold for device `c`, is the sum over the slots that device `c` has received. -/
theorem host_sum (M : (⟨3, ![N, R, C]⟩ : Shape).Idx → Elt Ideal .bf16) (h : Layout.Tiles (Big R C) ⟨3, ![N, R, C]⟩ 0 8)
    (h₁ : (⟨3, ![N, R, C]⟩ : Shape).ShapeCasts ⟨4, ![8, 8, R, C]⟩) (hb : FTy.bf16.bits < FTy.f32.bits)
    (hr : (⟨4, ![8, 8, R, C]⟩ : Shape).ReducesTo [0] (Big R C)) (hu : 0 < (⟨0, ![]⟩ : Shape).numel)
    (X : (Big R C).Idx → Elt Ideal .bf16) (c : Fin 8)
    (hX : ∀ (k : Fin 8) j, X (at3 k j) = Layout.block (Big R C) ⟨3, ![N, R, C]⟩ 0 8 k M h (at3 c j)) (j : (Flat R C).Idx) :
    slotSum X j = Host.reduceAdd (F := Ideal) (φ := .f32) (extf .f32 (shapeCast ⟨4, ![8, 8, R, C]⟩ M h₁ : FVec Ideal _ .bf16) hb)
      (constant ⟨0, ![]⟩ .f32 0x00000000#32) hr hu (at3 c j) := by
  refine (slotSum_eq X j).trans (Eq.symm ?_)
  rw [hostReduceAdd_apply, Ideal.hostReduceAdd_r4_a0]
  refine (congrArg (· + _) (show (constant (F := Ideal) ⟨0, ![]⟩ .f32 0x00000000#32) _ = (0 : EReal) from ?_)).trans ((zero_add _).trans ?_)
  · simp [constant]
  refine Finset.sum_congr rfl fun k _ => (?_ : _ = _).trans (hX k j).symm
  refine shapeCast_apply M h₁ _ (h.idx k (at3 c j)) ?_
  rw [Shape.rowMajor_val_four, Shape.rowMajor_val_three]
  rfl

/-! ## Slices -/

variable {W off : ℕ} {α : Type}

/-- Columns `off …` of device `c`, and the device's block of the whole. -/
theorem slice_cols (T : (Big R C).Idx → α) (Y : (Flat R C).Idx → α) (c : Fin 8) (hY : ∀ j, Y j = T (at3 c j))
    (hs : (Flat R C).Slices ![0, off] (Flat R W)) (hs' : (Big R C).Slices ![0, 0, off] (Big R W))
    (ht : (Big R W).Transposes [1, 0, 2] ⟨3, ![R, 8, W]⟩) (hc : (⟨3, ![R, 8, W]⟩ : Shape).ShapeCasts (Flat R N))
    (h : Layout.Tiles (Flat R W) (Flat R N) 1 8) :
    extractStridedSlice (Flat R W) ![0, off] Y hs
      = Layout.block (Flat R W) (Flat R N) 1 8 c
        (shapeCast (Flat R N) (transpose ⟨3, ![R, 8, W]⟩ [1, 0, 2] (extractStridedSlice (Big R W) ![0, 0, off] T hs') ht) hc) h := by
  have hN : N = 8 * W := h.size 1
  funext i
  refine (hY _).trans (Eq.symm ?_)
  refine (shapeCast_apply _ hc (h.idx c i) (ValueIdx.ix3 (i 0) c (i 1)) ?_).trans ?_
  · rw [Shape.rowMajor_val_three, Shape.rowMajor_val_two]
    show ((i 0).val * 8 + c.val) * W + (i 1).val = (i 0).val * N + (c.val * W + (i 1).val)
    subst hN
    ring
  refine (transpose_apply _ _ ht _ (at3 c i) fun b => ?_).trans ?_
  · match b with
    | 0 => rfl
    | 1 => rfl
    | 2 => rfl
  refine extractStridedSlice_apply _ T hs' _ _ fun a => ?_
  match a with
  | 0 => exact (Nat.zero_add _).symm
  | 1 => rfl
  | 2 => rfl

/-- Rows `off …` of device `c`, and the device's block of the whole. -/
theorem slice_rows (T : (Big R C).Idx → α) (Y : (Flat R C).Idx → α) (c : Fin 8) (hY : ∀ j, Y j = T (at3 c j))
    (hs : (Flat R C).Slices ![off, 0] (Flat W C)) (hs' : (Big R C).Slices ![0, off, 0] (Big W C))
    (hc : (Big W C).ShapeCasts (Flat N C)) (h : Layout.Tiles (Flat W C) (Flat N C) 0 8) :
    extractStridedSlice (Flat W C) ![off, 0] Y hs
      = Layout.block (Flat W C) (Flat N C) 0 8 c (shapeCast (Flat N C) (extractStridedSlice (Big W C) ![0, off, 0] T hs') hc) h := by
  funext i
  refine (hY _).trans (Eq.symm ?_)
  refine (shapeCast_apply _ hc (h.idx c i) (at3 c i) ?_).trans ?_
  · rw [Shape.rowMajor_val_three, Shape.rowMajor_val_two]
    rfl
  refine extractStridedSlice_apply _ T hs' _ _ fun a => ?_
  match a with
  | 0 => exact (Nat.zero_add _).symm
  | 1 => rfl
  | 2 => rfl

end Sums

end Cert.Talk

namespace Cert.ReduceIdeal

open Idealize.ShloMosaic Idealize.ShloMosaic.TcCoe Idealize.ShloMosaic.Pipeline Idealize.SL.Sem Cert.Talk Cert.Talk.Swap Cert.ReduceIdeal.Gen

/-! ## What the run leaves -/

section Left

variable {F : FTy → Type} [FloatOps F] (m : (ℓ : Loc nD τ sig) → Buf (Elt F) ℓ) (c : Dev nD)

theorem W3_col : W3 m c main_v2 = slotSum (R := 1024) (C := 1792) (done (inOf m) 0 c) := by
  refine (afterRegion_of_not_arr (SumRow.dat (W2 m) c) (W2 m c) (by decide)).trans ?_
  refine (afterRegion_arr (SumCol.dat (W1 m) c) (W1 m c) launch1.win.arr_inj 1).trans ?_
  refine (SumCol.result (W1 m) c).trans ?_
  exact congrArg _ (W1_col m c)

theorem W3_row : W3 m c main_v3 = slotSum (R := 832) (C := 1024) (done (inOf m) 1 c) := by
  refine (afterRegion_arr (SumRow.dat (W2 m) c) (W2 m c) launch2.win.arr_inj 1).trans ?_
  refine (SumRow.result (W2 m) c).trans ?_
  exact congrArg _ ((afterRegion_of_not_arr (SumCol.dat (W1 m) c) (W1 m c) (by decide)).trans (W1_row m c))

theorem W4_arg (r : Ref sig .tc) (h : r ∉ hostOps3_W) (h₁ : ∀ w, r ≠ arrRef spec1 w) (h₂ : ∀ w, r ≠ arrRef spec2 w)
    (h₃ : r ≠ main_v1_0) (h₄ : r ≠ main_v1_1) : W4 m c r = m ((c.tc : Thread nD τ).loc r) :=
  (StableHlo.after_of_writes_sub hostOps3 _ hostOps3_writes h).trans
    ((afterRegion_of_not_arr (SumRow.dat (W2 m) c) (W2 m c) h₂).trans
      ((afterRegion_of_not_arr (SumCol.dat (W1 m) c) (W1 m c) h₁).trans (W1_of m c r h₃ h₄)))

/-- The eight results are slices of the two sums. -/
theorem left :
    W4 m c main_v4 = extractStridedSlice S1024x352 ![0, 0] (W3 m c main_v2) (by decide)
    ∧ W4 m c main_v5 = extractStridedSlice S1024x352 ![0, 352] (W3 m c main_v2) (by decide)
    ∧ W4 m c main_v6 = extractStridedSlice S1024x352 ![0, 704] (W3 m c main_v2) (by decide)
    ∧ W4 m c main_v7 = extractStridedSlice S1024x352 ![0, 1056] (W3 m c main_v2) (by decide)
    ∧ W4 m c main_v8 = extractStridedSlice S1024x384 ![0, 1408] (W3 m c main_v2) (by decide)
    ∧ W4 m c main_v9 = extractStridedSlice S352x1024 ![0, 0] (W3 m c main_v3) (by decide)
    ∧ W4 m c main_v10 = extractStridedSlice S352x1024 ![352, 0] (W3 m c main_v3) (by decide)
    ∧ W4 m c main_v11 = extractStridedSlice S128x1024 ![704, 0] (W3 m c main_v3) (by decide) := by
  generalize hV : W3 m c = V
  simp only [W4, hV]
  refine ⟨?_, ?_, ?_, ?_, ?_, ?_, ?_, ?_⟩ <;> (after_results <;> rfl)

/-- A buffer outside the calls' own ones ends as the items leave it. -/
theorem read_at {M : (ℓ : Loc nD τ sig) → Buf (Elt F) ℓ} (h : ∀ b ∈ ucRefs τ sig, M (c, b) = W4 m c b) (b : Ref sig .tc)
    (hb : ¬(Proc.devRef (τ := τ) .tc b).isScoped = true) : M ((c.tc : Thread nD τ).loc b) = W4 m c b :=
  h (Proc.devRef .tc b) (Finset.mem_filter.mpr ⟨StableHlo.devRef_mem_tcRefs b, hb⟩)

/-- The arguments end as they were. -/
theorem args {M : (ℓ : Loc nD τ sig) → Buf (Elt F) ℓ} (h : ∀ b ∈ ucRefs τ sig, M (c, b) = W4 m c b) :
    M ((c.tc : Thread nD τ).loc main_arg0) = m ((c.tc : Thread nD τ).loc main_arg0)
    ∧ M ((c.tc : Thread nD τ).loc main_arg1) = m ((c.tc : Thread nD τ).loc main_arg1) :=
  ⟨(read_at m c h main_arg0 (by decide)).trans (W4_arg m c main_arg0 (by decide) (by decide) (by decide) (by decide) (by decide)),
    (read_at m c h main_arg1 (by decide)).trans (W4_arg m c main_arg1 (by decide) (by decide) (by decide) (by decide) (by decide))⟩

end Left

/-! ## The value -/

section Value

abbrev host : Thread ReferenceReduceIdeal.nD ReferenceReduceIdeal.τ := (0 : Dev ReferenceReduceIdeal.nD).tc

variable (m : (ℓ : Loc nD τ sig) → Buf (Elt Ideal) ℓ)
  (m' : (ℓ : Loc ReferenceReduceIdeal.nD ReferenceReduceIdeal.τ ReferenceReduceIdeal.sig) → Buf (Elt Ideal) ℓ)

/-- What the kernel's sum over the columns holds on device `c`. -/
theorem cols_eq (hm : ∀ c : Dev nD, m ((c.tc : Thread nD τ).loc main_arg0)
      = Layout.block ⟨3, ![8, 1024, 1792]⟩ ⟨3, ![64, 1024, 1792]⟩ 0 8 c (m' (host.loc ReferenceReduceIdeal.main_arg0))) (c : Dev nD)
    (j : (Flat 1024 1792).Idx) :
    W3 m c main_v2 j = Host.reduceAdd (F := Ideal) (φ := .f32) (extf .f32 (shapeCast ⟨4, ![8, 8, 1024, 1792]⟩
        (m' (host.loc ReferenceReduceIdeal.main_arg0)) ReferenceReduceIdeal.Facts₀.shapeCasts_S64x1024x1792_S8x8x1024x1792 : FVec Ideal _ .bf16)
        ReferenceReduceIdeal.Facts₀.bitsLt_bf16_f32) (constant ⟨0, ![]⟩ .f32 0x00000000#32)
        ReferenceReduceIdeal.Facts₀.reducesTo_S8x8x1024x1792_S8x1024x1792_d0 ReferenceReduceIdeal.Facts₀.h_S_ (at3 c j) :=
  (congrFun (W3_col m c) j).trans (host_sum _ (by decide) _ _ _ _ _ c (fun k j => (congrFun (hm k) (at3 c (tail (at3 k j)))).trans
    (by rw [tail_at3])) j)

/-- What the kernel's sum over the rows holds on device `c`. -/
theorem rows_eq (hm : ∀ c : Dev nD, m ((c.tc : Thread nD τ).loc main_arg1)
      = Layout.block ⟨3, ![8, 832, 1024]⟩ ⟨3, ![64, 832, 1024]⟩ 0 8 c (m' (host.loc ReferenceReduceIdeal.main_arg1))) (c : Dev nD)
    (j : (Flat 832 1024).Idx) :
    W3 m c main_v3 j = Host.reduceAdd (F := Ideal) (φ := .f32) (extf .f32 (shapeCast ⟨4, ![8, 8, 832, 1024]⟩
        (m' (host.loc ReferenceReduceIdeal.main_arg1)) ReferenceReduceIdeal.Facts₀.shapeCasts_S64x832x1024_S8x8x832x1024 : FVec Ideal _ .bf16)
        ReferenceReduceIdeal.Facts₀.bitsLt_bf16_f32) (constant ⟨0, ![]⟩ .f32 0x00000000#32)
        ReferenceReduceIdeal.Facts₀.reducesTo_S8x8x832x1024_S8x832x1024_d0 ReferenceReduceIdeal.Facts₀.h_S_ (at3 c j) :=
  (congrFun (W3_row m c) j).trans (host_sum _ (by decide) _ _ _ _ _ c (fun k j => (congrFun (hm k) (at3 c (tail (at3 k j)))).trans
    (by rw [tail_at3])) j)

theorem value (g : Dev nD → PrngReg) (g' : Dev ReferenceReduceIdeal.nD → PrngReg)
    (hm : ∀ c : Dev nD, m ((c.tc : Thread nD τ).loc main_arg0)
        = Layout.block ⟨3, ![8, 1024, 1792]⟩ ⟨3, ![64, 1024, 1792]⟩ 0 8 c (m' (host.loc ReferenceReduceIdeal.main_arg0))
      ∧ m ((c.tc : Thread nD τ).loc main_arg1)
        = Layout.block ⟨3, ![8, 832, 1024]⟩ ⟨3, ![64, 832, 1024]⟩ 0 8 c (m' (host.loc ReferenceReduceIdeal.main_arg1))) :
    ∃ (v0 : Buf (Elt Ideal) (host.loc ReferenceReduceIdeal.main_v8)) (v1 : Buf (Elt Ideal) (host.loc ReferenceReduceIdeal.main_v11))
      (v2 : Buf (Elt Ideal) (host.loc ReferenceReduceIdeal.main_v14)) (v3 : Buf (Elt Ideal) (host.loc ReferenceReduceIdeal.main_v17))
      (v4 : Buf (Elt Ideal) (host.loc ReferenceReduceIdeal.main_v20)) (v5 : Buf (Elt Ideal) (host.loc ReferenceReduceIdeal.main_v22))
      (v6 : Buf (Elt Ideal) (host.loc ReferenceReduceIdeal.main_v24)) (v7 : Buf (Elt Ideal) (host.loc ReferenceReduceIdeal.main_v26)),
      θ_run (defs (F := Ideal)) (onTc main) ⟨m, fun _ => 0, g⟩ (fun r => ∀ c : Dev nD,
        r.2.mem ((c.tc : Thread nD τ).loc main_v4) = Layout.block ⟨2, ![1024, 352]⟩ ⟨2, ![1024, 2816]⟩ 1 8 c v0
        ∧ r.2.mem ((c.tc : Thread nD τ).loc main_v5) = Layout.block ⟨2, ![1024, 352]⟩ ⟨2, ![1024, 2816]⟩ 1 8 c v1
        ∧ r.2.mem ((c.tc : Thread nD τ).loc main_v6) = Layout.block ⟨2, ![1024, 352]⟩ ⟨2, ![1024, 2816]⟩ 1 8 c v2
        ∧ r.2.mem ((c.tc : Thread nD τ).loc main_v7) = Layout.block ⟨2, ![1024, 352]⟩ ⟨2, ![1024, 2816]⟩ 1 8 c v3
        ∧ r.2.mem ((c.tc : Thread nD τ).loc main_v8) = Layout.block ⟨2, ![1024, 384]⟩ ⟨2, ![1024, 3072]⟩ 1 8 c v4
        ∧ r.2.mem ((c.tc : Thread nD τ).loc main_v9) = Layout.block ⟨2, ![352, 1024]⟩ ⟨2, ![2816, 1024]⟩ 0 8 c v5
        ∧ r.2.mem ((c.tc : Thread nD τ).loc main_v10) = Layout.block ⟨2, ![352, 1024]⟩ ⟨2, ![2816, 1024]⟩ 0 8 c v6
        ∧ r.2.mem ((c.tc : Thread nD τ).loc main_v11) = Layout.block ⟨2, ![128, 1024]⟩ ⟨2, ![1024, 1024]⟩ 0 8 c v7
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ θ_run (ReferenceReduceIdeal.defs (F := Ideal)) (onTc ReferenceReduceIdeal.main) ⟨m', fun _ => 0, g'⟩ (fun r =>
        r.2.mem (host.loc ReferenceReduceIdeal.main_v8) = v0
        ∧ r.2.mem (host.loc ReferenceReduceIdeal.main_v11) = v1
        ∧ r.2.mem (host.loc ReferenceReduceIdeal.main_v14) = v2
        ∧ r.2.mem (host.loc ReferenceReduceIdeal.main_v17) = v3
        ∧ r.2.mem (host.loc ReferenceReduceIdeal.main_v20) = v4
        ∧ r.2.mem (host.loc ReferenceReduceIdeal.main_v22) = v5
        ∧ r.2.mem (host.loc ReferenceReduceIdeal.main_v24) = v6
        ∧ r.2.mem (host.loc ReferenceReduceIdeal.main_v26) = v7
        ∧ r.2.mem (host.loc ReferenceReduceIdeal.main_arg0) = m' (host.loc ReferenceReduceIdeal.main_arg0)
        ∧ r.2.mem (host.loc ReferenceReduceIdeal.main_arg1) = m' (host.loc ReferenceReduceIdeal.main_arg1)) :=
  have hc := cols_eq m m' fun c => (hm c).1
  have hr := rows_eq m m' fun c => (hm c).2
  ⟨_, _, _, _, _, _, _, _, (θ_run _ _ _).mono (fun r h c =>
      have at_ := read_at m c (h.1 c)
      ⟨((at_ main_v4 (by decide)).trans (left m c).1).trans (slice_cols _ _ c (hc c) _ _ _ _ _),
        ((at_ main_v5 (by decide)).trans (left m c).2.1).trans (slice_cols _ _ c (hc c) _ _ _ _ _),
        ((at_ main_v6 (by decide)).trans (left m c).2.2.1).trans (slice_cols _ _ c (hc c) _ _ _ _ _),
        ((at_ main_v7 (by decide)).trans (left m c).2.2.2.1).trans (slice_cols _ _ c (hc c) _ _ _ _ _),
        ((at_ main_v8 (by decide)).trans (left m c).2.2.2.2.1).trans (slice_cols _ _ c (hc c) _ _ _ _ _),
        ((at_ main_v9 (by decide)).trans (left m c).2.2.2.2.2.1).trans (slice_rows _ _ c (hr c) _ _ _ _),
        ((at_ main_v10 (by decide)).trans (left m c).2.2.2.2.2.2.1).trans (slice_rows _ _ c (hr c) _ _ _ _),
        ((at_ main_v11 (by decide)).trans (left m c).2.2.2.2.2.2.2).trans (slice_rows _ _ c (hr c) _ _ _ _),
        args m c (h.1 c)⟩) (run m g),
    (θ_run _ _ _).mono (fun r h => h 0) (ReferenceReduceIdeal.Value.run m' g')⟩

end Value

end Cert.ReduceIdeal

end
-- ==== Proof.Adam.lean ====
/-
The optimizer's step, at the shapes of a device's part of each weight: block by block the kernel applies the operations that
the reference applies to the whole arrays, so that over the extended reals the three results are the same terms of the arguments.
-/
module

public import proofs.«01_k».proof.Defs
public import proofs.«01_k».proof.Proof.Gen.AdamGateIdeal.Value
public import proofs.«01_k».proof.Proof.Gen.ReferenceAdamGateIdeal.Run
public import proofs.«01_k».proof.Proof.Gen.AdamInIdeal.Value
public import proofs.«01_k».proof.Proof.Gen.ReferenceAdamInIdeal.Run
public import proofs.«01_k».proof.Proof.Gen.AdamDownIdeal.Value
public import proofs.«01_k».proof.Proof.Gen.ReferenceAdamDownIdeal.Run
public import proofs.«01_k».proof.Proof.Gen.AdamOutIdeal.Value
public import proofs.«01_k».proof.Proof.Gen.ReferenceAdamOutIdeal.Run
public import proofs.«01_k».proof.Proof.Gen.AdamGainIdeal.Value
public import proofs.«01_k».proof.Proof.Gen.ReferenceAdamGainIdeal.Run
public import proofs.«01_k».proof.Proof.Gen.AdamHalfGainIdeal.Value
public import proofs.«01_k».proof.Proof.Gen.ReferenceAdamHalfGainIdeal.Run

@[expose] public section

noncomputable section

namespace Cert.Adam

open Idealize.ShloMosaic Idealize.ShloMosaic.TcCoe Idealize.SL.Sem

theorem gate : algebraic_AdamGateIdeal_ReferenceAdamGateIdeal (hAdamGateIdeal := AdamGateIdeal.Gen.facts)
    (hReferenceAdamGateIdeal := ReferenceAdamGateIdeal.Gen.facts) := by
  refine fun m g m' g' _ hm => ⟨_, _, _, AdamGateIdeal.Value.run m g,
    (θ_run _ _ _).mono (fun r h c => ?_) (ReferenceAdamGateIdeal.Value.run m' g')⟩
  obtain ⟨⟨hd, hn, hv, hk⟩, e0, e1, e2, e3⟩ := (⟨h c, hm c⟩ : _ ∧ _)
  rw [e0, e1, e2, e3] at hd; rw [e1, e2] at hn; rw [e1, e3] at hv
  exact ⟨hd, hn, hv, hk⟩

theorem w_in : algebraic_AdamInIdeal_ReferenceAdamInIdeal (hAdamInIdeal := AdamInIdeal.Gen.facts)
    (hReferenceAdamInIdeal := ReferenceAdamInIdeal.Gen.facts) := by
  refine fun m g m' g' _ hm => ⟨_, _, _, AdamInIdeal.Value.run m g,
    (θ_run _ _ _).mono (fun r h c => ?_) (ReferenceAdamInIdeal.Value.run m' g')⟩
  obtain ⟨⟨hd, hn, hv, hk⟩, e0, e1, e2, e3⟩ := (⟨h c, hm c⟩ : _ ∧ _)
  rw [e0, e1, e2, e3] at hd; rw [e1, e2] at hn; rw [e1, e3] at hv
  exact ⟨hd, hn, hv, hk⟩

theorem down : algebraic_AdamDownIdeal_ReferenceAdamDownIdeal (hAdamDownIdeal := AdamDownIdeal.Gen.facts)
    (hReferenceAdamDownIdeal := ReferenceAdamDownIdeal.Gen.facts) := by
  refine fun m g m' g' _ hm => ⟨_, _, _, AdamDownIdeal.Value.run m g,
    (θ_run _ _ _).mono (fun r h c => ?_) (ReferenceAdamDownIdeal.Value.run m' g')⟩
  obtain ⟨⟨hd, hn, hv, hk⟩, e0, e1, e2, e3⟩ := (⟨h c, hm c⟩ : _ ∧ _)
  rw [e0, e1, e2, e3] at hd; rw [e1, e2] at hn; rw [e1, e3] at hv
  exact ⟨hd, hn, hv, hk⟩

theorem w_out : algebraic_AdamOutIdeal_ReferenceAdamOutIdeal (hAdamOutIdeal := AdamOutIdeal.Gen.facts)
    (hReferenceAdamOutIdeal := ReferenceAdamOutIdeal.Gen.facts) := by
  refine fun m g m' g' _ hm => ⟨_, _, _, AdamOutIdeal.Value.run m g,
    (θ_run _ _ _).mono (fun r h c => ?_) (ReferenceAdamOutIdeal.Value.run m' g')⟩
  obtain ⟨⟨hd, hn, hv, hk⟩, e0, e1, e2, e3⟩ := (⟨h c, hm c⟩ : _ ∧ _)
  rw [e0, e1, e2, e3] at hd; rw [e1, e2] at hn; rw [e1, e3] at hv
  exact ⟨hd, hn, hv, hk⟩

theorem gain : algebraic_AdamGainIdeal_ReferenceAdamGainIdeal (hAdamGainIdeal := AdamGainIdeal.Gen.facts)
    (hReferenceAdamGainIdeal := ReferenceAdamGainIdeal.Gen.facts) := by
  refine fun m g m' g' _ hm => ⟨_, _, _, AdamGainIdeal.Value.run m g,
    (θ_run _ _ _).mono (fun r h c => ?_) (ReferenceAdamGainIdeal.Value.run m' g')⟩
  obtain ⟨⟨hd, hn, hv, hk⟩, e0, e1, e2, e3⟩ := (⟨h c, hm c⟩ : _ ∧ _)
  rw [e0, e1, e2, e3] at hd; rw [e1, e2] at hn; rw [e1, e3] at hv
  exact ⟨hd, hn, hv, hk⟩

theorem half_gain : algebraic_AdamHalfGainIdeal_ReferenceAdamHalfGainIdeal (hAdamHalfGainIdeal := AdamHalfGainIdeal.Gen.facts)
    (hReferenceAdamHalfGainIdeal := ReferenceAdamHalfGainIdeal.Gen.facts) := by
  refine fun m g m' g' _ hm => ⟨_, _, _, AdamHalfGainIdeal.Value.run m g,
    (θ_run _ _ _).mono (fun r h c => ?_) (ReferenceAdamHalfGainIdeal.Value.run m' g')⟩
  obtain ⟨⟨hd, hn, hv, hk⟩, e0, e1, e2, e3⟩ := (⟨h c, hm c⟩ : _ ∧ _)
  rw [e0, e1, e2, e3] at hd; rw [e1, e2] at hn; rw [e1, e3] at hv
  exact ⟨hd, hn, hv, hk⟩

end Cert.Adam

end
-- ==== Proof.Rows.lean ====
/-
Rows over the extended reals: the root-mean-square norm of a row and its gradient, and what they make of arrays of rows.
-/
module

public import Idealize.ShloMosaic.Lib.Pipeline.ValueKit
public import Idealize.ShloMosaic.Lib.Pointwise

@[expose] public section

noncomputable section

namespace Cert.Rows

open Idealize.ShloMosaic

/-! ## A row -/

variable {R W : ℕ}

/-- Row `r` of an array of rows. -/
abbrev row (v : (⟨2, ![R, W]⟩ : Shape).Idx → EReal) (r : Fin R) : Fin W → EReal := fun k => v (ix2 r k)

/-- The places of a row of 1024, by whose number the squares' sum is divided. -/
def n1024 : EReal := Ideal.ofBits .f32 0x44800000#32

/-- The places of a row of 512. -/
def n512 : EReal := Ideal.ofBits .f32 0x44000000#32

/-- The inverse of a row's root mean square, of `n` places. -/
def rinv (n : EReal) (x : Fin W → EReal) : EReal :=
  Ideal.rsqrt (Ideal.div (∑ k, x k * x k) n + Ideal.ofBits .f32 0x358637BD#32)

/-- The gradient at place `q` of a row `x`, given the gradient `h` of the norm's row. -/
def back (n : EReal) (h x g : Fin W → EReal) (q : Fin W) : EReal :=
  rinv n x * (h q * g q - x q * rinv n x * Ideal.div (∑ k, h k * g k * (x k * rinv n x)) n)

theorem back_congr {n : EReal} {h h' x x' g g' : Fin W → EReal} {q q' : Fin W} (eh : h = h') (ex : x = x') (eg : g = g')
    (eq : q = q') : back n h x g q = back n h' x' g' q' := by
  subst eh ex eg eq; rfl

/-! ## Whole arrays -/

def normed (n : EReal) (x : (⟨2, ![R, W]⟩ : Shape).Idx → EReal) (g : (⟨2, ![1, W]⟩ : Shape).Idx → EReal) :
    (⟨2, ![R, W]⟩ : Shape).Idx → EReal := fun i => row x (i 0) (i 1) * rinv n (row x (i 0)) * row g 0 (i 1)

def dx (n : EReal) (h x : (⟨2, ![R, W]⟩ : Shape).Idx → EReal) (g : (⟨2, ![1, W]⟩ : Shape).Idx → EReal) :
    (⟨2, ![R, W]⟩ : Shape).Idx → EReal :=
  fun i => back n (row h (i 0)) (row x (i 0)) (row g 0) (i 1)

def dgain (n : EReal) (h x : (⟨2, ![R, W]⟩ : Shape).Idx → EReal) : (⟨2, ![1, W]⟩ : Shape).Idx → EReal :=
  fun i => ∑ r : Fin R, row h r (i 1) * (row x r (i 1) * rinv n (row x r))

theorem normed_at {R' : ℕ} {n : EReal} {x : (⟨2, ![R, W]⟩ : Shape).Idx → EReal} {x' : (⟨2, ![R', W]⟩ : Shape).Idx → EReal}
    {g g' : (⟨2, ![1, W]⟩ : Shape).Idx → EReal} {i : (⟨2, ![R, W]⟩ : Shape).Idx} {r : Fin R'}
    (ex : row x (i 0) = row x' r) (eg : row g 0 = row g' 0) : normed n x g i = normed n x' g' (ix2 r (i 1)) := by
  show row x (i 0) (i 1) * rinv n (row x (i 0)) * row g 0 (i 1) = row x' r (i 1) * rinv n (row x' r) * row g' 0 (i 1)
  rw [ex, eg]

theorem dx_at {R' : ℕ} {n : EReal} {h x : (⟨2, ![R, W]⟩ : Shape).Idx → EReal} {h' x' : (⟨2, ![R', W]⟩ : Shape).Idx → EReal}
    {g g' : (⟨2, ![1, W]⟩ : Shape).Idx → EReal} {i : (⟨2, ![R, W]⟩ : Shape).Idx} {r : Fin R'}
    (eh : row h (i 0) = row h' r) (ex : row x (i 0) = row x' r) (eg : row g 0 = row g' 0) :
    dx n h x g i = dx n h' x' g' (ix2 r (i 1)) :=
  back_congr eh ex eg rfl

/-! ## Two groups of columns -/

/-- Two arrays of 512 columns side by side. -/
def sides (a b : (⟨2, ![R, 512]⟩ : Shape).Idx → EReal) : (⟨2, ![R, 1024]⟩ : Shape).Idx → EReal := fun i =>
  if h : (i 1).val < 512 then a (ix2 (i 0) ⟨(i 1).val, h⟩)
  else b (ix2 (i 0) ⟨(i 1).val - 512, by have h' : (i 1).val < 1024 := (i 1).isLt; omega⟩)

theorem sides_left {a b : (⟨2, ![R, 512]⟩ : Shape).Idx → EReal} {i : (⟨2, ![R, 1024]⟩ : Shape).Idx} {r : Fin R} {k : Fin 512}
    (h0 : i 0 = r) (h1 : (i 1).val = k.val) : sides a b i = a (ix2 r k) := by
  have h : (i 1).val < 512 := h1 ▸ k.isLt
  unfold sides
  rw [dif_pos h]
  exact congrArg a (congr (congrArg _ h0) (Fin.ext h1))

theorem sides_right {a b : (⟨2, ![R, 512]⟩ : Shape).Idx → EReal} {i : (⟨2, ![R, 1024]⟩ : Shape).Idx} {r : Fin R} {k : Fin 512}
    (h0 : i 0 = r) (h1 : (i 1).val = 512 + k.val) : sides a b i = b (ix2 r k) := by
  have h : ¬(i 1).val < 512 := by omega
  unfold sides
  rw [dif_neg h]
  exact congrArg b (congr (congrArg _ h0) (Fin.ext (by show (i 1).val - 512 = k.val; omega)))

/-- The left 512 columns. -/
def left (v : (⟨2, ![R, 1024]⟩ : Shape).Idx → EReal) : (⟨2, ![R, 512]⟩ : Shape).Idx → EReal :=
  fun i => v (ix2 (i 0) ⟨(i 1).val, by have h : (i 1).val < 512 := (i 1).isLt; omega⟩)

/-- The right 512 columns. -/
def right (v : (⟨2, ![R, 1024]⟩ : Shape).Idx → EReal) : (⟨2, ![R, 512]⟩ : Shape).Idx → EReal :=
  fun i => v (ix2 (i 0) ⟨512 + (i 1).val, by have h : (i 1).val < 512 := (i 1).isLt; omega⟩)

/-! ## The loss -/

/-- What a row of the norm misses its target by. -/
def miss (x g y : Fin 1024 → EReal) (k : Fin 1024) : EReal := x k * rinv n1024 x * g k - y k

/-- The loss's gradient at the norm's rows. -/
def dmiss (x : (⟨2, ![R, 1024]⟩ : Shape).Idx → EReal) (g : (⟨2, ![1, 1024]⟩ : Shape).Idx → EReal)
    (y : (⟨2, ![R, 1024]⟩ : Shape).Idx → EReal) : (⟨2, ![R, 1024]⟩ : Shape).Idx → EReal :=
  fun i => miss (row x (i 0)) (row g 0) (row y (i 0)) (i 1) * Ideal.ofBits .f32 0x3A800000#32

/-- Half the mean square of what a row misses. -/
def lost (x g y : Fin 1024 → EReal) : EReal :=
  Ideal.ofBits .f32 0x3F000000#32 * Ideal.div (∑ k, miss x g y k * miss x g y k) n1024

/-- A sum's half is the halves' sum, with infinities in it too. -/
theorem half_sum {ι : Type} (s : Finset ι) (f : ι → EReal) :
    Ideal.ofBits .f32 0x3F000000#32 * ∑ i ∈ s, f i = ∑ i ∈ s, Ideal.ofBits .f32 0x3F000000#32 * f i := by
  have e : Ideal.ofBits .f32 0x3F000000#32 = ((1 / 2 : ℝ) : EReal) := by
    simp [Ideal.ofBits, Ideal.ieee, -EReal.coe_mul]; norm_num
  classical
  induction s using Finset.induction_on with
  | empty => simp
  | insert a s ha ih =>
    rw [Finset.sum_insert ha, Finset.sum_insert ha, ← ih, e]
    exact EReal.left_distrib_of_nonneg_of_ne_top (by positivity) (EReal.coe_ne_top _) _ _

end Cert.Rows
-- ==== Proof.Norm.lean ====
/-
The root-mean-square norm, forward and backward, over the extended reals: a point of the grid works on 512 whole rows, so that
block by block the two calls leave what the reference leaves row by row; the gradient of the gain is summed point by point.
-/
module

public import proofs.«01_k».proof.Defs
public import proofs.«01_k».proof.Proof.Gen.NormIdeal.Value
public import proofs.«01_k».proof.Proof.Gen.ReferenceNormIdeal.Run
public import proofs.«01_k».proof.Proof.Gen.NormBwdIdeal.Value
public import proofs.«01_k».proof.Proof.Gen.ReferenceNormBwdIdeal.Run
public import proofs.«01_k».proof.Proof.Rows

@[expose] public section

noncomputable section

/-! ## Forward -/

namespace Cert.NormIdeal

open Idealize.ShloMosaic Idealize.ShloMosaic.TcCoe Idealize.ShloMosaic.Pipeline Idealize.SL.Sem Cert.NormIdeal.Gen Cert.Rows

theorem block (x : Vec Ideal S512x1024 .f32) (g : Vec Ideal S1x1024 .f32) : k0_pay1 x g = normed n1024 (R := 512) x g := by
  funext y
  unfold k0_pay1
  pointwise [normed, rinv, n1024, row]

variable (m : (ℓ : Loc nD τ sig) → Buf (Elt Ideal) ℓ) (c : Dev nD)

theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) := by decide +kernel

theorem lt (t : Fin cfg0.N) (p : Fin 512) : t.val * 512 + p.val < 8192 := by
  have : t.val < 16 := lt_of_lt_of_eq t.isLt N_0
  omega

theorem rows (t : Fin cfg0.N) (p : Fin 512) :
    row (iblk m c 0 t) p = row (m ((c : Thread nD τ).loc main_arg0)) (⟨t.val * 512 + p.val, lt t p⟩ : Fin 8192)
    ∧ row (iblk m c 1 t) (0 : Fin 1) = row (m ((c : Thread nD τ).loc main_arg1)) (0 : Fin 1) := by
  refine ⟨funext fun k => ?_, funext fun k => ?_⟩
  all_goals blk_ext [row, iblk, V, idx t]

theorem result : (dats m 0 c).arrAt 2 cfg0.N
    = normed n1024 (R := 8192) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [block]
  obtain ⟨e0, e1⟩ := rows m c t (y 0)
  have h0 : (win0_2.blk t).view.emb y 0 = (⟨t.val * 512 + (y 0).val, lt t (y 0)⟩ : Fin 8192) := by
    apply Fin.ext; blk_simp [idx t]; try rfl
  have h1 : (win0_2.blk t).view.emb y 1 = y 1 := by
    apply Fin.ext; blk_simp [idx t]; try rfl
  show row (iblk m c 0 t) (y 0) (y 1) * rinv n1024 (row (iblk m c 0 t) (y 0)) * row (iblk m c 1 t) (0 : Fin 1) (y 1)
    = row _ _ _ * rinv n1024 (row _ _) * row _ _ _
  rw [h0, h1]
  exact congr (congrArg _ (congr (congrArg _ (congrFun e0 _)) (congrArg (rinv n1024) e0))) (congrFun e1 _)

theorem value : algebraic_NormIdeal_ReferenceNormIdeal (hNormIdeal := NormIdeal.Gen.facts)
    (hReferenceNormIdeal := ReferenceNormIdeal.Gen.facts) := by
  refine fun m g m' g' _ hm => ⟨_, Value.run_blocks m g,
    (θ_run _ _ _).mono (fun r h c => ?_) (ReferenceNormIdeal.Value.run m' g')⟩
  obtain ⟨⟨hd, hk⟩, e0, e1⟩ := (⟨h c, hm c⟩ : _ ∧ _)
  refine ⟨hd.trans ?_, hk⟩
  rw [result, e0, e1]
  funext i
  pointwise [normed, rinv, n1024, row]

end Cert.NormIdeal

/-! ## Backward -/

namespace Cert.NormBwdIdeal

open Idealize.ShloMosaic Idealize.ShloMosaic.TcCoe Idealize.ShloMosaic.Pipeline Idealize.SL.Sem Cert.NormBwdIdeal.Gen Cert.Rows

theorem block_dx (x h : Vec Ideal S512x1024 .f32) (g : Vec Ideal S1x1024 .f32) (d : Vec Ideal S512x1024 .f32) :
    k0_pay4 x h g d = fun y => dx n1024 (R := 512) h x g y + row (R := 512) d (y 0) (y 1) := by
  funext y
  unfold k0_pay4 k0_pay3 k0_pay2
  pointwise [dx, back, rinv, n1024, row]

theorem block_dgain (x h : Vec Ideal S512x1024 .f32) : k0_pay5 x h = dgain n1024 (R := 512) h x := by
  funext y
  unfold k0_pay5 k0_pay3 k0_pay2
  pointwise [dgain, rinv, n1024, row]

theorem add_dgain (a b : Vec Ideal S1x1024 .f32) (y : S1x1024.Idx) : k0_pay1 a b y = b y + a y := by
  unfold k0_pay1
  pointwise

variable (m : (ℓ : Loc nD τ sig) → Buf (Elt Ideal) ℓ) (c : Dev nD)

theorem idx : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0) := by decide +kernel

theorem lt (t : Fin cfg0.N) (p : Fin 512) : t.val * 512 + p.val < 8192 := by
  have : t.val < 16 := lt_of_lt_of_eq t.isLt N_0
  omega

/-- The row of the whole arrays that row `p` of a point's blocks is. -/
abbrev place (t : Fin cfg0.N) (p : Fin 512) : Fin 8192 := ⟨t.val * 512 + p.val, lt t p⟩

theorem rows (t : Fin cfg0.N) (p : Fin 512) : row (iblk m c 0 t) p = row (m ((c : Thread nD τ).loc main_arg0)) (place t p)
    ∧ row (iblk m c 1 t) p = row (m ((c : Thread nD τ).loc main_arg1)) (place t p)
    ∧ row (iblk m c 2 t) (0 : Fin 1) = row (m ((c : Thread nD τ).loc main_arg2)) (0 : Fin 1)
    ∧ row (iblk m c 3 t) p = row (m ((c : Thread nD τ).loc main_arg3)) (place t p) := by
  refine ⟨funext fun k => ?_, funext fun k => ?_, funext fun k => ?_, funext fun k => ?_⟩
  all_goals blk_ext [row, iblk, V, idx t]

/-- Every point leaves the same function of its blocks, the first point and the later ones. -/
theorem left_dx (t : Fin cfg0.N) :
    (outsAt0 m c t.val t.isLt).1
    = fun y : S512x1024.Idx => dx n1024 (R := 512) (iblk m c 0 t) (iblk m c 1 t) (iblk m c 2 t) y + row (R := 512) (iblk m c 3 t) (y 0) (y 1) := by
  have hN : t.val < 16 := lt_of_lt_of_eq t.isLt N_0
  by_cases h : 1 ≤ t.val
  · rw [outsAt0_B m c t (by omega) h]
    frame_out
    exact block_dx ..
  · rw [outsAt0_A m c t (by omega) h]
    frame_out
    exact block_dx ..

theorem result_dx : (dats m 0 c).arrAt 4 cfg0.N
    = fun i : S8192x1024.Idx => dx n1024 (R := 8192) (m ((c : Thread nD τ).loc main_arg0)) (m ((c : Thread nD τ).loc main_arg1))
      (m ((c : Thread nD τ).loc main_arg2)) i + row (R := 8192) (m ((c : Thread nD τ).loc main_arg3)) (i 0) (i 1) := by
  refine (dats m 0 c).arrAt_eq_of_covers 4 _ (by decide +kernel) fun t hf y => ?_
  blk_simp
  rw [after0_4, left_dx]
  obtain ⟨e0, e1, e2, e3⟩ := rows m c t (y 0)
  have h0 : (win0_4.blk t).view.emb y 0 = place t (y 0) := by
    apply Fin.ext; blk_simp [idx t]; try rfl
  have h1 : (win0_4.blk t).view.emb y 1 = y 1 := by
    apply Fin.ext; blk_simp [idx t]; try rfl
  show back _ (row _ (y 0)) (row _ (y 0)) (row _ 0) (y 1) + row _ (y 0) (y 1) = back _ (row _ _) (row _ _) (row _ 0) _ + row _ _ _
  rw [h0, h1]
  exact congr (congrArg _ (back_congr e0 e1 e2 rfl)) (congrFun e3 _)

theorem result_dgain : (dats m 0 c).arrAt 5 cfg0.N
    = dgain n1024 (R := 8192) (m ((c : Thread nD τ).loc main_arg0)) (m ((c : Thread nD τ).loc main_arg1)) := by
  refine (dats m 0 c).arrAt_eq_of_covers 5 _ (by decide +kernel) fun t hf y => ?_
  blk_simp
  have ht : t.val = 15 := by revert t; decide +kernel
  have h1 : (win0_5.blk t).view.emb y 1 = y 1 := by
    apply Fin.ext; blk_simp [idx t]; try rfl
  rw [after0_5, Pipeline.eq_sum_fin_of_reset_step_apply_last (fun n h => (outsAt0 m c n h).2) 16 (fun _ => 0)
    (fun t => dgain n1024 (R := 512) (iblk m c 0 t) (iblk m c 1 t))
    (fun t h j => by
      have hN : t.val < 16 := lt_of_lt_of_eq t.isLt N_0
      rw [outsAt0_A m c t h (by omega)]; frame_out; rw [block_dgain, zero_add])
    (fun t h j => by rw [outsAt0_B m c t h (by omega)]; frame_out; rw [add_dgain, block_dgain])
    (le_of_eq N_0) t (by rw [ht]; exact N_0.symm) y, zero_add]
  show ∑ p : Fin cfg0.N, ∑ k : Fin 512, row (iblk m c 0 p) k (y 1) * (row (iblk m c 1 p) k (y 1) * rinv n1024 (row (iblk m c 1 p) k))
    = ∑ r : Fin 8192, row (m ((c : Thread nD τ).loc main_arg0)) r _
      * (row (m ((c : Thread nD τ).loc main_arg1)) r _ * rinv n1024 (row (m ((c : Thread nD τ).loc main_arg1)) r))
  rw [h1]
  refine Fin.sum_mul_add_congr (S := 16) fun p k hl => ?_
  obtain ⟨e0, e1, -⟩ := rows m c p k
  rw [e0, e1]

theorem value : algebraic_NormBwdIdeal_ReferenceNormBwdIdeal (hNormBwdIdeal := NormBwdIdeal.Gen.facts)
    (hReferenceNormBwdIdeal := ReferenceNormBwdIdeal.Gen.facts) := by
  refine fun m g m' g' _ hm => ⟨_, _, Value.run_blocks m g,
    (θ_run _ _ _).mono (fun r h c => ?_) (ReferenceNormBwdIdeal.Value.run m' g')⟩
  obtain ⟨⟨hx, hg, hk⟩, e0, e1, e2, e3⟩ := (⟨h c, hm c⟩ : _ ∧ _)
  refine ⟨hx.trans ?_, hg.trans ?_, hk⟩
  · rw [result_dx, e0, e1, e2, e3]
    funext i
    pointwise [dx, back, rinv, n1024, row]
    exact add_comm _ _
  · rw [result_dgain, e0, e1]
    funext i
    pointwise [dgain, rinv, n1024, row]

end Cert.NormBwdIdeal
-- ==== Proof.Product.lean ====
/-
Products of two arrays over the extended reals, plain and with one of the two transposed.
-/
module

public import Idealize.ShloMosaic.Lib.Pointwise

@[expose] public section

noncomputable section

namespace Cert.Product

open Idealize.ShloMosaic

abbrev Mat (M N : ℕ) := (⟨2, ![M, N]⟩ : Shape).Idx → EReal

variable {M K N M' N' : ℕ}

/-- The rows of `a` with the columns of `b`. -/
def dot (a : Mat M K) (b : Mat K N) : Mat M N := fun i => ∑ k, a (ix2 (i 0) k) * b (ix2 k (i 1))

/-- The rows of `a` with the rows of `b`. -/
def dotT (a : Mat M K) (b : Mat N K) : Mat M N := fun i => ∑ k, a (ix2 (i 0) k) * b (ix2 (i 1) k)

/-- The columns of `a` with the columns of `b`. -/
def tdot (a : Mat K M) (b : Mat K N) : Mat M N := fun i => ∑ k, a (ix2 k (i 0)) * b (ix2 k (i 1))

theorem dot_congr {a : Mat M K} {b : Mat K N} {a' : Mat M' K} {b' : Mat K N'} {y : (⟨2, ![M, N]⟩ : Shape).Idx}
    {i : (⟨2, ![M', N']⟩ : Shape).Idx} (ha : ∀ k, a (ix2 (y 0) k) = a' (ix2 (i 0) k))
    (hb : ∀ k, b (ix2 k (y 1)) = b' (ix2 k (i 1))) : dot a b y = dot a' b' i :=
  Finset.sum_congr rfl fun k _ => congr (congrArg _ (ha k)) (hb k)

theorem dotT_congr {a : Mat M K} {b : Mat N K} {a' : Mat M' K} {b' : Mat N' K} {y : (⟨2, ![M, N]⟩ : Shape).Idx}
    {i : (⟨2, ![M', N']⟩ : Shape).Idx} (ha : ∀ k, a (ix2 (y 0) k) = a' (ix2 (i 0) k))
    (hb : ∀ k, b (ix2 (y 1) k) = b' (ix2 (i 1) k)) : dotT a b y = dotT a' b' i :=
  Finset.sum_congr rfl fun k _ => congr (congrArg _ (ha k)) (hb k)

/-- One half. -/
def half : EReal := Ideal.ofBits .f32 0x3F000000#32

/-- A gate `g` applied to `d`. -/
def gated (g d : EReal) : EReal := g * Ideal.logistic g * d

/-- The gate's gradient, from the gate `g`, the other factor `u` and the gradient `d` of their product. -/
def dgate (g u d : EReal) : EReal := d * u * (Ideal.logistic g * (1 + g * (1 - Ideal.logistic g)))

/-- The other factor's gradient, from the gate and the gradient `d` of the gated product. -/
def dother (g d : EReal) : EReal := d * (g * Ideal.logistic g)

end Cert.Product
-- ==== Proof.FeedForward.lean ====
/-
The products of the feed-forward layers, over the extended reals. A point of the grid makes one block of the result from whole
rows of one array and whole columns (or rows, where it is transposed) of the other, so a block of the result is the same sums
that the reference makes; what is added or applied behind the product goes entry by entry.
-/
module

public import proofs.«01_k».proof.Defs
public import proofs.«01_k».proof.Proof.Gen.MmGateIdeal.Value
public import proofs.«01_k».proof.Proof.Gen.ReferenceMmGateIdeal.Run
public import proofs.«01_k».proof.Proof.Gen.MmUpIdeal.Value
public import proofs.«01_k».proof.Proof.Gen.ReferenceMmUpIdeal.Run
public import proofs.«01_k».proof.Proof.Gen.MmDownIdeal.Value
public import proofs.«01_k».proof.Proof.Gen.ReferenceMmDownIdeal.Run
public import proofs.«01_k».proof.Proof.Gen.MmBwdActIdeal.Value
public import proofs.«01_k».proof.Proof.Gen.ReferenceMmBwdActIdeal.Run
public import proofs.«01_k».proof.Proof.Gen.MmDhGateIdeal.Value
public import proofs.«01_k».proof.Proof.Gen.ReferenceMmDhGateIdeal.Run
public import proofs.«01_k».proof.Proof.Gen.MmDhUpIdeal.Value
public import proofs.«01_k».proof.Proof.Gen.ReferenceMmDhUpIdeal.Run
public import proofs.«01_k».proof.Proof.Product
public import Idealize.ShloMosaic.Lib.Pipeline.ValueKit
public import Idealize.ShloMosaic.Lib.Pointwise

@[expose] public section

noncomputable section

/-! ## The gate -/

namespace Cert.MmGateIdeal

open Idealize.ShloMosaic Idealize.ShloMosaic.TcCoe Idealize.ShloMosaic.Pipeline Idealize.SL.Sem Cert.MmGateIdeal.Gen Cert.Product

theorem block (x : Vec Ideal S512x1024 .bf16) (w : Vec Ideal S1024x1408 .bf16) :
    k0_pay1 x w = dot (M := 512) (K := 1024) (N := 1408) x w := by
  funext y; unfold k0_pay1; pointwise [dot]

theorem idx : ∀ t : Fin grid0.N, (win0_0.index t 0 = win0_2.index t 0 ∧ win0_0.index t 1 = 0)
    ∧ (win0_1.index t 0 = 0 ∧ win0_1.index t 1 = win0_2.index t 1) := by decide +kernel

theorem result (m : (ℓ : Loc nD τ sig) → Buf (Elt Ideal) ℓ) (c : Dev nD) : (dats m 0 c).arrAt 2 cfg0.N
    = dot (M := 8192) (K := 1024) (N := 2816) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [block]
  refine dot_congr (fun k => ?_) (fun k => ?_) <;> blk_ext [iblk, V, idx t]

theorem value : algebraic_MmGateIdeal_ReferenceMmGateIdeal (hMmGateIdeal := MmGateIdeal.Gen.facts)
    (hReferenceMmGateIdeal := ReferenceMmGateIdeal.Gen.facts) := by
  refine fun m g m' g' _ hm => ⟨_, Value.run_blocks m g,
    (θ_run _ _ _).mono (fun r h c => ?_) (ReferenceMmGateIdeal.Value.run m' g')⟩
  obtain ⟨⟨hd, hk⟩, e0, e1⟩ := (⟨h c, hm c⟩ : _ ∧ _)
  refine ⟨hd.trans ?_, hk⟩
  rw [result, e0, e1]
  funext i
  pointwise [dot]

end Cert.MmGateIdeal

/-! ## The other factor, and the gated product -/

namespace Cert.MmUpIdeal

open Idealize.ShloMosaic Idealize.ShloMosaic.TcCoe Idealize.ShloMosaic.Pipeline Idealize.SL.Sem Cert.MmUpIdeal.Gen Cert.Product

theorem block_u (x : Vec Ideal S512x1024 .bf16) (w : Vec Ideal S1024x1408 .bf16) :
    k0_pay2 x w = dot (M := 512) (K := 1024) (N := 1408) x w := by
  funext y; unfold k0_pay2 k0_pay1; pointwise [dot]

theorem block_a (x : Vec Ideal S512x1024 .bf16) (w : Vec Ideal S1024x1408 .bf16) (g : Vec Ideal S512x1408 .bf16) (y : S512x1408.Idx) :
    k0_pay3 x w g y = gated (g y) (dot (M := 512) (K := 1024) (N := 1408) x w y) := by
  unfold k0_pay3 k0_pay1; pointwise [dot, gated, Ideal.logistic, zero_sub]

theorem idx : ∀ t : Fin grid0.N, (win0_0.index t 0 = win0_3.index t 0 ∧ win0_0.index t 1 = 0)
    ∧ (win0_1.index t 0 = 0 ∧ win0_1.index t 1 = win0_3.index t 1)
    ∧ (win0_2.index t 0 = win0_3.index t 0 ∧ win0_2.index t 1 = win0_3.index t 1)
    ∧ (win0_4.index t 0 = win0_3.index t 0 ∧ win0_4.index t 1 = win0_3.index t 1) := by decide +kernel

variable (m : (ℓ : Loc nD τ sig) → Buf (Elt Ideal) ℓ) (c : Dev nD)

theorem result_u : (dats m 0 c).arrAt 3 cfg0.N
    = dot (M := 8192) (K := 1024) (N := 2816) (m ((c : Thread nD τ).loc main_arg0)) (m ((c : Thread nD τ).loc main_arg1)) := by
  refine (dats m 0 c).arrAt_eq_of_covers 3 _ (by decide +kernel) fun t hf y => ?_
  blk_simp
  rw [after0_3]
  frame_out
  rw [block_u]
  refine dot_congr (fun k => ?_) (fun k => ?_) <;> blk_ext [iblk, V, idx t]

theorem result_a : (dats m 0 c).arrAt 4 cfg0.N = fun i : S8192x2816.Idx =>
    gated (m ((c : Thread nD τ).loc main_arg2) i)
      (dot (M := 8192) (K := 1024) (N := 2816) (m ((c : Thread nD τ).loc main_arg0)) (m ((c : Thread nD τ).loc main_arg1)) i) := by
  refine (dats m 0 c).arrAt_eq_of_covers 4 _ (by decide +kernel) fun t hf y => ?_
  blk_simp
  rw [after0_4]
  frame_out
  rw [block_a]
  refine congr (congrArg gated ?_) (dot_congr (fun k => ?_) (fun k => ?_)) <;>
    blk_ext [iblk, V, idx t]

theorem value : algebraic_MmUpIdeal_ReferenceMmUpIdeal (hMmUpIdeal := MmUpIdeal.Gen.facts)
    (hReferenceMmUpIdeal := ReferenceMmUpIdeal.Gen.facts) := by
  refine fun m g m' g' _ hm => ⟨_, _, Value.run_blocks m g,
    (θ_run _ _ _).mono (fun r h c => ?_) (ReferenceMmUpIdeal.Value.run m' g')⟩
  obtain ⟨⟨hu, ha, hk⟩, e0, e1, e2⟩ := (⟨h c, hm c⟩ : _ ∧ _)
  refine ⟨hu.trans ?_, ha.trans ?_, hk⟩
  · rw [result_u, e0, e1]
    funext i
    pointwise [dot]
  · rw [result_a, e0, e1, e2]
    funext i
    clear hu ha h
    pointwise [dot, gated, Ideal.logistic]

end Cert.MmUpIdeal

/-! ## The way down, and the residual -/

namespace Cert.MmDownIdeal

open Idealize.ShloMosaic Idealize.ShloMosaic.TcCoe Idealize.ShloMosaic.Pipeline Idealize.SL.Sem Cert.MmDownIdeal.Gen Cert.Product

theorem block (a : Vec Ideal S512x2816 .bf16) (w : Vec Ideal S2816x1024 .bf16) (x : Vec Ideal S512x1024 .f32) (y : S512x1024.Idx) :
    k0_pay1 a w x y = dot (M := 512) (K := 2816) (N := 1024) a w y * half + (x y : EReal) := by
  unfold k0_pay1; pointwise [dot, half]

theorem idx : ∀ t : Fin grid0.N, (win0_0.index t 0 = win0_3.index t 0 ∧ win0_0.index t 1 = 0)
    ∧ (win0_1.index t 0 = 0 ∧ win0_1.index t 1 = win0_3.index t 1)
    ∧ (win0_2.index t 0 = win0_3.index t 0 ∧ win0_2.index t 1 = win0_3.index t 1) := by decide +kernel

theorem result (m : (ℓ : Loc nD τ sig) → Buf (Elt Ideal) ℓ) (c : Dev nD) : (dats m 0 c).arrAt 3 cfg0.N = fun i : S8192x1024.Idx =>
    dot (M := 8192) (K := 2816) (N := 1024) (m ((c : Thread nD τ).loc main_arg0)) (m ((c : Thread nD τ).loc main_arg1)) i * half
      + (m ((c : Thread nD τ).loc main_arg2) i : EReal) := by
  refine (dats m 0 c).arrAt_eq_of_covers 3 _ (by decide +kernel) fun t hf y => ?_
  blk_simp
  rw [after0_3]
  frame_out
  rw [block]
  refine congr (congrArg (fun d x : EReal => d * half + x) (dot_congr (fun k => ?_) (fun k => ?_))) ?_ <;> blk_ext [iblk, V, idx t]

theorem value : algebraic_MmDownIdeal_ReferenceMmDownIdeal (hMmDownIdeal := MmDownIdeal.Gen.facts)
    (hReferenceMmDownIdeal := ReferenceMmDownIdeal.Gen.facts) := by
  refine fun m g m' g' _ hm => ⟨_, Value.run_blocks m g,
    (θ_run _ _ _).mono (fun r h c => ?_) (ReferenceMmDownIdeal.Value.run m' g')⟩
  obtain ⟨⟨hd, hk⟩, e0, e1, e2⟩ := (⟨h c, hm c⟩ : _ ∧ _)
  refine ⟨hd.trans ?_, hk⟩
  rw [result, e0, e1, e2]
  funext i
  pointwise [dot, half]
  rw [add_comm, mul_comm]

end Cert.MmDownIdeal

/-! ## Back through the gated product -/

namespace Cert.MmBwdActIdeal

open Idealize.ShloMosaic Idealize.ShloMosaic.TcCoe Idealize.ShloMosaic.Pipeline Idealize.SL.Sem Cert.MmBwdActIdeal.Gen Cert.Product

theorem block_g (d : Vec Ideal S512x1024 .f32) (w : Vec Ideal S1408x1024 .bf16) (g u : Vec Ideal S512x1408 .bf16) (y : S512x1408.Idx) :
    k0_pay4 d w g u y = dgate (g y) (u y) (dotT (M := 512) (K := 1024) (N := 1408) d w y * half) := by
  unfold k0_pay4 k0_pay3 k0_pay2 k0_pay1; pointwise [dotT, half, dgate, Ideal.logistic, zero_sub]

theorem block_u (d : Vec Ideal S512x1024 .f32) (w : Vec Ideal S1408x1024 .bf16) (g : Vec Ideal S512x1408 .bf16) (y : S512x1408.Idx) :
    k0_pay5 d w g y = dother (g y) (dotT (M := 512) (K := 1024) (N := 1408) d w y * half) := by
  unfold k0_pay5 k0_pay3 k0_pay2 k0_pay1; pointwise [dotT, half, dother, Ideal.logistic, zero_sub]

theorem idx : ∀ t : Fin grid0.N, (win0_0.index t 0 = win0_4.index t 0 ∧ win0_0.index t 1 = 0)
    ∧ (win0_1.index t 0 = win0_4.index t 1 ∧ win0_1.index t 1 = 0)
    ∧ (win0_2.index t 0 = win0_4.index t 0 ∧ win0_2.index t 1 = win0_4.index t 1)
    ∧ (win0_3.index t 0 = win0_4.index t 0 ∧ win0_3.index t 1 = win0_4.index t 1)
    ∧ (win0_5.index t 0 = win0_4.index t 0 ∧ win0_5.index t 1 = win0_4.index t 1) := by decide +kernel

variable (m : (ℓ : Loc nD τ sig) → Buf (Elt Ideal) ℓ) (c : Dev nD)

/-- The gradient that arrives at the gated product. -/
abbrev arrives : Mat 8192 2816 := fun i =>
  dotT (M := 8192) (K := 1024) (N := 2816) (m ((c : Thread nD τ).loc main_arg0)) (m ((c : Thread nD τ).loc main_arg1)) i * half

theorem result_g : (dats m 0 c).arrAt 4 cfg0.N = fun i : S8192x2816.Idx =>
    dgate (m ((c : Thread nD τ).loc main_arg2) i) (m ((c : Thread nD τ).loc main_arg3) i) (arrives m c i) := by
  refine (dats m 0 c).arrAt_eq_of_covers 4 _ (by decide +kernel) fun t hf y => ?_
  blk_simp
  rw [after0_4]
  frame_out
  rw [block_g]
  refine congr (congr (congrArg dgate ?_) ?_) (congrArg (· * half) (dotT_congr (fun k => ?_) (fun k => ?_))) <;>
    blk_ext [iblk, V, idx t]

theorem result_u : (dats m 0 c).arrAt 5 cfg0.N = fun i : S8192x2816.Idx =>
    dother (m ((c : Thread nD τ).loc main_arg2) i) (arrives m c i) := by
  refine (dats m 0 c).arrAt_eq_of_covers 5 _ (by decide +kernel) fun t hf y => ?_
  blk_simp
  rw [after0_5]
  frame_out
  rw [block_u]
  refine congr (congrArg dother ?_) (congrArg (· * half) (dotT_congr (fun k => ?_) (fun k => ?_))) <;>
    blk_ext [iblk, V, idx t]

theorem value : algebraic_MmBwdActIdeal_ReferenceMmBwdActIdeal (hMmBwdActIdeal := MmBwdActIdeal.Gen.facts)
    (hReferenceMmBwdActIdeal := ReferenceMmBwdActIdeal.Gen.facts) := by
  refine fun m g m' g' _ hm => ⟨_, _, Value.run_blocks m g,
    (θ_run _ _ _).mono (fun r h c => ?_) (ReferenceMmBwdActIdeal.Value.run m' g')⟩
  obtain ⟨⟨hg, hu, hk⟩, e0, e1, e2, e3⟩ := (⟨h c, hm c⟩ : _ ∧ _)
  refine ⟨hg.trans ?_, hu.trans ?_, hk⟩
  · rw [result_g, e0, e1, e2, e3]
    funext i
    clear hg hu h
    pointwise [arrives, dotT, half, dgate, Ideal.logistic]
    rw [mul_comm (Ideal.ofBits .f32 0x3F000000#32)]
  · rw [result_u, e0, e1, e2]
    funext i
    clear hg hu h
    pointwise [arrives, dotT, half, dother, Ideal.logistic]
    rw [mul_comm (Ideal.ofBits .f32 0x3F000000#32)]

end Cert.MmBwdActIdeal

/-! ## Back to the norm's rows: from the gate, then also from the other factor -/

namespace Cert.MmDhGateIdeal

open Idealize.ShloMosaic Idealize.ShloMosaic.TcCoe Idealize.ShloMosaic.Pipeline Idealize.SL.Sem Cert.MmDhGateIdeal.Gen Cert.Product

theorem block (d : Vec Ideal S512x2816 .bf16) (w : Vec Ideal S1024x2816 .bf16) :
    k0_pay1 d w = dotT (M := 512) (K := 2816) (N := 1024) d w := by
  funext y; unfold k0_pay1; pointwise [dotT]

theorem idx : ∀ t : Fin grid0.N, (win0_0.index t 0 = win0_2.index t 0 ∧ win0_0.index t 1 = 0)
    ∧ (win0_1.index t 0 = win0_2.index t 1 ∧ win0_1.index t 1 = 0) := by decide +kernel

theorem result (m : (ℓ : Loc nD τ sig) → Buf (Elt Ideal) ℓ) (c : Dev nD) : (dats m 0 c).arrAt 2 cfg0.N
    = dotT (M := 8192) (K := 2816) (N := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [block]
  refine dotT_congr (fun k => ?_) (fun k => ?_) <;> blk_ext [iblk, V, idx t]

theorem value : algebraic_MmDhGateIdeal_ReferenceMmDhGateIdeal (hMmDhGateIdeal := MmDhGateIdeal.Gen.facts)
    (hReferenceMmDhGateIdeal := ReferenceMmDhGateIdeal.Gen.facts) := by
  refine fun m g m' g' _ hm => ⟨_, Value.run_blocks m g,
    (θ_run _ _ _).mono (fun r h c => ?_) (ReferenceMmDhGateIdeal.Value.run m' g')⟩
  obtain ⟨⟨hd, hk⟩, e0, e1⟩ := (⟨h c, hm c⟩ : _ ∧ _)
  refine ⟨hd.trans ?_, hk⟩
  rw [result, e0, e1]
  funext i
  pointwise [dotT]

end Cert.MmDhGateIdeal

namespace Cert.MmDhUpIdeal

open Idealize.ShloMosaic Idealize.ShloMosaic.TcCoe Idealize.ShloMosaic.Pipeline Idealize.SL.Sem Cert.MmDhUpIdeal.Gen Cert.Product

theorem block (d : Vec Ideal S512x2816 .bf16) (w : Vec Ideal S1024x2816 .bf16) (x : Vec Ideal S512x1024 .f32) (y : S512x1024.Idx) :
    k0_pay1 d w x y = dotT (M := 512) (K := 2816) (N := 1024) d w y + (x y : EReal) := by
  unfold k0_pay1; pointwise [dotT]

theorem idx : ∀ t : Fin grid0.N, (win0_0.index t 0 = win0_3.index t 0 ∧ win0_0.index t 1 = 0)
    ∧ (win0_1.index t 0 = win0_3.index t 1 ∧ win0_1.index t 1 = 0)
    ∧ (win0_2.index t 0 = win0_3.index t 0 ∧ win0_2.index t 1 = win0_3.index t 1) := by decide +kernel

theorem result (m : (ℓ : Loc nD τ sig) → Buf (Elt Ideal) ℓ) (c : Dev nD) : (dats m 0 c).arrAt 3 cfg0.N = fun i : S8192x1024.Idx =>
    dotT (M := 8192) (K := 2816) (N := 1024) (m ((c : Thread nD τ).loc main_arg0)) (m ((c : Thread nD τ).loc main_arg1)) i
      + (m ((c : Thread nD τ).loc main_arg2) i : EReal) := by
  refine (dats m 0 c).arrAt_eq_of_covers 3 _ (by decide +kernel) fun t hf y => ?_
  blk_simp
  rw [after0_3]
  frame_out
  rw [block]
  refine congr (congrArg (fun d x : EReal => d + x) (dotT_congr (fun k => ?_) (fun k => ?_))) ?_ <;> blk_ext [iblk, V, idx t]

theorem value : algebraic_MmDhUpIdeal_ReferenceMmDhUpIdeal (hMmDhUpIdeal := MmDhUpIdeal.Gen.facts)
    (hReferenceMmDhUpIdeal := ReferenceMmDhUpIdeal.Gen.facts) := by
  refine fun m g m' g' _ hm => ⟨_, Value.run_blocks m g,
    (θ_run _ _ _).mono (fun r h c => ?_) (ReferenceMmDhUpIdeal.Value.run m' g')⟩
  obtain ⟨⟨hd, hk⟩, e0, e1, e2⟩ := (⟨h c, hm c⟩ : _ ∧ _)
  refine ⟨hd.trans ?_, hk⟩
  rw [result, e0, e1, e2]
  funext i
  pointwise [dotT]
  rw [add_comm]

end Cert.MmDhUpIdeal
-- ==== Proof.Projections.lean ====
/-
The products around the attention mixers, over the extended reals: the projections into them, the projection out of them with
its residual, and the ways back through the latter and the former.
-/
module

public import proofs.«01_k».proof.Defs
public import proofs.«01_k».proof.Proof.Gen.MmSbIdeal.Value
public import proofs.«01_k».proof.Proof.Gen.ReferenceMmSbIdeal.Run
public import proofs.«01_k».proof.Proof.Gen.MmDlIdeal.Value
public import proofs.«01_k».proof.Proof.Gen.ReferenceMmDlIdeal.Run
public import proofs.«01_k».proof.Proof.Gen.MmOutIdeal.Value
public import proofs.«01_k».proof.Proof.Gen.ReferenceMmOutIdeal.Run
public import proofs.«01_k».proof.Proof.Gen.MmMergedIdeal.Value
public import proofs.«01_k».proof.Proof.Gen.ReferenceMmMergedIdeal.Run
public import proofs.«01_k».proof.Proof.Gen.MmDhMixIdeal.Value
public import proofs.«01_k».proof.Proof.Gen.ReferenceMmDhMixIdeal.Run
public import proofs.«01_k».proof.Proof.Product
public import Idealize.ShloMosaic.Lib.Pipeline.ValueKit
public import Idealize.ShloMosaic.Lib.Pointwise

@[expose] public section

noncomputable section

/-! ## Into the mixers -/

namespace Cert.MmSbIdeal

open Idealize.ShloMosaic Idealize.ShloMosaic.TcCoe Idealize.ShloMosaic.Pipeline Idealize.SL.Sem Cert.MmSbIdeal.Gen Cert.Product

theorem block (x : Vec Ideal S512x1024 .bf16) (w : Vec Ideal S1024x1536 .bf16) :
    k0_pay1 x w = dot (M := 512) (K := 1024) (N := 1536) x w := by
  funext y; unfold k0_pay1; pointwise [dot]

theorem idx : ∀ t : Fin grid0.N, (win0_0.index t 0 = win0_2.index t 0 ∧ win0_0.index t 1 = 0)
    ∧ (win0_1.index t 0 = 0 ∧ win0_1.index t 1 = win0_2.index t 1) := by decide +kernel

theorem result (m : (ℓ : Loc nD τ sig) → Buf (Elt Ideal) ℓ) (c : Dev nD) : (dats m 0 c).arrAt 2 cfg0.N
    = dot (M := 8192) (K := 1024) (N := 1536) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [block]
  refine dot_congr (fun k => ?_) (fun k => ?_) <;> blk_ext [iblk, V, idx t]

theorem value : algebraic_MmSbIdeal_ReferenceMmSbIdeal (hMmSbIdeal := MmSbIdeal.Gen.facts)
    (hReferenceMmSbIdeal := ReferenceMmSbIdeal.Gen.facts) := by
  refine fun m g m' g' _ hm => ⟨_, Value.run_blocks m g,
    (θ_run _ _ _).mono (fun r h c => ?_) (ReferenceMmSbIdeal.Value.run m' g')⟩
  obtain ⟨⟨hd, hk⟩, e0, e1⟩ := (⟨h c, hm c⟩ : _ ∧ _)
  refine ⟨hd.trans ?_, hk⟩
  rw [result, e0, e1]
  funext i
  pointwise [dot]

end Cert.MmSbIdeal

namespace Cert.MmDlIdeal

open Idealize.ShloMosaic Idealize.ShloMosaic.TcCoe Idealize.ShloMosaic.Pipeline Idealize.SL.Sem Cert.MmDlIdeal.Gen Cert.Product

theorem block (x : Vec Ideal S512x1024 .bf16) (w : Vec Ideal S1024x1536 .bf16) :
    k0_pay1 x w = dot (M := 512) (K := 1024) (N := 1536) x w := by
  funext y; unfold k0_pay1; pointwise [dot]

theorem idx : ∀ t : Fin grid0.N, (win0_0.index t 0 = win0_2.index t 0 ∧ win0_0.index t 1 = 0)
    ∧ (win0_1.index t 0 = 0 ∧ win0_1.index t 1 = win0_2.index t 1) := by decide +kernel

theorem result (m : (ℓ : Loc nD τ sig) → Buf (Elt Ideal) ℓ) (c : Dev nD) : (dats m 0 c).arrAt 2 cfg0.N
    = dot (M := 8192) (K := 1024) (N := 1536) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [block]
  refine dot_congr (fun k => ?_) (fun k => ?_) <;> blk_ext [iblk, V, idx t]

theorem value : algebraic_MmDlIdeal_ReferenceMmDlIdeal (hMmDlIdeal := MmDlIdeal.Gen.facts)
    (hReferenceMmDlIdeal := ReferenceMmDlIdeal.Gen.facts) := by
  refine fun m g m' g' _ hm => ⟨_, Value.run_blocks m g,
    (θ_run _ _ _).mono (fun r h c => ?_) (ReferenceMmDlIdeal.Value.run m' g')⟩
  obtain ⟨⟨hd, hk⟩, e0, e1⟩ := (⟨h c, hm c⟩ : _ ∧ _)
  refine ⟨hd.trans ?_, hk⟩
  rw [result, e0, e1]
  funext i
  pointwise [dot]

end Cert.MmDlIdeal

/-! ## Out of the mixers -/

namespace Cert.MmOutIdeal

open Idealize.ShloMosaic Idealize.ShloMosaic.TcCoe Idealize.ShloMosaic.Pipeline Idealize.SL.Sem Cert.MmOutIdeal.Gen Cert.Product

theorem block (a : Vec Ideal S512x1024 .bf16) (w : Vec Ideal S1024x1024 .bf16) (x : Vec Ideal S512x1024 .f32) (y : S512x1024.Idx) :
    k0_pay1 a w x y = dot (M := 512) (K := 1024) (N := 1024) a w y + (x y : EReal) := by
  unfold k0_pay1; pointwise [dot]

theorem idx : ∀ t : Fin grid0.N, (win0_0.index t 0 = win0_3.index t 0 ∧ win0_0.index t 1 = 0)
    ∧ (win0_1.index t 0 = 0 ∧ win0_1.index t 1 = win0_3.index t 1)
    ∧ (win0_2.index t 0 = win0_3.index t 0 ∧ win0_2.index t 1 = win0_3.index t 1) := by decide +kernel

theorem result (m : (ℓ : Loc nD τ sig) → Buf (Elt Ideal) ℓ) (c : Dev nD) : (dats m 0 c).arrAt 3 cfg0.N = fun i : S8192x1024.Idx =>
    dot (M := 8192) (K := 1024) (N := 1024) (m ((c : Thread nD τ).loc main_arg0)) (m ((c : Thread nD τ).loc main_arg1)) i
      + (m ((c : Thread nD τ).loc main_arg2) i : EReal) := by
  refine (dats m 0 c).arrAt_eq_of_covers 3 _ (by decide +kernel) fun t hf y => ?_
  blk_simp
  rw [after0_3]
  frame_out
  rw [block]
  refine congr (congrArg (fun d x : EReal => d + x) (dot_congr (fun k => ?_) (fun k => ?_))) ?_ <;> blk_ext [iblk, V, idx t]

theorem value : algebraic_MmOutIdeal_ReferenceMmOutIdeal (hMmOutIdeal := MmOutIdeal.Gen.facts)
    (hReferenceMmOutIdeal := ReferenceMmOutIdeal.Gen.facts) := by
  refine fun m g m' g' _ hm => ⟨_, Value.run_blocks m g,
    (θ_run _ _ _).mono (fun r h c => ?_) (ReferenceMmOutIdeal.Value.run m' g')⟩
  obtain ⟨⟨hd, hk⟩, e0, e1, e2⟩ := (⟨h c, hm c⟩ : _ ∧ _)
  refine ⟨hd.trans ?_, hk⟩
  rw [result, e0, e1, e2]
  funext i
  pointwise [dot]
  rw [add_comm]

end Cert.MmOutIdeal

/-! ## The ways back -/

namespace Cert.MmMergedIdeal

open Idealize.ShloMosaic Idealize.ShloMosaic.TcCoe Idealize.ShloMosaic.Pipeline Idealize.SL.Sem Cert.MmMergedIdeal.Gen Cert.Product

theorem block (d : Vec Ideal S512x1024 .f32) (w : Vec Ideal S1024x1024 .bf16) :
    k0_pay1 d w = dotT (M := 512) (K := 1024) (N := 1024) d w := by
  funext y; unfold k0_pay1; pointwise [dotT]

theorem idx : ∀ t : Fin grid0.N, (win0_0.index t 0 = win0_2.index t 0 ∧ win0_0.index t 1 = 0)
    ∧ (win0_1.index t 0 = win0_2.index t 1 ∧ win0_1.index t 1 = 0) := by decide +kernel

theorem result (m : (ℓ : Loc nD τ sig) → Buf (Elt Ideal) ℓ) (c : Dev nD) : (dats m 0 c).arrAt 2 cfg0.N
    = dotT (M := 8192) (K := 1024) (N := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [block]
  refine dotT_congr (fun k => ?_) (fun k => ?_) <;> blk_ext [iblk, V, idx t]

theorem value : algebraic_MmMergedIdeal_ReferenceMmMergedIdeal (hMmMergedIdeal := MmMergedIdeal.Gen.facts)
    (hReferenceMmMergedIdeal := ReferenceMmMergedIdeal.Gen.facts) := by
  refine fun m g m' g' _ hm => ⟨_, Value.run_blocks m g,
    (θ_run _ _ _).mono (fun r h c => ?_) (ReferenceMmMergedIdeal.Value.run m' g')⟩
  obtain ⟨⟨hd, hk⟩, e0, e1⟩ := (⟨h c, hm c⟩ : _ ∧ _)
  refine ⟨hd.trans ?_, hk⟩
  rw [result, e0, e1]
  funext i
  pointwise [dotT]

end Cert.MmMergedIdeal

namespace Cert.MmDhMixIdeal

open Idealize.ShloMosaic Idealize.ShloMosaic.TcCoe Idealize.ShloMosaic.Pipeline Idealize.SL.Sem Cert.MmDhMixIdeal.Gen Cert.Product

theorem block (d : Vec Ideal S512x3072 .bf16) (w : Vec Ideal S1024x3072 .bf16) :
    k0_pay1 d w = dotT (M := 512) (K := 3072) (N := 1024) d w := by
  funext y; unfold k0_pay1; pointwise [dotT]

theorem idx : ∀ t : Fin grid0.N, (win0_0.index t 0 = win0_2.index t 0 ∧ win0_0.index t 1 = 0)
    ∧ (win0_1.index t 0 = win0_2.index t 1 ∧ win0_1.index t 1 = 0) := by decide +kernel

theorem result (m : (ℓ : Loc nD τ sig) → Buf (Elt Ideal) ℓ) (c : Dev nD) : (dats m 0 c).arrAt 2 cfg0.N
    = dotT (M := 8192) (K := 3072) (N := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [block]
  refine dotT_congr (fun k => ?_) (fun k => ?_) <;> blk_ext [iblk, V, idx t]

theorem value : algebraic_MmDhMixIdeal_ReferenceMmDhMixIdeal (hMmDhMixIdeal := MmDhMixIdeal.Gen.facts)
    (hReferenceMmDhMixIdeal := ReferenceMmDhMixIdeal.Gen.facts) := by
  refine fun m g m' g' _ hm => ⟨_, Value.run_blocks m g,
    (θ_run _ _ _).mono (fun r h c => ?_) (ReferenceMmDhMixIdeal.Value.run m' g')⟩
  obtain ⟨⟨hd, hk⟩, e0, e1⟩ := (⟨h c, hm c⟩ : _ ∧ _)
  refine ⟨hd.trans ?_, hk⟩
  rw [result, e0, e1]
  funext i
  pointwise [dotT]

end Cert.MmDhMixIdeal
-- ==== Proof.WeightGrads.lean ====
/-
The weights' gradients, over the extended reals: products that run over the 8192 rows in eight points, whose parts a scratch
array sums; the last of the eight writes the sum back.
-/
module

public import proofs.«01_k».proof.Defs
public import proofs.«01_k».proof.Proof.Gen.MmDwgIdeal.Value
public import proofs.«01_k».proof.Proof.Gen.ReferenceMmDwgIdeal.Run
public import proofs.«01_k».proof.Proof.Gen.MmDwdIdeal.Value
public import proofs.«01_k».proof.Proof.Gen.ReferenceMmDwdIdeal.Run
public import proofs.«01_k».proof.Proof.Gen.MmDwOutIdeal.Value
public import proofs.«01_k».proof.Proof.Gen.ReferenceMmDwOutIdeal.Run
public import proofs.«01_k».proof.Proof.Gen.MmDwInIdeal.Value
public import proofs.«01_k».proof.Proof.Gen.ReferenceMmDwInIdeal.Run
public import proofs.«01_k».proof.Proof.Product
public import Idealize.ShloMosaic.Lib.Pipeline.ValueKit
public import Idealize.ShloMosaic.Lib.Pipeline.ReadBack
public import Idealize.ShloMosaic.Lib.Pointwise

@[expose] public section

noncomputable section

/-! ## The gate's and the other factor's -/

namespace Cert.MmDwgIdeal

open Idealize.ShloMosaic Idealize.ShloMosaic.TcCoe Idealize.ShloMosaic.Pipeline Idealize.SL.Sem Cert.MmDwgIdeal.Gen Cert.Product

theorem first (a : Vec Ideal S1024x1024 .bf16) (d : Vec Ideal S1024x1408 .bf16) (y : S1024x1408.Idx) :
    k0_pay2 a d y = tdot (M := 1024) (K := 1024) (N := 1408) a d y := by
  unfold k0_pay2 k0_pay1; pointwise [tdot]

theorem further (a : Vec Ideal S1024x1024 .bf16) (d : Vec Ideal S1024x1408 .bf16) (s : Vec Ideal S1024x1408 .f32)
    (y : S1024x1408.Idx) : k0_pay3 a d s y = (s y : EReal) + tdot (M := 1024) (K := 1024) (N := 1408) a d y := by
  unfold k0_pay3 k0_pay1; pointwise [tdot]

theorem written (s : Vec Ideal S1024x1408 .f32) : k0_pay4 s = s := by
  funext y; unfold k0_pay4; pointwise

theorem idx : ∀ t : Fin grid0.N, (win0_0.index t 0 = t.val % 8 ∧ win0_0.index t 1 = win0_2.index t 0)
    ∧ (win0_1.index t 0 = t.val % 8 ∧ win0_1.index t 1 = win0_2.index t 1)
    ∧ (win0_2.index t 0 = 0 ∧ win0_2.index t 1 = t.val / 8) := by decide +kernel

variable (m : (ℓ : Loc nD τ sig) → Buf (Elt Ideal) ℓ) (c : Dev nD)

theorem written_back (t : Fin cfg0.N) (h : t.val % 8 = 7) : (outsAt0 m c t.val t.isLt).1 = (outsAt0 m c t.val t.isLt).2 := by
  rw [outsAt0_C m c t (by omega) (by omega) h]
  frame_out
  exact written _

theorem summed (t : Fin cfg0.N) (h : t.val % 8 = 7) (y : S1024x1408.Idx) : (outsAt0 m c t.val t.isLt).2 y
    = ∑ s : Fin 8, tdot (M := 1024) (K := 1024) (N := 1408) (iblk m c 0 ⟨8 * (t.val / 8) + s.val, Pipeline.run_point_lt_of_flush t h s⟩)
      (iblk m c 1 ⟨8 * (t.val / 8) + s.val, Pipeline.run_point_lt_of_flush t h s⟩) y := by
  rw [Pipeline.eq_sum_fin_of_reset_step_apply_of_flush (fun n h => (outsAt0 m c n h).2) 8 (fun _ => 0)
    (fun t => tdot (M := 1024) (K := 1024) (N := 1408) (iblk m c 0 t) (iblk m c 1 t))
    (fun t h j => by rw [outsAt0_A m c t h (by omega) (by omega)]; frame_out; rw [first, zero_add])
    (fun t h j => by
      by_cases e : t.val % 8 = 7
      · rw [outsAt0_C m c t h (by omega) e]; frame_out; rw [further, read_unread_whole]
      · rw [outsAt0_B m c t h (by omega) e]; frame_out; rw [further, read_unread_whole]) t h y, zero_add]

theorem result : (dats m 0 c).arrAt 2 cfg0.N
    = tdot (M := 1024) (K := 8192) (N := 2816) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [after0_2, written_back m c t h, summed m c t h]
  refine Fin.sum_mul_add_congr (S := 8) fun s k hl => ?_
  have i := idx t
  have j := idx ⟨8 * (t.val / 8) + s.val, Pipeline.run_point_lt_of_flush t h s⟩
  refine congr (congrArg _ ?_) ?_ <;> blk_ext [iblk, V, i, j]

theorem value : algebraic_MmDwgIdeal_ReferenceMmDwgIdeal (hMmDwgIdeal := MmDwgIdeal.Gen.facts)
    (hReferenceMmDwgIdeal := ReferenceMmDwgIdeal.Gen.facts) := by
  refine fun m g m' g' _ hm => ⟨_, Value.run_blocks m g,
    (θ_run _ _ _).mono (fun r h c => ?_) (ReferenceMmDwgIdeal.Value.run m' g')⟩
  obtain ⟨⟨hd, hk⟩, e0, e1⟩ := (⟨h c, hm c⟩ : _ ∧ _)
  refine ⟨hd.trans ?_, hk⟩
  rw [result, e0, e1]
  funext i
  pointwise [tdot]

end Cert.MmDwgIdeal

/-! ## The way down's -/

namespace Cert.MmDwdIdeal

open Idealize.ShloMosaic Idealize.ShloMosaic.TcCoe Idealize.ShloMosaic.Pipeline Idealize.SL.Sem Cert.MmDwdIdeal.Gen Cert.Product

theorem first (a : Vec Ideal S1024x1408 .bf16) (d : Vec Ideal S1024x1024 .f32) (y : S1408x1024.Idx) :
    k0_pay2 a d y = tdot (M := 1408) (K := 1024) (N := 1024) a d y := by
  unfold k0_pay2 k0_pay1; pointwise [tdot]

theorem further (a : Vec Ideal S1024x1408 .bf16) (d : Vec Ideal S1024x1024 .f32) (s : Vec Ideal S1408x1024 .f32)
    (y : S1408x1024.Idx) : k0_pay3 a d s y = (s y : EReal) + tdot (M := 1408) (K := 1024) (N := 1024) a d y := by
  unfold k0_pay3 k0_pay1; pointwise [tdot]

theorem written (s : Vec Ideal S1408x1024 .f32) (y : S1408x1024.Idx) : k0_pay4 s y = (s y : EReal) * half := by
  unfold k0_pay4; pointwise [half]

theorem idx : ∀ t : Fin grid0.N, (win0_0.index t 0 = t.val % 8 ∧ win0_0.index t 1 = t.val / 8)
    ∧ (win0_1.index t 0 = t.val % 8 ∧ win0_1.index t 1 = 0)
    ∧ (win0_2.index t 0 = t.val / 8 ∧ win0_2.index t 1 = 0) := by decide +kernel

variable (m : (ℓ : Loc nD τ sig) → Buf (Elt Ideal) ℓ) (c : Dev nD)

theorem written_back (t : Fin cfg0.N) (h : t.val % 8 = 7) (y : S1408x1024.Idx) :
    (outsAt0 m c t.val t.isLt).1 y = ((outsAt0 m c t.val t.isLt).2 y : EReal) * half := by
  rw [outsAt0_C m c t (by omega) (by omega) h]
  frame_out
  exact written _ _

theorem summed (t : Fin cfg0.N) (h : t.val % 8 = 7) (y : S1408x1024.Idx) : (outsAt0 m c t.val t.isLt).2 y
    = ∑ s : Fin 8, tdot (M := 1408) (K := 1024) (N := 1024) (iblk m c 0 ⟨8 * (t.val / 8) + s.val, Pipeline.run_point_lt_of_flush t h s⟩)
      (iblk m c 1 ⟨8 * (t.val / 8) + s.val, Pipeline.run_point_lt_of_flush t h s⟩) y := by
  rw [Pipeline.eq_sum_fin_of_reset_step_apply_of_flush (fun n h => (outsAt0 m c n h).2) 8 (fun _ => 0)
    (fun t => tdot (M := 1408) (K := 1024) (N := 1024) (iblk m c 0 t) (iblk m c 1 t))
    (fun t h j => by rw [outsAt0_A m c t h (by omega) (by omega)]; frame_out; rw [first, zero_add])
    (fun t h j => by
      by_cases e : t.val % 8 = 7
      · rw [outsAt0_C m c t h (by omega) e]; frame_out; rw [further, read_unread_whole]
      · rw [outsAt0_B m c t h (by omega) e]; frame_out; rw [further, read_unread_whole]) t h y, zero_add]

theorem result : (dats m 0 c).arrAt 2 cfg0.N = fun i : S2816x1024.Idx =>
    tdot (M := 2816) (K := 8192) (N := 1024) (m ((c : Thread nD τ).loc main_arg0)) (m ((c : Thread nD τ).loc main_arg1)) i * half := by
  refine (dats m 0 c).arrAt_eq_of_covers 2 _ (by decide +kernel) fun t hf y => ?_
  have h : t.val % 8 = 7 := (flush0_2 t).mp hf
  blk_simp
  rw [after0_2, written_back m c t h, summed m c t h]
  refine congrArg (· * half) (Fin.sum_mul_add_congr (S := 8) fun s k hl => ?_)
  have i := idx t
  have j := idx ⟨8 * (t.val / 8) + s.val, Pipeline.run_point_lt_of_flush t h s⟩
  refine congr (congrArg _ ?_) ?_ <;> blk_ext [iblk, V, i, j]

theorem value : algebraic_MmDwdIdeal_ReferenceMmDwdIdeal (hMmDwdIdeal := MmDwdIdeal.Gen.facts)
    (hReferenceMmDwdIdeal := ReferenceMmDwdIdeal.Gen.facts) := by
  refine fun m g m' g' _ hm => ⟨_, Value.run_blocks m g,
    (θ_run _ _ _).mono (fun r h c => ?_) (ReferenceMmDwdIdeal.Value.run m' g')⟩
  obtain ⟨⟨hd, hk⟩, e0, e1⟩ := (⟨h c, hm c⟩ : _ ∧ _)
  refine ⟨hd.trans ?_, hk⟩
  rw [result, e0, e1]
  funext i
  pointwise [tdot, half]
  rw [mul_comm]

end Cert.MmDwdIdeal

/-! ## The projections' -/

namespace Cert.MmDwOutIdeal

open Idealize.ShloMosaic Idealize.ShloMosaic.TcCoe Idealize.ShloMosaic.Pipeline Idealize.SL.Sem Cert.MmDwOutIdeal.Gen Cert.Product

theorem first (a : Vec Ideal S1024x1024 .bf16) (d : Vec Ideal S1024x1024 .f32) (y : S1024x1024.Idx) :
    k0_pay2 a d y = tdot (M := 1024) (K := 1024) (N := 1024) a d y := by
  unfold k0_pay2 k0_pay1; pointwise [tdot]

theorem further (a : Vec Ideal S1024x1024 .bf16) (d s : Vec Ideal S1024x1024 .f32) (y : S1024x1024.Idx) :
    k0_pay3 a d s y = (s y : EReal) + tdot (M := 1024) (K := 1024) (N := 1024) a d y := by
  unfold k0_pay3 k0_pay1; pointwise [tdot]

theorem written (s : Vec Ideal S1024x1024 .f32) : k0_pay4 s = s := by
  funext y; unfold k0_pay4; pointwise

theorem idx : ∀ t : Fin grid0.N, (win0_0.index t 0 = t.val ∧ win0_0.index t 1 = 0)
    ∧ (win0_1.index t 0 = t.val ∧ win0_1.index t 1 = 0) ∧ (win0_2.index t 0 = 0 ∧ win0_2.index t 1 = 0) := by decide +kernel

theorem lt (t : Fin cfg0.N) : t.val < 8 := lt_of_lt_of_eq t.isLt N_0

variable (m : (ℓ : Loc nD τ sig) → Buf (Elt Ideal) ℓ) (c : Dev nD)

theorem written_back (t : Fin cfg0.N) (h : t.val % 8 = 7) : (outsAt0 m c t.val t.isLt).1 = (outsAt0 m c t.val t.isLt).2 := by
  rw [outsAt0_C m c t (by omega) (by omega) h]
  frame_out
  exact written _

theorem summed (t : Fin cfg0.N) (h : t.val + 1 = cfg0.N) (y : S1024x1024.Idx) : (outsAt0 m c t.val t.isLt).2 y
    = ∑ p : Fin cfg0.N, tdot (M := 1024) (K := 1024) (N := 1024) (iblk m c 0 p) (iblk m c 1 p) y := by
  rw [Pipeline.eq_sum_fin_of_reset_step_apply_last (fun n h => (outsAt0 m c n h).2) 8 (fun _ => 0)
    (fun t => tdot (M := 1024) (K := 1024) (N := 1024) (iblk m c 0 t) (iblk m c 1 t))
    (fun t h j => by
      have := lt t
      rw [outsAt0_A m c t h (by omega) (by omega)]; frame_out; rw [first, zero_add])
    (fun t h j => by
      by_cases e : t.val % 8 = 7
      · rw [outsAt0_C m c t h (by omega) e]; frame_out; rw [further, read_unread_whole]
      · rw [outsAt0_B m c t h (by omega) e]; frame_out; rw [further, read_unread_whole]) (le_of_eq N_0) t h y, zero_add]

theorem result : (dats m 0 c).arrAt 2 cfg0.N
    = tdot (M := 1024) (K := 8192) (N := 1024) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  have hl := lt t
  blk_simp
  rw [after0_2, written_back m c t h, summed m c t (by rw [show t.val = 7 by omega]; exact N_0.symm)]
  refine Fin.sum_mul_add_congr (S := 8) fun p k hl => ?_
  have i := idx t
  have j := idx p
  refine congr (congrArg _ ?_) ?_ <;> blk_ext [iblk, V, i, j]

theorem value : algebraic_MmDwOutIdeal_ReferenceMmDwOutIdeal (hMmDwOutIdeal := MmDwOutIdeal.Gen.facts)
    (hReferenceMmDwOutIdeal := ReferenceMmDwOutIdeal.Gen.facts) := by
  refine fun m g m' g' _ hm => ⟨_, Value.run_blocks m g,
    (θ_run _ _ _).mono (fun r h c => ?_) (ReferenceMmDwOutIdeal.Value.run m' g')⟩
  obtain ⟨⟨hd, hk⟩, e0, e1⟩ := (⟨h c, hm c⟩ : _ ∧ _)
  refine ⟨hd.trans ?_, hk⟩
  rw [result, e0, e1]
  funext i
  pointwise [tdot]

end Cert.MmDwOutIdeal

namespace Cert.MmDwInIdeal

open Idealize.ShloMosaic Idealize.ShloMosaic.TcCoe Idealize.ShloMosaic.Pipeline Idealize.SL.Sem Cert.MmDwInIdeal.Gen Cert.Product

theorem first (a : Vec Ideal S1024x1024 .bf16) (d : Vec Ideal S1024x1536 .bf16) (y : S1024x1536.Idx) :
    k0_pay2 a d y = tdot (M := 1024) (K := 1024) (N := 1536) a d y := by
  unfold k0_pay2 k0_pay1; pointwise [tdot]

theorem further (a : Vec Ideal S1024x1024 .bf16) (d : Vec Ideal S1024x1536 .bf16) (s : Vec Ideal S1024x1536 .f32)
    (y : S1024x1536.Idx) : k0_pay3 a d s y = (s y : EReal) + tdot (M := 1024) (K := 1024) (N := 1536) a d y := by
  unfold k0_pay3 k0_pay1; pointwise [tdot]

theorem written (s : Vec Ideal S1024x1536 .f32) : k0_pay4 s = s := by
  funext y; unfold k0_pay4; pointwise

theorem idx : ∀ t : Fin grid0.N, (win0_0.index t 0 = t.val % 8 ∧ win0_0.index t 1 = 0)
    ∧ (win0_1.index t 0 = t.val % 8 ∧ win0_1.index t 1 = t.val / 8)
    ∧ (win0_2.index t 0 = 0 ∧ win0_2.index t 1 = t.val / 8) := by decide +kernel

variable (m : (ℓ : Loc nD τ sig) → Buf (Elt Ideal) ℓ) (c : Dev nD)

theorem written_back (t : Fin cfg0.N) (h : t.val % 8 = 7) : (outsAt0 m c t.val t.isLt).1 = (outsAt0 m c t.val t.isLt).2 := by
  rw [outsAt0_C m c t (by omega) (by omega) h]
  frame_out
  exact written _

theorem summed (t : Fin cfg0.N) (h : t.val % 8 = 7) (y : S1024x1536.Idx) : (outsAt0 m c t.val t.isLt).2 y
    = ∑ s : Fin 8, tdot (M := 1024) (K := 1024) (N := 1536) (iblk m c 0 ⟨8 * (t.val / 8) + s.val, Pipeline.run_point_lt_of_flush t h s⟩)
      (iblk m c 1 ⟨8 * (t.val / 8) + s.val, Pipeline.run_point_lt_of_flush t h s⟩) y := by
  rw [Pipeline.eq_sum_fin_of_reset_step_apply_of_flush (fun n h => (outsAt0 m c n h).2) 8 (fun _ => 0)
    (fun t => tdot (M := 1024) (K := 1024) (N := 1536) (iblk m c 0 t) (iblk m c 1 t))
    (fun t h j => by rw [outsAt0_A m c t h (by omega) (by omega)]; frame_out; rw [first, zero_add])
    (fun t h j => by
      by_cases e : t.val % 8 = 7
      · rw [outsAt0_C m c t h (by omega) e]; frame_out; rw [further, read_unread_whole]
      · rw [outsAt0_B m c t h (by omega) e]; frame_out; rw [further, read_unread_whole]) t h y, zero_add]

theorem result : (dats m 0 c).arrAt 2 cfg0.N
    = tdot (M := 1024) (K := 8192) (N := 3072) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [after0_2, written_back m c t h, summed m c t h]
  refine Fin.sum_mul_add_congr (S := 8) fun s k hl => ?_
  have i := idx t
  have j := idx ⟨8 * (t.val / 8) + s.val, Pipeline.run_point_lt_of_flush t h s⟩
  refine congr (congrArg _ ?_) ?_ <;> blk_ext [iblk, V, i, j]

theorem value : algebraic_MmDwInIdeal_ReferenceMmDwInIdeal (hMmDwInIdeal := MmDwInIdeal.Gen.facts)
    (hReferenceMmDwInIdeal := ReferenceMmDwInIdeal.Gen.facts) := by
  refine fun m g m' g' _ hm => ⟨_, Value.run_blocks m g,
    (θ_run _ _ _).mono (fun r h c => ?_) (ReferenceMmDwInIdeal.Value.run m' g')⟩
  obtain ⟨⟨hd, hk⟩, e0, e1⟩ := (⟨h c, hm c⟩ : _ ∧ _)
  refine ⟨hd.trans ?_, hk⟩
  rw [result, e0, e1]
  funext i
  pointwise [tdot]

end Cert.MmDwInIdeal
-- ==== Proof.LossHead.lean ====
/-
The loss head over the extended reals: the last norm, half the mean square of what it misses the target by, summed over the
rows, and the gradients of the rows and of the gain. A point of the grid works on 512 whole rows; the two sums over the rows
are carried from point to point in their outputs' blocks.
-/
module

public import proofs.«01_k».proof.Defs
public import proofs.«01_k».proof.Proof.Gen.LossHeadIdeal.Value
public import proofs.«01_k».proof.Proof.Gen.ReferenceLossHeadIdeal.Run
public import proofs.«01_k».proof.Proof.Rows

@[expose] public section

noncomputable section

namespace Cert.LossHeadIdeal

open Idealize.ShloMosaic Idealize.ShloMosaic.TcCoe Idealize.ShloMosaic.Pipeline Idealize.SL.Sem Cert.LossHeadIdeal.Gen Cert.Rows

/-- The loss of an array's rows, in each of the 128 places of its row. -/
def total {R : ℕ} (x : (⟨2, ![R, 1024]⟩ : Shape).Idx → EReal) (g : (⟨2, ![1, 1024]⟩ : Shape).Idx → EReal)
    (y : (⟨2, ![R, 1024]⟩ : Shape).Idx → EReal) : S1x128.Idx → EReal :=
  fun _ => ∑ r : Fin R, lost (row x r) (row g 0) (row y r)

theorem block_dx (x : Vec Ideal S512x1024 .f32) (g : Vec Ideal S1x1024 .f32) (y : Vec Ideal S512x1024 .f32) :
    k0_pay8 x g y = dx n1024 (R := 512) (dmiss (R := 512) x g y) x g := by
  funext q
  unfold k0_pay8 k0_pay7 k0_pay6 k0_pay5 k0_pay4
  pointwise [dx, back, dmiss, miss, rinv, n1024, row]

theorem block_dgain (x : Vec Ideal S512x1024 .f32) (g : Vec Ideal S1x1024 .f32) (y : Vec Ideal S512x1024 .f32) :
    k0_pay9 x g y = dgain n1024 (R := 512) (dmiss (R := 512) x g y) x := by
  funext q
  unfold k0_pay9 k0_pay7 k0_pay6 k0_pay5 k0_pay4
  pointwise [dgain, dmiss, miss, rinv, n1024, row]

theorem block_loss (x : Vec Ideal S512x1024 .f32) (g : Vec Ideal S1x1024 .f32) (y : Vec Ideal S512x1024 .f32) :
    k0_pay1 (k0_pay10 (F := Ideal)) (k0_pay11 x g y) (Scalar.ofBits .f32 0x44800000#32) = total (R := 512) x g y := by
  funext q
  unfold k0_pay1 k0_pay10 k0_pay11 k0_pay6 k0_pay5 k0_pay4
  simp only [total, lost, ← half_sum]
  pointwise [miss, rinv, n1024, row]

theorem add_dgain (a b : Vec Ideal S1x1024 .f32) (q : S1x1024.Idx) : k0_pay2 a b q = b q + a q := by
  unfold k0_pay2
  pointwise

theorem add_loss (v : FVec Ideal S1x128 .f32) (a : FVec Ideal S512x1 .f32) (e : Ideal .f32) (b : Vec Ideal S1x128 .f32) (q : S1x128.Idx) :
    k0_pay3 v a e b q = b q + k0_pay1 v a e q := by
  unfold k0_pay3
  pointwise

variable (m : (ℓ : Loc nD τ sig) → Buf (Elt Ideal) ℓ) (c : Dev nD)

theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) := by decide +kernel

theorem lt (t : Fin cfg0.N) (p : Fin 512) : t.val * 512 + p.val < 8192 := by
  have : t.val < 16 := lt_of_lt_of_eq t.isLt N_0
  omega

/-- The row of the whole arrays that row `p` of a point's blocks is. -/
abbrev place (t : Fin cfg0.N) (p : Fin 512) : Fin 8192 := ⟨t.val * 512 + p.val, lt t p⟩

theorem rows (t : Fin cfg0.N) (p : Fin 512) : row (iblk m c 0 t) p = row (m ((c : Thread nD τ).loc main_arg0)) (place t p)
    ∧ row (iblk m c 1 t) (0 : Fin 1) = row (m ((c : Thread nD τ).loc main_arg1)) (0 : Fin 1)
    ∧ row (iblk m c 2 t) p = row (m ((c : Thread nD τ).loc main_arg2)) (place t p) := by
  refine ⟨funext fun k => ?_, funext fun k => ?_, funext fun k => ?_⟩
  all_goals blk_ext [row, iblk, V, idx t]

theorem row_dmiss (t : Fin cfg0.N) (p : Fin 512) :
    row (dmiss (R := 512) (iblk m c 0 t) (iblk m c 1 t) (iblk m c 2 t)) p
      = row (dmiss (R := 8192) (m ((c : Thread nD τ).loc main_arg0)) (m ((c : Thread nD τ).loc main_arg1))
        (m ((c : Thread nD τ).loc main_arg2))) (place t p) := by
  obtain ⟨e0, e1, e2⟩ := rows m c t p
  show (fun k => miss (row _ p) (row _ (0 : Fin 1)) (row _ p) k * _) = fun k => miss (row _ _) (row _ (0 : Fin 1)) (row _ _) k * _
  rw [e0, e1, e2]
  rfl

theorem left_dx (t : Fin cfg0.N) : (outsAt0 m c t.val t.isLt).1
    = dx n1024 (R := 512) (dmiss (R := 512) (iblk m c 0 t) (iblk m c 1 t) (iblk m c 2 t)) (iblk m c 0 t) (iblk m c 1 t) := by
  have hN : t.val < 16 := lt_of_lt_of_eq t.isLt N_0
  by_cases h : 1 ≤ t.val
  · rw [outsAt0_B m c t (by omega) h]
    frame_out
    exact block_dx ..
  · rw [outsAt0_A m c t (by omega) h]
    frame_out
    exact block_dx ..

theorem result_dx : (dats m 0 c).arrAt 3 cfg0.N
    = dx n1024 (R := 8192) (dmiss (R := 8192) (m ((c : Thread nD τ).loc main_arg0)) (m ((c : Thread nD τ).loc main_arg1))
      (m ((c : Thread nD τ).loc main_arg2))) (m ((c : Thread nD τ).loc main_arg0)) (m ((c : Thread nD τ).loc main_arg1)) := by
  refine (dats m 0 c).arrAt_eq_of_covers 3 _ (by decide +kernel) fun t hf y => ?_
  blk_simp
  rw [after0_3, left_dx]
  obtain ⟨e0, e1, -⟩ := rows m c t (y 0)
  have h0 : (win0_3.blk t).view.emb y 0 = place t (y 0) := by
    apply Fin.ext; blk_simp [idx t]; try rfl
  have h1 : (win0_3.blk t).view.emb y 1 = y 1 := by
    apply Fin.ext; blk_simp [idx t]; try rfl
  show back _ (row _ (y 0)) (row _ (y 0)) (row _ 0) (y 1) = back _ (row _ _) (row _ _) (row _ 0) _
  rw [h0, h1]
  exact back_congr (row_dmiss m c t (y 0)) e0 e1 rfl

theorem last (t : Fin cfg0.N) (h : t.val = 15) : t.val + 1 = cfg0.N := by rw [h]; exact N_0.symm

theorem result_dgain : (dats m 0 c).arrAt 4 cfg0.N
    = dgain n1024 (R := 8192) (dmiss (R := 8192) (m ((c : Thread nD τ).loc main_arg0)) (m ((c : Thread nD τ).loc main_arg1))
      (m ((c : Thread nD τ).loc main_arg2))) (m ((c : Thread nD τ).loc main_arg0)) := by
  refine (dats m 0 c).arrAt_eq_of_covers 4 _ (by decide +kernel) fun t hf y => ?_
  blk_simp
  have ht : t.val = 15 := by revert t; decide +kernel
  have h1 : (win0_4.blk t).view.emb y 1 = y 1 := by
    apply Fin.ext; blk_simp [idx t]; try rfl
  rw [after0_4, Pipeline.eq_sum_fin_of_reset_step_apply_last (fun n h => (outsAt0 m c n h).2.1) 16 (fun _ => 0)
    (fun t => dgain n1024 (R := 512) (dmiss (R := 512) (iblk m c 0 t) (iblk m c 1 t) (iblk m c 2 t)) (iblk m c 0 t))
    (fun t h j => by
      have hN : t.val < 16 := lt_of_lt_of_eq t.isLt N_0
      rw [outsAt0_A m c t h (by omega)]; frame_out; rw [block_dgain, zero_add])
    (fun t h j => by rw [outsAt0_B m c t h (by omega)]; frame_out; rw [add_dgain, block_dgain])
    (le_of_eq N_0) t (last t ht) y, zero_add]
  show ∑ p : Fin cfg0.N, ∑ k : Fin 512, row (dmiss (R := 512) _ _ _) k (y 1) * (row (iblk m c 0 p) k (y 1) * rinv _ (row (iblk m c 0 p) k))
    = ∑ r : Fin 8192, row (dmiss (R := 8192) _ _ _) r _
      * (row (m ((c : Thread nD τ).loc main_arg0)) r _ * rinv _ (row (m ((c : Thread nD τ).loc main_arg0)) r))
  rw [h1]
  refine Fin.sum_mul_add_congr (S := 16) fun p k hl => ?_
  have e := row_dmiss m c p k
  obtain ⟨e0, -⟩ := rows m c p k
  rw [e, e0]

theorem result_loss : (dats m 0 c).arrAt 5 cfg0.N
    = total (R := 8192) (m ((c : Thread nD τ).loc main_arg0)) (m ((c : Thread nD τ).loc main_arg1))
      (m ((c : Thread nD τ).loc main_arg2)) := by
  refine (dats m 0 c).arrAt_eq_of_covers 5 _ (by decide +kernel) fun t hf y => ?_
  blk_simp
  have ht : t.val = 15 := by revert t; decide +kernel
  rw [after0_5, Pipeline.eq_sum_fin_of_reset_step_apply_last (fun n h => (outsAt0 m c n h).2.2) 16 (fun _ => 0)
    (fun t => total (R := 512) (iblk m c 0 t) (iblk m c 1 t) (iblk m c 2 t))
    (fun t h j => by
      have hN : t.val < 16 := lt_of_lt_of_eq t.isLt N_0
      rw [outsAt0_A m c t h (by omega)]; frame_out; rw [block_loss, zero_add])
    (fun t h j => by rw [outsAt0_B m c t h (by omega)]; frame_out; rw [add_loss, block_loss])
    (le_of_eq N_0) t (last t ht) y, zero_add]
  show ∑ p : Fin cfg0.N, ∑ k : Fin 512, lost (row (iblk m c 0 p) k) (row (iblk m c 1 p) (0 : Fin 1)) (row (iblk m c 2 p) k)
    = ∑ r : Fin 8192, lost (row (m ((c : Thread nD τ).loc main_arg0)) r) (row (m ((c : Thread nD τ).loc main_arg1)) (0 : Fin 1))
      (row (m ((c : Thread nD τ).loc main_arg2)) r)
  refine Fin.sum_mul_add_congr (S := 16) fun p k hl => ?_
  obtain ⟨e0, e1, e2⟩ := rows m c p k
  rw [e0, e1, e2]

theorem value : algebraic_LossHeadIdeal_ReferenceLossHeadIdeal (hLossHeadIdeal := LossHeadIdeal.Gen.facts)
    (hReferenceLossHeadIdeal := ReferenceLossHeadIdeal.Gen.facts) := by
  refine fun m g m' g' _ hm => ⟨_, _, _, Value.run_blocks m g,
    (θ_run _ _ _).mono (fun r h c => ?_) (ReferenceLossHeadIdeal.Value.run m' g')⟩
  obtain ⟨⟨hx, hg, hl, hk⟩, e0, e1, e2⟩ := (⟨h c, hm c⟩ : _ ∧ _)
  refine ⟨hx.trans ?_, hg.trans ?_, hl.trans ?_, hk⟩
  · rw [result_dx, e0, e1, e2]
    funext i
    clear hx hg hl h hm
    pointwise [dx, back, dmiss, miss, rinv, n1024, row]
  · rw [result_dgain, e0, e1, e2]
    funext i
    clear hx hg hl h hm
    pointwise [dgain, dmiss, miss, rinv, n1024, row]
  · rw [result_loss, e0, e1, e2]
    funext i
    clear hx hg hl h hm
    pointwise [total, lost, miss, rinv, n1024, row]

end Cert.LossHeadIdeal
-- ==== Proof.OutNorm.lean ====
/-
The norm of the mixers' two outputs over the extended reals, forward and backward: two groups of 512 columns, each with its own
norm and gain, side by side in the arrays of 1024 columns.
-/
module

public import proofs.«01_k».proof.Defs
public import proofs.«01_k».proof.Proof.Gen.OutNormIdeal.Value
public import proofs.«01_k».proof.Proof.Gen.ReferenceOutNormIdeal.Run
public import proofs.«01_k».proof.Proof.Gen.OutNormBwdIdeal.Value
public import proofs.«01_k».proof.Proof.Gen.ReferenceOutNormBwdIdeal.Run
public import proofs.«01_k».proof.Proof.Rows

@[expose] public section

noncomputable section

/-! ## Forward -/

namespace Cert.OutNormIdeal

open Idealize.ShloMosaic Idealize.ShloMosaic.TcCoe Idealize.ShloMosaic.Pipeline Idealize.SL.Sem Cert.OutNormIdeal.Gen Cert.Rows

theorem block_left (x : Vec Ideal S512x512 .f32) (g : Vec Ideal S1x512 .f32) : k0_pay1 x g = normed n512 (R := 512) x g := by
  funext y
  unfold k0_pay1
  pointwise [normed, rinv, n512, row]

theorem block_right (x : Vec Ideal S512x512 .f32) (g : Vec Ideal S1x512 .f32) : k0_pay2 x g = normed n512 (R := 512) x g := by
  funext y
  unfold k0_pay2
  pointwise [normed, rinv, n512, row]

variable (m : (ℓ : Loc nD τ sig) → Buf (Elt Ideal) ℓ) (c : Dev nD)

theorem idx : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) := by decide +kernel

theorem lt (t : Fin cfg0.N) (p : Fin 512) : t.val * 512 + p.val < 8192 := by
  have : t.val < 16 := lt_of_lt_of_eq t.isLt N_0
  omega

/-- The row of the whole arrays that row `p` of a point's blocks is. -/
abbrev place (t : Fin cfg0.N) (p : Fin 512) : Fin 8192 := ⟨t.val * 512 + p.val, lt t p⟩

theorem rows (t : Fin cfg0.N) (p : Fin 512) : row (iblk m c 0 t) p = row (m ((c : Thread nD τ).loc main_arg0)) (place t p)
    ∧ row (iblk m c 1 t) p = row (m ((c : Thread nD τ).loc main_arg1)) (place t p)
    ∧ row (iblk m c 2 t) (0 : Fin 1) = row (m ((c : Thread nD τ).loc main_arg2)) (0 : Fin 1)
    ∧ row (iblk m c 3 t) (0 : Fin 1) = row (m ((c : Thread nD τ).loc main_arg3)) (0 : Fin 1) := by
  refine ⟨funext fun k => ?_, funext fun k => ?_, funext fun k => ?_, funext fun k => ?_⟩
  all_goals blk_ext [row, iblk, V, idx t]

theorem result : (dats m 0 c).arrAt 4 cfg0.N
    = sides (normed n512 (R := 8192) (m ((c : Thread nD τ).loc main_arg0)) (m ((c : Thread nD τ).loc main_arg2)))
      (normed n512 (R := 8192) (m ((c : Thread nD τ).loc main_arg1)) (m ((c : Thread nD τ).loc main_arg3))) := by
  refine (dats m 0 c).arrAt_eq_of_covers 4 _ (by decide +kernel) fun t hf y => ?_
  blk_simp
  rw [after0_4]
  have y0 : (win0_4.blk t).view.emb y 0 = place t (y 0) := by
    apply Fin.ext; blk_simp [idx t]; try rfl
  have y1 : (win0_4.blk t).view.emb y 1 = y 1 := by
    apply Fin.ext; blk_simp [idx t]; try rfl
  frame_out
  canon_tiles x h
  · obtain ⟨-, e1, -, e3⟩ := rows m c t (x 0)
    rw [block_right]
    exact (normed_at e1 e3).trans (sides_right (y0.trans (congrArg (place t) (Fin.ext h0))) ((congrArg Fin.val y1).trans h1)).symm
  · obtain ⟨e0, -, e2, -⟩ := rows m c t (x 0)
    rw [block_left]
    exact (normed_at e0 e2).trans (sides_left (y0.trans (congrArg (place t) (Fin.ext h0))) ((congrArg Fin.val y1).trans h1)).symm

theorem value : algebraic_OutNormIdeal_ReferenceOutNormIdeal (hOutNormIdeal := OutNormIdeal.Gen.facts)
    (hReferenceOutNormIdeal := ReferenceOutNormIdeal.Gen.facts) := by
  refine fun m g m' g' _ hm => ⟨_, Value.run_blocks m g,
    (θ_run _ _ _).mono (fun r h c => ?_) (ReferenceOutNormIdeal.Value.run m' g')⟩
  obtain ⟨⟨hd, hk⟩, e0, e1, e2, e3⟩ := (⟨h c, hm c⟩ : _ ∧ _)
  refine ⟨hd.trans ?_, hk⟩
  rw [result, e0, e1, e2, e3]
  funext i
  clear hd h hm
  pointwise [sides, normed, rinv, n512, row]

end Cert.OutNormIdeal

/-! ## Backward -/

namespace Cert.OutNormBwdIdeal

open Idealize.ShloMosaic Idealize.ShloMosaic.TcCoe Idealize.ShloMosaic.Pipeline Idealize.SL.Sem Cert.OutNormBwdIdeal.Gen Cert.Rows

theorem block_dleft (x h : Vec Ideal S512x512 .f32) (g : Vec Ideal S1x512 .f32) : k0_pay8 x h g = dx n512 (R := 512) h x g := by
  funext y
  unfold k0_pay8 k0_pay7 k0_pay6
  pointwise [dx, back, rinv, n512, row]

theorem block_dright (x h : Vec Ideal S512x512 .f32) (g : Vec Ideal S1x512 .f32) : k0_pay3 x h g = dx n512 (R := 512) h x g := by
  funext y
  unfold k0_pay3 k0_pay2 k0_pay1
  pointwise [dx, back, rinv, n512, row]

theorem block_gleft (x h : Vec Ideal S512x512 .f32) : k0_pay9 x h = dgain n512 (R := 512) h x := by
  funext y
  unfold k0_pay9 k0_pay7 k0_pay6
  pointwise [dgain, rinv, n512, row]

theorem block_gright (x h : Vec Ideal S512x512 .f32) : k0_pay4 x h = dgain n512 (R := 512) h x := by
  funext y
  unfold k0_pay4 k0_pay2 k0_pay1
  pointwise [dgain, rinv, n512, row]

theorem add_gleft (x h : Vec Ideal S512x512 .f32) (b : Vec Ideal S1x512 .f32) (y : S1x512.Idx) :
    k0_pay10 x h b y = b y + k0_pay9 x h y := by
  unfold k0_pay10
  pointwise

theorem add_gright (x h : Vec Ideal S512x512 .f32) (b : Vec Ideal S1x512 .f32) (y : S1x512.Idx) :
    k0_pay5 x h b y = b y + k0_pay4 x h y := by
  unfold k0_pay5
  pointwise

variable (m : (ℓ : Loc nD τ sig) → Buf (Elt Ideal) ℓ) (c : Dev nD)

theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0)
    ∧ (win0_8.index t 0 = 0 ∧ win0_8.index t 1 = 0) := by decide +kernel

theorem lt (t : Fin cfg0.N) (p : Fin 512) : t.val * 512 + p.val < 8192 := by
  have : t.val < 16 := lt_of_lt_of_eq t.isLt N_0
  omega

/-- The row of the whole arrays that row `p` of a point's blocks is. -/
abbrev place (t : Fin cfg0.N) (p : Fin 512) : Fin 8192 := ⟨t.val * 512 + p.val, lt t p⟩

theorem rows (t : Fin cfg0.N) (p : Fin 512) : row (iblk m c 0 t) p = row (m ((c : Thread nD τ).loc main_arg0)) (place t p)
    ∧ row (iblk m c 1 t) p = row (m ((c : Thread nD τ).loc main_arg1)) (place t p)
    ∧ row (iblk m c 2 t) p = row (m ((c : Thread nD τ).loc main_arg2)) (place t p)
    ∧ row (iblk m c 3 t) (0 : Fin 1) = row (m ((c : Thread nD τ).loc main_arg3)) (0 : Fin 1)
    ∧ row (iblk m c 4 t) (0 : Fin 1) = row (m ((c : Thread nD τ).loc main_arg4)) (0 : Fin 1) := by
  refine ⟨funext fun k => ?_, funext fun k => ?_, funext fun k => ?_, funext fun k => ?_, funext fun k => ?_⟩
  all_goals blk_ext [row, iblk, V, idx t]

theorem halves (t : Fin cfg0.N) (p : Fin 512) :
    row (left (R := 512) (iblk m c 0 t)) p = row (left (R := 8192) (m ((c : Thread nD τ).loc main_arg0))) (place t p)
    ∧ row (right (R := 512) (iblk m c 0 t)) p = row (right (R := 8192) (m ((c : Thread nD τ).loc main_arg0))) (place t p) :=
  have e := (rows m c t p).1
  ⟨funext fun _ => congrFun e _, funext fun _ => congrFun e _⟩

theorem ld_left (v : Vec Ideal S512x1024 .f32) :
    View.ld v (Rect.unit ![0, 0] ![512, 512] inb_S512x1024_S512x512_0_0) = left (R := 512) v := by
  funext y
  rw [View.ld_apply]
  refine congrArg v (funext fun a => Fin.ext ((Rect.idx_unit_val ..).trans ?_))
  fin_cases a <;> exact Nat.zero_add _

theorem ld_right (v : Vec Ideal S512x1024 .f32) :
    View.ld v (Rect.unit ![0, 512] ![512, 512] inb_S512x1024_S512x512_0_512) = right (R := 512) v := by
  funext y
  rw [View.ld_apply]
  refine congrArg v (funext fun a => Fin.ext ((Rect.idx_unit_val ..).trans ?_))
  fin_cases a
  · exact Nat.zero_add _
  · rfl

/-- What a point leaves for the rows, the first point and the later ones. -/
theorem left_dx (t : Fin cfg0.N) :
    (outsAt0 m c t.val t.isLt).1 = dx n512 (R := 512) (left (R := 512) (iblk m c 0 t)) (iblk m c 1 t) (iblk m c 3 t)
    ∧ (outsAt0 m c t.val t.isLt).2.1 = dx n512 (R := 512) (right (R := 512) (iblk m c 0 t)) (iblk m c 2 t) (iblk m c 4 t) := by
  have hN : t.val < 16 := lt_of_lt_of_eq t.isLt N_0
  by_cases h : 1 ≤ t.val
  · rw [outsAt0_B m c t (by omega) h (by omega) h]
    constructor
    · frame_out
      rw [block_dleft, ld_left]
    · frame_out
      rw [block_dright, ld_right]
  · rw [outsAt0_A m c t (by omega) h (by omega) h]
    constructor
    · frame_out
      rw [block_dleft, ld_left]
    · frame_out
      rw [block_dright, ld_right]

theorem result_dleft : (dats m 0 c).arrAt 5 cfg0.N
    = dx n512 (R := 8192) (left (R := 8192) (m ((c : Thread nD τ).loc main_arg0))) (m ((c : Thread nD τ).loc main_arg1))
      (m ((c : Thread nD τ).loc main_arg3)) := by
  refine (dats m 0 c).arrAt_eq_of_covers 5 _ (by decide +kernel) fun t hf y => ?_
  blk_simp
  rw [after0_5, (left_dx m c t).1]
  obtain ⟨-, e1, -, e3, -⟩ := rows m c t (y 0)
  have y0 : (win0_5.blk t).view.emb y 0 = place t (y 0) := by
    apply Fin.ext; blk_simp [idx t]; try rfl
  have y1 : (win0_5.blk t).view.emb y 1 = y 1 := by
    apply Fin.ext; blk_simp [idx t]; try rfl
  show back _ (row _ (y 0)) (row _ (y 0)) (row _ 0) (y 1) = back _ (row _ _) (row _ _) (row _ 0) _
  rw [y0, y1]
  exact back_congr (halves m c t (y 0)).1 e1 e3 rfl

theorem result_dright : (dats m 0 c).arrAt 6 cfg0.N
    = dx n512 (R := 8192) (right (R := 8192) (m ((c : Thread nD τ).loc main_arg0))) (m ((c : Thread nD τ).loc main_arg2))
      (m ((c : Thread nD τ).loc main_arg4)) := by
  refine (dats m 0 c).arrAt_eq_of_covers 6 _ (by decide +kernel) fun t hf y => ?_
  blk_simp
  rw [after0_6, (left_dx m c t).2]
  obtain ⟨-, -, e2, -, e4⟩ := rows m c t (y 0)
  have y0 : (win0_6.blk t).view.emb y 0 = place t (y 0) := by
    apply Fin.ext; blk_simp [idx t]; try rfl
  have y1 : (win0_6.blk t).view.emb y 1 = y 1 := by
    apply Fin.ext; blk_simp [idx t]; try rfl
  show back _ (row _ (y 0)) (row _ (y 0)) (row _ 0) (y 1) = back _ (row _ _) (row _ _) (row _ 0) _
  rw [y0, y1]
  exact back_congr (halves m c t (y 0)).2 e2 e4 rfl

theorem last (t : Fin cfg0.N) (h : t.val = 15) : t.val + 1 = cfg0.N := by rw [h]; exact N_0.symm

theorem result_gleft : (dats m 0 c).arrAt 7 cfg0.N
    = dgain n512 (R := 8192) (left (R := 8192) (m ((c : Thread nD τ).loc main_arg0))) (m ((c : Thread nD τ).loc main_arg1)) := by
  refine (dats m 0 c).arrAt_eq_of_covers 7 _ (by decide +kernel) fun t hf y => ?_
  blk_simp
  have ht : t.val = 15 := by revert t; decide +kernel
  have y1 : (win0_7.blk t).view.emb y 1 = y 1 := by
    apply Fin.ext; blk_simp [idx t]; try rfl
  rw [after0_7, Pipeline.eq_sum_fin_of_reset_step_apply_last (fun n h => (outsAt0 m c n h).2.2.1) 16 (fun _ => 0)
    (fun t => dgain n512 (R := 512) (left (R := 512) (iblk m c 0 t)) (iblk m c 1 t))
    (fun t h j => by
      have hN : t.val < 16 := lt_of_lt_of_eq t.isLt N_0
      rw [outsAt0_A m c t h (by omega) h (by omega)]; frame_out; rw [block_gleft, ld_left, zero_add])
    (fun t h j => by
      have hN : t.val < 16 := lt_of_lt_of_eq t.isLt N_0
      rw [outsAt0_B m c t h (by omega) h (by omega)]; frame_out; rw [add_gleft, block_gleft, ld_left])
    (le_of_eq N_0) t (last t ht) y, zero_add]
  show ∑ p : Fin cfg0.N, ∑ k : Fin 512, row (left (R := 512) _) k (y 1) * (row (iblk m c 1 p) k (y 1) * rinv _ (row (iblk m c 1 p) k))
    = ∑ r : Fin 8192, row (left (R := 8192) _) r _
      * (row (m ((c : Thread nD τ).loc main_arg1)) r _ * rinv _ (row (m ((c : Thread nD τ).loc main_arg1)) r))
  rw [y1]
  refine Fin.sum_mul_add_congr (S := 16) fun p k hl => ?_
  have e := (halves m c p k).1
  obtain ⟨-, e1, -⟩ := rows m c p k
  rw [e, e1]

theorem result_gright : (dats m 0 c).arrAt 8 cfg0.N
    = dgain n512 (R := 8192) (right (R := 8192) (m ((c : Thread nD τ).loc main_arg0))) (m ((c : Thread nD τ).loc main_arg2)) := by
  refine (dats m 0 c).arrAt_eq_of_covers 8 _ (by decide +kernel) fun t hf y => ?_
  blk_simp
  have ht : t.val = 15 := by revert t; decide +kernel
  have y1 : (win0_8.blk t).view.emb y 1 = y 1 := by
    apply Fin.ext; blk_simp [idx t]; try rfl
  rw [after0_8, Pipeline.eq_sum_fin_of_reset_step_apply_last (fun n h => (outsAt0 m c n h).2.2.2) 16 (fun _ => 0)
    (fun t => dgain n512 (R := 512) (right (R := 512) (iblk m c 0 t)) (iblk m c 2 t))
    (fun t h j => by
      have hN : t.val < 16 := lt_of_lt_of_eq t.isLt N_0
      rw [outsAt0_A m c t h (by omega) h (by omega)]; frame_out; rw [block_gright, ld_right, zero_add])
    (fun t h j => by
      have hN : t.val < 16 := lt_of_lt_of_eq t.isLt N_0
      rw [outsAt0_B m c t h (by omega) h (by omega)]; frame_out; rw [add_gright, block_gright, ld_right])
    (le_of_eq N_0) t (last t ht) y, zero_add]
  show ∑ p : Fin cfg0.N, ∑ k : Fin 512, row (right (R := 512) _) k (y 1) * (row (iblk m c 2 p) k (y 1) * rinv _ (row (iblk m c 2 p) k))
    = ∑ r : Fin 8192, row (right (R := 8192) _) r _
      * (row (m ((c : Thread nD τ).loc main_arg2)) r _ * rinv _ (row (m ((c : Thread nD τ).loc main_arg2)) r))
  rw [y1]
  refine Fin.sum_mul_add_congr (S := 16) fun p k hl => ?_
  have e := (halves m c p k).2
  obtain ⟨-, -, e2, -⟩ := rows m c p k
  rw [e, e2]

theorem value : algebraic_OutNormBwdIdeal_ReferenceOutNormBwdIdeal (hOutNormBwdIdeal := OutNormBwdIdeal.Gen.facts)
    (hReferenceOutNormBwdIdeal := ReferenceOutNormBwdIdeal.Gen.facts) := by
  refine fun m g m' g' _ hm => ⟨_, _, _, _, Value.run_blocks m g,
    (θ_run _ _ _).mono (fun r h c => ?_) (ReferenceOutNormBwdIdeal.Value.run m' g')⟩
  obtain ⟨⟨hl, hr, hgl, hgr, hk⟩, e0, e1, e2, e3, e4⟩ := (⟨h c, hm c⟩ : _ ∧ _)
  refine ⟨hl.trans ?_, hr.trans ?_, hgl.trans ?_, hgr.trans ?_, hk⟩
  · rw [result_dleft, e0, e1, e3]
    funext i
    clear hl hr hgl hgr h hm
    pointwise [dx, back, left, rinv, n512, row]
  · rw [result_dright, e0, e2, e4]
    funext i
    clear hl hr hgl hgr h hm
    pointwise [dx, back, right, rinv, n512, row]
  · rw [result_gleft, e0, e1]
    funext i
    clear hl hr hgl hgr h hm
    pointwise [dgain, left, rinv, n512, row]
  · rw [result_gright, e0, e2]
    funext i
    clear hl hr hgl hgr h hm
    pointwise [dgain, right, rinv, n512, row]

end Cert.OutNormBwdIdeal
-- ==== Proof.Stick.lean ====
/-
Stick-breaking attention, the run: a point of the grid takes 256 queries of a pair of heads through the diagonal tile of keys, then
the tiles before it two by two and the last one alone if one is left. What it leaves is a function of the blocks it reads, stated
here tile by tile; the queries, the keys and the values are windows on one array.
-/
module

public import proofs.«01_k».proof.Proof.Gen.SbFwdIdeal.Frame
public import proofs.«01_k».proof.Proof.Gen.SbFwdIdeal.Loops
public import Idealize.ShloMosaic.Lib.Claim

@[expose] public section

set_option maxRecDepth 16384

noncomputable section

namespace Cert.SbFwdIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbFwdIdeal.Gen

variable {F : FTy → Type} [FloatOps F]

local notation "𝕄" => MT nD τ sig Unit (Elt F) ℕ (UR sig nD τ) ℕ

/-! ## What a point leaves -/

/-- The whole of a 256 by 128 buffer. -/
abbrev rAll : Rect S256x128 := Rect.unit (s := S256x128) ![0, 0] S256x128.size inb_S256x128_S256x128_0_0

/-- The diagonal tile of the keys or the values. -/
abbrev rDiag (i : grid0.Coords) : Rect S8192x128 := Rect.unit (s := S8192x128) (k0_off1 i) S256x128.size (k0_off1_inb i)

/-- The nearer and the farther tile of a trip, and the first tile of all. -/
abbrev rNear (i : grid0.Coords) (k : Fin (k0_t1_loop i).trips) : Rect S8192x128 :=
  Rect.unit (s := S8192x128) (k0_off2 i k) S256x128.size (k0_off2_inb i k)
abbrev rFar (i : grid0.Coords) (k : Fin (k0_t1_loop i).trips) : Rect S8192x128 :=
  Rect.unit (s := S8192x128) (k0_off3 i k) S256x128.size (k0_off3_inb i k)
abbrev rZero : Rect S8192x128 := Rect.unit (s := S8192x128) ![0, 0] S256x128.size inb_S8192x128_S256x128_0_0

/-- The carried sums of logarithms, the weighted values so far, the table of carried sums. -/
abbrev St (F : FTy → Type) : Type := FVec F S512x1 .f32 × FVec F S512x128 .f32 × FVec F S256x128 .f32

abbrev lanes : IVec S256x128 32 := iota .tc S256x128 32 [1] iota_S256x128_d1_w32

/-- The number of a trip's nearer tile. -/
abbrev near (i : grid0.Coords) (k : Fin (k0_t1_loop i).trips) : BitVec 32 :=
  Scalar.subi (Scalar.subi (BitVec.ofNat 32 (i 1).val) 1#32) (Scalar.muli 2#32 (Scf.iv 0#32 1#32 k))

variable (i : grid0.Coords) (q : Vec F S512x128 .bf16) (x1 x2 : Vec F S8192x128 .bf16)

/-- After the diagonal tile. -/
def first : St F :=
  (k0_pay27 k0_pay16 q k0_pay19 (View.ld x1 (rDiag i)),
    k0_pay25 k0_pay16 k0_pay17 q k0_pay19 k0_pay20 (View.ld x1 (rDiag i)) (View.ld x2 (rDiag i)),
    k0_pay26 (BitVec.ofNat 32 (i 1).val) lanes k0_pay19 k0_pay21)

/-- One trip: two tiles. -/
def trip (k : Fin (k0_t1_loop i).trips) (s : St F) : St F :=
  (k0_pay32 s.1 (k0_pay6 q (View.ld x1 (rNear i k))) (k0_pay7 q (View.ld x1 (rFar i k))) (k0_pay8 q (View.ld x1 (rFar i k))),
    k0_pay30 k0_pay17 s.1 s.2.1 (k0_pay3 q (View.ld x1 (rNear i k))) (k0_pay5 k0_pay17 q (View.ld x1 (rNear i k)))
      (k0_pay6 q (View.ld x1 (rNear i k))) (View.ld x2 (rNear i k)) (k0_pay7 q (View.ld x1 (rFar i k)))
      (k0_pay8 q (View.ld x1 (rFar i k))) (View.ld x2 (rFar i k)),
    k0_pay31 lanes s.1 s.2.2 (near i k) (k0_pay6 q (View.ld x1 (rNear i k))))

/-- Before trip `n`. -/
def upto : ℕ → St F
  | 0 => first i q x1 x2
  | n + 1 => if h : n < (k0_t1_loop i).trips then trip i q x1 x2 ⟨n, h⟩ (upto n) else upto n

/-- After all the trips, -/
abbrev paired : St F := upto i q x1 x2 (k0_t1_loop i).trips

/-- and after the last tile, should it be left over. -/
def total : FVec F S512x128 .f32 × FVec F S256x128 .f32 :=
  if k0_cond1 i = 1#1 then
    (k0_pay38 k0_pay17 q (paired i q x1 x2).1 (paired i q x1 x2).2.1 (View.ld x1 rZero) (View.ld x2 rZero),
      k0_pay39 lanes (paired i q x1 x2).1 (paired i q x1 x2).2.2)
  else (paired i q x1 x2).2

/-- The two output blocks from the three input blocks. -/
def outO (x0 : Vec F S256x128 .bf16) : Vec F S256x128 .f32 :=
  View.canon [⟨rAll, k0_pay1 (total i (k0_pay18 (View.ld x0 rAll)) x1 x2).1 k0_pay40⟩]
def outC (x0 : Vec F S256x128 .bf16) : Vec F S256x128 .f32 :=
  View.canon [⟨rAll, (total i (k0_pay18 (View.ld x0 rAll)) x1 x2).2⟩]

/-! ## The loops -/

theorem no_rest : ∀ i : grid0.Coords, (k0_t2_loop i).trips = 0 := by decide +kernel

section
variable (c : Dev nD) (arg2 : Memref sig .tc .vmem S256x128 .bf16) (harg2 : arg2.IsWhole) (arg3 : Memref sig .tc .vmem S8192x128 .bf16)
    (harg3 : arg3.IsWhole) (arg4 : Memref sig .tc .vmem S8192x128 .bf16) (harg4 : arg4.IsWhole) (arg5 : Memref sig .tc .vmem S256x128 .f32)
    (harg5 : arg5.IsWhole) (arg6 : Memref sig .tc .vmem S256x128 .f32) (harg6 : arg6.IsWhole)
    (f1 : BufTy.Contents (Elt F) arg3.view.ty) (f2 : BufTy.Contents (Elt F) arg4.view.ty)
    (v71 : FVec F S512x128 .f32) (v84 : FVec F S256x128 .f32) (v85 : FVec F S512x1 .f32) (c2 v86 v88 : BitVec 32)

theorem trip_eq (k : Fin (k0_t1_loop i).trips) (s : St F) :
    tripR_k0_t1 Variants.none c none i arg2 harg2 arg3 harg3 arg4 harg4 arg5 harg5 arg6 harg6 (BitVec.ofNat 32 (i 1).val) lanes
      k0_pay17 q v71 v84 v85 c2 v86 v88 f1 f2 k s = trip i q (arg3.view.read (Elt F) f1) (arg4.view.read (Elt F) f2) k s := by
  unfold tripR_k0_t1 trip_k0_t1; rfl

theorem loop_eq (n : ℕ) :
    st_k0_t1 Variants.none c none i arg2 harg2 arg3 harg3 arg4 harg4 arg5 harg5 arg6 harg6 (BitVec.ofNat 32 (i 1).val) lanes
      k0_pay17 q v71 v84 v85 c2 v86 v88 f1 f2 (first i q (arg3.view.read (Elt F) f1) (arg4.view.read (Elt F) f2)) n
      = upto i q (arg3.view.read (Elt F) f1) (arg4.view.read (Elt F) f2) n := by
  induction n with
  | zero => rfl
  | succ n ih =>
    rw [upto, st_k0_t1.eq_2, ih]
    unfold st_k0_t1Step
    split
    · exact trip_eq ..
    · rfl

theorem rest_eq (v107 : BitVec 32) (s : St F) :
    st_k0_t2 Variants.none c none i arg2 harg2 arg3 harg3 arg4 harg4 arg5 harg5 arg6 harg6 (BitVec.ofNat 32 (i 1).val) lanes
      k0_pay17 q v71 v84 v85 c2 v86 v88 v107 f1 f2 s (k0_t2_loop i).trips = s := by
  rw [no_rest]; rfl

theorem loops_eq (v107 : BitVec 32) :
    st_k0_t2 Variants.none c none i arg2 harg2 arg3 harg3 arg4 harg4 arg5 harg5 arg6 harg6 (BitVec.ofNat 32 (i 1).val) lanes
      k0_pay17 q v71 v84 v85 c2 v86 v88 v107 f1 f2
      (st_k0_t1 Variants.none c none i arg2 harg2 arg3 harg3 arg4 harg4 arg5 harg5 arg6 harg6 (BitVec.ofNat 32 (i 1).val) lanes
        k0_pay17 q v71 v84 v85 c2 v86 v88 f1 f2 (first i q (arg3.view.read (Elt F) f1) (arg4.view.read (Elt F) f2))
        (k0_t1_loop i).trips) (k0_t2_loop i).trips
      = paired i q (arg3.view.read (Elt F) f1) (arg4.view.read (Elt F) f2) :=
  (rest_eq ..).trans (loop_eq ..)
end

/-! ## The triple -/

/-- The inputs' memrefs at their blocks, and the outputs' at anything, or at what the point leaves. -/
abbrev Inputs (c : Dev nD) (arg2 : Memref sig .tc .vmem S256x128 .bf16) (arg3 arg4 : Memref sig .tc .vmem S8192x128 .bf16)
    (x0 : Vec F S256x128 .bf16) (x1 x2 : Vec F S8192x128 .bf16) : sProp 𝕄 :=
  iprop(owns (c : Thread nD τ) arg2 fullShare x0 ∗ owns (c : Thread nD τ) arg3 fullShare x1 ∗ owns (c : Thread nD τ) arg4 fullShare x2)
abbrev Outputs (c : Dev nD) (arg5 arg6 : Memref sig .tc .vmem S256x128 .f32) (d e : Vec F S256x128 .f32) : sProp 𝕄 :=
  iprop(owns (c : Thread nD τ) arg5 fullShare d ∗ owns (c : Thread nD τ) arg6 fullShare e)

theorem covers (p : Vec F S256x128 .f32) (y : S256x128.Idx) :
    ∃ pc ∈ ([⟨rAll, p⟩] : List (View.Piece (Elt F) S256x128 .f32)), y ∈ pc.1.set :=
  View.cover_of_tiled [⟨rAll, p⟩] S256x128.size (by rfl) y

set_option maxHeartbeats 4000000 in
theorem sound_odd (c : Dev nD) (E : Set ℕ) (i : grid0.Coords) (arg2 : Memref sig .tc .vmem S256x128 .bf16) (harg2 : arg2.IsWhole) (arg3 : Memref sig .tc .vmem S8192x128 .bf16)
    (harg3 : arg3.IsWhole) (arg4 : Memref sig .tc .vmem S8192x128 .bf16) (harg4 : arg4.IsWhole) (arg5 : Memref sig .tc .vmem S256x128 .f32)
    (harg5 : arg5.IsWhole) (arg6 : Memref sig .tc .vmem S256x128 .f32) (harg6 : arg6.IsWhole)
    (hc : k0_cond1 i = 1#1) (x0 : Vec F S256x128 .bf16) (x1 x2 : Vec F S8192x128 .bf16) (d e : Vec F S256x128 .f32) :
    iprop(Inputs c arg2 arg3 arg4 x0 x1 x2 ∗ Outputs c arg5 arg6 d e)
      ⊢ wp frame (wpE (defs₀ (F := F)) Variants.none (c : Thread nD τ) none) E (cc0_sb_fwd i arg2 harg2 arg3 harg3 arg4 harg4 arg5 harg5 arg6 harg6)
          (fun _ => iprop(Inputs c arg2 arg3 arg4 x0 x1 x2 ∗ Outputs c arg5 arg6 (outO i x1 x2 x0) (outC i x1 x2 x0))) := by
  simp only [cc0_sb_fwd_eq_skeleton]; unfold cc0_sb_fwd_skel Inputs Outputs owns
  iintro ⟨⟨⟨%f0, %hf0, H0⟩, ⟨%f1, %hf1, H1⟩, ⟨%f2, %hf2, H2⟩⟩, ⟨%f3, -, H3⟩, ⟨%f4, -, H4⟩⟩
  subst hf0 hf1 hf2
  sl_exec (disch := sl_exact hc)
  sl_step
  isplitl [H0 H1 H2]
  · isplitl [H0]
    · iexists f0; isplitr; · ipureintro; rfl
      iexact H0
    isplitl [H1]
    · iexists f1; isplitr; · ipureintro; rfl
      iexact H1
    iexists f2; isplitr; · ipureintro; rfl
    iexact H2
  isplitl [H3]
  · iexists _; isplitr
    swap; · iexact H3
    ipureintro
    refine (View.read_writes_eq_canon _ _ _ (covers _)).trans ?_
    unfold outO total
    rw [if_pos hc]
    refine congrArg (fun p : Vec F S256x128 .f32 => View.canon [⟨rAll, p⟩]) ?_
    exact congrArg (fun s : St F => k0_pay1 (k0_pay38 k0_pay17 (k0_pay18 (View.ld (arg2.view.read (Elt F) f0) rAll)) s.1 s.2.1 (View.ld (arg3.view.read (Elt F) f1) rZero) (View.ld (arg4.view.read (Elt F) f2) rZero)) k0_pay40) (loops_eq ..)
  · iexists _; isplitr
    swap; · iexact H4
    ipureintro
    refine (View.read_writes_eq_canon _ _ _ (covers _)).trans ?_
    unfold outC total
    rw [if_pos hc]
    refine congrArg (fun p : Vec F S256x128 .f32 => View.canon [⟨rAll, p⟩]) ?_
    exact congrArg (fun s : St F => k0_pay39 lanes s.1 s.2.2) (loops_eq ..)

set_option maxHeartbeats 4000000 in
theorem sound_even (c : Dev nD) (E : Set ℕ) (i : grid0.Coords) (arg2 : Memref sig .tc .vmem S256x128 .bf16) (harg2 : arg2.IsWhole) (arg3 : Memref sig .tc .vmem S8192x128 .bf16)
    (harg3 : arg3.IsWhole) (arg4 : Memref sig .tc .vmem S8192x128 .bf16) (harg4 : arg4.IsWhole) (arg5 : Memref sig .tc .vmem S256x128 .f32)
    (harg5 : arg5.IsWhole) (arg6 : Memref sig .tc .vmem S256x128 .f32) (harg6 : arg6.IsWhole)
    (hc : ¬ k0_cond1 i = 1#1) (x0 : Vec F S256x128 .bf16) (x1 x2 : Vec F S8192x128 .bf16) (d e : Vec F S256x128 .f32) :
    iprop(Inputs c arg2 arg3 arg4 x0 x1 x2 ∗ Outputs c arg5 arg6 d e)
      ⊢ wp frame (wpE (defs₀ (F := F)) Variants.none (c : Thread nD τ) none) E (cc0_sb_fwd i arg2 harg2 arg3 harg3 arg4 harg4 arg5 harg5 arg6 harg6)
          (fun _ => iprop(Inputs c arg2 arg3 arg4 x0 x1 x2 ∗ Outputs c arg5 arg6 (outO i x1 x2 x0) (outC i x1 x2 x0))) := by
  simp only [cc0_sb_fwd_eq_skeleton]; unfold cc0_sb_fwd_skel Inputs Outputs owns
  iintro ⟨⟨⟨%f0, %hf0, H0⟩, ⟨%f1, %hf1, H1⟩, ⟨%f2, %hf2, H2⟩⟩, ⟨%f3, -, H3⟩, ⟨%f4, -, H4⟩⟩
  subst hf0 hf1 hf2
  sl_exec (disch := sl_exact hc)
  sl_step
  isplitl [H0 H1 H2]
  · isplitl [H0]
    · iexists f0; isplitr; · ipureintro; rfl
      iexact H0
    isplitl [H1]
    · iexists f1; isplitr; · ipureintro; rfl
      iexact H1
    iexists f2; isplitr; · ipureintro; rfl
    iexact H2
  isplitl [H3]
  · iexists _; isplitr
    swap; · iexact H3
    ipureintro
    refine (View.read_writes_eq_canon _ _ _ (covers _)).trans ?_
    unfold outO total
    rw [if_neg hc]
    refine congrArg (fun p : Vec F S256x128 .f32 => View.canon [⟨rAll, p⟩]) ?_
    exact congrArg (fun s : St F => k0_pay1 s.2.1 k0_pay40) (loops_eq ..)
  · iexists _; isplitr
    swap; · iexact H4
    ipureintro
    refine (View.read_writes_eq_canon _ _ _ (covers _)).trans ?_
    unfold outC total
    rw [if_neg hc]
    refine congrArg (fun p : Vec F S256x128 .f32 => View.canon [⟨rAll, p⟩]) ?_
    exact congrArg (fun s : St F => s.2.2) (loops_eq ..)

theorem sound (c : Dev nD) (E : Set ℕ) (i : grid0.Coords) (arg2 : Memref sig .tc .vmem S256x128 .bf16) (harg2 : arg2.IsWhole) (arg3 : Memref sig .tc .vmem S8192x128 .bf16)
    (harg3 : arg3.IsWhole) (arg4 : Memref sig .tc .vmem S8192x128 .bf16) (harg4 : arg4.IsWhole) (arg5 : Memref sig .tc .vmem S256x128 .f32)
    (harg5 : arg5.IsWhole) (arg6 : Memref sig .tc .vmem S256x128 .f32) (harg6 : arg6.IsWhole)
    (x0 : Vec F S256x128 .bf16) (x1 x2 : Vec F S8192x128 .bf16) (d e : Vec F S256x128 .f32) :
    iprop(Inputs c arg2 arg3 arg4 x0 x1 x2 ∗ Outputs c arg5 arg6 d e)
      ⊢ wp frame (wpE (defs₀ (F := F)) Variants.none (c : Thread nD τ) none) E (cc0_sb_fwd i arg2 harg2 arg3 harg3 arg4 harg4 arg5 harg5 arg6 harg6)
          (fun _ => iprop(Inputs c arg2 arg3 arg4 x0 x1 x2 ∗ Outputs c arg5 arg6 (outO i x1 x2 x0) (outC i x1 x2 x0))) := by
  by_cases hc : k0_cond1 i = 1#1
  · exact sound_odd c E i _ harg2 _ harg3 _ harg4 _ harg5 _ harg6 hc x0 x1 x2 d e
  · exact sound_even c E i _ harg2 _ harg3 _ harg4 _ harg5 _ harg6 hc x0 x1 x2 d e

/-! ## The launch -/

section
variable (m : (ℓ : Loc nD τ sig) → Buf (Elt F) ℓ) (ρ : Dev nD → PrngReg)

/-- Each input stays at its block, each output gets what the point leaves; the inputs share their array. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (grid0.coords t) (iblk m c 1 t) (iblk m c 2 t) (iblk m c 0 t)
    | ⟨4, _⟩ => outC (grid0.coords t) (iblk m c 1 t) (iblk m c 2 t) (iblk m c 0 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = outO (grid0.coords t) (iblk m c 1 t) (iblk m c 2 t) (iblk m c 0 t) := by
  dsimp only [dats]
theorem after4 : (dats m 0 c).after 4 t = outC (grid0.coords t) (iblk m c 1 t) (iblk m c 2 t) (iblk m c 0 t) := by
  dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d

/-- A point's body, from the staging memrefs before it to those after it. -/
theorem sound_at :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ owns (c : Thread nD τ) (st0_3 t) fullShare ((dats m 0 c).after 3 t)
          ∗ owns (c : Thread nD τ) (st0_4 t) fullShare ((dats m 0 c).after 4 t))) := by
  unfold bodyAt0
  simp only [before0, before1, before2]
  rw [show (dats m 0 c).Φ t.succ = (dats m 0 c).Φ t.castSucc from rfl,
    show (dats m 0 c).owesAt () t.succ = (dats m 0 c).owesAt () t.castSucc from rfl, after0, after1, after2, after3, after4]
  iintro ⟨HΦ, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4]
  · iapply (sound c Set.univ (grid0.coords t) _ _ _ _ _ _ _ _ _ _ (iblk m c 0 t) (iblk m c 1 t) (iblk m c 2 t) _ _)
    isplitl [H0 H1 H2]
    · isplitl [H0]; · iexact H0
      isplitl [H1]; · iexact H1
      iexact H2
    · isplitl [H3]; · iexact H3
      iexact H4
  · iintro %u ⟨⟨H0, H1, H2⟩, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem row_eq : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row_eq]
  exact triple_restated (sound_at m c t) rfl .rfl fun _ => .rfl

set_option backward.isDefEq.respectTransparency.types false in
set_option maxHeartbeats 800000 in
/-- Every execution ends, with each array at what the points leave in it and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  frame_of m ρ (dats m) (A_eq m) ((θ_run defs _ _).mono (fun _ h => h.1) (run_main m ρ))

/-- The argument ends unchanged, and every semaphore at zero. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)) ∧ r.2.sem = fun _ => 0) :=
  θ_run_and (unchanged m ρ) ((θ_run defs _ _).mono (fun _ h => h.2) (run_main m ρ))
end

end Cert.SbFwdIdeal.Stick

end
-- ==== Proof.StickSums.lean ====
/-
Stick-breaking attention of one query over the extended reals: the logarithms of what each key leaves, summed from the last key
down, the weights these sums give, and both sums taken 256 keys at a time, the last keys first.
-/
module

public import Idealize.ShloMosaic.Lib.Pointwise

@[expose] public section

noncomputable section

namespace Cert.StickSums

open Idealize.ShloMosaic

/-- The logarithm of what a key of score `z` takes. -/
def beta (z : EReal) : EReal := min z 0 - Ideal.log (1 + Ideal.exp (-max z (-z)))

variable (z v : ℕ → EReal) (g : ℕ)

/-- The logarithm of what key `c` leaves to the keys before it: only the keys before the query `g` take anything. -/
def stay (c : ℕ) : EReal := if c < g then beta (z c) - z c else 0

/-- The sum over the keys after `c`. -/
def later (c : ℕ) : EReal := ∑ k ∈ Finset.Ico (c + 1) 8192, stay z g k

/-- The weight of key `c`. -/
def weight (c : ℕ) : EReal := if c < g then Ideal.exp (beta (z c) + later z g c) else 0

/-- The two sums from tile `J` of the keys on. -/
def carry (J : ℕ) : EReal := ∑ k ∈ Finset.Ico (J * 256) 8192, stay z g k
def acc (J : ℕ) : EReal := ∑ k ∈ Finset.Ico (J * 256) 8192, weight z g k * v k

theorem tile (f : ℕ → EReal) {J : ℕ} (hJ : J < 32) :
    ∑ k ∈ Finset.Ico (J * 256) 8192, f k = ∑ j : Fin 256, f (J * 256 + j.val) + ∑ k ∈ Finset.Ico ((J + 1) * 256) 8192, f k := by
  rw [← Finset.sum_Ico_consecutive f (show J * 256 ≤ (J + 1) * 256 by omega) (show (J + 1) * 256 ≤ 8192 by omega),
    Finset.sum_Ico_eq_sum_range, show (J + 1) * 256 - J * 256 = 256 by omega, Finset.sum_range]

variable {z v g}

theorem carry_step {J : ℕ} (hJ : J < 32) : carry z g (J + 1) + ∑ j : Fin 256, stay z g (J * 256 + j.val) = carry z g J := by
  rw [add_comm]; exact (tile _ hJ).symm

theorem acc_step {J : ℕ} (hJ : J < 32) :
    acc z v g (J + 1) + ∑ j : Fin 256, weight z g (J * 256 + j.val) * v (J * 256 + j.val) = acc z v g J := by
  rw [add_comm]; exact (tile (fun k => weight z g k * v k) hJ).symm

theorem carry_none {J : ℕ} (h : g ≤ J * 256) : carry z g J = 0 :=
  Finset.sum_eq_zero fun k hk => if_neg (by have := (Finset.mem_Ico.mp hk).1; omega)

theorem acc_none {J : ℕ} (h : g ≤ J * 256) : acc z v g J = 0 :=
  Finset.sum_eq_zero fun k hk => by
    unfold weight
    rw [if_neg (by have := (Finset.mem_Ico.mp hk).1; omega), zero_mul]

/-- What comes after a key of a tile: the tile's later keys, by the triangle of ones, and the tiles after it. -/
theorem later_tile {J : ℕ} (hJ : J < 32) (j : Fin 256) :
    ∑ k : Fin 256, stay z g (J * 256 + k.val) * (if j < k then 1 else 0) + carry z g (J + 1) = later z g (J * 256 + j.val) := by
  unfold later carry
  rw [← Finset.sum_Ico_consecutive _ (show J * 256 + j.val + 1 ≤ (J + 1) * 256 by omega) (show (J + 1) * 256 ≤ 8192 by omega)]
  refine congrArg (· + _) ?_
  have e : ∀ k : Fin 256, stay z g (J * 256 + k.val) * (if j < k then (1 : EReal) else 0)
      = (fun k : ℕ => if j.val < k then stay z g (J * 256 + k) else 0) k.val := fun k => by
    by_cases h : j < k
    · rw [if_pos h, mul_one]; exact (if_pos h).symm
    · rw [if_neg h, mul_zero]; exact (if_neg h).symm
  rw [Finset.sum_congr rfl fun k _ => e k, ← Finset.sum_range (fun k : ℕ => if j.val < k then stay z g (J * 256 + k) else 0),
    ← Finset.sum_filter, show (Finset.range 256).filter (fun k => j.val < k) = Finset.Ico (j.val + 1) 256 from by
      ext k; simp only [Finset.mem_filter, Finset.mem_range, Finset.mem_Ico]; omega]
  rw [show J * 256 + j.val + 1 = j.val + 1 + J * 256 by omega, show (J + 1) * 256 = 256 + J * 256 by omega,
    ← Finset.sum_Ico_add' (stay z g)]
  exact Finset.sum_congr rfl fun k _ => congrArg (stay z g) (Nat.add_comm _ _)

/-! ## A tile's scores -/

/-- The logarithm of what a key of score `z` leaves. -/
def left (z : EReal) : EReal := beta z - z

/-- The weight of a tile's key `j`, from the tile's scores and the sum `b` over the tiles after it. -/
def took (s : Fin 256 → EReal) (b : EReal) (j : Fin 256) : EReal :=
  Ideal.exp (beta (s j) + (∑ k, left (s k) * (if j < k then 1 else 0) + b))

variable {J : ℕ} {s : Fin 256 → EReal}

theorem carry_whole (hJ : J < 32) (hs : ∀ j, s j = z (J * 256 + j.val)) (hg : (J + 1) * 256 ≤ g) :
    carry z g (J + 1) + ∑ j, left (s j) = carry z g J := by
  refine Eq.trans (congrArg (_ + ·) (Finset.sum_congr rfl fun j _ => ?_)) (carry_step hJ)
  rw [stay, if_pos (by omega), hs, left]

theorem acc_whole (hJ : J < 32) (hs : ∀ j, s j = z (J * 256 + j.val)) (hg : (J + 1) * 256 ≤ g) :
    acc z v g (J + 1) + ∑ j, took s (carry z g (J + 1)) j * v (J * 256 + j.val) = acc z v g J := by
  refine Eq.trans (congrArg (_ + ·) (Finset.sum_congr rfl fun j _ => congrArg (· * _) ?_)) (acc_step hJ)
  rw [weight, if_pos (by omega), ← later_tile hJ, took, hs]
  refine congrArg (fun e => Ideal.exp (_ + (e + _))) (Finset.sum_congr rfl fun k _ => congrArg (· * _) ?_)
  rw [stay, if_pos (by omega), hs, left]

theorem carry_diag {r : ℕ} (hJ : J < 32) (hr : r < 256) (hs : ∀ j, s j = z (J * 256 + j.val)) (hg : g = J * 256 + r) :
    0 + ∑ j : Fin 256, (if j.val < r then left (s j) else 0) = carry z g J := by
  rw [← carry_step hJ, carry_none (J := J + 1) (by omega)]
  refine congrArg (0 + ·) (Finset.sum_congr rfl fun j _ => ?_)
  subst hg
  simp only [stay, left, hs, Nat.add_lt_add_iff_left]

theorem acc_diag {r : ℕ} (hJ : J < 32) (hr : r < 256) (hs : ∀ j, s j = z (J * 256 + j.val)) (hg : g = J * 256 + r) :
    0 + ∑ j : Fin 256, (if j.val < r then Ideal.exp (beta (s j) + (∑ k : Fin 256, (if k.val < r then left (s k) else 0)
      * (if j < k then 1 else 0) + 0)) else 0) * v (J * 256 + j.val) = acc z v g J := by
  rw [← acc_step hJ, acc_none (J := J + 1) (by omega)]
  refine congrArg (0 + ·) (Finset.sum_congr rfl fun j _ => congrArg (· * _) ?_)
  rw [weight, ← later_tile hJ, carry_none (J := J + 1) (by omega)]
  subst hg
  simp only [stay, left, hs, Nat.add_lt_add_iff_left]

/-! ## All the keys -/

theorem acc_congr {z' v' : ℕ → EReal} (hz : ∀ c < 8192, z c = z' c) (hv : ∀ c < 8192, v c = v' c) : acc z v g 0 = acc z' v' g 0 := by
  have hl : ∀ c, later z g c = later z' g c := fun c => Finset.sum_congr rfl fun k hk => by
    rw [stay, stay, hz k (Finset.mem_Ico.mp hk).2]
  refine Finset.sum_congr rfl fun k hk => ?_
  rw [weight, weight, hl, hz k (Finset.mem_Ico.mp hk).2, hv k (Finset.mem_Ico.mp hk).2]

/-- What comes after a key, over all the keys. -/
theorem later_all (c : ℕ) : ∑ k : Fin 8192, (if c < k.val then stay z g k.val else 0) = later z g c := by
  rw [← Finset.sum_range (fun k : ℕ => if c < k then stay z g k else 0), ← Finset.sum_filter]
  refine Finset.sum_congr ?_ fun _ _ => rfl
  ext k; simp only [Finset.mem_filter, Finset.mem_range, Finset.mem_Ico]; omega

theorem acc_all : acc z v g 0 = ∑ k : Fin 8192, weight z g k.val * v k.val := by
  unfold acc
  rw [Nat.zero_mul, ← Finset.range_eq_Ico, Finset.sum_range]

end Cert.StickSums

end
-- ==== Proof.StickTiles.lean ====
/-
Stick-breaking attention, the payloads at an index over the extended reals: the scores of a tile of keys, the sums carried from
tile to tile and the weighted values, for each row of the queries.
-/
module

public import proofs.«01_k».proof.Proof.Stick
public import proofs.«01_k».proof.Proof.StickSums
public import Idealize.ShloMosaic.Lib.Pipeline.ValueKit
public import Idealize.ShloMosaic.Lib.Pointwise

@[expose] public section

noncomputable section

namespace Cert.SbFwdIdeal.StickValue

open Idealize.ShloMosaic Idealize.ShloMosaic.TcCoe Idealize.ShloMosaic.Pipeline Idealize.SL.Sem Cert.SbFwdIdeal.Gen Cert.StickSums Cert.SbFwdIdeal.Stick

/-! ## The payloads -/

section
variable (q : Vec Ideal S512x128 .bf16) (K K' U U' : Vec Ideal S256x128 .bf16) (R : Fin 512) (j : Fin 256) (l : Fin 128)
  (b : FVec Ideal S512x1 .f32) (a : FVec Ideal S512x128 .f32)

/-- The score of key `j` of a tile for row `R` of the queries. -/
def score (R : Fin 512) (j : Fin 256) : EReal := ∑ l : Fin 128, q (ix2 R l) * K (ix2 j l)

theorem beta_eq (z : EReal) :
    min z 0 - Ideal.log (1 + Ideal.exp (0 - FloatOps.absf (F := Ideal) (φ := .f32) z)) = beta z := by
  rw [zero_sub]; rfl

theorem bit_if {p : Prop} [Decidable p] : BitVec.ofBool (decide p) = if p then 1#1 else 0#1 := by
  by_cases h : p <;> simp [h]

theorem less {n a b : ℕ} (hn : n ≤ 8192) (ha : a < n) (hb : b < n) :
    IntOp.cmpi CmpIPredicate.slt (BitVec.ofNat 32 a) (BitVec.ofNat 32 b) = if a < b then 1#1 else 0#1 :=
  (WordCmp.cmpi_slt_ofNat (w := 32) (by omega) (by omega)).trans bit_if

theorem tri_at (a b : Fin 256) : (k0_pay17 : FVec Ideal S256x256 .bf16) (ix2 a b) = if b < a then 1 else 0 := by
  unfold k0_pay17
  pointwise []
  rw [show IntOp.cmpi CmpIPredicate.sgt (BitVec.ofNat 32 a.val) (BitVec.ofNat 32 b.val) = if b < a then 1#1 else 0#1 from
    less (n := 256) (by omega) b.isLt a.isLt]
  split
  · show ((((1#32 : BitVec 32).toInt : ℝ)) : EReal) = 1
    norm_num
  · show ((((0#32 : BitVec 32).toInt : ℝ)) : EReal) = 0
    norm_num

theorem mask_at : ∀ (R : Fin 512) (j : Fin 256), k0_pay16 (ix2 R j) = if j.val < R.val % 256 then 1#1 else 0#1 := by
  have e : ∀ (R : Fin 512), Scalar.select (IntOp.cmpi CmpIPredicate.sge (BitVec.ofNat 32 R.val) 256#32)
      (IntOp.subi (BitVec.ofNat 32 R.val) 256#32) (BitVec.ofNat 32 R.val) = BitVec.ofNat 32 (R.val % 256) := by decide +kernel
  intro R j
  unfold k0_pay16
  pointwise []
  rw [e]
  exact less (n := 256) (by omega) j.isLt (Nat.mod_lt _ (by decide))

theorem select_if {p : Prop} [Decidable p] (x y : EReal) : Scalar.select (if p then 1#1 else 0#1) x y = if p then x else y := by
  split <;> rfl

theorem pay6_at : k0_pay6 q K (ix2 R 0) = ∑ j, left (score q K R j) := by
  unfold k0_pay6
  pointwise [k0_pay4, k0_pay3, k0_pay2, left, score, beta_eq]

theorem pay32_at : k0_pay32 b (k0_pay6 q K) (k0_pay7 q K') (k0_pay8 q K') (ix2 R 0)
    = b (ix2 R 0) + ∑ j, left (score q K R j) + ∑ j, left (score q K' R j) := by
  rw [← pay6_at]
  unfold k0_pay32
  pointwise [k0_pay28, k0_pay29, k0_pay8, k0_pay7, left, score, beta_eq]

theorem pay38_at : k0_pay38 k0_pay17 q b a K U (ix2 R l)
    = a (ix2 R l) + ∑ j, took (score q K R) (b (ix2 R 0)) j * U (ix2 j l) := by
  unfold k0_pay38
  pointwise [tri_at, took, left, score, beta_eq]

theorem pay30_at : k0_pay30 k0_pay17 b a (k0_pay3 q K) (k0_pay5 k0_pay17 q K) (k0_pay6 q K) U (k0_pay7 q K') (k0_pay8 q K') U' (ix2 R l)
    = a (ix2 R l) + ∑ j, took (score q K R) (b (ix2 R 0)) j * U (ix2 j l)
      + ∑ j, took (score q K' R) (b (ix2 R 0) + ∑ j, left (score q K R j)) j * U' (ix2 j l) := by
  rw [← pay6_at]
  unfold k0_pay30
  pointwise [k0_pay28, k0_pay29, k0_pay8, k0_pay7, k0_pay5, k0_pay4, k0_pay3, k0_pay2, tri_at, took, left, score, beta_eq]

theorem pay27_at : k0_pay27 k0_pay16 q k0_pay19 K (ix2 R 0) = 0 + ∑ j : Fin 256, (if j.val < R.val % 256 then left (score q K R j) else 0) := by
  unfold k0_pay27
  pointwise [k0_pay24, k0_pay23, k0_pay22, k0_pay19, mask_at, select_if, left, score, beta_eq]

theorem pay25_at : k0_pay25 k0_pay16 k0_pay17 q k0_pay19 k0_pay20 K U (ix2 R l)
    = 0 + ∑ j : Fin 256, (if j.val < R.val % 256 then Ideal.exp (beta (score q K R j) + (∑ k : Fin 256, (if k.val < R.val % 256 then left (score q K R k) else 0)
      * (if j < k then 1 else 0) + 0)) else 0) * U (ix2 j l) := by
  unfold k0_pay25
  pointwise [k0_pay24, k0_pay23, k0_pay22, k0_pay19, k0_pay20, mask_at, tri_at, select_if, left, score, beta_eq]
end

/-! ## The tiles -/

theorem grid : ∀ i : grid0.Coords, (k0_t1_loop i).trips = (i 1).val / 2 ∧ (k0_cond1 i = 1#1 ↔ (i 1).val % 2 = 1)
    ∧ (k0_off1 i 0 = (i 1).val * 256 ∧ k0_off1 i 1 = 0) := by decide +kernel
theorem grid' : ∀ (i : grid0.Coords) (k : Fin (k0_t1_loop i).trips), (k0_off2 i k 0 = ((i 1).val - 1 - 2 * k.val) * 256 ∧ k0_off2 i k 1 = 0)
    ∧ (k0_off3 i k 0 = ((i 1).val - 2 - 2 * k.val) * 256 ∧ k0_off3 i k 1 = 0) := by decide +kernel

end Cert.SbFwdIdeal.StickValue

end
-- ==== Proof.StickFinite.lean ====
/-
The reference's logarithms of a key's sigmoid and of its complement, which at a real score are those that the kernel sums, and the
scores of real queries and keys, where the scale may stand on either side of the product.
-/
module

public import proofs.«01_k».proof.Pre_finite_scores
public import proofs.«01_k».proof.Proof.StickSums

@[expose] public section

noncomputable section

namespace Cert.StickSums

open Idealize.ShloMosaic

/-- The logarithm of the sigmoid of `z`. -/
def logSigmoid (z : EReal) : EReal := -(max (-z) 0 + Ideal.log1p (Ideal.exp (-max (-z) (-(-z)))))

/-- At a real number the logarithm that both forms subtract is a real one. -/
theorem log_real (r : ℝ) : Ideal.log (1 + Ideal.exp (-max (r : EReal) (-(r : EReal)))) = (Real.log (1 + Real.exp (-max r (-r))) : ℝ) := by
  rw [← EReal.coe_neg, ← EReal.coe_strictMono.monotone.map_max, ← EReal.coe_neg, Ideal.exp_coe, ← EReal.coe_one, ← EReal.coe_add,
    Ideal.log_coe, if_neg (not_le.2 (by positivity))]

theorem beta_real (r : ℝ) : beta r = ((min r 0 - Real.log (1 + Real.exp (-max r (-r))) : ℝ) : EReal) := by
  rw [beta, log_real, ← EReal.coe_zero, ← EReal.coe_strictMono.monotone.map_min, ← EReal.coe_sub]

theorem sigmoid_real (r : ℝ) : logSigmoid r = ((-(max (-r) 0 + Real.log (1 + Real.exp (-max (-r) r))) : ℝ) : EReal) := by
  rw [logSigmoid, Ideal.log1p, ← EReal.coe_neg, log_real, ← EReal.coe_zero, ← EReal.coe_strictMono.monotone.map_max, ← EReal.coe_add,
    ← EReal.coe_neg, neg_neg]

theorem taken (r : ℝ) : logSigmoid r = beta r := by
  rw [sigmoid_real, beta_real, max_comm (-r) r]
  refine congrArg _ ?_
  rcases le_total r 0 with h | h
  · rw [max_eq_left (by linarith), min_eq_left h]; ring
  · rw [max_eq_right (by linarith), min_eq_right h]; ring

theorem kept (r : ℝ) : logSigmoid (-(r : EReal)) = beta r - r := by
  rw [← EReal.coe_neg, sigmoid_real, beta_real, ← EReal.coe_sub, neg_neg]
  refine congrArg _ ?_
  rcases le_total r 0 with h | h
  · rw [max_eq_right h, min_eq_left h]; ring
  · rw [max_eq_left h, min_eq_right h]; ring

/-- A finite sum of real numbers. -/
theorem sum_real {n : ℕ} (f : Fin n → ℝ) : ∑ d, (f d : EReal) = ((∑ d, f d : ℝ) : EReal) :=
  (map_sum (⟨⟨Real.toEReal, EReal.coe_zero⟩, EReal.coe_add⟩ : ℝ →+ EReal) f Finset.univ).symm

/-- A product of real rows is real, and may be scaled before or after it is summed. -/
theorem scaled {n : ℕ} (f g : Fin n → EReal) (s : ℝ) (hf : ∀ d, ∃ r : ℝ, f d = r) (hg : ∀ d, ∃ r : ℝ, g d = r) :
    ∃ r : ℝ, ∑ d, f d * s * g d = r ∧ (∑ d, f d * g d) * s = r := by
  choose a ha using hf
  choose b hb using hg
  refine ⟨∑ d, a d * s * b d, ?_, ?_⟩
  · simp only [ha, hb, ← EReal.coe_mul, sum_real]
  · simp only [ha, hb, ← EReal.coe_mul, sum_real, Finset.sum_mul]
    exact congrArg _ (Finset.sum_congr rfl fun d _ => by ring)

/-- What the precondition says of an entry. -/
theorem entry_real [Cert.Pre_finite_scores.Facts] (x : Vec Ideal ⟨2, ![8192, 1536]⟩ .bf16)
    (h : Cert.Pre_finite_scores.fn (F := Ideal) x = fun _ => 1#1) (j : (⟨2, ![8192, 1536]⟩ : Shape).Idx) : ∃ r : ℝ, (x j : EReal) = r := by
  have e : Ideal.cmp CmpFPredicate.olt (max (x j : EReal) (-x j)) (Ideal.ofBits .f32 0x7F800000#32) = 1#1 := congrFun h j
  have i : Ideal.ofBits .f32 0x7F800000#32 = ⊤ := by simp [Ideal.ofBits, Ideal.ieee]
  rw [i] at e
  obtain ⟨y, hy⟩ : ∃ y : EReal, x j = y := ⟨_, rfl⟩
  rw [hy] at e ⊢
  induction y using EReal.rec with
  | coe r => exact ⟨r, rfl⟩
  | bot => simp [Ideal.cmp] at e
  | top => simp [Ideal.cmp] at e

end Cert.StickSums

end
-- ==== Proof.StickValue.lean ====
/-
Stick-breaking attention over the extended reals: a point of the grid carries, for each of its queries, the two sums over the tiles
it has been through, from the diagonal tile down to the first, and leaves the weighted values of all the keys; the reference sums
over the keys at once.
-/
module

public import proofs.«01_k».proof.Defs
public import proofs.«01_k».proof.Proof.StickTiles
public import proofs.«01_k».proof.Proof.StickFinite
public import proofs.«01_k».proof.Proof.Gen.ReferenceSbFwdIdeal.Run

@[expose] public section

noncomputable section

namespace Cert.SbFwdIdeal.StickValue

open Idealize.ShloMosaic Idealize.ShloMosaic.TcCoe Idealize.ShloMosaic.Pipeline Idealize.SL.Sem Cert.SbFwdIdeal.Gen Cert.StickSums
open Cert.SbFwdIdeal.Stick

/-! ## A point -/

section
variable (i : grid0.Coords) (q : Vec Ideal S512x128 .bf16) (x1 x2 : Vec Ideal S8192x128 .bf16) (R : Fin 512) (l : Fin 128)

/-- The scores of all the keys for row `R`, and column `l` of the values. -/
def scores (c : ℕ) : EReal := if h : c < 8192 then ∑ l : Fin 128, q (ix2 R l) * x1 (ix2 ⟨c, h⟩ l) else 0
def column (c : ℕ) : EReal := if h : c < 8192 then x2 (ix2 ⟨c, h⟩ l) else 0

/-- The query that row `R` is. -/
def query : ℕ := (i 1).val * 256 + R.val % 256

theorem ld_at (x : Vec Ideal S8192x128 .bf16) {o : Fin 2 → ℕ} (h) {J : ℕ} (hJ : J < 32) (h0 : o 0 = J * 256) (h1 : o 1 = 0)
    (j : Fin 256) (l : Fin 128) :
    View.ld x (Rect.unit (s := S8192x128) o S256x128.size h) (ix2 j l) = x (ix2 ⟨J * 256 + j.val, by omega⟩ l) := by
  rw [View.ld_apply]
  refine congrArg x (funext fun a => Fin.ext ((Rect.idx_unit_val ..).trans ?_))
  fin_cases a
  · exact congrArg (· + j.val) h0
  · exact (congrArg (· + l.val) h1).trans (Nat.zero_add _)

theorem score_at {o : Fin 2 → ℕ} (h) {J : ℕ} (hJ : J < 32) (h0 : o 0 = J * 256) (h1 : o 1 = 0) (j : Fin 256) :
    score q (View.ld x1 (Rect.unit (s := S8192x128) o S256x128.size h)) R j = scores q x1 R (J * 256 + j.val) := by
  rw [scores, dif_pos (by omega)]
  exact Finset.sum_congr rfl fun l _ => congrArg (_ * ·) (ld_at x1 h hJ h0 h1 j l)

theorem column_at {o : Fin 2 → ℕ} (h) {J : ℕ} (hJ : J < 32) (h0 : o 0 = J * 256) (h1 : o 1 = 0) (j : Fin 256) :
    View.ld x2 (Rect.unit (s := S8192x128) o S256x128.size h) (ix2 j l) = column x2 l (J * 256 + j.val) := by
  rw [column, dif_pos (by omega)]
  exact ld_at x2 h hJ h0 h1 j l

/-- The two sums of row `R` from tile `J` on, as a point carries them. -/
def Carries (J : ℕ) (s : St Ideal) : Prop :=
  s.1 (ix2 R 0) = carry (scores q x1 R) (query i R) J ∧ s.2.1 (ix2 R l) = acc (scores q x1 R) (column x2 l) (query i R) J

theorem tiles : (i 1).val < 32 := (i 1).isLt

theorem first_carries : Carries i q x1 x2 R l (i 1).val (first i q x1 x2) := by
  obtain ⟨-, -, h0, h1⟩ := grid i
  have hr : R.val % 256 < 256 := Nat.mod_lt _ (by decide)
  refine ⟨(pay27_at ..).trans (carry_diag (tiles i) hr (fun j => score_at q x1 R (k0_off1_inb i) (tiles i) h0 h1 j) rfl), (pay25_at ..).trans ?_⟩
  rw [← acc_diag (tiles i) hr (fun j => score_at q x1 R (k0_off1_inb i) (tiles i) h0 h1 j) (show query i R = _ from rfl)]
  exact congrArg (0 + ·) (Finset.sum_congr rfl fun j _ => congrArg (_ * ·) (column_at x2 l (k0_off1_inb i) (tiles i) h0 h1 j))

theorem trip_carries (k : Fin (k0_t1_loop i).trips) (s : St Ideal) (h : Carries i q x1 x2 R l ((i 1).val - 2 * k.val) s) :
    Carries i q x1 x2 R l ((i 1).val - 2 * (k.val + 1)) (trip i q x1 x2 k s) := by
  have hk : k.val < (i 1).val / 2 := lt_of_lt_of_eq k.isLt (grid i).1
  obtain ⟨⟨n0, n1⟩, f0, f1⟩ := grid' i k
  have hi := tiles i
  obtain ⟨J, hJ⟩ : ∃ J, (i 1).val - 2 * (k.val + 1) = J := ⟨_, rfl⟩
  rw [show (i 1).val - 1 - 2 * k.val = J + 1 by omega] at n0
  rw [show (i 1).val - 2 - 2 * k.val = J by omega] at f0
  rw [show (i 1).val - 2 * k.val = J + 1 + 1 by omega] at h
  rw [hJ]
  have hJ0 : J < 32 := by omega
  have hJ1 : J + 1 < 32 := by omega
  have g1 : (J + 1 + 1) * 256 ≤ query i R := by unfold query; omega
  have g0 : (J + 1) * 256 ≤ query i R := le_trans (Nat.mul_le_mul_right _ (Nat.le_succ _)) g1
  have s1 := score_at q x1 R (k0_off2_inb i k) hJ1 n0 n1
  have s0 := score_at q x1 R (k0_off3_inb i k) hJ0 f0 f1
  have c1 := carry_whole hJ1 s1 g1
  have c0 := carry_whole hJ0 s0 g0
  refine ⟨(pay32_at ..).trans ?_, (pay30_at ..).trans ?_⟩
  · rw [h.1, c1, c0]
  · rw [h.1, h.2, c1, ← acc_whole (v := column x2 l) hJ0 s0 g0, ← acc_whole (v := column x2 l) hJ1 s1 g1]
    exact congr (congrArg _ (congrArg (_ + ·) (Finset.sum_congr rfl fun j _ =>
      congrArg (_ * ·) (column_at x2 l (k0_off2_inb i k) hJ1 n0 n1 j))))
      (Finset.sum_congr rfl fun j _ => congrArg (_ * ·) (column_at x2 l (k0_off3_inb i k) hJ0 f0 f1 j))

theorem upto_carries : ∀ n ≤ (k0_t1_loop i).trips, Carries i q x1 x2 R l ((i 1).val - 2 * n) (upto i q x1 x2 n)
  | 0, _ => first_carries ..
  | n + 1, h => by
    rw [upto, dif_pos (show n < _ by omega)]
    exact trip_carries i q x1 x2 R l ⟨n, by omega⟩ _ (upto_carries n (by omega))

theorem total_at : (total i q x1 x2).1 (ix2 R l) = acc (scores q x1 R) (column x2 l) (query i R) 0 := by
  obtain ⟨ht, hc, -⟩ := grid i
  have h := upto_carries i q x1 x2 R l _ le_rfl
  have hi := tiles i
  unfold total
  split
  · rename_i odd
    rw [show (i 1).val - 2 * (k0_t1_loop i).trips = 0 + 1 by have := hc.mp odd; omega] at h
    have hg : (0 + 1) * 256 ≤ query i R := by have := hc.mp odd; unfold query; omega
    refine (pay38_at ..).trans ?_
    rw [h.1, h.2, ← acc_whole (v := column x2 l) (show 0 < 32 by omega) (fun j => score_at q x1 R inb_S8192x128_S256x128_0_0 (by omega) rfl rfl j) hg]
    exact congrArg (_ + ·) (Finset.sum_congr rfl fun j _ => congrArg (_ * ·) (column_at x2 l inb_S8192x128_S256x128_0_0 (by omega) rfl rfl j))
  · rename_i even
    rw [show (i 1).val - 2 * (k0_t1_loop i).trips = 0 by have := mt hc.mpr even; omega] at h
    exact h.2
end

/-! ## The two heads of a point -/

theorem lanes_eq : ∀ l : Fin 128,
    (IntOp.andi (IntOp.cmpi CmpIPredicate.sge (BitVec.ofNat 32 l.val) 0#32) (IntOp.cmpi CmpIPredicate.slt (BitVec.ofNat 32 l.val) 64#32)
        = if l.val / 64 = 0 then 1#1 else 0#1)
    ∧ (IntOp.andi (IntOp.cmpi CmpIPredicate.sge (BitVec.ofNat 32 l.val) 64#32) (IntOp.cmpi CmpIPredicate.slt (BitVec.ofNat 32 l.val) 128#32)
        = if l.val / 64 = 1 then 1#1 else 0#1) := by
  decide +kernel

/-- One eighth. -/
abbrev eighth : EReal := Ideal.ofBits .f32 0x3E000000#32

theorem pay18_at (x : Vec Ideal S256x128 .bf16) (R : Fin 512) (l : Fin 128) : k0_pay18 x (ix2 R l)
    = if l.val / 64 = R.val / 256 then x (ix2 ⟨R.val % 256, Nat.mod_lt _ (by decide)⟩ l) * eighth else 0 := by
  unfold k0_pay18
  pointwise []
  rw [(lanes_eq l).1, (lanes_eq l).2]
  split
  · rename_i h
    replace h : R.val < 256 := h
    refine (congrArg (· * _) (select_if _ _)).trans ?_
    rw [show R.val / 256 = 0 by omega, ite_mul, zero_mul]
    refine if_congr Iff.rfl (congrArg (fun r => x (ix2 r l) * _) (Fin.ext ?_)) rfl
    dsimp only; omega
  · rename_i h
    replace h : ¬ R.val < 256 := h
    refine (congrArg (· * _) (select_if _ _)).trans ?_
    rw [show R.val / 256 = 1 by omega, ite_mul, zero_mul]
    refine if_congr Iff.rfl (congrArg (fun r => x (ix2 r l) * _) (Fin.ext ?_)) rfl
    dsimp only; omega

theorem pay1_at (a : FVec Ideal S512x128 .f32) (r : Fin 256) (l : Fin 128) :
    k0_pay1 a k0_pay40 (ix2 r l) = a (ix2 ⟨l.val / 64 * 256 + r.val, by omega⟩ l) := by
  unfold k0_pay1
  pointwise [k0_pay40]
  rw [(lanes_eq l).1, select_if]
  split
  · refine congrArg (fun r => a (ix2 r l)) (Fin.ext ?_)
    dsimp only; omega
  · refine congrArg (fun r => a (ix2 r l)) (Fin.ext ?_)
    dsimp only; omega

theorem half_sum (f : Fin 128 → EReal) {b : ℕ} (hb : b < 2) :
    ∑ l, (if l.val / 64 = b then f l else 0) = ∑ d : Fin 64, f ⟨b * 64 + d.val, by omega⟩ := by
  refine (Fin.sum_univ_add (a := 64) (b := 64) fun l : Fin 128 => if l.val / 64 = b then f l else 0).trans ?_
  obtain rfl | rfl : b = 0 ∨ b = 1 := by omega
  · refine (congrArg (_ + ·) (Finset.sum_eq_zero fun d _ => if_neg ?_)).trans ((add_zero _).trans ?_)
    · show ¬ (64 + d.val) / 64 = 0; omega
    · refine Finset.sum_congr rfl fun d _ => (if_pos ?_).trans (congrArg f (Fin.ext ?_))
      · show d.val / 64 = 0; omega
      · show d.val = 0 * 64 + d.val; omega
  · refine (congrArg (· + _) (Finset.sum_eq_zero fun d _ => if_neg ?_)).trans ((zero_add _).trans ?_)
    · show ¬ d.val / 64 = 1; omega
    · refine Finset.sum_congr rfl fun d _ => (if_pos ?_).trans (congrArg f (Fin.ext ?_))
      · show (64 + d.val) / 64 = 1; omega
      · show 64 + d.val = 1 * 64 + d.val; omega

/-! ## The whole arrays -/

section
variable (x : (⟨2, ![8192, 1536]⟩ : Shape).Idx → EReal)

/-- The score of key `c` for query `g` of head `h`, and the value of key `c` at column `k`. -/
def scoreOf (h : Fin 8) (g : Fin 8192) (c : ℕ) : EReal :=
  if hc : c < 8192 then ∑ d : Fin 64, x (ix2 g ⟨h.val * 64 + d.val, by omega⟩) * eighth * x (ix2 ⟨c, hc⟩ ⟨512 + (h.val * 64 + d.val), by omega⟩)
  else 0
def valueOf (k : Fin 512) (c : ℕ) : EReal := if hc : c < 8192 then x (ix2 ⟨c, hc⟩ ⟨1024 + k.val, by omega⟩) else 0

/-- The attention: each query's weighted values. -/
def attention : (⟨2, ![8192, 512]⟩ : Shape).Idx → EReal := fun i =>
  have h : (i 1).val < 512 := (i 1).isLt
  acc (scoreOf x ⟨(i 1).val / 64, by omega⟩ (i 0)) (valueOf x (i 1)) (i 0).val 0
end

variable (m : (ℓ : Loc nD τ sig) → Buf (Elt Ideal) ℓ) (c : Dev nD)

theorem idx : ∀ t : Fin grid0.N, (win0_0.index t 0 = t.val % 32 ∧ win0_0.index t 1 = t.val / 32) ∧ (win0_1.index t 0 = 0 ∧ win0_1.index t 1 = 4 + t.val / 32)
    ∧ (win0_2.index t 0 = 0 ∧ win0_2.index t 1 = 8 + t.val / 32) ∧ (win0_3.index t 0 = t.val % 32 ∧ win0_3.index t 1 = t.val / 32)
    ∧ (grid0.coords t 1).val = t.val % 32 := by
  decide +kernel

theorem lt (t : Fin cfg0.N) : t.val / 32 < 4 := by
  have : t.val < 128 := lt_of_lt_of_eq t.isLt N_0
  omega

theorem queries (t : Fin cfg0.N) (p : Fin 256) (q : Fin 128) : iblk m c 0 t (ix2 p q)
    = m ((c : Thread nD τ).loc main_arg0) (ix2 ⟨t.val % 32 * 256 + p.val, by omega⟩ ⟨t.val / 32 * 128 + q.val, by have := lt t; omega⟩) := by
  have := lt t
  blk_ext [iblk, V, idx t]

theorem keys (t : Fin cfg0.N) (p : Fin 8192) (q : Fin 128) : iblk m c 1 t (ix2 p q)
    = m ((c : Thread nD τ).loc main_arg0) (ix2 p ⟨512 + (t.val / 32 * 128 + q.val), by have := lt t; omega⟩) := by
  have := lt t
  blk_ext [iblk, V, idx t]

theorem values (t : Fin cfg0.N) (p : Fin 8192) (q : Fin 128) : iblk m c 2 t (ix2 p q)
    = m ((c : Thread nD τ).loc main_arg0) (ix2 p ⟨1024 + (t.val / 32 * 128 + q.val), by have := lt t; omega⟩) := by
  have := lt t
  blk_ext [iblk, V, idx t]

/-- A point's block of the result, at its place in the whole. -/
theorem point (t : Fin cfg0.N) (p : Fin 256) (q : Fin 128) (x : (⟨2, ![8192, 1536]⟩ : Shape).Idx → EReal)
    (hx : m ((c : Thread nD τ).loc main_arg0) = x) {i : (⟨2, ![8192, 512]⟩ : Shape).Idx}
    (h0 : (i 0).val = t.val % 32 * 256 + p.val) (h1 : (i 1).val = t.val / 32 * 128 + q.val) :
    k0_pay1 (total (grid0.coords t) (k0_pay18 (iblk m c 0 t)) (iblk m c 1 t) (iblk m c 2 t)).1 k0_pay40 (ix2 p q) = attention x i := by
  have ht := lt t
  have hi1 : (i 1).val < 512 := (i 1).isLt
  refine (pay1_at ..).trans ((total_at ..).trans ?_)
  unfold attention
  have hg : query (grid0.coords t) ⟨q.val / 64 * 256 + p.val, by omega⟩ = (i 0).val := by
    unfold query
    rw [(idx t).2.2.2.2, h0]
    dsimp only; omega
  rw [hg]
  refine acc_congr (fun k hk => ?_) (fun k hk => ?_)
  · unfold scores scoreOf
    rw [dif_pos hk, dif_pos hk]
    refine (Finset.sum_congr rfl fun l _ => ?_).trans ((half_sum (fun l => x (ix2 (i 0) ⟨t.val / 32 * 128 + l.val, by omega⟩) * eighth
      * x (ix2 ⟨k, hk⟩ ⟨512 + (t.val / 32 * 128 + l.val), by omega⟩)) (b := q.val / 64) (by omega)).trans
      (Finset.sum_congr rfl fun d _ => ?_))
    · rw [pay18_at, keys, queries, hx, ite_mul, zero_mul]
      refine if_congr (by dsimp only; omega) (congrArg (fun r => x (ix2 r _) * _ * _) (Fin.ext ?_)) rfl
      rw [h0]
      dsimp only; omega
    · refine congr (congrArg (fun a => HMul.hMul (x (ix2 (i 0) a) * eighth)) (Fin.ext ?_)) (congrArg (fun b => x (ix2 ⟨k, hk⟩ b)) (Fin.ext ?_))
      · dsimp only; omega
      · dsimp only; omega
  · unfold column valueOf
    rw [dif_pos hk, dif_pos hk, values, hx]
    refine congrArg (fun l => x (ix2 ⟨k, hk⟩ l)) (Fin.ext ?_)
    dsimp only; omega

theorem result : (dats m 0 c).arrAt 3 cfg0.N = attention (m ((c : Thread nD τ).loc main_arg0)) := by
  refine (dats m 0 c).arrAt_eq_of_covers 3 _ (by decide +kernel) fun t hf y => ?_
  blk_simp
  rw [after3]
  unfold outO
  frame_out
  have y0 : ((win0_3.blk t).view.emb y 0).val = t.val % 32 * 256 + (y 0).val := by
    blk_simp [idx t]; try rfl
  have y1 : ((win0_3.blk t).view.emb y 1).val = t.val / 32 * 128 + (y 1).val := by
    blk_simp [idx t]; try rfl
  exact (congrArg _ (eq_ix2 y)).trans (point m c t (y 0) (y 1) _ rfl y0 y1)

theorem zero_at : id (constant (F := Ideal) ReferenceSbFwdIdeal.S_ FTy.f32 0#32) ix0 = 0 := by
  unfold id
  pointwise []

theorem form (z : EReal) : -(max (-z) 0 + Ideal.log1p (Ideal.exp (-FloatOps.absf (F := Ideal) (φ := .f32) (-z)))) = logSigmoid z := rfl

theorem eighth_real : eighth = ((1 / 8 : ℝ) : EReal) := by
  simp [eighth, Ideal.ofBits, Ideal.ieee, -EReal.coe_mul]; norm_num

/-- The reference's sums at row `g` of head `h`, from the scores, which are real, and the values. -/
theorem plain (z v : ℕ → EReal) (g : Fin 8192) (z' v' : Fin 8192 → EReal) (hz : ∀ c, z' c = z c.val) (hv : ∀ c, v' c = v c.val)
    (hr : ∀ c : Fin 8192, ∃ r : ℝ, z c.val = r) :
    ∑ c : Fin 8192, Scalar.select (IntOp.cmpi CmpIPredicate.slt (BitVec.ofNat 32 c.val) (BitVec.ofNat 32 g.val))
      (Ideal.exp (logSigmoid (z' c) + ∑ k : Fin 8192, Scalar.select (IntOp.cmpi CmpIPredicate.slt (BitVec.ofNat 32 c.val) (BitVec.ofNat 32 k.val))
        (Scalar.select (IntOp.cmpi CmpIPredicate.slt (BitVec.ofNat 32 k.val) (BitVec.ofNat 32 g.val)) (logSigmoid (-z' k)) 0) 0) * v' c) 0
      = acc z v g.val 0 := by
  obtain rfl : z' = fun c => z c.val := funext hz
  obtain rfl : v' = fun c => v c.val := funext hv
  have e : ∀ a b : Fin 8192, IntOp.cmpi CmpIPredicate.slt (BitVec.ofNat 32 a.val) (BitVec.ofNat 32 b.val) = if a.val < b.val then 1#1 else 0#1 :=
    fun a b => less (n := 8192) (Nat.le_refl _) a.isLt b.isLt
  have t : ∀ c : Fin 8192, logSigmoid (z c.val) = beta (z c.val) := fun c => by obtain ⟨r, h⟩ := hr c; rw [h]; exact taken r
  have k : ∀ c : Fin 8192, logSigmoid (-z c.val) = beta (z c.val) - z c.val := fun c => by obtain ⟨r, h⟩ := hr c; rw [h]; exact kept r
  simp only [e, t, k, select_if, acc_all, weight, ← later_all, stay, ite_mul, zero_mul]

theorem reference (m : (ℓ : Loc ReferenceSbFwdIdeal.nD ReferenceSbFwdIdeal.τ ReferenceSbFwdIdeal.sig) → Buf (Elt Ideal) ℓ)
    (c : Dev ReferenceSbFwdIdeal.nD) (x : (⟨2, ![8192, 1536]⟩ : Shape).Idx → EReal)
    (hx : m ((c.tc : Thread ReferenceSbFwdIdeal.nD ReferenceSbFwdIdeal.τ).loc ReferenceSbFwdIdeal.main_arg0) = x)
    (hr : ∀ j, ∃ r : ℝ, x j = r) : ReferenceSbFwdIdeal.Value.res_main_v35 m c = attention x := by
  funext i
  have hi : (i 1).val < 512 := (i 1).isLt
  unfold ReferenceSbFwdIdeal.Value.res_main_v35
  pointwise [zero_at]
  simp only [ne_eq, not_true_eq_false, if_false, form]
  rw [hx]
  unfold attention
  have s : ∀ k : Fin 8192, ∃ r : ℝ, scoreOf x ⟨(i 1).val / 64, by omega⟩ (i 0) k.val = r
      ∧ (∑ d : Fin 64, x (ix2 (i 0) ⟨(i 1).val / 64 * 64 + d.val, by omega⟩) * x (ix2 k ⟨512 + ((i 1).val / 64 * 64 + d.val), by omega⟩)) * eighth = r := by
    intro k
    unfold scoreOf
    rw [dif_pos (show k.val < 8192 from k.isLt), eighth_real]
    exact scaled _ _ _ (fun _ => hr _) (fun _ => hr _)
  refine plain (scoreOf x ⟨(i 1).val / 64, by omega⟩ (i 0)) (valueOf x (i 1)) (i 0) _ _ (fun k => ?_) (fun k => ?_)
    (fun k => (s k).imp fun _ h => h.1)
  · obtain ⟨r, h, h'⟩ := s k
    exact h'.trans h.symm
  · unfold valueOf
    rw [dif_pos (show k.val < 8192 from k.isLt)]

theorem value [hPre : Pre_finite_scores.Facts] : algebraic_SbFwdIdeal_ReferenceSbFwdIdeal_pre_finite_scores (hSbFwdIdeal := SbFwdIdeal.Gen.facts)
    (hReferenceSbFwdIdeal := ReferenceSbFwdIdeal.Gen.facts) := by
  refine fun m g m' g' hf hm => ⟨_, (θ_run _ _ _).mono (fun r h c => ⟨(h.1.1 c).1 3, h.2 c⟩)
    (θ_run_and (run_main (F := Ideal) m g) (unchanged m g)), (θ_run _ _ _).mono (fun r h c => ?_) (ReferenceSbFwdIdeal.Value.run m' g')⟩
  obtain ⟨⟨hd, hk⟩, e0⟩ := (⟨h c, hm c⟩ : _ ∧ _)
  exact ⟨hd.trans ((reference m' c _ e0 (entry_real _ (hf c))).trans (result m c).symm), hk⟩

end Cert.SbFwdIdeal.StickValue

end
-- ==== Proof.Rotary.lean ====
/-
The rotary turn of the attention's heads over the extended reals: in each head of 64 columns the place `q` of the first half and
the place `q + 32` are turned together by the angle of the row and of `q`. The calls read the cosines and the sines, the first
half's sines negated, out of tables of 128 columns that the host makes.
-/
module

public import proofs.«01_k».proof.Defs
public import proofs.«01_k».proof.Proof.Gen.RopeQIdeal.Value
public import proofs.«01_k».proof.Proof.Gen.ReferenceRopeQIdeal.Run
public import proofs.«01_k».proof.Proof.Gen.RopeKIdeal.Value
public import proofs.«01_k».proof.Proof.Gen.ReferenceRopeKIdeal.Run
public import proofs.«01_k».proof.Proof.Gen.RopeBackIdeal.Value
public import proofs.«01_k».proof.Proof.Gen.ReferenceRopeBackIdeal.Run
public import Idealize.ShloMosaic.Lib.Pipeline.ValueKit
public import Idealize.ShloMosaic.Lib.Pointwise

@[expose] public section

noncomputable section

/-! ## The turn -/

namespace Cert.Rotary

open Idealize.ShloMosaic

/-- The angle of row `r` at place `q` of a head's half. -/
def angle (r q : ℕ) : EReal :=
  FloatOps.sitofp (F := Ideal) .f32 (BitVec.ofNat 32 r) * Ideal.pow (Ideal.ofBits .f32 0x461C4000#32)
    (Ideal.div (-FloatOps.sitofp (F := Ideal) .f32 (BitVec.ofNat 32 q)) (Ideal.ofBits .f32 0x42000000#32))

/-- Rows of eight heads turned by their angles, with the sines multiplied by `s`. -/
def turned (s : EReal) (v : (⟨2, ![8192, 512]⟩ : Shape).Idx → EReal) : (⟨2, ![8192, 512]⟩ : Shape).Idx → EReal := fun i =>
  have hi : (i 1).val < 512 := (i 1).isLt
  if h : (i 1).val % 64 < 32 then
    v i * Ideal.cos (angle (i 0).val ((i 1).val % 64))
      - v (ix2 (i 0) ⟨(i 1).val / 64 * 64 + (32 + (i 1).val % 64), by omega⟩) * (s * Ideal.sin (angle (i 0).val ((i 1).val % 64)))
  else
    v (ix2 (i 0) ⟨(i 1).val / 64 * 64 + (32 + ((i 1).val % 64 - 32)), by omega⟩)
        * Ideal.cos (angle (i 0).val ((i 1).val % 64 - 32))
      + v (ix2 (i 0) ⟨(i 1).val / 64 * 64 + ((i 1).val % 64 - 32), by omega⟩)
        * (s * Ideal.sin (angle (i 0).val ((i 1).val % 64 - 32)))

/-- 512 columns from column `o` on. -/
def columns (o : ℕ) (ho : o + 512 ≤ 1536) (v : (⟨2, ![8192, 1536]⟩ : Shape).Idx → EReal) :
    (⟨2, ![8192, 512]⟩ : Shape).Idx → EReal :=
  fun i => v (ix2 (i 0) ⟨o + (i 1).val, by have h : (i 1).val < 512 := (i 1).isLt; omega⟩)

/-! ## The turn by tables -/

/-- The table of the cosines: in each 64 columns the 32 angles of a row, twice. -/
def cosines (r j : ℕ) : EReal := if _ : j % 64 < 32 then Ideal.cos (angle r (j % 64)) else Ideal.cos (angle r (j % 64 - 32))

/-- The table of the sines, the first half's negated. -/
def sines (r j : ℕ) : EReal := if _ : j % 64 < 32 then -Ideal.sin (angle r (j % 64)) else Ideal.sin (angle r (j % 64 - 32))

/-- Whether the integer comparisons of a block find column `j` in a first half. -/
def first (j : ℕ) : BitVec 1 :=
  have n := Scalar.select (Scalar.cmpi CmpIPredicate.eq 64#32 0#32) 1#32 64#32
  have q := IntOp.remsi ArithUnit.vector (BitVec.ofNat 32 j) n
  IntOp.cmpi CmpIPredicate.slt
    (Scalar.select (IntOp.andi (IntOp.xori (IntOp.cmpi CmpIPredicate.slt q 0#32) (Scalar.cmpi CmpIPredicate.slt n 0#32))
      (IntOp.cmpi CmpIPredicate.ne q 0#32)) (IntOp.addi q n) q) 32#32

theorem first_eq : ∀ j : Fin 128, first j.val = if j.val % 64 < 32 then 1#1 else 0#1 := by decide +kernel

theorem select_first (j : Fin 128) (a b : EReal) :
    Scalar.select (first j.val) a b = if j.val % 64 < 32 then a else b := by
  rw [first_eq]
  split <;> rfl

/-- A block's 128 columns turned by the tables: each column with the column of the other half of its head. -/
def mixed (s : EReal) (v c n : (⟨2, ![512, 128]⟩ : Shape).Idx → EReal) : (⟨2, ![512, 128]⟩ : Shape).Idx → EReal := fun y =>
  v y * c y + Scalar.select (first (y 1).val) (v (ix2 (y 0) ⟨((y 1).val + 128 - 96) % 128, Nat.mod_lt _ (by decide)⟩))
    (v (ix2 (y 0) ⟨((y 1).val + 128 - 32) % 128, Nat.mod_lt _ (by decide)⟩)) * (n y * s)

theorem move {v : (⟨2, ![8192, 512]⟩ : Shape).Idx → EReal} {r : Fin 8192} {p q : Fin 512} (h : p.val = q.val) :
    v (ix2 r p) = v (ix2 r q) := congrArg (fun z => v (ix2 r z)) (Fin.ext h)

theorem neg_form {a x x' t s : EReal} (h : x = x') : a + x * (-t * s) = a - x' * (s * t) := by
  rw [h, neg_mul, mul_neg, mul_comm t s]
  exact (sub_eq_add_neg _ _).symm

theorem pos_form {a a' x x' c t s : EReal} (ha : a = a') (h : x = x') : a * c + x * (t * s) = a' * c + x' * (s * t) := by
  rw [ha, h, mul_comm t s]

theorem mixed_eq {s : EReal} {v : (⟨2, ![8192, 512]⟩ : Shape).Idx → EReal} {b c n : (⟨2, ![512, 128]⟩ : Shape).Idx → EReal}
    {y : (⟨2, ![512, 128]⟩ : Shape).Idx} {r : Fin 8192} {k : ℕ} (hk : k < 4)
    (hb : ∀ q : Fin 128, b (ix2 (y 0) q) = v (ix2 r ⟨k * 128 + q.val, by omega⟩))
    (hc : c y = cosines r.val (y 1).val) (hn : n y = sines r.val (y 1).val) {i : (⟨2, ![8192, 512]⟩ : Shape).Idx} (h0 : i 0 = r)
    (h1 : (i 1).val = k * 128 + (y 1).val) : mixed s b c n y = turned s v i := by
  have hy : (y 1).val < 128 := (y 1).isLt
  have e0 : b y = v i := (congrArg b (eq_ix2 y)).trans ((hb (y 1)).trans
    ((congrArg v (congr (congrArg ix2 h0.symm) (Fin.ext h1.symm))).trans (congrArg v (eq_ix2 i)).symm))
  unfold mixed turned
  have ef := select_first (y 1) (v (ix2 r ⟨k * 128 + ((y 1).val + 128 - 96) % 128, by omega⟩))
    (v (ix2 r ⟨k * 128 + ((y 1).val + 128 - 32) % 128, by omega⟩))
  rw [hc, hn, e0, hb, hb]
  refine (congrArg (fun z => _ + z * _) ef).trans ?_
  unfold cosines sines
  have hm : (i 1).val % 64 = (y 1).val % 64 := by omega
  subst h0
  by_cases h : (y 1).val % 64 < 32
  · simp only [hm, h, if_true, dif_pos]
    exact neg_form (move (by dsimp only; omega))
  · simp only [hm, h, if_false, dif_neg, not_false_eq_true]
    exact pos_form ((congrArg v (eq_ix2 i)).trans (move (by dsimp only; omega))) (move (by dsimp only; omega))

end Cert.Rotary

/-! ## The queries -/

namespace Cert.RopeQIdeal

open Idealize.ShloMosaic Idealize.ShloMosaic.TcCoe Idealize.ShloMosaic.Pipeline Idealize.SL.Sem Cert.RopeQIdeal.Gen Cert.Rotary

theorem block (v c n : Vec Ideal S512x128 .f32) : k0_pay1 v c n = mixed 1 v c n := by
  funext y
  unfold k0_pay1
  pointwise [mixed]
  rfl

variable (m : (ℓ : Loc nD τ sig) → Buf (Elt Ideal) ℓ) (c : Dev nD)

theorem idx : ∀ t : Fin grid0.N, (win0_0.index t 0 = t.val / 4 ∧ win0_0.index t 1 = t.val % 4) ∧ (win0_1.index t 0 = t.val / 4 ∧ win0_1.index t 1 = 0)
    ∧ (win0_2.index t 0 = t.val / 4 ∧ win0_2.index t 1 = 0) ∧ (win0_3.index t 0 = t.val / 4 ∧ win0_3.index t 1 = t.val % 4) := by
  decide +kernel

theorem lt (t : Fin cfg0.N) (p : Fin 512) : t.val / 4 * 512 + p.val < 8192 := by
  have : t.val < 64 := lt_of_lt_of_eq t.isLt N_0
  omega

/-- The row of the whole arrays that row `p` of a point's blocks is. -/
abbrev place (t : Fin cfg0.N) (p : Fin 512) : Fin 8192 := ⟨t.val / 4 * 512 + p.val, lt t p⟩

theorem cosines_eq : V m c main_v17 = fun i : S8192x128.Idx => cosines (i 0).val (i 1).val := by
  unfold V hostOps0
  generalize hf : (fun a b => concatenate S8192x64 1 [⟨S8192x32, a⟩, ⟨S8192x32, b⟩] concatenates_S8192x32_S8192x32_S8192x64_d1 :
    (⟨S8192x32, .f32⟩ : BufTy).Contents (Elt Ideal) → (⟨S8192x32, .f32⟩ : BufTy).Contents (Elt Ideal) → (⟨S8192x64, .f32⟩ : BufTy).Contents (Elt Ideal)) = f
  after_results_simp
  subst hf
  funext i
  pointwise [cosines, angle]

theorem sines_eq : V m c main_v22 = fun i : S8192x128.Idx => sines (i 0).val (i 1).val := by
  unfold V hostOps0
  generalize hf : (fun a b => concatenate S8192x64 1 [⟨S8192x32, a⟩, ⟨S8192x32, b⟩] concatenates_S8192x32_S8192x32_S8192x64_d1 :
    (⟨S8192x32, .f32⟩ : BufTy).Contents (Elt Ideal) → (⟨S8192x32, .f32⟩ : BufTy).Contents (Elt Ideal) → (⟨S8192x64, .f32⟩ : BufTy).Contents (Elt Ideal)) = f
  after_results_simp
  subst hf
  funext i
  pointwise [sines, angle]

theorem rows (t : Fin cfg0.N) (p : Fin 512) (q : Fin 128) :
    iblk m c 0 t (ix2 p q) = m ((c : Thread nD τ).loc main_arg0) (ix2 (place t p) ⟨0 + (t.val % 4 * 128 + q.val), by omega⟩) := by
  blk_ext [iblk, V, idx t]

theorem tables (t : Fin cfg0.N) (y : S512x128.Idx) :
    iblk m c 1 t y = cosines (place t (y 0)).val (y 1).val ∧ iblk m c 2 t y = sines (place t (y 0)).val (y 1).val := by
  have ec : iblk m c 1 t y = V m c main_v17 (ix2 (place t (y 0)) (y 1)) := by blk_ext [iblk, idx t]
  have es : iblk m c 2 t y = V m c main_v22 (ix2 (place t (y 0)) (y 1)) := by blk_ext [iblk, idx t]
  rw [ec, es, cosines_eq, sines_eq]
  exact ⟨rfl, rfl⟩

theorem result : (dats m 0 c).arrAt 3 cfg0.N = turned 1 (columns 0 (by omega) (m ((c : Thread nD τ).loc main_arg0))) := by
  refine (dats m 0 c).arrAt_eq_of_covers 3 _ (by decide +kernel) fun t hf y => ?_
  blk_simp
  rw [after0_3]
  frame_out
  rw [block]
  have y0 : (win0_3.blk t).view.emb y 0 = place t (y 0) := by
    apply Fin.ext; blk_simp [idx t]; try rfl
  have y1 : ((win0_3.blk t).view.emb y 1).val = t.val % 4 * 128 + (y 1).val := by
    blk_simp [idx t]; try rfl
  obtain ⟨ec, es⟩ := tables m c t y
  exact mixed_eq (Nat.mod_lt _ (by decide)) (rows m c t (y 0)) ec es y0 y1

theorem value : algebraic_RopeQIdeal_ReferenceRopeQIdeal (hRopeQIdeal := RopeQIdeal.Gen.facts)
    (hReferenceRopeQIdeal := ReferenceRopeQIdeal.Gen.facts) := by
  refine fun m g m' g' _ hm => ⟨_, Value.run_blocks m g,
    (θ_run _ _ _).mono (fun r h c => ?_) (ReferenceRopeQIdeal.Value.run m' g')⟩
  obtain ⟨⟨hd, hk⟩, e0⟩ := (⟨h c, hm c⟩ : _ ∧ _)
  refine ⟨hd.trans ?_, hk⟩
  rw [result, e0]
  funext i
  clear hd h hm
  pointwise [turned, columns, angle]

end Cert.RopeQIdeal

/-! ## The keys -/

namespace Cert.RopeKIdeal

open Idealize.ShloMosaic Idealize.ShloMosaic.TcCoe Idealize.ShloMosaic.Pipeline Idealize.SL.Sem Cert.RopeKIdeal.Gen Cert.Rotary

theorem block (v c n : Vec Ideal S512x128 .f32) : k0_pay1 v c n = mixed 1 v c n := RopeQIdeal.block v c n

variable (m : (ℓ : Loc nD τ sig) → Buf (Elt Ideal) ℓ) (c : Dev nD)

theorem idx : ∀ t : Fin grid0.N, (win0_0.index t 0 = t.val / 4 ∧ win0_0.index t 1 = 4 + t.val % 4) ∧ (win0_1.index t 0 = t.val / 4 ∧ win0_1.index t 1 = 0)
    ∧ (win0_2.index t 0 = t.val / 4 ∧ win0_2.index t 1 = 0) ∧ (win0_3.index t 0 = t.val / 4 ∧ win0_3.index t 1 = t.val % 4) := by
  decide +kernel

theorem lt (t : Fin cfg0.N) (p : Fin 512) : t.val / 4 * 512 + p.val < 8192 := by
  have : t.val < 64 := lt_of_lt_of_eq t.isLt N_0
  omega

/-- The row of the whole arrays that row `p` of a point's blocks is. -/
abbrev place (t : Fin cfg0.N) (p : Fin 512) : Fin 8192 := ⟨t.val / 4 * 512 + p.val, lt t p⟩

theorem cosines_eq : V m c main_v17 = fun i : S8192x128.Idx => cosines (i 0).val (i 1).val := RopeQIdeal.cosines_eq m c

theorem sines_eq : V m c main_v22 = fun i : S8192x128.Idx => sines (i 0).val (i 1).val := RopeQIdeal.sines_eq m c

theorem rows (t : Fin cfg0.N) (p : Fin 512) (q : Fin 128) :
    iblk m c 0 t (ix2 p q) = m ((c : Thread nD τ).loc main_arg0) (ix2 (place t p) ⟨512 + (t.val % 4 * 128 + q.val), by omega⟩) := by
  blk_ext [iblk, V, idx t]

theorem tables (t : Fin cfg0.N) (y : S512x128.Idx) :
    iblk m c 1 t y = cosines (place t (y 0)).val (y 1).val ∧ iblk m c 2 t y = sines (place t (y 0)).val (y 1).val := by
  have ec : iblk m c 1 t y = V m c main_v17 (ix2 (place t (y 0)) (y 1)) := by blk_ext [iblk, idx t]
  have es : iblk m c 2 t y = V m c main_v22 (ix2 (place t (y 0)) (y 1)) := by blk_ext [iblk, idx t]
  rw [ec, es, cosines_eq, sines_eq]
  exact ⟨rfl, rfl⟩

theorem result : (dats m 0 c).arrAt 3 cfg0.N = turned 1 (columns 512 (by omega) (m ((c : Thread nD τ).loc main_arg0))) := by
  refine (dats m 0 c).arrAt_eq_of_covers 3 _ (by decide +kernel) fun t hf y => ?_
  blk_simp
  rw [after0_3]
  frame_out
  rw [block]
  have y0 : (win0_3.blk t).view.emb y 0 = place t (y 0) := by
    apply Fin.ext; blk_simp [idx t]; try rfl
  have y1 : ((win0_3.blk t).view.emb y 1).val = t.val % 4 * 128 + (y 1).val := by
    blk_simp [idx t]; try rfl
  obtain ⟨ec, es⟩ := tables m c t y
  exact mixed_eq (Nat.mod_lt _ (by decide)) (rows m c t (y 0)) ec es y0 y1

theorem value : algebraic_RopeKIdeal_ReferenceRopeKIdeal (hRopeKIdeal := RopeKIdeal.Gen.facts)
    (hReferenceRopeKIdeal := ReferenceRopeKIdeal.Gen.facts) := by
  refine fun m g m' g' _ hm => ⟨_, Value.run_blocks m g,
    (θ_run _ _ _).mono (fun r h c => ?_) (ReferenceRopeKIdeal.Value.run m' g')⟩
  obtain ⟨⟨hd, hk⟩, e0⟩ := (⟨h c, hm c⟩ : _ ∧ _)
  refine ⟨hd.trans ?_, hk⟩
  rw [result, e0]
  funext i
  clear hd h hm
  pointwise [turned, columns, angle]

end Cert.RopeKIdeal

/-! ## The gradients, turned back -/

namespace Cert.RopeBackIdeal

open Idealize.ShloMosaic Idealize.ShloMosaic.TcCoe Idealize.ShloMosaic.Pipeline Idealize.SL.Sem Cert.RopeBackIdeal.Gen Cert.Rotary

theorem block (v c n : Vec Ideal S512x128 .f32) : k0_pay1 v c n = mixed (Ideal.ofBits .f32 0xBF800000#32) v c n := by
  funext y
  unfold k0_pay1
  pointwise [mixed]
  rfl

variable (m : (ℓ : Loc nD τ sig) → Buf (Elt Ideal) ℓ) (c : Dev nD)

theorem idx : ∀ t : Fin grid0.N, (win0_0.index t 0 = t.val / 4 ∧ win0_0.index t 1 = t.val % 4) ∧ (win0_1.index t 0 = t.val / 4 ∧ win0_1.index t 1 = 0)
    ∧ (win0_2.index t 0 = t.val / 4 ∧ win0_2.index t 1 = 0) ∧ (win0_3.index t 0 = t.val / 4 ∧ win0_3.index t 1 = t.val % 4) := by
  decide +kernel

theorem lt (t : Fin cfg0.N) (p : Fin 512) : t.val / 4 * 512 + p.val < 8192 := by
  have : t.val < 64 := lt_of_lt_of_eq t.isLt N_0
  omega

/-- The row of the whole arrays that row `p` of a point's blocks is. -/
abbrev place (t : Fin cfg0.N) (p : Fin 512) : Fin 8192 := ⟨t.val / 4 * 512 + p.val, lt t p⟩

theorem cosines_eq : V m c main_v17 = fun i : S8192x128.Idx => cosines (i 0).val (i 1).val := by
  unfold V hostOps0
  generalize hf : (fun a b => concatenate S8192x64 1 [⟨S8192x32, a⟩, ⟨S8192x32, b⟩] concatenates_S8192x32_S8192x32_S8192x64_d1 :
    (⟨S8192x32, .f32⟩ : BufTy).Contents (Elt Ideal) → (⟨S8192x32, .f32⟩ : BufTy).Contents (Elt Ideal) → (⟨S8192x64, .f32⟩ : BufTy).Contents (Elt Ideal)) = f
  after_results_simp
  subst hf
  funext i
  pointwise [cosines, angle]

theorem sines_eq : V m c main_v22 = fun i : S8192x128.Idx => sines (i 0).val (i 1).val := by
  unfold V hostOps0
  generalize hf : (fun a b => concatenate S8192x64 1 [⟨S8192x32, a⟩, ⟨S8192x32, b⟩] concatenates_S8192x32_S8192x32_S8192x64_d1 :
    (⟨S8192x32, .f32⟩ : BufTy).Contents (Elt Ideal) → (⟨S8192x32, .f32⟩ : BufTy).Contents (Elt Ideal) → (⟨S8192x64, .f32⟩ : BufTy).Contents (Elt Ideal)) = f
  after_results_simp
  subst hf
  funext i
  pointwise [sines, angle]

theorem rows (t : Fin cfg0.N) (p : Fin 512) (q : Fin 128) :
    iblk m c 0 t (ix2 p q) = m ((c : Thread nD τ).loc main_arg0) (ix2 (place t p) ⟨t.val % 4 * 128 + q.val, by omega⟩) := by
  blk_ext [iblk, V, idx t]

theorem tables (t : Fin cfg0.N) (y : S512x128.Idx) :
    iblk m c 1 t y = cosines (place t (y 0)).val (y 1).val ∧ iblk m c 2 t y = sines (place t (y 0)).val (y 1).val := by
  have ec : iblk m c 1 t y = V m c main_v17 (ix2 (place t (y 0)) (y 1)) := by blk_ext [iblk, idx t]
  have es : iblk m c 2 t y = V m c main_v22 (ix2 (place t (y 0)) (y 1)) := by blk_ext [iblk, idx t]
  rw [ec, es, cosines_eq, sines_eq]
  exact ⟨rfl, rfl⟩

theorem result : (dats m 0 c).arrAt 3 cfg0.N = turned (Ideal.ofBits .f32 0xBF800000#32) (m ((c : Thread nD τ).loc main_arg0)) := by
  refine (dats m 0 c).arrAt_eq_of_covers 3 _ (by decide +kernel) fun t hf y => ?_
  blk_simp
  rw [after0_3]
  frame_out
  rw [block]
  have y0 : (win0_3.blk t).view.emb y 0 = place t (y 0) := by
    apply Fin.ext; blk_simp [idx t]; try rfl
  have y1 : ((win0_3.blk t).view.emb y 1).val = t.val % 4 * 128 + (y 1).val := by
    blk_simp [idx t]; try rfl
  obtain ⟨ec, es⟩ := tables m c t y
  exact mixed_eq (Nat.mod_lt _ (by decide)) (rows m c t (y 0)) ec es y0 y1

theorem value : algebraic_RopeBackIdeal_ReferenceRopeBackIdeal (hRopeBackIdeal := RopeBackIdeal.Gen.facts)
    (hReferenceRopeBackIdeal := ReferenceRopeBackIdeal.Gen.facts) := by
  refine fun m g m' g' _ hm => ⟨_, Value.run_blocks m g,
    (θ_run _ _ _).mono (fun r h c => ?_) (ReferenceRopeBackIdeal.Value.run m' g')⟩
  obtain ⟨⟨hd, hk⟩, e0⟩ := (⟨h c, hm c⟩ : _ ∧ _)
  refine ⟨hd.trans ?_, hk⟩
  rw [result, e0]
  funext i
  clear hd h hm
  pointwise [turned, angle]

end Cert.RopeBackIdeal
-- ==== Proof.lean ====
/- The proof of the claims of Defs.lean: each run is proved once for any float values, in the modules of Proof/. -/
module

public import proofs.«01_k».proof.Defs
public import proofs.«01_k».proof.Proof.Gen.GatherCol
public import proofs.«01_k».proof.Proof.Gen.GatherCol.Skeleton
public import proofs.«01_k».proof.Proof.Gen.GatherCol.Launch
public import proofs.«01_k».proof.Proof.Gen.GatherCol.Points
public import proofs.«01_k».proof.Proof.Gen.GatherCol.Frame
public import proofs.«01_k».proof.Proof.Gen.GatherColIdeal
public import proofs.«01_k».proof.Proof.Gen.GatherColIdeal.Skeleton
public import proofs.«01_k».proof.Proof.Gen.GatherColIdeal.Launch
public import proofs.«01_k».proof.Proof.Gen.GatherColIdeal.Points
public import proofs.«01_k».proof.Proof.Gen.GatherColIdeal.Frame
public import proofs.«01_k».proof.Proof.Gen.ReferenceColIdeal
public import proofs.«01_k».proof.Proof.Gen.ReferenceColIdeal.Run
public import proofs.«01_k».proof.Proof.Gen.ReferenceCol
public import proofs.«01_k».proof.Proof.Gen.ReferenceCol.Run
public import proofs.«01_k».proof.Proof.Gen.GatherRow
public import proofs.«01_k».proof.Proof.Gen.GatherRow.Skeleton
public import proofs.«01_k».proof.Proof.Gen.GatherRow.Launch
public import proofs.«01_k».proof.Proof.Gen.GatherRow.Points
public import proofs.«01_k».proof.Proof.Gen.GatherRow.Frame
public import proofs.«01_k».proof.Proof.Gen.GatherRowIdeal
public import proofs.«01_k».proof.Proof.Gen.GatherRowIdeal.Skeleton
public import proofs.«01_k».proof.Proof.Gen.GatherRowIdeal.Launch
public import proofs.«01_k».proof.Proof.Gen.GatherRowIdeal.Points
public import proofs.«01_k».proof.Proof.Gen.GatherRowIdeal.Frame
public import proofs.«01_k».proof.Proof.Gen.ReferenceRowIdeal
public import proofs.«01_k».proof.Proof.Gen.ReferenceRowIdeal.Run
public import proofs.«01_k».proof.Proof.Gen.ReferenceRow
public import proofs.«01_k».proof.Proof.Gen.ReferenceRow.Run
public import proofs.«01_k».proof.Proof.Gen.Exchange
public import proofs.«01_k».proof.Proof.Gen.Exchange.Skeleton
public import proofs.«01_k».proof.Proof.Gen.Exchange.Launch
public import proofs.«01_k».proof.Proof.Gen.Exchange.Points
public import proofs.«01_k».proof.Proof.Gen.Exchange.Frame
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Gen.ExchangeIdeal.Frame
public import proofs.«01_k».proof.Proof.Gen.ReferenceExchangeIdeal
public import proofs.«01_k».proof.Proof.Gen.ReferenceExchangeIdeal.Run
public import proofs.«01_k».proof.Proof.Gen.ReferenceExchange
public import proofs.«01_k».proof.Proof.Gen.ReferenceExchange.Run
public import proofs.«01_k».proof.Proof.Gen.Reduce
public import proofs.«01_k».proof.Proof.Gen.Reduce.Skeleton
public import proofs.«01_k».proof.Proof.Gen.Reduce.Launch
public import proofs.«01_k».proof.Proof.Gen.Reduce.Points
public import proofs.«01_k».proof.Proof.Gen.Reduce.Regions
public import proofs.«01_k».proof.Proof.Gen.ReduceIdeal
public import proofs.«01_k».proof.Proof.Gen.ReduceIdeal.Skeleton
public import proofs.«01_k».proof.Proof.Gen.ReduceIdeal.Launch
public import proofs.«01_k».proof.Proof.Gen.ReduceIdeal.Points
public import proofs.«01_k».proof.Proof.Gen.ReduceIdeal.Regions
public import proofs.«01_k».proof.Proof.Gen.ReferenceReduce
public import proofs.«01_k».proof.Proof.Gen.ReferenceReduce.Run
public import proofs.«01_k».proof.Proof.Gen.ReferenceReduceIdeal
public import proofs.«01_k».proof.Proof.Gen.ReferenceReduceIdeal.Run
public import proofs.«01_k».proof.Proof.Gen.Norm.Frame
public import proofs.«01_k».proof.Proof.Gen.NormIdeal.Value
public import proofs.«01_k».proof.Proof.Gen.ReferenceNorm.Run
public import proofs.«01_k».proof.Proof.Gen.ReferenceNormIdeal.Run
public import proofs.«01_k».proof.Proof.Gen.NormBwd.Frame
public import proofs.«01_k».proof.Proof.Gen.NormBwdIdeal.Value
public import proofs.«01_k».proof.Proof.Gen.ReferenceNormBwd.Run
public import proofs.«01_k».proof.Proof.Gen.ReferenceNormBwdIdeal.Run
public import proofs.«01_k».proof.Proof.Gen.MmGate.Frame
public import proofs.«01_k».proof.Proof.Gen.MmGateIdeal.Value
public import proofs.«01_k».proof.Proof.Gen.ReferenceMmGate.Run
public import proofs.«01_k».proof.Proof.Gen.ReferenceMmGateIdeal.Run
public import proofs.«01_k».proof.Proof.Gen.MmUp.Frame
public import proofs.«01_k».proof.Proof.Gen.MmUpIdeal.Value
public import proofs.«01_k».proof.Proof.Gen.ReferenceMmUp.Run
public import proofs.«01_k».proof.Proof.Gen.ReferenceMmUpIdeal.Run
public import proofs.«01_k».proof.Proof.Gen.MmDown.Frame
public import proofs.«01_k».proof.Proof.Gen.MmDownIdeal.Value
public import proofs.«01_k».proof.Proof.Gen.ReferenceMmDown.Run
public import proofs.«01_k».proof.Proof.Gen.ReferenceMmDownIdeal.Run
public import proofs.«01_k».proof.Proof.Gen.MmBwdAct.Frame
public import proofs.«01_k».proof.Proof.Gen.MmBwdActIdeal.Value
public import proofs.«01_k».proof.Proof.Gen.ReferenceMmBwdAct.Run
public import proofs.«01_k».proof.Proof.Gen.ReferenceMmBwdActIdeal.Run
public import proofs.«01_k».proof.Proof.Gen.MmDhGate.Frame
public import proofs.«01_k».proof.Proof.Gen.MmDhGateIdeal.Value
public import proofs.«01_k».proof.Proof.Gen.ReferenceMmDhGate.Run
public import proofs.«01_k».proof.Proof.Gen.ReferenceMmDhGateIdeal.Run
public import proofs.«01_k».proof.Proof.Gen.MmDhUp.Frame
public import proofs.«01_k».proof.Proof.Gen.MmDhUpIdeal.Value
public import proofs.«01_k».proof.Proof.Gen.ReferenceMmDhUp.Run
public import proofs.«01_k».proof.Proof.Gen.ReferenceMmDhUpIdeal.Run
public import proofs.«01_k».proof.Proof.Gen.MmSb.Frame
public import proofs.«01_k».proof.Proof.Gen.MmSbIdeal.Value
public import proofs.«01_k».proof.Proof.Gen.ReferenceMmSb.Run
public import proofs.«01_k».proof.Proof.Gen.ReferenceMmSbIdeal.Run
public import proofs.«01_k».proof.Proof.Gen.MmDl.Frame
public import proofs.«01_k».proof.Proof.Gen.MmDlIdeal.Value
public import proofs.«01_k».proof.Proof.Gen.ReferenceMmDl.Run
public import proofs.«01_k».proof.Proof.Gen.ReferenceMmDlIdeal.Run
public import proofs.«01_k».proof.Proof.Gen.MmOut.Frame
public import proofs.«01_k».proof.Proof.Gen.MmOutIdeal.Value
public import proofs.«01_k».proof.Proof.Gen.ReferenceMmOut.Run
public import proofs.«01_k».proof.Proof.Gen.ReferenceMmOutIdeal.Run
public import proofs.«01_k».proof.Proof.Gen.MmMerged.Frame
public import proofs.«01_k».proof.Proof.Gen.MmMergedIdeal.Value
public import proofs.«01_k».proof.Proof.Gen.ReferenceMmMerged.Run
public import proofs.«01_k».proof.Proof.Gen.ReferenceMmMergedIdeal.Run
public import proofs.«01_k».proof.Proof.Gen.MmDhMix.Frame
public import proofs.«01_k».proof.Proof.Gen.MmDhMixIdeal.Value
public import proofs.«01_k».proof.Proof.Gen.ReferenceMmDhMix.Run
public import proofs.«01_k».proof.Proof.Gen.ReferenceMmDhMixIdeal.Run
public import proofs.«01_k».proof.Proof.Gen.MmDwg.Frame
public import proofs.«01_k».proof.Proof.Gen.MmDwgIdeal.Value
public import proofs.«01_k».proof.Proof.Gen.ReferenceMmDwg.Run
public import proofs.«01_k».proof.Proof.Gen.ReferenceMmDwgIdeal.Run
public import proofs.«01_k».proof.Proof.Gen.MmDwd.Frame
public import proofs.«01_k».proof.Proof.Gen.MmDwdIdeal.Value
public import proofs.«01_k».proof.Proof.Gen.ReferenceMmDwd.Run
public import proofs.«01_k».proof.Proof.Gen.ReferenceMmDwdIdeal.Run
public import proofs.«01_k».proof.Proof.Gen.MmDwOut.Frame
public import proofs.«01_k».proof.Proof.Gen.MmDwOutIdeal.Value
public import proofs.«01_k».proof.Proof.Gen.ReferenceMmDwOut.Run
public import proofs.«01_k».proof.Proof.Gen.ReferenceMmDwOutIdeal.Run
public import proofs.«01_k».proof.Proof.Gen.MmDwIn.Frame
public import proofs.«01_k».proof.Proof.Gen.MmDwInIdeal.Value
public import proofs.«01_k».proof.Proof.Gen.ReferenceMmDwIn.Run
public import proofs.«01_k».proof.Proof.Gen.ReferenceMmDwInIdeal.Run
public import proofs.«01_k».proof.Proof.Gen.LossHead.Frame
public import proofs.«01_k».proof.Proof.Gen.LossHeadIdeal.Value
public import proofs.«01_k».proof.Proof.Gen.ReferenceLossHead.Run
public import proofs.«01_k».proof.Proof.Gen.ReferenceLossHeadIdeal.Run
public import proofs.«01_k».proof.Proof.Gen.OutNorm.Frame
public import proofs.«01_k».proof.Proof.Gen.OutNormIdeal.Value
public import proofs.«01_k».proof.Proof.Gen.ReferenceOutNorm.Run
public import proofs.«01_k».proof.Proof.Gen.ReferenceOutNormIdeal.Run
public import proofs.«01_k».proof.Proof.Gen.OutNormBwd.Frame
public import proofs.«01_k».proof.Proof.Gen.OutNormBwdIdeal.Value
public import proofs.«01_k».proof.Proof.Gen.ReferenceOutNormBwd.Run
public import proofs.«01_k».proof.Proof.Gen.ReferenceOutNormBwdIdeal.Run
public import proofs.«01_k».proof.Proof.Gen.ReferenceSbFwd.Run
public import proofs.«01_k».proof.Proof.Gen.ReferenceSbFwdIdeal.Run
public import proofs.«01_k».proof.Proof.Gen.SbFwd.Frame
public import proofs.«01_k».proof.Proof.Gen.SbFwdIdeal.Frame
public import proofs.«01_k».proof.Proof.Gen.SbFwd.Loops
public import proofs.«01_k».proof.Proof.Gen.SbFwdIdeal.Loops
public import proofs.«01_k».proof.Proof.Gen.SbFwd.Skeleton
public import proofs.«01_k».proof.Proof.Gen.SbFwdIdeal.Skeleton
public import proofs.«01_k».proof.Proof.Gen.RopeQ.Frame
public import proofs.«01_k».proof.Proof.Gen.RopeQIdeal.Value
public import proofs.«01_k».proof.Proof.Gen.ReferenceRopeQ.Run
public import proofs.«01_k».proof.Proof.Gen.ReferenceRopeQIdeal.Run
public import proofs.«01_k».proof.Proof.Gen.RopeK.Frame
public import proofs.«01_k».proof.Proof.Gen.RopeKIdeal.Value
public import proofs.«01_k».proof.Proof.Gen.ReferenceRopeK.Run
public import proofs.«01_k».proof.Proof.Gen.ReferenceRopeKIdeal.Run
public import proofs.«01_k».proof.Proof.Gen.RopeBack.Frame
public import proofs.«01_k».proof.Proof.Gen.RopeBackIdeal.Value
public import proofs.«01_k».proof.Proof.Gen.ReferenceRopeBack.Run
public import proofs.«01_k».proof.Proof.Gen.ReferenceRopeBackIdeal.Run
public import proofs.«01_k».proof.Proof.Values
public import proofs.«01_k».proof.Proof.ReduceValue
public import proofs.«01_k».proof.Proof.Adam
public import proofs.«01_k».proof.Proof.Norm
public import proofs.«01_k».proof.Proof.FeedForward
public import proofs.«01_k».proof.Proof.Projections
public import proofs.«01_k».proof.Proof.WeightGrads
public import proofs.«01_k».proof.Proof.LossHead
public import proofs.«01_k».proof.Proof.OutNorm
public import proofs.«01_k».proof.Proof.Stick
public import proofs.«01_k».proof.Proof.StickValue
public import proofs.«01_k».proof.Proof.Rotary
public import Idealize.ShloMosaic.Adequacy
public import Idealize.ShloMosaic.Init
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGate.Value
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateIdeal.Value
public import proofs.«01_k».proof.Proof.Gen.ReferenceAdamGate
public import proofs.«01_k».proof.Proof.Gen.ReferenceAdamGate.Run
public import proofs.«01_k».proof.Proof.Gen.ReferenceAdamGateIdeal
public import proofs.«01_k».proof.Proof.Gen.ReferenceAdamGateIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamIn.Value
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.ReferenceAdamIn
public import proofs.«01_k».proof.Proof.Gen.ReferenceAdamIn.Run
public import proofs.«01_k».proof.Proof.Gen.ReferenceAdamInIdeal
public import proofs.«01_k».proof.Proof.Gen.ReferenceAdamInIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDown.Value
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.ReferenceAdamDown
public import proofs.«01_k».proof.Proof.Gen.ReferenceAdamDown.Run
public import proofs.«01_k».proof.Proof.Gen.ReferenceAdamDownIdeal
public import proofs.«01_k».proof.Proof.Gen.ReferenceAdamDownIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOut.Value
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.ReferenceAdamOut
public import proofs.«01_k».proof.Proof.Gen.ReferenceAdamOut.Run
public import proofs.«01_k».proof.Proof.Gen.ReferenceAdamOutIdeal
public import proofs.«01_k».proof.Proof.Gen.ReferenceAdamOutIdeal.Run
public import proofs.«01_k».proof.Proof.Gen.AdamGain
public import proofs.«01_k».proof.Proof.Gen.AdamGain.Skeleton
public import proofs.«01_k».proof.Proof.Gen.AdamGain.Launch
public import proofs.«01_k».proof.Proof.Gen.AdamGain.Points
public import proofs.«01_k».proof.Proof.Gen.AdamGain.Frame
public import proofs.«01_k».proof.Proof.Gen.AdamGain.Value
public import proofs.«01_k».proof.Proof.Gen.AdamGainIdeal
public import proofs.«01_k».proof.Proof.Gen.AdamGainIdeal.Skeleton
public import proofs.«01_k».proof.Proof.Gen.AdamGainIdeal.Launch
public import proofs.«01_k».proof.Proof.Gen.AdamGainIdeal.Points
public import proofs.«01_k».proof.Proof.Gen.AdamGainIdeal.Frame
public import proofs.«01_k».proof.Proof.Gen.AdamGainIdeal.Value
public import proofs.«01_k».proof.Proof.Gen.ReferenceAdamGain
public import proofs.«01_k».proof.Proof.Gen.ReferenceAdamGain.Run
public import proofs.«01_k».proof.Proof.Gen.ReferenceAdamGainIdeal
public import proofs.«01_k».proof.Proof.Gen.ReferenceAdamGainIdeal.Run
public import proofs.«01_k».proof.Proof.Gen.AdamHalfGain
public import proofs.«01_k».proof.Proof.Gen.AdamHalfGain.Skeleton
public import proofs.«01_k».proof.Proof.Gen.AdamHalfGain.Launch
public import proofs.«01_k».proof.Proof.Gen.AdamHalfGain.Points
public import proofs.«01_k».proof.Proof.Gen.AdamHalfGain.Frame
public import proofs.«01_k».proof.Proof.Gen.AdamHalfGain.Value
public import proofs.«01_k».proof.Proof.Gen.AdamHalfGainIdeal
public import proofs.«01_k».proof.Proof.Gen.AdamHalfGainIdeal.Skeleton
public import proofs.«01_k».proof.Proof.Gen.AdamHalfGainIdeal.Launch
public import proofs.«01_k».proof.Proof.Gen.AdamHalfGainIdeal.Points
public import proofs.«01_k».proof.Proof.Gen.AdamHalfGainIdeal.Frame
public import proofs.«01_k».proof.Proof.Gen.AdamHalfGainIdeal.Value
public import proofs.«01_k».proof.Proof.Gen.ReferenceAdamHalfGain
public import proofs.«01_k».proof.Proof.Gen.ReferenceAdamHalfGain.Run
public import proofs.«01_k».proof.Proof.Gen.ReferenceAdamHalfGainIdeal
public import proofs.«01_k».proof.Proof.Gen.ReferenceAdamHalfGainIdeal.Run

@[expose] public section

noncomputable section

namespace Cert.Proof

open Idealize.ShloMosaic Idealize.SL.Sem Cert.GatherCol

/-- A machine with no semaphore has none that counts. -/
theorem no_sems {nD : ℕ} {τ : Topo} {sig : RefSig} (h : ∀ sm : SemLoc sig, False) {Val : EltTy → Type}
    (s : MemSt nD τ sig Val) : s.sem = fun _ => 0 :=
  funext fun g => (h g.2).elim

/-- The reduction and its idealization have the same bodies. -/
theorem reduce_defs {F : FTy → Type} [FloatOps F] : Cert.Reduce.defs (F := F) = Cert.ReduceIdeal.defs (F := F) :=
  congrArg (Pipeline.defs Cert.Reduce.pcfgs)
    (congrArg Defs.onTc (funext fun l => funext fun x => match l, x with | 0, (t, s) => rfl | 1, (t, s) => rfl | 2, (t, s) => rfl))

theorem reduce_frame {F : FTy → Type} [FloatOps F] (m : (ℓ : Loc Cert.Reduce.nD Cert.Reduce.τ Cert.Reduce.sig) → Buf (Elt F) ℓ)
    (g : Dev Cert.Reduce.nD → PrngReg) : θ_run (Cert.Reduce.defs (F := F)) (onTc Cert.Reduce.main) ⟨m, fun _ => 0, g⟩ (fun r =>
      (∀ c : Dev Cert.Reduce.nD,
        r.2.mem ((c.tc : Thread Cert.Reduce.nD Cert.Reduce.τ).loc Cert.Reduce.main_arg0) = m ((c.tc : Thread Cert.Reduce.nD Cert.Reduce.τ).loc Cert.Reduce.main_arg0)
        ∧ r.2.mem ((c.tc : Thread Cert.Reduce.nD Cert.Reduce.τ).loc Cert.Reduce.main_arg1) = m ((c.tc : Thread Cert.Reduce.nD Cert.Reduce.τ).loc Cert.Reduce.main_arg1))
      ∧ r.2.sem = fun _ => 0) := by
  rw [reduce_defs]
  exact (θ_run Cert.ReduceIdeal.defs _ _).mono (fun _ h => ⟨fun c => Cert.ReduceIdeal.args m c (h.1 c), h.2⟩) (Cert.ReduceIdeal.run m g)

/-- The attention and its idealization have the same body. -/
theorem stick_defs {F : FTy → Type} [FloatOps F] : Cert.SbFwd.defs (F := F) = Cert.SbFwdIdeal.defs (F := F) :=
  congrArg (Pipeline.defs Cert.SbFwd.pcfgs) (congrArg Defs.onTc (funext fun l => funext fun x => match l, x with | 0, (t, s) => rfl))

theorem stick_frame {F : FTy → Type} [FloatOps F] (m : (ℓ : Loc Cert.SbFwd.nD Cert.SbFwd.τ Cert.SbFwd.sig) → Buf (Elt F) ℓ)
    (g : Dev Cert.SbFwd.nD → PrngReg) : θ_run (Cert.SbFwd.defs (F := F)) (onTc Cert.SbFwd.main) ⟨m, fun _ => 0, g⟩ (fun r =>
      (∀ c : Dev Cert.SbFwd.nD,
        r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0) := by
  rw [stick_defs]
  exact Cert.SbFwdIdeal.Stick.run_frame m g

theorem finite_facts : Cert.Pre_finite_scores.Facts := ⟨by decide, by decide⟩

theorem claim : Cert.Claim := ⟨Cert.GatherCol.Gen.facts, Cert.GatherColIdeal.Gen.facts, Cert.ReferenceColIdeal.Gen.facts, Cert.ReferenceCol.Gen.facts, Cert.GatherRow.Gen.facts, Cert.GatherRowIdeal.Gen.facts, Cert.ReferenceRowIdeal.Gen.facts, Cert.ReferenceRow.Gen.facts, Cert.Exchange.Gen.facts, Cert.ExchangeIdeal.Gen.facts, Cert.ReferenceExchangeIdeal.Gen.facts, Cert.ReferenceExchange.Gen.facts,
  Cert.Reduce.Gen.facts, Cert.ReduceIdeal.Gen.facts, Cert.ReferenceReduce.Gen.facts, Cert.ReferenceReduceIdeal.Gen.facts,
  Cert.AdamGate.Gen.facts, Cert.AdamGateIdeal.Gen.facts, Cert.ReferenceAdamGate.Gen.facts, Cert.ReferenceAdamGateIdeal.Gen.facts, Cert.AdamIn.Gen.facts, Cert.AdamInIdeal.Gen.facts, Cert.ReferenceAdamIn.Gen.facts, Cert.ReferenceAdamInIdeal.Gen.facts, Cert.AdamDown.Gen.facts, Cert.AdamDownIdeal.Gen.facts, Cert.ReferenceAdamDown.Gen.facts, Cert.ReferenceAdamDownIdeal.Gen.facts, Cert.AdamOut.Gen.facts, Cert.AdamOutIdeal.Gen.facts, Cert.ReferenceAdamOut.Gen.facts, Cert.ReferenceAdamOutIdeal.Gen.facts, Cert.AdamGain.Gen.facts, Cert.AdamGainIdeal.Gen.facts, Cert.ReferenceAdamGain.Gen.facts, Cert.ReferenceAdamGainIdeal.Gen.facts, Cert.AdamHalfGain.Gen.facts, Cert.AdamHalfGainIdeal.Gen.facts, Cert.ReferenceAdamHalfGain.Gen.facts, Cert.ReferenceAdamHalfGainIdeal.Gen.facts,
  Cert.Norm.Gen.facts, Cert.NormIdeal.Gen.facts, Cert.ReferenceNorm.Gen.facts, Cert.ReferenceNormIdeal.Gen.facts,
  Cert.NormBwd.Gen.facts, Cert.NormBwdIdeal.Gen.facts, Cert.ReferenceNormBwd.Gen.facts, Cert.ReferenceNormBwdIdeal.Gen.facts,
  Cert.MmGate.Gen.facts, Cert.MmGateIdeal.Gen.facts, Cert.ReferenceMmGate.Gen.facts, Cert.ReferenceMmGateIdeal.Gen.facts,
  Cert.MmUp.Gen.facts, Cert.MmUpIdeal.Gen.facts, Cert.ReferenceMmUp.Gen.facts, Cert.ReferenceMmUpIdeal.Gen.facts,
  Cert.MmDown.Gen.facts, Cert.MmDownIdeal.Gen.facts, Cert.ReferenceMmDown.Gen.facts, Cert.ReferenceMmDownIdeal.Gen.facts,
  Cert.MmBwdAct.Gen.facts, Cert.MmBwdActIdeal.Gen.facts, Cert.ReferenceMmBwdAct.Gen.facts, Cert.ReferenceMmBwdActIdeal.Gen.facts,
  Cert.MmDhGate.Gen.facts, Cert.MmDhGateIdeal.Gen.facts, Cert.ReferenceMmDhGate.Gen.facts, Cert.ReferenceMmDhGateIdeal.Gen.facts,
  Cert.MmDhUp.Gen.facts, Cert.MmDhUpIdeal.Gen.facts, Cert.ReferenceMmDhUp.Gen.facts, Cert.ReferenceMmDhUpIdeal.Gen.facts,
  Cert.MmSb.Gen.facts, Cert.MmSbIdeal.Gen.facts, Cert.ReferenceMmSb.Gen.facts, Cert.ReferenceMmSbIdeal.Gen.facts,
  Cert.MmDl.Gen.facts, Cert.MmDlIdeal.Gen.facts, Cert.ReferenceMmDl.Gen.facts, Cert.ReferenceMmDlIdeal.Gen.facts,
  Cert.MmOut.Gen.facts, Cert.MmOutIdeal.Gen.facts, Cert.ReferenceMmOut.Gen.facts, Cert.ReferenceMmOutIdeal.Gen.facts,
  Cert.MmMerged.Gen.facts, Cert.MmMergedIdeal.Gen.facts, Cert.ReferenceMmMerged.Gen.facts, Cert.ReferenceMmMergedIdeal.Gen.facts,
  Cert.MmDhMix.Gen.facts, Cert.MmDhMixIdeal.Gen.facts, Cert.ReferenceMmDhMix.Gen.facts, Cert.ReferenceMmDhMixIdeal.Gen.facts,
  Cert.MmDwg.Gen.facts, Cert.MmDwgIdeal.Gen.facts, Cert.ReferenceMmDwg.Gen.facts, Cert.ReferenceMmDwgIdeal.Gen.facts,
  Cert.MmDwd.Gen.facts, Cert.MmDwdIdeal.Gen.facts, Cert.ReferenceMmDwd.Gen.facts, Cert.ReferenceMmDwdIdeal.Gen.facts,
  Cert.MmDwOut.Gen.facts, Cert.MmDwOutIdeal.Gen.facts, Cert.ReferenceMmDwOut.Gen.facts, Cert.ReferenceMmDwOutIdeal.Gen.facts,
  Cert.MmDwIn.Gen.facts, Cert.MmDwInIdeal.Gen.facts, Cert.ReferenceMmDwIn.Gen.facts, Cert.ReferenceMmDwInIdeal.Gen.facts,
  Cert.LossHead.Gen.facts, Cert.LossHeadIdeal.Gen.facts, Cert.ReferenceLossHead.Gen.facts, Cert.ReferenceLossHeadIdeal.Gen.facts,
  Cert.OutNorm.Gen.facts, Cert.OutNormIdeal.Gen.facts, Cert.ReferenceOutNorm.Gen.facts, Cert.ReferenceOutNormIdeal.Gen.facts,
  Cert.OutNormBwd.Gen.facts, Cert.OutNormBwdIdeal.Gen.facts, Cert.ReferenceOutNormBwd.Gen.facts, Cert.ReferenceOutNormBwdIdeal.Gen.facts,
  Cert.SbFwd.Gen.facts, Cert.SbFwdIdeal.Gen.facts, Cert.ReferenceSbFwd.Gen.facts, Cert.ReferenceSbFwdIdeal.Gen.facts,
  Cert.RopeQ.Gen.facts, Cert.RopeQIdeal.Gen.facts, Cert.ReferenceRopeQ.Gen.facts, Cert.ReferenceRopeQIdeal.Gen.facts,
  Cert.RopeK.Gen.facts, Cert.RopeKIdeal.Gen.facts, Cert.ReferenceRopeK.Gen.facts, Cert.ReferenceRopeKIdeal.Gen.facts,
  Cert.RopeBack.Gen.facts, Cert.RopeBackIdeal.Gen.facts, Cert.ReferenceRopeBack.Gen.facts, Cert.ReferenceRopeBackIdeal.Gen.facts, finite_facts, by
  refine ⟨?_, ?_, ?_, ?_, ?_, ?_, ?_, ?_, ?_, ?_, ?_, ?_, ?_, ?_, ?_, ?_,
    fun m g _ => Cert.AdamGate.Gen.frame m g, fun m g _ => Cert.AdamGateIdeal.Gen.frame m g, ?_, ?_, fun m g _ => Cert.AdamIn.Gen.frame m g, fun m g _ => Cert.AdamInIdeal.Gen.frame m g, ?_, ?_, fun m g _ => Cert.AdamDown.Gen.frame m g, fun m g _ => Cert.AdamDownIdeal.Gen.frame m g, ?_, ?_, fun m g _ => Cert.AdamOut.Gen.frame m g, fun m g _ => Cert.AdamOutIdeal.Gen.frame m g, ?_, ?_, fun m g _ => Cert.AdamGain.Gen.frame m g, fun m g _ => Cert.AdamGainIdeal.Gen.frame m g, ?_, ?_, fun m g _ => Cert.AdamHalfGain.Gen.frame m g, fun m g _ => Cert.AdamHalfGainIdeal.Gen.frame m g, ?_, ?_,
    fun m g _ => Cert.Norm.Gen.frame m g, fun m g _ => Cert.NormIdeal.Gen.frame m g, ?_, ?_,
    fun m g _ => Cert.NormBwd.Gen.frame m g, fun m g _ => Cert.NormBwdIdeal.Gen.frame m g, ?_, ?_,
    fun m g _ => Cert.MmGate.Gen.frame m g, fun m g _ => Cert.MmGateIdeal.Gen.frame m g, ?_, ?_,
    fun m g _ => Cert.MmUp.Gen.frame m g, fun m g _ => Cert.MmUpIdeal.Gen.frame m g, ?_, ?_,
    fun m g _ => Cert.MmDown.Gen.frame m g, fun m g _ => Cert.MmDownIdeal.Gen.frame m g, ?_, ?_,
    fun m g _ => Cert.MmBwdAct.Gen.frame m g, fun m g _ => Cert.MmBwdActIdeal.Gen.frame m g, ?_, ?_,
    fun m g _ => Cert.MmDhGate.Gen.frame m g, fun m g _ => Cert.MmDhGateIdeal.Gen.frame m g, ?_, ?_,
    fun m g _ => Cert.MmDhUp.Gen.frame m g, fun m g _ => Cert.MmDhUpIdeal.Gen.frame m g, ?_, ?_,
    fun m g _ => Cert.MmSb.Gen.frame m g, fun m g _ => Cert.MmSbIdeal.Gen.frame m g, ?_, ?_,
    fun m g _ => Cert.MmDl.Gen.frame m g, fun m g _ => Cert.MmDlIdeal.Gen.frame m g, ?_, ?_,
    fun m g _ => Cert.MmOut.Gen.frame m g, fun m g _ => Cert.MmOutIdeal.Gen.frame m g, ?_, ?_,
    fun m g _ => Cert.MmMerged.Gen.frame m g, fun m g _ => Cert.MmMergedIdeal.Gen.frame m g, ?_, ?_,
    fun m g _ => Cert.MmDhMix.Gen.frame m g, fun m g _ => Cert.MmDhMixIdeal.Gen.frame m g, ?_, ?_,
    fun m g _ => Cert.MmDwg.Gen.frame m g, fun m g _ => Cert.MmDwgIdeal.Gen.frame m g, ?_, ?_,
    fun m g _ => Cert.MmDwd.Gen.frame m g, fun m g _ => Cert.MmDwdIdeal.Gen.frame m g, ?_, ?_,
    fun m g _ => Cert.MmDwOut.Gen.frame m g, fun m g _ => Cert.MmDwOutIdeal.Gen.frame m g, ?_, ?_,
    fun m g _ => Cert.MmDwIn.Gen.frame m g, fun m g _ => Cert.MmDwInIdeal.Gen.frame m g, ?_, ?_,
    fun m g _ => Cert.LossHead.Gen.frame m g, fun m g _ => Cert.LossHeadIdeal.Gen.frame m g, ?_, ?_,
    fun m g _ => Cert.OutNorm.Gen.frame m g, fun m g _ => Cert.OutNormIdeal.Gen.frame m g, ?_, ?_,
    fun m g _ => Cert.OutNormBwd.Gen.frame m g, fun m g _ => Cert.OutNormBwdIdeal.Gen.frame m g, ?_, ?_,
    ?_, fun m g _ => Cert.SbFwdIdeal.Stick.run_frame m g, fun m g _ => Cert.SbFwdIdeal.Stick.run_frame m g, ?_, ?_, ?_,
    fun m g _ => Cert.RopeQ.Gen.frame m g, fun m g _ => Cert.RopeQIdeal.Gen.frame m g, ?_, ?_,
    fun m g _ => Cert.RopeK.Gen.frame m g, fun m g _ => Cert.RopeKIdeal.Gen.frame m g, ?_, ?_,
    fun m g _ => Cert.RopeBack.Gen.frame m g, fun m g _ => Cert.RopeBackIdeal.Gen.frame m g, ?_, ?_,
    trivial, ?_, ?_, trivial, ?_, ?_, trivial, ?_, ?_, trivial, ?_, trivial, Cert.Adam.gate, trivial, Cert.Adam.w_in, trivial, Cert.Adam.down, trivial, Cert.Adam.w_out, trivial, Cert.Adam.gain, trivial, Cert.Adam.half_gain,
    trivial, Cert.NormIdeal.value, trivial, Cert.NormBwdIdeal.value, trivial, Cert.MmGateIdeal.value, trivial, Cert.MmUpIdeal.value, trivial, Cert.MmDownIdeal.value, trivial, Cert.MmBwdActIdeal.value, trivial, Cert.MmDhGateIdeal.value, trivial, Cert.MmDhUpIdeal.value, trivial, Cert.MmSbIdeal.value, trivial, Cert.MmDlIdeal.value, trivial, Cert.MmOutIdeal.value, trivial, Cert.MmMergedIdeal.value, trivial, Cert.MmDhMixIdeal.value, trivial, Cert.MmDwgIdeal.value, trivial, Cert.MmDwdIdeal.value, trivial, Cert.MmDwOutIdeal.value, trivial, Cert.MmDwInIdeal.value, trivial, Cert.LossHeadIdeal.value, trivial, Cert.OutNormIdeal.value, trivial, Cert.OutNormBwdIdeal.value, trivial, Cert.SbFwdIdeal.StickValue.value (hPre := finite_facts), trivial, Cert.RopeQIdeal.value, trivial, Cert.RopeKIdeal.value, trivial, Cert.RopeBackIdeal.value⟩
  · exact fun m g _ => (θ_run Cert.GatherColIdeal.defs _ _).mono (fun _ h => ⟨fun c => (h.1 c).1, h.2⟩) (Cert.GatherColIdeal.run (F := Bits) m g)
  · exact fun m g _ => (θ_run Cert.GatherColIdeal.defs _ _).mono (fun _ h => ⟨fun c => (h.1 c).1, h.2⟩) (Cert.GatherColIdeal.run (F := Ideal) m g)
  · exact fun m g _ => (θ_run _ _ _).mono (fun r h => ⟨fun c => (h c).2, no_sems (sig := Cert.ReferenceColIdeal.sig) (by decide) r.2⟩) (Cert.ReferenceColIdeal.Value.run m g)
  · exact fun m g _ => (θ_run _ _ _).mono (fun r h => ⟨fun c => (h c).2, no_sems (sig := Cert.ReferenceCol.sig) (by decide) r.2⟩) (Cert.ReferenceCol.Value.run m g)
  · exact fun m g _ => (θ_run Cert.GatherRowIdeal.defs _ _).mono (fun _ h => ⟨fun c => (h.1 c).1, h.2⟩) (Cert.GatherRowIdeal.run (F := Bits) m g)
  · exact fun m g _ => (θ_run Cert.GatherRowIdeal.defs _ _).mono (fun _ h => ⟨fun c => (h.1 c).1, h.2⟩) (Cert.GatherRowIdeal.run (F := Ideal) m g)
  · exact fun m g _ => (θ_run _ _ _).mono (fun r h => ⟨fun c => (h c).2, no_sems (sig := Cert.ReferenceRowIdeal.sig) (by decide) r.2⟩) (Cert.ReferenceRowIdeal.Value.run m g)
  · exact fun m g _ => (θ_run _ _ _).mono (fun r h => ⟨fun c => (h c).2, no_sems (sig := Cert.ReferenceRow.sig) (by decide) r.2⟩) (Cert.ReferenceRow.Value.run m g)
  · exact fun m g _ => (θ_run Cert.ExchangeIdeal.defs _ _).mono (fun _ h => ⟨fun c => (h.1 c).1, h.2⟩) (Cert.ExchangeIdeal.run (F := Bits) m g)
  · exact fun m g _ => (θ_run Cert.ExchangeIdeal.defs _ _).mono (fun _ h => ⟨fun c => (h.1 c).1, h.2⟩) (Cert.ExchangeIdeal.run (F := Ideal) m g)
  · exact fun m g _ => (θ_run _ _ _).mono (fun r h => ⟨fun c => (h c).2.2, no_sems (sig := Cert.ReferenceExchangeIdeal.sig) (by decide) r.2⟩) (Cert.ReferenceExchangeIdeal.Value.run m g)
  · exact fun m g _ => (θ_run _ _ _).mono (fun r h => ⟨fun c => (h c).2.2, no_sems (sig := Cert.ReferenceExchange.sig) (by decide) r.2⟩) (Cert.ReferenceExchange.Value.run m g)
  · exact fun m g _ => reduce_frame m g
  · exact fun m g _ => (θ_run Cert.ReduceIdeal.defs _ _).mono (fun _ h => ⟨fun c => Cert.ReduceIdeal.args m c (h.1 c), h.2⟩) (Cert.ReduceIdeal.run (F := Ideal) m g)
  · exact fun m g _ => (θ_run _ _ _).mono (fun r h => ⟨fun c => (h c).2.2.2.2.2.2.2.2, no_sems (sig := Cert.ReferenceReduce.sig) (by decide) r.2⟩) (Cert.ReferenceReduce.Value.run m g)
  · exact fun m g _ => (θ_run _ _ _).mono (fun r h => ⟨fun c => (h c).2.2.2.2.2.2.2.2, no_sems (sig := Cert.ReferenceReduceIdeal.sig) (by decide) r.2⟩) (Cert.ReferenceReduceIdeal.Value.run m g)
  · exact fun m g _ => (θ_run _ _ _).mono (fun r h => ⟨fun c => (h c).2.2.2, no_sems (sig := Cert.ReferenceAdamGate.sig) (by decide) r.2⟩) (Cert.ReferenceAdamGate.Value.run m g)
  · exact fun m g _ => (θ_run _ _ _).mono (fun r h => ⟨fun c => (h c).2.2.2, no_sems (sig := Cert.ReferenceAdamGateIdeal.sig) (by decide) r.2⟩) (Cert.ReferenceAdamGateIdeal.Value.run m g)
  · exact fun m g _ => (θ_run _ _ _).mono (fun r h => ⟨fun c => (h c).2.2.2, no_sems (sig := Cert.ReferenceAdamIn.sig) (by decide) r.2⟩) (Cert.ReferenceAdamIn.Value.run m g)
  · exact fun m g _ => (θ_run _ _ _).mono (fun r h => ⟨fun c => (h c).2.2.2, no_sems (sig := Cert.ReferenceAdamInIdeal.sig) (by decide) r.2⟩) (Cert.ReferenceAdamInIdeal.Value.run m g)
  · exact fun m g _ => (θ_run _ _ _).mono (fun r h => ⟨fun c => (h c).2.2.2, no_sems (sig := Cert.ReferenceAdamDown.sig) (by decide) r.2⟩) (Cert.ReferenceAdamDown.Value.run m g)
  · exact fun m g _ => (θ_run _ _ _).mono (fun r h => ⟨fun c => (h c).2.2.2, no_sems (sig := Cert.ReferenceAdamDownIdeal.sig) (by decide) r.2⟩) (Cert.ReferenceAdamDownIdeal.Value.run m g)
  · exact fun m g _ => (θ_run _ _ _).mono (fun r h => ⟨fun c => (h c).2.2.2, no_sems (sig := Cert.ReferenceAdamOut.sig) (by decide) r.2⟩) (Cert.ReferenceAdamOut.Value.run m g)
  · exact fun m g _ => (θ_run _ _ _).mono (fun r h => ⟨fun c => (h c).2.2.2, no_sems (sig := Cert.ReferenceAdamOutIdeal.sig) (by decide) r.2⟩) (Cert.ReferenceAdamOutIdeal.Value.run m g)
  · exact fun m g _ => (θ_run _ _ _).mono (fun r h => ⟨fun c => (h c).2.2.2, no_sems (sig := Cert.ReferenceAdamGain.sig) (by decide) r.2⟩) (Cert.ReferenceAdamGain.Value.run m g)
  · exact fun m g _ => (θ_run _ _ _).mono (fun r h => ⟨fun c => (h c).2.2.2, no_sems (sig := Cert.ReferenceAdamGainIdeal.sig) (by decide) r.2⟩) (Cert.ReferenceAdamGainIdeal.Value.run m g)
  · exact fun m g _ => (θ_run _ _ _).mono (fun r h => ⟨fun c => (h c).2.2.2, no_sems (sig := Cert.ReferenceAdamHalfGain.sig) (by decide) r.2⟩) (Cert.ReferenceAdamHalfGain.Value.run m g)
  · exact fun m g _ => (θ_run _ _ _).mono (fun r h => ⟨fun c => (h c).2.2.2, no_sems (sig := Cert.ReferenceAdamHalfGainIdeal.sig) (by decide) r.2⟩) (Cert.ReferenceAdamHalfGainIdeal.Value.run m g)
  · exact fun m g _ => (θ_run _ _ _).mono (fun r h => ⟨fun c => (h c).2, no_sems (sig := Cert.ReferenceNorm.sig) (by decide) r.2⟩) (Cert.ReferenceNorm.Value.run m g)
  · exact fun m g _ => (θ_run _ _ _).mono (fun r h => ⟨fun c => (h c).2, no_sems (sig := Cert.ReferenceNormIdeal.sig) (by decide) r.2⟩) (Cert.ReferenceNormIdeal.Value.run m g)
  · exact fun m g _ => (θ_run _ _ _).mono (fun r h => ⟨fun c => (h c).2.2, no_sems (sig := Cert.ReferenceNormBwd.sig) (by decide) r.2⟩) (Cert.ReferenceNormBwd.Value.run m g)
  · exact fun m g _ => (θ_run _ _ _).mono (fun r h => ⟨fun c => (h c).2.2, no_sems (sig := Cert.ReferenceNormBwdIdeal.sig) (by decide) r.2⟩) (Cert.ReferenceNormBwdIdeal.Value.run m g)
  · exact fun m g _ => (θ_run _ _ _).mono (fun r h => ⟨fun c => (h c).2, no_sems (sig := Cert.ReferenceMmGate.sig) (by decide) r.2⟩) (Cert.ReferenceMmGate.Value.run m g)
  · exact fun m g _ => (θ_run _ _ _).mono (fun r h => ⟨fun c => (h c).2, no_sems (sig := Cert.ReferenceMmGateIdeal.sig) (by decide) r.2⟩) (Cert.ReferenceMmGateIdeal.Value.run m g)
  · exact fun m g _ => (θ_run _ _ _).mono (fun r h => ⟨fun c => (h c).2.2, no_sems (sig := Cert.ReferenceMmUp.sig) (by decide) r.2⟩) (Cert.ReferenceMmUp.Value.run m g)
  · exact fun m g _ => (θ_run _ _ _).mono (fun r h => ⟨fun c => (h c).2.2, no_sems (sig := Cert.ReferenceMmUpIdeal.sig) (by decide) r.2⟩) (Cert.ReferenceMmUpIdeal.Value.run m g)
  · exact fun m g _ => (θ_run _ _ _).mono (fun r h => ⟨fun c => (h c).2, no_sems (sig := Cert.ReferenceMmDown.sig) (by decide) r.2⟩) (Cert.ReferenceMmDown.Value.run m g)
  · exact fun m g _ => (θ_run _ _ _).mono (fun r h => ⟨fun c => (h c).2, no_sems (sig := Cert.ReferenceMmDownIdeal.sig) (by decide) r.2⟩) (Cert.ReferenceMmDownIdeal.Value.run m g)
  · exact fun m g _ => (θ_run _ _ _).mono (fun r h => ⟨fun c => (h c).2.2, no_sems (sig := Cert.ReferenceMmBwdAct.sig) (by decide) r.2⟩) (Cert.ReferenceMmBwdAct.Value.run m g)
  · exact fun m g _ => (θ_run _ _ _).mono (fun r h => ⟨fun c => (h c).2.2, no_sems (sig := Cert.ReferenceMmBwdActIdeal.sig) (by decide) r.2⟩) (Cert.ReferenceMmBwdActIdeal.Value.run m g)
  · exact fun m g _ => (θ_run _ _ _).mono (fun r h => ⟨fun c => (h c).2, no_sems (sig := Cert.ReferenceMmDhGate.sig) (by decide) r.2⟩) (Cert.ReferenceMmDhGate.Value.run m g)
  · exact fun m g _ => (θ_run _ _ _).mono (fun r h => ⟨fun c => (h c).2, no_sems (sig := Cert.ReferenceMmDhGateIdeal.sig) (by decide) r.2⟩) (Cert.ReferenceMmDhGateIdeal.Value.run m g)
  · exact fun m g _ => (θ_run _ _ _).mono (fun r h => ⟨fun c => (h c).2, no_sems (sig := Cert.ReferenceMmDhUp.sig) (by decide) r.2⟩) (Cert.ReferenceMmDhUp.Value.run m g)
  · exact fun m g _ => (θ_run _ _ _).mono (fun r h => ⟨fun c => (h c).2, no_sems (sig := Cert.ReferenceMmDhUpIdeal.sig) (by decide) r.2⟩) (Cert.ReferenceMmDhUpIdeal.Value.run m g)
  · exact fun m g _ => (θ_run _ _ _).mono (fun r h => ⟨fun c => (h c).2, no_sems (sig := Cert.ReferenceMmSb.sig) (by decide) r.2⟩) (Cert.ReferenceMmSb.Value.run m g)
  · exact fun m g _ => (θ_run _ _ _).mono (fun r h => ⟨fun c => (h c).2, no_sems (sig := Cert.ReferenceMmSbIdeal.sig) (by decide) r.2⟩) (Cert.ReferenceMmSbIdeal.Value.run m g)
  · exact fun m g _ => (θ_run _ _ _).mono (fun r h => ⟨fun c => (h c).2, no_sems (sig := Cert.ReferenceMmDl.sig) (by decide) r.2⟩) (Cert.ReferenceMmDl.Value.run m g)
  · exact fun m g _ => (θ_run _ _ _).mono (fun r h => ⟨fun c => (h c).2, no_sems (sig := Cert.ReferenceMmDlIdeal.sig) (by decide) r.2⟩) (Cert.ReferenceMmDlIdeal.Value.run m g)
  · exact fun m g _ => (θ_run _ _ _).mono (fun r h => ⟨fun c => (h c).2, no_sems (sig := Cert.ReferenceMmOut.sig) (by decide) r.2⟩) (Cert.ReferenceMmOut.Value.run m g)
  · exact fun m g _ => (θ_run _ _ _).mono (fun r h => ⟨fun c => (h c).2, no_sems (sig := Cert.ReferenceMmOutIdeal.sig) (by decide) r.2⟩) (Cert.ReferenceMmOutIdeal.Value.run m g)
  · exact fun m g _ => (θ_run _ _ _).mono (fun r h => ⟨fun c => (h c).2, no_sems (sig := Cert.ReferenceMmMerged.sig) (by decide) r.2⟩) (Cert.ReferenceMmMerged.Value.run m g)
  · exact fun m g _ => (θ_run _ _ _).mono (fun r h => ⟨fun c => (h c).2, no_sems (sig := Cert.ReferenceMmMergedIdeal.sig) (by decide) r.2⟩) (Cert.ReferenceMmMergedIdeal.Value.run m g)
  · exact fun m g _ => (θ_run _ _ _).mono (fun r h => ⟨fun c => (h c).2, no_sems (sig := Cert.ReferenceMmDhMix.sig) (by decide) r.2⟩) (Cert.ReferenceMmDhMix.Value.run m g)
  · exact fun m g _ => (θ_run _ _ _).mono (fun r h => ⟨fun c => (h c).2, no_sems (sig := Cert.ReferenceMmDhMixIdeal.sig) (by decide) r.2⟩) (Cert.ReferenceMmDhMixIdeal.Value.run m g)
  · exact fun m g _ => (θ_run _ _ _).mono (fun r h => ⟨fun c => (h c).2, no_sems (sig := Cert.ReferenceMmDwg.sig) (by decide) r.2⟩) (Cert.ReferenceMmDwg.Value.run m g)
  · exact fun m g _ => (θ_run _ _ _).mono (fun r h => ⟨fun c => (h c).2, no_sems (sig := Cert.ReferenceMmDwgIdeal.sig) (by decide) r.2⟩) (Cert.ReferenceMmDwgIdeal.Value.run m g)
  · exact fun m g _ => (θ_run _ _ _).mono (fun r h => ⟨fun c => (h c).2, no_sems (sig := Cert.ReferenceMmDwd.sig) (by decide) r.2⟩) (Cert.ReferenceMmDwd.Value.run m g)
  · exact fun m g _ => (θ_run _ _ _).mono (fun r h => ⟨fun c => (h c).2, no_sems (sig := Cert.ReferenceMmDwdIdeal.sig) (by decide) r.2⟩) (Cert.ReferenceMmDwdIdeal.Value.run m g)
  · exact fun m g _ => (θ_run _ _ _).mono (fun r h => ⟨fun c => (h c).2, no_sems (sig := Cert.ReferenceMmDwOut.sig) (by decide) r.2⟩) (Cert.ReferenceMmDwOut.Value.run m g)
  · exact fun m g _ => (θ_run _ _ _).mono (fun r h => ⟨fun c => (h c).2, no_sems (sig := Cert.ReferenceMmDwOutIdeal.sig) (by decide) r.2⟩) (Cert.ReferenceMmDwOutIdeal.Value.run m g)
  · exact fun m g _ => (θ_run _ _ _).mono (fun r h => ⟨fun c => (h c).2, no_sems (sig := Cert.ReferenceMmDwIn.sig) (by decide) r.2⟩) (Cert.ReferenceMmDwIn.Value.run m g)
  · exact fun m g _ => (θ_run _ _ _).mono (fun r h => ⟨fun c => (h c).2, no_sems (sig := Cert.ReferenceMmDwInIdeal.sig) (by decide) r.2⟩) (Cert.ReferenceMmDwInIdeal.Value.run m g)
  · exact fun m g _ => (θ_run _ _ _).mono (fun r h => ⟨fun c => (h c).2.2.2, no_sems (sig := Cert.ReferenceLossHead.sig) (by decide) r.2⟩) (Cert.ReferenceLossHead.Value.run m g)
  · exact fun m g _ => (θ_run _ _ _).mono (fun r h => ⟨fun c => (h c).2.2.2, no_sems (sig := Cert.ReferenceLossHeadIdeal.sig) (by decide) r.2⟩) (Cert.ReferenceLossHeadIdeal.Value.run m g)
  · exact fun m g _ => (θ_run _ _ _).mono (fun r h => ⟨fun c => (h c).2, no_sems (sig := Cert.ReferenceOutNorm.sig) (by decide) r.2⟩) (Cert.ReferenceOutNorm.Value.run m g)
  · exact fun m g _ => (θ_run _ _ _).mono (fun r h => ⟨fun c => (h c).2, no_sems (sig := Cert.ReferenceOutNormIdeal.sig) (by decide) r.2⟩) (Cert.ReferenceOutNormIdeal.Value.run m g)
  · exact fun m g _ => (θ_run _ _ _).mono (fun r h => ⟨fun c => (h c).2.2.2.2, no_sems (sig := Cert.ReferenceOutNormBwd.sig) (by decide) r.2⟩) (Cert.ReferenceOutNormBwd.Value.run m g)
  · exact fun m g _ => (θ_run _ _ _).mono (fun r h => ⟨fun c => (h c).2.2.2.2, no_sems (sig := Cert.ReferenceOutNormBwdIdeal.sig) (by decide) r.2⟩) (Cert.ReferenceOutNormBwdIdeal.Value.run m g)
  · exact fun m g _ => stick_frame m g
  · exact fun m g _ => (θ_run _ _ _).mono (fun r h => ⟨fun c => (h c).2, no_sems (sig := Cert.ReferenceSbFwd.sig) (by decide) r.2⟩) (Cert.ReferenceSbFwd.Value.run m g)
  · exact fun m g _ => (θ_run _ _ _).mono (fun r h => ⟨fun c => (h c).2, no_sems (sig := Cert.ReferenceSbFwdIdeal.sig) (by decide) r.2⟩) (Cert.ReferenceSbFwdIdeal.Value.run m g)
  · exact fun m g _ => (θ_run _ _ _).mono (fun r h => ⟨fun c => (h c).2, no_sems (sig := Cert.ReferenceSbFwdIdeal.sig) (by decide) r.2⟩) (Cert.ReferenceSbFwdIdeal.Value.run m g)
  · exact fun m g _ => (θ_run _ _ _).mono (fun r h => ⟨fun c => (h c).2, no_sems (sig := Cert.ReferenceRopeQ.sig) (by decide) r.2⟩) (Cert.ReferenceRopeQ.Value.run m g)
  · exact fun m g _ => (θ_run _ _ _).mono (fun r h => ⟨fun c => (h c).2, no_sems (sig := Cert.ReferenceRopeQIdeal.sig) (by decide) r.2⟩) (Cert.ReferenceRopeQIdeal.Value.run m g)
  · exact fun m g _ => (θ_run _ _ _).mono (fun r h => ⟨fun c => (h c).2, no_sems (sig := Cert.ReferenceRopeK.sig) (by decide) r.2⟩) (Cert.ReferenceRopeK.Value.run m g)
  · exact fun m g _ => (θ_run _ _ _).mono (fun r h => ⟨fun c => (h c).2, no_sems (sig := Cert.ReferenceRopeKIdeal.sig) (by decide) r.2⟩) (Cert.ReferenceRopeKIdeal.Value.run m g)
  · exact fun m g _ => (θ_run _ _ _).mono (fun r h => ⟨fun c => (h c).2, no_sems (sig := Cert.ReferenceRopeBack.sig) (by decide) r.2⟩) (Cert.ReferenceRopeBack.Value.run m g)
  · exact fun m g _ => (θ_run _ _ _).mono (fun r h => ⟨fun c => (h c).2, no_sems (sig := Cert.ReferenceRopeBackIdeal.sig) (by decide) r.2⟩) (Cert.ReferenceRopeBackIdeal.Value.run m g)
  · exact fun m g m' g' _ hm => Cert.GatherColIdeal.value (F := Bits) m g m' g' hm
  · exact fun m g m' g' _ hm => Cert.GatherColIdeal.value (F := Ideal) m g m' g' hm
  · exact fun m g m' g' _ hm => Cert.GatherRowIdeal.value (F := Bits) m g m' g' hm
  · exact fun m g m' g' _ hm => Cert.GatherRowIdeal.value (F := Ideal) m g m' g' hm
  · exact fun m g m' g' _ hm => Cert.ExchangeIdeal.value (F := Bits) m g m' g' hm
  · exact fun m g m' g' _ hm => Cert.ExchangeIdeal.value (F := Ideal) m g m' g' hm
  · exact fun m g m' g' _ hm => Cert.ReduceIdeal.value m m' g g' hm⟩

end Cert.Proof

end
